-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mix_finite [hPre_mix_finite : Cert.Pre_mix_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mix_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mix_finite [hPre_mix_finite : Cert.Pre_mix_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mix_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_act_finite [hPre_act_finite : Cert.Pre_act_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_act_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_act_finite [hPre_act_finite : Cert.Pre_act_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_act_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_mf_finite [hPre_mf_finite : Cert.Pre_mf_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_mf_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_mf_finite [hPre_mf_finite : Cert.Pre_mf_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_mf_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_mix_finite [hKernelIdeal : Cert.KernelIdeal.Facts] [hPre_mix_finite : Cert.Pre_mix_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mix_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_mix_finite [hReferenceIdeal : Cert.ReferenceIdeal.Facts] [hPre_mix_finite : Cert.Pre_mix_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mix_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_act_finite [hKernel2Ideal : Cert.Kernel2Ideal.Facts] [hPre_act_finite : Cert.Pre_act_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_act_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_act_finite [hReference2Ideal : Cert.Reference2Ideal.Facts] [hPre_act_finite : Cert.Pre_act_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_act_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_mf_finite [hKernel6Ideal : Cert.Kernel6Ideal.Facts] [hPre_mf_finite : Cert.Pre_mf_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_mf_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_mf_finite [hReference6Ideal : Cert.Reference6Ideal.Facts] [hPre_mf_finite : Cert.Pre_mf_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_mf_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_mix_finite [hKernelIdeal : Cert.KernelIdeal.Facts] [hReferenceIdeal : Cert.ReferenceIdeal.Facts] [hPre_mix_finite : Cert.Pre_mix_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mix_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_v262) = v1 c
          ∧ r.2.mem ((c.tc : Thread Cert.ReferenceIdeal.nD Cert.ReferenceIdeal.τ).loc Cert.ReferenceIdeal.main_v269) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_act_finite [hKernel2Ideal : Cert.Kernel2Ideal.Facts] [hReference2Ideal : Cert.Reference2Ideal.Facts] [hPre_act_finite : Cert.Pre_act_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_act_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v13) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)) (v4 : (c : Dev Cert.Kernel5Ideal.nD) → Buf (Elt Ideal) ((c.tc : Thread Cert.Kernel5Ideal.nD Cert.Kernel5Ideal.τ).loc Cert.Kernel5Ideal.main_v6_0)) (v5 : (c : Dev Cert.Kernel5Ideal.nD) → Buf (Elt Ideal) ((c.tc : Thread Cert.Kernel5Ideal.nD Cert.Kernel5Ideal.τ).loc Cert.Kernel5Ideal.main_v6_1)) (v6 : (c : Dev Cert.Kernel5Ideal.nD) → Buf (Elt Ideal) ((c.tc : Thread Cert.Kernel5Ideal.nD Cert.Kernel5Ideal.τ).loc Cert.Kernel5Ideal.main_v6_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_v6_0) = v4 c
          ∧ r.2.mem ((c.tc : Thread Cert.Kernel5Ideal.nD Cert.Kernel5Ideal.τ).loc Cert.Kernel5Ideal.main_v6_1) = v5 c
          ∧ r.2.mem ((c.tc : Thread Cert.Kernel5Ideal.nD Cert.Kernel5Ideal.τ).loc Cert.Kernel5Ideal.main_v6_2) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_v90) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_v60) = v3 c
          ∧ r.2.mem ((c.tc : Thread Cert.Reference5Ideal.nD Cert.Reference5Ideal.τ).loc Cert.Reference5Ideal.main_v0) = v4 c
          ∧ r.2.mem ((c.tc : Thread Cert.Reference5Ideal.nD Cert.Reference5Ideal.τ).loc Cert.Reference5Ideal.main_v89) = v5 c
          ∧ r.2.mem ((c.tc : Thread Cert.Reference5Ideal.nD Cert.Reference5Ideal.τ).loc Cert.Reference5Ideal.main_v103) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_mf_finite [hKernel6Ideal : Cert.Kernel6Ideal.Facts] [hReference6Ideal : Cert.Reference6Ideal.Facts] [hPre_mf_finite : Cert.Pre_mf_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_mf_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v117) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_mix_finite : Cert.Pre_mix_finite.Facts) (hPre_act_finite : Cert.Pre_act_finite.Facts) (hPre_mf_finite : Cert.Pre_mf_finite.Facts),
    quiescent_Kernel (hKernel := hKernel)
    ∧ quiescent_KernelIdeal (hKernelIdeal := hKernelIdeal)
    ∧ quiescent_KernelIdeal_pre_mix_finite (hKernelIdeal := hKernelIdeal) (hPre_mix_finite := hPre_mix_finite)
    ∧ quiescent_ReferenceIdeal (hReferenceIdeal := hReferenceIdeal)
    ∧ quiescent_ReferenceIdeal_pre_mix_finite (hReferenceIdeal := hReferenceIdeal) (hPre_mix_finite := hPre_mix_finite)
    ∧ quiescent_Kernel2 (hKernel2 := hKernel2)
    ∧ quiescent_Kernel2Ideal (hKernel2Ideal := hKernel2Ideal)
    ∧ quiescent_Kernel2Ideal_pre_act_finite (hKernel2Ideal := hKernel2Ideal) (hPre_act_finite := hPre_act_finite)
    ∧ quiescent_Reference2Ideal (hReference2Ideal := hReference2Ideal)
    ∧ quiescent_Reference2Ideal_pre_act_finite (hReference2Ideal := hReference2Ideal) (hPre_act_finite := hPre_act_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_mf_finite (hKernel6Ideal := hKernel6Ideal) (hPre_mf_finite := hPre_mf_finite)
    ∧ quiescent_Reference6Ideal (hReference6Ideal := hReference6Ideal)
    ∧ quiescent_Reference6Ideal_pre_mf_finite (hReference6Ideal := hReference6Ideal) (hPre_mf_finite := hPre_mf_finite)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_mix_finite (hKernelIdeal := hKernelIdeal) (hReferenceIdeal := hReferenceIdeal) (hPre_mix_finite := hPre_mix_finite)
    ∧ preserves_Kernel2_Kernel2Ideal
    ∧ algebraic_Kernel2Ideal_Reference2Ideal_pre_act_finite (hKernel2Ideal := hKernel2Ideal) (hReference2Ideal := hReference2Ideal) (hPre_act_finite := hPre_act_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_mf_finite (hKernel6Ideal := hKernel6Ideal) (hReference6Ideal := hReference6Ideal) (hPre_mf_finite := hPre_mf_finite)
    ∧ preserves_Kernel7_Kernel7Ideal
    ∧ algebraic_Kernel7Ideal_Reference7Ideal (hKernel7Ideal := hKernel7Ideal) (hReference7Ideal := hReference7Ideal)
-- ==== Pre_act_finite.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S2048x5632 .f32) (main_arg2 : FVec F S2048x5632 .f32) (main_arg3 : FVec F S5632x2048 .f32) (main_arg4 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x5632 .f32 := Host.absf main_arg2
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S5632x2048 .f32 := Host.absf main_arg3
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S8192x2048 .f32 := Host.absf main_arg4
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Pre_mf_finite.lean ====
abbrev S8192x4096 : Shape := ⟨2, ![8192, 4096]⟩
abbrev S3x1024 : Shape := ⟨2, ![3, 1024]⟩
abbrev S4x256x256 : Shape := ⟨3, ![4, 256, 256]⟩
abbrev S1x1024 : Shape := ⟨2, ![1, 1024]⟩
abbrev S8192x1024 : Shape := ⟨2, ![8192, 1024]⟩
abbrev S_ : Shape := ⟨0, ![]⟩

class Facts : Prop where
  slices_S8192x4096_S8192x1024_0_3072 : S8192x4096.Slices ![0, 3072] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x4096 .f32) (main_arg1 : FVec F S3x1024 .f32) (main_arg2 : FVec F S4x256x256 .f32) (main_arg3 : FVec F S1x1024 .f32) : IVec S_ 1 :=
  let main_v0 : FVec F S8192x1024 .f32 := (extractStridedSlice S8192x1024 ![0, 3072] · slices_S8192x4096_S8192x1024_0_3072) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  main_v4
-- ==== Pre_mix_finite.lean ====
abbrev S8192x4096 : Shape := ⟨2, ![8192, 4096]⟩
abbrev S8192x2048 : Shape := ⟨2, ![8192, 2048]⟩
abbrev S3x1024 : Shape := ⟨2, ![3, 1024]⟩
abbrev S4x256x256 : Shape := ⟨3, ![4, 256, 256]⟩
abbrev S1x1024 : Shape := ⟨2, ![1, 1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S3x1024 : S_.BroadcastsInDim S3x1024 (![] : Fin 0 → Fin S3x1024.rank)
  reducesTo_S3x1024_S_d0_1 : S3x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x4096 .f32) (main_arg1 : FVec F S8192x2048 .f32) (main_arg2 : FVec F S3x1024 .f32) (main_arg3 : FVec F S4x256x256 .f32) (main_arg4 : FVec F S1x1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S3x1024 .f32 := Host.absf main_arg2
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_c_3 : IVec S_ 1 := constantI S_ 1 1#1
  let main_v12 : IVec S_ 1 := (fun x v => Host.reduce IntOp.andi x v reducesTo_S3x1024_S_d0_1 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_v13 main_v16
-- ==== Kernel.lean ====
abbrev S8192x4096 : Shape := ⟨2, ![8192, 4096]⟩
abbrev S8192x2048 : Shape := ⟨2, ![8192, 2048]⟩
abbrev S3x1024 : Shape := ⟨2, ![3, 1024]⟩
abbrev S4x256x256 : Shape := ⟨3, ![4, 256, 256]⟩
abbrev S1x1024 : Shape := ⟨2, ![1, 1024]⟩
abbrev S4x4x64x256 : Shape := ⟨4, ![4, 4, 64, 256]⟩
abbrev S512x1024 : Shape := ⟨2, ![512, 1024]⟩
abbrev S16x1024 : Shape := ⟨2, ![16, 1024]⟩
abbrev S512x4096 : Shape := ⟨2, ![512, 4096]⟩
abbrev S544x1024 : Shape := ⟨2, ![544, 1024]⟩
abbrev S528x1024 : Shape := ⟨2, ![528, 1024]⟩
abbrev S512x128 : Shape := ⟨2, ![512, 128]⟩
abbrev S512 : Shape := ⟨1, ![512]⟩
abbrev S512x1 : Shape := ⟨2, ![512, 1]⟩
abbrev S16x128 : Shape := ⟨2, ![16, 128]⟩
abbrev S16 : Shape := ⟨1, ![16]⟩
abbrev S16x1 : Shape := ⟨2, ![16, 1]⟩
abbrev S1024 : Shape := ⟨1, ![1024]⟩
abbrev S512x256 : Shape := ⟨2, ![512, 256]⟩
abbrev S1x1x64x256 : Shape := ⟨4, ![1, 1, 64, 256]⟩
abbrev S64x256 : Shape := ⟨2, ![64, 256]⟩
abbrev S256x256 : Shape := ⟨2, ![256, 256]⟩
abbrev S1x256 : Shape := ⟨2, ![1, 256]⟩
abbrev S256 : Shape := ⟨1, ![256]⟩
abbrev S16x256 : Shape := ⟨2, ![16, 256]⟩

abbrev nBuf : Space → Nat
  | .hbm => 11
  | .vmem => 43
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S3x1024, .f32⟩
  | .hbm, ⟨3, _⟩ => ⟨S4x256x256, .f32⟩
  | .hbm, ⟨4, _⟩ => ⟨S1x1024, .f32⟩
  | .hbm, ⟨5, _⟩ => ⟨S4x4x64x256, .f32⟩
  | .hbm, ⟨6, _⟩ => ⟨S4x4x64x256, .f32⟩
  | .hbm, ⟨7, _⟩ => ⟨S8192x4096, .bf16⟩
  | .hbm, ⟨8, _⟩ => ⟨S3x1024, .f32⟩
  | .hbm, ⟨9, _⟩ => ⟨S4x4x64x256, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | .local _ .vmem, ⟨19, _⟩ => ⟨S16x1024, .f32⟩
  | .local _ .vmem, ⟨20, _⟩ => ⟨S16x1024, .f32⟩
  | .local _ .vmem, ⟨21, _⟩ => ⟨S16x1024, .f32⟩
  | .local _ .vmem, ⟨22, _⟩ => ⟨S16x1024, .f32⟩
  | .local _ .vmem, ⟨23, _⟩ => ⟨S16x1024, .f32⟩
  | .local _ .vmem, ⟨24, _⟩ => ⟨S16x1024, .f32⟩
  | .local _ .vmem, ⟨25, _⟩ => ⟨S16x1024, .f32⟩
  | .local _ .vmem, ⟨26, _⟩ => ⟨S16x1024, .f32⟩
  | .local _ .vmem, ⟨27, _⟩ => ⟨S16x1024, .f32⟩
  | .local _ .vmem, ⟨28, _⟩ => ⟨S16x1024, .f32⟩
  | .local _ .vmem, ⟨29, _⟩ => ⟨S16x1024, .f32⟩
  | .local _ .vmem, ⟨30, _⟩ => ⟨S3x1024, .f32⟩
  | .local _ .vmem, ⟨31, _⟩ => ⟨S4x4x64x256, .f32⟩
  | .local _ .vmem, ⟨32, _⟩ => ⟨S1x1024, .f32⟩
  | .local _ .vmem, ⟨33, _⟩ => ⟨S512x4096, .bf16⟩
  | .local _ .vmem, ⟨34, _⟩ => ⟨S512x4096, .bf16⟩
  | .local _ .vmem, ⟨35, _⟩ => ⟨S3x1024, .f32⟩
  | .local _ .vmem, ⟨36, _⟩ => ⟨S4x4x64x256, .f32⟩
  | .local _ .vmem, ⟨37, _⟩ => ⟨S1x1024, .f32⟩
  | .local _ .vmem, ⟨38, _⟩ => ⟨S544x1024, .f32⟩
  | .local _ .vmem, ⟨39, _⟩ => ⟨S544x1024, .f32⟩
  | .local _ .vmem, ⟨40, _⟩ => ⟨S528x1024, .f32⟩
  | .local _ .vmem, ⟨41, _⟩ => ⟨S528x1024, .f32⟩
  | .local _ .vmem, ⟨42, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem18_1 : DmaSem sig := 34
abbrev cc0_sem19_0 : DmaSem sig := 35
abbrev cc0_sem20_0 : DmaSem sig := 36
abbrev cc0_sem21_0 : DmaSem sig := 37

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_210 : BitVec 32 := 0#32
  let v622 : BitVec 1 := Scalar.cmpi .eq arg0 c0_i32_210
  let v623 : BitVec 32 := Scalar.extui v622
  let c0_i32_211 : BitVec 32 := 0#32
  let v624 : BitVec 1 := Scalar.cmpi .ne v623 c0_i32_211
  v624

def k0_cond2 (i : grid0.Coords) : BitVec 1 :=
  let arg0 : BitVec 32 := BitVec.ofNat 32 (i 0).val
  let c0_i32_212 : BitVec 32 := 0#32
  let v625 : BitVec 1 := Scalar.cmpi .sgt arg0 c0_i32_212
  let v626 : BitVec 32 := Scalar.extui v625
  let c0_i32_213 : BitVec 32 := 0#32
  let v627 : BitVec 1 := Scalar.cmpi .ne v626 c0_i32_213
  v627

def k0_cond5 (i : grid0.Coords) : BitVec 1 :=
  let arg0 : BitVec 32 := BitVec.ofNat 32 (i 0).val
  let c0_i32_702 : BitVec 32 := 0#32
  let v1446 : BitVec 1 := Scalar.cmpi .eq arg0 c0_i32_702
  let v1447 : BitVec 32 := Scalar.extui v1446
  let c0_i32_705 : BitVec 32 := 0#32
  let v1448 : BitVec 1 := Scalar.cmpi .ne v1447 c0_i32_705
  v1448

def k0_cond6 (i : grid0.Coords) : BitVec 1 :=
  let arg0 : BitVec 32 := BitVec.ofNat 32 (i 0).val
  let c0_i32_706 : BitVec 32 := 0#32
  let v1449 : BitVec 1 := Scalar.cmpi .sgt arg0 c0_i32_706
  let v1450 : BitVec 32 := Scalar.extui v1449
  let c0_i32_709 : BitVec 32 := 0#32
  let v1451 : BitVec 1 := Scalar.cmpi .ne v1450 c0_i32_709
  v1451

def k0_cond7 (i : grid0.Coords) : BitVec 1 :=
  let arg0 : BitVec 32 := BitVec.ofNat 32 (i 0).val
  let c0_i32_710 : BitVec 32 := 0#32
  let v1453 : BitVec 1 := Scalar.cmpi .eq arg0 c0_i32_710
  let v1454 : BitVec 32 := Scalar.extui v1453
  let c0_i32_713 : BitVec 32 := 0#32
  let v1455 : BitVec 1 := Scalar.cmpi .ne v1454 c0_i32_713
  v1455

def k0_cond8 (i : grid0.Coords) : BitVec 1 :=
  let arg0 : BitVec 32 := BitVec.ofNat 32 (i 0).val
  let c0_i32_714 : BitVec 32 := 0#32
  let v1456 : BitVec 1 := Scalar.cmpi .sgt arg0 c0_i32_714
  let v1457 : BitVec 32 := Scalar.extui v1456
  let c0_i32_717 : BitVec 32 := 0#32
  let v1458 : BitVec 1 := Scalar.cmpi .ne v1457 c0_i32_717
  v1458

def k0_cond9 (i : grid0.Coords) : BitVec 1 :=
  let arg0 : BitVec 32 := BitVec.ofNat 32 (i 0).val
  let c0_i32_718 : BitVec 32 := 0#32
  let v1460 : BitVec 1 := Scalar.cmpi .eq arg0 c0_i32_718
  let v1461 : BitVec 32 := Scalar.extui v1460
  let c0_i32_720 : BitVec 32 := 0#32
  let v1462 : BitVec 1 := Scalar.cmpi .ne v1461 c0_i32_720
  v1462

def k0_cond10 (i : grid0.Coords) : BitVec 1 :=
  let arg0 : BitVec 32 := BitVec.ofNat 32 (i 0).val
  let c0_i32_721 : BitVec 32 := 0#32
  let v1463 : BitVec 1 := Scalar.cmpi .sgt arg0 c0_i32_721
  let v1464 : BitVec 32 := Scalar.extui v1463
  let c0_i32_724 : BitVec 32 := 0#32
  let v1465 : BitVec 1 := Scalar.cmpi .ne v1464 c0_i32_724
  v1465

def k0_cond11 (i : grid0.Coords) : BitVec 1 :=
  let arg0 : BitVec 32 := BitVec.ofNat 32 (i 0).val
  let c0_i32_725 : BitVec 32 := 0#32
  let v1467 : BitVec 1 := Scalar.cmpi .eq arg0 c0_i32_725
  let v1468 : BitVec 32 := Scalar.extui v1467
  let c0_i32_727 : BitVec 32 := 0#32
  let v1469 : BitVec 1 := Scalar.cmpi .ne v1468 c0_i32_727
  v1469

def k0_cond12 (i : grid0.Coords) : BitVec 1 :=
  let arg0 : BitVec 32 := BitVec.ofNat 32 (i 0).val
  let c0_i32_728 : BitVec 32 := 0#32
  let v1470 : BitVec 1 := Scalar.cmpi .sgt arg0 c0_i32_728
  let v1471 : BitVec 32 := Scalar.extui v1470
  let c0_i32_731 : BitVec 32 := 0#32
  let v1472 : BitVec 1 := Scalar.cmpi .ne v1471 c0_i32_731
  v1472

def k0_cond13 (i : grid0.Coords) : BitVec 1 :=
  let arg0 : BitVec 32 := BitVec.ofNat 32 (i 0).val
  let c0_i32_732 : BitVec 32 := 0#32
  let v1474 : BitVec 1 := Scalar.cmpi .eq arg0 c0_i32_732
  let v1475 : BitVec 32 := Scalar.extui v1474
  let c0_i32_735 : BitVec 32 := 0#32
  let v1476 : BitVec 1 := Scalar.cmpi .ne v1475 c0_i32_735
  v1476

def k0_cond14 (i : grid0.Coords) : BitVec 1 :=
  let arg0 : BitVec 32 := BitVec.ofNat 32 (i 0).val
  let c0_i32_736 : BitVec 32 := 0#32
  let v1477 : BitVec 1 := Scalar.cmpi .sgt arg0 c0_i32_736
  let v1478 : BitVec 32 := Scalar.extui v1477
  let c0_i32_739 : BitVec 32 := 0#32
  let v1479 : BitVec 1 := Scalar.cmpi .ne v1478 c0_i32_739
  v1479

def k0_cond15 (i : grid0.Coords) : BitVec 1 :=
  let arg0 : BitVec 32 := BitVec.ofNat 32 (i 0).val
  let c0_i32_740 : BitVec 32 := 0#32
  let v1481 : BitVec 1 := Scalar.cmpi .eq arg0 c0_i32_740
  let v1482 : BitVec 32 := Scalar.extui v1481
  let c0_i32_743 : BitVec 32 := 0#32
  let v1483 : BitVec 1 := Scalar.cmpi .ne v1482 c0_i32_743
  v1483

def k0_cond16 (i : grid0.Coords) : BitVec 1 :=
  let arg0 : BitVec 32 := BitVec.ofNat 32 (i 0).val
  let c0_i32_744 : BitVec 32 := 0#32
  let v1484 : BitVec 1 := Scalar.cmpi .sgt arg0 c0_i32_744
  let v1485 : BitVec 32 := Scalar.extui v1484
  let c0_i32_747 : BitVec 32 := 0#32
  let v1486 : BitVec 1 := Scalar.cmpi .ne v1485 c0_i32_747
  v1486

def k0_cond17 (i : grid0.Coords) : BitVec 1 :=
  let arg0 : BitVec 32 := BitVec.ofNat 32 (i 0).val
  let c0_i32_748 : BitVec 32 := 0#32
  let v1488 : BitVec 1 := Scalar.cmpi .eq arg0 c0_i32_748
  let v1489 : BitVec 32 := Scalar.extui v1488
  let c0_i32_751 : BitVec 32 := 0#32
  let v1490 : BitVec 1 := Scalar.cmpi .ne v1489 c0_i32_751
  v1490

def k0_cond18 (i : grid0.Coords) : BitVec 1 :=
  let arg0 : BitVec 32 := BitVec.ofNat 32 (i 0).val
  let c0_i32_752 : BitVec 32 := 0#32
  let v1491 : BitVec 1 := Scalar.cmpi .sgt arg0 c0_i32_752
  let v1492 : BitVec 32 := Scalar.extui v1491
  let c0_i32_755 : BitVec 32 := 0#32
  let v1493 : BitVec 1 := Scalar.cmpi .ne v1492 c0_i32_755
  v1493

def k0_cond19 (i : grid0.Coords) : BitVec 1 :=
  let arg0 : BitVec 32 := BitVec.ofNat 32 (i 0).val
  let c0_i32_756 : BitVec 32 := 0#32
  let v1495 : BitVec 1 := Scalar.cmpi .eq arg0 c0_i32_756
  let v1496 : BitVec 32 := Scalar.extui v1495
  let c0_i32_759 : BitVec 32 := 0#32
  let v1497 : BitVec 1 := Scalar.cmpi .ne v1496 c0_i32_759
  v1497

def k0_cond20 (i : grid0.Coords) : BitVec 1 :=
  let arg0 : BitVec 32 := BitVec.ofNat 32 (i 0).val
  let c0_i32_760 : BitVec 32 := 0#32
  let v1498 : BitVec 1 := Scalar.cmpi .sgt arg0 c0_i32_760
  let v1499 : BitVec 32 := Scalar.extui v1498
  let c0_i32_763 : BitVec 32 := 0#32
  let v1500 : BitVec 1 := Scalar.cmpi .ne v1499 c0_i32_763
  v1500

def k0_cond21 (i : grid0.Coords) : BitVec 1 :=
  let arg0 : BitVec 32 := BitVec.ofNat 32 (i 0).val
  let c0_i32_764 : BitVec 32 := 0#32
  let v1502 : BitVec 1 := Scalar.cmpi .eq arg0 c0_i32_764
  let v1503 : BitVec 32 := Scalar.extui v1502
  let c0_i32_767 : BitVec 32 := 0#32
  let v1504 : BitVec 1 := Scalar.cmpi .ne v1503 c0_i32_767
  v1504

def k0_cond22 (i : grid0.Coords) : BitVec 1 :=
  let arg0 : BitVec 32 := BitVec.ofNat 32 (i 0).val
  let c0_i32_768 : BitVec 32 := 0#32
  let v1505 : BitVec 1 := Scalar.cmpi .sgt arg0 c0_i32_768
  let v1506 : BitVec 32 := Scalar.extui v1505
  let c0_i32_771 : BitVec 32 := 0#32
  let v1507 : BitVec 1 := Scalar.cmpi .ne v1506 c0_i32_771
  v1507

def k0_cond23 (i : grid0.Coords) : BitVec 1 :=
  let arg0 : BitVec 32 := BitVec.ofNat 32 (i 0).val
  let c0_i32_772 : BitVec 32 := 0#32
  let v1509 : BitVec 1 := Scalar.cmpi .eq arg0 c0_i32_772
  let v1510 : BitVec 32 := Scalar.extui v1509
  let c0_i32_775 : BitVec 32 := 0#32
  let v1511 : BitVec 1 := Scalar.cmpi .ne v1510 c0_i32_775
  v1511

def k0_cond24 (i : grid0.Coords) : BitVec 1 :=
  let arg0 : BitVec 32 := BitVec.ofNat 32 (i 0).val
  let c0_i32_776 : BitVec 32 := 0#32
  let v1512 : BitVec 1 := Scalar.cmpi .sgt arg0 c0_i32_776
  let v1513 : BitVec 32 := Scalar.extui v1512
  let c0_i32_779 : BitVec 32 := 0#32
  let v1514 : BitVec 1 := Scalar.cmpi .ne v1513 c0_i32_779
  v1514

def k0_cond25 (i : grid0.Coords) : BitVec 1 :=
  let arg0 : BitVec 32 := BitVec.ofNat 32 (i 0).val
  let c0_i32_780 : BitVec 32 := 0#32
  let v1516 : BitVec 1 := Scalar.cmpi .eq arg0 c0_i32_780
  let v1517 : BitVec 32 := Scalar.extui v1516
  let c0_i32_783 : BitVec 32 := 0#32
  let v1518 : BitVec 1 := Scalar.cmpi .ne v1517 c0_i32_783
  v1518

def k0_cond26 (i : grid0.Coords) : BitVec 1 :=
  let arg0 : BitVec 32 := BitVec.ofNat 32 (i 0).val
  let c0_i32_784 : BitVec 32 := 0#32
  let v1519 : BitVec 1 := Scalar.cmpi .sgt arg0 c0_i32_784
  let v1520 : BitVec 32 := Scalar.extui v1519
  let c0_i32_787 : BitVec 32 := 0#32
  let v1521 : BitVec 1 := Scalar.cmpi .ne v1520 c0_i32_787
  v1521

def k0_cond27 (i : grid0.Coords) : BitVec 1 :=
  let arg0 : BitVec 32 := BitVec.ofNat 32 (i 0).val
  let c0_i32_788 : BitVec 32 := 0#32
  let v1523 : BitVec 1 := Scalar.cmpi .eq arg0 c0_i32_788
  let v1524 : BitVec 32 := Scalar.extui v1523
  let c0_i32_791 : BitVec 32 := 0#32
  let v1525 : BitVec 1 := Scalar.cmpi .ne v1524 c0_i32_791
  v1525

def k0_cond28 (i : grid0.Coords) : BitVec 1 :=
  let arg0 : BitVec 32 := BitVec.ofNat 32 (i 0).val
  let c0_i32_792 : BitVec 32 := 0#32
  let v1526 : BitVec 1 := Scalar.cmpi .sgt arg0 c0_i32_792
  let v1527 : BitVec 32 := Scalar.extui v1526
  let c0_i32_795 : BitVec 32 := 0#32
  let v1528 : BitVec 1 := Scalar.cmpi .ne v1527 c0_i32_795
  v1528

def k0_cond29 (i : grid0.Coords) : BitVec 1 :=
  let arg0 : BitVec 32 := BitVec.ofNat 32 (i 0).val
  let c0_i32_796 : BitVec 32 := 0#32
  let v1530 : BitVec 1 := Scalar.cmpi .eq arg0 c0_i32_796
  let v1531 : BitVec 32 := Scalar.extui v1530
  let c0_i32_799 : BitVec 32 := 0#32
  let v1532 : BitVec 1 := Scalar.cmpi .ne v1531 c0_i32_799
  v1532

def k0_cond30 (i : grid0.Coords) : BitVec 1 :=
  let arg0 : BitVec 32 := BitVec.ofNat 32 (i 0).val
  let c0_i32_800 : BitVec 32 := 0#32
  let v1533 : BitVec 1 := Scalar.cmpi .sgt arg0 c0_i32_800
  let v1534 : BitVec 32 := Scalar.extui v1533
  let c0_i32_803 : BitVec 32 := 0#32
  let v1535 : BitVec 1 := Scalar.cmpi .ne v1534 c0_i32_803
  v1535

def k0_cond31 (i : grid0.Coords) : BitVec 1 :=
  let arg0 : BitVec 32 := BitVec.ofNat 32 (i 0).val
  let c0_i32_804 : BitVec 32 := 0#32
  let v1537 : BitVec 1 := Scalar.cmpi .eq arg0 c0_i32_804
  let v1538 : BitVec 32 := Scalar.extui v1537
  let c0_i32_807 : BitVec 32 := 0#32
  let v1539 : BitVec 1 := Scalar.cmpi .ne v1538 c0_i32_807
  v1539

def k0_cond32 (i : grid0.Coords) : BitVec 1 :=
  let arg0 : BitVec 32 := BitVec.ofNat 32 (i 0).val
  let c0_i32_808 : BitVec 32 := 0#32
  let v1540 : BitVec 1 := Scalar.cmpi .sgt arg0 c0_i32_808
  let v1541 : BitVec 32 := Scalar.extui v1540
  let c0_i32_811 : BitVec 32 := 0#32
  let v1542 : BitVec 1 := Scalar.cmpi .ne v1541 c0_i32_811
  v1542

def k0_cond33 (i : grid0.Coords) : BitVec 1 :=
  let arg0 : BitVec 32 := BitVec.ofNat 32 (i 0).val
  let c0_i32_812 : BitVec 32 := 0#32
  let v1544 : BitVec 1 := Scalar.cmpi .eq arg0 c0_i32_812
  let v1545 : BitVec 32 := Scalar.extui v1544
  let c0_i32_815 : BitVec 32 := 0#32
  let v1546 : BitVec 1 := Scalar.cmpi .ne v1545 c0_i32_815
  v1546

def k0_cond34 (i : grid0.Coords) : BitVec 1 :=
  let arg0 : BitVec 32 := BitVec.ofNat 32 (i 0).val
  let c0_i32_816 : BitVec 32 := 0#32
  let v1547 : BitVec 1 := Scalar.cmpi .sgt arg0 c0_i32_816
  let v1548 : BitVec 32 := Scalar.extui v1547
  let c0_i32_819 : BitVec 32 := 0#32
  let v1549 : BitVec 1 := Scalar.cmpi .ne v1548 c0_i32_819
  v1549

def k0_cond35 (i : grid0.Coords) : BitVec 1 :=
  let arg0 : BitVec 32 := BitVec.ofNat 32 (i 0).val
  let c0_i32_820 : BitVec 32 := 0#32
  let v1551 : BitVec 1 := Scalar.cmpi .eq arg0 c0_i32_820
  let v1552 : BitVec 32 := Scalar.extui v1551
  let c0_i32_823 : BitVec 32 := 0#32
  let v1553 : BitVec 1 := Scalar.cmpi .ne v1552 c0_i32_823
  v1553

def k0_cond36 (i : grid0.Coords) : BitVec 1 :=
  let arg0 : BitVec 32 := BitVec.ofNat 32 (i 0).val
  let c0_i32_824 : BitVec 32 := 0#32
  let v1554 : BitVec 1 := Scalar.cmpi .sgt arg0 c0_i32_824
  let v1555 : BitVec 32 := Scalar.extui v1554
  let c0_i32_827 : BitVec 32 := 0#32
  let v1556 : BitVec 1 := Scalar.cmpi .ne v1555 c0_i32_827
  v1556

def k0_cond3 (i : grid0.Coords) : BitVec 1 :=
  let arg0 : BitVec 32 := BitVec.ofNat 32 (i 0).val
  let c0_i32_698 : BitVec 32 := 0#32
  let v1439 : BitVec 1 := Scalar.cmpi .eq arg0 c0_i32_698
  let v1440 : BitVec 32 := Scalar.extui v1439
  let c0_i32_699 : BitVec 32 := 0#32
  let v1441 : BitVec 1 := Scalar.cmpi .ne v1440 c0_i32_699
  v1441

def k0_cond4 (i : grid0.Coords) : BitVec 1 :=
  let arg0 : BitVec 32 := BitVec.ofNat 32 (i 0).val
  let c0_i32_700 : BitVec 32 := 0#32
  let v1442 : BitVec 1 := Scalar.cmpi .sgt arg0 c0_i32_700
  let v1443 : BitVec 32 := Scalar.extui v1442
  let c0_i32_701 : BitVec 32 := 0#32
  let v1444 : BitVec 1 := Scalar.cmpi .ne v1443 c0_i32_701
  v1444

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S3x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x4x64x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S3x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x4x64x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S8192x4096 : Shape := ⟨2, ![8192, 4096]⟩
abbrev S8192x2048 : Shape := ⟨2, ![8192, 2048]⟩
abbrev S3x1024 : Shape := ⟨2, ![3, 1024]⟩
abbrev S4x256x256 : Shape := ⟨3, ![4, 256, 256]⟩
abbrev S1x1024 : Shape := ⟨2, ![1, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S8192x8x128 : Shape := ⟨3, ![8192, 8, 128]⟩
abbrev S8192x8 : Shape := ⟨2, ![8192, 8]⟩
abbrev S8192x8x1 : Shape := ⟨3, ![8192, 8, 1]⟩
abbrev S8192x4x256 : Shape := ⟨3, ![8192, 4, 256]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S4x256x8192 : Shape := ⟨3, ![4, 256, 8192]⟩
abbrev S8192x4 : Shape := ⟨2, ![8192, 4]⟩
abbrev S8192x4x1 : Shape := ⟨3, ![8192, 4, 1]⟩
abbrev S1024 : Shape := ⟨1, ![1024]⟩
abbrev S4x8192x256 : Shape := ⟨3, ![4, 8192, 256]⟩
abbrev S4x4x64x256 : Shape := ⟨4, ![4, 4, 64, 256]⟩

abbrev nBuf : Space → Nat
  | .hbm => 331
  | .vmem => 0
  | .smem => 0
  | _ => 0

abbrev hbmTy0_0 (i : Nat) : BufTy := match i % 128 with
  | 0 => ⟨S8192x4096, .f32⟩
  | 1 => ⟨S8192x2048, .f32⟩
  | 2 => ⟨S3x1024, .f32⟩
  | 3 => ⟨S4x256x256, .f32⟩
  | 4 => ⟨S1x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S_, .f32⟩
  | 11 => ⟨S2x1024, .f32⟩
  | 12 => ⟨S8194x1024, .f32⟩
  | 13 => ⟨S_, .f32⟩
  | 14 => ⟨S2x1024, .f32⟩
  | 15 => ⟨S1x1024, .f32⟩
  | 16 => ⟨S8192x1024, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x8x128, .f32⟩
  | 31 => ⟨S8192x8x128, .f32⟩
  | 32 => ⟨S_, .f32⟩
  | 33 => ⟨S8192x8, .f32⟩
  | 34 => ⟨S8192x8x1, .f32⟩
  | 35 => ⟨S_, .f32⟩
  | 36 => ⟨S8192x8x1, .f32⟩
  | 37 => ⟨S8192x8x1, .f32⟩
  | 38 => ⟨S_, .f32⟩
  | 39 => ⟨S8192x8x1, .f32⟩
  | 40 => ⟨S8192x8x1, .f32⟩
  | 41 => ⟨S8192x8x1, .f32⟩
  | 42 => ⟨S8192x8x1, .f32⟩
  | 43 => ⟨S_, .f32⟩
  | 44 => ⟨S8192x8x1, .f32⟩
  | 45 => ⟨S8192x8x1, .f32⟩
  | 46 => ⟨S8192x8x128, .f32⟩
  | 47 => ⟨S8192x8x128, .f32⟩
  | 48 => ⟨S8192x1024, .f32⟩
  | 49 => ⟨S8192x4x256, .f32⟩
  | 50 => ⟨S_, .f32⟩
  | 51 => ⟨S_, .f32⟩
  | 52 => ⟨S8192x4x256, .f32⟩
  | 53 => ⟨S8192, .i32⟩
  | 54 => ⟨S_, .i32⟩
  | 55 => ⟨S8192, .i32⟩
  | 56 => ⟨S8192, .i32⟩
  | 57 => ⟨S8192, .f32⟩
  | 58 => ⟨S8192x1x256, .f32⟩
  | 59 => ⟨S8192x256, .f32⟩
  | 60 => ⟨S_, .f32⟩
  | 61 => ⟨S2x256, .f32⟩
  | 62 => ⟨S8190x256, .f32⟩
  | 63 => ⟨S8192x256, .f32⟩
  | 64 => ⟨S_, .f32⟩
  | 65 => ⟨S2x256, .f32⟩
  | 66 => ⟨S_, .f32⟩
  | 67 => ⟨S8192, .f32⟩
  | 68 => ⟨S8192, .f32⟩
  | 69 => ⟨S8192x1, .f32⟩
  | 70 => ⟨S8192x256, .f32⟩
  | 71 => ⟨S8192x256, .f32⟩
  | 72 => ⟨S8192x256, .f32⟩
  | 73 => ⟨S8192x1x256, .f32⟩
  | 74 => ⟨S8192x256, .f32⟩
  | 75 => ⟨S8192x256, .f32⟩
  | 76 => ⟨S8192x1x256, .f32⟩
  | 77 => ⟨S8192x256, .f32⟩
  | 78 => ⟨S_, .f32⟩
  | 79 => ⟨S4x256, .f32⟩
  | 80 => ⟨S8188x256, .f32⟩
  | 81 => ⟨S8192x256, .f32⟩
  | 82 => ⟨S_, .f32⟩
  | 83 => ⟨S4x256, .f32⟩
  | 84 => ⟨S_, .f32⟩
  | 85 => ⟨S8192, .f32⟩
  | 86 => ⟨S8192, .f32⟩
  | 87 => ⟨S8192x1, .f32⟩
  | 88 => ⟨S8192x256, .f32⟩
  | 89 => ⟨S8192x256, .f32⟩
  | 90 => ⟨S8192x256, .f32⟩
  | 91 => ⟨S8192x1x256, .f32⟩
  | 92 => ⟨S8192x256, .f32⟩
  | 93 => ⟨S8192x256, .f32⟩
  | 94 => ⟨S8192x1x256, .f32⟩
  | 95 => ⟨S8192x256, .f32⟩
  | 96 => ⟨S_, .f32⟩
  | 97 => ⟨S8x256, .f32⟩
  | 98 => ⟨S8184x256, .f32⟩
  | 99 => ⟨S8192x256, .f32⟩
  | 100 => ⟨S_, .f32⟩
  | 101 => ⟨S8x256, .f32⟩
  | 102 => ⟨S_, .f32⟩
  | 103 => ⟨S8192, .f32⟩
  | 104 => ⟨S8192, .f32⟩
  | 105 => ⟨S8192x1, .f32⟩
  | 106 => ⟨S8192x256, .f32⟩
  | 107 => ⟨S8192x256, .f32⟩
  | 108 => ⟨S8192x256, .f32⟩
  | 109 => ⟨S8192x1x256, .f32⟩
  | 110 => ⟨S8192x256, .f32⟩
  | 111 => ⟨S8192x256, .f32⟩
  | 112 => ⟨S8192x1x256, .f32⟩
  | 113 => ⟨S8192x256, .f32⟩
  | 114 => ⟨S_, .f32⟩
  | 115 => ⟨S16x256, .f32⟩
  | 116 => ⟨S8176x256, .f32⟩
  | 117 => ⟨S8192x256, .f32⟩
  | 118 => ⟨S_, .f32⟩
  | 119 => ⟨S16x256, .f32⟩
  | 120 => ⟨S_, .f32⟩
  | 121 => ⟨S8192, .f32⟩
  | 122 => ⟨S8192, .f32⟩
  | 123 => ⟨S8192x1, .f32⟩
  | 124 => ⟨S8192x256, .f32⟩
  | 125 => ⟨S8192x256, .f32⟩
  | 126 => ⟨S8192x256, .f32⟩
  | 127 => ⟨S8192x1x256, .f32⟩
  | _ => ⟨S8192x4096, .f32⟩

abbrev hbmTy0_1 (i : Nat) : BufTy := match i % 128 with
  | 0 => ⟨S8192x256, .f32⟩
  | 1 => ⟨S8192x256, .f32⟩
  | 2 => ⟨S8192x1x256, .f32⟩
  | 3 => ⟨S8192x1x256, .f32⟩
  | 4 => ⟨S8192x1x256, .f32⟩
  | 5 => ⟨S8192x1x256, .f32⟩
  | 6 => ⟨S8192x4x256, .f32⟩
  | 7 => ⟨S4x256x8192, .f32⟩
  | 8 => ⟨S8192x4x256, .f32⟩
  | 9 => ⟨S8192x4x256, .f32⟩
  | 10 => ⟨S_, .f32⟩
  | 11 => ⟨S8192x4, .f32⟩
  | 12 => ⟨S8192x4x1, .f32⟩
  | 13 => ⟨S_, .f32⟩
  | 14 => ⟨S8192x4x1, .f32⟩
  | 15 => ⟨S8192x4x1, .f32⟩
  | 16 => ⟨S_, .f32⟩
  | 17 => ⟨S8192x4x1, .f32⟩
  | 18 => ⟨S8192x4x1, .f32⟩
  | 19 => ⟨S8192x4x1, .f32⟩
  | 20 => ⟨S8192x4x1, .f32⟩
  | 21 => ⟨S_, .f32⟩
  | 22 => ⟨S8192x4x1, .f32⟩
  | 23 => ⟨S8192x4x1, .f32⟩
  | 24 => ⟨S8192x4x256, .f32⟩
  | 25 => ⟨S8192x4x256, .f32⟩
  | 26 => ⟨S8192x1024, .f32⟩
  | 27 => ⟨S8192x1024, .f32⟩
  | 28 => ⟨S8192x1024, .f32⟩
  | 29 => ⟨S8192x2048, .f32⟩
  | 30 => ⟨S8192x1024, .f32⟩
  | 31 => ⟨S8192x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S8192x4x256, .f32⟩
  | 39 => ⟨S8192x4x256, .f32⟩
  | 40 => ⟨S_, .f32⟩
  | 41 => ⟨S8192x4, .f32⟩
  | 42 => ⟨S8192x4x1, .f32⟩
  | 43 => ⟨S8192x4x256, .f32⟩
  | 44 => ⟨S8192x4x256, .f32⟩
  | 45 => ⟨S8192x4x1, .f32⟩
  | 46 => ⟨S_, .f32⟩
  | 47 => ⟨S8192x4x1, .f32⟩
  | 48 => ⟨S8192x4x1, .f32⟩
  | 49 => ⟨S_, .f32⟩
  | 50 => ⟨S8192x4, .f32⟩
  | 51 => ⟨S8192x4x256, .f32⟩
  | 52 => ⟨S8192x4x256, .f32⟩
  | 53 => ⟨S8192x4x256, .f32⟩
  | 54 => ⟨S8192x4x256, .f32⟩
  | 55 => ⟨S8192x4x256, .f32⟩
  | 56 => ⟨S4x256x8192, .f32⟩
  | 57 => ⟨S4x8192x256, .f32⟩
  | 58 => ⟨S8192x4x256, .f32⟩
  | 59 => ⟨S4x256x256, .f32⟩
  | 60 => ⟨S4x256x256, .f32⟩
  | 61 => ⟨S8192x1x256, .f32⟩
  | 62 => ⟨S8192x256, .f32⟩
  | 63 => ⟨S8192x1x256, .f32⟩
  | 64 => ⟨S8192x256, .f32⟩
  | 65 => ⟨S8192x1x256, .f32⟩
  | 66 => ⟨S8192x256, .f32⟩
  | 67 => ⟨S8192x1x256, .f32⟩
  | 68 => ⟨S8192x256, .f32⟩
  | 69 => ⟨S8192x256, .f32⟩
  | 70 => ⟨S8192x1x256, .f32⟩
  | 71 => ⟨S_, .f32⟩
  | 72 => ⟨S8192x4x256, .f32⟩
  | 73 => ⟨S8192x256, .f32⟩
  | 74 => ⟨S8192x256, .f32⟩
  | 75 => ⟨S8192x256, .f32⟩
  | 76 => ⟨S16x256, .f32⟩
  | 77 => ⟨S8176x256, .f32⟩
  | 78 => ⟨S_, .f32⟩
  | 79 => ⟨S8192x256, .f32⟩
  | 80 => ⟨S8192x256, .f32⟩
  | 81 => ⟨S8192x1x256, .f32⟩
  | 82 => ⟨S_, .f32⟩
  | 83 => ⟨S8192x4x256, .f32⟩
  | 84 => ⟨S8192x256, .f32⟩
  | 85 => ⟨S8192x1x256, .f32⟩
  | 86 => ⟨S_, .f32⟩
  | 87 => ⟨S8192x4x256, .f32⟩
  | 88 => ⟨S8192x4x256, .f32⟩
  | 89 => ⟨S8192x256, .f32⟩
  | 90 => ⟨S8192x256, .f32⟩
  | 91 => ⟨S8192x256, .f32⟩
  | 92 => ⟨S8x256, .f32⟩
  | 93 => ⟨S8184x256, .f32⟩
  | 94 => ⟨S_, .f32⟩
  | 95 => ⟨S8192x256, .f32⟩
  | 96 => ⟨S8192x256, .f32⟩
  | 97 => ⟨S8192x1x256, .f32⟩
  | 98 => ⟨S_, .f32⟩
  | 99 => ⟨S8192x4x256, .f32⟩
  | 100 => ⟨S8192x4x256, .f32⟩
  | 101 => ⟨S8192x256, .f32⟩
  | 102 => ⟨S8192x1x256, .f32⟩
  | 103 => ⟨S_, .f32⟩
  | 104 => ⟨S8192x4x256, .f32⟩
  | 105 => ⟨S8192x4x256, .f32⟩
  | 106 => ⟨S8192x256, .f32⟩
  | 107 => ⟨S8192x256, .f32⟩
  | 108 => ⟨S8192x256, .f32⟩
  | 109 => ⟨S4x256, .f32⟩
  | 110 => ⟨S8188x256, .f32⟩
  | 111 => ⟨S_, .f32⟩
  | 112 => ⟨S8192x256, .f32⟩
  | 113 => ⟨S8192x256, .f32⟩
  | 114 => ⟨S8192x1x256, .f32⟩
  | 115 => ⟨S_, .f32⟩
  | 116 => ⟨S8192x4x256, .f32⟩
  | 117 => ⟨S8192x4x256, .f32⟩
  | 118 => ⟨S8192x256, .f32⟩
  | 119 => ⟨S8192x1x256, .f32⟩
  | 120 => ⟨S_, .f32⟩
  | 121 => ⟨S8192x4x256, .f32⟩
  | 122 => ⟨S8192x4x256, .f32⟩
  | 123 => ⟨S8192x256, .f32⟩
  | 124 => ⟨S8192x256, .f32⟩
  | 125 => ⟨S8192x256, .f32⟩
  | 126 => ⟨S2x256, .f32⟩
  | 127 => ⟨S8190x256, .f32⟩
  | _ => ⟨S8192x4096, .f32⟩

abbrev hbmTy0_2 (i : Nat) : BufTy := match i % 128 with
  | 0 => ⟨S_, .f32⟩
  | 1 => ⟨S8192x256, .f32⟩
  | 2 => ⟨S8192x256, .f32⟩
  | 3 => ⟨S8192x1x256, .f32⟩
  | 4 => ⟨S_, .f32⟩
  | 5 => ⟨S8192x4x256, .f32⟩
  | 6 => ⟨S8192x4x256, .f32⟩
  | 7 => ⟨S_, .f32⟩
  | 8 => ⟨S_, .f32⟩
  | 9 => ⟨S8192x4x256, .f32⟩
  | 10 => ⟨S8192x4x256, .f32⟩
  | 11 => ⟨S8192x1024, .f32⟩
  | 12 => ⟨S8192x8x128, .f32⟩
  | 13 => ⟨S8192x8x128, .f32⟩
  | 14 => ⟨S_, .f32⟩
  | 15 => ⟨S8192x8, .f32⟩
  | 16 => ⟨S8192x8x1, .f32⟩
  | 17 => ⟨S8192x8x128, .f32⟩
  | 18 => ⟨S8192x8x128, .f32⟩
  | 19 => ⟨S8192x8x1, .f32⟩
  | 20 => ⟨S_, .f32⟩
  | 21 => ⟨S8192x8x1, .f32⟩
  | 22 => ⟨S8192x8x1, .f32⟩
  | 23 => ⟨S_, .f32⟩
  | 24 => ⟨S8192x8, .f32⟩
  | 25 => ⟨S8192x8x128, .f32⟩
  | 26 => ⟨S8192x8x128, .f32⟩
  | 27 => ⟨S8192x8x128, .f32⟩
  | 28 => ⟨S8192x8x128, .f32⟩
  | 29 => ⟨S8192x8x128, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S_, .f32⟩
  | 37 => ⟨S1024, .f32⟩
  | 38 => ⟨S1x1024, .f32⟩
  | 39 => ⟨S_, .f32⟩
  | 40 => ⟨S8194x1024, .f32⟩
  | 41 => ⟨S_, .f32⟩
  | 42 => ⟨S3x1024, .f32⟩
  | 43 => ⟨S8192x1024, .f32⟩
  | 44 => ⟨S8192x1024, .f32⟩
  | 45 => ⟨S8192x1024, .f32⟩
  | 46 => ⟨S_, .f32⟩
  | 47 => ⟨S1024, .f32⟩
  | 48 => ⟨S1x1024, .f32⟩
  | 49 => ⟨S_, .f32⟩
  | 50 => ⟨S8194x1024, .f32⟩
  | 51 => ⟨S8194x1024, .f32⟩
  | 52 => ⟨S_, .f32⟩
  | 53 => ⟨S3x1024, .f32⟩
  | 54 => ⟨S3x1024, .f32⟩
  | 55 => ⟨S8192x1024, .f32⟩
  | 56 => ⟨S8192x1024, .f32⟩
  | 57 => ⟨S8192x1024, .f32⟩
  | 58 => ⟨S_, .f32⟩
  | 59 => ⟨S1024, .f32⟩
  | 60 => ⟨S1x1024, .f32⟩
  | 61 => ⟨S_, .f32⟩
  | 62 => ⟨S8194x1024, .f32⟩
  | 63 => ⟨S8194x1024, .f32⟩
  | 64 => ⟨S_, .f32⟩
  | 65 => ⟨S3x1024, .f32⟩
  | 66 => ⟨S3x1024, .f32⟩
  | 67 => ⟨S2x1024, .f32⟩
  | 68 => ⟨S8192x1024, .f32⟩
  | 69 => ⟨S8192x1024, .f32⟩
  | 70 => ⟨S8192x1024, .f32⟩
  | 71 => ⟨S8192x4096, .f32⟩
  | 72 => ⟨S4x4x64x256, .f32⟩
  | 73 => ⟨S4x4x64x256, .f32⟩
  | 74 => ⟨S8192x4096, .bf16⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_call0_cst : Ref sig .tc := ⟨.hbm, 50, rfl⟩
abbrev main_call0_call0_v0 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_11 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_cst_13 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_14 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_15 : Ref sig .tc := ⟨.hbm, 118, rfl⟩
abbrev main_v94 : Ref sig .tc := ⟨.hbm, 119, rfl⟩
abbrev main_cst_16 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_17 : Ref sig .tc := ⟨.hbm, 138, rfl⟩
abbrev main_v112 : Ref sig .tc := ⟨.hbm, 139, rfl⟩
abbrev main_v113 : Ref sig .tc := ⟨.hbm, 140, rfl⟩
abbrev main_cst_18 : Ref sig .tc := ⟨.hbm, 141, rfl⟩
abbrev main_v114 : Ref sig .tc := ⟨.hbm, 142, rfl⟩
abbrev main_v115 : Ref sig .tc := ⟨.hbm, 143, rfl⟩
abbrev main_cst_19 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_20 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_21 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_22 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_cst_23 : Ref sig .tc := ⟨.hbm, 174, rfl⟩
abbrev main_v142 : Ref sig .tc := ⟨.hbm, 175, rfl⟩
abbrev main_v143 : Ref sig .tc := ⟨.hbm, 176, rfl⟩
abbrev main_cst_24 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_cst_25 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_cst_26 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_cst_27 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_cst_28 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_cst_29 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_cst_30 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_cst_31 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_cst_32 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_cst_33 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_cst_34 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_cst_35 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_cst_36 : Ref sig .tc := ⟨.hbm, 260, rfl⟩
abbrev main_v215 : Ref sig .tc := ⟨.hbm, 261, rfl⟩
abbrev main_v216 : Ref sig .tc := ⟨.hbm, 262, rfl⟩
abbrev main_call1_call0_cst : Ref sig .tc := ⟨.hbm, 263, rfl⟩
abbrev main_call1_call0_v0 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_cst_37 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_cst_38 : Ref sig .tc := ⟨.hbm, 276, rfl⟩
abbrev main_v227 : Ref sig .tc := ⟨.hbm, 277, rfl⟩
abbrev main_v228 : Ref sig .tc := ⟨.hbm, 278, rfl⟩
abbrev main_cst_39 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_cst_40 : Ref sig .tc := ⟨.hbm, 292, rfl⟩
abbrev main_v241 : Ref sig .tc := ⟨.hbm, 293, rfl⟩
abbrev main_v242 : Ref sig .tc := ⟨.hbm, 294, rfl⟩
abbrev main_cst_41 : Ref sig .tc := ⟨.hbm, 295, rfl⟩
abbrev main_v243 : Ref sig .tc := ⟨.hbm, 296, rfl⟩
abbrev main_cst_42 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_cst_43 : Ref sig .tc := ⟨.hbm, 302, rfl⟩
abbrev main_v248 : Ref sig .tc := ⟨.hbm, 303, rfl⟩
abbrev main_v249 : Ref sig .tc := ⟨.hbm, 304, rfl⟩
abbrev main_cst_44 : Ref sig .tc := ⟨.hbm, 305, rfl⟩
abbrev main_v250 : Ref sig .tc := ⟨.hbm, 306, rfl⟩
abbrev main_v251 : Ref sig .tc := ⟨.hbm, 307, rfl⟩
abbrev main_cst_45 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_cst_46 : Ref sig .tc := ⟨.hbm, 314, rfl⟩
abbrev main_v257 : Ref sig .tc := ⟨.hbm, 315, rfl⟩
abbrev main_v258 : Ref sig .tc := ⟨.hbm, 316, rfl⟩
abbrev main_cst_47 : Ref sig .tc := ⟨.hbm, 317, rfl⟩
abbrev main_v259 : Ref sig .tc := ⟨.hbm, 318, rfl⟩
abbrev main_v260 : Ref sig .tc := ⟨.hbm, 319, rfl⟩
abbrev main_cst_48 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩

abbrev nD : Nat := 1
abbrev τ : Topo := Topo.v7x

variable {F : FTy → Type} [FloatOps F]
-- ==== Kernel2.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩
abbrev S2048x2048 : Shape := ⟨2, ![2048, 2048]⟩
abbrev S512x2048 : Shape := ⟨2, ![512, 2048]⟩

abbrev nBuf : Space → Nat
  | .hbm => 15
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .f32⟩
  | .hbm, ⟨5, _⟩ => ⟨S8192x2048, .bf16⟩
  | .hbm, ⟨6, _⟩ => ⟨S8192x2048, .bf16⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S8192x5632, .bf16⟩
  | .hbm, ⟨11, _⟩ => ⟨S8192x5632, .bf16⟩
  | .hbm, ⟨12, _⟩ => ⟨S8192x5632, .bf16⟩
  | .hbm, ⟨13, _⟩ => ⟨S8192x5632, .bf16⟩
  | .hbm, ⟨14, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S2048x2048, .bf16⟩
  | .local _ .vmem, ⟨13, _⟩ => ⟨S2048x2048, .bf16⟩
  | .local _ .vmem, ⟨14, _⟩ => ⟨S512x2048, .bf16⟩
  | .local _ .vmem, ⟨15, _⟩ => ⟨S512x2048, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![4, 11, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S2048x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== Reference2Ideal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .bf16⟩
  | .hbm, ⟨30, _⟩ => ⟨S8192x5632, .bf16⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S2048x4096 : Shape := ⟨2, ![2048, 4096]⟩
abbrev S8192x4096 : Shape := ⟨2, ![8192, 4096]⟩
abbrev S2048x4x1024 : Shape := ⟨3, ![2048, 4, 1024]⟩
abbrev S4x2048x1024 : Shape := ⟨3, ![4, 2048, 1024]⟩
abbrev S1024x1024 : Shape := ⟨2, ![1024, 1024]⟩
abbrev S1x2048x1024 : Shape := ⟨3, ![1, 2048, 1024]⟩
abbrev S1024x2048 : Shape := ⟨2, ![1024, 2048]⟩
abbrev S2x256x2048 : Shape := ⟨3, ![2, 256, 2048]⟩
abbrev S3x2 : Shape := ⟨2, ![3, 2]⟩
abbrev S1x1 : Shape := ⟨2, ![1, 1]⟩
abbrev S_ : Shape := ⟨0, ![]⟩
abbrev S2048x1024 : Shape := ⟨2, ![2048, 1024]⟩
abbrev S64x2048 : Shape := ⟨2, ![64, 2048]⟩
abbrev S64 : Shape := ⟨1, ![64]⟩
abbrev S64x1 : Shape := ⟨2, ![64, 1]⟩
abbrev S2048 : Shape := ⟨1, ![2048]⟩
abbrev S1x64x2048 : Shape := ⟨3, ![1, 64, 2048]⟩
abbrev S256x2048 : Shape := ⟨2, ![256, 2048]⟩
abbrev S1x256x2048 : Shape := ⟨3, ![1, 256, 2048]⟩

abbrev nBuf : Space → Nat
  | .hbm => 11
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4096, .f32⟩
  | .hbm, ⟨3, _⟩ => ⟨S8192x4096, .f32⟩
  | .hbm, ⟨4, _⟩ => ⟨S8192x2048, .f32⟩
  | .hbm, ⟨5, _⟩ => ⟨S2048x4096, .bf16⟩
  | .hbm, ⟨6, _⟩ => ⟨S2048x4x1024, .bf16⟩
  | .hbm, ⟨7, _⟩ => ⟨S4x2048x1024, .bf16⟩
  | .hbm, ⟨8, _⟩ => ⟨S8192x4096, .bf16⟩
  | .hbm, ⟨9, _⟩ => ⟨S8192x2048, .f32⟩
  | .hbm, ⟨10, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | .local _ .vmem, ⟨9, _⟩ => ⟨S2x256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v12 : BitVec 32 := Scalar.muli arg0 c1024_i32
  v12
def k0_off1 (i : grid0.Coords) : Fin 2 → Nat :=
  let arg0 : BitVec 32 := BitVec.ofNat 32 (i 0).val
  let c1024_i32 : BitVec 32 := 1024#32
  let v12 : BitVec 32 := Scalar.muli arg0 c1024_i32
  let v13 : BitVec 32 := v12
  let c0_i32_8 : BitVec 32 := 0#32
  ![v13.toNat, 0]
def k0_mult2 (i : grid0.Coords) : BitVec 32 :=
  let arg0 : BitVec 32 := BitVec.ofNat 32 (i 0).val
  let c1024_i32_9 : BitVec 32 := 1024#32
  let v17 : BitVec 32 := Scalar.muli arg0 c1024_i32_9
  v17
def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_5 : BitVec 32 := 0#32
  let v11 : BitVec 1 := Scalar.cmpi .ne v10 c0_i32_5
  v11

def k0_mult3 (i : grid0.Coords) : BitVec 32 :=
  let arg0 : BitVec 32 := BitVec.ofNat 32 (i 0).val
  let c1024_i32 : BitVec 32 := 1024#32
  let v12 : BitVec 32 := Scalar.muli arg0 c1024_i32
  v12
def k0_off2 (i : grid0.Coords) : Fin 2 → Nat :=
  let arg0 : BitVec 32 := BitVec.ofNat 32 (i 0).val
  let c1024_i32 : BitVec 32 := 1024#32
  let v12 : BitVec 32 := Scalar.muli arg0 c1024_i32
  let v13 : BitVec 32 := v12
  let c0_i32_8 : BitVec 32 := 0#32
  ![v13.toNat, 0]
def k0_mult4 (i : grid0.Coords) : BitVec 32 :=
  let arg0 : BitVec 32 := BitVec.ofNat 32 (i 0).val
  let c1024_i32_9 : BitVec 32 := 1024#32
  let v17 : BitVec 32 := Scalar.muli arg0 c1024_i32_9
  v17
def k0_mult5 (i : grid0.Coords) : BitVec 32 :=
  let arg0 : BitVec 32 := BitVec.ofNat 32 (i 0).val
  let c1024_i32_91 : BitVec 32 := 1024#32
  let v172 : BitVec 32 := Scalar.muli arg0 c1024_i32_91
  let c0_i32_92 : BitVec 32 := 0#32
  let v173 : BitVec 32 := Scalar.addi v172 c0_i32_92
  v173
def k0_off3 (i : grid0.Coords) (c0_i32_92 : BitVec 32) : Fin 2 → Nat :=
  let arg0 : BitVec 32 := BitVec.ofNat 32 (i 0).val
  let c1024_i32_91 : BitVec 32 := 1024#32
  let v172 : BitVec 32 := Scalar.muli arg0 c1024_i32_91
  let v173 : BitVec 32 := Scalar.addi v172 c0_i32_92
  let v174 : BitVec 32 := v173
  let c0_i32_95 : BitVec 32 := 0#32
  ![v174.toNat, 0]
def k0_mult6 (i : grid0.Coords) : BitVec 32 :=
  let arg0 : BitVec 32 := BitVec.ofNat 32 (i 0).val
  let c1024_i32_177 : BitVec 32 := 1024#32
  let v328 : BitVec 32 := Scalar.muli arg0 c1024_i32_177
  let c256_i32 : BitVec 32 := 256#32
  let v329 : BitVec 32 := Scalar.addi v328 c256_i32
  v329
def k0_mult7 (i : grid0.Coords) : BitVec 32 :=
  let arg0 : BitVec 32 := BitVec.ofNat 32 (i 0).val
  let c1024_i32_184 : BitVec 32 := 1024#32
  let v336 : BitVec 32 := Scalar.muli arg0 c1024_i32_184
  let c0_i32_185 : BitVec 32 := 0#32
  let v337 : BitVec 32 := Scalar.addi v336 c0_i32_185
  v337
def k0_mult8 (i : grid0.Coords) : BitVec 32 :=
  let arg0 : BitVec 32 := BitVec.ofNat 32 (i 0).val
  let c1024_i32_272 : BitVec 32 := 1024#32
  let v492 : BitVec 32 := Scalar.muli arg0 c1024_i32_272
  let c512_i32 : BitVec 32 := 512#32
  let v493 : BitVec 32 := Scalar.addi v492 c512_i32
  v493
def k0_mult9 (i : grid0.Coords) : BitVec 32 :=
  let arg0 : BitVec 32 := BitVec.ofNat 32 (i 0).val
  let c1024_i32_279 : BitVec 32 := 1024#32
  let v500 : BitVec 32 := Scalar.muli arg0 c1024_i32_279
  let c256_i32_280 : BitVec 32 := 256#32
  let v501 : BitVec 32 := Scalar.addi v500 c256_i32_280
  v501
def k0_mult10 (i : grid0.Coords) : BitVec 32 :=
  let arg0 : BitVec 32 := BitVec.ofNat 32 (i 0).val
  let c1024_i32_367 : BitVec 32 := 1024#32
  let v656 : BitVec 32 := Scalar.muli arg0 c1024_i32_367
  let c768_i32 : BitVec 32 := 768#32
  let v657 : BitVec 32 := Scalar.addi v656 c768_i32
  v657
def k0_mult11 (i : grid0.Coords) : BitVec 32 :=
  let arg0 : BitVec 32 := BitVec.ofNat 32 (i 0).val
  let c1024_i32_374 : BitVec 32 := 1024#32
  let v664 : BitVec 32 := Scalar.muli arg0 c1024_i32_374
  let c512_i32_375 : BitVec 32 := 512#32
  let v665 : BitVec 32 := Scalar.addi v664 c512_i32_375
  v665
def k0_mult12 (i : grid0.Coords) : BitVec 32 :=
  let arg0 : BitVec 32 := BitVec.ofNat 32 (i 0).val
  let c1024_i32_382 : BitVec 32 := 1024#32
  let v672 : BitVec 32 := Scalar.muli arg0 c1024_i32_382
  let c768_i32_383 : BitVec 32 := 768#32
  let v673 : BitVec 32 := Scalar.addi v672 c768_i32_383
  v673
def k0_cond5 (i : grid0.Coords) : BitVec 1 :=
  let arg0 : BitVec 32 := BitVec.ofNat 32 (i 0).val
  let c0_i32_27 : BitVec 32 := 0#32
  let v55 : BitVec 1 := Scalar.cmpi .eq arg0 c0_i32_27
  let v56 : BitVec 32 := Scalar.extui v55
  let c0_i32_28 : BitVec 32 := 0#32
  let v57 : BitVec 1 := Scalar.cmpi .ne v56 c0_i32_28
  v57

def k0_cond6 (i : grid0.Coords) : BitVec 1 :=
  let arg0 : BitVec 32 := BitVec.ofNat 32 (i 0).val
  let c0_i32_29 : BitVec 32 := 0#32
  let v58 : BitVec 1 := Scalar.cmpi .sgt arg0 c0_i32_29
  let v59 : BitVec 32 := Scalar.extui v58
  let c0_i32_30 : BitVec 32 := 0#32
  let v60 : BitVec 1 := Scalar.cmpi .ne v59 c0_i32_30
  v60

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== Reference3Ideal.lean ====
abbrev S8192x2048 : Shape := ⟨2, ![8192, 2048]⟩
abbrev S1x2048 : Shape := ⟨2, ![1, 2048]⟩
abbrev S2048x4096 : Shape := ⟨2, ![2048, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4096, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x4096, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel4.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S8x128 : Shape := ⟨2, ![8, 128]⟩
abbrev S1024x512 : Shape := ⟨2, ![1024, 512]⟩
abbrev S512x2048 : Shape := ⟨2, ![512, 2048]⟩
abbrev S1024x2048 : Shape := ⟨2, ![1024, 2048]⟩
abbrev S2x256x2048 : Shape := ⟨3, ![2, 256, 2048]⟩
abbrev S4x2 : Shape := ⟨2, ![4, 2]⟩
abbrev S1x1 : Shape := ⟨2, ![1, 1]⟩
abbrev S_ : Shape := ⟨0, ![]⟩
abbrev S1x256x2048 : Shape := ⟨3, ![1, 256, 2048]⟩
abbrev S256x2048 : Shape := ⟨2, ![256, 2048]⟩
abbrev S64x2048 : Shape := ⟨2, ![64, 2048]⟩
abbrev S64 : Shape := ⟨1, ![64]⟩
abbrev S64x1 : Shape := ⟨2, ![64, 1]⟩
abbrev S1x64x2048 : Shape := ⟨3, ![1, 64, 2048]⟩
abbrev S1 : Shape := ⟨1, ![1]⟩
abbrev S2048 : Shape := ⟨1, ![2048]⟩

abbrev nBuf : Space → Nat
  | .hbm => 11
  | .vmem => 12
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x5632, .bf16⟩
  | .hbm, ⟨6, _⟩ => ⟨S5632x2048, .bf16⟩
  | .hbm, ⟨7, _⟩ => ⟨S8192x2048, .f32⟩
  | .hbm, ⟨8, _⟩ => ⟨S8192x2048, .bf16⟩
  | .hbm, ⟨9, _⟩ => ⟨S8x128, .f32⟩
  | .hbm, ⟨10, _⟩ => ⟨S1x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S8x128, .f32⟩
  | .local _ .vmem, ⟨6, _⟩ => ⟨S1x2048, .f32⟩
  | .local _ .vmem, ⟨7, _⟩ => ⟨S1024x2048, .f32⟩
  | .local _ .vmem, ⟨8, _⟩ => ⟨S2x256x2048, .f32⟩
  | .local _ .vmem, ⟨9, _⟩ => ⟨S2x256x2048, .f32⟩
  | .local _ .vmem, ⟨10, _⟩ => ⟨S2x256x2048, .f32⟩
  | .local _ .vmem, ⟨11, _⟩ => ⟨S2x256x2048, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨3, ![8, 1, 11], ![false, false, false]⟩

def k0_cond1 (i : grid0.Coords) : BitVec 1 :=
  let arg2 : BitVec 32 := BitVec.ofNat 32 (i 2).val
  let c10_i32 : BitVec 32 := 10#32
  let v0 : BitVec 1 := Scalar.cmpi .eq arg2 c10_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c1024_i32 : BitVec 32 := 1024#32
  let v12 : BitVec 32 := Scalar.muli arg0 c1024_i32
  let c0_i32_6 : BitVec 32 := 0#32
  let v13 : BitVec 32 := Scalar.addi v12 c0_i32_6
  v13
def k0_off1 (i : grid0.Coords) : Fin 2 → Nat :=
  let arg0 : BitVec 32 := BitVec.ofNat 32 (i 0).val
  let c1024_i32 : BitVec 32 := 1024#32
  let v12 : BitVec 32 := Scalar.muli arg0 c1024_i32
  let c0_i32_6 : BitVec 32 := 0#32
  let v13 : BitVec 32 := Scalar.addi v12 c0_i32_6
  let v14 : BitVec 32 := v13
  let c0_i32_12 : BitVec 32 := 0#32
  ![v14.toNat, 0]
def k0_mult2 (i : grid0.Coords) : BitVec 32 :=
  let arg0 : BitVec 32 := BitVec.ofNat 32 (i 0).val
  let c1024_i32_13 : BitVec 32 := 1024#32
  let v20 : BitVec 32 := Scalar.muli arg0 c1024_i32_13
  let c0_i32_14 : BitVec 32 := 0#32
  let v21 : BitVec 32 := Scalar.addi v20 c0_i32_14
  v21
def k0_cond4 (i : grid0.Coords) : BitVec 1 :=
  let arg2 : BitVec 32 := BitVec.ofNat 32 (i 2).val
  let c10_i32_4 : BitVec 32 := 10#32
  let v9 : BitVec 1 := Scalar.cmpi .eq arg2 c10_i32_4
  let v10 : BitVec 32 := Scalar.extui v9
  let c0_i32_5 : BitVec 32 := 0#32
  let v11 : BitVec 1 := Scalar.cmpi .ne v10 c0_i32_5
  v11

def k0_mult3 (i : grid0.Coords) : BitVec 32 :=
  let arg0 : BitVec 32 := BitVec.ofNat 32 (i 0).val
  let c1024_i32 : BitVec 32 := 1024#32
  let v12 : BitVec 32 := Scalar.muli arg0 c1024_i32
  let c256_i32 : BitVec 32 := 256#32
  let v13 : BitVec 32 := Scalar.addi v12 c256_i32
  v13
def k0_off2 (i : grid0.Coords) (c256_i32 : BitVec 32) : Fin 2 → Nat :=
  let arg0 : BitVec 32 := BitVec.ofNat 32 (i 0).val
  let c1024_i32 : BitVec 32 := 1024#32
  let v12 : BitVec 32 := Scalar.muli arg0 c1024_i32
  let v13 : BitVec 32 := Scalar.addi v12 c256_i32
  let v14 : BitVec 32 := v13
  let c0_i32_10 : BitVec 32 := 0#32
  ![v14.toNat, 0]
def k0_mult4 (i : grid0.Coords) : BitVec 32 :=
  let arg0 : BitVec 32 := BitVec.ofNat 32 (i 0).val
  let c1024_i32_11 : BitVec 32 := 1024#32
  let v20 : BitVec 32 := Scalar.muli arg0 c1024_i32_11
  let c0_i32_12 : BitVec 32 := 0#32
  let v21 : BitVec 32 := Scalar.addi v20 c0_i32_12
  v21
def k0_mult5 (i : grid0.Coords) : BitVec 32 :=
  let arg0 : BitVec 32 := BitVec.ofNat 32 (i 0).val
  let c1024_i32_19 : BitVec 32 := 1024#32
  let v28 : BitVec 32 := Scalar.muli arg0 c1024_i32_19
  let c256_i32_20 : BitVec 32 := 256#32
  let v29 : BitVec 32 := Scalar.addi v28 c256_i32_20
  v29
def k0_mult6 (i : grid0.Coords) : BitVec 32 :=
  let arg0 : BitVec 32 := BitVec.ofNat 32 (i 0).val
  let c1024_i32_27 : BitVec 32 := 1024#32
  let v36 : BitVec 32 := Scalar.muli arg0 c1024_i32_27
  let c0_i32_28 : BitVec 32 := 0#32
  let v37 : BitVec 32 := Scalar.addi v36 c0_i32_28
  v37
def k0_mult7 (i : grid0.Coords) : BitVec 32 :=
  let arg0 : BitVec 32 := BitVec.ofNat 32 (i 0).val
  let c1024_i32_170 : BitVec 32 := 1024#32
  let v300 : BitVec 32 := Scalar.muli arg0 c1024_i32_170
  let c0_i32_171 : BitVec 32 := 0#32
  let v301 : BitVec 32 := Scalar.addi v300 c0_i32_171
  v301
def k0_mult8 (i : grid0.Coords) : BitVec 32 :=
  let arg0 : BitVec 32 := BitVec.ofNat 32 (i 0).val
  let c1024_i32_177 : BitVec 32 := 1024#32
  let v308 : BitVec 32 := Scalar.muli arg0 c1024_i32_177
  let c0_i32_178 : BitVec 32 := 0#32
  let v309 : BitVec 32 := Scalar.addi v308 c0_i32_178
  v309
def k0_mult9 (i : grid0.Coords) : BitVec 32 :=
  let arg0 : BitVec 32 := BitVec.ofNat 32 (i 0).val
  let c1024_i32_184 : BitVec 32 := 1024#32
  let v316 : BitVec 32 := Scalar.muli arg0 c1024_i32_184
  let c512_i32 : BitVec 32 := 512#32
  let v317 : BitVec 32 := Scalar.addi v316 c512_i32
  v317
def k0_mult10 (i : grid0.Coords) : BitVec 32 :=
  let arg0 : BitVec 32 := BitVec.ofNat 32 (i 0).val
  let c1024_i32_191 : BitVec 32 := 1024#32
  let v324 : BitVec 32 := Scalar.muli arg0 c1024_i32_191
  let c256_i32_192 : BitVec 32 := 256#32
  let v325 : BitVec 32 := Scalar.addi v324 c256_i32_192
  v325
def k0_mult11 (i : grid0.Coords) : BitVec 32 :=
  let arg0 : BitVec 32 := BitVec.ofNat 32 (i 0).val
  let c1024_i32_199 : BitVec 32 := 1024#32
  let v332 : BitVec 32 := Scalar.muli arg0 c1024_i32_199
  let c512_i32_200 : BitVec 32 := 512#32
  let v333 : BitVec 32 := Scalar.addi v332 c512_i32_200
  v333
def k0_mult12 (i : grid0.Coords) : BitVec 32 :=
  let arg0 : BitVec 32 := BitVec.ofNat 32 (i 0).val
  let c1024_i32_207 : BitVec 32 := 1024#32
  let v340 : BitVec 32 := Scalar.muli arg0 c1024_i32_207
  let c256_i32_208 : BitVec 32 := 256#32
  let v341 : BitVec 32 := Scalar.addi v340 c256_i32_208
  v341
def k0_mult13 (i : grid0.Coords) : BitVec 32 :=
  let arg0 : BitVec 32 := BitVec.ofNat 32 (i 0).val
  let c1024_i32_350 : BitVec 32 := 1024#32
  let v600 : BitVec 32 := Scalar.muli arg0 c1024_i32_350
  let c256_i32_351 : BitVec 32 := 256#32
  let v601 : BitVec 32 := Scalar.addi v600 c256_i32_351
  v601
def k0_mult14 (i : grid0.Coords) : BitVec 32 :=
  let arg0 : BitVec 32 := BitVec.ofNat 32 (i 0).val
  let c1024_i32_358 : BitVec 32 := 1024#32
  let v608 : BitVec 32 := Scalar.muli arg0 c1024_i32_358
  let c256_i32_359 : BitVec 32 := 256#32
  let v609 : BitVec 32 := Scalar.addi v608 c256_i32_359
  v609
def k0_mult15 (i : grid0.Coords) : BitVec 32 :=
  let arg0 : BitVec 32 := BitVec.ofNat 32 (i 0).val
  let c1024_i32_366 : BitVec 32 := 1024#32
  let v616 : BitVec 32 := Scalar.muli arg0 c1024_i32_366
  let c768_i32 : BitVec 32 := 768#32
  let v617 : BitVec 32 := Scalar.addi v616 c768_i32
  v617
def k0_mult16 (i : grid0.Coords) : BitVec 32 :=
  let arg0 : BitVec 32 := BitVec.ofNat 32 (i 0).val
  let c1024_i32_373 : BitVec 32 := 1024#32
  let v624 : BitVec 32 := Scalar.muli arg0 c1024_i32_373
  let c512_i32_374 : BitVec 32 := 512#32
  let v625 : BitVec 32 := Scalar.addi v624 c512_i32_374
  v625
def k0_mult17 (i : grid0.Coords) : BitVec 32 :=
  let arg0 : BitVec 32 := BitVec.ofNat 32 (i 0).val
  let c1024_i32_381 : BitVec 32 := 1024#32
  let v632 : BitVec 32 := Scalar.muli arg0 c1024_i32_381
  let c768_i32_382 : BitVec 32 := 768#32
  let v633 : BitVec 32 := Scalar.addi v632 c768_i32_382
  v633
def k0_mult18 (i : grid0.Coords) : BitVec 32 :=
  let arg0 : BitVec 32 := BitVec.ofNat 32 (i 0).val
  let c1024_i32_389 : BitVec 32 := 1024#32
  let v640 : BitVec 32 := Scalar.muli arg0 c1024_i32_389
  let c512_i32_390 : BitVec 32 := 512#32
  let v641 : BitVec 32 := Scalar.addi v640 c512_i32_390
  v641
def k0_mult19 (i : grid0.Coords) : BitVec 32 :=
  let arg0 : BitVec 32 := BitVec.ofNat 32 (i 0).val
  let c1024_i32_397 : BitVec 32 := 1024#32
  let v648 : BitVec 32 := Scalar.muli arg0 c1024_i32_397
  let c0_i32_398 : BitVec 32 := 0#32
  let v649 : BitVec 32 := Scalar.addi v648 c0_i32_398
  v649
def k0_mult20 (i : grid0.Coords) : BitVec 32 :=
  let arg0 : BitVec 32 := BitVec.ofNat 32 (i 0).val
  let c1024_i32_405 : BitVec 32 := 1024#32
  let v656 : BitVec 32 := Scalar.muli arg0 c1024_i32_405
  let c0_i32_406 : BitVec 32 := 0#32
  let v657 : BitVec 32 := Scalar.addi v656 c0_i32_406
  v657
def k0_mult21 (i : grid0.Coords) : BitVec 32 :=
  let arg0 : BitVec 32 := BitVec.ofNat 32 (i 0).val
  let c1024_i32_549 : BitVec 32 := 1024#32
  let v916 : BitVec 32 := Scalar.muli arg0 c1024_i32_549
  let c512_i32_550 : BitVec 32 := 512#32
  let v917 : BitVec 32 := Scalar.addi v916 c512_i32_550
  v917
def k0_mult22 (i : grid0.Coords) : BitVec 32 :=
  let arg0 : BitVec 32 := BitVec.ofNat 32 (i 0).val
  let c1024_i32_557 : BitVec 32 := 1024#32
  let v924 : BitVec 32 := Scalar.muli arg0 c1024_i32_557
  let c512_i32_558 : BitVec 32 := 512#32
  let v925 : BitVec 32 := Scalar.addi v924 c512_i32_558
  v925
def k0_mult23 (i : grid0.Coords) : BitVec 32 :=
  let arg0 : BitVec 32 := BitVec.ofNat 32 (i 0).val
  let c1024_i32_565 : BitVec 32 := 1024#32
  let v932 : BitVec 32 := Scalar.muli arg0 c1024_i32_565
  let c768_i32_566 : BitVec 32 := 768#32
  let v933 : BitVec 32 := Scalar.addi v932 c768_i32_566
  v933
def k0_mult24 (i : grid0.Coords) : BitVec 32 :=
  let arg0 : BitVec 32 := BitVec.ofNat 32 (i 0).val
  let c1024_i32_573 : BitVec 32 := 1024#32
  let v940 : BitVec 32 := Scalar.muli arg0 c1024_i32_573
  let c768_i32_574 : BitVec 32 := 768#32
  let v941 : BitVec 32 := Scalar.addi v940 c768_i32_574
  v941
def k0_mult25 (i : grid0.Coords) : BitVec 32 :=
  let arg0 : BitVec 32 := BitVec.ofNat 32 (i 0).val
  let c1024_i32_581 : BitVec 32 := 1024#32
  let v948 : BitVec 32 := Scalar.muli arg0 c1024_i32_581
  let c256_i32_582 : BitVec 32 := 256#32
  let v949 : BitVec 32 := Scalar.addi v948 c256_i32_582
  v949
def k0_mult26 (i : grid0.Coords) : BitVec 32 :=
  let arg0 : BitVec 32 := BitVec.ofNat 32 (i 0).val
  let c1024_i32_589 : BitVec 32 := 1024#32
  let v956 : BitVec 32 := Scalar.muli arg0 c1024_i32_589
  let c256_i32_590 : BitVec 32 := 256#32
  let v957 : BitVec 32 := Scalar.addi v956 c256_i32_590
  v957
def k0_mult27 (i : grid0.Coords) : BitVec 32 :=
  let arg0 : BitVec 32 := BitVec.ofNat 32 (i 0).val
  let c1024_i32_733 : BitVec 32 := 1024#32
  let v1216 : BitVec 32 := Scalar.muli arg0 c1024_i32_733
  let c768_i32_734 : BitVec 32 := 768#32
  let v1217 : BitVec 32 := Scalar.addi v1216 c768_i32_734
  v1217
def k0_mult28 (i : grid0.Coords) : BitVec 32 :=
  let arg0 : BitVec 32 := BitVec.ofNat 32 (i 0).val
  let c1024_i32_741 : BitVec 32 := 1024#32
  let v1224 : BitVec 32 := Scalar.muli arg0 c1024_i32_741
  let c768_i32_742 : BitVec 32 := 768#32
  let v1225 : BitVec 32 := Scalar.addi v1224 c768_i32_742
  v1225
def k0_mult29 (i : grid0.Coords) : BitVec 32 :=
  let arg0 : BitVec 32 := BitVec.ofNat 32 (i 0).val
  let c1024_i32_749 : BitVec 32 := 1024#32
  let v1232 : BitVec 32 := Scalar.muli arg0 c1024_i32_749
  let c512_i32_750 : BitVec 32 := 512#32
  let v1233 : BitVec 32 := Scalar.addi v1232 c512_i32_750
  v1233
def k0_mult30 (i : grid0.Coords) : BitVec 32 :=
  let arg0 : BitVec 32 := BitVec.ofNat 32 (i 0).val
  let c1024_i32_757 : BitVec 32 := 1024#32
  let v1240 : BitVec 32 := Scalar.muli arg0 c1024_i32_757
  let c768_i32_758 : BitVec 32 := 768#32
  let v1241 : BitVec 32 := Scalar.addi v1240 c768_i32_758
  v1241
def k0_mult31 (i : grid0.Coords) : BitVec 32 :=
  let arg0 : BitVec 32 := BitVec.ofNat 32 (i 0).val
  let c1024_i32_765 : BitVec 32 := 1024#32
  let v1248 : BitVec 32 := Scalar.muli arg0 c1024_i32_765
  let c512_i32_766 : BitVec 32 := 512#32
  let v1249 : BitVec 32 := Scalar.addi v1248 c512_i32_766
  v1249
def k0_mult32 (i : grid0.Coords) : BitVec 32 :=
  let arg0 : BitVec 32 := BitVec.ofNat 32 (i 0).val
  let c1024_i32_773 : BitVec 32 := 1024#32
  let v1256 : BitVec 32 := Scalar.muli arg0 c1024_i32_773
  let c768_i32_774 : BitVec 32 := 768#32
  let v1257 : BitVec 32 := Scalar.addi v1256 c768_i32_774
  v1257
def k0_cond5 (i : grid0.Coords) : BitVec 1 :=
  let arg0 : BitVec 32 := BitVec.ofNat 32 (i 0).val
  let c0_i32_60 : BitVec 32 := 0#32
  let v99 : BitVec 1 := Scalar.cmpi .eq arg0 c0_i32_60
  let v100 : BitVec 32 := Scalar.extui v99
  let c0_i32_61 : BitVec 32 := 0#32
  let v101 : BitVec 1 := Scalar.cmpi .ne v100 c0_i32_61
  v101

def k0_cond6 (i : grid0.Coords) : BitVec 1 :=
  let arg0 : BitVec 32 := BitVec.ofNat 32 (i 0).val
  let c0_i32_62 : BitVec 32 := 0#32
  let v102 : BitVec 1 := Scalar.cmpi .sgt arg0 c0_i32_62
  let v103 : BitVec 32 := Scalar.extui v102
  let c0_i32_63 : BitVec 32 := 0#32
  let v104 : BitVec 1 := Scalar.cmpi .ne v103 c0_i32_63
  v104

def k0_cond7 (i : grid0.Coords) : BitVec 1 :=
  let arg0 : BitVec 32 := BitVec.ofNat 32 (i 0).val
  let c0_i32_64 : BitVec 32 := 0#32
  let v105 : BitVec 1 := Scalar.cmpi .eq arg0 c0_i32_64
  let v106 : BitVec 32 := Scalar.extui v105
  let c0_i32_65 : BitVec 32 := 0#32
  let v107 : BitVec 1 := Scalar.cmpi .ne v106 c0_i32_65
  v107

def k0_cond8 (i : grid0.Coords) : BitVec 1 :=
  let arg0 : BitVec 32 := BitVec.ofNat 32 (i 0).val
  let c0_i32_66 : BitVec 32 := 0#32
  let v108 : BitVec 1 := Scalar.cmpi .sgt arg0 c0_i32_66
  let v109 : BitVec 32 := Scalar.extui v108
  let c0_i32_67 : BitVec 32 := 0#32
  let v110 : BitVec 1 := Scalar.cmpi .ne v109 c0_i32_67
  v110

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== Reference4Ideal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .bf16⟩
  | .hbm, ⟨73, _⟩ => ⟨S8x128, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S1x2048 : Shape := ⟨2, ![1, 2048]⟩
abbrev S2048x5632 : Shape := ⟨2, ![2048, 5632]⟩
abbrev S8192x5632 : Shape := ⟨2, ![8192, 5632]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩
abbrev S1024x512 : Shape := ⟨2, ![1024, 512]⟩
abbrev S2048x512 : Shape := ⟨2, ![2048, 512]⟩
abbrev S1024x2048 : Shape := ⟨2, ![1024, 2048]⟩
abbrev S2x256x2048 : Shape := ⟨3, ![2, 256, 2048]⟩
abbrev S5x2 : Shape := ⟨2, ![5, 2]⟩
abbrev S1x1 : Shape := ⟨2, ![1, 1]⟩
abbrev S_ : Shape := ⟨0, ![]⟩
abbrev S1x256x2048 : Shape := ⟨3, ![1, 256, 2048]⟩
abbrev S256x2048 : Shape := ⟨2, ![256, 2048]⟩
abbrev S1x64x2048 : Shape := ⟨3, ![1, 64, 2048]⟩
abbrev S2048 : Shape := ⟨1, ![2048]⟩

abbrev nBuf : Space → Nat
  | .hbm => 23
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048x5632, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S8192x2048, .f32⟩
  | .hbm, ⟨10, _⟩ => ⟨S8192x2048, .bf16⟩
  | .hbm, ⟨11, _⟩ => ⟨S2048x2048, .bf16⟩
  | .hbm, ⟨12, _⟩ => ⟨S2048x5632, .bf16⟩
  | .hbm, ⟨13, _⟩ => ⟨S2048x5632, .bf16⟩
  | .hbm, ⟨14, _⟩ => ⟨S8192x5632, .bf16⟩
  | .hbm, ⟨15, _⟩ => ⟨S8192x5632, .bf16⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S8192x2048, .f32⟩
  | .hbm, ⟨20, _⟩ => ⟨S8192x2048, .bf16⟩
  | .hbm, ⟨21, _⟩ => ⟨S1x2048, .f32⟩
  | .hbm, ⟨22, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1024x512, .bf16⟩
  | .local _ .vmem, ⟨14, _⟩ => ⟨S1024x512, .bf16⟩
  | .local _ .vmem, ⟨15, _⟩ => ⟨S2048x512, .bf16⟩
  | .local _ .vmem, ⟨16, _⟩ => ⟨S2048x512, .bf16⟩
  | .local _ .vmem, ⟨17, _⟩ => ⟨S1024x512, .bf16⟩
  | .local _ .vmem, ⟨18, _⟩ => ⟨S1024x512, .bf16⟩
  | .local _ .vmem, ⟨19, _⟩ => ⟨S2048x512, .bf16⟩
  | .local _ .vmem, ⟨20, _⟩ => ⟨S2048x512, .bf16⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S1024x2048, .f32⟩
  | .local _ .vmem, ⟨26, _⟩ => ⟨S2x256x2048, .f32⟩
  | .local _ .vmem, ⟨27, _⟩ => ⟨S2x256x2048, .f32⟩
  | .local _ .vmem, ⟨28, _⟩ => ⟨S2x256x2048, .f32⟩
  | .local _ .vmem, ⟨29, _⟩ => ⟨S2x256x2048, .f32⟩
  | .local _ .vmem, ⟨30, _⟩ => ⟨S2x256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc1_scratch3 : Ref sig .tc := ⟨.vmem, 28, rfl⟩
abbrev cc1_scratch4 : Ref sig .tc := ⟨.vmem, 29, rfl⟩
abbrev cc1_scratch5 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev grid1 : Pipeline.Grid := ⟨3, ![8, 1, 11], ![false, false, false]⟩

def k1_cond1 (i : grid1.Coords) : BitVec 1 :=
  let arg2 : BitVec 32 := BitVec.ofNat 32 (i 2).val
  let c10_i32 : BitVec 32 := 10#32
  let v0 : BitVec 1 := Scalar.cmpi .eq arg2 c10_i32
  let v1 : BitVec 32 := Scalar.extui v0
  let c0_i32 : BitVec 32 := 0#32
  let v2 : BitVec 1 := Scalar.cmpi .ne v1 c0_i32
  v2

def k1_mult1 (i : grid1.Coords) : BitVec 32 :=
  let arg0 : BitVec 32 := BitVec.ofNat 32 (i 0).val
  let c1024_i32 : BitVec 32 := 1024#32
  let v12 : BitVec 32 := Scalar.muli arg0 c1024_i32
  let c0_i32_6 : BitVec 32 := 0#32
  let v13 : BitVec 32 := Scalar.addi v12 c0_i32_6
  v13
def k1_off1 (i : grid1.Coords) : Fin 2 → Nat :=
  let arg0 : BitVec 32 := BitVec.ofNat 32 (i 0).val
  let c1024_i32 : BitVec 32 := 1024#32
  let v12 : BitVec 32 := Scalar.muli arg0 c1024_i32
  let c0_i32_6 : BitVec 32 := 0#32
  let v13 : BitVec 32 := Scalar.addi v12 c0_i32_6
  let v14 : BitVec 32 := v13
  let c0_i32_12 : BitVec 32 := 0#32
  ![v14.toNat, 0]
def k1_mult2 (i : grid1.Coords) : BitVec 32 :=
  let arg0 : BitVec 32 := BitVec.ofNat 32 (i 0).val
  let c1024_i32_13 : BitVec 32 := 1024#32
  let v20 : BitVec 32 := Scalar.muli arg0 c1024_i32_13
  let c0_i32_14 : BitVec 32 := 0#32
  let v21 : BitVec 32 := Scalar.addi v20 c0_i32_14
  v21
def k1_mult3 (i : grid1.Coords) : BitVec 32 :=
  let arg0 : BitVec 32 := BitVec.ofNat 32 (i 0).val
  let c1024_i32_20 : BitVec 32 := 1024#32
  let v28 : BitVec 32 := Scalar.muli arg0 c1024_i32_20
  let c0_i32_21 : BitVec 32 := 0#32
  let v29 : BitVec 32 := Scalar.addi v28 c0_i32_21
  v29
def k1_cond4 (i : grid1.Coords) : BitVec 1 :=
  let arg2 : BitVec 32 := BitVec.ofNat 32 (i 2).val
  let c10_i32_4 : BitVec 32 := 10#32
  let v9 : BitVec 1 := Scalar.cmpi .eq arg2 c10_i32_4
  let v10 : BitVec 32 := Scalar.extui v9
  let c0_i32_5 : BitVec 32 := 0#32
  let v11 : BitVec 1 := Scalar.cmpi .ne v10 c0_i32_5
  v11

def k1_mult4 (i : grid1.Coords) : BitVec 32 :=
  let arg0 : BitVec 32 := BitVec.ofNat 32 (i 0).val
  let c1024_i32 : BitVec 32 := 1024#32
  let v12 : BitVec 32 := Scalar.muli arg0 c1024_i32
  let c256_i32 : BitVec 32 := 256#32
  let v13 : BitVec 32 := Scalar.addi v12 c256_i32
  v13
def k1_off2 (i : grid1.Coords) (c256_i32 : BitVec 32) : Fin 2 → Nat :=
  let arg0 : BitVec 32 := BitVec.ofNat 32 (i 0).val
  let c1024_i32 : BitVec 32 := 1024#32
  let v12 : BitVec 32 := Scalar.muli arg0 c1024_i32
  let v13 : BitVec 32 := Scalar.addi v12 c256_i32
  let v14 : BitVec 32 := v13
  let c0_i32_10 : BitVec 32 := 0#32
  ![v14.toNat, 0]
def k1_mult5 (i : grid1.Coords) : BitVec 32 :=
  let arg0 : BitVec 32 := BitVec.ofNat 32 (i 0).val
  let c1024_i32_11 : BitVec 32 := 1024#32
  let v20 : BitVec 32 := Scalar.muli arg0 c1024_i32_11
  let c0_i32_12 : BitVec 32 := 0#32
  let v21 : BitVec 32 := Scalar.addi v20 c0_i32_12
  v21
def k1_mult6 (i : grid1.Coords) : BitVec 32 :=
  let arg0 : BitVec 32 := BitVec.ofNat 32 (i 0).val
  let c1024_i32_19 : BitVec 32 := 1024#32
  let v28 : BitVec 32 := Scalar.muli arg0 c1024_i32_19
  let c256_i32_20 : BitVec 32 := 256#32
  let v29 : BitVec 32 := Scalar.addi v28 c256_i32_20
  v29
def k1_mult7 (i : grid1.Coords) : BitVec 32 :=
  let arg0 : BitVec 32 := BitVec.ofNat 32 (i 0).val
  let c1024_i32_27 : BitVec 32 := 1024#32
  let v36 : BitVec 32 := Scalar.muli arg0 c1024_i32_27
  let c0_i32_28 : BitVec 32 := 0#32
  let v37 : BitVec 32 := Scalar.addi v36 c0_i32_28
  v37
def k1_mult8 (i : grid1.Coords) : BitVec 32 :=
  let arg0 : BitVec 32 := BitVec.ofNat 32 (i 0).val
  let c1024_i32_35 : BitVec 32 := 1024#32
  let v44 : BitVec 32 := Scalar.muli arg0 c1024_i32_35
  let c256_i32_36 : BitVec 32 := 256#32
  let v45 : BitVec 32 := Scalar.addi v44 c256_i32_36
  v45
def k1_mult9 (i : grid1.Coords) : BitVec 32 :=
  let arg0 : BitVec 32 := BitVec.ofNat 32 (i 0).val
  let c1024_i32_42 : BitVec 32 := 1024#32
  let v52 : BitVec 32 := Scalar.muli arg0 c1024_i32_42
  let c0_i32_43 : BitVec 32 := 0#32
  let v53 : BitVec 32 := Scalar.addi v52 c0_i32_43
  v53
def k1_mult10 (i : grid1.Coords) : BitVec 32 :=
  let arg0 : BitVec 32 := BitVec.ofNat 32 (i 0).val
  let c1024_i32_209 : BitVec 32 := 1024#32
  let v364 : BitVec 32 := Scalar.muli arg0 c1024_i32_209
  let c0_i32_210 : BitVec 32 := 0#32
  let v365 : BitVec 32 := Scalar.addi v364 c0_i32_210
  v365
def k1_mult11 (i : grid1.Coords) : BitVec 32 :=
  let arg0 : BitVec 32 := BitVec.ofNat 32 (i 0).val
  let c1024_i32_216 : BitVec 32 := 1024#32
  let v372 : BitVec 32 := Scalar.muli arg0 c1024_i32_216
  let c0_i32_217 : BitVec 32 := 0#32
  let v373 : BitVec 32 := Scalar.addi v372 c0_i32_217
  v373
def k1_mult12 (i : grid1.Coords) : BitVec 32 :=
  let arg0 : BitVec 32 := BitVec.ofNat 32 (i 0).val
  let c1024_i32_223 : BitVec 32 := 1024#32
  let v380 : BitVec 32 := Scalar.muli arg0 c1024_i32_223
  let c512_i32 : BitVec 32 := 512#32
  let v381 : BitVec 32 := Scalar.addi v380 c512_i32
  v381
def k1_mult13 (i : grid1.Coords) : BitVec 32 :=
  let arg0 : BitVec 32 := BitVec.ofNat 32 (i 0).val
  let c1024_i32_230 : BitVec 32 := 1024#32
  let v388 : BitVec 32 := Scalar.muli arg0 c1024_i32_230
  let c256_i32_231 : BitVec 32 := 256#32
  let v389 : BitVec 32 := Scalar.addi v388 c256_i32_231
  v389
def k1_mult14 (i : grid1.Coords) : BitVec 32 :=
  let arg0 : BitVec 32 := BitVec.ofNat 32 (i 0).val
  let c1024_i32_238 : BitVec 32 := 1024#32
  let v396 : BitVec 32 := Scalar.muli arg0 c1024_i32_238
  let c512_i32_239 : BitVec 32 := 512#32
  let v397 : BitVec 32 := Scalar.addi v396 c512_i32_239
  v397
def k1_mult15 (i : grid1.Coords) : BitVec 32 :=
  let arg0 : BitVec 32 := BitVec.ofNat 32 (i 0).val
  let c1024_i32_246 : BitVec 32 := 1024#32
  let v404 : BitVec 32 := Scalar.muli arg0 c1024_i32_246
  let c256_i32_247 : BitVec 32 := 256#32
  let v405 : BitVec 32 := Scalar.addi v404 c256_i32_247
  v405
def k1_mult16 (i : grid1.Coords) : BitVec 32 :=
  let arg0 : BitVec 32 := BitVec.ofNat 32 (i 0).val
  let c1024_i32_254 : BitVec 32 := 1024#32
  let v412 : BitVec 32 := Scalar.muli arg0 c1024_i32_254
  let c512_i32_255 : BitVec 32 := 512#32
  let v413 : BitVec 32 := Scalar.addi v412 c512_i32_255
  v413
def k1_mult17 (i : grid1.Coords) : BitVec 32 :=
  let arg0 : BitVec 32 := BitVec.ofNat 32 (i 0).val
  let c1024_i32_262 : BitVec 32 := 1024#32
  let v420 : BitVec 32 := Scalar.muli arg0 c1024_i32_262
  let c256_i32_263 : BitVec 32 := 256#32
  let v421 : BitVec 32 := Scalar.addi v420 c256_i32_263
  v421
def k1_mult18 (i : grid1.Coords) : BitVec 32 :=
  let arg0 : BitVec 32 := BitVec.ofNat 32 (i 0).val
  let c1024_i32_429 : BitVec 32 := 1024#32
  let v728 : BitVec 32 := Scalar.muli arg0 c1024_i32_429
  let c256_i32_430 : BitVec 32 := 256#32
  let v729 : BitVec 32 := Scalar.addi v728 c256_i32_430
  v729
def k1_mult19 (i : grid1.Coords) : BitVec 32 :=
  let arg0 : BitVec 32 := BitVec.ofNat 32 (i 0).val
  let c1024_i32_437 : BitVec 32 := 1024#32
  let v736 : BitVec 32 := Scalar.muli arg0 c1024_i32_437
  let c256_i32_438 : BitVec 32 := 256#32
  let v737 : BitVec 32 := Scalar.addi v736 c256_i32_438
  v737
def k1_mult20 (i : grid1.Coords) : BitVec 32 :=
  let arg0 : BitVec 32 := BitVec.ofNat 32 (i 0).val
  let c1024_i32_445 : BitVec 32 := 1024#32
  let v744 : BitVec 32 := Scalar.muli arg0 c1024_i32_445
  let c768_i32 : BitVec 32 := 768#32
  let v745 : BitVec 32 := Scalar.addi v744 c768_i32
  v745
def k1_mult21 (i : grid1.Coords) : BitVec 32 :=
  let arg0 : BitVec 32 := BitVec.ofNat 32 (i 0).val
  let c1024_i32_452 : BitVec 32 := 1024#32
  let v752 : BitVec 32 := Scalar.muli arg0 c1024_i32_452
  let c512_i32_453 : BitVec 32 := 512#32
  let v753 : BitVec 32 := Scalar.addi v752 c512_i32_453
  v753
def k1_mult22 (i : grid1.Coords) : BitVec 32 :=
  let arg0 : BitVec 32 := BitVec.ofNat 32 (i 0).val
  let c1024_i32_460 : BitVec 32 := 1024#32
  let v760 : BitVec 32 := Scalar.muli arg0 c1024_i32_460
  let c768_i32_461 : BitVec 32 := 768#32
  let v761 : BitVec 32 := Scalar.addi v760 c768_i32_461
  v761
def k1_mult23 (i : grid1.Coords) : BitVec 32 :=
  let arg0 : BitVec 32 := BitVec.ofNat 32 (i 0).val
  let c1024_i32_468 : BitVec 32 := 1024#32
  let v768 : BitVec 32 := Scalar.muli arg0 c1024_i32_468
  let c512_i32_469 : BitVec 32 := 512#32
  let v769 : BitVec 32 := Scalar.addi v768 c512_i32_469
  v769
def k1_mult24 (i : grid1.Coords) : BitVec 32 :=
  let arg0 : BitVec 32 := BitVec.ofNat 32 (i 0).val
  let c1024_i32_476 : BitVec 32 := 1024#32
  let v776 : BitVec 32 := Scalar.muli arg0 c1024_i32_476
  let c768_i32_477 : BitVec 32 := 768#32
  let v777 : BitVec 32 := Scalar.addi v776 c768_i32_477
  v777
def k1_mult25 (i : grid1.Coords) : BitVec 32 :=
  let arg0 : BitVec 32 := BitVec.ofNat 32 (i 0).val
  let c1024_i32_484 : BitVec 32 := 1024#32
  let v784 : BitVec 32 := Scalar.muli arg0 c1024_i32_484
  let c512_i32_485 : BitVec 32 := 512#32
  let v785 : BitVec 32 := Scalar.addi v784 c512_i32_485
  v785
def k1_mult26 (i : grid1.Coords) : BitVec 32 :=
  let arg0 : BitVec 32 := BitVec.ofNat 32 (i 0).val
  let c1024_i32_492 : BitVec 32 := 1024#32
  let v792 : BitVec 32 := Scalar.muli arg0 c1024_i32_492
  let c0_i32_493 : BitVec 32 := 0#32
  let v793 : BitVec 32 := Scalar.addi v792 c0_i32_493
  v793
def k1_mult27 (i : grid1.Coords) : BitVec 32 :=
  let arg0 : BitVec 32 := BitVec.ofNat 32 (i 0).val
  let c1024_i32_500 : BitVec 32 := 1024#32
  let v800 : BitVec 32 := Scalar.muli arg0 c1024_i32_500
  let c0_i32_501 : BitVec 32 := 0#32
  let v801 : BitVec 32 := Scalar.addi v800 c0_i32_501
  v801
def k1_mult28 (i : grid1.Coords) : BitVec 32 :=
  let arg0 : BitVec 32 := BitVec.ofNat 32 (i 0).val
  let c1024_i32_668 : BitVec 32 := 1024#32
  let v1108 : BitVec 32 := Scalar.muli arg0 c1024_i32_668
  let c512_i32_669 : BitVec 32 := 512#32
  let v1109 : BitVec 32 := Scalar.addi v1108 c512_i32_669
  v1109
def k1_mult29 (i : grid1.Coords) : BitVec 32 :=
  let arg0 : BitVec 32 := BitVec.ofNat 32 (i 0).val
  let c1024_i32_676 : BitVec 32 := 1024#32
  let v1116 : BitVec 32 := Scalar.muli arg0 c1024_i32_676
  let c512_i32_677 : BitVec 32 := 512#32
  let v1117 : BitVec 32 := Scalar.addi v1116 c512_i32_677
  v1117
def k1_mult30 (i : grid1.Coords) : BitVec 32 :=
  let arg0 : BitVec 32 := BitVec.ofNat 32 (i 0).val
  let c1024_i32_684 : BitVec 32 := 1024#32
  let v1124 : BitVec 32 := Scalar.muli arg0 c1024_i32_684
  let c768_i32_685 : BitVec 32 := 768#32
  let v1125 : BitVec 32 := Scalar.addi v1124 c768_i32_685
  v1125
def k1_mult31 (i : grid1.Coords) : BitVec 32 :=
  let arg0 : BitVec 32 := BitVec.ofNat 32 (i 0).val
  let c1024_i32_692 : BitVec 32 := 1024#32
  let v1132 : BitVec 32 := Scalar.muli arg0 c1024_i32_692
  let c768_i32_693 : BitVec 32 := 768#32
  let v1133 : BitVec 32 := Scalar.addi v1132 c768_i32_693
  v1133
def k1_mult32 (i : grid1.Coords) : BitVec 32 :=
  let arg0 : BitVec 32 := BitVec.ofNat 32 (i 0).val
  let c1024_i32_700 : BitVec 32 := 1024#32
  let v1140 : BitVec 32 := Scalar.muli arg0 c1024_i32_700
  let c768_i32_701 : BitVec 32 := 768#32
  let v1141 : BitVec 32 := Scalar.addi v1140 c768_i32_701
  v1141
def k1_mult33 (i : grid1.Coords) : BitVec 32 :=
  let arg0 : BitVec 32 := BitVec.ofNat 32 (i 0).val
  let c1024_i32_708 : BitVec 32 := 1024#32
  let v1148 : BitVec 32 := Scalar.muli arg0 c1024_i32_708
  let c256_i32_709 : BitVec 32 := 256#32
  let v1149 : BitVec 32 := Scalar.addi v1148 c256_i32_709
  v1149
def k1_mult34 (i : grid1.Coords) : BitVec 32 :=
  let arg0 : BitVec 32 := BitVec.ofNat 32 (i 0).val
  let c1024_i32_716 : BitVec 32 := 1024#32
  let v1156 : BitVec 32 := Scalar.muli arg0 c1024_i32_716
  let c256_i32_717 : BitVec 32 := 256#32
  let v1157 : BitVec 32 := Scalar.addi v1156 c256_i32_717
  v1157
def k1_mult35 (i : grid1.Coords) : BitVec 32 :=
  let arg0 : BitVec 32 := BitVec.ofNat 32 (i 0).val
  let c1024_i32_884 : BitVec 32 := 1024#32
  let v1464 : BitVec 32 := Scalar.muli arg0 c1024_i32_884
  let c768_i32_885 : BitVec 32 := 768#32
  let v1465 : BitVec 32 := Scalar.addi v1464 c768_i32_885
  v1465
def k1_mult36 (i : grid1.Coords) : BitVec 32 :=
  let arg0 : BitVec 32 := BitVec.ofNat 32 (i 0).val
  let c1024_i32_892 : BitVec 32 := 1024#32
  let v1472 : BitVec 32 := Scalar.muli arg0 c1024_i32_892
  let c768_i32_893 : BitVec 32 := 768#32
  let v1473 : BitVec 32 := Scalar.addi v1472 c768_i32_893
  v1473
def k1_mult37 (i : grid1.Coords) : BitVec 32 :=
  let arg0 : BitVec 32 := BitVec.ofNat 32 (i 0).val
  let c1024_i32_900 : BitVec 32 := 1024#32
  let v1480 : BitVec 32 := Scalar.muli arg0 c1024_i32_900
  let c512_i32_901 : BitVec 32 := 512#32
  let v1481 : BitVec 32 := Scalar.addi v1480 c512_i32_901
  v1481
def k1_mult38 (i : grid1.Coords) : BitVec 32 :=
  let arg0 : BitVec 32 := BitVec.ofNat 32 (i 0).val
  let c1024_i32_908 : BitVec 32 := 1024#32
  let v1488 : BitVec 32 := Scalar.muli arg0 c1024_i32_908
  let c768_i32_909 : BitVec 32 := 768#32
  let v1489 : BitVec 32 := Scalar.addi v1488 c768_i32_909
  v1489
def k1_mult39 (i : grid1.Coords) : BitVec 32 :=
  let arg0 : BitVec 32 := BitVec.ofNat 32 (i 0).val
  let c1024_i32_916 : BitVec 32 := 1024#32
  let v1496 : BitVec 32 := Scalar.muli arg0 c1024_i32_916
  let c512_i32_917 : BitVec 32 := 512#32
  let v1497 : BitVec 32 := Scalar.addi v1496 c512_i32_917
  v1497
def k1_mult40 (i : grid1.Coords) : BitVec 32 :=
  let arg0 : BitVec 32 := BitVec.ofNat 32 (i 0).val
  let c1024_i32_924 : BitVec 32 := 1024#32
  let v1504 : BitVec 32 := Scalar.muli arg0 c1024_i32_924
  let c768_i32_925 : BitVec 32 := 768#32
  let v1505 : BitVec 32 := Scalar.addi v1504 c768_i32_925
  v1505
def k1_cond5 (i : grid1.Coords) : BitVec 1 :=
  let arg0 : BitVec 32 := BitVec.ofNat 32 (i 0).val
  let c0_i32_81 : BitVec 32 := 0#32
  let v127 : BitVec 1 := Scalar.cmpi .eq arg0 c0_i32_81
  let v128 : BitVec 32 := Scalar.extui v127
  let c0_i32_82 : BitVec 32 := 0#32
  let v129 : BitVec 1 := Scalar.cmpi .ne v128 c0_i32_82
  v129

def k1_cond6 (i : grid1.Coords) : BitVec 1 :=
  let arg0 : BitVec 32 := BitVec.ofNat 32 (i 0).val
  let c0_i32_83 : BitVec 32 := 0#32
  let v130 : BitVec 1 := Scalar.cmpi .sgt arg0 c0_i32_83
  let v131 : BitVec 32 := Scalar.extui v130
  let c0_i32_84 : BitVec 32 := 0#32
  let v132 : BitVec 1 := Scalar.cmpi .ne v131 c0_i32_84
  v132

def k1_cond7 (i : grid1.Coords) : BitVec 1 :=
  let arg0 : BitVec 32 := BitVec.ofNat 32 (i 0).val
  let c0_i32_85 : BitVec 32 := 0#32
  let v133 : BitVec 1 := Scalar.cmpi .eq arg0 c0_i32_85
  let v134 : BitVec 32 := Scalar.extui v133
  let c0_i32_86 : BitVec 32 := 0#32
  let v135 : BitVec 1 := Scalar.cmpi .ne v134 c0_i32_86
  v135

def k1_cond8 (i : grid1.Coords) : BitVec 1 :=
  let arg0 : BitVec 32 := BitVec.ofNat 32 (i 0).val
  let c0_i32_87 : BitVec 32 := 0#32
  let v136 : BitVec 1 := Scalar.cmpi .sgt arg0 c0_i32_87
  let v137 : BitVec 32 := Scalar.extui v136
  let c0_i32_88 : BitVec 32 := 0#32
  let v138 : BitVec 1 := Scalar.cmpi .ne v137 c0_i32_88
  v138

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]
-- ==== Reference5Ideal.lean ====
abbrev S8192x2048 : Shape := ⟨2, ![8192, 2048]⟩
abbrev S2048x2048 : Shape := ⟨2, ![2048, 2048]⟩
abbrev S1x2048 : Shape := ⟨2, ![1, 2048]⟩
abbrev S2048x5632 : Shape := ⟨2, ![2048, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 136
  | .vmem => 0
  | .smem => 0
  | _ => 0

abbrev hbmTy0_0 (i : Nat) : BufTy := match i % 128 with
  | 0 => ⟨S8192x2048, .f32⟩
  | 1 => ⟨S2048x2048, .f32⟩
  | 2 => ⟨S8192x2048, .f32⟩
  | 3 => ⟨S1x2048, .f32⟩
  | 4 => ⟨S1x2048, .f32⟩
  | 5 => ⟨S2048x5632, .f32⟩
  | 6 => ⟨S2048x5632, .f32⟩
  | 7 => ⟨S8192x5632, .f32⟩
  | 8 => ⟨S8192x5632, .f32⟩
  | 9 => ⟨S8192x2048, .f32⟩
  | 10 => ⟨S8192x2048, .f32⟩
  | 11 => ⟨S8192x2048, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x2048, .f32⟩
  | 27 => ⟨S8192x2048, .f32⟩
  | 28 => ⟨S8192x2048, .f32⟩
  | 29 => ⟨S8192x2048, .f32⟩
  | 30 => ⟨S8192x2048, .f32⟩
  | 31 => ⟨S8192x2048, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x2048, .f32⟩
  | 47 => ⟨S8192x2048, .f32⟩
  | 48 => ⟨S8192x2048, .f32⟩
  | 49 => ⟨S8192x2048, .f32⟩
  | 50 => ⟨S8192x5632, .f32⟩
  | 51 => ⟨S8192x5632, .f32⟩
  | 52 => ⟨S8192x2048, .f32⟩
  | 53 => ⟨S8192x2048, .f32⟩
  | 54 => ⟨S8192x2048, .f32⟩
  | 55 => ⟨S8192x2048, .f32⟩
  | 56 => ⟨S_, .f32⟩
  | 57 => ⟨S2048, .f32⟩
  | 58 => ⟨S1x2048, .f32⟩
  | 59 => ⟨S8192x2048, .f32⟩
  | 60 => ⟨S8192x2048, .f32⟩
  | 61 => ⟨S8192x2048, .f32⟩
  | 62 => ⟨S_, .f32⟩
  | 63 => ⟨S8192, .f32⟩
  | 64 => ⟨S8192x1, .f32⟩
  | 65 => ⟨S8192x2048, .f32⟩
  | 66 => ⟨S8192x2048, .f32⟩
  | 67 => ⟨S8192x2048, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192, .f32⟩
  | 74 => ⟨S8192x2048, .f32⟩
  | 75 => ⟨S8192x2048, .f32⟩
  | 76 => ⟨S8192x2048, .f32⟩
  | 77 => ⟨S8192x2048, .f32⟩
  | 78 => ⟨S8192x2048, .f32⟩
  | 79 => ⟨S8192x2048, .f32⟩
  | 80 => ⟨S8192x2048, .f32⟩
  | 81 => ⟨S_, .f32⟩
  | 82 => ⟨S2048, .f32⟩
  | 83 => ⟨S1x2048, .f32⟩
  | 84 => ⟨S8192x2048, .f32⟩
  | 85 => ⟨S8192x2048, .f32⟩
  | 86 => ⟨S8192x2048, .f32⟩
  | 87 => ⟨S_, .f32⟩
  | 88 => ⟨S8192, .f32⟩
  | 89 => ⟨S8192x1, .f32⟩
  | 90 => ⟨S8192x2048, .f32⟩
  | 91 => ⟨S8192x2048, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192, .f32⟩
  | 98 => ⟨S8192x2048, .f32⟩
  | 99 => ⟨S8192x2048, .f32⟩
  | 100 => ⟨S8192x2048, .f32⟩
  | 101 => ⟨S8192x2048, .f32⟩
  | 102 => ⟨S8192x2048, .f32⟩
  | 103 => ⟨S8192x2048, .f32⟩
  | 104 => ⟨S_, .f32⟩
  | 105 => ⟨S8192, .f32⟩
  | 106 => ⟨S8192x1, .f32⟩
  | 107 => ⟨S_, .f32⟩
  | 108 => ⟨S8192x1, .f32⟩
  | 109 => ⟨S8192x1, .f32⟩
  | 110 => ⟨S_, .f32⟩
  | 111 => ⟨S8192x1, .f32⟩
  | 112 => ⟨S8192x1, .f32⟩
  | 113 => ⟨S8192x1, .f32⟩
  | 114 => ⟨S8192x2048, .f32⟩
  | 115 => ⟨S8192x2048, .f32⟩
  | 116 => ⟨S8192x2048, .f32⟩
  | 117 => ⟨S8192x2048, .f32⟩
  | 118 => ⟨S8192x2048, .f32⟩
  | 119 => ⟨S8192x2048, .bf16⟩
  | 120 => ⟨S8192x2048, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x2048, .f32⟩

abbrev hbmTy0_1 (i : Nat) : BufTy := match i % 128 with
  | 0 => ⟨S8192x1, .f32⟩
  | 1 => ⟨S8192x1, .f32⟩
  | 2 => ⟨S8192x1, .f32⟩
  | 3 => ⟨S8192x2048, .f32⟩
  | 4 => ⟨S8192x2048, .f32⟩
  | 5 => ⟨S8192x2048, .f32⟩
  | 6 => ⟨S8192x2048, .f32⟩
  | 7 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_18 : Ref sig .tc := ⟨.hbm, 121, rfl⟩
abbrev main_v92 : Ref sig .tc := ⟨.hbm, 122, rfl⟩
abbrev main_v93 : Ref sig .tc := ⟨.hbm, 123, rfl⟩
abbrev main_cst_19 : Ref sig .tc := ⟨.hbm, 124, rfl⟩
abbrev main_v94 : Ref sig .tc := ⟨.hbm, 125, rfl⟩
abbrev main_v95 : Ref sig .tc := ⟨.hbm, 126, rfl⟩
abbrev main_cst_20 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩

abbrev nD : Nat := 1
abbrev τ : Topo := Topo.v7x

variable {F : FTy → Type} [FloatOps F]
-- ==== Kernel6.lean ====
abbrev S8192x4096 : Shape := ⟨2, ![8192, 4096]⟩
abbrev S3x1024 : Shape := ⟨2, ![3, 1024]⟩
abbrev S4x256x256 : Shape := ⟨3, ![4, 256, 256]⟩
abbrev S1x1024 : Shape := ⟨2, ![1, 1024]⟩
abbrev S4x4x64x256 : Shape := ⟨4, ![4, 4, 64, 256]⟩
abbrev S8192x2048 : Shape := ⟨2, ![8192, 2048]⟩
abbrev S512x1024 : Shape := ⟨2, ![512, 1024]⟩
abbrev S16x1024 : Shape := ⟨2, ![16, 1024]⟩
abbrev S512x2048 : Shape := ⟨2, ![512, 2048]⟩
abbrev S528x1024 : Shape := ⟨2, ![528, 1024]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x1x64x256 : Shape := ⟨4, ![1, 1, 64, 256]⟩
abbrev S64x256 : Shape := ⟨2, ![64, 256]⟩
abbrev S256x256 : Shape := ⟨2, ![256, 256]⟩
abbrev S1x256 : Shape := ⟨2, ![1, 256]⟩

abbrev nBuf : Space → Nat
  | .hbm => 7
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S3x1024, .f32⟩
  | .hbm, ⟨2, _⟩ => ⟨S4x256x256, .f32⟩
  | .hbm, ⟨3, _⟩ => ⟨S1x1024, .f32⟩
  | .hbm, ⟨4, _⟩ => ⟨S4x4x64x256, .f32⟩
  | .hbm, ⟨5, _⟩ => ⟨S4x4x64x256, .f32⟩
  | .hbm, ⟨6, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S3x1024, .f32⟩
  | .local _ .vmem, ⟨15, _⟩ => ⟨S4x4x64x256, .f32⟩
  | .local _ .vmem, ⟨16, _⟩ => ⟨S1x1024, .f32⟩
  | .local _ .vmem, ⟨17, _⟩ => ⟨S512x2048, .bf16⟩
  | .local _ .vmem, ⟨18, _⟩ => ⟨S512x2048, .bf16⟩
  | .local _ .vmem, ⟨19, _⟩ => ⟨S528x1024, .f32⟩
  | .local _ .vmem, ⟨20, _⟩ => ⟨S528x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x4x64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S8192x4096 : Shape := ⟨2, ![8192, 4096]⟩
abbrev S3x1024 : Shape := ⟨2, ![3, 1024]⟩
abbrev S4x256x256 : Shape := ⟨3, ![4, 256, 256]⟩
abbrev S1x1024 : Shape := ⟨2, ![1, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S8192x8x128 : Shape := ⟨3, ![8192, 8, 128]⟩
abbrev S8192x8 : Shape := ⟨2, ![8192, 8]⟩
abbrev S8192x8x1 : Shape := ⟨3, ![8192, 8, 1]⟩
abbrev S8192x4x256 : Shape := ⟨3, ![8192, 4, 256]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S4x256x8192 : Shape := ⟨3, ![4, 256, 8192]⟩
abbrev S8192x4 : Shape := ⟨2, ![8192, 4]⟩
abbrev S8192x4x1 : Shape := ⟨3, ![8192, 4, 1]⟩
abbrev S8192x2048 : Shape := ⟨2, ![8192, 2048]⟩

abbrev nBuf : Space → Nat
  | .hbm => 140
  | .vmem => 0
  | .smem => 0
  | _ => 0

abbrev hbmTy0_0 (i : Nat) : BufTy := match i % 128 with
  | 0 => ⟨S8192x4096, .f32⟩
  | 1 => ⟨S3x1024, .f32⟩
  | 2 => ⟨S4x256x256, .f32⟩
  | 3 => ⟨S1x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S_, .f32⟩
  | 10 => ⟨S2x1024, .f32⟩
  | 11 => ⟨S8194x1024, .f32⟩
  | 12 => ⟨S1x1024, .f32⟩
  | 13 => ⟨S8192x1024, .f32⟩
  | 14 => ⟨S8192x1024, .f32⟩
  | 15 => ⟨S8192x1024, .f32⟩
  | 16 => ⟨S1x1024, .f32⟩
  | 17 => ⟨S8192x1024, .f32⟩
  | 18 => ⟨S8192x1024, .f32⟩
  | 19 => ⟨S8192x1024, .f32⟩
  | 20 => ⟨S8192x1024, .f32⟩
  | 21 => ⟨S1x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x8x128, .f32⟩
  | 28 => ⟨S8192x8x128, .f32⟩
  | 29 => ⟨S_, .f32⟩
  | 30 => ⟨S8192x8, .f32⟩
  | 31 => ⟨S8192x8x1, .f32⟩
  | 32 => ⟨S_, .f32⟩
  | 33 => ⟨S8192x8x1, .f32⟩
  | 34 => ⟨S8192x8x1, .f32⟩
  | 35 => ⟨S_, .f32⟩
  | 36 => ⟨S8192x8x1, .f32⟩
  | 37 => ⟨S8192x8x1, .f32⟩
  | 38 => ⟨S8192x8x1, .f32⟩
  | 39 => ⟨S8192x8x128, .f32⟩
  | 40 => ⟨S8192x8x128, .f32⟩
  | 41 => ⟨S8192x1024, .f32⟩
  | 42 => ⟨S8192x4x256, .f32⟩
  | 43 => ⟨S_, .f32⟩
  | 44 => ⟨S_, .f32⟩
  | 45 => ⟨S8192x4x256, .f32⟩
  | 46 => ⟨S8192, .i32⟩
  | 47 => ⟨S_, .i32⟩
  | 48 => ⟨S8192, .i32⟩
  | 49 => ⟨S8192, .i32⟩
  | 50 => ⟨S8192, .f32⟩
  | 51 => ⟨S8192x1x256, .f32⟩
  | 52 => ⟨S8192x256, .f32⟩
  | 53 => ⟨S_, .f32⟩
  | 54 => ⟨S2x256, .f32⟩
  | 55 => ⟨S8190x256, .f32⟩
  | 56 => ⟨S8192x256, .f32⟩
  | 57 => ⟨S_, .f32⟩
  | 58 => ⟨S8192, .f32⟩
  | 59 => ⟨S8192, .f32⟩
  | 60 => ⟨S8192x1, .f32⟩
  | 61 => ⟨S8192x256, .f32⟩
  | 62 => ⟨S8192x256, .f32⟩
  | 63 => ⟨S8192x256, .f32⟩
  | 64 => ⟨S8192x1x256, .f32⟩
  | 65 => ⟨S8192x256, .f32⟩
  | 66 => ⟨S8192x256, .f32⟩
  | 67 => ⟨S8192x1x256, .f32⟩
  | 68 => ⟨S8192x256, .f32⟩
  | 69 => ⟨S_, .f32⟩
  | 70 => ⟨S4x256, .f32⟩
  | 71 => ⟨S8188x256, .f32⟩
  | 72 => ⟨S8192x256, .f32⟩
  | 73 => ⟨S_, .f32⟩
  | 74 => ⟨S8192, .f32⟩
  | 75 => ⟨S8192, .f32⟩
  | 76 => ⟨S8192x1, .f32⟩
  | 77 => ⟨S8192x256, .f32⟩
  | 78 => ⟨S8192x256, .f32⟩
  | 79 => ⟨S8192x256, .f32⟩
  | 80 => ⟨S8192x1x256, .f32⟩
  | 81 => ⟨S8192x256, .f32⟩
  | 82 => ⟨S8192x256, .f32⟩
  | 83 => ⟨S8192x1x256, .f32⟩
  | 84 => ⟨S8192x256, .f32⟩
  | 85 => ⟨S_, .f32⟩
  | 86 => ⟨S8x256, .f32⟩
  | 87 => ⟨S8184x256, .f32⟩
  | 88 => ⟨S8192x256, .f32⟩
  | 89 => ⟨S_, .f32⟩
  | 90 => ⟨S8192, .f32⟩
  | 91 => ⟨S8192, .f32⟩
  | 92 => ⟨S8192x1, .f32⟩
  | 93 => ⟨S8192x256, .f32⟩
  | 94 => ⟨S8192x256, .f32⟩
  | 95 => ⟨S8192x256, .f32⟩
  | 96 => ⟨S8192x1x256, .f32⟩
  | 97 => ⟨S8192x256, .f32⟩
  | 98 => ⟨S8192x256, .f32⟩
  | 99 => ⟨S8192x1x256, .f32⟩
  | 100 => ⟨S8192x256, .f32⟩
  | 101 => ⟨S_, .f32⟩
  | 102 => ⟨S16x256, .f32⟩
  | 103 => ⟨S8176x256, .f32⟩
  | 104 => ⟨S8192x256, .f32⟩
  | 105 => ⟨S_, .f32⟩
  | 106 => ⟨S8192, .f32⟩
  | 107 => ⟨S8192, .f32⟩
  | 108 => ⟨S8192x1, .f32⟩
  | 109 => ⟨S8192x256, .f32⟩
  | 110 => ⟨S8192x256, .f32⟩
  | 111 => ⟨S8192x256, .f32⟩
  | 112 => ⟨S8192x1x256, .f32⟩
  | 113 => ⟨S8192x256, .f32⟩
  | 114 => ⟨S8192x256, .f32⟩
  | 115 => ⟨S8192x1x256, .f32⟩
  | 116 => ⟨S8192x1x256, .f32⟩
  | 117 => ⟨S8192x1x256, .f32⟩
  | 118 => ⟨S8192x1x256, .f32⟩
  | 119 => ⟨S8192x4x256, .f32⟩
  | 120 => ⟨S4x256x8192, .f32⟩
  | 121 => ⟨S8192x4x256, .f32⟩
  | 122 => ⟨S8192x4x256, .f32⟩
  | 123 => ⟨S_, .f32⟩
  | 124 => ⟨S8192x4, .f32⟩
  | 125 => ⟨S8192x4x1, .f32⟩
  | 126 => ⟨S_, .f32⟩
  | 127 => ⟨S8192x4x1, .f32⟩
  | _ => ⟨S8192x4096, .f32⟩

abbrev hbmTy0_1 (i : Nat) : BufTy := match i % 128 with
  | 0 => ⟨S8192x4x1, .f32⟩
  | 1 => ⟨S_, .f32⟩
  | 2 => ⟨S8192x4x1, .f32⟩
  | 3 => ⟨S8192x4x1, .f32⟩
  | 4 => ⟨S8192x4x1, .f32⟩
  | 5 => ⟨S8192x4x256, .f32⟩
  | 6 => ⟨S8192x4x256, .f32⟩
  | 7 => ⟨S8192x1024, .f32⟩
  | 8 => ⟨S8192x1024, .f32⟩
  | 9 => ⟨S8192x1024, .f32⟩
  | 10 => ⟨S8192x2048, .f32⟩
  | 11 => ⟨S8192x2048, .bf16⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_call0_cst : Ref sig .tc := ⟨.hbm, 43, rfl⟩
abbrev main_call0_call0_v0 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_7 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_9 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_10 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_11 : Ref sig .tc := ⟨.hbm, 123, rfl⟩
abbrev main_v104 : Ref sig .tc := ⟨.hbm, 124, rfl⟩
abbrev main_v105 : Ref sig .tc := ⟨.hbm, 125, rfl⟩
abbrev main_cst_12 : Ref sig .tc := ⟨.hbm, 126, rfl⟩
abbrev main_v106 : Ref sig .tc := ⟨.hbm, 127, rfl⟩
abbrev main_v107 : Ref sig .tc := ⟨.hbm, 128, rfl⟩
abbrev main_cst_13 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩

abbrev nD : Nat := 1
abbrev τ : Topo := Topo.v7x

variable {F : FTy → Type} [FloatOps F]
-- ==== Kernel7.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Dma.Whole.lean ====
module

public import Idealize.ShloMosaic.Lib.Pipeline.FrameValue
public import Idealize.ShloMosaic.Lib.Tactic
public import Idealize.ShloMosaic.Lib.Pipeline.ValueKit.Tiles
public import Idealize.ShloMosaic.Lib.WholeRead

@[expose] public section

/-! Whole buffers under loads, stores and copies of all of them. -/

namespace Cert.Dma

open Idealize.ShloMosaic

variable {sig : RefSig} {κ : Kind} {sp : Space} {s : Shape} {e : EltTy} {Val : EltTy → Type}

/-- A rectangle at offset zero with the whole shape's sizes places each index at itself. -/
theorem unit_zero_val {off : Fin s.rank → ℕ} (h0 : ∀ a, off a = 0) (inb) (y : (Rect.unit (s := s) off s.size inb).shape.Idx) (a : Fin s.rank) :
    ((Rect.unit (s := s) off s.size inb).emb y a).val = (y a).val := by
  refine (Rect.idx_unit_val _ _ _ _ _).trans ?_
  rw [h0]; exact Nat.zero_add _

/-- One store over a whole view leaves the payload. -/
theorem read_store (v : View sig κ sp s e) (f : v.ty.Contents Val) {off : Fin s.rank → ℕ} (h0 : ∀ a, off a = 0) (inb) (w : s.Idx → Val e) (L) :
    v.read Val (v.writes Val f (⟨Rect.unit (s := s) off s.size inb, w⟩ :: L)) = w := by
  funext y
  have h := View.read_writes_cons_emb v f (Rect.unit (s := s) off s.size inb) w L y
  rwa [show (Rect.unit (s := s) off s.size inb).emb y = y from funext fun a => Fin.ext (unit_zero_val h0 inb y a)] at h

/-- One load of a whole buffer reads its contents. -/
theorem load_unread {m : Memref sig κ sp s e} (hw : m.IsWhole) (x : s.Idx → Val e) {off : Fin s.rank → ℕ} (h0 : ∀ a, off a = 0) (inb) :
    View.readAt Val m.view (Rect.unit (s := s) off s.size inb).toLoadRect (hw.unread x) = x := by
  funext y
  rw [hw.readAt_unread]
  exact congrArg x (funext fun a => Fin.ext (unit_zero_val h0 inb y a))

/-- A copy over a whole view leaves what was copied. -/
theorem read_copy (v : View sig κ sp s e) (f : v.ty.Contents Val) (w : s.Idx → Val e) :
    v.read Val (v.write Val f w Finset.univ) = w :=
  View.read_write_univ f w

/-- One store over a whole buffer leaves the payload. -/
theorem store_whole (b : Ref sig κ) (f : b.ty.Contents Val) {off : Fin b.ty.shape.rank → ℕ} (h0 : ∀ a, off a = 0) (inb) (w : b.ty.shape.Idx → Val b.ty.elt) (L) :
    (Memref.whole b).view.writes Val f (⟨Rect.unit (s := b.ty.shape) off b.ty.shape.size inb, w⟩ :: L) = w := by
  have h := read_store (Memref.whole b).view f h0 inb w L
  exact h

/-- A copy over a whole buffer leaves what was copied. -/
theorem copy_whole (b : Ref sig κ) (f : b.ty.Contents Val) (w : b.ty.shape.Idx → Val b.ty.elt) :
    (Memref.whole b).view.write Val f w Finset.univ = w := by
  have h := read_copy (Memref.whole b).view f w
  exact h

end Cert.Dma
-- ==== Proof.Dh.RunA.lean ====
module

public import proofs.«01_k».proof.Proof.Gen.Kernel3Ideal.Frame
public import proofs.«01_k».proof.Proof.Dma.Whole
public import proofs.«01_k».proof.Proof.Gen.Kernel3Ideal.Skeleton
public import Idealize.ShloMosaic.Lib.Pipeline.FrameValue
public import Idealize.ShloMosaic.Lib.WordCmp
public import Idealize.ShloMosaic.Lib.Tactic
public import Idealize.ShloMosaic.Lib.Ring

@[expose] public section

set_option maxRecDepth 16384

noncomputable section

namespace Cert.Dh

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev condA (i : grid0.Coords) : Prop := k0_cond1 i = 1#1
abbrev condF (i : grid0.Coords) : Prop := k0_cond4 i = 1#1

abbrev cond2 (i : grid0.Coords) : Prop := (Scalar.cmpi .ne (Scalar.extui (Scalar.cmpi .eq (BitVec.ofNat 32 (i 2).val) 0#32) : BitVec 32) 0#32) = 1#1
abbrev cond3 (i : grid0.Coords) : Prop := (Scalar.cmpi .ne (Scalar.extui (Scalar.cmpi .sgt (BitVec.ofNat 32 (i 2).val) 0#32) : BitVec 32) 0#32) = 1#1

abbrev accM : Memref sig .tc .vmem S1024x2048 .f32 := Memref.whole cc0_scratch0
abbrev xM : Memref sig .tc .vmem S1024x2048 .f32 := Memref.whole cc0_scratch1
abbrev dxM : Memref sig .tc .vmem S1024x2048 .f32 := Memref.whole cc0_scratch2
abbrev ringM : Memref sig .tc .vmem S2x256x2048 .f32 := Memref.whole cc0_scratch3
abbrev xsH : Memref sig .tc .hbm S8192x2048 .f32 := Memref.whole main_arg0
abbrev dx1H : Memref sig .tc .hbm S8192x2048 .f32 := Memref.whole main_arg4
abbrev gxH : Memref sig .tc .hbm S8192x2048 .f32 := Memref.whole main_v4_0

/-- A memref's buffer held whole at `f`. -/
abbrev whole (c : Dev nD) {sp : Space} {S : Shape} {e : EltTy} (M : Memref sig .tc sp S e) (f : Buf (Elt F) (M.view.loc (c : Thread nD τ))) : sProp 𝕄 :=
  M.view.loc (c : Thread nD τ) ↦{fullShare} f

abbrev cell (c : Dev nD) (n : DmaSem sig) : sProp 𝕄 := semVal ((c : Thread nD τ), SemLoc.dma n) 0

/-- The elements of a row block of an array left in HBM, as the block's copy names them. -/
abbrev blkSet (i : grid0.Coords) (h : condA i) : Finset S8192x2048.Idx :=
  (xsH.slice (Rect.unit (s := S8192x2048) (k0_off1 i) S1024x2048.size (k0_off1_inb i h)) (fun _ => rfl)).view.set
/-- The block's contents. -/
abbrev blkOf (i : grid0.Coords) (h : condA i) (A : S8192x2048.Idx → Elt F .f32) : S1024x2048.Idx → Elt F .f32 :=
  (xsH.slice (Rect.unit (s := S8192x2048) (k0_off1 i) S1024x2048.size (k0_off1_inb i h)) (fun _ => rfl)).view.read (Elt F) A

/-- The two row blocks under way: each delivers its buffer filled, and its block of the array back. -/
def fetching (c : Dev nD) (i : grid0.Coords) (h : condA i) (A0 A4 : S8192x2048.Idx → Elt F .f32) : sProp 𝕄 :=
  iprop(Transfers.Flight countersEmb (c : Thread nD τ) (SemLoc.dma 6) () 262144
      iprop(whole c xM (blkOf i h A0) ∗ (xsH.view.loc (c : Thread nD τ) ↦[blkSet i h]{fullShare} A0))
    ∗ Transfers.Flight countersEmb (c : Thread nD τ) (SemLoc.dma 8) () 262144
      iprop(whole c dxM (blkOf i h A4) ∗ (dx1H.view.loc (c : Thread nD τ) ↦[blkSet i h]{fullShare} A4))
    ∗ (xsH.view.loc (c : Thread nD τ) ↦[Finset.univ \ blkSet i h]{fullShare} A0)
    ∗ (dx1H.view.loc (c : Thread nD τ) ↦[Finset.univ \ blkSet i h]{fullShare} A4))

theorem z2 : ∀ a : Fin 2, (![0, 0] : Fin 2 → ℕ) a = 0 := by decide
theorem z3 : ∀ a : Fin 3, (![0, 0, 0] : Fin 3 → ℕ) a = 0 := by decide

set_option maxHeartbeats 1000000 in
theorem runA (c : Dev nD) (i : grid0.Coords) (arg3 : Memref sig .tc .vmem S1024x1024 .bf16) (harg3 : arg3.IsWhole) (arg4 : Memref sig .tc .vmem S1x2048x1024 .bf16) (harg4 : arg4.IsWhole)
    (arg7 : Memref sig .tc .vmem S1x2048 .f32) (harg7 : arg7.IsWhole) (arg9 : Memref sig .tc .vmem S1x2048 .f32) (harg9 : arg9.IsWhole)
    (h1 : condA i) (h2 : cond2 i) (h3 : ¬ cond3 i) (h4 : ¬ condF i)
    (x0 : Vec F S1024x1024 .bf16) (x1 : Vec F S1x2048x1024 .bf16)
    (fa fx fd : S1024x2048.Idx → Elt F .f32) (A0 A4 : S8192x2048.Idx → Elt F .f32)
    (W : Waits sig Unit) (K : PUnit → sProp 𝕄) :
    iprop(owns (c : Thread nD τ) arg3 fullShare x0 ∗ owns (c : Thread nD τ) arg4 fullShare x1
      ∗ whole c accM fa ∗ whole c xM fx ∗ whole c dxM fd ∗ cell c 6 ∗ cell c 8 ∗ whole c xsH A0 ∗ whole c dx1H A4
      ∗ owes (c : Thread nD τ) 0 W ∗ (iprop(owns (c : Thread nD τ) arg3 fullShare x0 ∗ owns (c : Thread nD τ) arg4 fullShare x1 ∗ whole c accM (k0_pay1 x0 x1) ∗ fetching c i h1 A0 A4 ∗ owes (c : Thread nD τ) 0 W) -∗ K ⟨⟩))
    ⊢ wp frame (wpE (defs₀ (F := F)) Variants.none c none) Set.univ
        (cc0_dh i arg3 harg3 arg4 harg4 xsH (Memref.isWhole_whole _) dx1H (Memref.isWhole_whole _) arg7 harg7 gxH (Memref.isWhole_whole _) arg9 harg9
          accM (Memref.isWhole_whole _) xM (Memref.isWhole_whole _) dxM (Memref.isWhole_whole _) ringM (Memref.isWhole_whole _) cc0_scratch4) K := by
  simp only [cc0_dh_eq_skeleton]; unfold cc0_dh_skel
  unfold owns
  iintro ⟨⟨%f0, %hf0, H0⟩, ⟨%f1, %hf1, H1⟩, Ha, Hx, Hd, Hq0, Hq1, HA0, HA4, HW, Hk⟩
  obtain rfl := harg3.eq_unread hf0; obtain rfl := harg4.eq_unread hf1
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  rw [Dma.load_unread harg3 x0 z2, Dma.load_unread harg4 x1 z3]
  isplitl [Ha]
  · rw [show accM.view.writes (Elt F) fa [⟨Rect.unit ![0, 0] S1024x2048.size inb_S1024x2048_S1024x2048_0_0, k0_pay1 x0 x1⟩] = k0_pay1 x0 x1 from Dma.store_whole cc0_scratch0 fa z2 _ _ _]
    iexact Ha
  unfold fetching
  rw [show View.write (Elt F) xM.view fx (runA.sl.dma0 i h1 A0) Finset.univ = blkOf i h1 A0 from Dma.copy_whole cc0_scratch1 fx _]
  rw [show View.write (Elt F) dxM.view fd (runA.sl.dma0_1 i h1 A4) Finset.univ = blkOf i h1 A4 from Dma.copy_whole cc0_scratch2 fd _]
  isplitl [Hq0 Hq1 HA0 HA4]
  · iframe Hq0 Hq1 HA0 HA4
  iexact HW

end Cert.Dh
-- ==== Proof.Dma.Rows.lean ====
module

public import proofs.«01_k».proof.Proof.Dma.Whole
public import Idealize.ShloMosaic.Lib.VecWindow
public import Idealize.ShloMosaic.Lib.WritesUnit
public import Idealize.ShloMosaic.Lib.Pointwise
public import Idealize.ShloMosaic.Lib.ValueLayout

@[expose] public section

/-! Row blocks of a buffer: 64 rows at a time into a slot of a two-slot buffer, and 256 rows at a time out of it. -/

namespace Cert.Dma

open Idealize.ShloMosaic

variable {sig : RefSig} {κ : Kind} {sp : Space} {e : EltTy} {Val : EltTy → Type}

/-- Four stores of 64 rows fill a slot with the table they are the rows of. -/
theorem slot_read {C : ℕ} (v : View sig κ sp (⟨3, ![2, 256, C]⟩ : Shape) e) (f : v.ty.Contents Val) (s : ℕ) (hs : s < 2) {inb0 inb1 inb2 inb3}
    (w0 w1 w2 w3 : (⟨3, ![1, 64, C]⟩ : Shape).Idx → Val e) (L) (T : Fin 256 → Fin C → Val e)
    (h0 : ∀ (a : Fin 64) b, w0 (ix3 0 a b) = T ⟨a.val, by omega⟩ b) (h1 : ∀ (a : Fin 64) b, w1 (ix3 0 a b) = T ⟨64 + a.val, by omega⟩ b)
    (h2 : ∀ (a : Fin 64) b, w2 (ix3 0 a b) = T ⟨128 + a.val, by omega⟩ b) (h3 : ∀ (a : Fin 64) b, w3 (ix3 0 a b) = T ⟨192 + a.val, by omega⟩ b)
    (a : Fin 256) (b : Fin C) :
    v.read Val (v.writes Val f (⟨Rect.unit (s := ⟨3, ![2, 256, C]⟩) ![s, 192, 0] ![1, 64, C] inb3, w3⟩ :: ⟨Rect.unit (s := ⟨3, ![2, 256, C]⟩) ![s, 128, 0] ![1, 64, C] inb2, w2⟩
      :: ⟨Rect.unit (s := ⟨3, ![2, 256, C]⟩) ![s, 64, 0] ![1, 64, C] inb1, w1⟩ :: ⟨Rect.unit (s := ⟨3, ![2, 256, C]⟩) ![s, 0, 0] ![1, 64, C] inb0, w0⟩ :: L)) (ix3 ⟨s, hs⟩ a b) = T a b := by
  have key : ∀ (o : ℕ) (inb) (w : (⟨3, ![1, 64, C]⟩ : Shape).Idx → Val e) (L') (ho : o + 64 ≤ 256), (∀ (a : Fin 64) b, w (ix3 0 a b) = T ⟨o + a.val, by omega⟩ b) →
      (¬(o ≤ a.val ∧ a.val < o + 64) → v.read Val (v.writes Val f L') (ix3 ⟨s, hs⟩ a b) = T a b) →
      v.read Val (v.writes Val f (⟨Rect.unit (s := ⟨3, ![2, 256, C]⟩) ![s, o, 0] ![1, 64, C] inb, w⟩ :: L')) (ix3 ⟨s, hs⟩ a b) = T a b := by
    intro o inb w L' ho hw hL
    by_cases h : o ≤ a.val ∧ a.val < o + 64
    · refine (View.read_writes_cons_unit_of_mem v f inb w L' _ (ix3 0 ⟨a.val - o, by omega⟩ b) rfl ?_).trans ((hw _ _).trans ?_)
      · intro t
        fin_cases t
        · rfl
        · show a.val = o + (a.val - o); omega
        · exact (Nat.zero_add _).symm
      · congr 1; apply Fin.ext; show o + (a.val - o) = a.val; omega
    · refine (View.read_writes_cons_unit_of_not_mem v f inb w L' _ rfl (1 : Fin 3) ?_).trans (hL h)
      show a.val < o ∨ o + 64 ≤ a.val
      omega
  have ha := a.isLt
  refine key 192 _ _ _ (by omega) h3 fun c3 => key 128 _ _ _ (by omega) h2 fun c2 => key 64 _ _ _ (by omega) h1 fun c1 => key 0 _ _ _ (by omega) ?_ fun c0 => absurd c0 (by omega)
  intro a b
  rw [h0]
  congr 1; apply Fin.ext; exact (Nat.zero_add _).symm

/-- A table of rows put into an array from row `o` on. -/
def putRows {α : Type} {N R C : ℕ} (o : ℕ) (T : Fin R → Fin C → α) (f : (⟨2, ![N, C]⟩ : Shape).Idx → α) : (⟨2, ![N, C]⟩ : Shape).Idx → α :=
  fun y => if h : o ≤ (y 0).val ∧ (y 0).val < o + R then T ⟨(y 0).val - o, by omega⟩ (y 1) else f y

/-- Four copies of 256 rows put a table of 1024 rows. -/
theorem slabs_read {N C : ℕ} (v : View sig κ sp (⟨2, ![N, C]⟩ : Shape) e) (f : v.ty.Contents Val) (n : ℕ) {off0 off1 off2 off3 : Fin 2 → ℕ} {inb0 inb1 inb2 inb3}
    (w0 w1 w2 w3 : (⟨2, ![256, C]⟩ : Shape).Idx → Val e) (T : Fin 1024 → Fin C → Val e)
    (e0 : off0 = ![n, 0]) (e1 : off1 = ![n + 256, 0]) (e2 : off2 = ![n + 512, 0]) (e3 : off3 = ![n + 768, 0])
    (h0 : ∀ (a : Fin 256) b, w0 (ix2 a b) = T ⟨a.val, by omega⟩ b) (h1 : ∀ (a : Fin 256) b, w1 (ix2 a b) = T ⟨256 + a.val, by omega⟩ b)
    (h2 : ∀ (a : Fin 256) b, w2 (ix2 a b) = T ⟨512 + a.val, by omega⟩ b) (h3 : ∀ (a : Fin 256) b, w3 (ix2 a b) = T ⟨768 + a.val, by omega⟩ b) :
    v.read Val (v.writes Val f [⟨Rect.unit (s := ⟨2, ![N, C]⟩) off3 ![256, C] inb3, w3⟩, ⟨Rect.unit (s := ⟨2, ![N, C]⟩) off2 ![256, C] inb2, w2⟩,
      ⟨Rect.unit (s := ⟨2, ![N, C]⟩) off1 ![256, C] inb1, w1⟩, ⟨Rect.unit (s := ⟨2, ![N, C]⟩) off0 ![256, C] inb0, w0⟩]) = putRows n T (v.read Val f) := by
  funext y
  have key : ∀ (o : ℕ) (off : Fin 2 → ℕ) (inb) (w : (⟨2, ![256, C]⟩ : Shape).Idx → Val e) (L') (ho : o + 256 ≤ 1024), off = ![n + o, 0] →
      (∀ (a : Fin 256) b, w (ix2 a b) = T ⟨o + a.val, by omega⟩ b) →
      (¬(n + o ≤ (y 0).val ∧ (y 0).val < n + o + 256) → v.read Val (v.writes Val f L') y = putRows n T (v.read Val f) y) →
      v.read Val (v.writes Val f (⟨Rect.unit (s := ⟨2, ![N, C]⟩) off ![256, C] inb, w⟩ :: L')) y = putRows n T (v.read Val f) y := by
    intro o off inb w L' ho hoff hw hL
    by_cases h : n + o ≤ (y 0).val ∧ (y 0).val < n + o + 256
    · refine (View.read_writes_cons_rows_of_mem v f inb w L' _ (ix2 ⟨(y 0).val - (n + o), by omega⟩ (y 1)) hoff ?_ rfl).trans ((hw _ _).trans ?_)
      · show (y 0).val = n + o + ((y 0).val - (n + o)); omega
      · unfold putRows
        rw [dif_pos (by omega)]
        congr 1; apply Fin.ext; show o + ((y 0).val - (n + o)) = (y 0).val - n; omega
    · exact (View.read_writes_cons_rows_of_not_mem (W := 256) v f inb w L' _ hoff rfl (by omega)).trans (hL h)
  refine key 768 _ _ _ _ (by omega) e3 h3 fun c3 => key 512 _ _ _ _ (by omega) e2 h2 fun c2 => key 256 _ _ _ _ (by omega) e1 h1 fun c1 => key 0 _ _ _ _ (by omega) e0 ?_ fun c0 => ?_
  · intro a b
    rw [h0]
    congr 1; apply Fin.ext; exact (Nat.zero_add _).symm
  · unfold putRows
    rw [dif_neg (by omega)]; rfl

/-- The rows of a table from row `o` on. -/
def rowsAt {α : Type} {N R C : ℕ} (f : (⟨2, ![N, C]⟩ : Shape).Idx → α) (o : ℕ) (h : o + R ≤ N) : (⟨2, ![R, C]⟩ : Shape).Idx → α :=
  fun y => f (ix2 ⟨o + (y 0).val, Nat.lt_of_lt_of_le (Nat.add_lt_add_left (y 0).isLt o) h⟩ (y 1))

theorem rows_idx {N R C : ℕ} (o : ℕ) (h : o + R ≤ N) (inb) (y : (⟨2, ![R, C]⟩ : Shape).Idx) :
    (Rect.unit (s := ⟨2, ![N, C]⟩) ![o, 0] ![R, C] inb).toLoadRect.idx y = ix2 ⟨o + (y 0).val, Nat.lt_of_lt_of_le (Nat.add_lt_add_left (y 0).isLt o) h⟩ (y 1) := by
  funext t
  apply Fin.ext
  refine (Rect.idx_unit_val _ _ _ _ _).trans ?_
  fin_cases t
  · rfl
  · exact Nat.zero_add _

/-- A load of rows reads the rows. -/
theorem load_rows {N R C : ℕ} (v : View sig κ sp (⟨2, ![N, C]⟩ : Shape) e) (f : v.ty.Contents Val) (o : ℕ) (h : o + R ≤ N) (inb) :
    View.readAt Val v (Rect.unit (s := ⟨2, ![N, C]⟩) ![o, 0] ![R, C] inb).toLoadRect f = rowsAt (v.read Val f) o h := by
  funext y
  exact congrArg (v.read Val f) (rows_idx o h inb y)

/-- A load of rows after one store over all of the buffer reads the rows stored. -/
theorem load_rows_stored {N R C : ℕ} [∀ e, Nonempty (Val e)] (v : View sig κ sp (⟨2, ![N, C]⟩ : Shape) e) {off : Fin 2 → ℕ} (h0 : ∀ a, off a = 0) (inb') (w : (⟨2, ![N, C]⟩ : Shape).Idx → Val e) (L) (o : ℕ) (h : o + R ≤ N) (inb) :
    v.readCov (⟨Rect.unit (s := ⟨2, ![N, C]⟩) off ![N, C] inb', w⟩ :: L) (Rect.unit (s := ⟨2, ![N, C]⟩) ![o, 0] ![R, C] inb).toLoadRect = rowsAt w o h := by
  refine (load_rows v _ o h inb).trans ?_
  exact congrArg (fun g => rowsAt g o h) (read_store v _ h0 inb' w L)

/-- A slot of a two-slot buffer, read as the matrix it is. -/
theorem slot_view {C : ℕ} (M : Memref sig κ sp (⟨3, ![2, 256, C]⟩ : Shape) e) (f : M.view.ty.Contents Val) (s : ℕ) (hs : s < 2) (inb) (hr)
    (hq : (⟨3, ![1, 256, C]⟩ : Shape).Squeezes ⟨2, ![256, C]⟩) (a : Fin 256) (b : Fin C) :
    ((M.slice (Rect.unit (s := ⟨3, ![2, 256, C]⟩) ![s, 0, 0] ![1, 256, C] inb) hr).squeeze ⟨2, ![256, C]⟩ hq).view.read Val f (ix2 a b) = M.view.read Val f (ix3 ⟨s, hs⟩ a b) := by
  have h1 : ((M.slice (Rect.unit (s := ⟨3, ![2, 256, C]⟩) ![s, 0, 0] ![1, 256, C] inb) hr).squeeze ⟨2, ![256, C]⟩ hq).view.read Val f (ix2 a b)
      = M.view.read Val f ((Rect.unit (s := ⟨3, ![2, 256, C]⟩) ![s, 0, 0] ![1, 256, C] inb).emb (Shape.reshapeEquiv hq.numel_eq (ix2 a b))) := rfl
  refine h1.trans ((congrArg (fun z => M.view.read Val f ((Rect.unit (s := ⟨3, ![2, 256, C]⟩) ![s, 0, 0] ![1, 256, C] inb).emb z)) (ValueIdx.reshapeEquiv_ix2_1ab hq.numel_eq a b)).trans ?_)
  congr 1
  funext t
  apply Fin.ext
  rw [Rect.emb_apply]
  match t with
  | ⟨0, _⟩ => exact Nat.add_zero s
  | ⟨1, _⟩ => show 0 + 1 * a.val = a.val; omega
  | ⟨2, _⟩ => show 0 + 1 * b.val = b.val; omega

end Cert.Dma
-- ==== Proof.Dh.Rows.lean ====
module

public import proofs.«01_k».proof.Proof.Dh.RunA
public import proofs.«01_k».proof.Proof.Dma.Rows
public import Idealize.ShloMosaic.Lib.Pointwise

@[expose] public section

set_option maxRecDepth 16384

noncomputable section

/-! What the epilogue writes, 64 rows at a time. -/

namespace Cert.Dh

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev cond5 (i : grid0.Coords) : Prop := k0_cond5 i = 1#1
abbrev cond6 (i : grid0.Coords) : Prop := k0_cond6 i = 1#1

/-! ## What the epilogue writes -/

/-- The gradient's rows of a piece of 64 rows. -/
def chunk (A X D : Vec F S1024x2048 .f32) (g : Vec F S1x2048 .f32) (q : ℕ) (hq : q < 16) : FVec F S64x2048 .f32 :=
  k0_pay5 (Dma.rowsAt A (64 * q) (by omega)) (Dma.rowsAt X (64 * q) (by omega)) (Dma.rowsAt D (64 * q) (by omega)) g

/-- The gradient's rows of a row block. -/
def table (A X D : Vec F S1024x2048 .f32) (g : Vec F S1x2048 .f32) : Fin 1024 → Fin 2048 → Elt F .f32 :=
  fun r b => chunk A X D g (r.val / 64) (by omega) (ix2 ⟨r.val % 64, by omega⟩ b)

/-- The first piece's part of the gain's gradient, on top of what the earlier row blocks left. -/
def start (i : grid0.Coords) (A X : Vec F S1024x2048 .f32) (prev : Vec F S1x2048 .f32) : Vec F S1x2048 .f32 :=
  if k0_cond5 i = 1#1 then k0_pay6 (Dma.rowsAt A 0 (by omega)) (k0_pay4 (Dma.rowsAt X 0 (by omega)))
  else k0_pay8 (Dma.rowsAt A 0 (by omega)) (k0_pay4 (Dma.rowsAt X 0 (by omega))) prev

/-- The gain's gradient after a number of further pieces. -/
def gains (A X : Vec F S1024x2048 .f32) (st : Vec F S1x2048 .f32) : (n : ℕ) → n < 16 → Vec F S1x2048 .f32
  | 0, _ => st
  | n + 1, h => k0_pay8 (Dma.rowsAt A (64 * (n + 1)) (by omega)) (k0_pay4 (Dma.rowsAt X (64 * (n + 1)) (by omega))) (gains A X st n (by omega))

theorem chunk_of (A X D : Vec F S1024x2048 .f32) (g : Vec F S1x2048 .f32) (q : ℕ) (hq : q < 16) (W : FVec F S1x64x2048 .f32)
    (hW : W = k0_pay7 (chunk A X D g q hq)) (r : Fin 1024) (a : Fin 64) (b : Fin 2048) (hr : r.val = 64 * q + a.val) :
    W (ix3 0 a b) = table A X D g r b := by
  subst hW
  have e1 : r.val / 64 = q := by omega
  have e2 : r.val % 64 = a.val := by omega
  have e3 : k0_pay7 (chunk A X D g q hq) (ix3 0 a b) = chunk A X D g q hq (ix2 a b) := by
    pointwise [k0_pay7]
  rw [e3]
  unfold table
  subst e1
  congr 2
  exact Fin.ext e2.symm

/-- The newest store of a row of 2048 numbers is of `w`. -/
def Top (L : List (View.Piece (Elt F) S1x2048 .f32)) (w : Vec F S1x2048 .f32) : Prop :=
  ∃ inb L', L = ⟨Rect.unit (s := S1x2048) ![0, 0] S1x2048.size inb, w⟩ :: L'

theorem Top.read {L : List (View.Piece (Elt F) S1x2048 .f32)} {w} (ht : Top L w) (v : View sig .tc .vmem S1x2048 .f32) (f) : v.read (Elt F) (v.writes (Elt F) f L) = w := by
  obtain ⟨inb, L', rfl⟩ := ht
  exact View.read_writes_full v f inb w L'

/-- The calculation's list of stores into the accumulator, when all it holds is one store of all of it. -/
def Acc (L : List (View.Piece (Elt F) S1024x2048 .f32)) (A : Vec F S1024x2048 .f32) : Prop :=
  ∃ inb, L = [⟨Rect.unit (s := S1024x2048) ![0, 0] S1024x2048.size inb, A⟩]

theorem Acc.rows {L : List (View.Piece (Elt F) S1024x2048 .f32)} {A} (h : Acc L A) (o : ℕ) (ho : o + 64 ≤ 1024) (inb) :
    accM.view.readCov L (Rect.unit (s := S1024x2048) ![o, 0] S64x2048.size inb).toLoadRect = Dma.rowsAt A o ho := by
  obtain ⟨inb0, rfl⟩ := h
  exact Dma.load_rows_stored accM.view z2 inb0 A [] o ho inb

theorem rows_inb (q : ℕ) (hq : q < 16) : ∀ a, (![64 * q, 0] : Fin 2 → ℕ) a + S64x2048.size a ≤ S1024x2048.size a := by
  intro a
  fin_cases a
  · show 64 * q + 64 ≤ 1024; omega
  · exact le_refl 2048

theorem chunk_run {L : List (View.Piece (Elt F) S1024x2048 .f32)} {A} (h : Acc L A) (X D : Vec F S1024x2048 .f32) {m : Memref sig .tc .vmem S1x2048 .f32} (hm : m.IsWhole) (g : Vec F S1x2048 .f32)
    (q : ℕ) (hq : q < 16) (W : FVec F S1x64x2048 .f32)
    (hW : W = k0_pay7 (k0_pay5 (accM.view.readCov L (Rect.unit (s := S1024x2048) ![64 * q, 0] S64x2048.size (rows_inb q hq)).toLoadRect)
      (xM.view.readAt (Elt F) (Rect.unit (s := S1024x2048) ![64 * q, 0] S64x2048.size (rows_inb q hq)).toLoadRect X)
      (dxM.view.readAt (Elt F) (Rect.unit (s := S1024x2048) ![64 * q, 0] S64x2048.size (rows_inb q hq)).toLoadRect D)
      (m.view.readAt (Elt F) (Rect.unit (s := S1x2048) ![0, 0] S1x2048.size inb_S1x2048_S1x2048_0_0).toLoadRect (hm.unread g))))
    (r : Fin 1024) (a : Fin 64) (b : Fin 2048) (hr : r.val = 64 * q + a.val) :
    W (ix3 0 a b) = table A X D g r b := by
  refine chunk_of A X D g q hq W ?_ r a b hr
  rw [hW, h.rows _ (by omega), Dma.load_unread hm g z2]
  exact congrArg₂ (fun x d => k0_pay7 (k0_pay5 _ x d g)) (Dma.load_rows xM.view X (64 * q) (by omega) (rows_inb q hq)) (Dma.load_rows dxM.view D (64 * q) (by omega) (rows_inb q hq))

theorem start_first {i : grid0.Coords} (h5 : cond5 i) {La : List (View.Piece (Elt F) S1024x2048 .f32)} {A} (hA : Acc La A) (X : Vec F S1024x2048 .f32) (prev : Vec F S1x2048 .f32)
    (L : List (View.Piece (Elt F) S1x2048 .f32))
    (hL : L = [⟨Rect.unit (s := S1x2048) ![0, 0] S1x2048.size inb_S1x2048_S1x2048_0_0, k0_pay6
      (accM.view.readCov La (Rect.unit (s := S1024x2048) ![64 * 0, 0] S64x2048.size (rows_inb 0 (by decide))).toLoadRect)
      (k0_pay4 (xM.view.readAt (Elt F) (Rect.unit (s := S1024x2048) ![64 * 0, 0] S64x2048.size (rows_inb 0 (by decide))).toLoadRect X))⟩]) :
    Top L (gains A X (start i A X prev) 0 (by decide)) := by
  refine ⟨inb_S1x2048_S1x2048_0_0, [], hL.trans ?_⟩
  unfold gains start
  rw [if_pos h5, hA.rows _ (by omega), show xM.view.readAt (Elt F) (Rect.unit (s := S1024x2048) ![64 * 0, 0] S64x2048.size (rows_inb 0 (by decide))).toLoadRect X = _
    from Dma.load_rows xM.view X (64 * 0) (by omega) (rows_inb 0 (by decide))]
  rfl

theorem start_next {i : grid0.Coords} (h5 : ¬ cond5 i) {La : List (View.Piece (Elt F) S1024x2048 .f32)} {A} (hA : Acc La A) (X : Vec F S1024x2048 .f32)
    {m : Memref sig .tc .vmem S1x2048 .f32} (hm : m.IsWhole) (prev : Vec F S1x2048 .f32) (L : List (View.Piece (Elt F) S1x2048 .f32))
    (hL : L = [⟨Rect.unit (s := S1x2048) ![0, 0] S1x2048.size inb_S1x2048_S1x2048_0_0, k0_pay8
      (accM.view.readCov La (Rect.unit (s := S1024x2048) ![64 * 0, 0] S64x2048.size (rows_inb 0 (by decide))).toLoadRect)
      (k0_pay4 (xM.view.readAt (Elt F) (Rect.unit (s := S1024x2048) ![64 * 0, 0] S64x2048.size (rows_inb 0 (by decide))).toLoadRect X))
      (m.view.readAt (Elt F) (Rect.unit (s := S1x2048) ![0, 0] S1x2048.size inb_S1x2048_S1x2048_0_0).toLoadRect (hm.unread prev))⟩]) :
    Top L (gains A X (start i A X prev) 0 (by decide)) := by
  refine ⟨inb_S1x2048_S1x2048_0_0, [], hL.trans ?_⟩
  unfold gains start
  rw [if_neg h5, hA.rows _ (by omega), Dma.load_unread hm prev z2, show xM.view.readAt (Elt F) (Rect.unit (s := S1024x2048) ![64 * 0, 0] S64x2048.size (rows_inb 0 (by decide))).toLoadRect X = _
    from Dma.load_rows xM.view X (64 * 0) (by omega) (rows_inb 0 (by decide))]
  rfl

/-- One more piece adds its part. -/
theorem gains_run {La : List (View.Piece (Elt F) S1024x2048 .f32)} {A} (hA : Acc La A) (X : Vec F S1024x2048 .f32) {L : List (View.Piece (Elt F) S1x2048 .f32)} {st} {n : ℕ} (h' : n + 1 < 16)
    (ht : Top L (gains A X st n (Nat.lt_of_succ_lt h'))) (v : View sig .tc .vmem S1x2048 .f32) (L' : List (View.Piece (Elt F) S1x2048 .f32))
    (hL' : L' = ⟨Rect.unit (s := S1x2048) ![0, 0] S1x2048.size inb_S1x2048_S1x2048_0_0, k0_pay8
      (accM.view.readCov La (Rect.unit (s := S1024x2048) ![64 * (n + 1), 0] S64x2048.size (rows_inb (n + 1) h')).toLoadRect)
      (k0_pay4 (xM.view.readAt (Elt F) (Rect.unit (s := S1024x2048) ![64 * (n + 1), 0] S64x2048.size (rows_inb (n + 1) h')).toLoadRect X))
      (v.readCov L (Rect.unit (s := S1x2048) ![0, 0] S1x2048.size inb_S1x2048_S1x2048_0_0).toLoadRect)⟩ :: L) :
    Top L' (gains A X st (n + 1) h') := by
  obtain ⟨inb0, L0, rfl⟩ := ht
  rw [View.readCov_full, hA.rows _ (by omega), show xM.view.readAt (Elt F) (Rect.unit (s := S1024x2048) ![64 * (n + 1), 0] S64x2048.size (rows_inb (n + 1) h')).toLoadRect X = _
    from Dma.load_rows xM.view X (64 * (n + 1)) (by omega) (rows_inb (n + 1) h')] at hL'
  exact ⟨_, _, hL'⟩

end Cert.Dh
-- ==== Proof.Dh.Gx.lean ====
module

public import proofs.«01_k».proof.Proof.Dh.Rows
public import proofs.«01_k».proof.Proof.Dma.Rows
public import Idealize.ShloMosaic.Lib.Pointwise

@[expose] public section

set_option maxRecDepth 16384

noncomputable section

/-! The last point of a row block: the two row blocks arrive, the epilogue runs 64 rows at a time, and the gradient's rows leave 256 at a time. -/

namespace Cert.Dh

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The calculation of the last point of a row block. -/
def Last (c : Dev nD) (i : grid0.Coords) : Prop :=
  ∀ (arg3 : Memref sig .tc .vmem S1024x1024 .bf16) (harg3 : arg3.IsWhole) (arg4 : Memref sig .tc .vmem S1x2048x1024 .bf16) (harg4 : arg4.IsWhole)
    (arg7 : Memref sig .tc .vmem S1x2048 .f32) (harg7 : arg7.IsWhole) (arg9 : Memref sig .tc .vmem S1x2048 .f32) (harg9 : arg9.IsWhole)
    (x0 : Vec F S1024x1024 .bf16) (x1 : Vec F S1x2048x1024 .bf16) (x2 x3 : Vec F S1x2048 .f32)
    (fa fx fd : S1024x2048.Idx → Elt F .f32) (fr : S2x256x2048.Idx → Elt F .f32) (fg A0 A4 : S8192x2048.Idx → Elt F .f32) (S : Finset S8192x2048.Idx)
    (W : Waits sig Unit) (K : PUnit → sProp 𝕄),
    iprop(owns (c : Thread nD τ) arg3 fullShare x0 ∗ owns (c : Thread nD τ) arg4 fullShare x1
      ∗ owns (c : Thread nD τ) arg7 fullShare x2 ∗ owns (c : Thread nD τ) arg9 fullShare x3
      ∗ whole c accM fa ∗ whole c ringM fr ∗ whole c gxH fg
      ∗ Transfers.Flight countersEmb (c : Thread nD τ) (SemLoc.dma 6) () 262144 iprop(whole c xM fx ∗ (xsH.view.loc (c : Thread nD τ) ↦[S]{fullShare} A0))
      ∗ Transfers.Flight countersEmb (c : Thread nD τ) (SemLoc.dma 8) () 262144 iprop(whole c dxM fd ∗ (dx1H.view.loc (c : Thread nD τ) ↦[S]{fullShare} A4))
      ∗ cell c 10 ∗ cell c 11
      ∗ owes (c : Thread nD τ) 0 W
      ∗ (iprop(owns (c : Thread nD τ) arg3 fullShare x0 ∗ owns (c : Thread nD τ) arg4 fullShare x1
          ∗ owns (c : Thread nD τ) arg7 fullShare x2 ∗ owns (c : Thread nD τ) arg9 fullShare (gains (k0_pay2 x0 x1 fa) fx (start i (k0_pay2 x0 x1 fa) fx x3) 15 (by decide))
          ∗ (∃ f, whole c accM f) ∗ whole c xM fx ∗ whole c dxM fd ∗ (∃ f, whole c ringM f)
          ∗ whole c gxH (Dma.putRows (k0_off3 i 0#32 0) (table (k0_pay2 x0 x1 fa) fx fd x2) fg)
          ∗ (xsH.view.loc (c : Thread nD τ) ↦[S]{fullShare} A0) ∗ (dx1H.view.loc (c : Thread nD τ) ↦[S]{fullShare} A4)
          ∗ cell c 6 ∗ cell c 8 ∗ cell c 10 ∗ cell c 11 ∗ (∃ W', owes (c : Thread nD τ) 0 W')) -∗ K ⟨⟩))
    ⊢ wp frame (wpE (defs₀ (F := F)) Variants.none c none) Set.univ
        (cc0_dh i arg3 harg3 arg4 harg4 xsH (Memref.isWhole_whole _) dx1H (Memref.isWhole_whole _) arg7 harg7 gxH (Memref.isWhole_whole _) arg9 harg9
          accM (Memref.isWhole_whole _) xM (Memref.isWhole_whole _) dxM (Memref.isWhole_whole _) ringM (Memref.isWhole_whole _) cc0_scratch4) K

theorem acc_stored {L : List (View.Piece (Elt F) S1024x2048 .f32)} {arg3 : Memref sig .tc .vmem S1024x1024 .bf16} (harg3 : arg3.IsWhole) {arg4 : Memref sig .tc .vmem S1x2048x1024 .bf16} (harg4 : arg4.IsWhole)
    (x0 : Vec F S1024x1024 .bf16) (x1 : Vec F S1x2048x1024 .bf16) (fa : S1024x2048.Idx → Elt F .f32) (inb0 inb1 inb2 inb3)
    (hL : L = [⟨Rect.unit (s := S1024x2048) ![0, 0] S1024x2048.size inb0, k0_pay2
      (View.readAt (Elt F) arg3.view (Rect.unit (s := S1024x1024) ![0, 0] S1024x1024.size inb1).toLoadRect (harg3.unread x0))
      (View.readAt (Elt F) arg4.view (Rect.unit (s := S1x2048x1024) ![0, 0, 0] S1x2048x1024.size inb2).toLoadRect (harg4.unread x1))
      (View.readAt (Elt F) accM.view (Rect.unit (s := S1024x2048) ![0, 0] S1024x2048.size inb3).toLoadRect fa)⟩]) : Acc L (k0_pay2 x0 x1 fa) := by
  refine ⟨inb0, hL.trans ?_⟩
  rw [Dma.load_unread harg3 x0 z2, Dma.load_unread harg4 x1 z3, View.readAt_full]
  rfl

/-- Four copies of 256 rows leave the table of the row block. -/
theorem gx_slabs (fg : S8192x2048.Idx → Elt F .f32) (n : ℕ) {off0 off1 off2 off3 : Fin 2 → ℕ} {inb0 inb1 inb2 inb3} {u0 u1 u2 u3}
    (w0 w1 w2 w3 : S256x2048.Idx → Elt F .f32) (T : Fin 1024 → Fin 2048 → Elt F .f32)
    (e0 : off0 = ![n, 0]) (e1 : off1 = ![n + 256, 0]) (e2 : off2 = ![n + 512, 0]) (e3 : off3 = ![n + 768, 0])
    (h0 : ∀ (a : Fin 256) b, w0 (ix2 a b) = T ⟨a.val, by omega⟩ b) (h1 : ∀ (a : Fin 256) b, w1 (ix2 a b) = T ⟨256 + a.val, by omega⟩ b)
    (h2 : ∀ (a : Fin 256) b, w2 (ix2 a b) = T ⟨512 + a.val, by omega⟩ b) (h3 : ∀ (a : Fin 256) b, w3 (ix2 a b) = T ⟨768 + a.val, by omega⟩ b) :
    View.write (Elt F) (gxH.slice (Rect.unit (s := S8192x2048) off3 S256x2048.size inb3) u3).view
      (View.write (Elt F) (gxH.slice (Rect.unit (s := S8192x2048) off2 S256x2048.size inb2) u2).view
        (View.write (Elt F) (gxH.slice (Rect.unit (s := S8192x2048) off1 S256x2048.size inb1) u1).view
          (View.write (Elt F) (gxH.slice (Rect.unit (s := S8192x2048) off0 S256x2048.size inb0) u0).view fg w0 Finset.univ) w1 Finset.univ) w2 Finset.univ) w3 Finset.univ
      = Dma.putRows n T fg := by
  have e : ∀ f : S8192x2048.Idx → Elt F .f32, gxH.view.read (Elt F) f = f := fun f => rfl
  have h := Dma.slabs_read (inb0 := inb0) (inb1 := inb1) (inb2 := inb2) (inb3 := inb3) gxH.view fg n w0 w1 w2 w3 T e0 e1 e2 e3 h0 h1 h2 h3
  rw [e, e] at h
  exact h

/-- A slot copied out after its four stores is the table's rows. -/
theorem slab_run (fr : S2x256x2048.Idx → Elt F .f32) (s : ℕ) (hs : s < 2) {inb0 inb1 inb2 inb3 inb h}
    (w0 w1 w2 w3 : S1x64x2048.Idx → Elt F .f32) (L) (T : Fin 256 → Fin 2048 → Elt F .f32)
    (h0 : ∀ (a : Fin 64) b, w0 (ix3 0 a b) = T ⟨a.val, by omega⟩ b) (h1 : ∀ (a : Fin 64) b, w1 (ix3 0 a b) = T ⟨64 + a.val, by omega⟩ b)
    (h2 : ∀ (a : Fin 64) b, w2 (ix3 0 a b) = T ⟨128 + a.val, by omega⟩ b) (h3 : ∀ (a : Fin 64) b, w3 (ix3 0 a b) = T ⟨192 + a.val, by omega⟩ b)
    (a : Fin 256) (b : Fin 2048) :
    ReadAs.same.apply (View.read (Elt F) ((ringM.slice (Rect.unit (s := S2x256x2048) ![s, 0, 0] ![1, 256, 2048] inb) h).squeeze S256x2048 squeezes_S1x256x2048_S256x2048).view
      (ringM.view.writes (Elt F) fr (⟨Rect.unit (s := S2x256x2048) ![s, 192, 0] S1x64x2048.size inb3, w3⟩ :: ⟨Rect.unit (s := S2x256x2048) ![s, 128, 0] S1x64x2048.size inb2, w2⟩
      :: ⟨Rect.unit (s := S2x256x2048) ![s, 64, 0] S1x64x2048.size inb1, w1⟩ :: ⟨Rect.unit (s := S2x256x2048) ![s, 0, 0] S1x64x2048.size inb0, w0⟩ :: L))) (ix2 a b) = T a b :=
  (Dma.slot_view ringM _ s hs inb h squeezes_S1x256x2048_S256x2048 a b).trans (Dma.slot_read ringM.view fr s hs w0 w1 w2 w3 L T h0 h1 h2 h3 a b)

end Cert.Dh
-- ==== Proof.Dh.Last.lean ====
module

public import proofs.«01_k».proof.Proof.Dh.Gx
public import proofs.«01_k».proof.Proof.Dma.Rows
public import Idealize.ShloMosaic.Lib.Pointwise

@[expose] public section

set_option maxRecDepth 16384

noncomputable section

/-! The last point of a row block: the two row blocks arrive, the epilogue runs 64 rows at a time, and the gradient's rows leave 256 at a time. -/

namespace Cert.Dh

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
set_option sl_exec.dmaWindow true in set_option sl_exec.dmaWindowSet true in
theorem last_point (c : Dev nD) (i : grid0.Coords) (n : ℕ)
    (h1 : ¬ condA i) (h2 : ¬ cond2 i) (h3 : cond3 i) (h4 : condF i) (h56 : (cond5 i ∧ ¬ cond6 i) ∨ (¬ cond5 i ∧ cond6 i))
    (hl0 : k0_off3 i 0#32 = ![n,0]) (hl1 : k0_off3 i 256#32 = ![n + 256,0]) (hl2 : k0_off3 i 512#32 = ![n + 512,0]) (hl3 : k0_off3 i 768#32 = ![n + 768,0]) : Last (F := F) c i := by
  unfold Last
  intro arg3 harg3 arg4 harg4 arg7 harg7 arg9 harg9 x0 x1 x2 x3 fa fx fd fr fg A0 A4 S W K
  letI : ClosedOff (k0_off3 i 0#32) := ⟨![n, 0], hl0⟩
  letI : ClosedOff (k0_off3 i 256#32) := ⟨![n + 256, 0], hl1⟩
  letI : ClosedOff (k0_off3 i 512#32) := ⟨![n + 512, 0], hl2⟩
  letI : ClosedOff (k0_off3 i 768#32) := ⟨![n + 768, 0], hl3⟩
  simp only [cc0_dh_eq_skeleton]; unfold cc0_dh_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, Ha, Hr, Hg, Hx, Hd, Hq0, Hq1, HW, Hk⟩
  obtain rfl := harg3.eq_unread hf0; obtain rfl := harg4.eq_unread hf1; obtain rfl := harg7.eq_unread hf2; obtain rfl := harg9.eq_unread hf3
  rcases h56 with ⟨h5, h6⟩ | ⟨h5, h6⟩
  all_goals (sl_exec (disch := first | sl_exact h1 | sl_exact h2 | sl_exact h3 | sl_exact h4 | sl_exact h5 | sl_exact h6); sl_step)
  all_goals
    have hA : ∀ L, L = _ → Acc L (k0_pay2 x0 x1 fa) := fun L h => acc_stored harg3 harg4 x0 x1 fa (by decide) (by decide) (by decide) (by decide) h
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg7.read_unread _
      iexact H2
    isplitl [H3]
    · iexists _; isplitr
      rotate_left
      · iexact H3
      · ipureintro
        refine Top.read ?_ arg9.view _
        iterate 15 refine gains_run (hA _ rfl) fx (by decide) ?_ arg9.view _ rfl
        first | exact start_first h5 (hA _ rfl) fx x3 _ rfl | exact start_next h5 (hA _ rfl) fx harg9 x3 _ rfl
    isplitl [Ha]; · iexists _; iexact Ha
    isplitl [Hx_dst]; · iexact Hx_dst
    isplitl [Hd_dst]; · iexact Hd_dst
    isplitl [Hr]; · iexists _; iexact Hr
    rw [show (k0_off3 i 0#32 0) = n from congrFun hl0 0]
    isplitl [Hg]
    · refine Entails.of_eq (congrArg (whole c gxH) ?_)
      refine gx_slabs fg n _ _ _ _ _ hl0 hl1 hl2 hl3 ?_ ?_ ?_ ?_
      · refine slab_run fr 0 (by decide) _ _ _ _ _ (fun a b => table (k0_pay2 x0 x1 fa) fx fd x2 ⟨a.val, by omega⟩ b) ?_ ?_ ?_ ?_
        · exact fun a b => chunk_run (hA _ rfl) fx fd harg7 x2 0 (by decide) _ rfl _ a b (by first | rfl | (dsimp only; omega))
        · exact fun a b => chunk_run (hA _ rfl) fx fd harg7 x2 1 (by decide) _ rfl _ a b (by first | rfl | (dsimp only; omega))
        · exact fun a b => chunk_run (hA _ rfl) fx fd harg7 x2 2 (by decide) _ rfl _ a b (by first | rfl | (dsimp only; omega))
        · exact fun a b => chunk_run (hA _ rfl) fx fd harg7 x2 3 (by decide) _ rfl _ a b (by first | rfl | (dsimp only; omega))
      · refine slab_run fr 1 (by decide) _ _ _ _ _ (fun a b => table (k0_pay2 x0 x1 fa) fx fd x2 ⟨256 + a.val, by omega⟩ b) ?_ ?_ ?_ ?_
        · exact fun a b => chunk_run (hA _ rfl) fx fd harg7 x2 4 (by decide) _ rfl _ a b (by first | rfl | (dsimp only; omega))
        · exact fun a b => chunk_run (hA _ rfl) fx fd harg7 x2 5 (by decide) _ rfl _ a b (by first | rfl | (dsimp only; omega))
        · exact fun a b => chunk_run (hA _ rfl) fx fd harg7 x2 6 (by decide) _ rfl _ a b (by first | rfl | (dsimp only; omega))
        · exact fun a b => chunk_run (hA _ rfl) fx fd harg7 x2 7 (by decide) _ rfl _ a b (by first | rfl | (dsimp only; omega))
      · refine slab_run fr 0 (by decide) _ _ _ _ _ (fun a b => table (k0_pay2 x0 x1 fa) fx fd x2 ⟨512 + a.val, by omega⟩ b) ?_ ?_ ?_ ?_
        · exact fun a b => chunk_run (hA _ rfl) fx fd harg7 x2 8 (by decide) _ rfl _ a b (by first | rfl | (dsimp only; omega))
        · exact fun a b => chunk_run (hA _ rfl) fx fd harg7 x2 9 (by decide) _ rfl _ a b (by first | rfl | (dsimp only; omega))
        · exact fun a b => chunk_run (hA _ rfl) fx fd harg7 x2 10 (by decide) _ rfl _ a b (by first | rfl | (dsimp only; omega))
        · exact fun a b => chunk_run (hA _ rfl) fx fd harg7 x2 11 (by decide) _ rfl _ a b (by first | rfl | (dsimp only; omega))
      · refine slab_run fr 1 (by decide) _ _ _ _ _ (fun a b => table (k0_pay2 x0 x1 fa) fx fd x2 ⟨768 + a.val, by omega⟩ b) ?_ ?_ ?_ ?_
        · exact fun a b => chunk_run (hA _ rfl) fx fd harg7 x2 12 (by decide) _ rfl _ a b (by first | rfl | (dsimp only; omega))
        · exact fun a b => chunk_run (hA _ rfl) fx fd harg7 x2 13 (by decide) _ rfl _ a b (by first | rfl | (dsimp only; omega))
        · exact fun a b => chunk_run (hA _ rfl) fx fd harg7 x2 14 (by decide) _ rfl _ a b (by first | rfl | (dsimp only; omega))
        · exact fun a b => chunk_run (hA _ rfl) fx fd harg7 x2 15 (by decide) _ rfl _ a b (by first | rfl | (dsimp only; omega))
    isplitl [Hx_src]; · iexact Hx_src
    isplitl [Hd_src]; · iexact Hd_src
    isplitl [Hx]; · iexact Hx
    isplitl [Hd]; · iexact Hd
    isplitl [Hq0]; · iexact Hq0
    isplitl [Hq1]; · iexact Hq1
    iexists _; iexact HW

end Cert.Dh
-- ==== Proof.Dh.RunB.lean ====
module

public import proofs.«01_k».proof.Proof.Dh.Rows
public import proofs.«01_k».proof.Proof.Dma.Rows
public import Idealize.ShloMosaic.Lib.Pointwise

@[expose] public section

set_option maxRecDepth 16384

noncomputable section

/-! A middle point of a row block adds one more product to the accumulator. -/

namespace Cert.Dh

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem runB (c : Dev nD) (i : grid0.Coords) (arg3 : Memref sig .tc .vmem S1024x1024 .bf16) (harg3 : arg3.IsWhole) (arg4 : Memref sig .tc .vmem S1x2048x1024 .bf16) (harg4 : arg4.IsWhole)
    (arg7 : Memref sig .tc .vmem S1x2048 .f32) (harg7 : arg7.IsWhole) (arg9 : Memref sig .tc .vmem S1x2048 .f32) (harg9 : arg9.IsWhole)
    (h1 : ¬ condA i) (h2 : ¬ cond2 i) (h3 : cond3 i) (h4 : ¬ condF i)
    (x0 : Vec F S1024x1024 .bf16) (x1 : Vec F S1x2048x1024 .bf16) (fa : S1024x2048.Idx → Elt F .f32)
    (W : Waits sig Unit) (K : PUnit → sProp 𝕄) :
    iprop(owns (c : Thread nD τ) arg3 fullShare x0 ∗ owns (c : Thread nD τ) arg4 fullShare x1 ∗ whole c accM fa
      ∗ owes (c : Thread nD τ) 0 W ∗ (iprop(owns (c : Thread nD τ) arg3 fullShare x0 ∗ owns (c : Thread nD τ) arg4 fullShare x1 ∗ whole c accM (k0_pay2 x0 x1 fa) ∗ owes (c : Thread nD τ) 0 W) -∗ K ⟨⟩))
    ⊢ wp frame (wpE (defs₀ (F := F)) Variants.none c none) Set.univ
        (cc0_dh i arg3 harg3 arg4 harg4 xsH (Memref.isWhole_whole _) dx1H (Memref.isWhole_whole _) arg7 harg7 gxH (Memref.isWhole_whole _) arg9 harg9
          accM (Memref.isWhole_whole _) xM (Memref.isWhole_whole _) dxM (Memref.isWhole_whole _) ringM (Memref.isWhole_whole _) cc0_scratch4) K := by
  simp only [cc0_dh_eq_skeleton]; unfold cc0_dh_skel
  unfold owns
  iintro ⟨⟨%f0, %hf0, H0⟩, ⟨%f1, %hf1, H1⟩, Ha, HW, Hk⟩
  obtain rfl := harg3.eq_unread hf0; obtain rfl := harg4.eq_unread hf1
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  rw [Dma.load_unread harg3 x0 z2, Dma.load_unread harg4 x1 z3, View.readAt_full, show accM.view.read (Elt F) fa = fa from rfl]
  isplitl [Ha]
  · rw [show accM.view.writes (Elt F) fa [⟨Rect.unit ![0, 0] S1024x2048.size inb_S1024x2048_S1024x2048_0_0, k0_pay2 x0 x1 fa⟩] = k0_pay2 x0 x1 fa from Dma.store_whole cc0_scratch0 fa z2 _ _ _]
    iexact Ha
  iexact HW

end Cert.Dh
-- ==== Proof.Dh.Launch.lean ====
module

public import proofs.«01_k».proof.Proof.Dh.Last
public import proofs.«01_k».proof.Proof.Dh.RunB

@[expose] public section

set_option maxRecDepth 16384

noncomputable section

/-! The launch: what the buffers hold from point to point, the invariant, the body at any point, and the run with the contents of both results. -/

namespace Cert.Dh

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The points -/

theorem lt_N (t : Fin cfg0.N) : t.val < 32 := lt_of_lt_of_eq t.isLt (show cfg0.N = 32 from N_0)

theorem condA_iff : ∀ t : Fin cfg0.N, condA (grid0.coords t) ↔ t.val % 4 = 0 := by decide +kernel
theorem cond2_iff : ∀ t : Fin cfg0.N, cond2 (grid0.coords t) ↔ t.val % 4 = 0 := by decide +kernel
theorem cond3_iff : ∀ t : Fin cfg0.N, cond3 (grid0.coords t) ↔ ¬ t.val % 4 = 0 := by decide +kernel
theorem condF_iff : ∀ t : Fin cfg0.N, condF (grid0.coords t) ↔ t.val % 4 = 3 := by decide +kernel
theorem cond5_iff : ∀ t : Fin cfg0.N, cond5 (grid0.coords t) ↔ t.val < 4 := by decide +kernel
theorem cond6_iff : ∀ t : Fin cfg0.N, cond6 (grid0.coords t) ↔ ¬ t.val < 4 := by decide +kernel
theorem off1_eq : ∀ t : Fin cfg0.N, k0_off1 (grid0.coords t) = ![1024 * (t.val / 4), 0] := by decide +kernel
theorem off3_eq : ∀ t : Fin cfg0.N, k0_off3 (grid0.coords t) 0#32 = ![1024 * (t.val / 4), 0] ∧ k0_off3 (grid0.coords t) 256#32 = ![1024 * (t.val / 4) + 256, 0]
    ∧ k0_off3 (grid0.coords t) 512#32 = ![1024 * (t.val / 4) + 512, 0] ∧ k0_off3 (grid0.coords t) 768#32 = ![1024 * (t.val / 4) + 768, 0] := by decide +kernel
theorem idle3_iff : ∀ t : Fin cfg0.N, idle0 3 (grid0.coords t) = true ↔ ¬ t.val % 4 = 3 := by decide +kernel

/-- The first point of the row block that a point belongs to. -/
def t0 (n : ℕ) (hn : n < cfg0.N) : Fin cfg0.N := ⟨4 * (n / 4), by omega⟩
theorem t0_cond (n : ℕ) (hn : n < cfg0.N) : condA (grid0.coords (t0 n hn)) := (condA_iff _).mpr (by show 4 * (n / 4) % 4 = 0; omega)

/-! ## What the buffers hold -/

abbrev xs (c : Dev nD) : S8192x2048.Idx → Elt F .f32 := V m c main_arg0
abbrev dx1 (c : Dev nD) : S8192x2048.Idx → Elt F .f32 := V m c main_arg4
abbrev dproj (c : Dev nD) (t : Fin cfg0.N) : Vec F S1024x1024 .bf16 := iblk m c 0 t
abbrev wT (c : Dev nD) (t : Fin cfg0.N) : Vec F S1x2048x1024 .bf16 := iblk m c 1 t
abbrev gain (c : Dev nD) (t : Fin cfg0.N) : Vec F S1x2048 .f32 := iblk m c 2 t

/-- The accumulator after a point. -/
def accAt (c : Dev nD) : (n : ℕ) → n < cfg0.N → Vec F S1024x2048 .f32
  | 0, h => k0_pay1 (dproj m c ⟨0, h⟩) (wT m c ⟨0, h⟩)
  | n + 1, h => if (n + 1) % 4 = 0 then k0_pay1 (dproj m c ⟨n + 1, h⟩) (wT m c ⟨n + 1, h⟩)
      else k0_pay2 (dproj m c ⟨n + 1, h⟩) (wT m c ⟨n + 1, h⟩) (accAt c n (by omega))

theorem accAt_first (c : Dev nD) (t : Fin cfg0.N) (h : t.val % 4 = 0) : accAt m c t.val t.isLt = k0_pay1 (dproj m c t) (wT m c t) := by
  obtain ⟨n, hn⟩ := t
  cases n with
  | zero => rfl
  | succ n => exact if_pos h

theorem accAt_next (c : Dev nD) (t : Fin cfg0.N) (h : ¬ t.val % 4 = 0) :
    accAt m c t.val t.isLt = k0_pay2 (dproj m c t) (wT m c t) (accAt m c (t.val - 1) (by omega)) := by
  obtain ⟨n, hn⟩ := t
  cases n with
  | zero => exact absurd rfl h
  | succ n => exact if_neg h

/-- The row block of the step's input, and of the residual's gradient. -/
def xblk (c : Dev nD) (n : ℕ) (hn : n < cfg0.N) : Vec F S1024x2048 .f32 := blkOf _ (t0_cond n hn) (xs m c)
def dblk (c : Dev nD) (n : ℕ) (hn : n < cfg0.N) : Vec F S1024x2048 .f32 := blkOf _ (t0_cond n hn) (dx1 m c)

/-- The gain's gradient after a point. -/
def dgAt (c : Dev nD) : (n : ℕ) → n < cfg0.N → Vec F S1x2048 .f32
  | 0, h => gain m c ⟨0, h⟩
  | n + 1, h => if (n + 1) % 4 = 3 then
        gains (accAt m c (n + 1) h) (xblk m c (n + 1) h) (start (grid0.coords ⟨n + 1, h⟩) (accAt m c (n + 1) h) (xblk m c (n + 1) h) (dgAt c n (by omega))) 15 (by decide)
      else dgAt c n (by omega)

/-- The input's gradient after a number of points. -/
def gxAt (c : Dev nD) : (n : ℕ) → n ≤ cfg0.N → (S8192x2048.Idx → Elt F .f32)
  | 0, _ => V m c main_v4_0
  | n + 1, h => if n % 4 = 3 then Dma.putRows (1024 * (n / 4)) (table (accAt m c n h) (xblk m c n h) (dblk m c n h) (gain m c ⟨n, h⟩)) (gxAt c n (by omega))
      else gxAt c n (by omega)

/-! ## The invariant -/

/-- Between row blocks: nothing under way. -/
def Rest (c : Dev nD) (G : S8192x2048.Idx → Elt F .f32) : sProp 𝕄 :=
  iprop(((∃ f, whole c accM f) ∗ (∃ f, whole c xM f) ∗ (∃ f, whole c dxM f) ∗ (∃ f, whole c ringM f))
    ∗ (∃ r, prngReg c r) ∗ (cell c 6 ∗ cell c 7 ∗ cell c 8 ∗ cell c 9 ∗ cell c 10 ∗ cell c 11)
    ∗ (whole c xsH (xs m c) ∗ whole c dx1H (dx1 m c)) ∗ whole c gxH G)

/-- Inside a row block: the partial sum, and the two row blocks under way. -/
def Busy (c : Dev nD) (n : ℕ) (hn : n < cfg0.N) (G : S8192x2048.Idx → Elt F .f32) : sProp 𝕄 :=
  iprop(whole c accM (accAt m c n hn) ∗ (∃ f, whole c ringM f) ∗ (∃ r, prngReg c r) ∗ (cell c 7 ∗ cell c 9 ∗ cell c 10 ∗ cell c 11)
    ∗ fetching c (grid0.coords (t0 n hn)) (t0_cond n hn) (xs m c) (dx1 m c) ∗ whole c gxH G)

def PhiS (c : Dev nD) (n : ℕ) (hn : n ≤ cfg0.N) : sProp 𝕄 :=
  if h : n % 4 = 0 then Rest m c (gxAt m c n hn) else Busy m c (n - 1) (by omega) (gxAt m c n hn)

theorem fetching_congr (c : Dev nD) {s t : Fin cfg0.N} (e : s = t) (hs : condA (grid0.coords s)) (ht : condA (grid0.coords t)) (A0 A4 : S8192x2048.Idx → Elt F .f32) :
    fetching c (grid0.coords s) hs A0 A4 = fetching c (grid0.coords t) ht A0 A4 := by
  subst e; rfl

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dgAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = dgAt m c t.val t.isLt := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- An input's staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem fetch3 : ∀ t : Fin cfg0.N, (cfg0.win 3).fetch t = false := by decide +kernel

/-- From the second row block on, the gain's buffer holds what the row blocks before left. -/
theorem before3 (c : Dev nD) : ∀ (n : ℕ) (hn : n < cfg0.N) (h4 : 4 ≤ n) (d), (dats m 0 c).before 3 ⟨n, hn⟩ d = dgAt m c (n - 1) (lt_of_le_of_lt (Nat.sub_le n 1) hn)
  | 0, _, h4, _ => absurd h4 (by decide)
  | n + 1, hn, h4, d => by
    have hN := lt_N ⟨n + 1, hn⟩
    have hN' : n + 1 < 32 := hN
    have hn' : n < cfg0.N := Nat.lt_of_succ_lt hn
    have hfl : (cfg0.win 3).flush ⟨n, hn'⟩ = false := by
      rw [← Bool.not_eq_true, flush0_3]; show ¬ n % 32 = 31; omega
    rw [(dats m 0 c).before_of_pos 3 ⟨n + 1, hn⟩ (Nat.succ_ne_zero n) (fetch3 _) d]
    show (if (cfg0.win 3).flush ⟨n, _⟩ then d else (dats m 0 c).left 3 ⟨n, _⟩ d) = dgAt m c n _
    rw [hfl, if_neg Bool.false_ne_true]
    unfold Dat.left
    by_cases h3 : n % 4 = 3
    · have hi : cfg0.idle 3 (cfg0.grid.coords ⟨n, hn'⟩) = false := by
        rw [← Bool.not_eq_true]; exact fun hh => (idle3_iff ⟨n, hn'⟩).mp hh h3
      rw [hi]
      show (dats m 0 c).after 3 ⟨n, _⟩ = _
      rw [after3]
    · have hi : cfg0.idle 3 (cfg0.grid.coords ⟨n, hn'⟩) = true := (idle3_iff ⟨n, hn'⟩).mpr h3
      rw [hi]
      show (dats m 0 c).before 3 ⟨n, _⟩ d = _
      rw [before3 c n hn' (by omega) d]
      obtain ⟨k, rfl⟩ : ∃ k, n = k + 1 := ⟨n - 1, by omega⟩
      exact (if_neg h3).symm

/-- A part of an array and the rest of it are the array. -/
theorem rejoin (ℓ : Loc nD τ sig) (S : Finset _) (f : Buf (Elt F) ℓ) (q) :
    iprop((ℓ ↦[S]{q} f) ∗ (ℓ ↦[Finset.univ \ S]{q} f)) ⊢ (iprop(ℓ ↦{q} f) : sProp 𝕄) :=
  (pointsTo_split_subset (Finset.subset_univ S)).2

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

theorem leaves3_idle (c : Dev nD) (t : Fin cfg0.N) (h : ¬ t.val % 4 = 3) :
    (dats m 0 c).leavesExact 3 t = iprop(∃ d, owns (c : Thread nD τ) (st0_3 t) fullShare ((dats m 0 c).before 3 t d)) :=
  (dats m 0 c).leavesExact_idle 3 t ((idle3_iff t).mpr h) (by rw [← Bool.not_eq_true, flush0_3]; omega)

theorem leaves3_live (c : Dev nD) (t : Fin cfg0.N) (h : t.val % 4 = 3) :
    (dats m 0 c).leavesExact 3 t = owns (c : Thread nD τ) (st0_3 t) fullShare (dgAt m c t.val t.isLt) := by
  have hi : cfg0.idle 3 (cfg0.grid.coords t) = false := by
    rw [← Bool.not_eq_true]; exact fun hh => (idle3_iff t).mp hh h
  unfold Dat.leavesExact; rw [hi, after3]

theorem Phi_rest (c : Dev nD) (t : Fin cfg0.N) (h : t.val % 4 = 0) : (dats m 0 c).Φ t.castSucc = Rest m c (gxAt m c t.val (Nat.le_of_lt t.isLt)) := by
  rw [PhiS_castSucc]; exact dif_pos h
theorem Phi_busy (c : Dev nD) (t : Fin cfg0.N) (h : ¬ t.val % 4 = 0) :
    (dats m 0 c).Φ t.castSucc = Busy m c (t.val - 1) (lt_of_le_of_lt (Nat.sub_le _ _) t.isLt) (gxAt m c t.val (Nat.le_of_lt t.isLt)) := by
  rw [PhiS_castSucc]; exact dif_neg h
theorem Phi_busy' (c : Dev nD) (t : Fin cfg0.N) (h : ¬ t.val % 4 = 3) : (dats m 0 c).Φ t.succ = Busy m c t.val t.isLt (gxAt m c t.val (Nat.le_of_lt t.isLt)) := by
  refine (show (dats m 0 c).Φ t.succ = PhiS m c (t.val + 1) t.isLt from rfl).trans ?_
  refine (dif_neg (by omega)).trans ?_
  exact congrArg (Busy m c t.val t.isLt) (if_neg h)
theorem Phi_rest' (c : Dev nD) (t : Fin cfg0.N) (h : t.val % 4 = 3) :
    (dats m 0 c).Φ t.succ = Rest m c (Dma.putRows (1024 * (t.val / 4)) (table (accAt m c t.val t.isLt) (xblk m c t.val t.isLt) (dblk m c t.val t.isLt) (gain m c t)) (gxAt m c t.val (Nat.le_of_lt t.isLt))) := by
  refine (show (dats m 0 c).Φ t.succ = PhiS m c (t.val + 1) t.isLt from rfl).trans ?_
  refine (dif_pos (by omega)).trans ?_
  exact congrArg (Rest m c) (if_pos h)

theorem t0_self (t : Fin cfg0.N) (h : t.val % 4 = 0) : t0 t.val t.isLt = t := Fin.ext (by show 4 * (t.val / 4) = t.val; omega)
theorem t0_prev (t : Fin cfg0.N) (h : ¬ t.val % 4 = 0) : t0 (t.val - 1) (lt_of_le_of_lt (Nat.sub_le _ _) t.isLt) = t0 t.val t.isLt :=
  Fin.ext (by show 4 * ((t.val - 1) / 4) = 4 * (t.val / 4); omega)

theorem last_any (c : Dev nD) (t : Fin cfg0.N) (h : t.val % 4 = 3) : Last (F := F) c (grid0.coords t) := by
  obtain ⟨e0, e1, e2, e3⟩ := off3_eq t
  refine last_point c _ (1024 * (t.val / 4)) (fun hh => by have := (condA_iff t).mp hh; omega) (fun hh => by have := (cond2_iff t).mp hh; omega) ((cond3_iff t).mpr (by omega)) ((condF_iff t).mpr h)
    ?_ e0 e1 e2 e3
  rw [cond5_iff, cond6_iff]; omega

/-- What the last point adds to the gain's gradient, whatever the buffer held before the first row block. -/
theorem dg_last (c : Dev nD) (t : Fin cfg0.N) (h : t.val % 4 = 3) (d) :
    gains (accAt m c t.val t.isLt) (xblk m c t.val t.isLt) (start (grid0.coords t) (accAt m c t.val t.isLt) (xblk m c t.val t.isLt) ((dats m 0 c).before 3 t d)) 15 (by decide)
      = dgAt m c t.val t.isLt := by
  obtain ⟨n, hn⟩ := t
  obtain ⟨k, rfl⟩ : ∃ k, n = k + 1 := ⟨n - 1, by dsimp only at h; omega⟩
  refine Eq.trans ?_ (if_pos h).symm
  by_cases h4 : k + 1 < 4
  · have h5 : k0_cond5 (grid0.coords ⟨k + 1, hn⟩) = 1#1 := (cond5_iff ⟨k + 1, hn⟩).mpr h4
    unfold start
    rw [if_pos h5, if_pos h5]
  · rw [before3 m c (k + 1) hn (by omega) d]; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  have hN := lt_N t
  unfold bodyPre bodyPost bodyAt0
  simp only [before0, before1, before2]
  rw [after0, after1, after2]
  unfold Dat.owesAt Pipeline.owesWithin
  rw [show (dats m 0 c).owed t.castSucc = 0 from rfl, show (dats m 0 c).owed t.succ = 0 from rfl]
  by_cases h0 : t.val % 4 = 0
  · rw [leaves3_idle m c t (by omega), Phi_rest m c t h0, Phi_busy' m c t (by omega)]
    unfold Rest Busy
    rw [accAt_first m c t h0, fetching_congr c (t0_self t h0) _ ((condA_iff t).mpr h0)]
    iintro ⟨⟨⟨⟨%fa, Ha⟩, ⟨%fx, Hx⟩, ⟨%fd, Hd⟩, ⟨%fr, Hr⟩⟩, Hp, ⟨Hq6, Hq7, Hq8, Hq9, Hq10, Hq11⟩, ⟨HA0, HA4⟩, HG⟩, ⟨%W, -, HW⟩, ⟨%d0, H0⟩, ⟨%d1, H1⟩, ⟨%d2, H2⟩, ⟨%d3, H3⟩⟩
    iapply (runA c (grid0.coords t) _ _ _ _ _ _ _ _ ((condA_iff t).mpr h0) ((cond2_iff t).mpr h0) (fun hh => (cond3_iff t).mp hh h0) (fun hh => by have := (condF_iff t).mp hh; omega)
      (dproj m c t) (wT m c t) fa fx fd (xs m c) (dx1 m c) W _)
    iframe H0 H1 Ha Hx Hd Hq6 Hq8 HA0 HA4 HW
    iintro ⟨H0, H1, Ha, Hf, HW⟩
    isplitl [Ha Hr Hp Hq7 Hq9 Hq10 Hq11 Hf HG]
    · isplitl [Ha]; · iexact Ha
      isplitl [Hr]; · iexists _; iexact Hr
      isplitl [Hp]; · iexact Hp
      isplitl [Hq7 Hq9 Hq10 Hq11]
      · iframe Hq7 Hq9 Hq10 Hq11
      iframe Hf HG
    isplitl [HW]
    · iexists W; isplitr; · ipureintro; exact fun _ _ => Or.inl trivial
      iexact HW
    iframe H0 H1 H2
    iexists d3; iexact H3
  · rw [Phi_busy m c t h0]
    by_cases h3 : t.val % 4 = 3
    · rw [leaves3_live m c t h3, Phi_rest' m c t h3]
      unfold Rest Busy
      rw [fetching_congr c (t0_prev t h0) _ (t0_cond t.val t.isLt)]
      unfold fetching
      iintro ⟨⟨Ha, ⟨%fr, Hr⟩, Hp, ⟨Hq7, Hq9, Hq10, Hq11⟩, ⟨Hf0, Hf4, HR0, HR4⟩, HG⟩, ⟨%W, -, HW⟩, ⟨%d0, H0⟩, ⟨%d1, H1⟩, ⟨%d2, H2⟩, ⟨%d3, H3⟩⟩
      iapply (last_any c t h3 _ _ _ _ _ _ _ _ (dproj m c t) (wT m c t) (gain m c t) ((dats m 0 c).before 3 t d3) (accAt m c (t.val - 1) (lt_of_le_of_lt (Nat.sub_le _ _) t.isLt))
        (xblk m c t.val t.isLt) (dblk m c t.val t.isLt) fr (gxAt m c t.val (Nat.le_of_lt t.isLt)) (xs m c) (dx1 m c) (blkSet (grid0.coords (t0 t.val t.isLt)) (t0_cond t.val t.isLt)) W _)
      rw [← accAt_next m c t h0, dg_last m c t h3 d3, (off3_eq t).1]
      iframe H0 H1 H2 H3 Ha Hr HG Hf0 Hf4 Hq10 Hq11 HW
      iintro ⟨H0, H1, H2, H3, Ha, Hx, Hd, Hr, HG, HS0, HS4, Hq6, Hq8, Hq10, Hq11, ⟨%W', HW'⟩⟩
      isplitl [Ha Hx Hd Hr Hp Hq6 Hq7 Hq8 Hq9 Hq10 Hq11 HS0 HS4 HR0 HR4 HG]
      · isplitl [Ha Hx Hd Hr]
        · isplitl [Ha]; · iexact Ha
          isplitl [Hx]; · iexists _; iexact Hx
          isplitl [Hd]; · iexists _; iexact Hd
          iexact Hr
        isplitl [Hp]; · iexact Hp
        isplitl [Hq6 Hq7 Hq8 Hq9 Hq10 Hq11]
        · iframe Hq6 Hq7 Hq8 Hq9 Hq10 Hq11
        isplitl [HS0 HS4 HR0 HR4]
        · isplitl [HS0 HR0]
          · iapply (rejoin _ _ _ _)
            iframe HS0 HR0
          · iapply (rejoin _ _ _ _)
            iframe HS4 HR4
        iexact HG
      isplitl [HW']
      · iexists W'; isplitr; · ipureintro; exact fun _ _ => Or.inl trivial
        iexact HW'
      iframe H0 H1 H2 H3
    · rw [leaves3_idle m c t h3, Phi_busy' m c t h3]
      unfold Busy
      rw [accAt_next m c t h0, fetching_congr c (t0_prev t h0) _ (t0_cond t.val t.isLt)]
      iintro ⟨⟨Ha, Hr, Hp, Hq, Hf, HG⟩, ⟨%W, -, HW⟩, ⟨%d0, H0⟩, ⟨%d1, H1⟩, ⟨%d2, H2⟩, ⟨%d3, H3⟩⟩
      iapply (runB c (grid0.coords t) _ _ _ _ _ _ _ _ (fun hh => h0 ((condA_iff t).mp hh)) (fun hh => h0 ((cond2_iff t).mp hh)) ((cond3_iff t).mpr h0) (fun hh => h3 ((condF_iff t).mp hh))
        (dproj m c t) (wT m c t) (accAt m c (t.val - 1) (lt_of_le_of_lt (Nat.sub_le _ _) t.isLt)) W _)
      iframe H0 H1 Ha HW
      iintro ⟨H0, H1, Ha, HW⟩
      isplitl [Ha Hr Hp Hq Hf HG]
      · iframe Ha Hr Hp Hq Hf HG
      isplitl [HW]
      · iexists W; isplitr; · ipureintro; exact fun _ _ => Or.inl trivial
        iexact HW
      iframe H0 H1 H2
      iexists d3; iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

abbrev osem0 : Fin 6 → SemLoc sig := fun j => (![SemLoc.dma 6, SemLoc.dma 7, SemLoc.dma 8, SemLoc.dma 9, SemLoc.dma 10, SemLoc.dma 11] : Fin 6 → SemLoc sig) j
theorem ownSemFacts0 : Pipeline.OwnSemFacts spec0 osem0 := by decide
def H0 : Finset (Ref sig .tc) := {main_arg0, main_arg4}
def R0 : Finset (Ref sig .tc) := {main_v4_0}
theorem H0_sub : H0 ⊆ Pipeline.restRefs sig spec0 := by decide
theorem R0_sub : R0 ⊆ Pipeline.restRefs sig spec0 \ H0 := by decide

/-- The contents after the last point of the buffer that the kernel writes itself. -/
def Gend (c : Dev nD) : (b : Ref sig .tc) → Buf (Elt F) ((c : Thread nD τ).loc b) := Function.update (V m c) main_v4_0 (gxAt m c cfg0.N le_rfl)

theorem rest_eq (c : Dev nD) (G : (c : Dev nD) → (b : Ref sig .tc) → Buf (Elt F) ((c : Thread nD τ).loc b)) :
    (Pipeline.ΦDRG osem0 spec0 H0 R0 (V m) G c : sProp 𝕄) = Rest m c (G c main_v4_0) := by
  rw [Pipeline.ΦDRG_eq, scopedRest0_eq, Pipeline.ownSems0_eq_of_list c osem0 [0, 1, 2, 3, 4, 5] (by decide) (by decide)]
  rw [BI.bigSep_eq_bigSepL_of_eq (S := H0) [main_arg0, main_arg4] (by decide) (by decide)]
  unfold Pipeline.routed
  rw [BI.bigSep_eq_bigSepL_of_eq (S := R0) [main_v4_0] (by decide) (by decide)]
  simp only [BI.bigSepL_cons_cons, BI.bigSepL_singleton]
  rfl

theorem hin (c : Dev nD) : Pipeline.ΦDRG osem0 spec0 H0 R0 (V m) (V m) c ⊢ (dats m 0 c).Φ 0 := by
  rw [rest_eq]
  refine Entails.of_eq ?_
  exact ((show (dats m 0 c).Φ 0 = PhiS m c 0 (Nat.zero_le _) from rfl).trans (dif_pos rfl)).symm

theorem hout (c : Dev nD) : (dats m 0 c).Φ (Fin.last cfg0.N) ⊢ Pipeline.ΦDRG osem0 spec0 H0 R0 (V m) (Gend m) c := by
  rw [rest_eq]
  refine Entails.of_eq ?_
  refine ((show (dats m 0 c).Φ (Fin.last cfg0.N) = PhiS m c cfg0.N le_rfl from rfl).trans (dif_pos (by rw [show cfg0.N = 32 from N_0]))).trans ?_
  unfold Gend
  rw [Function.update_self]

theorem hmain' : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The run: both results' contents, the arguments unchanged, every counter at zero. -/
theorem run_main : θ_run defs (onTc (τ := τ) (main (F := F))) (s₀ m ρ) (fun r => Pipeline.FramePostRG cfgs (dats m) 0 R0 (V m) (Gend m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain' m) (hA := A_eq m) (G := Gend m) (hin := hin m) (hout := hout m)
    (hQ' := fun _ h => h)

end Cert.Dh
-- ==== Proof.Dh.Frame.lean ====
module

public import proofs.«01_k».proof.Proof.Dh.Launch
public import proofs.«01_k».proof.Proof.Gen.Kernel3.Frame

@[expose] public section

set_option maxRecDepth 16384

noncomputable section

/-! The frames: the arguments end unchanged and every counter ends at zero. -/

namespace Cert.Dh

open Cert.Kernel3Ideal Cert.Kernel3Ideal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem kept (r : PUnit × MemSt nD τ sig (Elt F)) (h : Pipeline.FramePostRG cfgs (dats m) 0 R0 (V m) (Gend m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h' := h.toR c
  have out : ∀ b : Ref sig .tc, b.isScoped = false → (∀ w, (spec0 w).arr.view.ref ≠ b) → b ∉ R0 → r.2.mem ((c.tc : Thread nD τ).loc b) = V m c b :=
    fun b hs ha hR => h'.2 b (Finset.mem_sdiff.mpr ⟨Pipeline.mem_restRefs_of b hs ha, hR⟩)
  exact ⟨(out main_arg0 (by decide) (by decide) (by decide)).trans (V_main_arg0 m c),
    (h'.1 2).trans (((dats m 0 c).arrAt_in 2 rfl _).trans ((A_eq m c 2).trans (V_main_arg1 m c))),
    (out main_arg2 (by decide) (by decide) (by decide)).trans (V_main_arg2 m c),
    (out main_arg3 (by decide) (by decide) (by decide)).trans (V_main_arg3 m c),
    (out main_arg4 (by decide) (by decide) (by decide)).trans (V_main_arg4 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (run_main m ρ)

/-- The two printings of the kernel have one body table. -/
theorem bodies : Cert.Kernel3.defs₀ (F := F) = defs₀ (F := F) := by
  unfold Cert.Kernel3.defs₀ defs₀
  refine congrArg Defs.onTc (funext fun l => funext fun a => ?_)
  match l, a with
  | 0, (t, s) => rfl
  | ⟨_ + 1, h⟩, _ => exact absurd h (Nat.not_lt.2 (Nat.le_add_left _ _))

theorem tables : Cert.Kernel3.defs (F := F) = defs (F := F) := by
  show Pipeline.defs pcfgs Cert.Kernel3.defs₀ = Pipeline.defs pcfgs defs₀
  rw [bodies]

theorem frame' (m : (ℓ : Loc Cert.Kernel3.nD Cert.Kernel3.τ Cert.Kernel3.sig) → Buf (Elt F) ℓ) (ρ : Dev Cert.Kernel3.nD → PrngReg) :
    θ_run Cert.Kernel3.defs (onTc (τ := Cert.Kernel3.τ) (Cert.Kernel3.main (F := F))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0) := by
  rw [tables]
  exact frame (F := F) m ρ

end Cert.Dh
-- ==== Proof.Loss.RunA.lean ====
module

public import proofs.«01_k».proof.Proof.Gen.Kernel4Ideal.Frame
public import proofs.«01_k».proof.Proof.Dma.Whole
public import proofs.«01_k».proof.Proof.Gen.Kernel4Ideal.Skeleton
public import Idealize.ShloMosaic.Lib.Pipeline.FrameValue
public import Idealize.ShloMosaic.Lib.WordCmp
public import Idealize.ShloMosaic.Lib.Tactic
public import Idealize.ShloMosaic.Lib.Ring
public import proofs.«01_k».proof.Proof.Dma.Rows
public import Idealize.ShloMosaic.Lib.Pointwise

@[expose] public section

set_option maxRecDepth 16384

noncomputable section

/-! The points of a row block before its last: each forms one product, and from the second on adds it to the accumulator. -/

namespace Cert.Loss

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev condA (i : grid0.Coords) : Prop := k0_cond1 i = 1#1
abbrev condF (i : grid0.Coords) : Prop := k0_cond4 i = 1#1
abbrev cond2 (i : grid0.Coords) : Prop := (Scalar.cmpi .ne (Scalar.extui (Scalar.cmpi .eq (BitVec.ofNat 32 (i 2).val) 0#32) : BitVec 32) 0#32) = 1#1
abbrev cond3 (i : grid0.Coords) : Prop := (Scalar.cmpi .ne (Scalar.extui (Scalar.cmpi .sgt (BitVec.ofNat 32 (i 2).val) 0#32) : BitVec 32) 0#32) = 1#1

abbrev accM : Memref sig .tc .vmem S1024x2048 .f32 := Memref.whole cc0_scratch0
abbrev xR : Memref sig .tc .vmem S2x256x2048 .f32 := Memref.whole cc0_scratch1
abbrev tR : Memref sig .tc .vmem S2x256x2048 .f32 := Memref.whole cc0_scratch2
abbrev dR : Memref sig .tc .vmem S2x256x2048 .f32 := Memref.whole cc0_scratch3
abbrev eR : Memref sig .tc .vmem S2x256x2048 .bf16 := Memref.whole cc0_scratch4
abbrev xH : Memref sig .tc .hbm S8192x2048 .f32 := Memref.whole main_arg2
abbrev tH : Memref sig .tc .hbm S8192x2048 .f32 := Memref.whole main_arg3
abbrev dH : Memref sig .tc .hbm S8192x2048 .f32 := Memref.whole main_v2_0
abbrev eH : Memref sig .tc .hbm S8192x2048 .bf16 := Memref.whole main_v2_1

/-- A memref's buffer held whole at `f`. -/
abbrev whole (c : Dev nD) {sp : Space} {S : Shape} {e : EltTy} (M : Memref sig .tc sp S e) (f : Buf (Elt F) (M.view.loc (c : Thread nD τ))) : sProp 𝕄 :=
  M.view.loc (c : Thread nD τ) ↦{fullShare} f

abbrev cell (c : Dev nD) (n : DmaSem sig) : sProp 𝕄 := semVal ((c : Thread nD τ), SemLoc.dma n) 0

/-- The kernel's body over its buffers. -/
abbrev bodyOf (i : grid0.Coords) (arg3 : Memref sig .tc .vmem S1024x512 .bf16) (harg3 : arg3.IsWhole) (arg4 : Memref sig .tc .vmem S512x2048 .bf16) (harg4 : arg4.IsWhole)
    (arg7 : Memref sig .tc .vmem S1x2048 .f32) (harg7 : arg7.IsWhole) (arg10 : Memref sig .tc .vmem S8x128 .f32) (harg10 : arg10.IsWhole) (arg11 : Memref sig .tc .vmem S1x2048 .f32) (harg11 : arg11.IsWhole) :
    Prog (TpuEff nD τ sig (Elt F) Λ₀ .tc) PUnit :=
  cc0_down_proj i arg3 harg3 arg4 harg4 xH (Memref.isWhole_whole _) tH (Memref.isWhole_whole _) arg7 harg7 dH (Memref.isWhole_whole _) eH (Memref.isWhole_whole _)
    arg10 harg10 arg11 harg11 accM (Memref.isWhole_whole _) xR (Memref.isWhole_whole _) tR (Memref.isWhole_whole _) dR (Memref.isWhole_whole _) eR (Memref.isWhole_whole _) cc0_scratch5

theorem z2 : ∀ a : Fin 2, (![0, 0] : Fin 2 → ℕ) a = 0 := by decide

section
variable (c : Dev nD) (i : grid0.Coords) (arg3 : Memref sig .tc .vmem S1024x512 .bf16) (harg3 : arg3.IsWhole) (arg4 : Memref sig .tc .vmem S512x2048 .bf16) (harg4 : arg4.IsWhole)
  (arg7 : Memref sig .tc .vmem S1x2048 .f32) (harg7 : arg7.IsWhole) (arg10 : Memref sig .tc .vmem S8x128 .f32) (harg10 : arg10.IsWhole) (arg11 : Memref sig .tc .vmem S1x2048 .f32) (harg11 : arg11.IsWhole)

set_option maxHeartbeats 1000000 in
theorem runA (h1 : ¬ condA i) (h2 : cond2 i) (h3 : ¬ cond3 i) (h4 : ¬ condF i)
    (x0 : Vec F S1024x512 .bf16) (x1 : Vec F S512x2048 .bf16) (fa : S1024x2048.Idx → Elt F .f32) (W : Waits sig Unit) (K : PUnit → sProp 𝕄) :
    iprop(owns (c : Thread nD τ) arg3 fullShare x0 ∗ owns (c : Thread nD τ) arg4 fullShare x1 ∗ whole c accM fa
      ∗ owes (c : Thread nD τ) 0 W ∗ (iprop(owns (c : Thread nD τ) arg3 fullShare x0 ∗ owns (c : Thread nD τ) arg4 fullShare x1 ∗ whole c accM (k0_pay1 x0 x1) ∗ owes (c : Thread nD τ) 0 W) -∗ K ⟨⟩))
    ⊢ wp frame (wpE (defs₀ (F := F)) Variants.none c none) Set.univ (bodyOf i arg3 harg3 arg4 harg4 arg7 harg7 arg10 harg10 arg11 harg11) K := by
  unfold bodyOf
  simp only [cc0_down_proj_eq_skeleton]; unfold cc0_down_proj_skel
  unfold owns
  iintro ⟨⟨%f0, %hf0, H0⟩, ⟨%f1, %hf1, H1⟩, Ha, HW, Hk⟩
  obtain rfl := harg3.eq_unread hf0; obtain rfl := harg4.eq_unread hf1
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  rw [Dma.load_unread harg3 x0 z2, Dma.load_unread harg4 x1 z2]
  isplitl [Ha]
  · rw [show accM.view.writes (Elt F) fa [⟨Rect.unit ![0, 0] S1024x2048.size inb_S1024x2048_S1024x2048_0_0, k0_pay1 x0 x1⟩] = k0_pay1 x0 x1 from Dma.store_whole cc0_scratch0 fa z2 _ _ _]
    iexact Ha
  iexact HW

set_option maxHeartbeats 1000000 in
theorem runB (h1 : ¬ condA i) (h2 : ¬ cond2 i) (h3 : cond3 i) (h4 : ¬ condF i)
    (x0 : Vec F S1024x512 .bf16) (x1 : Vec F S512x2048 .bf16) (fa : S1024x2048.Idx → Elt F .f32) (W : Waits sig Unit) (K : PUnit → sProp 𝕄) :
    iprop(owns (c : Thread nD τ) arg3 fullShare x0 ∗ owns (c : Thread nD τ) arg4 fullShare x1 ∗ whole c accM fa
      ∗ owes (c : Thread nD τ) 0 W ∗ (iprop(owns (c : Thread nD τ) arg3 fullShare x0 ∗ owns (c : Thread nD τ) arg4 fullShare x1 ∗ whole c accM (k0_pay2 x0 x1 fa) ∗ owes (c : Thread nD τ) 0 W) -∗ K ⟨⟩))
    ⊢ wp frame (wpE (defs₀ (F := F)) Variants.none c none) Set.univ (bodyOf i arg3 harg3 arg4 harg4 arg7 harg7 arg10 harg10 arg11 harg11) K := by
  unfold bodyOf
  simp only [cc0_down_proj_eq_skeleton]; unfold cc0_down_proj_skel
  unfold owns
  iintro ⟨⟨%f0, %hf0, H0⟩, ⟨%f1, %hf1, H1⟩, Ha, HW, Hk⟩
  obtain rfl := harg3.eq_unread hf0; obtain rfl := harg4.eq_unread hf1
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  rw [Dma.load_unread harg3 x0 z2, Dma.load_unread harg4 x1 z2, View.readAt_full, show accM.view.read (Elt F) fa = fa from rfl]
  isplitl [Ha]
  · rw [show accM.view.writes (Elt F) fa [⟨Rect.unit ![0, 0] S1024x2048.size inb_S1024x2048_S1024x2048_0_0, k0_pay2 x0 x1 fa⟩] = k0_pay2 x0 x1 fa from Dma.store_whole cc0_scratch0 fa z2 _ _ _]
    iexact Ha
  iexact HW

end

end Cert.Loss
-- ==== Proof.Dma.Slots.lean ====
module

public import proofs.«01_k».proof.Proof.Dma.Rows
public import Idealize.ShloMosaic.Lib.Writes

@[expose] public section

/-! Two-slot buffers that copies of 256 rows fill, and that copies of 256 rows empty. -/

namespace Cert.Dma

open Idealize.ShloMosaic

variable {sig : RefSig} {κ : Kind} {sp : Space} {e : EltTy} {Val : EltTy → Type}

section
variable {C : ℕ} (M : Memref sig κ sp (⟨3, ![2, 256, C]⟩ : Shape) e) (f : M.view.ty.Contents Val) (s : ℕ) (inb) (hr) (hq : (⟨3, ![1, 256, C]⟩ : Shape).Squeezes ⟨2, ![256, C]⟩)
  (w : (⟨2, ![256, C]⟩ : Shape).Idx → Val e)

/-- What a buffer holds after a copy into one of its slots. -/
abbrev filled : M.view.ty.Contents Val :=
  View.write Val ((M.slice (Rect.unit (s := ⟨3, ![2, 256, C]⟩) ![s, 0, 0] ![1, 256, C] inb) hr).squeeze ⟨2, ![256, C]⟩ hq).view f w Finset.univ

theorem filled_hit (hs : s < 2) (a : Fin 256) (b : Fin C) : M.view.read Val (filled M f s inb hr hq w) (ix3 ⟨s, hs⟩ a b) = w (ix2 a b) := by
  have h := slot_view M (filled M f s inb hr hq w) s hs inb hr hq a b
  rw [View.read_write_univ] at h
  exact h.symm

theorem filled_miss (s' : Fin 2) (hs : s'.val ≠ s) (a : Fin 256) (b : Fin C) : M.view.read Val (filled M f s inb hr hq w) (ix3 s' a b) = M.view.read Val f (ix3 s' a b) := by
  have h : filled M f s inb hr hq w = M.view.writes Val f [⟨Rect.unit (s := ⟨3, ![2, 256, C]⟩) ![s, 0, 0] ![1, 256, C] inb, fun x => w ((Shape.reshapeEquiv hq.numel_eq).symm x)⟩] :=
    View.write_reshape_univ (M.slice (Rect.unit (s := ⟨3, ![2, 256, C]⟩) ![s, 0, 0] ![1, 256, C] inb) hr).view hq.numel_eq f w
  rw [h]
  refine View.read_writes_cons_unit_of_not_mem M.view f inb _ [] _ rfl (0 : Fin 3) ?_
  show s'.val < s ∨ s + 1 ≤ s'.val
  omega

theorem load_idx {o : ℕ} (hs : s < 2) (ho : o + 64 ≤ 256) (inb') (x : (⟨3, ![1, 64, C]⟩ : Shape).Idx) :
    (Rect.unit (s := ⟨3, ![2, 256, C]⟩) ![s, o, 0] ![1, 64, C] inb').toLoadRect.idx x = ix3 ⟨s, hs⟩ ⟨o + (x 1).val, by have h : (x 1).val < 64 := (x 1).isLt; omega⟩ (x 2) := by
  funext t
  apply Fin.ext
  refine (Rect.idx_unit_val _ _ _ _ _).trans ?_
  have h0 : (x 0).val < 1 := (x 0).isLt
  match t with
  | ⟨0, _⟩ => show s + (x 0).val = s; omega
  | ⟨1, _⟩ => rfl
  | ⟨2, _⟩ => exact Nat.zero_add _

/-- A load of 64 rows from a slot just filled reads what was copied; -/
theorem load_hit (hs : s < 2) {o : ℕ} (ho : o + 64 ≤ 256) (inb') (x : (⟨3, ![1, 64, C]⟩ : Shape).Idx) :
    View.readAt Val M.view (Rect.unit (s := ⟨3, ![2, 256, C]⟩) ![s, o, 0] ![1, 64, C] inb').toLoadRect (filled M f s inb hr hq w) x
      = w (ix2 ⟨o + (x 1).val, by have h : (x 1).val < 64 := (x 1).isLt; omega⟩ (x 2)) :=
  (congrArg (M.view.read Val (filled M f s inb hr hq w)) (load_idx s hs ho inb' x)).trans (filled_hit M f s inb hr hq w hs _ _)

/-- from the other slot, what was there. -/
theorem load_miss {s' : ℕ} (hs' : s' < 2) (hne : s' ≠ s) {o : ℕ} (ho : o + 64 ≤ 256) (inb') (x : (⟨3, ![1, 64, C]⟩ : Shape).Idx) :
    View.readAt Val M.view (Rect.unit (s := ⟨3, ![2, 256, C]⟩) ![s', o, 0] ![1, 64, C] inb').toLoadRect (filled M f s inb hr hq w) x
      = View.readAt Val M.view (Rect.unit (s := ⟨3, ![2, 256, C]⟩) ![s', o, 0] ![1, 64, C] inb').toLoadRect f x :=
  (congrArg (M.view.read Val (filled M f s inb hr hq w)) (load_idx s' hs' ho inb' x)).trans
    ((filled_miss M f s inb hr hq w ⟨s', hs'⟩ hne _ _).trans (congrArg (M.view.read Val f) (load_idx s' hs' ho inb' x)).symm)

end

/-- 64 rows of a table from row `o` on, as a load from a slot gives them. -/
def rows3 {α : Type} {N C : ℕ} (X : (⟨2, ![N, C]⟩ : Shape).Idx → α) (o : ℕ) (h : o + 64 ≤ N) : (⟨3, ![1, 64, C]⟩ : Shape).Idx → α :=
  fun x => X (ix2 ⟨o + (x 1).val, Nat.lt_of_lt_of_le (Nat.add_lt_add_left (x 1).isLt o) h⟩ (x 2))

section
variable {C N : ℕ} (M : Memref sig κ sp (⟨3, ![2, 256, C]⟩ : Shape) e) (f : M.view.ty.Contents Val) {sp' : Space} (H : Memref sig κ sp' (⟨2, ![N, C]⟩ : Shape) e) (X : H.view.ty.Contents Val)
  {s : ℕ} {inb hr} {hq : (⟨3, ![1, 256, C]⟩ : Shape).Squeezes ⟨2, ![256, C]⟩} {off : Fin 2 → ℕ} {inbH hrH}

/-- A load of 64 rows from a slot filled with 256 rows of an array reads the array's rows. -/
theorem load_fetched (hs : s < 2) (m : ℕ) (hoff : off = ![m, 0]) (o : ℕ) (ho : o + 64 ≤ 256) (k : ℕ) (hk : k = m + o) (hN : k + 64 ≤ N) (inb') :
    View.readAt Val M.view (Rect.unit (s := ⟨3, ![2, 256, C]⟩) ![s, o, 0] ![1, 64, C] inb').toLoadRect
      (filled M f s inb hr hq (ReadAs.same.apply (View.read Val (H.slice (Rect.unit (s := ⟨2, ![N, C]⟩) off ![256, C] inbH) hrH).view X))) = rows3 (H.view.read Val X) k hN := by
  subst hoff hk
  funext x
  refine (load_hit M f s inb hr hq _ hs ho inb' x).trans ?_
  refine congrArg (H.view.read Val X) ((rows_idx m (inbH 0) inbH _).trans ?_)
  refine congrArg (fun r => (ix2 r (x 2) : (⟨2, ![N, C]⟩ : Shape).Idx)) (Fin.ext ?_)
  show m + (o + (x 1).val) = m + o + (x 1).val
  omega

theorem load_fetched_under {s' : ℕ} {inb1 hr1} (w : (⟨2, ![256, C]⟩ : Shape).Idx → Val e) (hs : s < 2) (hne : s ≠ s') (m : ℕ) (hoff : off = ![m, 0]) (o : ℕ) (ho : o + 64 ≤ 256) (k : ℕ) (hk : k = m + o) (hN : k + 64 ≤ N) (inb') :
    View.readAt Val M.view (Rect.unit (s := ⟨3, ![2, 256, C]⟩) ![s, o, 0] ![1, 64, C] inb').toLoadRect
      (filled M (filled M f s inb hr hq (ReadAs.same.apply (View.read Val (H.slice (Rect.unit (s := ⟨2, ![N, C]⟩) off ![256, C] inbH) hrH).view X))) s' inb1 hr1 hq w) = rows3 (H.view.read Val X) k hN :=
  (funext fun x => load_miss M _ s' inb1 hr1 hq w hs hne ho inb' x).trans (load_fetched M f H X hs m hoff o ho k hk hN inb')

/-- A slot copied out after four stores of 64 rows holds the table they are the rows of. -/
theorem slab_run (hs : s < 2) {inb0 inb1 inb2 inb3} (w0 w1 w2 w3 : (⟨3, ![1, 64, C]⟩ : Shape).Idx → Val e) (L) (T : Fin 256 → Fin C → Val e)
    (h0 : ∀ (a : Fin 64) b, w0 (ix3 0 a b) = T ⟨a.val, by omega⟩ b) (h1 : ∀ (a : Fin 64) b, w1 (ix3 0 a b) = T ⟨64 + a.val, by omega⟩ b)
    (h2 : ∀ (a : Fin 64) b, w2 (ix3 0 a b) = T ⟨128 + a.val, by omega⟩ b) (h3 : ∀ (a : Fin 64) b, w3 (ix3 0 a b) = T ⟨192 + a.val, by omega⟩ b)
    (a : Fin 256) (b : Fin C) :
    ReadAs.same.apply (View.read Val ((M.slice (Rect.unit (s := ⟨3, ![2, 256, C]⟩) ![s, 0, 0] ![1, 256, C] inb) hr).squeeze ⟨2, ![256, C]⟩ hq).view
      (M.view.writes Val f (⟨Rect.unit (s := ⟨3, ![2, 256, C]⟩) ![s, 192, 0] ![1, 64, C] inb3, w3⟩ :: ⟨Rect.unit (s := ⟨3, ![2, 256, C]⟩) ![s, 128, 0] ![1, 64, C] inb2, w2⟩
      :: ⟨Rect.unit (s := ⟨3, ![2, 256, C]⟩) ![s, 64, 0] ![1, 64, C] inb1, w1⟩ :: ⟨Rect.unit (s := ⟨3, ![2, 256, C]⟩) ![s, 0, 0] ![1, 64, C] inb0, w0⟩ :: L))) (ix2 a b) = T a b :=
  (slot_view M _ s hs inb hr hq a b).trans (slot_read M.view f s hs w0 w1 w2 w3 L T h0 h1 h2 h3 a b)

/-- Four copies of 256 rows into an array leave the table of 1024 rows. -/
theorem slabs (n : ℕ) {off0 off1 off2 off3 : Fin 2 → ℕ} {inb0 inb1 inb2 inb3} {u0 u1 u2 u3}
    (w0 w1 w2 w3 : (⟨2, ![256, C]⟩ : Shape).Idx → Val e) (T : Fin 1024 → Fin C → Val e)
    (e0 : off0 = ![n, 0]) (e1 : off1 = ![n + 256, 0]) (e2 : off2 = ![n + 512, 0]) (e3 : off3 = ![n + 768, 0])
    (h0 : ∀ (a : Fin 256) b, w0 (ix2 a b) = T ⟨a.val, by omega⟩ b) (h1 : ∀ (a : Fin 256) b, w1 (ix2 a b) = T ⟨256 + a.val, by omega⟩ b)
    (h2 : ∀ (a : Fin 256) b, w2 (ix2 a b) = T ⟨512 + a.val, by omega⟩ b) (h3 : ∀ (a : Fin 256) b, w3 (ix2 a b) = T ⟨768 + a.val, by omega⟩ b) :
    H.view.read Val (View.write Val (H.slice (Rect.unit (s := ⟨2, ![N, C]⟩) off3 ![256, C] inb3) u3).view
      (View.write Val (H.slice (Rect.unit (s := ⟨2, ![N, C]⟩) off2 ![256, C] inb2) u2).view
        (View.write Val (H.slice (Rect.unit (s := ⟨2, ![N, C]⟩) off1 ![256, C] inb1) u1).view
          (View.write Val (H.slice (Rect.unit (s := ⟨2, ![N, C]⟩) off0 ![256, C] inb0) u0).view X w0 Finset.univ) w1 Finset.univ) w2 Finset.univ) w3 Finset.univ)
      = putRows n T (H.view.read Val X) :=
  slabs_read (inb0 := inb0) (inb1 := inb1) (inb2 := inb2) (inb3 := inb3) H.view X n w0 w1 w2 w3 T e0 e1 e2 e3 h0 h1 h2 h3

end

/-! ## A buffer that every piece adds to -/

/-- The newest store of a list covers the buffer, and is of `w`. -/
def Top {s : Shape} (L : List (View.Piece Val s e)) (w : s.Idx → Val e) : Prop :=
  ∃ (off : Fin s.rank → ℕ) (inb : _) (L' : _), L = ⟨Rect.unit (s := s) off s.size inb, w⟩ :: L'

theorem Top.read {s : Shape} {L : List (View.Piece Val s e)} {w : s.Idx → Val e} (ht : Top L w) (v : View sig κ sp s e) (f) : v.read Val (v.writes Val f L) = w := by
  obtain ⟨off, inb, L', rfl⟩ := ht
  exact View.read_writes_full v f inb w L'

theorem Top.load [∀ e, Nonempty (Val e)] {s : Shape} {L : List (View.Piece Val s e)} {w : s.Idx → Val e} (ht : Top L w) (v : View sig κ sp s e) {off : Fin s.rank → ℕ} (inb) :
    v.readCov L (Rect.unit (s := s) off s.size inb).toLoadRect = w := by
  obtain ⟨off', inb', L', rfl⟩ := ht
  exact View.readCov_full v inb inb' w L'

end Cert.Dma
-- ==== Proof.Loss.Rows.lean ====
module

public import proofs.«01_k».proof.Proof.Loss.RunA
public import proofs.«01_k».proof.Proof.Dma.Slots
public import Idealize.ShloMosaic.Lib.Pointwise

@[expose] public section

set_option maxRecDepth 16384

noncomputable section

/-! What the epilogue writes, 64 rows at a time, and the calculation of a row block's last point. -/

namespace Cert.Loss

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The pieces -/

section
variable (A : Vec F S64x2048 .f32) (g : Vec F S1x2048 .f32) (X T : Vec F S1x64x2048 .f32)

/-- The loss's gradient with respect to the output, of 64 rows; -/
def outP : FVec F S64x2048 .f32 := k0_pay7 A g X T
/-- the gradient of the product, of 64 rows; -/
def ffP : FVec F S1x64x2048 .bf16 := k0_pay13 (k0_pay3 A) (k0_pay4 A) (k0_pay8 A g X T) (k0_pay9 A g X T)
/-- the loss of 64 rows, in every entry of the tile; -/
def lossP : FVec F S8x128 .f32 := k0_pay10 (k0_pay6 A g X T)
/-- the part of 64 rows in the gain's gradient. -/
def gainP : FVec F S1x2048 .f32 := k0_pay11 (k0_pay4 A) (outP A g X T)

end

/-- The rows of piece `q` of the accumulator, and of the arrays. -/
abbrev aq (A : Vec F S1024x2048 .f32) (q : ℕ) (hq : q < 16) : Vec F S64x2048 .f32 := Dma.rowsAt A (64 * q) (by omega)
abbrev rq (n : ℕ) (hn : n + 1024 ≤ 8192) (Y : Vec F S8192x2048 .f32) (q : ℕ) (hq : q < 16) : Vec F S1x64x2048 .f32 := Dma.rows3 Y (n + 64 * q) (by omega)

section
variable (A : Vec F S1024x2048 .f32) (g : Vec F S1x2048 .f32) (X T : Vec F S8192x2048 .f32) (n : ℕ) (hn : n + 1024 ≤ 8192)

/-- The rows of a row block that leave for the output's gradient, and for the product's. -/
def outT : Fin 1024 → Fin 2048 → Elt F .f32 :=
  fun r b => outP (aq A (r.val / 64) (by omega)) g (rq n hn X (r.val / 64) (by omega)) (rq n hn T (r.val / 64) (by omega)) (ix2 ⟨r.val % 64, by omega⟩ b)
def ffT : Fin 1024 → Fin 2048 → Elt F .bf16 :=
  fun r b => ffP (aq A (r.val / 64) (by omega)) g (rq n hn X (r.val / 64) (by omega)) (rq n hn T (r.val / 64) (by omega)) (ix3 0 ⟨r.val % 64, by omega⟩ b)

theorem outT_at (r : Fin 1024) (b : Fin 2048) {q : ℕ} (hq : q < 16) {a : Fin 64} (e : r.val / 64 = q) (ea : (⟨r.val % 64, by omega⟩ : Fin 64) = a) :
    outT A g X T n hn r b = outP (aq A q hq) g (rq n hn X q hq) (rq n hn T q hq) (ix2 a b) := by
  subst e ea; rfl
theorem ffT_at (r : Fin 1024) (b : Fin 2048) {q : ℕ} (hq : q < 16) {a : Fin 64} (e : r.val / 64 = q) (ea : (⟨r.val % 64, by omega⟩ : Fin 64) = a) :
    ffT A g X T n hn r b = ffP (aq A q hq) g (rq n hn X q hq) (rq n hn T q hq) (ix3 0 a b) := by
  subst e ea; rfl

/-- The loss's tile after a number of further pieces, and the gain's gradient. -/
def lossA (st : Vec F S8x128 .f32) : (k : ℕ) → k < 16 → Vec F S8x128 .f32
  | 0, _ => st
  | k + 1, h => addf (lossA st k (by omega)) (lossP (aq A (k + 1) h) g (rq n hn X (k + 1) h) (rq n hn T (k + 1) h))
def gainA (st : Vec F S1x2048 .f32) : (k : ℕ) → k < 16 → Vec F S1x2048 .f32
  | 0, _ => st
  | k + 1, h => addf (gainA st k (by omega)) (gainP (aq A (k + 1) h) g (rq n hn X (k + 1) h) (rq n hn T (k + 1) h))

/-- Both after the first piece. -/
def lossS (i : grid0.Coords) (prev : Vec F S8x128 .f32) : Vec F S8x128 .f32 :=
  if k0_cond5 i = 1#1 then lossP (aq A 0 (by omega)) g (rq n hn X 0 (by omega)) (rq n hn T 0 (by omega))
  else addf prev (lossP (aq A 0 (by omega)) g (rq n hn X 0 (by omega)) (rq n hn T 0 (by omega)))
def gainS (i : grid0.Coords) (prev : Vec F S1x2048 .f32) : Vec F S1x2048 .f32 :=
  if k0_cond5 i = 1#1 then gainP (aq A 0 (by omega)) g (rq n hn X 0 (by omega)) (rq n hn T 0 (by omega))
  else addf prev (gainP (aq A 0 (by omega)) g (rq n hn X 0 (by omega)) (rq n hn T 0 (by omega)))

end

/-- The calculation's list of stores into the accumulator, when all it holds is one store of all of it. -/
def Acc (L : List (View.Piece (Elt F) S1024x2048 .f32)) (A : Vec F S1024x2048 .f32) : Prop :=
  ∃ inb, L = [⟨Rect.unit (s := S1024x2048) ![0, 0] S1024x2048.size inb, A⟩]

theorem Acc.rows {L : List (View.Piece (Elt F) S1024x2048 .f32)} {A} (h : Acc L A) (o : ℕ) (ho : o + 64 ≤ 1024) (inb) :
    accM.view.readCov L (Rect.unit (s := S1024x2048) ![o, 0] S64x2048.size inb).toLoadRect = Dma.rowsAt A o ho := by
  obtain ⟨inb0, rfl⟩ := h
  exact Dma.load_rows_stored accM.view z2 inb0 A [] o ho inb

theorem acc_stored {L : List (View.Piece (Elt F) S1024x2048 .f32)} {arg3 : Memref sig .tc .vmem S1024x512 .bf16} (harg3 : arg3.IsWhole) {arg4 : Memref sig .tc .vmem S512x2048 .bf16} (harg4 : arg4.IsWhole)
    (x0 : Vec F S1024x512 .bf16) (x1 : Vec F S512x2048 .bf16) (fa : S1024x2048.Idx → Elt F .f32) (inb0 inb1 inb2 inb3)
    (hL : L = [⟨Rect.unit (s := S1024x2048) ![0, 0] S1024x2048.size inb0, k0_pay2
      (View.readAt (Elt F) arg3.view (Rect.unit (s := S1024x512) ![0, 0] S1024x512.size inb1).toLoadRect (harg3.unread x0))
      (View.readAt (Elt F) arg4.view (Rect.unit (s := S512x2048) ![0, 0] S512x2048.size inb2).toLoadRect (harg4.unread x1))
      (View.readAt (Elt F) accM.view (Rect.unit (s := S1024x2048) ![0, 0] S1024x2048.size inb3).toLoadRect fa)⟩]) : Acc L (k0_pay2 x0 x1 fa) := by
  refine ⟨inb0, hL.trans ?_⟩
  rw [Dma.load_unread harg3 x0 z2, Dma.load_unread harg4 x1 z2, View.readAt_full]
  rfl

/-! ## What the last point leaves -/

/-- The accumulator's rows and the gain, as the pieces load them. -/
abbrev ldA (L : List (View.Piece (Elt F) S1024x2048 .f32)) (o : ℕ) (ho : ∀ a, (![o, 0] : Fin 2 → ℕ) a + S64x2048.size a ≤ S1024x2048.size a) : Vec F S64x2048 .f32 :=
  accM.view.readCov L (Rect.unit (s := S1024x2048) ![o, 0] S64x2048.size ho).toLoadRect
abbrev ldG {m : Memref sig .tc .vmem S1x2048 .f32} (hm : m.IsWhole) (g : Vec F S1x2048 .f32) : Vec F S1x2048 .f32 :=
  m.view.readAt (Elt F) (Rect.unit (s := S1x2048) ![0, 0] S1x2048.size inb_S1x2048_S1x2048_0_0).toLoadRect (hm.unread g)

theorem ldA_eq {L : List (View.Piece (Elt F) S1024x2048 .f32)} {A : Vec F S1024x2048 .f32} (hA : Acc L A) {o : ℕ} (ho) (q : ℕ) (hq : q < 16) (e : o = 64 * q) : ldA L o ho = aq A q hq := by
  subst e
  exact hA.rows _ (by omega) ho
theorem ldG_eq {m : Memref sig .tc .vmem S1x2048 .f32} (hm : m.IsWhole) (g : Vec F S1x2048 .f32) : ldG hm g = g := Dma.load_unread hm g z2 _

section
variable {L : List (View.Piece (Elt F) S1024x2048 .f32)} {A : Vec F S1024x2048 .f32} (hA : Acc L A) {m : Memref sig .tc .vmem S1x2048 .f32} (hm : m.IsWhole) (g : Vec F S1x2048 .f32)
  (X T : Vec F S8192x2048 .f32) (n : ℕ) (hn : n + 1024 ≤ 8192) {o : ℕ} {ho : ∀ a, (![o, 0] : Fin 2 → ℕ) a + S64x2048.size a ≤ S1024x2048.size a} {VX VT : Vec F S1x64x2048 .f32}

include hA in
/-- A piece of 64 rows of the output's gradient is those rows of the table; -/
theorem out_run (W : FVec F S1x64x2048 .f32) (hW : W = k0_pay12 (outP (ldA L o ho) (ldG hm g) VX VT)) (r : Fin 1024) (a : Fin 64) (b : Fin 2048) (e : o = 64 * (o / 64)) (hr : r.val = o + a.val)
    (hX : VX = rq n hn X (o / 64) (by omega)) (hT : VT = rq n hn T (o / 64) (by omega)) : W (ix3 0 a b) = outT A g X T n hn r b := by
  rw [ldA_eq hA ho (o / 64) (by omega) e, ldG_eq, hX, hT] at hW
  have e1 : r.val / 64 = o / 64 := by omega
  have e2 : (⟨r.val % 64, by omega⟩ : Fin 64) = a := Fin.ext (by show r.val % 64 = a.val; omega)
  have e3 : k0_pay12 (outP (aq A (o / 64) (by omega)) g (rq n hn X (o / 64) (by omega)) (rq n hn T (o / 64) (by omega))) (ix3 0 a b)
      = outP (aq A (o / 64) (by omega)) g (rq n hn X (o / 64) (by omega)) (rq n hn T (o / 64) (by omega)) (ix2 a b) := by pointwise [k0_pay12]
  rw [hW, e3]
  exact (outT_at A g X T n hn r b (by omega) e1 e2).symm

include hA in
/-- and so is a piece of the product's gradient. -/
theorem ff_run (W : FVec F S1x64x2048 .bf16) (hW : W = ffP (ldA L o ho) (ldG hm g) VX VT) (r : Fin 1024) (a : Fin 64) (b : Fin 2048) (e : o = 64 * (o / 64)) (hr : r.val = o + a.val)
    (hX : VX = rq n hn X (o / 64) (by omega)) (hT : VT = rq n hn T (o / 64) (by omega)) : W (ix3 0 a b) = ffT A g X T n hn r b := by
  rw [ldA_eq hA ho (o / 64) (by omega) e, ldG_eq, hX, hT] at hW
  have e1 : r.val / 64 = o / 64 := by omega
  have e2 : (⟨r.val % 64, by omega⟩ : Fin 64) = a := Fin.ext (by show r.val % 64 = a.val; omega)
  rw [hW]
  exact (ffT_at A g X T n hn r b (by omega) e1 e2).symm

theorem add_tile (w : FVec F S8x128 .f32) (p : Vec F S8x128 .f32) : addf (shapeCast S8x128 p shapeCasts_S8x128_S8x128) w = addf p w := by
  funext y; rw [eq_ix2 y]; pointwise []
theorem add_row (w : FVec F S1x2048 .f32) (p : Vec F S1x2048 .f32) : addf (shapeCast S1x2048 p shapeCasts_S1x2048_S1x2048) w = addf p w := by
  funext y; rw [eq_ix2 y]; pointwise []

include hA in
theorem loss_first {i : grid0.Coords} (h5 : k0_cond5 i = 1#1) (prev : Vec F S8x128 .f32) {off inb} (Ll : List (View.Piece (Elt F) S8x128 .f32))
    (hL : Ll = [⟨Rect.unit (s := S8x128) off S8x128.size inb, lossP (ldA L o ho) (ldG hm g) VX VT⟩]) (e : o = 64 * 0) (hX : VX = rq n hn X 0 (by decide)) (hT : VT = rq n hn T 0 (by decide)) :
    Dma.Top Ll (lossA A g X T n hn (lossS A g X T n hn i prev) 0 (by decide)) := by
  rw [ldA_eq hA ho 0 (by decide) e, ldG_eq, hX, hT] at hL
  exact ⟨_, _, [], hL.trans (by unfold lossA lossS; rw [if_pos h5])⟩

include hA in
theorem loss_next {i : grid0.Coords} (h5 : ¬ k0_cond5 i = 1#1) {m' : Memref sig .tc .vmem S8x128 .f32} (hm' : m'.IsWhole) (prev : Vec F S8x128 .f32) {off inb} (Ll : List (View.Piece (Elt F) S8x128 .f32))
    (hL : Ll = [⟨Rect.unit (s := S8x128) off S8x128.size inb, addf (shapeCast S8x128 (m'.view.readAt (Elt F) (Rect.unit (s := S8x128) ![0, 0] S8x128.size inb_S8x128_S8x128_0_0).toLoadRect (hm'.unread prev)) shapeCasts_S8x128_S8x128)
      (lossP (ldA L o ho) (ldG hm g) VX VT)⟩]) (e : o = 64 * 0) (hX : VX = rq n hn X 0 (by decide)) (hT : VT = rq n hn T 0 (by decide)) :
    Dma.Top Ll (lossA A g X T n hn (lossS A g X T n hn i prev) 0 (by decide)) := by
  rw [ldA_eq hA ho 0 (by decide) e, ldG_eq, hX, hT, Dma.load_unread hm' prev z2, add_tile] at hL
  exact ⟨_, _, [], hL.trans (by unfold lossA lossS; rw [if_neg h5])⟩

include hA in
theorem loss_run {q : ℕ} {st : Vec F S8x128 .f32} (h' : q + 1 < 16) {Lp : List (View.Piece (Elt F) S8x128 .f32)} (ht : Dma.Top Lp (lossA A g X T n hn st q (Nat.lt_of_succ_lt h'))) (v : View sig .tc .vmem S8x128 .f32)
    {off inb} (Ll : List (View.Piece (Elt F) S8x128 .f32))
    (hL : Ll = ⟨Rect.unit (s := S8x128) off S8x128.size inb, addf (shapeCast S8x128 (v.readCov Lp (Rect.unit (s := S8x128) ![0, 0] S8x128.size inb_S8x128_S8x128_0_0).toLoadRect) shapeCasts_S8x128_S8x128)
      (lossP (ldA L o ho) (ldG hm g) VX VT)⟩ :: Lp) (e : o = 64 * (q + 1)) (hX : VX = rq n hn X (q + 1) h') (hT : VT = rq n hn T (q + 1) h') :
    Dma.Top Ll (lossA A g X T n hn st (q + 1) h') := by
  rw [ldA_eq hA ho (q + 1) h' e, ldG_eq, hX, hT, ht.load, add_tile] at hL
  exact ⟨_, _, _, hL⟩

include hA in
theorem gain_first {i : grid0.Coords} (h5 : k0_cond5 i = 1#1) (prev : Vec F S1x2048 .f32) {off inb} (Ll : List (View.Piece (Elt F) S1x2048 .f32))
    (hL : Ll = [⟨Rect.unit (s := S1x2048) off S1x2048.size inb, gainP (ldA L o ho) (ldG hm g) VX VT⟩]) (e : o = 64 * 0) (hX : VX = rq n hn X 0 (by decide)) (hT : VT = rq n hn T 0 (by decide)) :
    Dma.Top Ll (gainA A g X T n hn (gainS A g X T n hn i prev) 0 (by decide)) := by
  rw [ldA_eq hA ho 0 (by decide) e, ldG_eq, hX, hT] at hL
  exact ⟨_, _, [], hL.trans (by unfold gainA gainS; rw [if_pos h5])⟩

include hA in
theorem gain_next {i : grid0.Coords} (h5 : ¬ k0_cond5 i = 1#1) {m' : Memref sig .tc .vmem S1x2048 .f32} (hm' : m'.IsWhole) (prev : Vec F S1x2048 .f32) {off inb} (Ll : List (View.Piece (Elt F) S1x2048 .f32))
    (hL : Ll = [⟨Rect.unit (s := S1x2048) off S1x2048.size inb, addf (shapeCast S1x2048 (m'.view.readAt (Elt F) (Rect.unit (s := S1x2048) ![0, 0] S1x2048.size inb_S1x2048_S1x2048_0_0).toLoadRect (hm'.unread prev)) shapeCasts_S1x2048_S1x2048)
      (gainP (ldA L o ho) (ldG hm g) VX VT)⟩]) (e : o = 64 * 0) (hX : VX = rq n hn X 0 (by decide)) (hT : VT = rq n hn T 0 (by decide)) :
    Dma.Top Ll (gainA A g X T n hn (gainS A g X T n hn i prev) 0 (by decide)) := by
  rw [ldA_eq hA ho 0 (by decide) e, ldG_eq, hX, hT, Dma.load_unread hm' prev z2, add_row] at hL
  exact ⟨_, _, [], hL.trans (by unfold gainA gainS; rw [if_neg h5])⟩

include hA in
theorem gain_run {q : ℕ} {st : Vec F S1x2048 .f32} (h' : q + 1 < 16) {Lp : List (View.Piece (Elt F) S1x2048 .f32)} (ht : Dma.Top Lp (gainA A g X T n hn st q (Nat.lt_of_succ_lt h'))) (v : View sig .tc .vmem S1x2048 .f32)
    {off inb} (Ll : List (View.Piece (Elt F) S1x2048 .f32))
    (hL : Ll = ⟨Rect.unit (s := S1x2048) off S1x2048.size inb, addf (shapeCast S1x2048 (v.readCov Lp (Rect.unit (s := S1x2048) ![0, 0] S1x2048.size inb_S1x2048_S1x2048_0_0).toLoadRect) shapeCasts_S1x2048_S1x2048)
      (gainP (ldA L o ho) (ldG hm g) VX VT)⟩ :: Lp) (e : o = 64 * (q + 1)) (hX : VX = rq n hn X (q + 1) h') (hT : VT = rq n hn T (q + 1) h') :
    Dma.Top Ll (gainA A g X T n hn st (q + 1) h') := by
  rw [ldA_eq hA ho (q + 1) h' e, ldG_eq, hX, hT, ht.load, add_row] at hL
  exact ⟨_, _, _, hL⟩

end

/-! The rows that arrive, and the rows that leave, in the buffers of the two kinds. -/

theorem x_load (f : S2x256x2048.Idx → Elt F .f32) (X : S8192x2048.Idx → Elt F .f32) {s : ℕ} {inb hr} {off : Fin 2 → ℕ} {inbH hrH}
    (hs : s < 2) (m : ℕ) (hoff : off = ![m, 0]) (o : ℕ) (ho : o + 64 ≤ 256) (k : ℕ) (hk : k = m + o) (hN : k + 64 ≤ 8192) (inb') :
    View.readAt (Elt F) xR.view (Rect.unit (s := S2x256x2048) ![s, o, 0] S1x64x2048.size inb').toLoadRect
      (View.write (Elt F) ((xR.slice (Rect.unit (s := S2x256x2048) ![s, 0, 0] ![1, 256, 2048] inb) hr).squeeze S256x2048 squeezes_S1x256x2048_S256x2048).view f (ReadAs.same.apply (View.read (Elt F) (xH.slice (Rect.unit (s := S8192x2048) off ![256, 2048] inbH) hrH).view X)) Finset.univ) = Dma.rows3 X k hN :=
  Dma.load_fetched xR f xH X hs m hoff o ho k hk hN inb'
theorem x_load' (f : S2x256x2048.Idx → Elt F .f32) (X : S8192x2048.Idx → Elt F .f32) {s s' : ℕ} {inb hr inb1 hr1} {off : Fin 2 → ℕ} {inbH hrH} (w : S256x2048.Idx → Elt F .f32)
    (hs : s < 2) (hne : s ≠ s') (m : ℕ) (hoff : off = ![m, 0]) (o : ℕ) (ho : o + 64 ≤ 256) (k : ℕ) (hk : k = m + o) (hN : k + 64 ≤ 8192) (inb') :
    View.readAt (Elt F) xR.view (Rect.unit (s := S2x256x2048) ![s, o, 0] S1x64x2048.size inb').toLoadRect
      (View.write (Elt F) ((xR.slice (Rect.unit (s := S2x256x2048) ![s', 0, 0] ![1, 256, 2048] inb1) hr1).squeeze S256x2048 squeezes_S1x256x2048_S256x2048).view (View.write (Elt F) ((xR.slice (Rect.unit (s := S2x256x2048) ![s, 0, 0] ![1, 256, 2048] inb) hr).squeeze S256x2048 squeezes_S1x256x2048_S256x2048).view f (ReadAs.same.apply (View.read (Elt F) (xH.slice (Rect.unit (s := S8192x2048) off ![256, 2048] inbH) hrH).view X)) Finset.univ) w Finset.univ) = Dma.rows3 X k hN :=
  Dma.load_fetched_under xR f xH X w hs hne m hoff o ho k hk hN inb'

theorem t_load (f : S2x256x2048.Idx → Elt F .f32) (X : S8192x2048.Idx → Elt F .f32) {s : ℕ} {inb hr} {off : Fin 2 → ℕ} {inbH hrH}
    (hs : s < 2) (m : ℕ) (hoff : off = ![m, 0]) (o : ℕ) (ho : o + 64 ≤ 256) (k : ℕ) (hk : k = m + o) (hN : k + 64 ≤ 8192) (inb') :
    View.readAt (Elt F) tR.view (Rect.unit (s := S2x256x2048) ![s, o, 0] S1x64x2048.size inb').toLoadRect
      (View.write (Elt F) ((tR.slice (Rect.unit (s := S2x256x2048) ![s, 0, 0] ![1, 256, 2048] inb) hr).squeeze S256x2048 squeezes_S1x256x2048_S256x2048).view f (ReadAs.same.apply (View.read (Elt F) (tH.slice (Rect.unit (s := S8192x2048) off ![256, 2048] inbH) hrH).view X)) Finset.univ) = Dma.rows3 X k hN :=
  Dma.load_fetched tR f tH X hs m hoff o ho k hk hN inb'
theorem t_load' (f : S2x256x2048.Idx → Elt F .f32) (X : S8192x2048.Idx → Elt F .f32) {s s' : ℕ} {inb hr inb1 hr1} {off : Fin 2 → ℕ} {inbH hrH} (w : S256x2048.Idx → Elt F .f32)
    (hs : s < 2) (hne : s ≠ s') (m : ℕ) (hoff : off = ![m, 0]) (o : ℕ) (ho : o + 64 ≤ 256) (k : ℕ) (hk : k = m + o) (hN : k + 64 ≤ 8192) (inb') :
    View.readAt (Elt F) tR.view (Rect.unit (s := S2x256x2048) ![s, o, 0] S1x64x2048.size inb').toLoadRect
      (View.write (Elt F) ((tR.slice (Rect.unit (s := S2x256x2048) ![s', 0, 0] ![1, 256, 2048] inb1) hr1).squeeze S256x2048 squeezes_S1x256x2048_S256x2048).view (View.write (Elt F) ((tR.slice (Rect.unit (s := S2x256x2048) ![s, 0, 0] ![1, 256, 2048] inb) hr).squeeze S256x2048 squeezes_S1x256x2048_S256x2048).view f (ReadAs.same.apply (View.read (Elt F) (tH.slice (Rect.unit (s := S8192x2048) off ![256, 2048] inbH) hrH).view X)) Finset.univ) w Finset.univ) = Dma.rows3 X k hN :=
  Dma.load_fetched_under tR f tH X w hs hne m hoff o ho k hk hN inb'

theorem d_slab (f : S2x256x2048.Idx → Elt F .f32) (s : ℕ) (hs : s < 2) {inb0 inb1 inb2 inb3 inb h}
    (w0 w1 w2 w3 : S1x64x2048.Idx → Elt F .f32) (L) (T : Fin 256 → Fin 2048 → Elt F .f32)
    (h0 : ∀ (a : Fin 64) b, w0 (ix3 0 a b) = T ⟨a.val, by omega⟩ b) (h1 : ∀ (a : Fin 64) b, w1 (ix3 0 a b) = T ⟨64 + a.val, by omega⟩ b)
    (h2 : ∀ (a : Fin 64) b, w2 (ix3 0 a b) = T ⟨128 + a.val, by omega⟩ b) (h3 : ∀ (a : Fin 64) b, w3 (ix3 0 a b) = T ⟨192 + a.val, by omega⟩ b)
    (a : Fin 256) (b : Fin 2048) :
    ReadAs.same.apply (View.read (Elt F) ((dR.slice (Rect.unit (s := S2x256x2048) ![s, 0, 0] ![1, 256, 2048] inb) h).squeeze S256x2048 squeezes_S1x256x2048_S256x2048).view
      (dR.view.writes (Elt F) f (⟨Rect.unit (s := S2x256x2048) ![s, 192, 0] S1x64x2048.size inb3, w3⟩ :: ⟨Rect.unit (s := S2x256x2048) ![s, 128, 0] S1x64x2048.size inb2, w2⟩
      :: ⟨Rect.unit (s := S2x256x2048) ![s, 64, 0] S1x64x2048.size inb1, w1⟩ :: ⟨Rect.unit (s := S2x256x2048) ![s, 0, 0] S1x64x2048.size inb0, w0⟩ :: L))) (ix2 a b) = T a b :=
  Dma.slab_run dR f hs w0 w1 w2 w3 L T h0 h1 h2 h3 a b

theorem e_slab (f : S2x256x2048.Idx → Elt F .bf16) (s : ℕ) (hs : s < 2) {inb0 inb1 inb2 inb3 inb h}
    (w0 w1 w2 w3 : S1x64x2048.Idx → Elt F .bf16) (L) (T : Fin 256 → Fin 2048 → Elt F .bf16)
    (h0 : ∀ (a : Fin 64) b, w0 (ix3 0 a b) = T ⟨a.val, by omega⟩ b) (h1 : ∀ (a : Fin 64) b, w1 (ix3 0 a b) = T ⟨64 + a.val, by omega⟩ b)
    (h2 : ∀ (a : Fin 64) b, w2 (ix3 0 a b) = T ⟨128 + a.val, by omega⟩ b) (h3 : ∀ (a : Fin 64) b, w3 (ix3 0 a b) = T ⟨192 + a.val, by omega⟩ b)
    (a : Fin 256) (b : Fin 2048) :
    ReadAs.same.apply (View.read (Elt F) ((eR.slice (Rect.unit (s := S2x256x2048) ![s, 0, 0] ![1, 256, 2048] inb) h).squeeze S256x2048 squeezes_S1x256x2048_S256x2048).view
      (eR.view.writes (Elt F) f (⟨Rect.unit (s := S2x256x2048) ![s, 192, 0] S1x64x2048.size inb3, w3⟩ :: ⟨Rect.unit (s := S2x256x2048) ![s, 128, 0] S1x64x2048.size inb2, w2⟩
      :: ⟨Rect.unit (s := S2x256x2048) ![s, 64, 0] S1x64x2048.size inb1, w1⟩ :: ⟨Rect.unit (s := S2x256x2048) ![s, 0, 0] S1x64x2048.size inb0, w0⟩ :: L))) (ix2 a b) = T a b :=
  Dma.slab_run eR f hs w0 w1 w2 w3 L T h0 h1 h2 h3 a b

theorem d_slabs (G : S8192x2048.Idx → Elt F .f32) (n : ℕ) {off0 off1 off2 off3 : Fin 2 → ℕ} {inb0 inb1 inb2 inb3} {u0 u1 u2 u3}
    (w0 w1 w2 w3 : S256x2048.Idx → Elt F .f32) (T : Fin 1024 → Fin 2048 → Elt F .f32)
    (e0 : off0 = ![n, 0]) (e1 : off1 = ![n + 256, 0]) (e2 : off2 = ![n + 512, 0]) (e3 : off3 = ![n + 768, 0])
    (h0 : ∀ (a : Fin 256) b, w0 (ix2 a b) = T ⟨a.val, by omega⟩ b) (h1 : ∀ (a : Fin 256) b, w1 (ix2 a b) = T ⟨256 + a.val, by omega⟩ b)
    (h2 : ∀ (a : Fin 256) b, w2 (ix2 a b) = T ⟨512 + a.val, by omega⟩ b) (h3 : ∀ (a : Fin 256) b, w3 (ix2 a b) = T ⟨768 + a.val, by omega⟩ b) :
    View.write (Elt F) (dH.slice (Rect.unit (s := S8192x2048) off3 S256x2048.size inb3) u3).view
      (View.write (Elt F) (dH.slice (Rect.unit (s := S8192x2048) off2 S256x2048.size inb2) u2).view
        (View.write (Elt F) (dH.slice (Rect.unit (s := S8192x2048) off1 S256x2048.size inb1) u1).view
          (View.write (Elt F) (dH.slice (Rect.unit (s := S8192x2048) off0 S256x2048.size inb0) u0).view G w0 Finset.univ) w1 Finset.univ) w2 Finset.univ) w3 Finset.univ
      = Dma.putRows n T G := by
  have e : ∀ f : S8192x2048.Idx → Elt F .f32, dH.view.read (Elt F) f = f := fun f => rfl
  have h := Dma.slabs_read (inb0 := inb0) (inb1 := inb1) (inb2 := inb2) (inb3 := inb3) dH.view G n w0 w1 w2 w3 T e0 e1 e2 e3 h0 h1 h2 h3
  rw [e, e] at h
  exact h

theorem e_slabs (G : S8192x2048.Idx → Elt F .bf16) (n : ℕ) {off0 off1 off2 off3 : Fin 2 → ℕ} {inb0 inb1 inb2 inb3} {u0 u1 u2 u3}
    (w0 w1 w2 w3 : S256x2048.Idx → Elt F .bf16) (T : Fin 1024 → Fin 2048 → Elt F .bf16)
    (e0 : off0 = ![n, 0]) (e1 : off1 = ![n + 256, 0]) (e2 : off2 = ![n + 512, 0]) (e3 : off3 = ![n + 768, 0])
    (h0 : ∀ (a : Fin 256) b, w0 (ix2 a b) = T ⟨a.val, by omega⟩ b) (h1 : ∀ (a : Fin 256) b, w1 (ix2 a b) = T ⟨256 + a.val, by omega⟩ b)
    (h2 : ∀ (a : Fin 256) b, w2 (ix2 a b) = T ⟨512 + a.val, by omega⟩ b) (h3 : ∀ (a : Fin 256) b, w3 (ix2 a b) = T ⟨768 + a.val, by omega⟩ b) :
    View.write (Elt F) (eH.slice (Rect.unit (s := S8192x2048) off3 S256x2048.size inb3) u3).view
      (View.write (Elt F) (eH.slice (Rect.unit (s := S8192x2048) off2 S256x2048.size inb2) u2).view
        (View.write (Elt F) (eH.slice (Rect.unit (s := S8192x2048) off1 S256x2048.size inb1) u1).view
          (View.write (Elt F) (eH.slice (Rect.unit (s := S8192x2048) off0 S256x2048.size inb0) u0).view G w0 Finset.univ) w1 Finset.univ) w2 Finset.univ) w3 Finset.univ
      = Dma.putRows n T G := by
  have e : ∀ f : S8192x2048.Idx → Elt F .bf16, eH.view.read (Elt F) f = f := fun f => rfl
  have h := Dma.slabs_read (inb0 := inb0) (inb1 := inb1) (inb2 := inb2) (inb3 := inb3) eH.view G n w0 w1 w2 w3 T e0 e1 e2 e3 h0 h1 h2 h3
  rw [e, e] at h
  exact h

/-- The calculation of the last point of a row block. -/
def Last (c : Dev nD) (i : grid0.Coords) (n : ℕ) (hn : n + 1024 ≤ 8192) : Prop :=
  ∀ (arg3 : Memref sig .tc .vmem S1024x512 .bf16) (harg3 : arg3.IsWhole) (arg4 : Memref sig .tc .vmem S512x2048 .bf16) (harg4 : arg4.IsWhole)
    (arg7 : Memref sig .tc .vmem S1x2048 .f32) (harg7 : arg7.IsWhole) (arg10 : Memref sig .tc .vmem S8x128 .f32) (harg10 : arg10.IsWhole) (arg11 : Memref sig .tc .vmem S1x2048 .f32) (harg11 : arg11.IsWhole)
    (x0 : Vec F S1024x512 .bf16) (x1 : Vec F S512x2048 .bf16) (x2 : Vec F S1x2048 .f32) (x3 : Vec F S8x128 .f32) (x4 : Vec F S1x2048 .f32)
    (fa : S1024x2048.Idx → Elt F .f32) (fx ft fd : S2x256x2048.Idx → Elt F .f32) (fe : S2x256x2048.Idx → Elt F .bf16)
    (X T Gd : S8192x2048.Idx → Elt F .f32) (Ge : S8192x2048.Idx → Elt F .bf16)
    (W : Waits sig Unit) (K : PUnit → sProp 𝕄),
    iprop(owns (c : Thread nD τ) arg3 fullShare x0 ∗ owns (c : Thread nD τ) arg4 fullShare x1
      ∗ owns (c : Thread nD τ) arg7 fullShare x2 ∗ owns (c : Thread nD τ) arg10 fullShare x3 ∗ owns (c : Thread nD τ) arg11 fullShare x4
      ∗ whole c accM fa ∗ whole c xR fx ∗ whole c tR ft ∗ whole c dR fd ∗ whole c eR fe
      ∗ whole c xH X ∗ whole c tH T ∗ whole c dH Gd ∗ whole c eH Ge
      ∗ cell c 7 ∗ cell c 8 ∗ cell c 9 ∗ cell c 10 ∗ cell c 11 ∗ cell c 12 ∗ cell c 13 ∗ cell c 14
      ∗ owes (c : Thread nD τ) 0 W
      ∗ (iprop(owns (c : Thread nD τ) arg3 fullShare x0 ∗ owns (c : Thread nD τ) arg4 fullShare x1 ∗ owns (c : Thread nD τ) arg7 fullShare x2
          ∗ owns (c : Thread nD τ) arg10 fullShare (lossA (k0_pay2 x0 x1 fa) x2 X T n hn (lossS (k0_pay2 x0 x1 fa) x2 X T n hn i x3) 15 (by decide))
          ∗ owns (c : Thread nD τ) arg11 fullShare (gainA (k0_pay2 x0 x1 fa) x2 X T n hn (gainS (k0_pay2 x0 x1 fa) x2 X T n hn i x4) 15 (by decide))
          ∗ ((∃ f, whole c accM f) ∗ (∃ f, whole c xR f) ∗ (∃ f, whole c tR f) ∗ (∃ f, whole c dR f) ∗ (∃ f, whole c eR f))
          ∗ (whole c xH X ∗ whole c tH T)
          ∗ (whole c dH (Dma.putRows n (outT (k0_pay2 x0 x1 fa) x2 X T n hn) Gd) ∗ whole c eH (Dma.putRows n (ffT (k0_pay2 x0 x1 fa) x2 X T n hn) Ge))
          ∗ (cell c 7 ∗ cell c 8 ∗ cell c 9 ∗ cell c 10 ∗ cell c 11 ∗ cell c 12 ∗ cell c 13 ∗ cell c 14)
          ∗ (∃ W', owes (c : Thread nD τ) 0 W')) -∗ K ⟨⟩))
    ⊢ wp frame (wpE (defs₀ (F := F)) Variants.none c none) Set.univ (bodyOf i arg3 harg3 arg4 harg4 arg7 harg7 arg10 harg10 arg11 harg11) K

end Cert.Loss
-- ==== Proof.Loss.Last.lean ====
module

public import proofs.«01_k».proof.Proof.Loss.Rows
public import Idealize.ShloMosaic.Lib.Pointwise

@[expose] public section

set_option maxRecDepth 16384

noncomputable section

/-! The last point of a row block: rows arrive, the epilogue runs 64 at a time, and rows of both results leave. -/

namespace Cert.Loss

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
set_option sl_exec.dmaWindow true in set_option sl_exec.dmaWindowSet true in
theorem last_point (c : Dev nD) (i : grid0.Coords) (n : ℕ) (hn : n + 1024 ≤ 8192)
    (h1 : condA i) (h2 : ¬ cond2 i) (h3 : cond3 i) (h4 : condF i) (h : (k0_cond5 i = 1#1 ∧ ¬ k0_cond6 i = 1#1 ∧ k0_cond7 i = 1#1 ∧ ¬ k0_cond8 i = 1#1) ∨ (¬ k0_cond5 i = 1#1 ∧ k0_cond6 i = 1#1 ∧ ¬ k0_cond7 i = 1#1 ∧ k0_cond8 i = 1#1))
    (hl : k0_off1 i = ![n, 0]) (hl0 : k0_off2 i 0#32 = ![n, 0]) (hl1 : k0_off2 i 256#32 = ![n + 256, 0]) (hl2 : k0_off2 i 512#32 = ![n + 512, 0]) (hl3 : k0_off2 i 768#32 = ![n + 768, 0]) :
    Last (F := F) c i n hn := by
  unfold Last
  intro arg3 harg3 arg4 harg4 arg7 harg7 arg10 harg10 arg11 harg11 x0 x1 x2 x3 x4 fa fx ft fd fe X T Gd Ge W K
  letI : ClosedOff (k0_off1 i) := ⟨![n, 0], hl⟩
  letI : ClosedOff (k0_off2 i 0#32) := ⟨![n, 0], hl0⟩
  letI : ClosedOff (k0_off2 i 256#32) := ⟨![n + 256, 0], hl1⟩
  letI : ClosedOff (k0_off2 i 512#32) := ⟨![n + 512, 0], hl2⟩
  letI : ClosedOff (k0_off2 i 768#32) := ⟨![n + 768, 0], hl3⟩
  unfold bodyOf
  simp only [cc0_down_proj_eq_skeleton]; unfold cc0_down_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, Ha, Hx, Ht, Hd, He, HX, HT, HD, HE, Hq7, Hq8, Hq9, Hq10, Hq11, Hq12, Hq13, Hq14, HW, Hk⟩
  obtain rfl := harg3.eq_unread hf0; obtain rfl := harg4.eq_unread hf1; obtain rfl := harg7.eq_unread hf2; obtain rfl := harg10.eq_unread hf3; obtain rfl := harg11.eq_unread hf4
  rcases h with ⟨h5, h6, h7, h8⟩ | ⟨h5, h6, h7, h8⟩
  all_goals (sl_exec (disch := first | sl_exact h1 | sl_exact h2 | sl_exact h3 | sl_exact h4 | sl_exact h5 | sl_exact h6 | sl_exact h7 | sl_exact h8); sl_step)
  all_goals
    have hA : ∀ L, L = _ → Acc L (k0_pay2 x0 x1 fa) := fun L h => acc_stored harg3 harg4 x0 x1 fa (by decide) (by decide) (by decide) (by decide) h
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg7.read_unread _
      iexact H2
    isplitl [H3]
    · iexists _; isplitr
      rotate_left
      · iexact H3
      · ipureintro
        refine Dma.Top.read ?_ arg10.view _
        iterate 15 refine loss_run (hA _ rfl) harg7 x2 X T n hn (by decide) ?_ arg10.view _ rfl (by decide) ?_ ?_
        first | refine loss_first (hA _ rfl) harg7 x2 X T n hn h5 x3 _ rfl (by decide) ?_ ?_ | refine loss_next (hA _ rfl) harg7 x2 X T n hn h5 harg10 x3 _ rfl (by decide) ?_ ?_
        iterate 4 (exact x_load' _ X _ (by decide) (by decide) _ hl _ (by decide) _ (by omega) (by omega) _; exact t_load' _ T _ (by decide) (by decide) _ hl _ (by decide) _ (by omega) (by omega) _)
        iterate 4 (exact x_load' _ X _ (by decide) (by decide) _ hl1 _ (by decide) _ (by omega) (by omega) _; exact t_load' _ T _ (by decide) (by decide) _ hl1 _ (by decide) _ (by omega) (by omega) _)
        iterate 4 (exact x_load' _ X _ (by decide) (by decide) _ hl2 _ (by decide) _ (by omega) (by omega) _; exact t_load' _ T _ (by decide) (by decide) _ hl2 _ (by decide) _ (by omega) (by omega) _)
        iterate 4 (exact x_load _ X (by decide) _ hl3 _ (by decide) _ (by omega) (by omega) _; exact t_load _ T (by decide) _ hl3 _ (by decide) _ (by omega) (by omega) _)
    isplitl [H4]
    · iexists _; isplitr
      rotate_left
      · iexact H4
      · ipureintro
        refine Dma.Top.read ?_ arg11.view _
        iterate 15 refine gain_run (hA _ rfl) harg7 x2 X T n hn (by decide) ?_ arg11.view _ rfl (by decide) ?_ ?_
        first | refine gain_first (hA _ rfl) harg7 x2 X T n hn h5 x4 _ rfl (by decide) ?_ ?_ | refine gain_next (hA _ rfl) harg7 x2 X T n hn h5 harg11 x4 _ rfl (by decide) ?_ ?_
        iterate 4 (exact x_load' _ X _ (by decide) (by decide) _ hl _ (by decide) _ (by omega) (by omega) _; exact t_load' _ T _ (by decide) (by decide) _ hl _ (by decide) _ (by omega) (by omega) _)
        iterate 4 (exact x_load' _ X _ (by decide) (by decide) _ hl1 _ (by decide) _ (by omega) (by omega) _; exact t_load' _ T _ (by decide) (by decide) _ hl1 _ (by decide) _ (by omega) (by omega) _)
        iterate 4 (exact x_load' _ X _ (by decide) (by decide) _ hl2 _ (by decide) _ (by omega) (by omega) _; exact t_load' _ T _ (by decide) (by decide) _ hl2 _ (by decide) _ (by omega) (by omega) _)
        iterate 4 (exact x_load _ X (by decide) _ hl3 _ (by decide) _ (by omega) (by omega) _; exact t_load _ T (by decide) _ hl3 _ (by decide) _ (by omega) (by omega) _)
    isplitl [Ha Hx Ht Hd He]
    · isplitl [Ha]; · iexists _; iexact Ha
      isplitl [Hx]; · iexists _; iexact Hx
      isplitl [Ht]; · iexists _; iexact Ht
      isplitl [Hd]; · iexists _; iexact Hd
      iexists _; iexact He
    isplitl [HX HT]
    · isplitl [HX]; · iexact HX
      iexact HT
    isplitl [HD HE]
    · isplitl [HD]
      · refine Entails.of_eq (congrArg (whole c dH) ?_)
        refine d_slabs Gd n _ _ _ _ _ hl0 hl1 hl2 hl3 ?_ ?_ ?_ ?_
        · refine d_slab fd _ (by decide) _ _ _ _ _ (fun a b => outT (k0_pay2 x0 x1 fa) x2 X T n hn ⟨a.val, by omega⟩ b) ?_ ?_ ?_ ?_
          all_goals (intro a b; refine out_run (hA _ rfl) harg7 x2 X T n hn _ rfl _ a b (by decide) (by first | rfl | (dsimp only; omega)) ?_ ?_)
          iterate 4 (exact x_load' _ X _ (by decide) (by decide) _ hl _ (by decide) _ (by omega) (by omega) _; exact t_load' _ T _ (by decide) (by decide) _ hl _ (by decide) _ (by omega) (by omega) _)
        · refine d_slab fd _ (by decide) _ _ _ _ _ (fun a b => outT (k0_pay2 x0 x1 fa) x2 X T n hn ⟨256 + a.val, by omega⟩ b) ?_ ?_ ?_ ?_
          all_goals (intro a b; refine out_run (hA _ rfl) harg7 x2 X T n hn _ rfl _ a b (by decide) (by first | rfl | (dsimp only; omega)) ?_ ?_)
          iterate 4 (exact x_load' _ X _ (by decide) (by decide) _ hl1 _ (by decide) _ (by omega) (by omega) _; exact t_load' _ T _ (by decide) (by decide) _ hl1 _ (by decide) _ (by omega) (by omega) _)
        · refine d_slab fd _ (by decide) _ _ _ _ _ (fun a b => outT (k0_pay2 x0 x1 fa) x2 X T n hn ⟨512 + a.val, by omega⟩ b) ?_ ?_ ?_ ?_
          all_goals (intro a b; refine out_run (hA _ rfl) harg7 x2 X T n hn _ rfl _ a b (by decide) (by first | rfl | (dsimp only; omega)) ?_ ?_)
          iterate 4 (exact x_load' _ X _ (by decide) (by decide) _ hl2 _ (by decide) _ (by omega) (by omega) _; exact t_load' _ T _ (by decide) (by decide) _ hl2 _ (by decide) _ (by omega) (by omega) _)
        · refine d_slab fd _ (by decide) _ _ _ _ _ (fun a b => outT (k0_pay2 x0 x1 fa) x2 X T n hn ⟨768 + a.val, by omega⟩ b) ?_ ?_ ?_ ?_
          all_goals (intro a b; refine out_run (hA _ rfl) harg7 x2 X T n hn _ rfl _ a b (by decide) (by first | rfl | (dsimp only; omega)) ?_ ?_)
          iterate 4 (exact x_load _ X (by decide) _ hl3 _ (by decide) _ (by omega) (by omega) _; exact t_load _ T (by decide) _ hl3 _ (by decide) _ (by omega) (by omega) _)
      refine Entails.of_eq (congrArg (whole c eH) ?_)
      refine e_slabs Ge n _ _ _ _ _ hl0 hl1 hl2 hl3 ?_ ?_ ?_ ?_
      · refine e_slab fe _ (by decide) _ _ _ _ _ (fun a b => ffT (k0_pay2 x0 x1 fa) x2 X T n hn ⟨a.val, by omega⟩ b) ?_ ?_ ?_ ?_
        all_goals (intro a b; refine ff_run (hA _ rfl) harg7 x2 X T n hn _ rfl _ a b (by decide) (by first | rfl | (dsimp only; omega)) ?_ ?_)
        iterate 4 (exact x_load' _ X _ (by decide) (by decide) _ hl _ (by decide) _ (by omega) (by omega) _; exact t_load' _ T _ (by decide) (by decide) _ hl _ (by decide) _ (by omega) (by omega) _)
      · refine e_slab fe _ (by decide) _ _ _ _ _ (fun a b => ffT (k0_pay2 x0 x1 fa) x2 X T n hn ⟨256 + a.val, by omega⟩ b) ?_ ?_ ?_ ?_
        all_goals (intro a b; refine ff_run (hA _ rfl) harg7 x2 X T n hn _ rfl _ a b (by decide) (by first | rfl | (dsimp only; omega)) ?_ ?_)
        iterate 4 (exact x_load' _ X _ (by decide) (by decide) _ hl1 _ (by decide) _ (by omega) (by omega) _; exact t_load' _ T _ (by decide) (by decide) _ hl1 _ (by decide) _ (by omega) (by omega) _)
      · refine e_slab fe _ (by decide) _ _ _ _ _ (fun a b => ffT (k0_pay2 x0 x1 fa) x2 X T n hn ⟨512 + a.val, by omega⟩ b) ?_ ?_ ?_ ?_
        all_goals (intro a b; refine ff_run (hA _ rfl) harg7 x2 X T n hn _ rfl _ a b (by decide) (by first | rfl | (dsimp only; omega)) ?_ ?_)
        iterate 4 (exact x_load' _ X _ (by decide) (by decide) _ hl2 _ (by decide) _ (by omega) (by omega) _; exact t_load' _ T _ (by decide) (by decide) _ hl2 _ (by decide) _ (by omega) (by omega) _)
      · refine e_slab fe _ (by decide) _ _ _ _ _ (fun a b => ffT (k0_pay2 x0 x1 fa) x2 X T n hn ⟨768 + a.val, by omega⟩ b) ?_ ?_ ?_ ?_
        all_goals (intro a b; refine ff_run (hA _ rfl) harg7 x2 X T n hn _ rfl _ a b (by decide) (by first | rfl | (dsimp only; omega)) ?_ ?_)
        iterate 4 (exact x_load _ X (by decide) _ hl3 _ (by decide) _ (by omega) (by omega) _; exact t_load _ T (by decide) _ hl3 _ (by decide) _ (by omega) (by omega) _)
    isplitl [Hq7 Hq8 Hq9 Hq10 Hq11 Hq12 Hq13 Hq14]
    · isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      iexact Hq14
    iexists _; iexact HW

end Cert.Loss
-- ==== Proof.Loss.Launch.lean ====
module

public import proofs.«01_k».proof.Proof.Loss.Last

@[expose] public section

set_option maxRecDepth 16384

noncomputable section

/-! The launch: what the buffers hold from point to point, the invariant, the body at any point, and the run with the contents of all four results. -/

namespace Cert.Loss

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The points -/

theorem lt_N (t : Fin cfg0.N) : t.val < 88 := lt_of_lt_of_eq t.isLt (show cfg0.N = 88 from N_0)
theorem row_le (n : ℕ) (hn : n < cfg0.N) : 1024 * (n / 11) + 1024 ≤ 8192 := by
  have h : n < 88 := lt_N ⟨n, hn⟩
  omega

theorem condA_iff : ∀ t : Fin cfg0.N, condA (grid0.coords t) ↔ t.val % 11 = 10 := by decide +kernel
theorem cond2_iff : ∀ t : Fin cfg0.N, cond2 (grid0.coords t) ↔ t.val % 11 = 0 := by decide +kernel
theorem cond3_iff : ∀ t : Fin cfg0.N, cond3 (grid0.coords t) ↔ ¬ t.val % 11 = 0 := by decide +kernel
theorem condF_iff : ∀ t : Fin cfg0.N, condF (grid0.coords t) ↔ t.val % 11 = 10 := by decide +kernel
theorem cond5_iff : ∀ t : Fin cfg0.N, k0_cond5 (grid0.coords t) = 1#1 ↔ t.val < 11 := by decide +kernel
theorem cond6_iff : ∀ t : Fin cfg0.N, k0_cond6 (grid0.coords t) = 1#1 ↔ ¬ t.val < 11 := by decide +kernel
theorem off1_eq : ∀ t : Fin cfg0.N, k0_off1 (grid0.coords t) = ![1024 * (t.val / 11), 0] := by decide +kernel
theorem off2_eq : ∀ t : Fin cfg0.N, k0_off2 (grid0.coords t) 0#32 = ![1024 * (t.val / 11), 0] ∧ k0_off2 (grid0.coords t) 256#32 = ![1024 * (t.val / 11) + 256, 0]
    ∧ k0_off2 (grid0.coords t) 512#32 = ![1024 * (t.val / 11) + 512, 0] ∧ k0_off2 (grid0.coords t) 768#32 = ![1024 * (t.val / 11) + 768, 0] := by decide +kernel
theorem idle3_iff : ∀ t : Fin cfg0.N, idle0 3 (grid0.coords t) = true ↔ ¬ t.val % 11 = 10 := by decide +kernel
theorem idle4_iff : ∀ t : Fin cfg0.N, idle0 4 (grid0.coords t) = true ↔ ¬ t.val % 11 = 10 := by decide +kernel

/-! ## What the buffers hold -/

abbrev xs (c : Dev nD) : S8192x2048.Idx → Elt F .f32 := V m c main_arg2
abbrev ts (c : Dev nD) : S8192x2048.Idx → Elt F .f32 := V m c main_arg3
abbrev act (c : Dev nD) (t : Fin cfg0.N) : Vec F S1024x512 .bf16 := iblk m c 0 t
abbrev wd (c : Dev nD) (t : Fin cfg0.N) : Vec F S512x2048 .bf16 := iblk m c 1 t
abbrev gain (c : Dev nD) (t : Fin cfg0.N) : Vec F S1x2048 .f32 := iblk m c 2 t

/-- The accumulator after a point. -/
def accAt (c : Dev nD) : (n : ℕ) → n < cfg0.N → Vec F S1024x2048 .f32
  | 0, h => k0_pay1 (act m c ⟨0, h⟩) (wd m c ⟨0, h⟩)
  | n + 1, h => if (n + 1) % 11 = 0 then k0_pay1 (act m c ⟨n + 1, h⟩) (wd m c ⟨n + 1, h⟩)
      else k0_pay2 (act m c ⟨n + 1, h⟩) (wd m c ⟨n + 1, h⟩) (accAt c n (by omega))

theorem accAt_first (c : Dev nD) (t : Fin cfg0.N) (h : t.val % 11 = 0) : accAt m c t.val t.isLt = k0_pay1 (act m c t) (wd m c t) := by
  obtain ⟨n, hn⟩ := t
  cases n with
  | zero => rfl
  | succ n => exact if_pos h

theorem accAt_next (c : Dev nD) (t : Fin cfg0.N) (h : ¬ t.val % 11 = 0) :
    accAt m c t.val t.isLt = k0_pay2 (act m c t) (wd m c t) (accAt m c (t.val - 1) (by omega)) := by
  obtain ⟨n, hn⟩ := t
  cases n with
  | zero => exact absurd rfl h
  | succ n => exact if_neg h

/-- The loss's tile after a point, and the gain's gradient. -/
def lsAt (c : Dev nD) : (n : ℕ) → n < cfg0.N → Vec F S8x128 .f32
  | 0, h => k0_pay10 (k0_pay6 (aq (accAt m c 0 h) 0 (by decide)) (gain m c ⟨0, h⟩) (rq 0 (by decide) (xs m c) 0 (by decide)) (rq 0 (by decide) (ts m c) 0 (by decide)))
  | n + 1, h => if (n + 1) % 11 = 10 then
        lossA (accAt m c (n + 1) h) (gain m c ⟨n + 1, h⟩) (xs m c) (ts m c) (1024 * ((n + 1) / 11)) (row_le (n + 1) h)
          (lossS (accAt m c (n + 1) h) (gain m c ⟨n + 1, h⟩) (xs m c) (ts m c) (1024 * ((n + 1) / 11)) (row_le (n + 1) h) (grid0.coords ⟨n + 1, h⟩) (lsAt c n (by omega))) 15 (by decide)
      else lsAt c n (by omega)
def dgAt (c : Dev nD) : (n : ℕ) → n < cfg0.N → Vec F S1x2048 .f32
  | 0, h => gain m c ⟨0, h⟩
  | n + 1, h => if (n + 1) % 11 = 10 then
        gainA (accAt m c (n + 1) h) (gain m c ⟨n + 1, h⟩) (xs m c) (ts m c) (1024 * ((n + 1) / 11)) (row_le (n + 1) h)
          (gainS (accAt m c (n + 1) h) (gain m c ⟨n + 1, h⟩) (xs m c) (ts m c) (1024 * ((n + 1) / 11)) (row_le (n + 1) h) (grid0.coords ⟨n + 1, h⟩) (dgAt c n (by omega))) 15 (by decide)
      else dgAt c n (by omega)

/-- Both gradients after a number of points. -/
def dAt (c : Dev nD) : (n : ℕ) → n ≤ cfg0.N → (S8192x2048.Idx → Elt F .f32)
  | 0, _ => V m c main_v2_0
  | n + 1, h => if n % 11 = 10 then Dma.putRows (1024 * (n / 11)) (outT (accAt m c n h) (gain m c ⟨n, h⟩) (xs m c) (ts m c) (1024 * (n / 11)) (row_le n h)) (dAt c n (by omega))
      else dAt c n (by omega)
def eAt (c : Dev nD) : (n : ℕ) → n ≤ cfg0.N → (S8192x2048.Idx → Elt F .bf16)
  | 0, _ => V m c main_v2_1
  | n + 1, h => if n % 11 = 10 then Dma.putRows (1024 * (n / 11)) (ffT (accAt m c n h) (gain m c ⟨n, h⟩) (xs m c) (ts m c) (1024 * (n / 11)) (row_le n h)) (eAt c n (by omega))
      else eAt c n (by omega)

/-! ## The invariant: nothing under way between points, and the partial sum inside a row block -/

def Inv (c : Dev nD) (A : sProp 𝕄) (G : S8192x2048.Idx → Elt F .f32) (E : S8192x2048.Idx → Elt F .bf16) : sProp 𝕄 :=
  iprop((A ∗ (∃ f, whole c xR f) ∗ (∃ f, whole c tR f) ∗ (∃ f, whole c dR f) ∗ (∃ f, whole c eR f))
    ∗ (∃ r, prngReg c r) ∗ (cell c 7 ∗ cell c 8 ∗ cell c 9 ∗ cell c 10 ∗ cell c 11 ∗ cell c 12 ∗ cell c 13 ∗ cell c 14)
    ∗ (whole c xH (xs m c) ∗ whole c tH (ts m c)) ∗ (whole c dH G ∗ whole c eH E))

abbrev AnyA (c : Dev nD) : sProp 𝕄 := iprop(∃ f, whole c accM f)

def PhiS (c : Dev nD) (n : ℕ) (hn : n ≤ cfg0.N) : sProp 𝕄 :=
  if h : n % 11 = 0 then Inv m c (AnyA c) (dAt m c n hn) (eAt m c n hn) else Inv m c (whole c accM (accAt m c (n - 1) (by omega))) (dAt m c n hn) (eAt m c n hn)

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => lsAt m c t.val t.isLt
    | ⟨4, _⟩ => dgAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = lsAt m c t.val t.isLt := by dsimp only [dats]
theorem after4 (c : Dev nD) (t : Fin cfg0.N) : (dats m 0 c).after 4 t = dgAt m c t.val t.isLt := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- An input's staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! From the second row block on, the buffers of the loss and of the gain hold what the row blocks before left. -/

theorem fetch3 : ∀ t : Fin cfg0.N, (cfg0.win 3).fetch t = false := by decide +kernel

theorem before3 (c : Dev nD) : ∀ (n : ℕ) (hn : n < cfg0.N) (h4 : 11 ≤ n) (d), (dats m 0 c).before 3 ⟨n, hn⟩ d = lsAt m c (n - 1) (lt_of_le_of_lt (Nat.sub_le n 1) hn)
  | 0, _, h4, _ => absurd h4 (by decide)
  | n + 1, hn, h4, d => by
    have hN : n + 1 < 88 := lt_N ⟨n + 1, hn⟩
    have hn' : n < cfg0.N := Nat.lt_of_succ_lt hn
    have hfl : (cfg0.win 3).flush ⟨n, hn'⟩ = false := by
      rw [← Bool.not_eq_true, flush0_3]; show ¬ n % 88 = 87; omega
    rw [(dats m 0 c).before_of_pos 3 ⟨n + 1, hn⟩ (Nat.succ_ne_zero n) (fetch3 _) d]
    show (if (cfg0.win 3).flush ⟨n, _⟩ then d else (dats m 0 c).left 3 ⟨n, _⟩ d) = lsAt m c n _
    rw [hfl, if_neg Bool.false_ne_true]
    unfold Dat.left
    by_cases h3 : n % 11 = 10
    · have hi : cfg0.idle 3 (cfg0.grid.coords ⟨n, hn'⟩) = false := by
        rw [← Bool.not_eq_true]; exact fun hh => (idle3_iff ⟨n, hn'⟩).mp hh h3
      rw [hi]
      show (dats m 0 c).after 3 ⟨n, _⟩ = _
      rw [after3]
    · have hi : cfg0.idle 3 (cfg0.grid.coords ⟨n, hn'⟩) = true := (idle3_iff ⟨n, hn'⟩).mpr h3
      rw [hi]
      show (dats m 0 c).before 3 ⟨n, _⟩ d = _
      rw [before3 c n hn' (by omega) d]
      obtain ⟨k, rfl⟩ : ∃ k, n = k + 1 := ⟨n - 1, by omega⟩
      exact (if_neg h3).symm

theorem fetch4 : ∀ t : Fin cfg0.N, (cfg0.win 4).fetch t = false := by decide +kernel

theorem before4 (c : Dev nD) : ∀ (n : ℕ) (hn : n < cfg0.N) (h4 : 11 ≤ n) (d), (dats m 0 c).before 4 ⟨n, hn⟩ d = dgAt m c (n - 1) (lt_of_le_of_lt (Nat.sub_le n 1) hn)
  | 0, _, h4, _ => absurd h4 (by decide)
  | n + 1, hn, h4, d => by
    have hN : n + 1 < 88 := lt_N ⟨n + 1, hn⟩
    have hn' : n < cfg0.N := Nat.lt_of_succ_lt hn
    have hfl : (cfg0.win 4).flush ⟨n, hn'⟩ = false := by
      rw [← Bool.not_eq_true, flush0_4]; show ¬ n % 88 = 87; omega
    rw [(dats m 0 c).before_of_pos 4 ⟨n + 1, hn⟩ (Nat.succ_ne_zero n) (fetch4 _) d]
    show (if (cfg0.win 4).flush ⟨n, _⟩ then d else (dats m 0 c).left 4 ⟨n, _⟩ d) = dgAt m c n _
    rw [hfl, if_neg Bool.false_ne_true]
    unfold Dat.left
    by_cases h3 : n % 11 = 10
    · have hi : cfg0.idle 4 (cfg0.grid.coords ⟨n, hn'⟩) = false := by
        rw [← Bool.not_eq_true]; exact fun hh => (idle4_iff ⟨n, hn'⟩).mp hh h3
      rw [hi]
      show (dats m 0 c).after 4 ⟨n, _⟩ = _
      rw [after4]
    · have hi : cfg0.idle 4 (cfg0.grid.coords ⟨n, hn'⟩) = true := (idle4_iff ⟨n, hn'⟩).mpr h3
      rw [hi]
      show (dats m 0 c).before 4 ⟨n, _⟩ d = _
      rw [before4 c n hn' (by omega) d]
      obtain ⟨k, rfl⟩ : ∃ k, n = k + 1 := ⟨n - 1, by omega⟩
      exact (if_neg h3).symm

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t ∗ (dats m 0 c).leavesExact 4 t)

theorem leaves3_idle (c : Dev nD) (t : Fin cfg0.N) (h : ¬ t.val % 11 = 10) :
    (dats m 0 c).leavesExact 3 t = iprop(∃ d, owns (c : Thread nD τ) (st0_3 t) fullShare ((dats m 0 c).before 3 t d)) :=
  (dats m 0 c).leavesExact_idle 3 t ((idle3_iff t).mpr h) (by rw [← Bool.not_eq_true, flush0_3]; omega)

theorem leaves3_live (c : Dev nD) (t : Fin cfg0.N) (h : t.val % 11 = 10) :
    (dats m 0 c).leavesExact 3 t = owns (c : Thread nD τ) (st0_3 t) fullShare (lsAt m c t.val t.isLt) := by
  have hi : cfg0.idle 3 (cfg0.grid.coords t) = false := by
    rw [← Bool.not_eq_true]; exact fun hh => (idle3_iff t).mp hh h
  unfold Dat.leavesExact; rw [hi, after3]

theorem leaves4_idle (c : Dev nD) (t : Fin cfg0.N) (h : ¬ t.val % 11 = 10) :
    (dats m 0 c).leavesExact 4 t = iprop(∃ d, owns (c : Thread nD τ) (st0_4 t) fullShare ((dats m 0 c).before 4 t d)) :=
  (dats m 0 c).leavesExact_idle 4 t ((idle4_iff t).mpr h) (by rw [← Bool.not_eq_true, flush0_4]; omega)

theorem leaves4_live (c : Dev nD) (t : Fin cfg0.N) (h : t.val % 11 = 10) :
    (dats m 0 c).leavesExact 4 t = owns (c : Thread nD τ) (st0_4 t) fullShare (dgAt m c t.val t.isLt) := by
  have hi : cfg0.idle 4 (cfg0.grid.coords t) = false := by
    rw [← Bool.not_eq_true]; exact fun hh => (idle4_iff t).mp hh h
  unfold Dat.leavesExact; rw [hi, after4]

theorem Phi_rest (c : Dev nD) (t : Fin cfg0.N) (h : t.val % 11 = 0) : (dats m 0 c).Φ t.castSucc = Inv m c (AnyA c) (dAt m c t.val (Nat.le_of_lt t.isLt)) (eAt m c t.val (Nat.le_of_lt t.isLt)) := by
  rw [PhiS_castSucc]; exact dif_pos h
theorem Phi_busy (c : Dev nD) (t : Fin cfg0.N) (h : ¬ t.val % 11 = 0) :
    (dats m 0 c).Φ t.castSucc = Inv m c (whole c accM (accAt m c (t.val - 1) (lt_of_le_of_lt (Nat.sub_le _ _) t.isLt))) (dAt m c t.val (Nat.le_of_lt t.isLt)) (eAt m c t.val (Nat.le_of_lt t.isLt)) := by
  rw [PhiS_castSucc]; exact dif_neg h
theorem Phi_busy' (c : Dev nD) (t : Fin cfg0.N) (h : ¬ t.val % 11 = 10) :
    (dats m 0 c).Φ t.succ = Inv m c (whole c accM (accAt m c t.val t.isLt)) (dAt m c t.val (Nat.le_of_lt t.isLt)) (eAt m c t.val (Nat.le_of_lt t.isLt)) := by
  refine (show (dats m 0 c).Φ t.succ = PhiS m c (t.val + 1) t.isLt from rfl).trans ?_
  refine (dif_neg (by omega)).trans ?_
  exact congrArg₂ (Inv m c (whole c accM (accAt m c t.val t.isLt))) (if_neg h) (if_neg h)
theorem Phi_rest' (c : Dev nD) (t : Fin cfg0.N) (h : t.val % 11 = 10) :
    (dats m 0 c).Φ t.succ = Inv m c (AnyA c)
      (Dma.putRows (1024 * (t.val / 11)) (outT (accAt m c t.val t.isLt) (gain m c t) (xs m c) (ts m c) (1024 * (t.val / 11)) (row_le t.val t.isLt)) (dAt m c t.val (Nat.le_of_lt t.isLt)))
      (Dma.putRows (1024 * (t.val / 11)) (ffT (accAt m c t.val t.isLt) (gain m c t) (xs m c) (ts m c) (1024 * (t.val / 11)) (row_le t.val t.isLt)) (eAt m c t.val (Nat.le_of_lt t.isLt))) := by
  refine (show (dats m 0 c).Φ t.succ = PhiS m c (t.val + 1) t.isLt from rfl).trans ?_
  refine (dif_pos (by omega)).trans ?_
  exact congrArg₂ (Inv m c (AnyA c)) (if_pos h) (if_pos h)

theorem last_any (c : Dev nD) (t : Fin cfg0.N) (h : t.val % 11 = 10) : Last (F := F) c (grid0.coords t) (1024 * (t.val / 11)) (row_le t.val t.isLt) := by
  obtain ⟨e0, e1, e2, e3⟩ := off2_eq t
  refine last_point c _ _ _ ((condA_iff t).mpr h) (fun hh => by have := (cond2_iff t).mp hh; omega) ((cond3_iff t).mpr (by omega)) ((condF_iff t).mpr h) ?_ (off1_eq t) e0 e1 e2 e3
  have f5 := cond5_iff t
  have f6 := cond6_iff t
  by_cases h4 : t.val < 11
  · exact .inl ⟨f5.mpr h4, fun hh => f6.mp hh h4, f5.mpr h4, fun hh => f6.mp hh h4⟩
  · exact .inr ⟨fun hh => h4 (f5.mp hh), f6.mpr h4, fun hh => h4 (f5.mp hh), f6.mpr h4⟩

/-! What the last point leaves for the loss and for the gain's gradient, whatever the buffers held before the first row block. -/

theorem ls_last (c : Dev nD) (t : Fin cfg0.N) (h : t.val % 11 = 10) (d) :
    lossA (accAt m c t.val t.isLt) (gain m c t) (xs m c) (ts m c) (1024 * (t.val / 11)) (row_le t.val t.isLt)
        (lossS (accAt m c t.val t.isLt) (gain m c t) (xs m c) (ts m c) (1024 * (t.val / 11)) (row_le t.val t.isLt) (grid0.coords t) ((dats m 0 c).before 3 t d)) 15 (by decide)
      = lsAt m c t.val t.isLt := by
  obtain ⟨n, hn⟩ := t
  obtain ⟨k, rfl⟩ : ∃ k, n = k + 1 := ⟨n - 1, by dsimp only at h; omega⟩
  refine Eq.trans ?_ (if_pos h).symm
  by_cases h4 : k + 1 < 11
  · have h5 : k0_cond5 (grid0.coords ⟨k + 1, hn⟩) = 1#1 := (cond5_iff ⟨k + 1, hn⟩).mpr h4
    unfold lossS
    rw [if_pos h5, if_pos h5]
  · rw [before3 m c (k + 1) hn (by omega) d]; rfl

theorem dg_last (c : Dev nD) (t : Fin cfg0.N) (h : t.val % 11 = 10) (d) :
    gainA (accAt m c t.val t.isLt) (gain m c t) (xs m c) (ts m c) (1024 * (t.val / 11)) (row_le t.val t.isLt)
        (gainS (accAt m c t.val t.isLt) (gain m c t) (xs m c) (ts m c) (1024 * (t.val / 11)) (row_le t.val t.isLt) (grid0.coords t) ((dats m 0 c).before 4 t d)) 15 (by decide)
      = dgAt m c t.val t.isLt := by
  obtain ⟨n, hn⟩ := t
  obtain ⟨k, rfl⟩ : ∃ k, n = k + 1 := ⟨n - 1, by dsimp only at h; omega⟩
  refine Eq.trans ?_ (if_pos h).symm
  by_cases h4 : k + 1 < 11
  · have h5 : k0_cond5 (grid0.coords ⟨k + 1, hn⟩) = 1#1 := (cond5_iff ⟨k + 1, hn⟩).mpr h4
    unfold gainS
    rw [if_pos h5, if_pos h5]
  · rw [before4 m c (k + 1) hn (by omega) d]; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  have hN := lt_N t
  unfold bodyPre bodyPost bodyAt0
  simp only [before0, before1, before2]
  rw [after0, after1, after2]
  unfold Dat.owesAt Pipeline.owesWithin
  rw [show (dats m 0 c).owed t.castSucc = 0 from rfl, show (dats m 0 c).owed t.succ = 0 from rfl]
  by_cases h3 : t.val % 11 = 10
  · rw [leaves3_live m c t h3, leaves4_live m c t h3, Phi_rest' m c t h3, Phi_busy m c t (by omega)]
    unfold Inv
    iintro ⟨⟨⟨Ha, ⟨%fx, Hx⟩, ⟨%ft, Ht⟩, ⟨%fd, Hd⟩, ⟨%fe, He⟩⟩, Hp, ⟨Hq7, Hq8, Hq9, Hq10, Hq11, Hq12, Hq13, Hq14⟩, ⟨HX, HT⟩, ⟨HD, HE⟩⟩, ⟨%W, -, HW⟩, ⟨%d0, H0⟩, ⟨%d1, H1⟩, ⟨%d2, H2⟩, ⟨%d3, H3⟩, ⟨%d4, H4⟩⟩
    iapply (last_any c t h3 _ _ _ _ _ _ _ _ _ _ (act m c t) (wd m c t) (gain m c t) ((dats m 0 c).before 3 t d3) ((dats m 0 c).before 4 t d4) (accAt m c (t.val - 1) (lt_of_le_of_lt (Nat.sub_le _ _) t.isLt))
      fx ft fd fe (xs m c) (ts m c) (dAt m c t.val (Nat.le_of_lt t.isLt)) (eAt m c t.val (Nat.le_of_lt t.isLt)) W _)
    rw [← accAt_next m c t (by omega), ls_last m c t h3 d3, dg_last m c t h3 d4]
    iframe H0 H1 H2 H3 H4 Ha Hx Ht Hd He HX HT HD HE Hq7 Hq8 Hq9 Hq10 Hq11 Hq12 Hq13 Hq14 HW
    iintro ⟨H0, H1, H2, H3, H4, HS, HI, HO, Hq, ⟨%W', HW'⟩⟩
    isplitl [HS Hp Hq HI HO]
    · iframe HS Hp Hq HI HO
    isplitl [HW']
    · iexists W'; isplitr; · ipureintro; exact fun _ _ => Or.inl trivial
      iexact HW'
    iframe H0 H1 H2 H3 H4
  · rw [leaves3_idle m c t h3, leaves4_idle m c t h3, Phi_busy' m c t h3]
    by_cases h0 : t.val % 11 = 0
    · rw [Phi_rest m c t h0, accAt_first m c t h0]
      unfold Inv
      iintro ⟨⟨⟨⟨%fa, Ha⟩, HR⟩, HI⟩, ⟨%W, -, HW⟩, ⟨%d0, H0⟩, ⟨%d1, H1⟩, ⟨%d2, H2⟩, ⟨%d3, H3⟩, ⟨%d4, H4⟩⟩
      iapply (runA c (grid0.coords t) _ _ _ _ _ _ _ _ _ _ (fun hh => h3 ((condA_iff t).mp hh)) ((cond2_iff t).mpr h0) (fun hh => (cond3_iff t).mp hh h0) (fun hh => h3 ((condF_iff t).mp hh))
        (act m c t) (wd m c t) fa W _)
      iframe H0 H1 Ha HW
      iintro ⟨H0, H1, Ha, HW⟩
      isplitl [Ha HR HI]
      · isplitl [Ha HR]
        · iframe Ha HR
        iexact HI
      isplitl [HW]
      · iexists W; isplitr; · ipureintro; exact fun _ _ => Or.inl trivial
        iexact HW
      iframe H0 H1 H2
      isplitl [H3]; · iexists d3; iexact H3
      iexists d4; iexact H4
    · rw [Phi_busy m c t h0, accAt_next m c t h0]
      unfold Inv
      iintro ⟨⟨⟨Ha, HR⟩, HI⟩, ⟨%W, -, HW⟩, ⟨%d0, H0⟩, ⟨%d1, H1⟩, ⟨%d2, H2⟩, ⟨%d3, H3⟩, ⟨%d4, H4⟩⟩
      iapply (runB c (grid0.coords t) _ _ _ _ _ _ _ _ _ _ (fun hh => h3 ((condA_iff t).mp hh)) (fun hh => h0 ((cond2_iff t).mp hh)) ((cond3_iff t).mpr h0) (fun hh => h3 ((condF_iff t).mp hh))
        (act m c t) (wd m c t) (accAt m c (t.val - 1) (lt_of_le_of_lt (Nat.sub_le _ _) t.isLt)) W _)
      iframe H0 H1 Ha HW
      iintro ⟨H0, H1, Ha, HW⟩
      isplitl [Ha HR HI]
      · isplitl [Ha HR]
        · iframe Ha HR
        iexact HI
      isplitl [HW]
      · iexists W; isplitr; · ipureintro; exact fun _ _ => Or.inl trivial
        iexact HW
      iframe H0 H1 H2
      isplitl [H3]; · iexists d3; iexact H3
      iexists d4; iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

abbrev osem0 : Fin 8 → SemLoc sig := fun j => (![SemLoc.dma 7, SemLoc.dma 8, SemLoc.dma 9, SemLoc.dma 10, SemLoc.dma 11, SemLoc.dma 12, SemLoc.dma 13, SemLoc.dma 14] : Fin 8 → SemLoc sig) j
theorem ownSemFacts0 : Pipeline.OwnSemFacts spec0 osem0 := by decide
def H0 : Finset (Ref sig .tc) := {main_arg2, main_arg3}
def R0 : Finset (Ref sig .tc) := {main_v2_0, main_v2_1}
theorem H0_sub : H0 ⊆ Pipeline.restRefs sig spec0 := by decide
theorem R0_sub : R0 ⊆ Pipeline.restRefs sig spec0 \ H0 := by decide

/-- The contents after the last point of the buffers that the kernel writes itself. -/
def Gend (c : Dev nD) : (b : Ref sig .tc) → Buf (Elt F) ((c : Thread nD τ).loc b) :=
  Function.update (Function.update (V m c) main_v2_0 (dAt m c cfg0.N le_rfl)) main_v2_1 (eAt m c cfg0.N le_rfl)

theorem Gend_d (c : Dev nD) : Gend m c main_v2_0 = dAt m c cfg0.N le_rfl :=
  (Function.update_of_ne (by decide) _ _).trans (Function.update_self _ _ _)
theorem Gend_e (c : Dev nD) : Gend m c main_v2_1 = eAt m c cfg0.N le_rfl := Function.update_self _ _ _

theorem rest_eq (c : Dev nD) (G : (c : Dev nD) → (b : Ref sig .tc) → Buf (Elt F) ((c : Thread nD τ).loc b)) :
    (Pipeline.ΦDRG osem0 spec0 H0 R0 (V m) G c : sProp 𝕄) = Inv m c (AnyA c) (G c main_v2_0) (G c main_v2_1) := by
  rw [Pipeline.ΦDRG_eq, scopedRest0_eq, Pipeline.ownSems0_eq_of_list c osem0 [0, 1, 2, 3, 4, 5, 6, 7] (by decide) (by decide)]
  rw [BI.bigSep_eq_bigSepL_of_eq (S := H0) [main_arg2, main_arg3] (by decide) (by decide)]
  unfold Pipeline.routed
  rw [BI.bigSep_eq_bigSepL_of_eq (S := R0) [main_v2_0, main_v2_1] (by decide) (by decide)]
  simp only [BI.bigSepL_cons_cons, BI.bigSepL_singleton]
  rfl

theorem hin (c : Dev nD) : Pipeline.ΦDRG osem0 spec0 H0 R0 (V m) (V m) c ⊢ (dats m 0 c).Φ 0 := by
  rw [rest_eq]
  refine Entails.of_eq ?_
  exact ((show (dats m 0 c).Φ 0 = PhiS m c 0 (Nat.zero_le _) from rfl).trans (dif_pos rfl)).symm

theorem hout (c : Dev nD) : (dats m 0 c).Φ (Fin.last cfg0.N) ⊢ Pipeline.ΦDRG osem0 spec0 H0 R0 (V m) (Gend m) c := by
  rw [rest_eq, Gend_d, Gend_e]
  refine Entails.of_eq ?_
  exact (show (dats m 0 c).Φ (Fin.last cfg0.N) = PhiS m c cfg0.N le_rfl from rfl).trans (dif_pos (by rw [show cfg0.N = 88 from N_0]))

theorem hmain' : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The run: all results' contents, the arguments unchanged, every counter at zero. -/
theorem run_main : θ_run defs (onTc (τ := τ) (main (F := F))) (s₀ m ρ) (fun r => Pipeline.FramePostRG cfgs (dats m) 0 R0 (V m) (Gend m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain' m) (hA := A_eq m) (G := Gend m) (hin := hin m) (hout := hout m)
    (hQ' := fun _ h => h)

end Cert.Loss
-- ==== Proof.Loss.Frame.lean ====
module

public import proofs.«01_k».proof.Proof.Loss.Launch
public import proofs.«01_k».proof.Proof.Gen.Kernel4.Frame

@[expose] public section

set_option maxRecDepth 16384

noncomputable section

/-! The frames: the arguments end unchanged and every counter ends at zero. -/

namespace Cert.Loss

open Cert.Kernel4Ideal Cert.Kernel4Ideal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem kept (r : PUnit × MemSt nD τ sig (Elt F)) (h : Pipeline.FramePostRG cfgs (dats m) 0 R0 (V m) (Gend m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h' := h.toR c
  have out : ∀ b : Ref sig .tc, b.isScoped = false → (∀ w, (spec0 w).arr.view.ref ≠ b) → b ∉ R0 → r.2.mem ((c.tc : Thread nD τ).loc b) = V m c b :=
    fun b hs ha hR => h'.2 b (Finset.mem_sdiff.mpr ⟨Pipeline.mem_restRefs_of b hs ha, hR⟩)
  exact ⟨(out main_arg0 (by decide) (by decide) (by decide)).trans (V_main_arg0 m c),
    (out main_arg1 (by decide) (by decide) (by decide)).trans (V_main_arg1 m c),
    (out main_arg2 (by decide) (by decide) (by decide)).trans (V_main_arg2 m c),
    (out main_arg3 (by decide) (by decide) (by decide)).trans (V_main_arg3 m c),
    (h'.1 2).trans (((dats m 0 c).arrAt_in 2 rfl _).trans ((A_eq m c 2).trans (V_main_arg4 m c)))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (run_main m ρ)

/-- The two printings of the kernel have one body table. -/
theorem bodies : Cert.Kernel4.defs₀ (F := F) = defs₀ (F := F) := by
  unfold Cert.Kernel4.defs₀ defs₀
  refine congrArg Defs.onTc (funext fun l => funext fun a => ?_)
  match l, a with
  | 0, (t, s) => rfl
  | ⟨_ + 1, h⟩, _ => exact absurd h (Nat.not_lt.2 (Nat.le_add_left _ _))

theorem tables : Cert.Kernel4.defs (F := F) = defs (F := F) := by
  show Pipeline.defs pcfgs Cert.Kernel4.defs₀ = Pipeline.defs pcfgs defs₀
  rw [bodies]

theorem frame' (m : (ℓ : Loc Cert.Kernel4.nD Cert.Kernel4.τ Cert.Kernel4.sig) → Buf (Elt F) ℓ) (ρ : Dev Cert.Kernel4.nD → PrngReg) :
    θ_run Cert.Kernel4.defs (onTc (τ := Cert.Kernel4.τ) (Cert.Kernel4.main (F := F))) ⟨m, fun _ => 0, ρ⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0) := by
  rw [tables]
  exact frame (F := F) m ρ

end Cert.Loss
-- ==== Proof.Dhf.RunA.lean ====
module

public import proofs.«01_k».proof.Proof.Gen.Kernel5Ideal.Launch
public import proofs.«01_k».proof.Proof.Gen.Kernel5Ideal.Skeleton
public import proofs.«01_k».proof.Proof.Dma.Rows
public import proofs.«01_k».proof.Proof.Dma.Slots
public import proofs.«01_k».proof.Proof.Dma.Whole
public import Idealize.ShloMosaic.Lib.Pipeline.FrameValue
public import Idealize.ShloMosaic.Lib.WordCmp
public import Idealize.ShloMosaic.Lib.Tactic
public import Idealize.ShloMosaic.Lib.Ring
public import Idealize.ShloMosaic.Lib.Pointwise

@[expose] public section

set_option maxRecDepth 16384

noncomputable section

/-! The second call. The points of a row block before its last: each forms two products and their sum, and from the second on adds it to the accumulator. -/

namespace Cert.Dhf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev condA (i : grid1.Coords) : Prop := k1_cond1 i = 1#1
abbrev condF (i : grid1.Coords) : Prop := k1_cond4 i = 1#1
abbrev cond2 (i : grid1.Coords) : Prop := (Scalar.cmpi .ne (Scalar.extui (Scalar.cmpi .eq (BitVec.ofNat 32 (i 2).val) 0#32) : BitVec 32) 0#32) = 1#1
abbrev cond3 (i : grid1.Coords) : Prop := (Scalar.cmpi .ne (Scalar.extui (Scalar.cmpi .sgt (BitVec.ofNat 32 (i 2).val) 0#32) : BitVec 32) 0#32) = 1#1

abbrev accM : Memref sig .tc .vmem S1024x2048 .f32 := Memref.whole cc1_scratch0
abbrev xR : Memref sig .tc .vmem S2x256x2048 .f32 := Memref.whole cc1_scratch1
abbrev tR : Memref sig .tc .vmem S2x256x2048 .f32 := Memref.whole cc1_scratch2
abbrev mR : Memref sig .tc .vmem S2x256x2048 .f32 := Memref.whole cc1_scratch3
abbrev dR : Memref sig .tc .vmem S2x256x2048 .f32 := Memref.whole cc1_scratch4
abbrev eR : Memref sig .tc .vmem S2x256x2048 .bf16 := Memref.whole cc1_scratch5
abbrev xH : Memref sig .tc .hbm S8192x2048 .f32 := Memref.whole main_v6_1
abbrev tH : Memref sig .tc .hbm S8192x2048 .f32 := Memref.whole main_arg9
abbrev mH : Memref sig .tc .hbm S8192x2048 .f32 := Memref.whole main_v6_0
abbrev dH : Memref sig .tc .hbm S8192x2048 .f32 := Memref.whole main_v7_0
abbrev eH : Memref sig .tc .hbm S8192x2048 .bf16 := Memref.whole main_v7_1

/-- A memref's buffer held whole at `f`. -/
abbrev whole (c : Dev nD) {sp : Space} {S : Shape} {e : EltTy} (M : Memref sig .tc sp S e) (f : Buf (Elt F) (M.view.loc (c : Thread nD τ))) : sProp 𝕄 :=
  M.view.loc (c : Thread nD τ) ↦{fullShare} f

abbrev cell (c : Dev nD) (n : DmaSem sig) : sProp 𝕄 := semVal ((c : Thread nD τ), SemLoc.dma n) 0

/-- The kernel's body over its buffers. -/
abbrev bodyOf (i : grid1.Coords) (arg3 : Memref sig .tc .vmem S1024x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S2048x512 .bf16) (harg6 : arg6.IsWhole) (arg10 : Memref sig .tc .vmem S1x2048 .f32) (harg10 : arg10.IsWhole) (arg11 : Memref sig .tc .vmem S1x2048 .f32) (harg11 : arg11.IsWhole) (arg14 : Memref sig .tc .vmem S1x2048 .f32) (harg14 : arg14.IsWhole) (arg15 : Memref sig .tc .vmem S1x2048 .f32) (harg15 : arg15.IsWhole) :
    Prog (TpuEff nD τ sig (Elt F) Λ₀ .tc) PUnit :=
  cc1_dhf i arg3 harg3 arg4 harg4 arg5 harg5 arg6 harg6 xH (Memref.isWhole_whole _) tH (Memref.isWhole_whole _) mH (Memref.isWhole_whole _) arg10 harg10 arg11 harg11 dH (Memref.isWhole_whole _) eH (Memref.isWhole_whole _)
    arg14 harg14 arg15 harg15 accM (Memref.isWhole_whole _) xR (Memref.isWhole_whole _) tR (Memref.isWhole_whole _) mR (Memref.isWhole_whole _) dR (Memref.isWhole_whole _) eR (Memref.isWhole_whole _) cc1_scratch6

theorem z2 : ∀ a : Fin 2, (![0, 0] : Fin 2 → ℕ) a = 0 := by decide

section
variable (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S2048x512 .bf16) (harg6 : arg6.IsWhole) (arg10 : Memref sig .tc .vmem S1x2048 .f32) (harg10 : arg10.IsWhole) (arg11 : Memref sig .tc .vmem S1x2048 .f32) (harg11 : arg11.IsWhole) (arg14 : Memref sig .tc .vmem S1x2048 .f32) (harg14 : arg14.IsWhole) (arg15 : Memref sig .tc .vmem S1x2048 .f32) (harg15 : arg15.IsWhole)

set_option maxHeartbeats 1000000 in
theorem runA (h1 : ¬ condA i) (h2 : cond2 i) (h3 : ¬ cond3 i) (h4 : ¬ condF i)
    (x0 : Vec F S1024x512 .bf16) (x1 : Vec F S2048x512 .bf16) (x2 : Vec F S1024x512 .bf16) (x3 : Vec F S2048x512 .bf16) (fa : S1024x2048.Idx → Elt F .f32) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ whole c accM fa
      ∗ owes (c : Thread nD τ) 0 W ∗ (iprop(owns (c : Thread nD τ) arg3 fullShare x0 ∗ owns (c : Thread nD τ) arg4 fullShare x1 ∗ owns (c : Thread nD τ) arg5 fullShare x2 ∗ owns (c : Thread nD τ) arg6 fullShare x3 ∗ whole c accM (k1_pay1 x0 x1 x2 x3) ∗ owes (c : Thread nD τ) 0 W) -∗ K ⟨⟩))
    ⊢ wp frame (wpE (defs₀ (F := F)) Variants.none c none) Set.univ (bodyOf i arg3 harg3 arg4 harg4 arg5 harg5 arg6 harg6 arg10 harg10 arg11 harg11 arg14 harg14 arg15 harg15) K := by
  unfold bodyOf
  simp only [cc1_dhf_eq_skeleton]; unfold cc1_dhf_skel
  unfold owns
  iintro ⟨⟨%f0, %hf0, H0⟩, ⟨%f1, %hf1, H1⟩, ⟨%f2, %hf2, H2⟩, ⟨%f3, %hf3, H3⟩, Ha, HW, Hk⟩
  obtain rfl := harg3.eq_unread hf0; obtain rfl := harg4.eq_unread hf1; obtain rfl := harg5.eq_unread hf2; obtain rfl := harg6.eq_unread hf3
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  rw [Dma.load_unread harg3 x0 z2, Dma.load_unread harg4 x1 z2, Dma.load_unread harg5 x2 z2, Dma.load_unread harg6 x3 z2]
  isplitl [Ha]
  · rw [show accM.view.writes (Elt F) fa [⟨Rect.unit ![0, 0] S1024x2048.size inb_S1024x2048_S1024x2048_0_0, k1_pay1 x0 x1 x2 x3⟩] = k1_pay1 x0 x1 x2 x3 from Dma.store_whole cc1_scratch0 fa z2 _ _ _]
    iexact Ha
  iexact HW

set_option maxHeartbeats 1000000 in
theorem runB (h1 : ¬ condA i) (h2 : ¬ cond2 i) (h3 : cond3 i) (h4 : ¬ condF i)
    (x0 : Vec F S1024x512 .bf16) (x1 : Vec F S2048x512 .bf16) (x2 : Vec F S1024x512 .bf16) (x3 : Vec F S2048x512 .bf16) (fa : S1024x2048.Idx → Elt F .f32) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ whole c accM fa
      ∗ owes (c : Thread nD τ) 0 W ∗ (iprop(owns (c : Thread nD τ) arg3 fullShare x0 ∗ owns (c : Thread nD τ) arg4 fullShare x1 ∗ owns (c : Thread nD τ) arg5 fullShare x2 ∗ owns (c : Thread nD τ) arg6 fullShare x3 ∗ whole c accM (k1_pay2 x0 x1 x2 x3 fa) ∗ owes (c : Thread nD τ) 0 W) -∗ K ⟨⟩))
    ⊢ wp frame (wpE (defs₀ (F := F)) Variants.none c none) Set.univ (bodyOf i arg3 harg3 arg4 harg4 arg5 harg5 arg6 harg6 arg10 harg10 arg11 harg11 arg14 harg14 arg15 harg15) K := by
  unfold bodyOf
  simp only [cc1_dhf_eq_skeleton]; unfold cc1_dhf_skel
  unfold owns
  iintro ⟨⟨%f0, %hf0, H0⟩, ⟨%f1, %hf1, H1⟩, ⟨%f2, %hf2, H2⟩, ⟨%f3, %hf3, H3⟩, Ha, HW, Hk⟩
  obtain rfl := harg3.eq_unread hf0; obtain rfl := harg4.eq_unread hf1; obtain rfl := harg5.eq_unread hf2; obtain rfl := harg6.eq_unread hf3
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  rw [Dma.load_unread harg3 x0 z2, Dma.load_unread harg4 x1 z2, Dma.load_unread harg5 x2 z2, Dma.load_unread harg6 x3 z2, View.readAt_full, show accM.view.read (Elt F) fa = fa from rfl]
  isplitl [Ha]
  · rw [show accM.view.writes (Elt F) fa [⟨Rect.unit ![0, 0] S1024x2048.size inb_S1024x2048_S1024x2048_0_0, k1_pay2 x0 x1 x2 x3 fa⟩] = k1_pay2 x0 x1 x2 x3 fa from Dma.store_whole cc1_scratch0 fa z2 _ _ _]
    iexact Ha
  iexact HW

end

end Cert.Dhf
-- ==== Proof.Dhf.Out.lean ====
module

public import proofs.«01_k».proof.Proof.Dhf.RunA
public import proofs.«01_k».proof.Proof.Gen.Kernel5Ideal.Skeleton
public import proofs.«01_k».proof.Proof.Dma.Rows
public import proofs.«01_k».proof.Proof.Dma.Slots
public import proofs.«01_k».proof.Proof.Dma.Whole
public import proofs.«01_k».proof.Proof.Gen.Kernel5Ideal.Points
public import Idealize.ShloMosaic.Lib.Pipeline.FrameValue
public import Idealize.ShloMosaic.Lib.Pipeline.FrameBody
public import Idealize.ShloMosaic.Lib.WordCmp
public import Idealize.ShloMosaic.Lib.Tactic
public import Idealize.ShloMosaic.Lib.Ring
public import Idealize.ShloMosaic.Lib.Pointwise

@[expose] public section

set_option maxRecDepth 16384

noncomputable section

/-! The first call, whole: a product of 512 rows, its norm added to the step's rows, and the norm of what comes out, 64 rows at a time; then its proof data and the body at any point. -/

namespace Cert.Dhf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The rows of one chunk, and the three tables of a block -/

/-- The residual sum of 64 rows, -/
def xQ (A X : Vec F S64x2048 .f32) (g : Vec F S1x2048 .f32) : FVec F S64x2048 .f32 := k0_pay15 A X (mulf A A) g
/-- and its norm. -/
def hQ (A X : Vec F S64x2048 .f32) (g h : Vec F S1x2048 .f32) : FVec F S64x2048 .bf16 := k0_pay16 A X (mulf A A) g h

abbrev rows64 (P : Vec F S512x2048 .f32) (q : ℕ) (hq : q < 8) : Vec F S64x2048 .f32 := Dma.rowsAt P (64 * q) (by omega)

def moT (x0 : Vec F S512x2048 .bf16) (x1 : Vec F S2048x2048 .bf16) : Fin 512 → Fin 2048 → Elt F .f32 := fun r b => k0_pay2 x0 x1 (ix2 r b)
def xT (x0 : Vec F S512x2048 .bf16) (x1 : Vec F S2048x2048 .bf16) (x2 : Vec F S512x2048 .f32) (g : Vec F S1x2048 .f32) : Fin 512 → Fin 2048 → Elt F .f32 :=
  fun r b => xQ (rows64 (k0_pay2 x0 x1) (r.val / 64) (by omega)) (rows64 x2 (r.val / 64) (by omega)) g (ix2 ⟨r.val % 64, by omega⟩ b)
def hT (x0 : Vec F S512x2048 .bf16) (x1 : Vec F S2048x2048 .bf16) (x2 : Vec F S512x2048 .f32) (g h : Vec F S1x2048 .f32) : Fin 512 → Fin 2048 → Elt F .bf16 :=
  fun r b => hQ (rows64 (k0_pay2 x0 x1) (r.val / 64) (by omega)) (rows64 x2 (r.val / 64) (by omega)) g h (ix2 ⟨r.val % 64, by omega⟩ b)

/-- A table as an array. -/
abbrev arr {e : EltTy} (T : Fin 512 → Fin 2048 → Elt F e) : Vec F S512x2048 e := fun y => T (y 0) (y 1)

/-- Eight stores of 64 rows fill a block with the table they are the rows of. -/
theorem fill {e : EltTy} (v : View sig .tc .vmem S512x2048 e) (f : v.ty.Contents (Elt F)) {inb0 inb1 inb2 inb3 inb4 inb5 inb6 inb7}
    (w0 w1 w2 w3 w4 w5 w6 w7 : S64x2048.Idx → Elt F e) (T : Fin 512 → Fin 2048 → Elt F e)
    (h0 : ∀ (a : Fin 64) b, w0 (ix2 a b) = T ⟨0 + a.val, by omega⟩ b) (h1 : ∀ (a : Fin 64) b, w1 (ix2 a b) = T ⟨64 + a.val, by omega⟩ b)
    (h2 : ∀ (a : Fin 64) b, w2 (ix2 a b) = T ⟨128 + a.val, by omega⟩ b) (h3 : ∀ (a : Fin 64) b, w3 (ix2 a b) = T ⟨192 + a.val, by omega⟩ b)
    (h4 : ∀ (a : Fin 64) b, w4 (ix2 a b) = T ⟨256 + a.val, by omega⟩ b) (h5 : ∀ (a : Fin 64) b, w5 (ix2 a b) = T ⟨320 + a.val, by omega⟩ b)
    (h6 : ∀ (a : Fin 64) b, w6 (ix2 a b) = T ⟨384 + a.val, by omega⟩ b) (h7 : ∀ (a : Fin 64) b, w7 (ix2 a b) = T ⟨448 + a.val, by omega⟩ b) :
    v.read (Elt F) (v.writes (Elt F) f [⟨Rect.unit (s := S512x2048) ![448, 0] S64x2048.size inb7, w7⟩, ⟨Rect.unit (s := S512x2048) ![384, 0] S64x2048.size inb6, w6⟩,
      ⟨Rect.unit (s := S512x2048) ![320, 0] S64x2048.size inb5, w5⟩, ⟨Rect.unit (s := S512x2048) ![256, 0] S64x2048.size inb4, w4⟩,
      ⟨Rect.unit (s := S512x2048) ![192, 0] S64x2048.size inb3, w3⟩, ⟨Rect.unit (s := S512x2048) ![128, 0] S64x2048.size inb2, w2⟩,
      ⟨Rect.unit (s := S512x2048) ![64, 0] S64x2048.size inb1, w1⟩, ⟨Rect.unit (s := S512x2048) ![0, 0] S64x2048.size inb0, w0⟩]) = arr T := by
  funext y
  have hy : (y 0).val < 512 := (y 0).isLt
  have key : ∀ (o : ℕ) (inb) (w : S64x2048.Idx → Elt F e) (L') (ho : o + 64 ≤ 512), (∀ (a : Fin 64) b, w (ix2 a b) = T ⟨o + a.val, by omega⟩ b) →
      (¬(o ≤ (y 0).val ∧ (y 0).val < o + 64) → v.read (Elt F) (v.writes (Elt F) f L') y = arr T y) →
      v.read (Elt F) (v.writes (Elt F) f (⟨Rect.unit (s := S512x2048) ![o, 0] S64x2048.size inb, w⟩ :: L')) y = arr T y := by
    intro o inb w L' ho hw hL
    by_cases h : o ≤ (y 0).val ∧ (y 0).val < o + 64
    · refine (View.read_writes_cons_rows_of_mem v f inb w L' _ (ix2 ⟨(y 0).val - o, by omega⟩ (y 1)) rfl ?_ rfl).trans ((hw _ _).trans ?_)
      · show (y 0).val = o + ((y 0).val - o); omega
      · exact congrArg (fun z => T z (y 1)) (Fin.ext (by show o + ((y 0).val - o) = (y 0).val; omega))
    · exact (View.read_writes_cons_rows_of_not_mem (W := 64) v f inb w L' _ rfl rfl (by omega)).trans (hL h)
  exact key 448 _ _ _ (by omega) h7 fun c7 => key 384 _ _ _ (by omega) h6 fun c6 => key 320 _ _ _ (by omega) h5 fun c5 => key 256 _ _ _ (by omega) h4 fun c4 =>
    key 192 _ _ _ (by omega) h3 fun c3 => key 128 _ _ _ (by omega) h2 fun c2 => key 64 _ _ _ (by omega) h1 fun c1 => key 0 _ _ _ (by omega) h0 fun c0 => absurd hy (by omega)

/-- A slice of rows reads the rows. -/
theorem slice_rows (P : FVec F S512x2048 .f32) (o : ℕ) (ho : o + 64 ≤ 512) (hs : S512x2048.Slices ![o, 0] S64x2048) : extractStridedSlice S64x2048 ![o, 0] P hs = Dma.rowsAt P o ho := by
  funext y
  refine congrArg P ?_
  funext t
  apply Fin.ext
  fin_cases t
  · rfl
  · exact Nat.zero_add _

section pieces
variable {arg3 : Memref sig .tc .vmem S512x2048 .bf16} (h3 : arg3.IsWhole) {arg4 : Memref sig .tc .vmem S2048x2048 .bf16} (h4 : arg4.IsWhole) {arg5 : Memref sig .tc .vmem S512x2048 .f32} (h5 : arg5.IsWhole)
  {arg6 : Memref sig .tc .vmem S1x2048 .f32} (h6 : arg6.IsWhole) {arg7 : Memref sig .tc .vmem S1x2048 .f32} (h7 : arg7.IsWhole)
  (x0 : Vec F S512x2048 .bf16) (x1 : Vec F S2048x2048 .bf16) (x2 : Vec F S512x2048 .f32) (g h : Vec F S1x2048 .f32)

/-- The product, as the body forms it from what it loads, -/
abbrev ldP : FVec F S512x2048 .f32 :=
  k0_pay2 (arg3.view.readAt (Elt F) (Rect.unit (s := S512x2048) ![0, 0] S512x2048.size inb_S512x2048_S512x2048_0_0).toLoadRect (h3.unread x0))
    (arg4.view.readAt (Elt F) (Rect.unit (s := S2048x2048) ![0, 0] S2048x2048.size inb_S2048x2048_S2048x2048_0_0).toLoadRect (h4.unread x1))
/-- rows of it, -/
abbrev ldS (o : ℕ) (hs : S512x2048.Slices ![o, 0] S64x2048) : FVec F S64x2048 .f32 := extractStridedSlice S64x2048 ![o, 0] (ldP h3 h4 x0 x1) hs
/-- and rows of the step's input. -/
abbrev ldX (o : ℕ) (inb : ∀ a, (![o, 0] : Fin 2 → ℕ) a + S64x2048.size a ≤ S512x2048.size a) : Vec F S64x2048 .f32 := arg5.view.readAt (Elt F) (Rect.unit (s := S512x2048) ![o, 0] S64x2048.size inb).toLoadRect (h5.unread x2)
abbrev ld1 {m : Memref sig .tc .vmem S1x2048 .f32} (hm : m.IsWhole) (g : Vec F S1x2048 .f32) : Vec F S1x2048 .f32 :=
  m.view.readAt (Elt F) (Rect.unit (s := S1x2048) ![0, 0] S1x2048.size inb_S1x2048_S1x2048_0_0).toLoadRect (hm.unread g)

theorem ldP_eq : ldP h3 h4 x0 x1 = k0_pay2 x0 x1 := by rw [ldP, Dma.load_unread h3 x0 z2, Dma.load_unread h4 x1 z2]
theorem ldX_eq (o : ℕ) (ho : o + 64 ≤ 512) (inb) : ldX h5 x2 o inb = Dma.rowsAt x2 o ho := by
  rw [ldX, Dma.load_rows arg5.view _ o ho inb, h5.read_unread]

variable {o : ℕ} (hs : S512x2048.Slices ![o, 0] S64x2048) {inb : ∀ a, (![o, 0] : Fin 2 → ℕ) a + S64x2048.size a ≤ S512x2048.size a}

theorem mo_piece (ho : o + 64 ≤ 512) (W : FVec F S64x2048 .f32) (hW : W = ldS h3 h4 x0 x1 o hs) (a : Fin 64) (b : Fin 2048) : W (ix2 a b) = moT x0 x1 ⟨o + a.val, by omega⟩ b := by
  rw [hW, ldS, ldP_eq, slice_rows _ o ho]
  rfl

theorem x_piece (ho : o + 64 ≤ 512) (e : o = 64 * (o / 64)) (W : FVec F S64x2048 .f32) (hW : W = xQ (ldS h3 h4 x0 x1 o hs) (ldX h5 x2 o inb) (ld1 h6 g)) (a : Fin 64) (b : Fin 2048) :
    W (ix2 a b) = xT x0 x1 x2 g ⟨o + a.val, by omega⟩ b := by
  rw [hW, ldS, ldP_eq, slice_rows _ o ho, ldX_eq h5 x2 o ho, ld1, Dma.load_unread h6 g z2]
  unfold xT
  have e1 : (o + a.val) / 64 = o / 64 := by omega
  have e2 : (⟨(o + a.val) % 64, by omega⟩ : Fin 64) = a := Fin.ext (by show (o + a.val) % 64 = a.val; omega)
  obtain ⟨q, rfl⟩ : ∃ q, o = 64 * q := ⟨o / 64, e⟩
  have e3 : ∀ k hk, k = q → xQ (Dma.rowsAt (k0_pay2 x0 x1) (64 * q) ho) (Dma.rowsAt x2 (64 * q) ho) g (ix2 a b) = xQ (rows64 (k0_pay2 x0 x1) k hk) (rows64 x2 k hk) g (ix2 a b) := fun k hk hkq => by subst hkq; rfl
  rw [e2]
  exact e3 _ _ (by show (64 * q + a.val) / 64 = q; omega)

theorem h_piece (ho : o + 64 ≤ 512) (e : o = 64 * (o / 64)) (W : FVec F S64x2048 .bf16) (hW : W = hQ (ldS h3 h4 x0 x1 o hs) (ldX h5 x2 o inb) (ld1 h6 g) (ld1 h7 h)) (a : Fin 64) (b : Fin 2048) :
    W (ix2 a b) = hT x0 x1 x2 g h ⟨o + a.val, by omega⟩ b := by
  rw [hW, ldS, ldP_eq, slice_rows _ o ho, ldX_eq h5 x2 o ho, ld1, ld1, Dma.load_unread h6 g z2, Dma.load_unread h7 h z2]
  unfold hT
  have e2 : (⟨(o + a.val) % 64, by omega⟩ : Fin 64) = a := Fin.ext (by show (o + a.val) % 64 = a.val; omega)
  obtain ⟨q, rfl⟩ : ∃ q, o = 64 * q := ⟨o / 64, e⟩
  have e3 : ∀ k hk, k = q → hQ (Dma.rowsAt (k0_pay2 x0 x1) (64 * q) ho) (Dma.rowsAt x2 (64 * q) ho) g h (ix2 a b) = hQ (rows64 (k0_pay2 x0 x1) k hk) (rows64 x2 k hk) g h (ix2 a b) := fun k hk hkq => by subst hkq; rfl
  rw [e2]
  exact e3 _ _ (by show (64 * q + a.val) / 64 = q; omega)

end pieces

/-! ## The body -/

set_option maxHeartbeats 4000000 in
theorem out_body (c : Dev nD) (i : grid0.Coords) (arg3 : Memref sig .tc .vmem S512x2048 .bf16) (h3 : arg3.IsWhole) (arg4 : Memref sig .tc .vmem S2048x2048 .bf16) (h4 : arg4.IsWhole)
    (arg5 : Memref sig .tc .vmem S512x2048 .f32) (h5 : arg5.IsWhole) (arg6 : Memref sig .tc .vmem S1x2048 .f32) (h6 : arg6.IsWhole) (arg7 : Memref sig .tc .vmem S1x2048 .f32) (h7 : arg7.IsWhole)
    (arg8 : Memref sig .tc .vmem S512x2048 .f32) (h8 : arg8.IsWhole) (arg9 : Memref sig .tc .vmem S512x2048 .f32) (h9 : arg9.IsWhole) (arg10 : Memref sig .tc .vmem S512x2048 .bf16) (h10 : arg10.IsWhole)
    (x0 : Vec F S512x2048 .bf16) (x1 : Vec F S2048x2048 .bf16) (x2 : Vec F S512x2048 .f32) (g h : Vec F S1x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare g ∗ owns (c : Thread nD τ) arg7 fullShare h
      ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg3 fullShare x0 ∗ owns (c : Thread nD τ) arg4 fullShare x1 ∗ owns (c : Thread nD τ) arg5 fullShare x2 ∗ owns (c : Thread nD τ) arg6 fullShare g ∗ owns (c : Thread nD τ) arg7 fullShare h
          ∗ owns (c : Thread nD τ) arg8 fullShare (arr (moT x0 x1)) ∗ owns (c : Thread nD τ) arg9 fullShare (arr (xT x0 x1 x2 g)) ∗ owns (c : Thread nD τ) arg10 fullShare (arr (hT x0 x1 x2 g h))) -∗ K ⟨⟩))
    ⊢ wp frame (wpE (defs₀ (F := F)) Variants.none c none) Set.univ (cc0_out_proj i arg3 h3 arg4 h4 arg5 h5 arg6 h6 arg7 h7 arg8 h8 arg9 h9 arg10 h10) K := by
  simp only [cc0_out_proj_eq_skeleton]; unfold cc0_out_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := h3.eq_unread hf0; obtain rfl := h4.eq_unread hf1; obtain rfl := h5.eq_unread hf2; obtain rfl := h6.eq_unread hf3; obtain rfl := h7.eq_unread hf4
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr; rotate_left; · iexact H5
    ipureintro
    refine fill _ _ _ _ _ _ _ _ _ _ (moT x0 x1) ?_ ?_ ?_ ?_ ?_ ?_ ?_ ?_
    all_goals exact mo_piece h3 h4 x0 x1 (by decide) (by decide) _ rfl
  isplitl [H6]
  · iexists _; isplitr; rotate_left; · iexact H6
    ipureintro
    refine fill _ _ _ _ _ _ _ _ _ _ (xT x0 x1 x2 g) ?_ ?_ ?_ ?_ ?_ ?_ ?_ ?_
    all_goals exact x_piece h3 h4 h5 h6 x0 x1 x2 g (by decide) (by decide) (by decide) _ rfl
  iexists _; isplitr; rotate_left; · iexact H7
  ipureintro
  refine fill _ _ _ _ _ _ _ _ _ _ (hT x0 x1 x2 g h) ?_ ?_ ?_ ?_ ?_ ?_ ?_ ?_
  all_goals exact h_piece h3 h4 h5 h6 h7 x0 x1 x2 g h (by decide) (by decide) (by decide) _ rfl

/-! ## The proof data, at any contents of the buffers when the call begins -/

section
variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev mixB (c : Dev nD) (t : Fin cfg0.N) : Vec F S512x2048 .bf16 := blk0 V c 0 t
abbrev woB (c : Dev nD) (t : Fin cfg0.N) : Vec F S2048x2048 .bf16 := blk0 V c 1 t
abbrev xsB (c : Dev nD) (t : Fin cfg0.N) : Vec F S512x2048 .f32 := blk0 V c 2 t
abbrev g2B (c : Dev nD) (t : Fin cfg0.N) : Vec F S1x2048 .f32 := blk0 V c 3 t
abbrev g3B (c : Dev nD) (t : Fin cfg0.N) : Vec F S1x2048 .f32 := blk0 V c 4 t

def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => arr (moT (mixB V c t) (woB V c t))
    | ⟨6, _⟩ => arr (xT (mixB V c t) (woB V c t) (xsB V c t) (g2B V c t))
    | ⟨7, _⟩ => arr (hT (mixB V c t) (woB V c t) (xsB V c t) (g2B V c t) (g3B V c t))
  Φ _ := Pipeline.ΦA spec0 c
  q _ := fullShare
  owed _ := 0

theorem A0_eq (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = arr (moT (mixB V c t) (woB V c t)) := by dsimp only [dat0]
theorem after0_6 (c : Dev nD) (t : Fin cfg0.N) : (dat0 V c).after 6 t = arr (xT (mixB V c t) (woB V c t) (xsB V c t) (g2B V c t)) := by dsimp only [dat0]
theorem after0_7 (c : Dev nD) (t : Fin cfg0.N) : (dat0 V c).after 7 t = arr (hT (mixB V c t) (woB V c t) (xsB V c t) (g2B V c t) (g3B V c t)) := by dsimp only [dat0]

/-! An input's staging buffer holds its block at every point. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0_eq]; try rfl) t d).trans
    (by unfold Dat.fetched Dat.blockOf blk0; rw [A0_eq]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl, show (dat0 V c).owesAt () t.succ = (dat0 V c).owesAt () t.castSucc from rfl,
    after0_0, after0_1, after0_2, after0_3, after0_4, after0_5, after0_6, after0_7]
  iintro ⟨HI, HW, ⟨%d0, H0⟩, ⟨%d1, H1⟩, ⟨%d2, H2⟩, ⟨%d3, H3⟩, ⟨%d4, H4⟩, H5, H6, H7⟩
  iapply (out_body c (grid0.coords t) _ _ _ _ _ _ _ _ _ _ _ _ _ _ _ _ (mixB V c t) (woB V c t) (xsB V c t) (g2B V c t) (g3B V c t) _)
  iframe H0 H1 H2 H3 H4
  isplitl [H5]; · icases H5 with ⟨%d, H5⟩; iexists _; iexact H5
  isplitl [H6]; · icases H6 with ⟨%d, H6⟩; iexists _; iexact H6
  isplitl [H7]; · icases H7 with ⟨%d, H7⟩; iexists _; iexact H7
  iintro HB
  iframe HI HW HB

theorem row0 (t : Fin cfg0.N) : defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, row0]
  exact triple_restated (sound_body0 V c t) rfl .rfl fun _ => .rfl

end

end Cert.Dhf
-- ==== Proof.Dhf.Rows.lean ====
module

public import proofs.«01_k».proof.Proof.Dhf.RunA
public import proofs.«01_k».proof.Proof.Gen.Kernel5Ideal.Skeleton
public import proofs.«01_k».proof.Proof.Dma.Rows
public import proofs.«01_k».proof.Proof.Dma.Slots
public import proofs.«01_k».proof.Proof.Dma.Whole
public import Idealize.ShloMosaic.Lib.Pipeline.FrameValue
public import Idealize.ShloMosaic.Lib.WordCmp
public import Idealize.ShloMosaic.Lib.Tactic
public import Idealize.ShloMosaic.Lib.Ring
public import Idealize.ShloMosaic.Lib.Pointwise

@[expose] public section

set_option maxRecDepth 16384

noncomputable section

/-! The second call. The epilogue of a row block, 64 rows at a time: what one piece computes, what the sixteen pieces leave, and the rows that arrive and leave. -/

namespace Cert.Dhf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## What 64 rows give -/

section
variable (A : Vec F S64x2048 .f32) (g3 g2 : Vec F S1x2048 .f32) (X D M : Vec F S1x64x2048 .f32)

/-- The rows normed; -/
def n3P : FVec F S64x2048 .f32 := k1_pay6 (k1_pay3 X) (k1_pay4 X)
/-- the gradient before the second norm; -/
def dxP : FVec F S64x2048 .f32 := k1_pay7 A (k1_pay3 X) (k1_pay4 X) D g3
/-- the gradient before the first norm; -/
def dmP : FVec F S1x64x2048 .bf16 := k1_pay16 (k1_pay11 A (k1_pay3 X) (k1_pay4 X) D g3 M g2) (k1_pay12 M)
/-- the parts of the two gains' gradients. -/
def s3P : FVec F S1x2048 .f32 := k1_pay13 A (n3P X)
def s2P : FVec F S1x2048 .f32 := k1_pay14 (dxP A g3 X D) (k1_pay10 M)

end

/-- The rows of piece `q` of the accumulator, and of the arrays. -/
abbrev aq (A : Vec F S1024x2048 .f32) (q : ℕ) (hq : q < 16) : Vec F S64x2048 .f32 := Dma.rowsAt A (64 * q) (by omega)
abbrev rq (n : ℕ) (hn : n + 1024 ≤ 8192) (Y : Vec F S8192x2048 .f32) (q : ℕ) (hq : q < 16) : Vec F S1x64x2048 .f32 := Dma.rows3 Y (n + 64 * q) (by omega)

section
variable (A : Vec F S1024x2048 .f32) (g3 g2 : Vec F S1x2048 .f32) (X D M : Vec F S8192x2048 .f32) (n : ℕ) (hn : n + 1024 ≤ 8192)

/-- The rows of a row block that leave for the two gradients. -/
def dxT : Fin 1024 → Fin 2048 → Elt F .f32 :=
  fun r b => dxP (aq A (r.val / 64) (by omega)) g3 (rq n hn X (r.val / 64) (by omega)) (rq n hn D (r.val / 64) (by omega)) (ix2 ⟨r.val % 64, by omega⟩ b)
def dmT : Fin 1024 → Fin 2048 → Elt F .bf16 :=
  fun r b => dmP (aq A (r.val / 64) (by omega)) g3 g2 (rq n hn X (r.val / 64) (by omega)) (rq n hn D (r.val / 64) (by omega)) (rq n hn M (r.val / 64) (by omega)) (ix3 0 ⟨r.val % 64, by omega⟩ b)

theorem dxT_at (r : Fin 1024) (b : Fin 2048) {q : ℕ} (hq : q < 16) {a : Fin 64} (e : r.val / 64 = q) (ea : (⟨r.val % 64, by omega⟩ : Fin 64) = a) :
    dxT A g3 X D n hn r b = dxP (aq A q hq) g3 (rq n hn X q hq) (rq n hn D q hq) (ix2 a b) := by
  subst e ea; rfl
theorem dmT_at (r : Fin 1024) (b : Fin 2048) {q : ℕ} (hq : q < 16) {a : Fin 64} (e : r.val / 64 = q) (ea : (⟨r.val % 64, by omega⟩ : Fin 64) = a) :
    dmT A g3 g2 X D M n hn r b = dmP (aq A q hq) g3 g2 (rq n hn X q hq) (rq n hn D q hq) (rq n hn M q hq) (ix3 0 a b) := by
  subst e ea; rfl

/-- Each piece's part of the two gains' gradients. -/
def s3Q : (k : ℕ) → k < 16 → Vec F S1x2048 .f32 := fun k h => s3P (aq A k h) (rq n hn X k h)
def s2Q : (k : ℕ) → k < 16 → Vec F S1x2048 .f32 := fun k h => s2P (aq A k h) g3 (rq n hn X k h) (rq n hn D k h) (rq n hn M k h)

end

/-- A gain's gradient after a number of further pieces, and after the first. -/
def gainA (p : (k : ℕ) → k < 16 → Vec F S1x2048 .f32) (st : Vec F S1x2048 .f32) : (k : ℕ) → k < 16 → Vec F S1x2048 .f32
  | 0, _ => st
  | k + 1, h => addf (gainA p st k (by omega)) (p (k + 1) h)
def gainS (p : (k : ℕ) → k < 16 → Vec F S1x2048 .f32) (i : grid1.Coords) (prev : Vec F S1x2048 .f32) : Vec F S1x2048 .f32 :=
  if k1_cond5 i = 1#1 then p 0 (by omega) else addf prev (p 0 (by omega))

/-- The calculation's list of stores into the accumulator, when all it holds is one store of all of it. -/
def Acc (L : List (View.Piece (Elt F) S1024x2048 .f32)) (A : Vec F S1024x2048 .f32) : Prop :=
  ∃ inb, L = [⟨Rect.unit (s := S1024x2048) ![0, 0] S1024x2048.size inb, A⟩]

theorem acc_stored {L : List (View.Piece (Elt F) S1024x2048 .f32)} {arg3 : Memref sig .tc .vmem S1024x512 .bf16} (harg3 : arg3.IsWhole) {arg4 : Memref sig .tc .vmem S2048x512 .bf16} (harg4 : arg4.IsWhole)
    {arg5 : Memref sig .tc .vmem S1024x512 .bf16} (harg5 : arg5.IsWhole) {arg6 : Memref sig .tc .vmem S2048x512 .bf16} (harg6 : arg6.IsWhole)
    (x0 : Vec F S1024x512 .bf16) (x1 : Vec F S2048x512 .bf16) (x2 : Vec F S1024x512 .bf16) (x3 : Vec F S2048x512 .bf16) (fa : S1024x2048.Idx → Elt F .f32) (inb0 inb1 inb2 inb3 inb4 inb5)
    (hL : L = [⟨Rect.unit (s := S1024x2048) ![0, 0] S1024x2048.size inb0, k1_pay2
      (View.readAt (Elt F) arg3.view (Rect.unit (s := S1024x512) ![0, 0] S1024x512.size inb1).toLoadRect (harg3.unread x0))
      (View.readAt (Elt F) arg4.view (Rect.unit (s := S2048x512) ![0, 0] S2048x512.size inb2).toLoadRect (harg4.unread x1))
      (View.readAt (Elt F) arg5.view (Rect.unit (s := S1024x512) ![0, 0] S1024x512.size inb3).toLoadRect (harg5.unread x2))
      (View.readAt (Elt F) arg6.view (Rect.unit (s := S2048x512) ![0, 0] S2048x512.size inb4).toLoadRect (harg6.unread x3))
      (View.readAt (Elt F) accM.view (Rect.unit (s := S1024x2048) ![0, 0] S1024x2048.size inb5).toLoadRect fa)⟩]) : Acc L (k1_pay2 x0 x1 x2 x3 fa) := by
  refine ⟨inb0, hL.trans ?_⟩
  rw [Dma.load_unread harg3 x0 z2, Dma.load_unread harg4 x1 z2, Dma.load_unread harg5 x2 z2, Dma.load_unread harg6 x3 z2, View.readAt_full]
  rfl

/-! ## What the last point leaves -/

/-- The accumulator's rows and a gain, as the pieces load them. -/
abbrev ldA (L : List (View.Piece (Elt F) S1024x2048 .f32)) (o : ℕ) (ho : ∀ a, (![o, 0] : Fin 2 → ℕ) a + S64x2048.size a ≤ S1024x2048.size a) : Vec F S64x2048 .f32 :=
  accM.view.readCov L (Rect.unit (s := S1024x2048) ![o, 0] S64x2048.size ho).toLoadRect
abbrev ldG {m : Memref sig .tc .vmem S1x2048 .f32} (hm : m.IsWhole) (g : Vec F S1x2048 .f32) : Vec F S1x2048 .f32 :=
  m.view.readAt (Elt F) (Rect.unit (s := S1x2048) ![0, 0] S1x2048.size inb_S1x2048_S1x2048_0_0).toLoadRect (hm.unread g)

theorem ldG_eq {m : Memref sig .tc .vmem S1x2048 .f32} (hm : m.IsWhole) (g : Vec F S1x2048 .f32) : ldG hm g = g := Dma.load_unread hm g z2 _

theorem ldA_eq {L : List (View.Piece (Elt F) S1024x2048 .f32)} {A : Vec F S1024x2048 .f32} (hA : Acc L A) {o : ℕ} (ho) (q : ℕ) (hq : q < 16) (e : o = 64 * q) : ldA L o ho = aq A q hq := by
  obtain ⟨inb0, rfl⟩ := hA
  subst e
  exact Dma.load_rows_stored accM.view z2 inb0 A [] (64 * q) (by omega) ho

section
variable {L : List (View.Piece (Elt F) S1024x2048 .f32)} {A : Vec F S1024x2048 .f32} (hA : Acc L A) {m3 m2 : Memref sig .tc .vmem S1x2048 .f32} (h3 : m3.IsWhole) (h2 : m2.IsWhole) (g3 g2 : Vec F S1x2048 .f32)
  (X D M : Vec F S8192x2048 .f32) (n : ℕ) (hn : n + 1024 ≤ 8192) {o : ℕ} {ho : ∀ a, (![o, 0] : Fin 2 → ℕ) a + S64x2048.size a ≤ S1024x2048.size a} {VX VD VM : Vec F S1x64x2048 .f32}

include hA in
theorem dx_run (W : FVec F S1x64x2048 .f32) (hW : W = k1_pay15 (dxP (ldA L o ho) (ldG h3 g3) VX VD)) (r : Fin 1024) (a : Fin 64) (b : Fin 2048) (e : o = 64 * (o / 64)) (hr : r.val = o + a.val)
    (hX : VX = rq n hn X (o / 64) (by omega)) (hD : VD = rq n hn D (o / 64) (by omega)) : W (ix3 0 a b) = dxT A g3 X D n hn r b := by
  rw [ldA_eq hA ho (o / 64) (by omega) e, ldG_eq, hX, hD] at hW
  have e1 : r.val / 64 = o / 64 := by omega
  have e2 : (⟨r.val % 64, by omega⟩ : Fin 64) = a := Fin.ext (by show r.val % 64 = a.val; omega)
  have e3 : k1_pay15 (dxP (aq A (o / 64) (by omega)) g3 (rq n hn X (o / 64) (by omega)) (rq n hn D (o / 64) (by omega))) (ix3 0 a b)
      = dxP (aq A (o / 64) (by omega)) g3 (rq n hn X (o / 64) (by omega)) (rq n hn D (o / 64) (by omega)) (ix2 a b) := by pointwise [k1_pay15]
  rw [hW, e3]
  exact (dxT_at A g3 X D n hn r b (by omega) e1 e2).symm

include hA in
theorem dm_run (W : FVec F S1x64x2048 .bf16) (hW : W = dmP (ldA L o ho) (ldG h3 g3) (ldG h2 g2) VX VD VM) (r : Fin 1024) (a : Fin 64) (b : Fin 2048) (e : o = 64 * (o / 64)) (hr : r.val = o + a.val)
    (hX : VX = rq n hn X (o / 64) (by omega)) (hD : VD = rq n hn D (o / 64) (by omega)) (hM : VM = rq n hn M (o / 64) (by omega)) : W (ix3 0 a b) = dmT A g3 g2 X D M n hn r b := by
  rw [ldA_eq hA ho (o / 64) (by omega) e, ldG_eq, ldG_eq, hX, hD, hM] at hW
  have e1 : r.val / 64 = o / 64 := by omega
  have e2 : (⟨r.val % 64, by omega⟩ : Fin 64) = a := Fin.ext (by show r.val % 64 = a.val; omega)
  rw [hW]
  exact (dmT_at A g3 g2 X D M n hn r b (by omega) e1 e2).symm

include hA in
theorem s3_run {q : ℕ} {hq : q < 16} {w : Vec F S1x2048 .f32} (hw : w = s3P (ldA L o ho) VX) (e : o = 64 * q) (hX : VX = rq n hn X q hq) : w = s3Q A X n hn q hq := by
  rw [hw, ldA_eq hA ho q hq e, hX]; rfl

include hA in
theorem s2_run {q : ℕ} {hq : q < 16} {w : Vec F S1x2048 .f32} (hw : w = s2P (ldA L o ho) (ldG h3 g3) VX VD VM) (e : o = 64 * q)
    (hX : VX = rq n hn X q hq) (hD : VD = rq n hn D q hq) (hM : VM = rq n hn M q hq) : w = s2Q A g3 X D M n hn q hq := by
  rw [hw, ldA_eq hA ho q hq e, ldG_eq, hX, hD, hM]; rfl

end

section
variable {p : (k : ℕ) → k < 16 → Vec F S1x2048 .f32}

theorem add_row (w : FVec F S1x2048 .f32) (u : Vec F S1x2048 .f32) : addf (shapeCast S1x2048 u shapeCasts_S1x2048_S1x2048) w = addf u w := by
  funext y; rw [eq_ix2 y]; pointwise []

theorem gain_first {i : grid1.Coords} (h5 : k1_cond5 i = 1#1) (prev : Vec F S1x2048 .f32) {off inb} (Ll : List (View.Piece (Elt F) S1x2048 .f32)) {w : Vec F S1x2048 .f32}
    (hL : Ll = [⟨Rect.unit (s := S1x2048) off S1x2048.size inb, w⟩]) (hw : w = p 0 (by decide)) : Dma.Top Ll (gainA p (gainS p i prev) 0 (by decide)) := by
  rw [hw] at hL
  exact ⟨_, _, [], hL.trans (by unfold gainA gainS; rw [if_pos h5])⟩

theorem gain_next {i : grid1.Coords} (h5 : ¬ k1_cond5 i = 1#1) {m' : Memref sig .tc .vmem S1x2048 .f32} (hm' : m'.IsWhole) (prev : Vec F S1x2048 .f32) {off inb} (Ll : List (View.Piece (Elt F) S1x2048 .f32)) {w : FVec F S1x2048 .f32}
    (hL : Ll = [⟨Rect.unit (s := S1x2048) off S1x2048.size inb, addf (shapeCast S1x2048 (m'.view.readAt (Elt F) (Rect.unit (s := S1x2048) ![0, 0] S1x2048.size inb_S1x2048_S1x2048_0_0).toLoadRect (hm'.unread prev)) shapeCasts_S1x2048_S1x2048) w⟩])
    (hw : w = p 0 (by decide)) : Dma.Top Ll (gainA p (gainS p i prev) 0 (by decide)) := by
  rw [hw, Dma.load_unread hm' prev z2, add_row] at hL
  exact ⟨_, _, [], hL.trans (by unfold gainA gainS; rw [if_neg h5])⟩

theorem gain_run {st : Vec F S1x2048 .f32} {q : ℕ} (h' : q + 1 < 16) {Lp : List (View.Piece (Elt F) S1x2048 .f32)} (ht : Dma.Top Lp (gainA p st q (Nat.lt_of_succ_lt h'))) (v : View sig .tc .vmem S1x2048 .f32)
    {off inb} (Ll : List (View.Piece (Elt F) S1x2048 .f32)) {w : FVec F S1x2048 .f32}
    (hL : Ll = ⟨Rect.unit (s := S1x2048) off S1x2048.size inb, addf (shapeCast S1x2048 (v.readCov Lp (Rect.unit (s := S1x2048) ![0, 0] S1x2048.size inb_S1x2048_S1x2048_0_0).toLoadRect) shapeCasts_S1x2048_S1x2048) w⟩ :: Lp)
    (hw : w = p (q + 1) h') : Dma.Top Ll (gainA p st (q + 1) h') := by
  rw [hw, ht.load, add_row] at hL
  exact ⟨_, _, _, hL⟩

end

/-! The rows that arrive, and the rows that leave, in the buffers of the two kinds. -/

theorem x_load (f : S2x256x2048.Idx → Elt F .f32) (X : S8192x2048.Idx → Elt F .f32) {s : ℕ} {inb hr} {off : Fin 2 → ℕ} {inbH hrH}
    (hs : s < 2) (m : ℕ) (hoff : off = ![m, 0]) (o : ℕ) (ho : o + 64 ≤ 256) (k : ℕ) (hk : k = m + o) (hN : k + 64 ≤ 8192) (inb') :
    View.readAt (Elt F) xR.view (Rect.unit (s := S2x256x2048) ![s, o, 0] S1x64x2048.size inb').toLoadRect
      (View.write (Elt F) ((xR.slice (Rect.unit (s := S2x256x2048) ![s, 0, 0] ![1, 256, 2048] inb) hr).squeeze S256x2048 squeezes_S1x256x2048_S256x2048).view f (ReadAs.same.apply (View.read (Elt F) (xH.slice (Rect.unit (s := S8192x2048) off ![256, 2048] inbH) hrH).view X)) Finset.univ) = Dma.rows3 X k hN :=
  Dma.load_fetched xR f xH X hs m hoff o ho k hk hN inb'

theorem x_load' (f : S2x256x2048.Idx → Elt F .f32) (X : S8192x2048.Idx → Elt F .f32) {s s' : ℕ} {inb hr inb1 hr1} {off : Fin 2 → ℕ} {inbH hrH} (w : S256x2048.Idx → Elt F .f32)
    (hs : s < 2) (hne : s ≠ s') (m : ℕ) (hoff : off = ![m, 0]) (o : ℕ) (ho : o + 64 ≤ 256) (k : ℕ) (hk : k = m + o) (hN : k + 64 ≤ 8192) (inb') :
    View.readAt (Elt F) xR.view (Rect.unit (s := S2x256x2048) ![s, o, 0] S1x64x2048.size inb').toLoadRect
      (View.write (Elt F) ((xR.slice (Rect.unit (s := S2x256x2048) ![s', 0, 0] ![1, 256, 2048] inb1) hr1).squeeze S256x2048 squeezes_S1x256x2048_S256x2048).view (View.write (Elt F) ((xR.slice (Rect.unit (s := S2x256x2048) ![s, 0, 0] ![1, 256, 2048] inb) hr).squeeze S256x2048 squeezes_S1x256x2048_S256x2048).view f (ReadAs.same.apply (View.read (Elt F) (xH.slice (Rect.unit (s := S8192x2048) off ![256, 2048] inbH) hrH).view X)) Finset.univ) w Finset.univ) = Dma.rows3 X k hN :=
  Dma.load_fetched_under xR f xH X w hs hne m hoff o ho k hk hN inb'

theorem t_load (f : S2x256x2048.Idx → Elt F .f32) (X : S8192x2048.Idx → Elt F .f32) {s : ℕ} {inb hr} {off : Fin 2 → ℕ} {inbH hrH}
    (hs : s < 2) (m : ℕ) (hoff : off = ![m, 0]) (o : ℕ) (ho : o + 64 ≤ 256) (k : ℕ) (hk : k = m + o) (hN : k + 64 ≤ 8192) (inb') :
    View.readAt (Elt F) tR.view (Rect.unit (s := S2x256x2048) ![s, o, 0] S1x64x2048.size inb').toLoadRect
      (View.write (Elt F) ((tR.slice (Rect.unit (s := S2x256x2048) ![s, 0, 0] ![1, 256, 2048] inb) hr).squeeze S256x2048 squeezes_S1x256x2048_S256x2048).view f (ReadAs.same.apply (View.read (Elt F) (tH.slice (Rect.unit (s := S8192x2048) off ![256, 2048] inbH) hrH).view X)) Finset.univ) = Dma.rows3 X k hN :=
  Dma.load_fetched tR f tH X hs m hoff o ho k hk hN inb'

theorem t_load' (f : S2x256x2048.Idx → Elt F .f32) (X : S8192x2048.Idx → Elt F .f32) {s s' : ℕ} {inb hr inb1 hr1} {off : Fin 2 → ℕ} {inbH hrH} (w : S256x2048.Idx → Elt F .f32)
    (hs : s < 2) (hne : s ≠ s') (m : ℕ) (hoff : off = ![m, 0]) (o : ℕ) (ho : o + 64 ≤ 256) (k : ℕ) (hk : k = m + o) (hN : k + 64 ≤ 8192) (inb') :
    View.readAt (Elt F) tR.view (Rect.unit (s := S2x256x2048) ![s, o, 0] S1x64x2048.size inb').toLoadRect
      (View.write (Elt F) ((tR.slice (Rect.unit (s := S2x256x2048) ![s', 0, 0] ![1, 256, 2048] inb1) hr1).squeeze S256x2048 squeezes_S1x256x2048_S256x2048).view (View.write (Elt F) ((tR.slice (Rect.unit (s := S2x256x2048) ![s, 0, 0] ![1, 256, 2048] inb) hr).squeeze S256x2048 squeezes_S1x256x2048_S256x2048).view f (ReadAs.same.apply (View.read (Elt F) (tH.slice (Rect.unit (s := S8192x2048) off ![256, 2048] inbH) hrH).view X)) Finset.univ) w Finset.univ) = Dma.rows3 X k hN :=
  Dma.load_fetched_under tR f tH X w hs hne m hoff o ho k hk hN inb'

theorem m_load (f : S2x256x2048.Idx → Elt F .f32) (X : S8192x2048.Idx → Elt F .f32) {s : ℕ} {inb hr} {off : Fin 2 → ℕ} {inbH hrH}
    (hs : s < 2) (m : ℕ) (hoff : off = ![m, 0]) (o : ℕ) (ho : o + 64 ≤ 256) (k : ℕ) (hk : k = m + o) (hN : k + 64 ≤ 8192) (inb') :
    View.readAt (Elt F) mR.view (Rect.unit (s := S2x256x2048) ![s, o, 0] S1x64x2048.size inb').toLoadRect
      (View.write (Elt F) ((mR.slice (Rect.unit (s := S2x256x2048) ![s, 0, 0] ![1, 256, 2048] inb) hr).squeeze S256x2048 squeezes_S1x256x2048_S256x2048).view f (ReadAs.same.apply (View.read (Elt F) (mH.slice (Rect.unit (s := S8192x2048) off ![256, 2048] inbH) hrH).view X)) Finset.univ) = Dma.rows3 X k hN :=
  Dma.load_fetched mR f mH X hs m hoff o ho k hk hN inb'

theorem m_load' (f : S2x256x2048.Idx → Elt F .f32) (X : S8192x2048.Idx → Elt F .f32) {s s' : ℕ} {inb hr inb1 hr1} {off : Fin 2 → ℕ} {inbH hrH} (w : S256x2048.Idx → Elt F .f32)
    (hs : s < 2) (hne : s ≠ s') (m : ℕ) (hoff : off = ![m, 0]) (o : ℕ) (ho : o + 64 ≤ 256) (k : ℕ) (hk : k = m + o) (hN : k + 64 ≤ 8192) (inb') :
    View.readAt (Elt F) mR.view (Rect.unit (s := S2x256x2048) ![s, o, 0] S1x64x2048.size inb').toLoadRect
      (View.write (Elt F) ((mR.slice (Rect.unit (s := S2x256x2048) ![s', 0, 0] ![1, 256, 2048] inb1) hr1).squeeze S256x2048 squeezes_S1x256x2048_S256x2048).view (View.write (Elt F) ((mR.slice (Rect.unit (s := S2x256x2048) ![s, 0, 0] ![1, 256, 2048] inb) hr).squeeze S256x2048 squeezes_S1x256x2048_S256x2048).view f (ReadAs.same.apply (View.read (Elt F) (mH.slice (Rect.unit (s := S8192x2048) off ![256, 2048] inbH) hrH).view X)) Finset.univ) w Finset.univ) = Dma.rows3 X k hN :=
  Dma.load_fetched_under mR f mH X w hs hne m hoff o ho k hk hN inb'

theorem d_slab (f : S2x256x2048.Idx → Elt F .f32) (s : ℕ) (hs : s < 2) {inb0 inb1 inb2 inb3 inb h}
    (w0 w1 w2 w3 : S1x64x2048.Idx → Elt F .f32) (L) (T : Fin 256 → Fin 2048 → Elt F .f32)
    (h0 : ∀ (a : Fin 64) b, w0 (ix3 0 a b) = T ⟨a.val, by omega⟩ b) (h1 : ∀ (a : Fin 64) b, w1 (ix3 0 a b) = T ⟨64 + a.val, by omega⟩ b)
    (h2 : ∀ (a : Fin 64) b, w2 (ix3 0 a b) = T ⟨128 + a.val, by omega⟩ b) (h3 : ∀ (a : Fin 64) b, w3 (ix3 0 a b) = T ⟨192 + a.val, by omega⟩ b)
    (a : Fin 256) (b : Fin 2048) :
    ReadAs.same.apply (View.read (Elt F) ((dR.slice (Rect.unit (s := S2x256x2048) ![s, 0, 0] ![1, 256, 2048] inb) h).squeeze S256x2048 squeezes_S1x256x2048_S256x2048).view
      (dR.view.writes (Elt F) f (⟨Rect.unit (s := S2x256x2048) ![s, 192, 0] S1x64x2048.size inb3, w3⟩ :: ⟨Rect.unit (s := S2x256x2048) ![s, 128, 0] S1x64x2048.size inb2, w2⟩
      :: ⟨Rect.unit (s := S2x256x2048) ![s, 64, 0] S1x64x2048.size inb1, w1⟩ :: ⟨Rect.unit (s := S2x256x2048) ![s, 0, 0] S1x64x2048.size inb0, w0⟩ :: L))) (ix2 a b) = T a b :=
  Dma.slab_run dR f hs w0 w1 w2 w3 L T h0 h1 h2 h3 a b

theorem d_slabs (G : S8192x2048.Idx → Elt F .f32) (n : ℕ) {off0 off1 off2 off3 : Fin 2 → ℕ} {inb0 inb1 inb2 inb3} {u0 u1 u2 u3}
    (w0 w1 w2 w3 : S256x2048.Idx → Elt F .f32) (T : Fin 1024 → Fin 2048 → Elt F .f32)
    (e0 : off0 = ![n, 0]) (e1 : off1 = ![n + 256, 0]) (e2 : off2 = ![n + 512, 0]) (e3 : off3 = ![n + 768, 0])
    (h0 : ∀ (a : Fin 256) b, w0 (ix2 a b) = T ⟨a.val, by omega⟩ b) (h1 : ∀ (a : Fin 256) b, w1 (ix2 a b) = T ⟨256 + a.val, by omega⟩ b)
    (h2 : ∀ (a : Fin 256) b, w2 (ix2 a b) = T ⟨512 + a.val, by omega⟩ b) (h3 : ∀ (a : Fin 256) b, w3 (ix2 a b) = T ⟨768 + a.val, by omega⟩ b) :
    View.write (Elt F) (dH.slice (Rect.unit (s := S8192x2048) off3 S256x2048.size inb3) u3).view
      (View.write (Elt F) (dH.slice (Rect.unit (s := S8192x2048) off2 S256x2048.size inb2) u2).view
        (View.write (Elt F) (dH.slice (Rect.unit (s := S8192x2048) off1 S256x2048.size inb1) u1).view
          (View.write (Elt F) (dH.slice (Rect.unit (s := S8192x2048) off0 S256x2048.size inb0) u0).view G w0 Finset.univ) w1 Finset.univ) w2 Finset.univ) w3 Finset.univ
      = Dma.putRows n T G := by
  have e : ∀ f : S8192x2048.Idx → Elt F .f32, dH.view.read (Elt F) f = f := fun f => rfl
  have h := Dma.slabs_read (inb0 := inb0) (inb1 := inb1) (inb2 := inb2) (inb3 := inb3) dH.view G n w0 w1 w2 w3 T e0 e1 e2 e3 h0 h1 h2 h3
  rw [e, e] at h
  exact h

theorem e_slab (f : S2x256x2048.Idx → Elt F .bf16) (s : ℕ) (hs : s < 2) {inb0 inb1 inb2 inb3 inb h}
    (w0 w1 w2 w3 : S1x64x2048.Idx → Elt F .bf16) (L) (T : Fin 256 → Fin 2048 → Elt F .bf16)
    (h0 : ∀ (a : Fin 64) b, w0 (ix3 0 a b) = T ⟨a.val, by omega⟩ b) (h1 : ∀ (a : Fin 64) b, w1 (ix3 0 a b) = T ⟨64 + a.val, by omega⟩ b)
    (h2 : ∀ (a : Fin 64) b, w2 (ix3 0 a b) = T ⟨128 + a.val, by omega⟩ b) (h3 : ∀ (a : Fin 64) b, w3 (ix3 0 a b) = T ⟨192 + a.val, by omega⟩ b)
    (a : Fin 256) (b : Fin 2048) :
    ReadAs.same.apply (View.read (Elt F) ((eR.slice (Rect.unit (s := S2x256x2048) ![s, 0, 0] ![1, 256, 2048] inb) h).squeeze S256x2048 squeezes_S1x256x2048_S256x2048).view
      (eR.view.writes (Elt F) f (⟨Rect.unit (s := S2x256x2048) ![s, 192, 0] S1x64x2048.size inb3, w3⟩ :: ⟨Rect.unit (s := S2x256x2048) ![s, 128, 0] S1x64x2048.size inb2, w2⟩
      :: ⟨Rect.unit (s := S2x256x2048) ![s, 64, 0] S1x64x2048.size inb1, w1⟩ :: ⟨Rect.unit (s := S2x256x2048) ![s, 0, 0] S1x64x2048.size inb0, w0⟩ :: L))) (ix2 a b) = T a b :=
  Dma.slab_run eR f hs w0 w1 w2 w3 L T h0 h1 h2 h3 a b

theorem e_slabs (G : S8192x2048.Idx → Elt F .bf16) (n : ℕ) {off0 off1 off2 off3 : Fin 2 → ℕ} {inb0 inb1 inb2 inb3} {u0 u1 u2 u3}
    (w0 w1 w2 w3 : S256x2048.Idx → Elt F .bf16) (T : Fin 1024 → Fin 2048 → Elt F .bf16)
    (e0 : off0 = ![n, 0]) (e1 : off1 = ![n + 256, 0]) (e2 : off2 = ![n + 512, 0]) (e3 : off3 = ![n + 768, 0])
    (h0 : ∀ (a : Fin 256) b, w0 (ix2 a b) = T ⟨a.val, by omega⟩ b) (h1 : ∀ (a : Fin 256) b, w1 (ix2 a b) = T ⟨256 + a.val, by omega⟩ b)
    (h2 : ∀ (a : Fin 256) b, w2 (ix2 a b) = T ⟨512 + a.val, by omega⟩ b) (h3 : ∀ (a : Fin 256) b, w3 (ix2 a b) = T ⟨768 + a.val, by omega⟩ b) :
    View.write (Elt F) (eH.slice (Rect.unit (s := S8192x2048) off3 S256x2048.size inb3) u3).view
      (View.write (Elt F) (eH.slice (Rect.unit (s := S8192x2048) off2 S256x2048.size inb2) u2).view
        (View.write (Elt F) (eH.slice (Rect.unit (s := S8192x2048) off1 S256x2048.size inb1) u1).view
          (View.write (Elt F) (eH.slice (Rect.unit (s := S8192x2048) off0 S256x2048.size inb0) u0).view G w0 Finset.univ) w1 Finset.univ) w2 Finset.univ) w3 Finset.univ
      = Dma.putRows n T G := by
  have e : ∀ f : S8192x2048.Idx → Elt F .bf16, eH.view.read (Elt F) f = f := fun f => rfl
  have h := Dma.slabs_read (inb0 := inb0) (inb1 := inb1) (inb2 := inb2) (inb3 := inb3) eH.view G n w0 w1 w2 w3 T e0 e1 e2 e3 h0 h1 h2 h3
  rw [e, e] at h
  exact h

/-- The calculation of the last point of a row block. -/
def Last (c : Dev nD) (i : grid1.Coords) (n : ℕ) (hn : n + 1024 ≤ 8192) : Prop :=
  ∀ (arg3 : Memref sig .tc .vmem S1024x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S2048x512 .bf16) (harg6 : arg6.IsWhole) (arg10 : Memref sig .tc .vmem S1x2048 .f32) (harg10 : arg10.IsWhole) (arg11 : Memref sig .tc .vmem S1x2048 .f32) (harg11 : arg11.IsWhole) (arg14 : Memref sig .tc .vmem S1x2048 .f32) (harg14 : arg14.IsWhole) (arg15 : Memref sig .tc .vmem S1x2048 .f32) (harg15 : arg15.IsWhole)
    (x0 : Vec F S1024x512 .bf16) (x1 : Vec F S2048x512 .bf16) (x2 : Vec F S1024x512 .bf16) (x3 : Vec F S2048x512 .bf16) (g3 g2 y3 y2 : Vec F S1x2048 .f32)
    (fa : S1024x2048.Idx → Elt F .f32) (fx ft fm fd : S2x256x2048.Idx → Elt F .f32) (fe : S2x256x2048.Idx → Elt F .bf16)
    (X D M Gd : S8192x2048.Idx → Elt F .f32) (Ge : S8192x2048.Idx → Elt F .bf16)
    (W : Waits sig Unit) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3
      ∗ owns (c : Thread nD τ) arg10 fullShare g3 ∗ owns (c : Thread nD τ) arg11 fullShare g2 ∗ owns (c : Thread nD τ) arg14 fullShare y3 ∗ owns (c : Thread nD τ) arg15 fullShare y2
      ∗ whole c accM fa ∗ whole c xR fx ∗ whole c tR ft ∗ whole c mR fm ∗ whole c dR fd ∗ whole c eR fe
      ∗ whole c xH X ∗ whole c tH D ∗ whole c mH M ∗ whole c dH Gd ∗ whole c eH Ge
      ∗ cell c 25 ∗ cell c 26 ∗ cell c 27 ∗ cell c 28 ∗ cell c 29 ∗ cell c 30 ∗ cell c 31 ∗ cell c 32 ∗ cell c 33 ∗ cell c 34
      ∗ owes (c : Thread nD τ) 0 W
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg10 fullShare g3 ∗ owns (c : Thread nD τ) arg11 fullShare g2
          ∗ owns (c : Thread nD τ) arg14 fullShare (gainA (s3Q (k1_pay2 x0 x1 x2 x3 fa) X n hn) (gainS (s3Q (k1_pay2 x0 x1 x2 x3 fa) X n hn) i y3) 15 (by decide))
          ∗ owns (c : Thread nD τ) arg15 fullShare (gainA (s2Q (k1_pay2 x0 x1 x2 x3 fa) g3 X D M n hn) (gainS (s2Q (k1_pay2 x0 x1 x2 x3 fa) g3 X D M n hn) i y2) 15 (by decide))
          ∗ ((∃ f, whole c accM f) ∗ (∃ f, whole c xR f) ∗ (∃ f, whole c tR f) ∗ (∃ f, whole c mR f) ∗ (∃ f, whole c dR f) ∗ (∃ f, whole c eR f))
          ∗ (whole c xH X ∗ whole c tH D ∗ whole c mH M)
          ∗ (whole c dH (Dma.putRows n (dxT (k1_pay2 x0 x1 x2 x3 fa) g3 X D n hn) Gd) ∗ whole c eH (Dma.putRows n (dmT (k1_pay2 x0 x1 x2 x3 fa) g3 g2 X D M n hn) Ge))
          ∗ (cell c 25 ∗ cell c 26 ∗ cell c 27 ∗ cell c 28 ∗ cell c 29 ∗ cell c 30 ∗ cell c 31 ∗ cell c 32 ∗ cell c 33 ∗ cell c 34)
          ∗ (∃ W', owes (c : Thread nD τ) 0 W')) -∗ K ⟨⟩))
    ⊢ wp frame (wpE (defs₀ (F := F)) Variants.none c none) Set.univ (bodyOf i arg3 harg3 arg4 harg4 arg5 harg5 arg6 harg6 arg10 harg10 arg11 harg11 arg14 harg14 arg15 harg15) K

end Cert.Dhf
-- ==== Proof.Dhf.Last.lean ====
module

public import proofs.«01_k».proof.Proof.Dhf.Rows
public import proofs.«01_k».proof.Proof.Gen.Kernel5Ideal.Skeleton
public import proofs.«01_k».proof.Proof.Dma.Rows
public import proofs.«01_k».proof.Proof.Dma.Slots
public import proofs.«01_k».proof.Proof.Dma.Whole
public import Idealize.ShloMosaic.Lib.Pipeline.FrameValue
public import Idealize.ShloMosaic.Lib.WordCmp
public import Idealize.ShloMosaic.Lib.Tactic
public import Idealize.ShloMosaic.Lib.Ring
public import Idealize.ShloMosaic.Lib.Pointwise

@[expose] public section

set_option maxRecDepth 16384

noncomputable section

/-! The second call. The last point of a row block: rows arrive, the epilogue runs 64 at a time, and rows of both gradients leave. -/

namespace Cert.Dhf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
set_option sl_exec.dmaWindow true in set_option sl_exec.dmaWindowSet true in
theorem last_point (c : Dev nD) (i : grid1.Coords) (n : ℕ) (hn : n + 1024 ≤ 8192)
    (h1 : condA i) (h2 : ¬ cond2 i) (h3 : cond3 i) (h4 : condF i) (h : (k1_cond5 i = 1#1 ∧ ¬ k1_cond6 i = 1#1 ∧ k1_cond7 i = 1#1 ∧ ¬ k1_cond8 i = 1#1) ∨ (¬ k1_cond5 i = 1#1 ∧ k1_cond6 i = 1#1 ∧ ¬ k1_cond7 i = 1#1 ∧ k1_cond8 i = 1#1))
    (hl : k1_off1 i = ![n, 0]) (hl0 : k1_off2 i 0#32 = ![n, 0]) (hl1 : k1_off2 i 256#32 = ![n + 256, 0]) (hl2 : k1_off2 i 512#32 = ![n + 512, 0]) (hl3 : k1_off2 i 768#32 = ![n + 768, 0]) :
    Last (F := F) c i n hn := by
  unfold Last
  intro arg3 harg3 arg4 harg4 arg5 harg5 arg6 harg6 arg10 harg10 arg11 harg11 arg14 harg14 arg15 harg15 x0 x1 x2 x3 g3 g2 y3 y2 fa fx ft fm fd fe X D M Gd Ge W K
  letI : ClosedOff (k1_off1 i) := ⟨![n, 0], hl⟩
  letI : ClosedOff (k1_off2 i 0#32) := ⟨![n, 0], hl0⟩
  letI : ClosedOff (k1_off2 i 256#32) := ⟨![n + 256, 0], hl1⟩
  letI : ClosedOff (k1_off2 i 512#32) := ⟨![n + 512, 0], hl2⟩
  letI : ClosedOff (k1_off2 i 768#32) := ⟨![n + 768, 0], hl3⟩
  unfold bodyOf
  simp only [cc1_dhf_eq_skeleton]; unfold cc1_dhf_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Ha, Hx, Ht, Hm, Hd, He, HX, HT, HM, HD, HE, Hq25, Hq26, Hq27, Hq28, Hq29, Hq30, Hq31, Hq32, Hq33, Hq34, HW, Hk⟩
  obtain rfl := harg3.eq_unread hf0; obtain rfl := harg4.eq_unread hf1; obtain rfl := harg5.eq_unread hf2; obtain rfl := harg6.eq_unread hf3; obtain rfl := harg10.eq_unread hf4; obtain rfl := harg11.eq_unread hf5; obtain rfl := harg14.eq_unread hf6; obtain rfl := harg15.eq_unread hf7
  rcases h with ⟨h5, h6, h7, h8⟩ | ⟨h5, h6, h7, h8⟩
  all_goals (sl_exec (disch := first | sl_exact h1 | sl_exact h2 | sl_exact h3 | sl_exact h4 | sl_exact h5 | sl_exact h6 | sl_exact h7 | sl_exact h8); sl_step)
  all_goals
    have hA : ∀ L, L = _ → Acc L (k1_pay2 x0 x1 x2 x3 fa) := fun L h => acc_stored harg3 harg4 harg5 harg6 x0 x1 x2 x3 fa (by decide) (by decide) (by decide) (by decide) (by decide) (by decide) h
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg10.read_unread _
      iexact H4
    isplitl [H5]
    · iexists _; isplitr; · ipureintro; exact harg11.read_unread _
      iexact H5
    isplitl [H6]
    · iexists _; isplitr
      rotate_left
      · iexact H6
      · ipureintro
        refine Dma.Top.read ?_ arg14.view _
        iterate 15 refine gain_run (by decide) ?_ arg14.view _ rfl (s3_run (hA _ rfl) X n hn rfl (by decide) ?_)
        first | refine gain_first h5 y3 _ rfl (s3_run (hA _ rfl) X n hn rfl (by decide) ?_) | refine gain_next h5 harg14 y3 _ rfl (s3_run (hA _ rfl) X n hn rfl (by decide) ?_)
        iterate 4 (exact x_load' _ X _ (by decide) (by decide) _ hl _ (by decide) _ (by omega) (by omega) _)
        iterate 4 (exact x_load' _ X _ (by decide) (by decide) _ hl1 _ (by decide) _ (by omega) (by omega) _)
        iterate 4 (exact x_load' _ X _ (by decide) (by decide) _ hl2 _ (by decide) _ (by omega) (by omega) _)
        iterate 4 (exact x_load _ X (by decide) _ hl3 _ (by decide) _ (by omega) (by omega) _)
    isplitl [H7]
    · iexists _; isplitr
      rotate_left
      · iexact H7
      · ipureintro
        refine Dma.Top.read ?_ arg15.view _
        iterate 15 refine gain_run (by decide) ?_ arg15.view _ rfl (s2_run (hA _ rfl) harg10 g3 X D M n hn rfl (by decide) ?_ ?_ ?_)
        first | refine gain_first h5 y2 _ rfl (s2_run (hA _ rfl) harg10 g3 X D M n hn rfl (by decide) ?_ ?_ ?_) | refine gain_next h5 harg15 y2 _ rfl (s2_run (hA _ rfl) harg10 g3 X D M n hn rfl (by decide) ?_ ?_ ?_)
        iterate 4 (exact x_load' _ X _ (by decide) (by decide) _ hl _ (by decide) _ (by omega) (by omega) _; exact t_load' _ D _ (by decide) (by decide) _ hl _ (by decide) _ (by omega) (by omega) _; exact m_load' _ M _ (by decide) (by decide) _ hl _ (by decide) _ (by omega) (by omega) _)
        iterate 4 (exact x_load' _ X _ (by decide) (by decide) _ hl1 _ (by decide) _ (by omega) (by omega) _; exact t_load' _ D _ (by decide) (by decide) _ hl1 _ (by decide) _ (by omega) (by omega) _; exact m_load' _ M _ (by decide) (by decide) _ hl1 _ (by decide) _ (by omega) (by omega) _)
        iterate 4 (exact x_load' _ X _ (by decide) (by decide) _ hl2 _ (by decide) _ (by omega) (by omega) _; exact t_load' _ D _ (by decide) (by decide) _ hl2 _ (by decide) _ (by omega) (by omega) _; exact m_load' _ M _ (by decide) (by decide) _ hl2 _ (by decide) _ (by omega) (by omega) _)
        iterate 4 (exact x_load _ X (by decide) _ hl3 _ (by decide) _ (by omega) (by omega) _; exact t_load _ D (by decide) _ hl3 _ (by decide) _ (by omega) (by omega) _; exact m_load _ M (by decide) _ hl3 _ (by decide) _ (by omega) (by omega) _)
    isplitl [Ha Hx Ht Hm Hd He]
    · isplitl [Ha]; · iexists _; iexact Ha
      isplitl [Hx]; · iexists _; iexact Hx
      isplitl [Ht]; · iexists _; iexact Ht
      isplitl [Hm]; · iexists _; iexact Hm
      isplitl [Hd]; · iexists _; iexact Hd
      iexists _; iexact He
    isplitl [HX HT HM]
    · isplitl [HX]; · iexact HX
      isplitl [HT]; · iexact HT
      iexact HM
    isplitl [HD HE]
    · isplitl [HD]
      · refine Entails.of_eq (congrArg (whole c dH) ?_)
        refine d_slabs Gd n _ _ _ _ _ hl0 hl1 hl2 hl3 ?_ ?_ ?_ ?_
        · refine d_slab fd _ (by decide) _ _ _ _ _ (fun a b => dxT (k1_pay2 x0 x1 x2 x3 fa) g3 X D n hn ⟨a.val, by omega⟩ b) ?_ ?_ ?_ ?_
          all_goals (intro a b; refine dx_run (hA _ rfl) harg10 g3 X D n hn _ rfl _ a b (by decide) (by first | rfl | (dsimp only; omega)) ?_ ?_)
          iterate 4 (exact x_load' _ X _ (by decide) (by decide) _ hl _ (by decide) _ (by omega) (by omega) _; exact t_load' _ D _ (by decide) (by decide) _ hl _ (by decide) _ (by omega) (by omega) _)
        · refine d_slab fd _ (by decide) _ _ _ _ _ (fun a b => dxT (k1_pay2 x0 x1 x2 x3 fa) g3 X D n hn ⟨256 + a.val, by omega⟩ b) ?_ ?_ ?_ ?_
          all_goals (intro a b; refine dx_run (hA _ rfl) harg10 g3 X D n hn _ rfl _ a b (by decide) (by first | rfl | (dsimp only; omega)) ?_ ?_)
          iterate 4 (exact x_load' _ X _ (by decide) (by decide) _ hl1 _ (by decide) _ (by omega) (by omega) _; exact t_load' _ D _ (by decide) (by decide) _ hl1 _ (by decide) _ (by omega) (by omega) _)
        · refine d_slab fd _ (by decide) _ _ _ _ _ (fun a b => dxT (k1_pay2 x0 x1 x2 x3 fa) g3 X D n hn ⟨512 + a.val, by omega⟩ b) ?_ ?_ ?_ ?_
          all_goals (intro a b; refine dx_run (hA _ rfl) harg10 g3 X D n hn _ rfl _ a b (by decide) (by first | rfl | (dsimp only; omega)) ?_ ?_)
          iterate 4 (exact x_load' _ X _ (by decide) (by decide) _ hl2 _ (by decide) _ (by omega) (by omega) _; exact t_load' _ D _ (by decide) (by decide) _ hl2 _ (by decide) _ (by omega) (by omega) _)
        · refine d_slab fd _ (by decide) _ _ _ _ _ (fun a b => dxT (k1_pay2 x0 x1 x2 x3 fa) g3 X D n hn ⟨768 + a.val, by omega⟩ b) ?_ ?_ ?_ ?_
          all_goals (intro a b; refine dx_run (hA _ rfl) harg10 g3 X D n hn _ rfl _ a b (by decide) (by first | rfl | (dsimp only; omega)) ?_ ?_)
          iterate 4 (exact x_load _ X (by decide) _ hl3 _ (by decide) _ (by omega) (by omega) _; exact t_load _ D (by decide) _ hl3 _ (by decide) _ (by omega) (by omega) _)
      refine Entails.of_eq (congrArg (whole c eH) ?_)
      refine e_slabs Ge n _ _ _ _ _ hl0 hl1 hl2 hl3 ?_ ?_ ?_ ?_
      · refine e_slab fe _ (by decide) _ _ _ _ _ (fun a b => dmT (k1_pay2 x0 x1 x2 x3 fa) g3 g2 X D M n hn ⟨a.val, by omega⟩ b) ?_ ?_ ?_ ?_
        all_goals (intro a b; refine dm_run (hA _ rfl) harg10 harg11 g3 g2 X D M n hn _ rfl _ a b (by decide) (by first | rfl | (dsimp only; omega)) ?_ ?_ ?_)
        iterate 4 (exact x_load' _ X _ (by decide) (by decide) _ hl _ (by decide) _ (by omega) (by omega) _; exact t_load' _ D _ (by decide) (by decide) _ hl _ (by decide) _ (by omega) (by omega) _; exact m_load' _ M _ (by decide) (by decide) _ hl _ (by decide) _ (by omega) (by omega) _)
      · refine e_slab fe _ (by decide) _ _ _ _ _ (fun a b => dmT (k1_pay2 x0 x1 x2 x3 fa) g3 g2 X D M n hn ⟨256 + a.val, by omega⟩ b) ?_ ?_ ?_ ?_
        all_goals (intro a b; refine dm_run (hA _ rfl) harg10 harg11 g3 g2 X D M n hn _ rfl _ a b (by decide) (by first | rfl | (dsimp only; omega)) ?_ ?_ ?_)
        iterate 4 (exact x_load' _ X _ (by decide) (by decide) _ hl1 _ (by decide) _ (by omega) (by omega) _; exact t_load' _ D _ (by decide) (by decide) _ hl1 _ (by decide) _ (by omega) (by omega) _; exact m_load' _ M _ (by decide) (by decide) _ hl1 _ (by decide) _ (by omega) (by omega) _)
      · refine e_slab fe _ (by decide) _ _ _ _ _ (fun a b => dmT (k1_pay2 x0 x1 x2 x3 fa) g3 g2 X D M n hn ⟨512 + a.val, by omega⟩ b) ?_ ?_ ?_ ?_
        all_goals (intro a b; refine dm_run (hA _ rfl) harg10 harg11 g3 g2 X D M n hn _ rfl _ a b (by decide) (by first | rfl | (dsimp only; omega)) ?_ ?_ ?_)
        iterate 4 (exact x_load' _ X _ (by decide) (by decide) _ hl2 _ (by decide) _ (by omega) (by omega) _; exact t_load' _ D _ (by decide) (by decide) _ hl2 _ (by decide) _ (by omega) (by omega) _; exact m_load' _ M _ (by decide) (by decide) _ hl2 _ (by decide) _ (by omega) (by omega) _)
      · refine e_slab fe _ (by decide) _ _ _ _ _ (fun a b => dmT (k1_pay2 x0 x1 x2 x3 fa) g3 g2 X D M n hn ⟨768 + a.val, by omega⟩ b) ?_ ?_ ?_ ?_
        all_goals (intro a b; refine dm_run (hA _ rfl) harg10 harg11 g3 g2 X D M n hn _ rfl _ a b (by decide) (by first | rfl | (dsimp only; omega)) ?_ ?_ ?_)
        iterate 4 (exact x_load _ X (by decide) _ hl3 _ (by decide) _ (by omega) (by omega) _; exact t_load _ D (by decide) _ hl3 _ (by decide) _ (by omega) (by omega) _; exact m_load _ M (by decide) _ hl3 _ (by decide) _ (by omega) (by omega) _)
    isplitl [Hq25 Hq26 Hq27 Hq28 Hq29 Hq30 Hq31 Hq32 Hq33 Hq34]
    · isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      iexact Hq34
    iexists _; iexact HW

end Cert.Dhf
-- ==== Proof.Dhf.Launch.lean ====
module

public import proofs.«01_k».proof.Proof.Dhf.Last
public import proofs.«01_k».proof.Proof.Gen.Kernel5Ideal.Skeleton
public import proofs.«01_k».proof.Proof.Dma.Rows
public import proofs.«01_k».proof.Proof.Dma.Slots
public import proofs.«01_k».proof.Proof.Dma.Whole
public import proofs.«01_k».proof.Proof.Gen.Kernel5Ideal.Points
public import Idealize.ShloMosaic.Lib.Pipeline.FrameValue
public import Idealize.ShloMosaic.Lib.Pipeline.FrameBody
public import Idealize.ShloMosaic.Lib.WordCmp
public import Idealize.ShloMosaic.Lib.Tactic
public import Idealize.ShloMosaic.Lib.Ring
public import Idealize.ShloMosaic.Lib.Pointwise

@[expose] public section

set_option maxRecDepth 16384

noncomputable section

/-! The second call: what the buffers hold from point to point, the invariant, and the body at any point, at any contents of the buffers when the call begins. -/

namespace Cert.Dhf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The points -/

theorem lt_N (t : Fin cfg1.N) : t.val < 88 := lt_of_lt_of_eq t.isLt (show cfg1.N = 88 from N_1)
theorem row_le (n : ℕ) (hn : n < cfg1.N) : 1024 * (n / 11) + 1024 ≤ 8192 := by
  have h : n < 88 := lt_N ⟨n, hn⟩
  omega

theorem condA_iff : ∀ t : Fin cfg1.N, condA (grid1.coords t) ↔ t.val % 11 = 10 := by decide +kernel
theorem cond2_iff : ∀ t : Fin cfg1.N, cond2 (grid1.coords t) ↔ t.val % 11 = 0 := by decide +kernel
theorem cond3_iff : ∀ t : Fin cfg1.N, cond3 (grid1.coords t) ↔ ¬ t.val % 11 = 0 := by decide +kernel
theorem condF_iff : ∀ t : Fin cfg1.N, condF (grid1.coords t) ↔ t.val % 11 = 10 := by decide +kernel
theorem first_iff : ∀ t : Fin cfg1.N, (k1_cond5 (grid1.coords t) = 1#1 ↔ t.val < 11) ∧ (k1_cond6 (grid1.coords t) = 1#1 ↔ ¬ t.val < 11)
    ∧ (k1_cond7 (grid1.coords t) = 1#1 ↔ t.val < 11) ∧ (k1_cond8 (grid1.coords t) = 1#1 ↔ ¬ t.val < 11) := by decide +kernel
theorem off_eq : ∀ t : Fin cfg1.N, k1_off1 (grid1.coords t) = ![1024 * (t.val / 11), 0] ∧ k1_off2 (grid1.coords t) 0#32 = ![1024 * (t.val / 11), 0] ∧ k1_off2 (grid1.coords t) 256#32 = ![1024 * (t.val / 11) + 256, 0]
    ∧ k1_off2 (grid1.coords t) 512#32 = ![1024 * (t.val / 11) + 512, 0] ∧ k1_off2 (grid1.coords t) 768#32 = ![1024 * (t.val / 11) + 768, 0] := by decide +kernel

/-- A result with one block: never fetched, idle except at the last point of a row block, written back at the very end. -/
structure OneBlock (w : Fin cfg1.W) : Prop where
  fetch : ∀ t : Fin cfg1.N, (cfg1.win w).fetch t = false
  idle : ∀ t : Fin cfg1.N, cfg1.idle w (cfg1.grid.coords t) = true ↔ ¬ t.val % 11 = 10
  flush : ∀ t : Fin cfg1.N, (cfg1.win w).flush t = true ↔ t.val % 88 = 87

theorem one6 : OneBlock 6 := ⟨by decide +kernel, by decide +kernel, flush1_6⟩
theorem one7 : OneBlock 7 := ⟨by decide +kernel, by decide +kernel, flush1_7⟩

section
variable (V : (c : Dev nD) → (b : Ref sig .tc) → Buf (Elt F) ((c : Thread nD τ).loc b))

/-! ## What the buffers hold -/

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xB (c : Dev nD) : S8192x2048.Idx → Elt F .f32 := V c main_v6_1
abbrev oB (c : Dev nD) : S8192x2048.Idx → Elt F .f32 := V c main_arg9
abbrev mB (c : Dev nD) : S8192x2048.Idx → Elt F .f32 := V c main_v6_0
abbrev dgB (c : Dev nD) (t : Fin cfg1.N) : Vec F S1024x512 .bf16 := blk1 V c 0 t
abbrev wgB (c : Dev nD) (t : Fin cfg1.N) : Vec F S2048x512 .bf16 := blk1 V c 1 t
abbrev duB (c : Dev nD) (t : Fin cfg1.N) : Vec F S1024x512 .bf16 := blk1 V c 2 t
abbrev wuB (c : Dev nD) (t : Fin cfg1.N) : Vec F S2048x512 .bf16 := blk1 V c 3 t
abbrev gain3 (c : Dev nD) (t : Fin cfg1.N) : Vec F S1x2048 .f32 := blk1 V c 4 t
abbrev gain2 (c : Dev nD) (t : Fin cfg1.N) : Vec F S1x2048 .f32 := blk1 V c 5 t

/-- The accumulator after a point. -/
def accAt (c : Dev nD) : (n : ℕ) → n < cfg1.N → Vec F S1024x2048 .f32
  | 0, h => k1_pay1 (dgB V c ⟨0, h⟩) (wgB V c ⟨0, h⟩) (duB V c ⟨0, h⟩) (wuB V c ⟨0, h⟩)
  | n + 1, h => if (n + 1) % 11 = 0 then k1_pay1 (dgB V c ⟨n + 1, h⟩) (wgB V c ⟨n + 1, h⟩) (duB V c ⟨n + 1, h⟩) (wuB V c ⟨n + 1, h⟩)
      else k1_pay2 (dgB V c ⟨n + 1, h⟩) (wgB V c ⟨n + 1, h⟩) (duB V c ⟨n + 1, h⟩) (wuB V c ⟨n + 1, h⟩) (accAt c n (by omega))

theorem accAt_first (c : Dev nD) (t : Fin cfg1.N) (h : t.val % 11 = 0) : accAt V c t.val t.isLt = k1_pay1 (dgB V c t) (wgB V c t) (duB V c t) (wuB V c t) := by
  obtain ⟨n, hn⟩ := t
  cases n with
  | zero => rfl
  | succ n => exact if_pos h

theorem accAt_next (c : Dev nD) (t : Fin cfg1.N) (h : ¬ t.val % 11 = 0) :
    accAt V c t.val t.isLt = k1_pay2 (dgB V c t) (wgB V c t) (duB V c t) (wuB V c t) (accAt V c (t.val - 1) (by omega)) := by
  obtain ⟨n, hn⟩ := t
  cases n with
  | zero => exact absurd rfl h
  | succ n => exact if_neg h

/-- The pieces of the two gains' gradients in the row block of a point. -/
def piece3 (c : Dev nD) (t : Fin cfg1.N) : (k : ℕ) → k < 16 → Vec F S1x2048 .f32 := s3Q (accAt V c t.val t.isLt) (xB V c) (1024 * (t.val / 11)) (row_le t.val t.isLt)
def piece2 (c : Dev nD) (t : Fin cfg1.N) : (k : ℕ) → k < 16 → Vec F S1x2048 .f32 :=
  s2Q (accAt V c t.val t.isLt) (gain3 V c t) (xB V c) (oB V c) (mB V c) (1024 * (t.val / 11)) (row_le t.val t.isLt)

/-- The rows that a row block leaves for the other two gradients. -/
def dxR (c : Dev nD) (t : Fin cfg1.N) : Fin 1024 → Fin 2048 → Elt F .f32 := dxT (accAt V c t.val t.isLt) (gain3 V c t) (xB V c) (oB V c) (1024 * (t.val / 11)) (row_le t.val t.isLt)
def dmR (c : Dev nD) (t : Fin cfg1.N) : Fin 1024 → Fin 2048 → Elt F .bf16 :=
  dmT (accAt V c t.val t.isLt) (gain3 V c t) (gain2 V c t) (xB V c) (oB V c) (mB V c) (1024 * (t.val / 11)) (row_le t.val t.isLt)

end

/-- A gain's gradient after a point: the pieces of the row blocks so far, added up in order (before the first is done: anything, here `z`). -/
def sumAt (P : Fin cfg1.N → (k : ℕ) → k < 16 → Vec F S1x2048 .f32) (z : Vec F S1x2048 .f32) : (n : ℕ) → n < cfg1.N → Vec F S1x2048 .f32
  | 0, _ => z
  | n + 1, h => if (n + 1) % 11 = 10 then gainA (P ⟨n + 1, h⟩) (gainS (P ⟨n + 1, h⟩) (grid1.coords ⟨n + 1, h⟩) (sumAt P z n (by omega))) 15 (by decide) else sumAt P z n (by omega)

/-- An array after a number of points, of which each row block's last writes the row block's rows. -/
def rowsTo {e : EltTy} (T : Fin cfg1.N → Fin 1024 → Fin 2048 → Elt F e) (Z : S8192x2048.Idx → Elt F e) : (n : ℕ) → n ≤ cfg1.N → (S8192x2048.Idx → Elt F e)
  | 0, _ => Z
  | n + 1, h => if n % 11 = 10 then Dma.putRows (1024 * (n / 11)) (T ⟨n, h⟩) (rowsTo T Z n (by omega)) else rowsTo T Z n (by omega)

section
variable (V : (c : Dev nD) → (b : Ref sig .tc) → Buf (Elt F) ((c : Thread nD τ).loc b))

abbrev s3At (c : Dev nD) (n : ℕ) (hn : n < cfg1.N) : Vec F S1x2048 .f32 := sumAt (piece3 V c) (gain3 V c ⟨n, hn⟩) n hn
abbrev s2At (c : Dev nD) (n : ℕ) (hn : n < cfg1.N) : Vec F S1x2048 .f32 := sumAt (piece2 V c) (gain3 V c ⟨n, hn⟩) n hn
abbrev dAt (c : Dev nD) (n : ℕ) (hn : n ≤ cfg1.N) : S8192x2048.Idx → Elt F .f32 := rowsTo (dxR V c) (V c main_v7_0) n hn
abbrev eAt (c : Dev nD) (n : ℕ) (hn : n ≤ cfg1.N) : S8192x2048.Idx → Elt F .bf16 := rowsTo (dmR V c) (V c main_v7_1) n hn

/-! ## The invariant: nothing under way between points, and the partial sum inside a row block -/

/-- The first call's staging buffers and the counter: not touched. -/
def Idle (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)) ∗ (∃ r, prngReg c r))

def Inv (c : Dev nD) (A : sProp 𝕄) (G : S8192x2048.Idx → Elt F .f32) (E : S8192x2048.Idx → Elt F .bf16) : sProp 𝕄 :=
  iprop((A ∗ (∃ f, whole c xR f) ∗ (∃ f, whole c tR f) ∗ (∃ f, whole c mR f) ∗ (∃ f, whole c dR f) ∗ (∃ f, whole c eR f))
    ∗ Idle c ∗ (cell c 25 ∗ cell c 26 ∗ cell c 27 ∗ cell c 28 ∗ cell c 29 ∗ cell c 30 ∗ cell c 31 ∗ cell c 32 ∗ cell c 33 ∗ cell c 34)
    ∗ (whole c xH (xB V c) ∗ whole c tH (oB V c) ∗ whole c mH (mB V c)) ∗ (whole c dH G ∗ whole c eH E))

abbrev AnyA (c : Dev nD) : sProp 𝕄 := iprop(∃ f, whole c accM f)

def PhiS (c : Dev nD) (n : ℕ) (hn : n ≤ cfg1.N) : sProp 𝕄 :=
  if h : n % 11 = 0 then Inv V c (AnyA c) (dAt V c n hn) (eAt V c n hn) else Inv V c (whole c accM (accAt V c (n - 1) (by omega))) (dAt V c n hn) (eAt V c n hn)

/-! ## The proof data -/

def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => s3At V c t.val t.isLt
    | ⟨7, _⟩ => s2At V c t.val t.isLt
  Φ t := PhiS V c t.val (Nat.le_of_lt_succ t.isLt)
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = s3At V c t.val t.isLt := by dsimp only [dat1]
theorem after1_7 (c : Dev nD) (t : Fin cfg1.N) : (dat1 V c).after 7 t = s2At V c t.val t.isLt := by dsimp only [dat1]

theorem PhiS_castSucc (c : Dev nD) (t : Fin cfg1.N) : (dat1 V c).Φ t.castSucc = PhiS V c t.val (Nat.le_of_lt t.isLt) := by
  dsimp only [dat1]; exact Pipeline.Dat.Φ_castSucc (PhiS V c) t

/-! An input's staging buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1_eq]; try rfl) t d).trans
    (by unfold Dat.fetched Dat.blockOf blk1; rw [A1_eq]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A1_eq]; try rfl) t d).trans
    (by unfold Dat.fetched Dat.blockOf blk1; rw [A1_eq]; try rfl)

/-- From the second row block on, the buffer of a result with one block holds what the row blocks before left. -/
theorem before_one (c : Dev nD) (w : Fin cfg1.W) (h1 : OneBlock w) (hk : ∀ t d, (dat1 V c).kept w t d = (dat1 V c).after w t) (val : (n : ℕ) → n < cfg1.N → (cfg1.win w).block.Idx → Elt F (cfg1.win w).elt)
    (hval : ∀ n hn hn', ¬ (n + 1) % 11 = 10 → val (n + 1) hn = val n hn') (hafter : ∀ t : Fin cfg1.N, (dat1 V c).after w t = val t.val t.isLt) :
    ∀ (n : ℕ) (hn : n < cfg1.N) (h4 : 11 ≤ n) (d), (dat1 V c).before w ⟨n, hn⟩ d = val (n - 1) (lt_of_le_of_lt (Nat.sub_le n 1) hn)
  | 0, _, h4, _ => absurd h4 (by decide)
  | n + 1, hn, h4, d => by
    have hN : n + 1 < 88 := lt_N ⟨n + 1, hn⟩
    have hn' : n < cfg1.N := Nat.lt_of_succ_lt hn
    have hfl : (cfg1.win w).flush ⟨n, hn'⟩ = false := by
      rw [← Bool.not_eq_true, h1.flush]; show ¬ n % 88 = 87; omega
    rw [(dat1 V c).before_of_pos w ⟨n + 1, hn⟩ (Nat.succ_ne_zero n) (h1.fetch _) d]
    show (if (cfg1.win w).flush ⟨n, _⟩ then d else (dat1 V c).left w ⟨n, _⟩ d) = val n _
    rw [hfl, if_neg Bool.false_ne_true]
    unfold Dat.left
    by_cases h3 : n % 11 = 10
    · have hi : cfg1.idle w (cfg1.grid.coords ⟨n, hn'⟩) = false := by
        rw [← Bool.not_eq_true]; exact fun hh => (h1.idle ⟨n, hn'⟩).mp hh h3
      rw [hi]
      exact (hk _ _).trans (hafter ⟨n, hn'⟩)
    · have hi : cfg1.idle w (cfg1.grid.coords ⟨n, hn'⟩) = true := (h1.idle ⟨n, hn'⟩).mpr h3
      rw [hi]
      show (dat1 V c).before w ⟨n, _⟩ d = _
      rw [before_one c w h1 hk val hval hafter n hn' (by omega) d]
      obtain ⟨k, rfl⟩ : ∃ k, n = k + 1 := ⟨n - 1, by omega⟩
      exact (hval k hn' _ h3).symm

theorem leaves_idle (c : Dev nD) (w : Fin cfg1.W) (h1 : OneBlock w) (t : Fin cfg1.N) (h : ¬ t.val % 11 = 10) :
    (dat1 V c).leavesExact w t = iprop(∃ d, owns (c : Thread nD τ) ((cfg1.win w).stage (cfg1.slots t w)) fullShare ((dat1 V c).before w t d)) :=
  (dat1 V c).leavesExact_idle w t ((h1.idle t).mpr h) (by rw [← Bool.not_eq_true, h1.flush]; omega)

theorem leaves_live (c : Dev nD) (w : Fin cfg1.W) (h1 : OneBlock w) (t : Fin cfg1.N) (h : t.val % 11 = 10) :
    (dat1 V c).leavesExact w t = owns (c : Thread nD τ) ((cfg1.win w).stage (cfg1.slots t w)) fullShare ((dat1 V c).after w t) := by
  have hi : cfg1.idle w (cfg1.grid.coords t) = false := by
    rw [← Bool.not_eq_true]; exact fun hh => (h1.idle t).mp hh h
  unfold Dat.leavesExact; rw [hi]

/-! ## The body at any point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (dat1 V c).leavesExact 6 t ∗ (dat1 V c).leavesExact 7 t)

theorem Phi_rest (c : Dev nD) (t : Fin cfg1.N) (h : t.val % 11 = 0) : (dat1 V c).Φ t.castSucc = Inv V c (AnyA c) (dAt V c t.val (Nat.le_of_lt t.isLt)) (eAt V c t.val (Nat.le_of_lt t.isLt)) := by
  rw [PhiS_castSucc]; exact dif_pos h
theorem Phi_busy (c : Dev nD) (t : Fin cfg1.N) (h : ¬ t.val % 11 = 0) :
    (dat1 V c).Φ t.castSucc = Inv V c (whole c accM (accAt V c (t.val - 1) (lt_of_le_of_lt (Nat.sub_le _ _) t.isLt))) (dAt V c t.val (Nat.le_of_lt t.isLt)) (eAt V c t.val (Nat.le_of_lt t.isLt)) := by
  rw [PhiS_castSucc]; exact dif_neg h
theorem Phi_busy' (c : Dev nD) (t : Fin cfg1.N) (h : ¬ t.val % 11 = 10) :
    (dat1 V c).Φ t.succ = Inv V c (whole c accM (accAt V c t.val t.isLt)) (dAt V c t.val (Nat.le_of_lt t.isLt)) (eAt V c t.val (Nat.le_of_lt t.isLt)) := by
  refine (show (dat1 V c).Φ t.succ = PhiS V c (t.val + 1) t.isLt from rfl).trans ?_
  refine (dif_neg (by omega)).trans ?_
  exact congrArg₂ (Inv V c (whole c accM (accAt V c t.val t.isLt))) (if_neg h) (if_neg h)
theorem Phi_rest' (c : Dev nD) (t : Fin cfg1.N) (h : t.val % 11 = 10) :
    (dat1 V c).Φ t.succ = Inv V c (AnyA c) (Dma.putRows (1024 * (t.val / 11)) (dxR V c t) (dAt V c t.val (Nat.le_of_lt t.isLt))) (Dma.putRows (1024 * (t.val / 11)) (dmR V c t) (eAt V c t.val (Nat.le_of_lt t.isLt))) := by
  refine (show (dat1 V c).Φ t.succ = PhiS V c (t.val + 1) t.isLt from rfl).trans ?_
  refine (dif_pos (by omega)).trans ?_
  exact congrArg₂ (Inv V c (AnyA c)) (if_pos h) (if_pos h)

theorem last_any (c : Dev nD) (t : Fin cfg1.N) (h : t.val % 11 = 10) : Last (F := F) c (grid1.coords t) (1024 * (t.val / 11)) (row_le t.val t.isLt) := by
  obtain ⟨el, e0, e1, e2, e3⟩ := off_eq t
  obtain ⟨f5, f6, f7, f8⟩ := first_iff t
  refine last_point c _ _ _ ((condA_iff t).mpr h) (fun hh => by have := (cond2_iff t).mp hh; omega) ((cond3_iff t).mpr (by omega)) ((condF_iff t).mpr h) ?_ el e0 e1 e2 e3
  by_cases h4 : t.val < 11
  · exact .inl ⟨f5.mpr h4, fun hh => f6.mp hh h4, f7.mpr h4, fun hh => f8.mp hh h4⟩
  · exact .inr ⟨fun hh => h4 (f5.mp hh), f6.mpr h4, fun hh => h4 (f7.mp hh), f8.mpr h4⟩

/-- What the last point leaves for a gain's gradient, whatever its buffer held before the first row block. -/
theorem sum_last (P : Fin cfg1.N → (k : ℕ) → k < 16 → Vec F S1x2048 .f32) (z : Vec F S1x2048 .f32) (t : Fin cfg1.N) (h : t.val % 11 = 10) (prev : Vec F S1x2048 .f32)
    (hp : 11 ≤ t.val → prev = sumAt P z (t.val - 1) (lt_of_le_of_lt (Nat.sub_le _ _) t.isLt)) :
    gainA (P t) (gainS (P t) (grid1.coords t) prev) 15 (by decide) = sumAt P z t.val t.isLt := by
  obtain ⟨n, hn⟩ := t
  obtain ⟨k, rfl⟩ : ∃ k, n = k + 1 := ⟨n - 1, by dsimp only at h; omega⟩
  refine Eq.trans ?_ (if_pos h).symm
  by_cases h4 : k + 1 < 11
  · have h5 : k1_cond5 (grid1.coords ⟨k + 1, hn⟩) = 1#1 := (first_iff ⟨k + 1, hn⟩).1.mpr h4
    unfold gainS
    rw [if_pos h5, if_pos h5]
  · rw [hp (by show 11 ≤ k + 1; omega)]; rfl

theorem gain3_const (c : Dev nD) (t u : Fin cfg1.N) : gain3 V c t = gain3 V c u := rfl

theorem s3_last (c : Dev nD) (t : Fin cfg1.N) (h : t.val % 11 = 10) (d) : gainA (piece3 V c t) (gainS (piece3 V c t) (grid1.coords t) ((dat1 V c).before 6 t d)) 15 (by decide) = s3At V c t.val t.isLt :=
  sum_last (piece3 V c) _ t h _ fun h4 => before_one V c 6 one6 (fun _ _ => rfl) (s3At V c) (fun n hn hn' h => if_neg h) (after1_6 V c) t.val t.isLt h4 d
theorem s2_last (c : Dev nD) (t : Fin cfg1.N) (h : t.val % 11 = 10) (d) : gainA (piece2 V c t) (gainS (piece2 V c t) (grid1.coords t) ((dat1 V c).before 7 t d)) 15 (by decide) = s2At V c t.val t.isLt :=
  sum_last (piece2 V c) _ t h _ fun h4 => before_one V c 7 one7 (fun _ _ => rfl) (s2At V c) (fun n hn hn' h => if_neg h) (after1_7 V c) t.val t.isLt h4 d

/-- A point before the last of its row block: it changes the accumulator only. -/
theorem sound_early (c : Dev nD) (t : Fin cfg1.N) (h3 : ¬ t.val % 11 = 10) (A : sProp 𝕄)
    (hA : ∀ W K, iprop(owns (c : Thread nD τ) (st1_0 t) fullShare (dgB V c t) ∗ owns (c : Thread nD τ) (st1_1 t) fullShare (wgB V c t) ∗ owns (c : Thread nD τ) (st1_2 t) fullShare (duB V c t) ∗ owns (c : Thread nD τ) (st1_3 t) fullShare (wuB V c t) ∗ A
        ∗ owes (c : Thread nD τ) 0 W ∗ (iprop(owns (c : Thread nD τ) (st1_0 t) fullShare (dgB V c t) ∗ owns (c : Thread nD τ) (st1_1 t) fullShare (wgB V c t) ∗ owns (c : Thread nD τ) (st1_2 t) fullShare (duB V c t) ∗ owns (c : Thread nD τ) (st1_3 t) fullShare (wuB V c t)
          ∗ whole c accM (accAt V c t.val t.isLt) ∗ owes (c : Thread nD τ) 0 W) -∗ K ⟨⟩))
      ⊢ wp frame (wpE (defs₀ (F := F)) Variants.none c none) Set.univ (bodyAt1 t) K)
    (hΦ : (dat1 V c).Φ t.castSucc = Inv V c A (dAt V c t.val (Nat.le_of_lt t.isLt)) (eAt V c t.val (Nat.le_of_lt t.isLt))) :
    bodyPre1 V c t ⊢ wp frame (wpE (defs₀ (F := F)) Variants.none c none) Set.univ (bodyAt1 t) (fun _ => bodyPost1 V c t) := by
  unfold bodyPre1 bodyPost1
  simp only [before1_0, before1_1, before1_2, before1_3, before1_4, before1_5]
  rw [after1_0, after1_1, after1_2, after1_3, after1_4, after1_5]
  unfold Dat.owesAt Pipeline.owesWithin
  rw [show (dat1 V c).owed t.castSucc = 0 from rfl, show (dat1 V c).owed t.succ = 0 from rfl]
  rw [leaves_idle V c 6 one6 t h3, leaves_idle V c 7 one7 t h3, Phi_busy' V c t h3, hΦ]
  unfold Inv
  iintro ⟨⟨⟨Ha, HR⟩, HI⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (hA W _)
  iframe H0 H1 H2 H3 Ha HW
  iintro ⟨H0, H1, H2, H3, Ha, HW⟩
  isplitl [Ha HR HI]
  · isplitl [Ha HR]
    · iframe Ha HR
    iexact HI
  isplitl [HW]
  · iexists W; isplitr; · ipureintro; exact fun _ _ => Or.inl trivial
    iexact HW
  iframe H0 H1 H2 H3 H4 H5
  isplitl [H6]; · iexists d6; iexact H6
  iexists d7; iexact H7

set_option maxHeartbeats 1600000 in
theorem sound_late (c : Dev nD) (t : Fin cfg1.N) (h3 : t.val % 11 = 10) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [after1_0, after1_1, after1_2, after1_3, after1_4, after1_5]
  unfold Dat.owesAt Pipeline.owesWithin
  rw [show (dat1 V c).owed t.castSucc = 0 from rfl, show (dat1 V c).owed t.succ = 0 from rfl]
  rw [leaves_live V c 6 one6 t h3, leaves_live V c 7 one7 t h3, after1_6, after1_7, Phi_rest' V c t h3, Phi_busy V c t (by omega)]
  unfold Inv
  iintro ⟨⟨⟨Ha, ⟨%fx, Hx⟩, ⟨%ft, Ht⟩, ⟨%fm, Hm⟩, ⟨%fd, Hd⟩, ⟨%fe, He⟩⟩, Hp, ⟨Hq25, Hq26, Hq27, Hq28, Hq29, Hq30, Hq31, Hq32, Hq33, Hq34⟩, ⟨HX, HT, HM⟩, ⟨HD, HE⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (last_any c t h3 _ _ _ _ _ _ _ _ _ _ _ _ _ _ _ _ (dgB V c t) (wgB V c t) (duB V c t) (wuB V c t) (gain3 V c t) (gain2 V c t) ((dat1 V c).before 6 t d6) ((dat1 V c).before 7 t d7) (accAt V c (t.val - 1) (lt_of_le_of_lt (Nat.sub_le _ _) t.isLt))
    fx ft fm fd fe (xB V c) (oB V c) (mB V c) (dAt V c t.val (Nat.le_of_lt t.isLt)) (eAt V c t.val (Nat.le_of_lt t.isLt)) W _)
  rw [← accAt_next V c t (by omega), ← s3_last V c t h3 d6, ← s2_last V c t h3 d7]
  iframe H0 H1 H2 H3 H4 H5 H6 H7 Ha Hx Ht Hm Hd He HX HT HM HD HE Hq25 Hq26 Hq27 Hq28 Hq29 Hq30 Hq31 Hq32 Hq33 Hq34 HW
  iintro ⟨H0, H1, H2, H3, H4, H5, H6, H7, HS, HI, HO, Hq, ⟨%W', HW'⟩⟩
  isplitl [HS Hp Hq HI HO]
  · iframe HS Hp Hq HI
    iexact HO
  isplitl [HW']
  · iexists W'; isplitr; · ipureintro; exact fun _ _ => Or.inl trivial
    iexact HW'
  iframe H0 H1 H2 H3 H4 H5 H6 H7

theorem sound_body1 (c : Dev nD) (t : Fin cfg1.N) :
    bodyPre1 V c t ⊢ wp frame (wpE (defs₀ (F := F)) Variants.none c none) Set.univ (bodyAt1 t) (fun _ => bodyPost1 V c t) := by
  by_cases h3 : t.val % 11 = 10
  · exact sound_late V c t h3
  by_cases h0 : t.val % 11 = 0
  · refine sound_early V c t h3 (AnyA c) (fun W K => ?_) (Phi_rest V c t h0)
    rw [accAt_first V c t h0]
    iintro ⟨H0, H1, H2, H3, ⟨%fa, Ha⟩, HW, Hk⟩
    iapply (runA c (grid1.coords t) _ _ _ _ _ _ _ _ _ _ _ _ _ _ _ _ (fun hh => h3 ((condA_iff t).mp hh)) ((cond2_iff t).mpr h0) (fun hh => (cond3_iff t).mp hh h0) (fun hh => h3 ((condF_iff t).mp hh))
      (dgB V c t) (wgB V c t) (duB V c t) (wuB V c t) fa W _)
    iframe H0 H1 H2 H3 Ha HW Hk
  · refine sound_early V c t h3 _ (fun W K => ?_) (Phi_busy V c t h0)
    rw [accAt_next V c t h0]
    exact runB c (grid1.coords t) _ _ _ _ _ _ _ _ _ _ _ _ _ _ _ _ (fun hh => h3 ((condA_iff t).mp hh)) (fun hh => h0 ((cond2_iff t).mp hh)) ((cond3_iff t).mpr h0) (fun hh => h3 ((condF_iff t).mp hh))
      (dgB V c t) (wgB V c t) (duB V c t) (wuB V c t) (accAt V c (t.val - 1) (lt_of_le_of_lt (Nat.sub_le _ _) t.isLt)) W K

theorem row1 (t : Fin cfg1.N) : defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, row1]
  exact triple_restated (sound_body1 V c t) rfl .rfl fun _ => .rfl

end

end Cert.Dhf
-- ==== Proof.Dhf.Run.lean ====
module

public import proofs.«01_k».proof.Proof.Dhf.Out
public import proofs.«01_k».proof.Proof.Dhf.Launch
public import proofs.«01_k».proof.Proof.Gen.Kernel5Ideal.Regions
public import Idealize.ShloMosaic.Lib.Pipeline.RegionsLoop
public import Idealize.ShloMosaic.Lib.Pipeline.FrameSuffix
public import Idealize.ShloMosaic.Lib.Pipeline.Kit

@[expose] public section

set_option maxRecDepth 16384

noncomputable section

/-! The two calls run one after the other: the contents of every buffer after each, and that the whole program ends with them. -/

namespace Cert.Dhf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The second call's own semaphores and buffers -/

abbrev osem1 : Fin 10 → SemLoc sig := fun j => (![SemLoc.dma 25, SemLoc.dma 26, SemLoc.dma 27, SemLoc.dma 28, SemLoc.dma 29, SemLoc.dma 30, SemLoc.dma 31, SemLoc.dma 32, SemLoc.dma 33, SemLoc.dma 34] : Fin 10 → SemLoc sig) j
theorem ownSemFacts1 : Pipeline.OwnSemFacts spec1 osem1 := by decide

abbrev sems1 (c : Dev nD) : sProp 𝕄 := Pipeline.ownSems0 (Ix := Unit) (Name := ℕ) (U := Pipeline.UD sig nD τ) (Lvl := ℕ) (Val := Elt F) (τ := τ) osem1 c
abbrev scoped1 (c : Dev nD) : sProp 𝕄 := Pipeline.scopedRest (Ix := Unit) (Name := ℕ) (U := Pipeline.UD sig nD τ) (Lvl := ℕ) (Val := Elt F) spec1 c

theorem sems1_eq (c : Dev nD) : (sems1 c : sProp 𝕄) = iprop(cell c 25 ∗ cell c 26 ∗ cell c 27 ∗ cell c 28 ∗ cell c 29 ∗ cell c 30 ∗ cell c 31 ∗ cell c 32 ∗ cell c 33 ∗ cell c 34) := by
  unfold sems1; rw [Pipeline.ownSems0_eq_of_list c osem1 [0, 1, 2, 3, 4, 5, 6, 7, 8, 9] (by decide) (by decide)]
  simp only [BI.bigSepL_cons_cons, BI.bigSepL_singleton]
  rfl

/-- What the second call's invariant is made of and gives back, its five arrays in main memory aside. -/
theorem inv_in (V : (c : Dev nD) → (b : Ref sig .tc) → Buf (Elt F) ((c : Thread nD τ).loc b)) (c : Dev nD) (G E) :
    iprop((∃ r, prngReg c r) ∗ sems1 c ∗ scoped1 c ∗ (whole c xH (xB V c) ∗ whole c tH (oB V c) ∗ whole c mH (mB V c)) ∗ (whole c dH G ∗ whole c eH E)) ⊢ Inv V c (AnyA c) G E := by
  rw [sems1_eq]; unfold scoped1; rw [scopedRest1_eq]; unfold Inv Idle
  iintro ⟨Hp, Hq, ⟨S0, S1, S2, S3, S4, S5, S6, S7, S8, S9, S10, S11, S12, A0, A1, A2, A3, A4, A5⟩, HI, HO⟩
  isplitl [A0 A1 A2 A3 A4 A5]
  · iframe A0 A1 A2 A3 A4 A5
  isplitl [Hp S0 S1 S2 S3 S4 S5 S6 S7 S8 S9 S10 S11 S12]
  · isplitr [Hp]
    · iframe S0 S1 S2 S3 S4 S5 S6 S7 S8 S9 S10 S11 S12
    iexact Hp
  iframe Hq HI HO
theorem inv_out (V : (c : Dev nD) → (b : Ref sig .tc) → Buf (Elt F) ((c : Thread nD τ).loc b)) (c : Dev nD) (G E) :
    Inv V c (AnyA c) G E ⊢ iprop((∃ r, prngReg c r) ∗ sems1 c ∗ scoped1 c ∗ (whole c xH (xB V c) ∗ whole c tH (oB V c) ∗ whole c mH (mB V c)) ∗ (whole c dH G ∗ whole c eH E)) := by
  rw [sems1_eq]; unfold scoped1; rw [scopedRest1_eq]; unfold Inv Idle
  iintro ⟨⟨A0, A1, A2, A3, A4, A5⟩, ⟨⟨S0, S1, S2, S3, S4, S5, S6, S7, S8, S9, S10, S11, S12⟩, Hp⟩, Hq, HI, HO⟩
  iframe Hp Hq
  isplitr [HI HO]
  · iframe S0 S1 S2 S3 S4 S5 S6 S7 S8 S9 S10 S11 S12 A0 A1 A2 A3 A4 A5
  iframe HI HO

theorem Phi_start (V : (c : Dev nD) → (b : Ref sig .tc) → Buf (Elt F) ((c : Thread nD τ).loc b)) (c : Dev nD) : (dat1 V c).Φ 0 = Inv V c (AnyA c) (V c main_v7_0) (V c main_v7_1) :=
  (show (dat1 V c).Φ 0 = PhiS V c 0 (Nat.zero_le _) from rfl).trans (dif_pos rfl)
theorem Phi_end (V : (c : Dev nD) → (b : Ref sig .tc) → Buf (Elt F) ((c : Thread nD τ).loc b)) (c : Dev nD) :
    (dat1 V c).Φ (Fin.last cfg1.N) = Inv V c (AnyA c) (dAt V c cfg1.N le_rfl) (eAt V c cfg1.N le_rfl) :=
  (show (dat1 V c).Φ (Fin.last cfg1.N) = PhiS V c cfg1.N le_rfl from rfl).trans (dif_pos (by rw [show cfg1.N = 88 from N_1]))

/-! ## The contents of the buffers before and after each call -/

section
variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev B1 : (c : Dev nD) → (b : Ref sig .tc) → Buf (Elt F) ((c : Thread nD τ).loc b) := fun c b => W1 m c b

theorem W1_of (c : Dev nD) (r : Ref sig .tc) (h : r ∉ hostOps0_W) : W1 m c (Proc.devRef .tc r) = W0 m c (Proc.devRef .tc r) :=
  StableHlo.after_of_writes_sub hostOps0 _ hostOps0_writes h

/-- The first call leaves its results, -/
def W2 (c : Dev nD) : Valuation τ sig (Elt F) := Pipeline.withArrays spec0 c (W1 m c) fun w => (dat0 (B1 m) c).arrAt w cfg0.N
abbrev B2 : (c : Dev nD) → (b : Ref sig .tc) → Buf (Elt F) ((c : Thread nD τ).loc b) := fun c b => W2 m c b

theorem W2_arr (c : Dev nD) (w : Fin cfg0.W) : W2 m c (Proc.devRef .tc (Pipeline.arrRef spec0 w)) = (dat0 (B1 m) c).arrAt w cfg0.N := by
  unfold W2; exact Pipeline.withArrays_arr spec0 launch0.win.arr_inj c _ _ w
theorem W2_ne (c : Dev nD) (b : Ref sig .tc) (hb : ∀ w, Pipeline.arrRef spec0 w ≠ b) : W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) : W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (B1 m) c).arrAt_in w (h w rfl) _).trans (A0_eq (B1 m) c w))
  · exact W2_ne m c r fun w e => hw ⟨w, e⟩

/-- and the second its own: two through its windows and two that it writes itself. -/
def W3 (c : Dev nD) : Valuation τ sig (Elt F) :=
  Function.update (Function.update (Pipeline.withArrays spec1 c (W2 m c) fun w => (dat1 (B2 m) c).arrAt w cfg1.N) (Proc.devRef .tc main_v7_0) (dAt (B2 m) c cfg1.N le_rfl))
    (Proc.devRef .tc main_v7_1) (eAt (B2 m) c cfg1.N le_rfl)
abbrev B3 : (c : Dev nD) → (b : Ref sig .tc) → Buf (Elt F) ((c : Thread nD τ).loc b) := fun c b => W3 m c b

theorem W3_d (c : Dev nD) : B3 m c main_v7_0 = dAt (B2 m) c cfg1.N le_rfl :=
  (Function.update_of_ne (by decide) _ _).trans (Function.update_self _ _ _)
theorem W3_e (c : Dev nD) : B3 m c main_v7_1 = eAt (B2 m) c cfg1.N le_rfl := Function.update_self _ _ _
theorem W3_with (c : Dev nD) (b : Ref sig .tc) (h0 : Proc.devRef (τ := τ) .tc b ≠ Proc.devRef .tc main_v7_0) (h1 : Proc.devRef (τ := τ) .tc b ≠ Proc.devRef .tc main_v7_1) :
    W3 m c (Proc.devRef .tc b) = (Pipeline.withArrays spec1 c (W2 m c) fun w => (dat1 (B2 m) c).arrAt w cfg1.N) (Proc.devRef .tc b) :=
  (Function.update_of_ne h1 _ _).trans (Function.update_of_ne h0 _ _)
theorem arr1_ne : ∀ w : Fin 8, Proc.devRef (τ := τ) .tc (Pipeline.arrRef spec1 w) ≠ Proc.devRef .tc main_v7_0 ∧ Proc.devRef (τ := τ) .tc (Pipeline.arrRef spec1 w) ≠ Proc.devRef .tc main_v7_1 := by decide
theorem W3_arr (c : Dev nD) (w : Fin cfg1.W) : W3 m c (Proc.devRef .tc (Pipeline.arrRef spec1 w)) = (dat1 (B2 m) c).arrAt w cfg1.N :=
  (W3_with m c _ (arr1_ne w).1 (arr1_ne w).2).trans (Pipeline.withArrays_arr spec1 launch1.win.arr_inj c _ _ w)
theorem W3_ne (c : Dev nD) (b : Ref sig .tc) (h0 : Proc.devRef (τ := τ) .tc b ≠ Proc.devRef .tc main_v7_0) (h1 : Proc.devRef (τ := τ) .tc b ≠ Proc.devRef .tc main_v7_1)
    (hb : ∀ w, Pipeline.arrRef spec1 w ≠ b) : W3 m c (Proc.devRef .tc b) = W2 m c (Proc.devRef .tc b) :=
  (W3_with m c b h0 h1).trans (Pipeline.withArrays_of_ne spec1 c _ _ b hb)
theorem W3_of (c : Dev nD) (r : Ref sig .tc) (h0 : Proc.devRef (τ := τ) .tc r ≠ Proc.devRef .tc main_v7_0) (h1 : Proc.devRef (τ := τ) .tc r ≠ Proc.devRef .tc main_v7_1)
    (h : ∀ w : Fin cfg1.W, Pipeline.arrRef spec1 w = r → (cfg1.win w).isOut = false) : W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (B2 m) c).arrAt_in w (h w rfl) _).trans (A1_eq (B2 m) c w))
  · exact W3_ne m c r h0 h1 fun w e => hw ⟨w, e⟩

/-- The programs' arguments. -/
abbrev argRefs : List (Ref sig .tc) := [main_arg0, main_arg1, main_arg2, main_arg3, main_arg4, main_arg5, main_arg6, main_arg7, main_arg8, main_arg9]
theorem args_kept : ∀ a ∈ argRefs, (Proc.devRef (τ := τ) .tc a ≠ Proc.devRef .tc main_v7_0 ∧ Proc.devRef (τ := τ) .tc a ≠ Proc.devRef .tc main_v7_1 ∧ a ∉ hostOps0_W)
    ∧ (∀ w : Fin 8, Pipeline.arrRef spec0 w = a → (cfg0.win w).isOut = false) ∧ ∀ w : Fin 8, Pipeline.arrRef spec1 w = a → (cfg1.win w).isOut = false :=
  ListAll.forall_mem_of_all_decide (by decide +kernel)
theorem W2_args (c : Dev nD) (a : Ref sig .tc) (ha : a ∈ argRefs) : W2 m c (Proc.devRef .tc a) = m ((c : Thread nD τ).loc a) :=
  (W2_of m c a (args_kept a ha).2.1).trans (W1_of m c a (args_kept a ha).1.2.2)
theorem W3_args (c : Dev nD) (a : Ref sig .tc) (ha : a ∈ argRefs) : W3 m c (Proc.devRef .tc a) = m ((c : Thread nD τ).loc a) :=
  (W3_of m c a (args_kept a ha).1.1 (args_kept a ha).1.2.1 (args_kept a ha).2.2).trans (W2_args m c a ha)

/-- The buffers that the second call takes through no window, after it. -/
theorem rest3_eq (c : Dev nD) : (Pipeline.unscopedRest (Ix := Unit) (Name := ℕ) (U := Pipeline.UD sig nD τ) (Lvl := ℕ) spec1 c (B3 m c) : sProp 𝕄)
    = iprop((((c : Thread nD τ).loc main_arg0) ↦{fullShare} B2 m c main_arg0) ∗ (((c : Thread nD τ).loc main_arg1) ↦{fullShare} B2 m c main_arg1) ∗ (((c : Thread nD τ).loc main_arg2) ↦{fullShare} B2 m c main_arg2) ∗ (((c : Thread nD τ).loc main_arg5) ↦{fullShare} B2 m c main_arg5) ∗ (((c : Thread nD τ).loc main_arg6) ↦{fullShare} B2 m c main_arg6) ∗ (((c : Thread nD τ).loc main_arg7) ↦{fullShare} B2 m c main_arg7) ∗ (((c : Thread nD τ).loc main_arg8) ↦{fullShare} B2 m c main_arg8) ∗ (((c : Thread nD τ).loc main_arg9) ↦{fullShare} B2 m c main_arg9) ∗ (((c : Thread nD τ).loc main_v0) ↦{fullShare} B2 m c main_v0) ∗ (((c : Thread nD τ).loc main_v1) ↦{fullShare} B2 m c main_v1) ∗ (((c : Thread nD τ).loc main_v6_0) ↦{fullShare} B2 m c main_v6_0) ∗ (((c : Thread nD τ).loc main_v6_1) ↦{fullShare} B2 m c main_v6_1) ∗ (((c : Thread nD τ).loc main_v6_2) ↦{fullShare} B2 m c main_v6_2) ∗ whole c dH (dAt (B2 m) c cfg1.N le_rfl) ∗ whole c eH (eAt (B2 m) c cfg1.N le_rfl)) := by
  have e : ∀ b : Ref sig .tc, Proc.devRef (τ := τ) .tc b ≠ Proc.devRef .tc main_v7_0 → Proc.devRef (τ := τ) .tc b ≠ Proc.devRef .tc main_v7_1 → (∀ w : Fin 8, Pipeline.arrRef spec1 w ≠ b) → B3 m c b = B2 m c b :=
    fun b h0 h1 hb => W3_ne m c b h0 h1 hb
  rw [unscopedRest1_eq, e main_arg0 (by decide) (by decide) (by decide), e main_arg1 (by decide) (by decide) (by decide), e main_arg2 (by decide) (by decide) (by decide), e main_arg5 (by decide) (by decide) (by decide), e main_arg6 (by decide) (by decide) (by decide), e main_arg7 (by decide) (by decide) (by decide), e main_arg8 (by decide) (by decide) (by decide), e main_arg9 (by decide) (by decide) (by decide), e main_v0 (by decide) (by decide) (by decide), e main_v1 (by decide) (by decide) (by decide), e main_v6_0 (by decide) (by decide) (by decide), e main_v6_1 (by decide) (by decide) (by decide), e main_v6_2 (by decide) (by decide) (by decide), W3_d, W3_e]

/-! ## The calls as segments of the program -/

def pdats : (p : Fin 2) → (c : Dev nD) → Dat τ (Elt F) Unit ℕ (Pipeline.UD sig nD τ) ℕ (Pipeline.pin (pcfgs (F := F)) adm p) c
  | ⟨0, _⟩ => fun c => dat0 (B1 m) c
  | ⟨1, _⟩ => fun c => dat1 (B2 m) c
abbrev noVar : Variants := Variants.none
abbrev noLev : GSem nD τ sig → Finset Unit := fun _ => ∅
abbrev zeroLev : GSem nD τ sig → Unit → ℕ := fun _ _ => 0
/-- Beside the buffers: the register, and nothing owed. -/
abbrev Beside (c : Dev nD) : sProp 𝕄 := iprop((∃ r, prngReg c r) ∗ ∃ W, owes (c : Thread nD τ) (0 : CellTallies nD τ sig Unit) W)
abbrev heldAt (W : Dev nD → Valuation τ sig (Elt F)) (c : Dev nD) : sProp 𝕄 := StableHlo.held (c : Thread nD τ) (Pipeline.ucRefs τ sig) (W c)

abbrev host0 : Pipeline.HostSeg (Name := ℕ) (U := Pipeline.UD sig nD τ) (pcfgs (F := F)) defs₀ noVar noLev zeroLev :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Beside

set_option backward.isDefEq.respectTransparency.types false in
def region0 : Pipeline.RegionSeg (pcfgs (F := F)) adm (pdats m) () defs₀ noVar noLev zeroLev 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ noLev zeroLev 0 fun _ _ => rfl
  pre c := iprop(heldAt (W1 m) c ∗ Beside c)
  post c := iprop(heldAt (W2 m) c ∗ Beside c)
  X c := iprop(∃ r, prngReg c r)
  Y c := iprop(∃ r, prngReg c r)
  Z c := Pipeline.unscopedRest (Ix := Unit) (Name := ℕ) (U := Pipeline.UD sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) (A0_eq (B1 m) c)
    rw [Pipeline.unscopedBufs_held] at hsplit
    iintro ⟨⟨Hub, Hp, ⟨%W, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ _ => Or.inl trivial
      iexact HO
    iframe Hp Hrest
  hin c := by
    rw [show (pdats m 0 c).Φ 0 = Pipeline.ΦA spec0 c from rfl]; unfold Pipeline.ΦA
    iintro ⟨Hp, -, Hr⟩
    iframe Hr Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (B1 m c) (B2 m c) ((pdats m 0 c).arrAt · cfg0.N) (fun w => (W2_arr m c w).symm) (fun b hb => W2_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def region1 : Pipeline.RegionSeg (pcfgs (F := F)) adm (pdats m) () defs₀ noVar noLev zeroLev 1 where
  win := launch1.win.to₀
  block_pos := launch1.block_pos
  stage_whole := launch1.stage_whole
  K := Fin 10
  osem := osem1
  ho := ownSemFacts1
  hbody c := (body_obligation1 (B2 m) c).loose
  hwaits := Pipeline.hwaits_of_owed_zero _ _ _ _ noLev zeroLev 1 fun _ _ => rfl
  pre c := iprop(heldAt (W2 m) c ∗ Beside c)
  post c := iprop((heldAt (W3 m) c ∗ ∃ r, prngReg c r) ∗ ∃ W, owes (c : Thread nD τ) (0 : CellTallies nD τ sig Unit) W)
  X c := iprop((∃ r, prngReg c r) ∗ sems1 c ∗ (whole c xH (xB (B2 m) c) ∗ whole c tH (oB (B2 m) c) ∗ whole c mH (mB (B2 m) c)) ∗ (whole c dH (B2 m c main_v7_0) ∗ whole c eH (B2 m c main_v7_1)))
  Y c := iprop((∃ r, prngReg c r) ∗ (whole c xH (xB (B2 m) c) ∗ whole c tH (oB (B2 m) c) ∗ whole c mH (mB (B2 m) c)) ∗ (whole c dH (dAt (B2 m) c cfg1.N le_rfl) ∗ whole c eH (eAt (B2 m) c cfg1.N le_rfl)))
  Z c := iprop((((c : Thread nD τ).loc main_arg0) ↦{fullShare} B2 m c main_arg0) ∗ (((c : Thread nD τ).loc main_arg1) ↦{fullShare} B2 m c main_arg1) ∗ (((c : Thread nD τ).loc main_arg2) ↦{fullShare} B2 m c main_arg2) ∗ (((c : Thread nD τ).loc main_arg5) ↦{fullShare} B2 m c main_arg5) ∗ (((c : Thread nD τ).loc main_arg6) ↦{fullShare} B2 m c main_arg6) ∗ (((c : Thread nD τ).loc main_arg7) ↦{fullShare} B2 m c main_arg7) ∗ (((c : Thread nD τ).loc main_arg8) ↦{fullShare} B2 m c main_arg8) ∗ (((c : Thread nD τ).loc main_v0) ↦{fullShare} B2 m c main_v0) ∗ (((c : Thread nD τ).loc main_v1) ↦{fullShare} B2 m c main_v1) ∗ (((c : Thread nD τ).loc main_v6_2) ↦{fullShare} B2 m c main_v6_2))
  hentry c := by
    have hsplit := Pipeline.arrays_of_unscopedBufs (p := 1) (pcfgs (F := F)) adm (pdats m) launch1.win launch1.arr_whole c
      ((pdats m 1 c).share_full fun _ => rfl) (B2 m c) (A1_eq (B2 m) c)
    rw [Pipeline.unscopedBufs_held, show Pipeline.unscopedRest (pcfgs (F := F) 1).spec c (B2 m c) = Pipeline.unscopedRest spec1 c (B2 m c) from rfl, unscopedRest1_eq] at hsplit
    iintro ⟨⟨Hub, Hp, ⟨%W, HO⟩⟩, Hq, -⟩
    ihave H := hsplit $$ Hub
    icases H with ⟨Ha, Rarg0, Rarg1, Rarg2, Rarg5, Rarg6, Rarg7, Rarg8, Rarg9, Rv0, Rv1, Rv6_0, Rv6_1, Rv6_2, Rv7_0, Rv7_1⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ _ => Or.inl trivial
      iexact HO
    isplitr [Rarg0 Rarg1 Rarg2 Rarg5 Rarg6 Rarg7 Rarg8 Rv0 Rv1 Rv6_2]
    · iframe Hp Hq
      isplitr [Rv7_0 Rv7_1]
      · iframe Rv6_1 Rarg9 Rv6_0
      iframe Rv7_0 Rv7_1
    iframe Rarg0 Rarg1 Rarg2 Rarg5 Rarg6 Rarg7 Rarg8 Rv0 Rv1 Rv6_2
  hin c := by
    rw [show (pdats m 1 c).Φ 0 = _ from Phi_start (B2 m) c]
    iintro ⟨⟨Hp, Hq, HI, HO⟩, -, Hr⟩
    iapply (inv_in (B2 m) c _ _)
    iframe Hp Hq Hr HI HO
  hout c := by
    rw [show (pdats m 1 c).Φ (Fin.last _) = _ from Phi_end (B2 m) c]
    iintro H
    ihave H' := (inv_out (B2 m) c _ _) $$ H
    icases H' with ⟨Hp, Hq, Hr, HI, HO⟩
    isplitl [Hp HI HO]
    · iframe Hp HI HO
    iframe Hq Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (B3 m c) (B3 m c) ((pdats m 1 c).arrAt · cfg1.N) (fun w => (W3_arr m c w).symm) (fun _ _ => rfl)
    rw [Pipeline.unscopedBufs_held, show Pipeline.unscopedRest (Pipeline.pin (pcfgs (F := F)) adm 1).spec c (B3 m c) = Pipeline.unscopedRest spec1 c (B3 m c) from rfl, rest3_eq] at hjoin
    iintro ⟨Ha, HO, ⟨Hp, ⟨Rv6_1, Rarg9, Rv6_0⟩, ⟨Rv7_0, Rv7_1⟩⟩, Rarg0, Rarg1, Rarg2, Rarg5, Rarg6, Rarg7, Rarg8, Rv0, Rv1, Rv6_2⟩
    imodintro
    isplitr [HO]
    · isplitr [Hp]
      · iapply hjoin
        iframe Ha Rarg0 Rarg1 Rarg2 Rarg5 Rarg6 Rarg7 Rarg8 Rarg9 Rv0 Rv1 Rv6_0 Rv6_1 Rv6_2 Rv7_0 Rv7_1
      iexact Hp
    unfold Pipeline.Dat.owesAt Pipeline.owesWithin
    icases HO with ⟨%W, -, HO⟩; iexists W; iexact HO

/-! ## The run -/

abbrev items : List (Pipeline.Seg (pcfgs (F := F)) adm (pdats m) () defs₀ noVar noLev zeroLev) := [.host (host0 m), .region (region0 m), .region (region1 m)]
theorem main_run (c : Dev nD) : main (F := F) c = Pipeline.Seg.run (items m) := (main_chain c).trans (by chain_rfl)

set_option backward.isDefEq.respectTransparency.types false in
/-- Every buffer of every core ends at its contents after the second call, and every counter at zero. -/
theorem run : θ_run defs (onTc (τ := τ) (main (F := F))) ⟨m, fun _ => 0, ρ⟩
    (fun r => (∀ c : Dev nD, ∀ b ∈ Pipeline.ucRefs τ sig, r.2.mem (((c : Thread nD τ)).1, b) = W3 m c b) ∧ r.2.sem = fun _ => 0) :=
  Pipeline.θ_run_regions_kit_sems (pcfgs (F := F)) adm (pdats m) () cellOf_inj embL defs₀ noVar noLev zeroLev m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(heldAt (W0 m) c ∗ Beside c)) (Tₙ := fun c => iprop(heldAt (W3 m) c ∗ ∃ r, prngReg c r))
    (hch := ⟨fun _ => .rfl, fun _ => .rfl, fun _ => .rfl, fun _ => .rfl⟩)
    (hinit := by
      refine Pipeline.initEach noLev zeroLev fun c => ?_
      rw [show unscopedBufs c (fun b => m ((c : Thread nD τ).loc b)) = heldAt (W0 m) c from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold heldAt StableHlo.held
      imodintro
      iapply (pointsTo_read_all (Pipeline.ucRefs τ sig) (fun b => (((c : Thread nD τ)).1, b)) (W3 m c) s')
      isplitl [Hh] <;> iassumption)
    (hQ := fun s h hz => ⟨h, funext fun g => hz g (.inr (regions_no_unscoped g.2))⟩)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem args_unscoped : ∀ a ∈ argRefs, ¬ (Proc.devRef .tc a : DevRef τ sig).isScoped := by decide

/-- The arguments end as launched. -/
theorem args_end {s : MemSt nD τ sig (Elt F)} (h : ∀ c : Dev nD, ∀ b ∈ Pipeline.ucRefs τ sig, s.mem (((c : Thread nD τ)).1, b) = W3 m c b) (c : Dev nD) (a : Ref sig .tc) (ha : a ∈ argRefs) :
    s.mem ((c : Thread nD τ).loc a) = m ((c : Thread nD τ).loc a) := (h c _ (mem_uc a (args_unscoped a ha))).trans (W3_args m c a ha)

end

end Cert.Dhf
-- ==== Proof.Dhf.Frame.lean ====
module

public import proofs.«01_k».proof.Proof.Dhf.Run
public import proofs.«01_k».proof.Proof.Gen.Kernel5

@[expose] public section

set_option maxRecDepth 16384

noncomputable section

/-! The frames: the arguments end unchanged and every counter ends at zero. -/

namespace Cert.Dhf

open Cert.Kernel5Ideal Cert.Kernel5Ideal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem kept (r : PUnit × MemSt nD τ sig (Elt F)) (h : ∀ c : Dev nD, ∀ b ∈ Pipeline.ucRefs τ sig, r.2.mem (((c : Thread nD τ)).1, b) = W3 m c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  have e := args_end m h c
  ⟨e main_arg0 (by decide), e main_arg1 (by decide), e main_arg2 (by decide), e main_arg3 (by decide), e main_arg4 (by decide), e main_arg5 (by decide), e main_arg6 (by decide), e main_arg7 (by decide), e main_arg8 (by decide), e main_arg9 (by decide)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨kept m r h.1, h.2⟩) (run m ρ)

set_option maxHeartbeats 0 in
/-- The two printings of the kernel have one body table. -/
theorem bodies : Cert.Kernel5.defs₀ (F := F) = defs₀ (F := F) := by
  unfold Cert.Kernel5.defs₀ defs₀
  refine congrArg Defs.onTc (funext fun l => funext fun a => ?_)
  match l, a with
  | 0, (t, s) => rfl
  | 1, (t, s) => rfl
  | ⟨_ + 2, h⟩, _ => exact absurd h (Nat.not_lt.2 (Nat.le_add_left _ _))

theorem tables : Cert.Kernel5.defs (F := F) = defs (F := F) := by
  show Pipeline.defs pcfgs Cert.Kernel5.defs₀ = Pipeline.defs pcfgs defs₀
  rw [bodies]

theorem frame' (m : (ℓ : Loc Cert.Kernel5.nD Cert.Kernel5.τ Cert.Kernel5.sig) → Buf (Elt F) ℓ) (ρ : Dev Cert.Kernel5.nD → PrngReg) :
    θ_run Cert.Kernel5.defs (onTc (τ := Cert.Kernel5.τ) (Cert.Kernel5.main (F := F))) ⟨m, fun _ => 0, ρ⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0) := by
  rw [tables]
  exact frame (F := F) m ρ

end Cert.Dhf
-- ==== Proof.Finite.lean ====
module
public import Idealize.ShloMosaic.Lib.ReduceAll
public import Idealize.ShloMosaic.Lib.Pointwise

@[expose] public section
noncomputable section

/-! # Finite values: what a predicate `jnp.all(jnp.abs(x) < jnp.inf)` says of an array, and how finite values combine -/

namespace Cert.Finite
open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.mul {x y : EReal} : IsReal x → IsReal y → IsReal (x * y) := by
  rintro ⟨a, rfl⟩ ⟨b, rfl⟩
  exact ⟨a * b, (EReal.coe_mul a b).symm⟩
theorem IsReal.add {x y : EReal} : IsReal x → IsReal y → IsReal (x + y) := by
  rintro ⟨a, rfl⟩ ⟨b, rfl⟩
  exact ⟨a + b, (EReal.coe_add a b).symm⟩
theorem IsReal.sub {x y : EReal} : IsReal x → IsReal y → IsReal (x - y) := by
  rintro ⟨a, rfl⟩ ⟨b, rfl⟩
  exact ⟨a - b, (EReal.coe_sub a b).symm⟩
theorem IsReal.neg {x : EReal} : IsReal x → IsReal (-x) := by
  rintro ⟨a, rfl⟩
  exact ⟨-a, (EReal.coe_neg a).symm⟩
theorem IsReal.sum {ι : Type} (s : Finset ι) (f : ι → EReal) (h : ∀ i, IsReal (f i)) : IsReal (∑ i ∈ s, f i) := by
  classical
  induction s using Finset.induction_on with
  | empty => exact .zero
  | insert a s ha ih => rw [Finset.sum_insert ha]; exact (h a).add ih

theorem IsReal.of_ne {x : EReal} (h1 : x ≠ ⊤) (h2 : x ≠ ⊥) : IsReal x := ⟨x.toReal, (EReal.coe_toReal h1 h2).symm⟩
theorem IsReal.ne_top {x : EReal} : IsReal x → x ≠ ⊤ := by rintro ⟨a, rfl⟩; exact EReal.coe_ne_top a
theorem IsReal.ne_bot {x : EReal} : IsReal x → x ≠ ⊥ := by rintro ⟨a, rfl⟩; exact EReal.coe_ne_bot a

/-- The sigmoid of anything is a real number. -/
theorem IsReal.logistic (x : EReal) : IsReal (Ideal.logistic x) := by
  induction x with
  | bot => rw [Ideal.logistic_bot]; exact .zero
  | top => rw [Ideal.logistic_top]; exact .one
  | coe r => rw [Ideal.logistic_coe]; exact .coe _

/-- A real factor distributes over a sum one of whose terms is real. -/
theorem IsReal.mul_add {c s : EReal} (hc : IsReal c) (hs : IsReal s) (b : EReal) : c * (s + b) = c * s + c * b := by
  obtain ⟨c, rfl⟩ := hc
  obtain ⟨s, rfl⟩ := hs
  induction b with
  | coe b => rw [← EReal.coe_add, ← EReal.coe_mul, ← EReal.coe_mul, ← EReal.coe_mul, ← EReal.coe_add, _root_.mul_add]
  | top =>
    rw [EReal.coe_add_top, ← EReal.coe_mul]
    rcases lt_trichotomy c 0 with h | rfl | h
    · rw [EReal.coe_mul_top_of_neg h, EReal.add_bot]
    · simp
    · rw [EReal.coe_mul_top_of_pos h, EReal.coe_add_top]
  | bot =>
    rw [EReal.add_bot, ← EReal.coe_mul]
    rcases lt_trichotomy c 0 with h | rfl | h
    · rw [EReal.coe_mul_bot_of_neg h, EReal.coe_add_top]
    · simp
    · rw [EReal.coe_mul_bot_of_pos h, EReal.add_bot]

/-- Below infinity in absolute value: a real number. -/
theorem IsReal.of_abs_lt {x : EReal} (h : max x (-x) < ⊤) : IsReal x := by
  refine .of_ne (fun e => ?_) fun e => ?_
  · rw [e] at h; exact absurd h (by simp)
  · rw [e] at h; exact absurd h (by simp)

variable {s t u : Shape} {axes : List (Fin s.rank)}

/-- What `jnp.all(jnp.abs(x) < jnp.inf)` being true says: every element of `x` is a real number. -/
theorem isReal_of_all [Subsingleton t.Idx] (x : FVec Ideal s .f32) (y : FVec Ideal s .f32) (init : u.Idx → BitVec 1)
    (h : s.ReducesTo axes t) (hu : 0 < u.numel) (j : t.Idx) (hy : ∀ i, y i = (⊤ : EReal))
    (e : Host.reduce IntOp.andi (cmpf .olt (Host.absf x) y) init h hu j = 1#1) (i : s.Idx) : IsReal (x i) := by
  have e1 : Ideal.cmp .olt (Host.absf x i) (y i) = 1 := Host.reduce_andi_all _ init h hu j e i
  rw [hy] at e1
  exact .of_abs_lt ((Ideal.cmp_olt_eq_one _ _).mp e1)

/-- A conjunction of one-element predicates that is true: both are. -/
theorem andi_split {t : Shape} {a b : IVec t 1} (h : andi a b = fun _ => 1#1) : a = (fun _ => 1#1) ∧ b = fun _ => 1#1 :=
  ⟨funext fun i => (IntOp.andi_eq_one.1 (congrFun h i)).1, funext fun i => (IntOp.andi_eq_one.1 (congrFun h i)).2⟩

end Cert.Finite
-- ==== Proof.Mixers.Reals.lean ====
module
public import proofs.«01_k».proof.Proof.Finite
public import Idealize.ShloMosaic.Lib.Pointwise
public import Idealize.ShloMosaic.Lib.IdealHost
public import Idealize.ShloMosaic.Lib.WordArith
@[expose] public section
/-! The mixers' gradient over the real numbers, and the extended-real arithmetic of real numbers. -/
noncomputable section
namespace Cert.Mixers
open Idealize.ShloMosaic Idealize.ShloMosaic.TcCoe

/-- The norms' epsilon, as the constant's bits have it. -/
def eps : ℝ := 8796093 / 8796093022208

theorem eps_pos : 0 < eps := by unfold eps; norm_num

theorem epsE : Ideal.ofBits FTy.f32 897988541#32 = ((eps : ℝ) : EReal) := by
  simp [Ideal.ofBits, Ideal.ieee, eps, -EReal.coe_mul]; norm_num
theorem c128E : Ideal.ofBits FTy.f32 1124073472#32 = ((128 : ℝ) : EReal) := by
  simp [Ideal.ofBits, Ideal.ieee, -EReal.coe_mul]; norm_num
theorem c256E : Ideal.ofBits FTy.f32 1132462080#32 = ((256 : ℝ) : EReal) := by
  simp [Ideal.ofBits, Ideal.ieee, -EReal.coe_mul]; norm_num
theorem c2E : Ideal.ofBits FTy.f32 1073741824#32 = ((2 : ℝ) : EReal) := by
  simp [Ideal.ofBits, Ideal.ieee, -EReal.coe_mul]; norm_num
theorem c4E : Ideal.ofBits FTy.f32 1082130432#32 = ((4 : ℝ) : EReal) := by
  simp [Ideal.ofBits, Ideal.ieee, -EReal.coe_mul]; norm_num
theorem c8E : Ideal.ofBits FTy.f32 1090519040#32 = ((8 : ℝ) : EReal) := by
  simp [Ideal.ofBits, Ideal.ieee, -EReal.coe_mul]; norm_num
theorem c16E : Ideal.ofBits FTy.f32 1098907648#32 = ((16 : ℝ) : EReal) := by
  simp [Ideal.ofBits, Ideal.ieee, -EReal.coe_mul]; norm_num

theorem sumE {ι : Type} [Fintype ι] (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm
theorem divE (a b : ℝ) (h : b ≠ 0) : Ideal.div (a : EReal) (b : EReal) = ((a / b : ℝ) : EReal) := by
  rw [Ideal.div_coe h, ← EReal.coe_mul, mul_one_div]
theorem div128E (a : ℝ) : Ideal.div (a : EReal) ((128 : ℝ) : EReal) = ((a / 128 : ℝ) : EReal) := divE _ _ (by norm_num)
theorem div256E (a : ℝ) : Ideal.div (a : EReal) ((256 : ℝ) : EReal) = ((a / 256 : ℝ) : EReal) := divE _ _ (by norm_num)

/-- The reciprocal root of a mean of squares with epsilon. -/
def rs {N : ℕ} (x : Fin N → ℝ) : ℝ := (Real.sqrt ((∑ k, x k * x k) / N + eps))⁻¹

theorem ms_pos {N : ℕ} (x : Fin N → ℝ) : 0 < (∑ k, x k * x k) / N + eps :=
  add_pos_of_nonneg_of_pos (div_nonneg (Finset.sum_nonneg fun k _ => mul_self_nonneg _) (Nat.cast_nonneg _)) eps_pos

theorem rs128E (x : Fin 128 → ℝ) : Ideal.rsqrt (((∑ k, x k * x k) / 128 + eps : ℝ) : EReal) = ((rs x : ℝ) : EReal) := by
  have h := ms_pos x
  rw [Ideal.rsqrt_coe, if_neg (not_lt.mpr (by exact_mod_cast h.le)), if_neg (by exact_mod_cast h.ne')]
  rfl
theorem rs256E (x : Fin 256 → ℝ) : Ideal.rsqrt (((∑ k, x k * x k) / 256 + eps : ℝ) : EReal) = ((rs x : ℝ) : EReal) := by
  have h := ms_pos x
  rw [Ideal.rsqrt_coe, if_neg (not_lt.mpr (by exact_mod_cast h.le)), if_neg (by exact_mod_cast h.ne')]
  rfl

/-- A norm's gradient: at the entries `x` with the cotangent `dy`. -/
def nb {N : ℕ} (x dy : Fin N → ℝ) (j : Fin N) : ℝ :=
  rs x * (dy j - x j * rs x * ((∑ k, dy k * (x k * rs x)) / N))

/-- The words of the row's number count it. -/
theorem rowE (n o a : ℕ) (h : 512 * n + o + a + 1 < 2 ^ 31) :
    (FloatOps.sitofp FTy.f32 (IntOp.addi (IntOp.addi (Scalar.addi (Scalar.muli (BitVec.ofNat 32 n) 512#32) (BitVec.ofNat 32 o))
      (BitVec.ofNat 32 a)) 1#32) : Ideal FTy.f32) = (((512 * n + o + a + 1 : ℕ) : ℝ) : EReal) := by
  have e : IntOp.addi (IntOp.addi (Scalar.addi (Scalar.muli (BitVec.ofNat 32 n) 512#32) (BitVec.ofNat 32 o))
      (BitVec.ofNat 32 a)) 1#32 = BitVec.ofNat 32 (512 * n + o + a + 1) := by
    show BitVec.ofNat 32 n * 512#32 + BitVec.ofNat 32 o + BitVec.ofNat 32 a + 1#32 = _
    apply BitVec.eq_of_toNat_eq
    simp only [BitVec.toNat_add, BitVec.toNat_mul, BitVec.toNat_ofNat]
    omega
  rw [e]
  show (((BitVec.ofNat 32 (512 * n + o + a + 1)).toInt : ℝ) : EReal) = _
  rw [WordArith.toInt_ofNat_small _ h]
  simp

theorem minE (a b : ℝ) : min (a : EReal) (b : EReal) = ((min a b : ℝ) : EReal) := by
  rcases le_total a b with h | h
  · rw [min_eq_left h, min_eq_left (by exact_mod_cast h)]
  · rw [min_eq_right h, min_eq_right (by exact_mod_cast h)]
theorem invE (k : ℕ) (w : ℝ) (hw : 0 < w) : Ideal.div (1 : EReal) (((min ((k + 1 : ℕ) : ℝ) w : ℝ) : EReal)) = ((1 / min ((k + 1 : ℕ) : ℝ) w : ℝ) : EReal) := by
  have : (0 : ℝ) < min ((k + 1 : ℕ) : ℝ) w := lt_min (by exact_mod_cast Nat.succ_pos k) hw
  rw [← EReal.coe_one, divE _ _ this.ne']

section
variable (P D : ℕ → ℕ → ℝ) (W : ℕ → ℕ → ℝ) (M : ℕ → ℕ → ℕ → ℝ) (S : ℕ → ℝ)

/-- The product `C · U`, sixteen rows later: zero before the first row. -/
def cuS (s c : ℕ) : ℝ := if s < 16 then 0 else P (s - 16) (1024 + c) * P (s - 16) (2048 + c)
/-- The values `V`, sixteen rows later: zero before the first row. -/
def vS (s c : ℕ) : ℝ := if s < 16 then 0 else P (s - 16) (3072 + c)
/-- The causal convolution. -/
def conv (t c : ℕ) : ℝ := W 0 c * cuS P (t + 14) c + W 1 c * cuS P (t + 15) c + W 2 c * cuS P (t + 16) c
def ca (t c : ℕ) : ℝ := P t c * conv P W t c
/-- The gradient of the heads' norm. -/
def da (t h : ℕ) (j : Fin 128) : ℝ := nb (fun k : Fin 128 => ca P W t (128 * h + k)) (fun k => D t (128 * h + k)) j
def daC (t c : ℕ) : ℝ := da P D W t (c / 128) ⟨c % 128, Nat.mod_lt _ (by norm_num)⟩
/-- The convolution's gradient. -/
def dconv (t c : ℕ) : ℝ := daC P D W t c * P t c
def dcu (t c : ℕ) : ℝ := W 0 c * dconv P D W (t + 2) c + W 1 c * dconv P D W (t + 1) c + W 2 c * dconv P D W t c
/-- One row's part of the convolution weights' gradient. -/
def dwT (k t c : ℕ) : ℝ := dconv P D W t c * cuS P (t + 14 + k) c
def win (g : ℕ) : ℕ := 2 ^ (g + 1)
def pooled (t g j : ℕ) : ℝ :=
  (∑ k ∈ Finset.range (win g), vS P (t + 16 - k) (256 * g + j)) * (1 / min ((t + 1 : ℕ) : ℝ) (win g : ℝ)) - P t (3072 + 256 * g + j)
def zz (t g : ℕ) (j : Fin 256) : ℝ := ∑ i : Fin 256, pooled P t g i * M g i j
/-- The gradient of the pooled heads' norm. -/
def dz (t g : ℕ) (j : Fin 256) : ℝ := nb (zz P M t g) (fun k : Fin 256 => D t (1024 + 256 * g + k) * S (256 * g + k)) j
def dpo (t g i : ℕ) : ℝ := ∑ k : Fin 256, dz P D M S t g k * M g i k
def dpn (t g i : ℕ) : ℝ := dpo P D M S t g i * (1 / min ((t + 1 : ℕ) : ℝ) (win g : ℝ))
def dv (t g i : ℕ) : ℝ := (∑ k ∈ Finset.range (win g), dpn P D M S (t + k) g i) - dpo P D M S t g i
/-- The gradient of the projection. -/
def dproj (t c : ℕ) : ℝ :=
  if c < 1024 then daC P D W t c * conv P W t c
  else if c < 2048 then dcu P D W t (c - 1024) * P t (1024 + c)
  else if c < 3072 then dcu P D W t (c - 2048) * P t (c - 1024)
  else dv P D M S t ((c - 3072) / 256) ((c - 3072) % 256)
/-- One row's part of the pooling weights' gradient, and of the scale's. -/
def dmT (g i : ℕ) (j : Fin 256) (t : ℕ) : ℝ := pooled P t g i * dz P D M S t g j
def dsT (g : ℕ) (j : Fin 256) (t : ℕ) : ℝ := D t (1024 + 256 * g + j) * (zz P M t g j * rs (zz P M t g))
end
end Cert.Mixers
-- ==== Proof.Mixers.Conv.lean ====
module
public import proofs.«01_k».proof.Proof.Mixers.Reals
public import proofs.«01_k».proof.Proof.Gen.KernelIdeal.Skeleton
public import Idealize.ShloMosaic.Lib.Pipeline.ValueKit
public import Idealize.ShloMosaic.Lib.Pipeline.ReadBack
public import Idealize.ShloMosaic.Lib.Ring
public import Idealize.ShloMosaic.Lib.WholeRead
@[expose] public section
set_option maxRecDepth 16384
/-! The convolution's stores of one tile. -/
noncomputable section
namespace Cert.Mixers
open Idealize.ShloMosaic Idealize.ShloMosaic.TcCoe
open Cert.KernelIdeal Cert.KernelIdeal.Gen

/-- What a store's buffer holds, once its pieces are blocks of `g` and cover it. -/
theorem canon2 {n m : ℕ} {e : EltTy} {L : List (View.Piece (Elt Ideal) ⟨2, ![n, m]⟩ e)} {g : ℕ → ℕ → Elt Ideal e}
    (hL : View.PiecesOf (fun y : (⟨2, ![n, m]⟩ : Shape).Idx => g (y 0).val (y 1).val) L)
    (hc : ∀ y, ∃ p ∈ L, y ∈ p.1.set) (y : (⟨2, ![n, m]⟩ : Shape).Idx) : View.canon L y = g (y 0).val (y 1).val :=
  View.canon_apply_of_pieces (fun y : (⟨2, ![n, m]⟩ : Shape).Idx => g (y 0).val (y 1).val) L (fun p hp => hL.mem p hp) y (hc y)

/-- Four groups' columns, from row `T` on. -/
def Rows4 {r : ℕ} (f : ℕ → ℕ → ℕ → ℝ) (T : ℕ) (q0 q1 q2 q3 : (⟨2, ![r, 256]⟩ : Shape).Idx → EReal) : Prop :=
  (∀ a b, q0 (ix2 a b) = ((f (T + a) 0 b : ℝ) : EReal)) ∧ (∀ a b, q1 (ix2 a b) = ((f (T + a) 1 b : ℝ) : EReal))
    ∧ (∀ a b, q2 (ix2 a b) = ((f (T + a) 2 b : ℝ) : EReal)) ∧ (∀ a b, q3 (ix2 a b) = ((f (T + a) 3 b : ℝ) : EReal))

/-- A piece of a two-axis buffer is a block of `g`, said of rows and columns. -/
theorem piece2 {n m k l o0 o1 : ℕ} (inb) (p : (⟨2, ![k, l]⟩ : Shape).Idx → EReal) (g : ℕ → ℕ → EReal)
    (h : ∀ a b, p (ix2 a b) = g (o0 + a) (o1 + b)) :
    ∀ x : (Rect.unit (s := ⟨2, ![n, m]⟩) ![o0, o1] ![k, l] inb).shape.Idx,
      p x = g (((Rect.unit (s := ⟨2, ![n, m]⟩) ![o0, o1] ![k, l] inb).emb x 0).val)
        (((Rect.unit (s := ⟨2, ![n, m]⟩) ![o0, o1] ![k, l] inb).emb x 1).val) := by
  intro x
  rw [ValueKit.rect_emb_unit_val, ValueKit.rect_emb_unit_val]
  exact (congrArg p (show x = ix2 (x 0) (x 1) from eq_ix2 x)).trans (h _ _)

variable (P D : ℕ → ℕ → ℝ) (W : ℕ → ℕ → ℝ)

theorem daC_off (t o : ℕ) (ho : o % 128 = 0) (b : Fin 128) : daC P D W t (o + b) =
    (rs fun k : Fin 128 => ca P W t (o + k)) *
          (D t (o + b) - (ca P W t (o + b) * rs fun k : Fin 128 => ca P W t (o + k)) *
              ((∑ i : Fin 128, D t (o + i) * (ca P W t (o + i) * rs fun k : Fin 128 => ca P W t (o + k))) / 128)) := by
  obtain ⟨h, rfl⟩ := Nat.dvd_of_mod_eq_zero ho
  have h1 : (128 * h + b.val) / 128 = h := by omega
  have h2 : (128 * h + b.val) % 128 = b.val := by omega
  simp only [daC, h1, h2]
  rfl
theorem dconv_off (t o : ℕ) (ho : o % 128 = 0) (b : Fin 128) : dconv P D W t (o + b) =
    (rs fun k : Fin 128 => ca P W t (o + k)) *
          (D t (o + b) - (ca P W t (o + b) * rs fun k : Fin 128 => ca P W t (o + k)) *
              ((∑ i : Fin 128, D t (o + i) * (ca P W t (o + i) * rs fun k : Fin 128 => ca P W t (o + k))) / 128)) * P t (o + b) := by
  rw [dconv, daC_off P D W t o ho]

theorem daC_zero (t : ℕ) (b : Fin 128) : daC P D W t b =
    (rs fun k : Fin 128 => ca P W t k) *
          (D t b - (ca P W t b * rs fun k : Fin 128 => ca P W t k) *
              ((∑ i : Fin 128, D t i * (ca P W t i * rs fun k : Fin 128 => ca P W t k)) / 128)) := by
  have h := daC_off P D W t 0 rfl b
  simpa only [zero_add] using h

/-- The rows of the projection's gradient `g` from row `T` on, as extended reals. -/
def rowsE (f : ℕ → ℕ → ℝ) (T r c : ℕ) : EReal := ((f (T + r) c : ℝ) : EReal)

/-- The convolution's gradient buffer: the tile's rows, then the sixteen after it. -/
theorem dconv_canon {T : ℕ} {v5 : EReal} {v40 v41 v43 v47 v52 : Vec Ideal S512x1024 .f32} {w0 w1 w2 : Vec Ideal S1x1024 .f32}
    {v329 v330 v332 v336 v341 : Vec Ideal S16x1024 .f32}
    (hb : ∀ a b, v40 (ix2 a b) = ((P (T + a) b : ℝ) : EReal)) (hy : ∀ a b, v41 (ix2 a b) = ((D (T + a) b : ℝ) : EReal))
    (ha : ∀ a b, k0_pay11 (F := Ideal) v40 w0 v43 w1 v47 w2 v52 (ix2 a b) = ((ca P W (T + a) b : ℝ) : EReal))
    (hn : (v5 = 1 ∧ (∀ a b, v329 (ix2 a b) = ((P (T + 512 + a) b : ℝ) : EReal)) ∧ (∀ a b, v330 (ix2 a b) = ((D (T + 512 + a) b : ℝ) : EReal))
        ∧ (∀ a b, k0_pay50 (F := Ideal) v329 w0 v332 w1 v336 w2 v341 (ix2 a b) = ((ca P W (T + 512 + a) b : ℝ) : EReal)))
      ∨ (v5 = 0 ∧ ∀ t c, T + 512 ≤ t → P t c = 0)) (y : S528x1024.Idx) :
    View.canon ([⟨Rect.unit ![512, 896] S16x128.size inb_S528x1024_S16x128_512_896, k0_pay73 (F := Ideal) v5 v329 v330 (k0_pay50 v329 w0 v332 w1 v336 w2 v341) (k0_pay60 (k0_pay59 (k0_pay50 v329 w0 v332 w1 v336 w2 v341)))⟩,
        ⟨Rect.unit ![512, 768] S16x128.size inb_S528x1024_S16x128_512_768, k0_pay72 (F := Ideal) v5 v329 (k0_pay70 v330 (k0_pay50 v329 w0 v332 w1 v336 w2 v341) (k0_pay58 (k0_pay50 v329 w0 v332 w1 v336 w2 v341))) (k0_pay71 (k0_pay58 (k0_pay50 v329 w0 v332 w1 v336 w2 v341)))⟩,
        ⟨Rect.unit ![512, 640] S16x128.size inb_S528x1024_S16x128_512_640, k0_pay69 (F := Ideal) v5 v329 v330 (k0_pay50 v329 w0 v332 w1 v336 w2 v341) (k0_pay57 (k0_pay50 v329 w0 v332 w1 v336 w2 v341))⟩,
        ⟨Rect.unit ![512, 512] S16x128.size inb_S528x1024_S16x128_512_512, k0_pay68 (F := Ideal) v5 v329 (k0_pay56 (k0_pay50 v329 w0 v332 w1 v336 w2 v341)) (k0_pay65 v330) (k0_pay66 (k0_pay50 v329 w0 v332 w1 v336 w2 v341) (k0_pay56 (k0_pay50 v329 w0 v332 w1 v336 w2 v341))) (k0_pay67 v330 (k0_pay50 v329 w0 v332 w1 v336 w2 v341) (k0_pay56 (k0_pay50 v329 w0 v332 w1 v336 w2 v341)))⟩,
        ⟨Rect.unit ![512, 384] S16x128.size inb_S528x1024_S16x128_512_384, k0_pay64 (F := Ideal) v5 v329 v330 (k0_pay50 v329 w0 v332 w1 v336 w2 v341) (k0_pay55 (k0_pay50 v329 w0 v332 w1 v336 w2 v341))⟩,
        ⟨Rect.unit ![512, 256] S16x128.size inb_S528x1024_S16x128_512_256, k0_pay63 (F := Ideal) v5 v329 v330 (k0_pay50 v329 w0 v332 w1 v336 w2 v341) (k0_pay54 (k0_pay53 v329 w0 v332 w1 v336 w2 v341))⟩,
        ⟨Rect.unit ![512, 128] S16x128.size inb_S528x1024_S16x128_512_128, k0_pay62 (F := Ideal) v5 v329 v330 (k0_pay50 v329 w0 v332 w1 v336 w2 v341) (k0_pay52 v329 w0 v332 w1 v336 w2 v341)⟩,
        ⟨Rect.unit ![512, 0] S16x128.size inb_S528x1024_S16x128_512_0, k0_pay61 (F := Ideal) v5 v329 v330 (k0_pay50 v329 w0 v332 w1 v336 w2 v341) (k0_pay51 v329 w0 v332 w1 v336 w2 v341)⟩,
        ⟨Rect.unit ![0, 896] S512x128.size inb_S528x1024_S512x128_0_896, k0_pay48 (F := Ideal) v40 v41 (k0_pay11 v40 w0 v43 w1 v47 w2 v52) (k0_pay21 (k0_pay11 v40 w0 v43 w1 v47 w2 v52))⟩,
        ⟨Rect.unit ![0, 768] S512x128.size inb_S528x1024_S512x128_0_768, k0_pay45 (F := Ideal) v40 (k0_pay20 (k0_pay11 v40 w0 v43 w1 v47 w2 v52)) (k0_pay41 v41) (k0_pay42 (k0_pay11 v40 w0 v43 w1 v47 w2 v52) (k0_pay20 (k0_pay11 v40 w0 v43 w1 v47 w2 v52))) (k0_pay43 v41 (k0_pay11 v40 w0 v43 w1 v47 w2 v52) (k0_pay20 (k0_pay11 v40 w0 v43 w1 v47 w2 v52)))⟩,
        ⟨Rect.unit ![0, 640] S512x128.size inb_S528x1024_S512x128_0_640, k0_pay39 (F := Ideal) v40 v41 (k0_pay11 v40 w0 v43 w1 v47 w2 v52) (k0_pay19 (k0_pay18 (k0_pay11 v40 w0 v43 w1 v47 w2 v52)))⟩,
        ⟨Rect.unit ![0, 512] S512x128.size inb_S528x1024_S512x128_0_512, k0_pay36 (F := Ideal) v40 (k0_pay35 v41 (k0_pay11 v40 w0 v43 w1 v47 w2 v52) (k0_pay17 (k0_pay11 v40 w0 v43 w1 v47 w2 v52)))⟩,
        ⟨Rect.unit ![0, 384] S512x128.size inb_S528x1024_S512x128_0_384, k0_pay33 (F := Ideal) v40 v41 (k0_pay11 v40 w0 v43 w1 v47 w2 v52) (k0_pay16 (k0_pay11 v40 w0 v43 w1 v47 w2 v52))⟩,
        ⟨Rect.unit ![0, 256] S512x128.size inb_S528x1024_S512x128_0_256, k0_pay30 (F := Ideal) (k0_pay29 v40 v41 (k0_pay11 v40 w0 v43 w1 v47 w2 v52) (k0_pay15 (k0_pay11 v40 w0 v43 w1 v47 w2 v52)))⟩,
        ⟨Rect.unit ![0, 128] S512x128.size inb_S528x1024_S512x128_0_128, k0_pay26 (F := Ideal) v40 v41 (k0_pay11 v40 w0 v43 w1 v47 w2 v52) (k0_pay14 (k0_pay11 v40 w0 v43 w1 v47 w2 v52))⟩,
        ⟨Rect.unit ![0, 0] S512x128.size inb_S528x1024_S512x128_0_0, k0_pay23 (F := Ideal) v40 v41 (k0_pay11 v40 w0 v43 w1 v47 w2 v52) (k0_pay13 (k0_pay12 v40 w0 v43 w1 v47 w2 v52))⟩] : List (View.Piece (Elt Ideal) S528x1024 .f32)) y = rowsE (dconv P D W) T (y 0).val (y 1).val := by
  refine canon2 (n := 528) (m := 1024) (e := .f32) (g := rowsE (dconv P D W) T) ?_
    (fun y => View.cover_of_tiledBy _ ![16, 128] (by sl_kernel_rfl) y) y
  refine ⟨?_, ?_, ?_, ?_, ?_, ?_, ?_, ?_, ?_, ?_, ?_, ?_, ?_, ?_, ?_, ?_, trivial⟩
  iterate 8
    refine piece2 (by decide) _ (rowsE (dconv P D W) T) fun a b => ?_
    rcases hn with ⟨rfl, hb', hy', ha'⟩ | ⟨rfl, h0⟩
    · pointwise [k0_pay51, k0_pay52, k0_pay53, k0_pay54, k0_pay55, k0_pay56, k0_pay57, k0_pay58, k0_pay59, k0_pay60, k0_pay61, k0_pay62,
        k0_pay63, k0_pay64, k0_pay65, k0_pay66, k0_pay67, k0_pay68, k0_pay69, k0_pay70, k0_pay71, k0_pay72, k0_pay73]
      simp only [hb', hy', ha', ← EReal.coe_mul, sumE, c128E, epsE, div128E, ← EReal.coe_add, rs128E, ← EReal.coe_sub, rowsE, dconv_off,
        Nat.reduceMod, mul_one, ← add_assoc]
      try simp only [zero_add, dconv, daC_zero]
    · have e : ∀ c, dconv P D W (T + (512 + a.val)) c = 0 := fun c => by rw [dconv, h0 _ _ (by omega), mul_zero]
      simp only [rowsE, e]
      pointwise [k0_pay61, k0_pay62, k0_pay63, k0_pay64, k0_pay68, k0_pay69, k0_pay72, k0_pay73]
      exact mul_zero _
  iterate 8
    refine piece2 (by decide) _ (rowsE (dconv P D W) T) fun a b => ?_
    pointwise [k0_pay12, k0_pay13, k0_pay14, k0_pay15, k0_pay16, k0_pay17, k0_pay18, k0_pay19, k0_pay20, k0_pay21, k0_pay22, k0_pay23, k0_pay25,
      k0_pay26, k0_pay28, k0_pay29, k0_pay30, k0_pay32, k0_pay33, k0_pay35, k0_pay36, k0_pay38, k0_pay39, k0_pay41, k0_pay42, k0_pay43, k0_pay44,
      k0_pay45, k0_pay47, k0_pay48]
    simp only [hb, hy, ha, ← EReal.coe_mul, sumE, c128E, epsE, div128E, ← EReal.coe_add, rs128E, ← EReal.coe_sub, rowsE, dconv_off, Nat.reduceMod,
      mul_one]
    try simp only [zero_add, dconv, daC_zero]
end Cert.Mixers
-- ==== Proof.Mixers.Tile.lean ====
module
public import proofs.«01_k».proof.Proof.Mixers.Conv
public import Idealize.ShloMosaic.Lib.Ring
public import Idealize.ShloMosaic.Lib.WholeRead
@[expose] public section
set_option maxRecDepth 16384
/-! The loads of one tile, and the convolution's results. -/
noncomputable section
namespace Cert.Mixers
open Idealize.ShloMosaic Idealize.ShloMosaic.TcCoe
open Cert.KernelIdeal Cert.KernelIdeal.Gen

variable {sg : RefSig} {κ : Kind} {sp : Space}

/-- A load of a box of such a buffer. -/
theorem load2 {n m k l o0 o1 : ℕ} {e : EltTy} (w : View sg κ sp ⟨2, ![n, m]⟩ e) (L : List (View.Piece (Elt Ideal) ⟨2, ![n, m]⟩ e))
    (g : ℕ → ℕ → Elt Ideal e) (h : ∀ y, View.canon L y = g (y 0).val (y 1).val) (inb) (a : Fin k) (b : Fin l) :
    View.readCov w L (Rect.unit (s := ⟨2, ![n, m]⟩) ![o0, o1] ![k, l] inb).toLoadRect (ix2 a b) = g (o0 + a) (o1 + b) := by
  rw [View.readCov_eq_canon']
  show View.canon L _ = _
  rw [h]
  congr 1 <;> exact Rect.idx_unit_val _ _ _ _ _

/-- A load of a box of a window's block. -/
theorem loadIn2 {n m k l o0 o1 : ℕ} {e : EltTy} {w : Memref sg κ sp ⟨2, ![n, m]⟩ e} (hw : w.IsWhole) (x : Vec Ideal ⟨2, ![n, m]⟩ e)
    (g : ℕ → ℕ → Elt Ideal e) (h : ∀ a b, x (ix2 a b) = g a b) (inb) (a : Fin k) (b : Fin l) :
    View.readAt (Elt Ideal) w.view (Rect.unit (s := ⟨2, ![n, m]⟩) ![o0, o1] ![k, l] inb).toLoadRect (hw.unread x) (ix2 a b) = g (o0 + a) (o1 + b) := by
  rw [hw.readAt_unread]
  refine ((congrArg x (eq_ix2 _)).trans (h _ _)).trans ?_
  congr 1 <;> exact Rect.idx_unit_val _ _ _ _ _

theorem keepPrev {i : grid0.Coords} {n : ℕ} (hi : (i 0).val = n) : k0_pay2 (F := Ideal) i = if n = 0 then 0 else 1 := by
  subst hi
  generalize hn : i 0 = n
  have : k0_pay2 (F := Ideal) i = ((((Scalar.extui (Scalar.cmpi .sgt (BitVec.ofNat 32 n.val) 0#32) : BitVec 32).toInt : ℝ)) : EReal) := by
    rw [← hn]; rfl
  rw [this]
  have h : ∀ n : Fin 16, ((Scalar.extui (Scalar.cmpi .sgt (BitVec.ofNat 32 n.val) 0#32) : BitVec 32).toInt) = if n.val = 0 then 0 else 1 := by
    decide +kernel
  rw [h n]
  split <;> simp
theorem keepNext {i : grid0.Coords} {n : ℕ} (hi : (i 0).val = n) : k0_pay3 (F := Ideal) i = if n < 15 then 1 else 0 := by
  subst hi
  generalize hn : i 0 = n
  have : k0_pay3 (F := Ideal) i = ((((Scalar.extui (Scalar.cmpi .slt (BitVec.ofNat 32 n.val) 15#32) : BitVec 32).toInt : ℝ)) : EReal) := by
    rw [← hn]; rfl
  rw [this]
  have h : ∀ n : Fin 16, ((Scalar.extui (Scalar.cmpi .slt (BitVec.ofNat 32 n.val) 15#32) : BitVec 32).toInt) = if n.val < 15 then 1 else 0 := by
    decide +kernel
  rw [h n]
  split <;> simp

variable (P D : ℕ → ℕ → ℝ) (W : ℕ → ℕ → ℝ)

/-- The buffer of `C · U` from row `T - 16` on; the sixteen rows after the tile are those from `q` on. -/
def cuB (T q r c : ℕ) : EReal :=
  if r < 528 then ((cuS P (T + r) c : ℝ) : EReal) else ((P (q + (r - 528)) (1024 + c) * P (q + (r - 528)) (2048 + c) : ℝ) : EReal)
def vB (T q r c : ℕ) : EReal :=
  if r < 528 then ((vS P (T + r) c : ℝ) : EReal) else ((P (q + (r - 528)) (3072 + c) : ℝ) : EReal)

theorem cuB_lt (T q r c : ℕ) (h : r < 528) : cuB P T q r c = ((cuS P (T + r) c : ℝ) : EReal) := if_pos h
theorem vB_lt (T q r c : ℕ) (h : r < 528) : vB P T q r c = ((vS P (T + r) c : ℝ) : EReal) := if_pos h
theorem cuB_next (T r c : ℕ) : cuB P T (T + 512) r c = ((cuS P (T + r) c : ℝ) : EReal) := by
  unfold cuB
  split_ifs with h
  · rfl
  · rw [cuS, if_neg (by omega), show T + 512 + (r - 528) = T + r - 16 by omega]
theorem vB_next (T r c : ℕ) : vB P T (T + 512) r c = ((vS P (T + r) c : ℝ) : EReal) := by
  unfold vB
  split_ifs with h
  · rfl
  · rw [vS, if_neg (by omega), show T + 512 + (r - 528) = T + r - 16 by omega]

theorem cu_canon {n q : ℕ} {i : grid0.Coords} (hi : (i 0).val = n) {v14 v15 : Vec Ideal S512x1024 .f32} {v6 v7 v20 v21 : Vec Ideal S16x1024 .f32}
    (h6 : ∀ a b, v6 (ix2 a b) = ((P (512 * n - 16 + a) (1024 + b) : ℝ) : EReal))
    (h7 : ∀ a b, v7 (ix2 a b) = ((P (512 * n - 16 + a) (2048 + b) : ℝ) : EReal))
    (h14 : ∀ a b, v14 (ix2 a b) = ((P (512 * n + a) (1024 + b) : ℝ) : EReal))
    (h15 : ∀ a b, v15 (ix2 a b) = ((P (512 * n + a) (2048 + b) : ℝ) : EReal))
    (h20 : ∀ a b, v20 (ix2 a b) = ((P (q + a) (1024 + b) : ℝ) : EReal))
    (h21 : ∀ a b, v21 (ix2 a b) = ((P (q + a) (2048 + b) : ℝ) : EReal)) (y : S544x1024.Idx) :
    View.canon ([⟨Rect.unit ![528, 0] S16x1024.size inb_S544x1024_S16x1024_528_0, k0_pay6 (F := Ideal) v20 v21⟩,
      ⟨Rect.unit ![16, 0] S512x1024.size inb_S544x1024_S512x1024_16_0, k0_pay5 (F := Ideal) v14 v15⟩,
      ⟨Rect.unit ![0, 0] S16x1024.size inb_S544x1024_S16x1024_0_0, k0_pay4 (F := Ideal) i v6 v7⟩] : List (View.Piece (Elt Ideal) S544x1024 .f32)) y
      = cuB P (512 * n) q (y 0).val (y 1).val := by
  refine canon2 (n := 544) (m := 1024) (e := .f32) (g := cuB P (512 * n) q) ?_
    (fun y => View.cover_of_tiledBy _ ![16, 1024] (by sl_kernel_rfl) y) y
  refine ⟨?_, ?_, ?_, trivial⟩
  · refine piece2 (by decide) _ (cuB P _ q) fun a b => ?_
    pointwise [k0_pay6]
    rw [h20, h21, cuB, if_neg (by omega), Nat.add_sub_cancel_left, EReal.coe_mul]
  · refine piece2 (by decide) _ (cuB P _ q) fun a b => ?_
    pointwise [k0_pay5]
    rw [h14, h15, cuB_lt _ _ _ _ _ (by omega), cuS, if_neg (by omega),
      show 512 * n + (16 + a.val) - 16 = 512 * n + a by omega, EReal.coe_mul]
  · refine piece2 (by decide) _ (cuB P _ q) fun a b => ?_
    pointwise [k0_pay4]
    rw [h6, h7, keepPrev hi, cuB_lt _ _ _ _ _ (by omega), cuS]
    by_cases h : n = 0
    · rw [if_pos h, if_pos (by omega), mul_zero]; rfl
    · rw [if_neg h, if_neg (by omega), mul_one, show 512 * n + a.val - 16 = 512 * n - 16 + a by omega, EReal.coe_mul]

theorem v_canon {n q : ℕ} {i : grid0.Coords} (hi : (i 0).val = n) {v32 : Vec Ideal S512x1024 .f32} {v26 v36 : Vec Ideal S16x1024 .f32}
    (h26 : ∀ a b, v26 (ix2 a b) = ((P (512 * n - 16 + a) (3072 + b) : ℝ) : EReal))
    (h32 : ∀ a b, v32 (ix2 a b) = ((P (512 * n + a) (3072 + b) : ℝ) : EReal))
    (h36 : ∀ a b, v36 (ix2 a b) = ((P (q + a) (3072 + b) : ℝ) : EReal)) (y : S544x1024.Idx) :
    View.canon ([⟨Rect.unit ![528, 0] S16x1024.size inb_S544x1024_S16x1024_528_0, k0_pay9 (F := Ideal) v36⟩,
      ⟨Rect.unit ![16, 0] S512x1024.size inb_S544x1024_S512x1024_16_0, k0_pay8 (F := Ideal) v32⟩,
      ⟨Rect.unit ![0, 0] S16x1024.size inb_S544x1024_S16x1024_0_0, k0_pay7 (F := Ideal) i v26⟩] : List (View.Piece (Elt Ideal) S544x1024 .f32)) y
      = vB P (512 * n) q (y 0).val (y 1).val := by
  refine canon2 (n := 544) (m := 1024) (e := .f32) (g := vB P (512 * n) q) ?_
    (fun y => View.cover_of_tiledBy _ ![16, 1024] (by sl_kernel_rfl) y) y
  refine ⟨?_, ?_, ?_, trivial⟩
  · refine piece2 (by decide) _ (vB P _ q) fun a b => ?_
    pointwise [k0_pay9]
    rw [h36, vB, if_neg (by omega), Nat.add_sub_cancel_left]
  · refine piece2 (by decide) _ (vB P _ q) fun a b => ?_
    pointwise [k0_pay8]
    rw [h32, vB_lt _ _ _ _ _ (by omega), vS, if_neg (by omega),
      show 512 * n + (16 + a.val) - 16 = 512 * n + a by omega]
  · refine piece2 (by decide) _ (vB P _ q) fun a b => ?_
    pointwise [k0_pay7]
    rw [h26, keepPrev hi, vB_lt _ _ _ _ _ (by omega), vS]
    by_cases h : n = 0
    · rw [if_pos h, if_pos (by omega), mul_zero]; rfl
    · rw [if_neg h, if_neg (by omega), mul_one, show 512 * n + a.val - 16 = 512 * n - 16 + a by omega]

theorem conv_word {T : ℕ} {v43 v47 v52 : Vec Ideal S512x1024 .f32} {w0 w1 w2 : Vec Ideal S1x1024 .f32}
    (h0 : ∀ a b, w0 (ix2 a b) = ((W (0 + a) (0 + b) : ℝ) : EReal)) (h1 : ∀ a b, w1 (ix2 a b) = ((W (1 + a) (0 + b) : ℝ) : EReal))
    (h2 : ∀ a b, w2 (ix2 a b) = ((W (2 + a) (0 + b) : ℝ) : EReal))
    (h43 : ∀ a b, v43 (ix2 a b) = ((cuS P (T + (14 + a)) (0 + b) : ℝ) : EReal))
    (h47 : ∀ a b, v47 (ix2 a b) = ((cuS P (T + (15 + a)) (0 + b) : ℝ) : EReal))
    (h52 : ∀ a b, v52 (ix2 a b) = ((cuS P (T + (16 + a)) (0 + b) : ℝ) : EReal)) (a b) :
    k0_pay10 (F := Ideal) w0 v43 w1 v47 w2 v52 (ix2 a b) = ((conv P W (T + a) b : ℝ) : EReal) := by
  pointwise [k0_pay10]
  simp only [h0, h1, h2, h43, h47, h52, ← EReal.coe_mul, ← EReal.coe_add, zero_add, add_zero, Fin.val_zero]
  rw [conv, add_right_comm T a 14, add_right_comm T a 15, add_right_comm T a 16]
  simp only [add_assoc]

theorem ca_word {T : ℕ} {v40 v43 v47 v52 : Vec Ideal S512x1024 .f32} {w0 w1 w2 : Vec Ideal S1x1024 .f32}
    (hb : ∀ a b, v40 (ix2 a b) = ((P (T + a) b : ℝ) : EReal))
    (hc : ∀ a b, k0_pay10 (F := Ideal) w0 v43 w1 v47 w2 v52 (ix2 a b) = ((conv P W (T + a) b : ℝ) : EReal)) (a b) :
    k0_pay11 (F := Ideal) v40 w0 v43 w1 v47 w2 v52 (ix2 a b) = ((ca P W (T + a) b : ℝ) : EReal) := by
  show v40 (ix2 a b) * k0_pay10 (F := Ideal) w0 v43 w1 v47 w2 v52 (ix2 a b) = _
  rw [hb, hc, ← EReal.coe_mul]; rfl

theorem ca_next {T : ℕ} {v329 v332 v336 v341 : Vec Ideal S16x1024 .f32} {w0 w1 w2 : Vec Ideal S1x1024 .f32}
    (hb : ∀ a b, v329 (ix2 a b) = ((P (T + 512 + a) b : ℝ) : EReal))
    (h0 : ∀ a b, w0 (ix2 a b) = ((W (0 + a) (0 + b) : ℝ) : EReal)) (h1 : ∀ a b, w1 (ix2 a b) = ((W (1 + a) (0 + b) : ℝ) : EReal))
    (h2 : ∀ a b, w2 (ix2 a b) = ((W (2 + a) (0 + b) : ℝ) : EReal))
    (h43 : ∀ a b, v332 (ix2 a b) = ((cuS P (T + (526 + a)) (0 + b) : ℝ) : EReal))
    (h47 : ∀ a b, v336 (ix2 a b) = ((cuS P (T + (527 + a)) (0 + b) : ℝ) : EReal))
    (h52 : ∀ a b, v341 (ix2 a b) = ((cuS P (T + (528 + a)) (0 + b) : ℝ) : EReal)) (a b) :
    k0_pay50 (F := Ideal) v329 w0 v332 w1 v336 w2 v341 (ix2 a b) = ((ca P W (T + 512 + a) b : ℝ) : EReal) := by
  pointwise [k0_pay50]
  simp only [hb, h0, h1, h2, h43, h47, h52, ← EReal.coe_mul, ← EReal.coe_add, zero_add, add_zero, Fin.val_zero]
  rw [ca, conv, show T + 512 + a.val + 14 = T + (526 + a) by omega, show T + 512 + a.val + 15 = T + (527 + a) by omega,
    show T + 512 + a.val + 16 = T + (528 + a) by omega]

variable (M : ℕ → ℕ → ℕ → ℝ) (S : ℕ → ℝ)

theorem dproj_conv (t c : ℕ) (h : c < 1024) : dproj P D W M S t c = daC P D W t c * conv P W t c := if_pos h
theorem dproj_c (t b : ℕ) (h : b < 1024) : dproj P D W M S t (1024 + b) = dcu P D W t b * P t (2048 + b) := by
  rw [dproj, if_neg (by omega), if_pos (by omega), Nat.add_sub_cancel_left, ← add_assoc]
theorem dproj_u (t b : ℕ) (h : b < 1024) : dproj P D W M S t (2048 + b) = dcu P D W t b * P t (1024 + b) := by
  rw [dproj, if_neg (by omega), if_neg (by omega), if_pos (by omega), Nat.add_sub_cancel_left, show 2048 + b - 1024 = 1024 + b by omega]
theorem dproj_v (t g b : ℕ) (h : b < 256) : dproj P D W M S t (3072 + 256 * g + b) = dv P D M S t g b := by
  rw [dproj, if_neg (by omega), if_neg (by omega), if_neg (by omega)]
  congr 1 <;> omega

/-- One tile's rows of the projection's gradient. -/
theorem dproj_pieces {T : ℕ} {v40 v41 v43 v47 v52 v586 v588 v596 v613 v617 : Vec Ideal S512x1024 .f32} {w0 w1 w2 : Vec Ideal S1x1024 .f32}
    {q0 q1 q2 q3 : Vec Ideal S512x256 .bf16}
    (hb : ∀ a b, v40 (ix2 a b) = ((P (T + a) b : ℝ) : EReal)) (hy : ∀ a b, v41 (ix2 a b) = ((D (T + a) b : ℝ) : EReal))
    (hC : ∀ a b, v617 (ix2 a b) = ((P (T + a) (1024 + b) : ℝ) : EReal)) (hU : ∀ a b, v613 (ix2 a b) = ((P (T + a) (2048 + b) : ℝ) : EReal))
    (h0 : ∀ a b, w0 (ix2 a b) = ((W (0 + a) (0 + b) : ℝ) : EReal)) (h1 : ∀ a b, w1 (ix2 a b) = ((W (1 + a) (0 + b) : ℝ) : EReal))
    (h2 : ∀ a b, w2 (ix2 a b) = ((W (2 + a) (0 + b) : ℝ) : EReal))
    (h5 : (∀ a b, v586 (ix2 a b) = ((dconv P D W (T + (0 + a)) (0 + b) : ℝ) : EReal))
      ∧ (∀ a b, v596 (ix2 a b) = ((dconv P D W (T + (1 + a)) (0 + b) : ℝ) : EReal))
      ∧ (∀ a b, v588 (ix2 a b) = ((dconv P D W (T + (2 + a)) (0 + b) : ℝ) : EReal)))
    (hc : ∀ a b, k0_pay10 (F := Ideal) w0 v43 w1 v47 w2 v52 (ix2 a b) = ((conv P W (T + a) b : ℝ) : EReal))
    (ha : ∀ a b, k0_pay11 (F := Ideal) v40 w0 v43 w1 v47 w2 v52 (ix2 a b) = ((ca P W (T + a) b : ℝ) : EReal))
    (he : Rows4 (r := 512) (dv P D M S) T q0 q1 q2 q3) :
    View.PiecesOf (fun y : S512x4096.Idx => rowsE (dproj P D W M S) T (y 0).val (y 1).val)
      ([⟨Rect.unit ![0, 3840] S512x256.size inb_S512x4096_S512x256_0_3840, q3⟩,
        ⟨Rect.unit ![0, 3584] S512x256.size inb_S512x4096_S512x256_0_3584, q2⟩,
        ⟨Rect.unit ![0, 3328] S512x256.size inb_S512x4096_S512x256_0_3328, q1⟩,
        ⟨Rect.unit ![0, 3072] S512x256.size inb_S512x4096_S512x256_0_3072, q0⟩,
        ⟨Rect.unit ![0, 2048] S512x1024.size inb_S512x4096_S512x1024_0_2048, k0_pay78 (F := Ideal) (k0_pay74 w0 v588) w1 v596 w2 v586 v617⟩,
        ⟨Rect.unit ![0, 1024] S512x1024.size inb_S512x4096_S512x1024_0_1024, k0_pay77 (F := Ideal) (k0_pay74 w0 v588) w1 v596 w2 v586 v613⟩,
        ⟨Rect.unit ![0, 896] S512x128.size inb_S512x4096_S512x128_0_896, k0_pay49 (F := Ideal) v41 (k0_pay10 w0 v43 w1 v47 w2 v52) (k0_pay11 v40 w0 v43 w1 v47 w2 v52) (k0_pay21 (k0_pay11 v40 w0 v43 w1 v47 w2 v52))⟩,
        ⟨Rect.unit ![0, 768] S512x128.size inb_S512x4096_S512x128_0_768, k0_pay46 (F := Ideal) (k0_pay10 w0 v43 w1 v47 w2 v52) (k0_pay20 (k0_pay11 v40 w0 v43 w1 v47 w2 v52)) (k0_pay41 v41) (k0_pay42 (k0_pay11 v40 w0 v43 w1 v47 w2 v52) (k0_pay20 (k0_pay11 v40 w0 v43 w1 v47 w2 v52))) (k0_pay43 v41 (k0_pay11 v40 w0 v43 w1 v47 w2 v52) (k0_pay20 (k0_pay11 v40 w0 v43 w1 v47 w2 v52)))⟩,
        ⟨Rect.unit ![0, 640] S512x128.size inb_S512x4096_S512x128_0_640, k0_pay40 (F := Ideal) v41 (k0_pay10 w0 v43 w1 v47 w2 v52) (k0_pay11 v40 w0 v43 w1 v47 w2 v52) (k0_pay19 (k0_pay18 (k0_pay11 v40 w0 v43 w1 v47 w2 v52)))⟩,
        ⟨Rect.unit ![0, 512] S512x128.size inb_S512x4096_S512x128_0_512, k0_pay37 (F := Ideal) (k0_pay10 w0 v43 w1 v47 w2 v52) (k0_pay35 v41 (k0_pay11 v40 w0 v43 w1 v47 w2 v52) (k0_pay17 (k0_pay11 v40 w0 v43 w1 v47 w2 v52)))⟩,
        ⟨Rect.unit ![0, 384] S512x128.size inb_S512x4096_S512x128_0_384, k0_pay34 (F := Ideal) v41 (k0_pay10 w0 v43 w1 v47 w2 v52) (k0_pay11 v40 w0 v43 w1 v47 w2 v52) (k0_pay16 (k0_pay11 v40 w0 v43 w1 v47 w2 v52))⟩,
        ⟨Rect.unit ![0, 256] S512x128.size inb_S512x4096_S512x128_0_256, k0_pay31 (F := Ideal) (k0_pay10 w0 v43 w1 v47 w2 v52) (k0_pay28 v41 (k0_pay11 v40 w0 v43 w1 v47 w2 v52) (k0_pay15 (k0_pay11 v40 w0 v43 w1 v47 w2 v52)))⟩,
        ⟨Rect.unit ![0, 128] S512x128.size inb_S512x4096_S512x128_0_128, k0_pay27 (F := Ideal) v41 (k0_pay10 w0 v43 w1 v47 w2 v52) (k0_pay11 v40 w0 v43 w1 v47 w2 v52) (k0_pay14 (k0_pay11 v40 w0 v43 w1 v47 w2 v52))⟩,
        ⟨Rect.unit ![0, 0] S512x128.size inb_S512x4096_S512x128_0_0, k0_pay24 (F := Ideal) v41 (k0_pay10 w0 v43 w1 v47 w2 v52) (k0_pay11 v40 w0 v43 w1 v47 w2 v52) (k0_pay13 (k0_pay12 v40 w0 v43 w1 v47 w2 v52))⟩] : List (View.Piece (Elt Ideal) S512x4096 .bf16)) := by
  obtain ⟨h586, h596, h588⟩ := h5
  obtain ⟨e0, e1, e2, e3⟩ := he
  refine ⟨?_, ?_, ?_, ?_, ?_, ?_, ?_, ?_, ?_, ?_, ?_, ?_, ?_, ?_, trivial⟩
  · refine piece2 (by decide) _ (rowsE (dproj P D W M S) T) fun a b => ?_
    refine (e3 a b).trans ?_
    rw [rowsE, zero_add]; exact congrArg _ (dproj_v P D W M S (T + a) 3 b b.isLt).symm
  · refine piece2 (by decide) _ (rowsE (dproj P D W M S) T) fun a b => ?_
    refine (e2 a b).trans ?_
    rw [rowsE, zero_add]; exact congrArg _ (dproj_v P D W M S (T + a) 2 b b.isLt).symm
  · refine piece2 (by decide) _ (rowsE (dproj P D W M S) T) fun a b => ?_
    refine (e1 a b).trans ?_
    rw [rowsE, zero_add]; exact congrArg _ (dproj_v P D W M S (T + a) 1 b b.isLt).symm
  · refine piece2 (by decide) _ (rowsE (dproj P D W M S) T) fun a b => ?_
    refine (e0 a b).trans ?_
    rw [rowsE, zero_add]; exact congrArg _ (dproj_v P D W M S (T + a) 0 b b.isLt).symm
  · refine piece2 (by decide) _ (rowsE (dproj P D W M S) T) fun a b => ?_
    rw [rowsE, dproj_u _ _ _ _ _ _ _ b.isLt, zero_add]
    pointwise [k0_pay78, k0_pay76, k0_pay74]
    simp only [h0, h1, h2, h586, h596, h588, hC, ← EReal.coe_mul, ← EReal.coe_add, zero_add, add_zero, Fin.val_zero, dcu,
      show ∀ k : ℕ, T + (k + a.val) = T + a + k from fun k => by omega]
  · refine piece2 (by decide) _ (rowsE (dproj P D W M S) T) fun a b => ?_
    rw [rowsE, dproj_c _ _ _ _ _ _ _ b.isLt, zero_add]
    pointwise [k0_pay77, k0_pay76, k0_pay74]
    simp only [h0, h1, h2, h586, h596, h588, hU, ← EReal.coe_mul, ← EReal.coe_add, zero_add, add_zero, Fin.val_zero, dcu,
      show ∀ k : ℕ, T + (k + a.val) = T + a + k from fun k => by omega]
  iterate 8
    refine piece2 (by decide) _ (rowsE (dproj P D W M S) T) fun a b => ?_
    rw [rowsE, dproj_conv _ _ _ _ _ _ _ (by omega), zero_add]
    pointwise [k0_pay24, k0_pay27, k0_pay31, k0_pay34, k0_pay37, k0_pay40, k0_pay46, k0_pay49,
      k0_pay12, k0_pay13, k0_pay14, k0_pay15, k0_pay16, k0_pay17, k0_pay18, k0_pay19, k0_pay20, k0_pay21, k0_pay22, k0_pay23, k0_pay25,
      k0_pay26, k0_pay28, k0_pay29, k0_pay30, k0_pay32, k0_pay33, k0_pay35, k0_pay36, k0_pay38, k0_pay39, k0_pay41, k0_pay42, k0_pay43, k0_pay44,
      k0_pay45, k0_pay47, k0_pay48]
    simp only [hc, hy, ha, ← EReal.coe_mul, sumE, c128E, epsE, div128E, ← EReal.coe_add, rs128E, ← EReal.coe_sub, daC_off, Nat.reduceMod,
      mul_one]
    try simp only [zero_add, daC_zero]

/-- One tile's part of the convolution weights' gradient. -/
theorem dconvw_word {T : ℕ} {v586 v43 v47 v52 : Vec Ideal S512x1024 .f32}
    (h586 : ∀ a b, v586 (ix2 a b) = ((dconv P D W (T + (0 + a)) (0 + b) : ℝ) : EReal))
    (h43 : ∀ a b, v43 (ix2 a b) = ((cuS P (T + (14 + a)) (0 + b) : ℝ) : EReal))
    (h47 : ∀ a b, v47 (ix2 a b) = ((cuS P (T + (15 + a)) (0 + b) : ℝ) : EReal))
    (h52 : ∀ a b, v52 (ix2 a b) = ((cuS P (T + (16 + a)) (0 + b) : ℝ) : EReal)) (k b) :
    k0_pay79 (F := Ideal) v586 (k0_pay75 v586 v43) v47 v52 (ix2 k b) = ((∑ a : Fin 512, dwT P D W k (T + a) b : ℝ) : EReal) := by
  pointwise [k0_pay79, k0_pay75]
  simp only [h586, h43, h47, h52, ← EReal.coe_mul, sumE, zero_add]
  have e : ∀ (j : ℕ) (a : Fin 512), T + a.val + 14 + j = T + (14 + j + a) := fun j a => by omega
  simp only [dwT, e]
  obtain ⟨k, hk⟩ := k
  interval_cases k <;> rfl
end Cert.Mixers
-- ==== Proof.Mixers.Pooled.lean ====
module
public import proofs.«01_k».proof.Proof.Mixers.Tile
@[expose] public section
set_option maxRecDepth 16384
/-! The pooled heads of one tile. -/
noncomputable section
namespace Cert.Mixers
open Idealize.ShloMosaic Idealize.ShloMosaic.TcCoe
open Cert.KernelIdeal Cert.KernelIdeal.Gen
variable (P D : ℕ → ℕ → ℝ) (M : ℕ → ℕ → ℕ → ℝ) (S : ℕ → ℝ)

theorem win0 : win 0 = 2 := rfl
theorem win1 : win 1 = 4 := rfl
theorem win2 : win 2 = 8 := rfl
theorem win3 : win 3 = 16 := rfl
theorem oneE : Ideal.ofBits FTy.f32 1065353216#32 = 1 := by
  rw [← EReal.coe_one]; simp [Ideal.ofBits, Ideal.ieee, -EReal.coe_mul]; norm_num

/-- Blocks of 256 columns of the values, each one row above the one before it. -/
def Shifts {r : ℕ} (T o : ℕ) : ℕ → List ((⟨2, ![r, 256]⟩ : Shape).Idx → EReal) → Prop
  | _, [] => True
  | k, v :: l => (∀ a b, v (ix2 a b) = ((vS P (T + (k + a)) (o + b) : ℝ) : EReal)) ∧ Shifts T o (k - 1) l

theorem up (T a : ℕ) {k K : ℕ} (h : k ≤ K) : T + (K + a) - k = T + (K - k + a) := by omega

variable {n : ℕ}

theorem pooled0 (hn : n < 16) {x : Vec Ideal S512x1024 .f32} {v0 v1 : Vec Ideal S512x256 .f32}
    (hx : ∀ a b, x (ix2 a b) = ((P (512 * n + a) (3072 + b) : ℝ) : EReal)) (h : Shifts (r := 512) P (512 * n) 0 16 [v0, v1]) (a b) :
    k0_pay81 (F := Ideal) (BitVec.ofNat 32 n) x v0 v1 (ix2 a b)
      = ((pooled P (512 * n + a) 0 b : ℝ) : EReal) := by
  pointwise [k0_pay81]
  simp only [Shifts, Nat.reduceSub] at h
  simp only [hx, h, ← EReal.coe_add]
  simp only [rowE n 0 a.val (by omega), c2E, minE, oneE, invE _ _ (show (0 : ℝ) < 2 by norm_num), ← EReal.coe_mul, ← EReal.coe_sub]
  simp only [pooled, win0, Nat.reduceMul, add_assoc 3072 _ b.val, show 512 * n + a.val + 16 = 512 * n + (16 + a.val) by omega, Finset.sum_range_succ, Finset.sum_range_zero, zero_add, add_zero, Nat.sub_zero, Nat.cast_ofNat, up, Nat.reduceLeDiff, Nat.reduceSub]

theorem pooled0_next (hn : n < 16) {x : Vec Ideal S16x1024 .f32} {v0 v1 : Vec Ideal S16x256 .f32}
    (hx : ∀ a b, x (ix2 a b) = ((P (512 * n + 512 + a) (3072 + b) : ℝ) : EReal)) (h : Shifts (r := 16) P (512 * n) 0 528 [v0, v1]) (a b) :
    k0_pay140 (F := Ideal) (BitVec.ofNat 32 n) x v0 v1 (ix2 a b)
      = ((pooled P (512 * n + 512 + a) 0 b : ℝ) : EReal) := by
  pointwise [k0_pay140]
  simp only [Shifts, Nat.reduceSub] at h
  simp only [hx, h, ← EReal.coe_add]
  simp only [rowE n 512 a.val (by omega), c2E, minE, oneE, invE _ _ (show (0 : ℝ) < 2 by norm_num), ← EReal.coe_mul, ← EReal.coe_sub]
  simp only [pooled, win0, Nat.reduceMul, add_assoc 3072 _ b.val, show 512 * n + 512 + a.val + 16 = 512 * n + (528 + a.val) by omega, Finset.sum_range_succ, Finset.sum_range_zero, zero_add, add_zero, Nat.sub_zero, Nat.cast_ofNat, up, Nat.reduceLeDiff, Nat.reduceSub]

theorem pooled1 (hn : n < 16) {x : Vec Ideal S512x1024 .f32} {v0 v1 v2 v3 : Vec Ideal S512x256 .f32}
    (hx : ∀ a b, x (ix2 a b) = ((P (512 * n + a) (3072 + b) : ℝ) : EReal)) (h : Shifts (r := 512) P (512 * n) 256 16 [v0, v1, v2, v3]) (a b) :
    k0_pay84 (F := Ideal) x (k0_pay82 v0 v1 v2 v3) (k0_pay83 (BitVec.ofNat 32 n)) (FloatOps.ofBits .f32 1065353216#32) (ix2 a b)
      = ((pooled P (512 * n + a) 1 b : ℝ) : EReal) := by
  pointwise [k0_pay82, k0_pay83, k0_pay84]
  simp only [Shifts, Nat.reduceSub] at h
  simp only [hx, h, ← EReal.coe_add]
  simp only [rowE n 0 a.val (by omega), c4E, minE, oneE, invE _ _ (show (0 : ℝ) < 4 by norm_num), ← EReal.coe_mul, ← EReal.coe_sub]
  simp only [pooled, win1, Nat.reduceMul, add_assoc 3072 _ b.val, show 512 * n + a.val + 16 = 512 * n + (16 + a.val) by omega, Finset.sum_range_succ, Finset.sum_range_zero, zero_add, add_zero, Nat.sub_zero, Nat.cast_ofNat, up, Nat.reduceLeDiff, Nat.reduceSub]

theorem pooled1_next (hn : n < 16) {x : Vec Ideal S16x1024 .f32} {v0 v1 v2 v3 : Vec Ideal S16x256 .f32}
    (hx : ∀ a b, x (ix2 a b) = ((P (512 * n + 512 + a) (3072 + b) : ℝ) : EReal)) (h : Shifts (r := 16) P (512 * n) 256 528 [v0, v1, v2, v3]) (a b) :
    k0_pay141 (F := Ideal) x (Scalar.muli (BitVec.ofNat 32 n) 512#32) v0 v1 v2 v3 (ix2 a b)
      = ((pooled P (512 * n + 512 + a) 1 b : ℝ) : EReal) := by
  pointwise [k0_pay141]
  simp only [Shifts, Nat.reduceSub] at h
  simp only [hx, h, ← EReal.coe_add]
  simp only [rowE n 512 a.val (by omega), c4E, minE, oneE, invE _ _ (show (0 : ℝ) < 4 by norm_num), ← EReal.coe_mul, ← EReal.coe_sub]
  simp only [pooled, win1, Nat.reduceMul, add_assoc 3072 _ b.val, show 512 * n + 512 + a.val + 16 = 512 * n + (528 + a.val) by omega, Finset.sum_range_succ, Finset.sum_range_zero, zero_add, add_zero, Nat.sub_zero, Nat.cast_ofNat, up, Nat.reduceLeDiff, Nat.reduceSub]

theorem pooled2 (hn : n < 16) {x : Vec Ideal S512x1024 .f32} {v0 v1 v2 v3 v4 v5 v6 v7 : Vec Ideal S512x256 .f32}
    (hx : ∀ a b, x (ix2 a b) = ((P (512 * n + a) (3072 + b) : ℝ) : EReal)) (h : Shifts (r := 512) P (512 * n) 512 16 [v0, v1, v2, v3, v4, v5, v6, v7]) (a b) :
    k0_pay85 (F := Ideal) x (Scalar.muli (BitVec.ofNat 32 n) 512#32) v0 v1 v2 v3 v4 v5 v6 v7 (ix2 a b)
      = ((pooled P (512 * n + a) 2 b : ℝ) : EReal) := by
  pointwise [k0_pay85]
  simp only [Shifts, Nat.reduceSub] at h
  simp only [hx, h, ← EReal.coe_add]
  simp only [rowE n 0 a.val (by omega), c8E, minE, oneE, invE _ _ (show (0 : ℝ) < 8 by norm_num), ← EReal.coe_mul, ← EReal.coe_sub]
  simp only [pooled, win2, Nat.reduceMul, add_assoc 3072 _ b.val, show 512 * n + a.val + 16 = 512 * n + (16 + a.val) by omega, Finset.sum_range_succ, Finset.sum_range_zero, zero_add, add_zero, Nat.sub_zero, Nat.cast_ofNat, up, Nat.reduceLeDiff, Nat.reduceSub]

theorem pooled2_next (hn : n < 16) {x : Vec Ideal S16x1024 .f32} {v0 v1 v2 v3 v4 v5 v6 v7 : Vec Ideal S16x256 .f32}
    (hx : ∀ a b, x (ix2 a b) = ((P (512 * n + 512 + a) (3072 + b) : ℝ) : EReal)) (h : Shifts (r := 16) P (512 * n) 512 528 [v0, v1, v2, v3, v4, v5, v6, v7]) (a b) :
    k0_pay143 (F := Ideal) x (Scalar.muli (BitVec.ofNat 32 n) 512#32) (k0_pay142 v0 v1 v2 v3 v4 v5 v6) v7 (ix2 a b)
      = ((pooled P (512 * n + 512 + a) 2 b : ℝ) : EReal) := by
  pointwise [k0_pay142, k0_pay143]
  simp only [Shifts, Nat.reduceSub] at h
  simp only [hx, h, ← EReal.coe_add]
  simp only [rowE n 512 a.val (by omega), c8E, minE, oneE, invE _ _ (show (0 : ℝ) < 8 by norm_num), ← EReal.coe_mul, ← EReal.coe_sub]
  simp only [pooled, win2, Nat.reduceMul, add_assoc 3072 _ b.val, show 512 * n + 512 + a.val + 16 = 512 * n + (528 + a.val) by omega, Finset.sum_range_succ, Finset.sum_range_zero, zero_add, add_zero, Nat.sub_zero, Nat.cast_ofNat, up, Nat.reduceLeDiff, Nat.reduceSub]

theorem pooled3 (hn : n < 16) {x : Vec Ideal S512x1024 .f32} {v0 v1 v2 v3 v4 v5 v6 v7 v8 v9 v10 v11 v12 v13 v14 v15 : Vec Ideal S512x256 .f32}
    (hx : ∀ a b, x (ix2 a b) = ((P (512 * n + a) (3072 + b) : ℝ) : EReal)) (h : Shifts (r := 512) P (512 * n) 768 16 [v0, v1, v2, v3, v4, v5, v6, v7, v8, v9, v10, v11, v12, v13, v14, v15]) (a b) :
    k0_pay87 (F := Ideal) x (Scalar.muli (BitVec.ofNat 32 n) 512#32) (k0_pay86 v0 v1 v2 v3 v4 v5 v6 v7 v8 v9 v10 v11 v12 v13 v14 v15) 0#32 (ix2 a b)
      = ((pooled P (512 * n + a) 3 b : ℝ) : EReal) := by
  pointwise [k0_pay86, k0_pay87]
  simp only [Shifts, Nat.reduceSub] at h
  simp only [hx, h, ← EReal.coe_add]
  simp only [rowE n 0 a.val (by omega), c16E, minE, oneE, invE _ _ (show (0 : ℝ) < 16 by norm_num), ← EReal.coe_mul, ← EReal.coe_sub]
  simp only [pooled, win3, Nat.reduceMul, add_assoc 3072 _ b.val, show 512 * n + a.val + 16 = 512 * n + (16 + a.val) by omega, Finset.sum_range_succ, Finset.sum_range_zero, zero_add, add_zero, Nat.sub_zero, Nat.cast_ofNat, up, Nat.reduceLeDiff, Nat.reduceSub]

theorem pooled3_next (hn : n < 16) {x : Vec Ideal S16x1024 .f32} {v0 v1 v2 v3 v4 v5 v6 v7 v8 v9 v10 v11 v12 v13 v14 v15 : Vec Ideal S16x256 .f32}
    (hx : ∀ a b, x (ix2 a b) = ((P (512 * n + 512 + a) (3072 + b) : ℝ) : EReal)) (h : Shifts (r := 16) P (512 * n) 768 528 [v0, v1, v2, v3, v4, v5, v6, v7, v8, v9, v10, v11, v12, v13, v14, v15]) (a b) :
    k0_pay145 (F := Ideal) x (Scalar.muli (BitVec.ofNat 32 n) 512#32) (k0_pay144 v0 v1 v2 v3 v4 v5 v6 v7 v8 v9) v10 v11 v12 v13 v14 v15 (ix2 a b)
      = ((pooled P (512 * n + 512 + a) 3 b : ℝ) : EReal) := by
  pointwise [k0_pay144, k0_pay145]
  simp only [Shifts, Nat.reduceSub] at h
  simp only [hx, h, ← EReal.coe_add]
  simp only [rowE n 512 a.val (by omega), c16E, minE, oneE, invE _ _ (show (0 : ℝ) < 16 by norm_num), ← EReal.coe_mul, ← EReal.coe_sub]
  simp only [pooled, win3, Nat.reduceMul, add_assoc 3072 _ b.val, show 512 * n + 512 + a.val + 16 = 512 * n + (528 + a.val) by omega, Finset.sum_range_succ, Finset.sum_range_zero, zero_add, add_zero, Nat.sub_zero, Nat.cast_ofNat, up, Nat.reduceLeDiff, Nat.reduceSub]

end Cert.Mixers
-- ==== Proof.Mixers.Pool.lean ====
module
public import proofs.«01_k».proof.Proof.Mixers.Pooled
@[expose] public section
set_option maxRecDepth 16384
/-! The gradient of the pooled heads of one tile. -/
noncomputable section
namespace Cert.Mixers
open Idealize.ShloMosaic Idealize.ShloMosaic.TcCoe
open Cert.KernelIdeal Cert.KernelIdeal.Gen
variable (P D : ℕ → ℕ → ℝ) (M : ℕ → ℕ → ℕ → ℝ) (S : ℕ → ℝ)

theorem dz_eq (t g : ℕ) (j : Fin 256) : dz P D M S t g j =
    (rs fun k : Fin 256 => ∑ i : Fin 256, pooled P t g i * M g i k) *
      (D t (1024 + 256 * g + j) * S (256 * g + j)
        - (∑ i : Fin 256, pooled P t g i * M g i j) * (rs fun k : Fin 256 => ∑ i : Fin 256, pooled P t g i * M g i k) *
          ((∑ k : Fin 256, (D t (1024 + 256 * g + k) * S (256 * g + k)) *
            ((∑ i : Fin 256, pooled P t g i * M g i k) * (rs fun k : Fin 256 => ∑ i : Fin 256, pooled P t g i * M g i k))) / 256)) := rfl

theorem dsT_eq (g : ℕ) (j : Fin 256) (t : ℕ → ℕ) : (∑ a : Fin 512, dsT P D M g j (t a)) = ∑ a : Fin 512, D (t a) (1024 + 256 * g + j) *
    ((∑ i : Fin 256, pooled P (t a) g i * M g i j) * (rs fun k : Fin 256 => ∑ i : Fin 256, pooled P (t a) g i * M g i k)) := rfl

def dpnC (t c : ℕ) : ℝ := dpn P D M S t (c / 256) (c % 256)
def dpoC (t c : ℕ) : ℝ := dpo P D M S t (c / 256) (c % 256)
theorem dpnC_off (t g b : ℕ) (hb : b < 256) : dpnC P D M S t (256 * g + b) = dpn P D M S t g b := by
  rw [dpnC, show (256 * g + b) / 256 = g by omega, show (256 * g + b) % 256 = b by omega]
theorem dpoC_off (t g b : ℕ) (hb : b < 256) : dpoC P D M S t (256 * g + b) = dpo P D M S t g b := by
  rw [dpoC, show (256 * g + b) / 256 = g by omega, show (256 * g + b) % 256 = b by omega]

/-- The four parts of a pooling matrix, one over another. -/
theorem matE (g i j : ℕ) : (if i < 64 then ((M g (0 + i) j : ℝ) : EReal) else if i - 64 < 64 then ((M g (64 + (i - 64)) j : ℝ) : EReal)
      else if i - 64 - 64 < 64 then ((M g (128 + (i - 64 - 64)) j : ℝ) : EReal) else ((M g (192 + (i - 64 - 64 - 64)) j : ℝ) : EReal)) = ((M g i j : ℝ) : EReal) := by
  split_ifs with a b c
  · rw [zero_add]
  · rw [show 64 + (i - 64) = i by omega]
  · rw [show 128 + (i - 64 - 64) = i by omega]
  · rw [show 192 + (i - 64 - 64 - 64) = i by omega]

/-- One group's matrix in four parts, and its scales. -/
structure Group (M : ℕ → ℕ → ℕ → ℝ) (S : ℕ → ℝ) (g : ℕ) (m0 m1 m2 m3 : Vec Ideal S1x1x64x256 .f32) (s : Vec Ideal S1x256 .f32) : Prop where
  h0 : ∀ a b, m0 (ix4 0 0 a b) = ((M g (0 + a) b : ℝ) : EReal)
  h1 : ∀ a b, m1 (ix4 0 0 a b) = ((M g (64 + a) b : ℝ) : EReal)
  h2 : ∀ a b, m2 (ix4 0 0 a b) = ((M g (128 + a) b : ℝ) : EReal)
  h3 : ∀ a b, m3 (ix4 0 0 a b) = ((M g (192 + a) b : ℝ) : EReal)
  hs : ∀ a b, s (ix2 a b) = ((S (256 * g + b) : ℝ) : EReal)

/-- One tile's cotangents, and its pooled rows in one group. -/
structure Tile (P D : ℕ → ℕ → ℝ) (n g : ℕ) (y : Vec Ideal S512x1024 .f32) (q : Vec Ideal S512x256 .f32) : Prop where
  hy : ∀ a b, y (ix2 a b) = ((D (512 * n + a) (1024 + b) : ℝ) : EReal)
  hq : ∀ a b, q (ix2 a b) = ((pooled P (512 * n + a) g b : ℝ) : EReal)

/-- The same of the rows after the tile; past the last tile there are none. -/
def Next (P D : ℕ → ℕ → ℝ) (n g : ℕ) (v : EReal) (y' : Vec Ideal S16x1024 .f32) (p : Vec Ideal S16x256 .f32) : Prop :=
  (v = 1 ∧ (∀ a b, y' (ix2 a b) = ((D (512 * n + 512 + a) (1024 + b) : ℝ) : EReal)) ∧ (∀ a b, p (ix2 a b) = ((pooled P (512 * n + 512 + a) g b : ℝ) : EReal)))
    ∨ (v = 0 ∧ ∀ t c, 512 * n + 512 ≤ t → D t c = 0)

variable {P D M S}
theorem dpn_zero {T : ℕ} (h0 : ∀ t c, T ≤ t → D t c = 0) (t g b : ℕ) (h : T ≤ t) : dpn P D M S t g b = 0 := by
  have e : ∀ j, dz P D M S t g j = 0 := fun j => by
    simp only [dz_eq, h0 _ _ h, zero_mul, Finset.sum_const_zero, zero_div, mul_zero, sub_zero]
  simp only [dpn, dpo, e, zero_mul, Finset.sum_const_zero]

variable {n : ℕ} {y : Vec Ideal S512x1024 .f32} {q : Vec Ideal S512x256 .f32} {v : EReal} {y' : Vec Ideal S16x1024 .f32} {p : Vec Ideal S16x256 .f32}
  {m0 m1 m2 m3 : Vec Ideal S1x1x64x256 .f32} {s : Vec Ideal S1x256 .f32}

theorem dpn_main0 (hn : n < 16) (T : Tile P D n 0 y q) (H : Group M S 0 m0 m1 m2 m3 s) (a b) :
    k0_pay95 (F := Ideal) (BitVec.ofNat 32 n) y (k0_pay88 m0 m1 m2 m3) (k0_pay90 q m0 m1 m2 m3) (k0_pay91 q m0 m1 m2 m3) s (ix2 a b)
      = ((dpn P D M S (512 * n + a) 0 b : ℝ) : EReal) := by
  pointwise [k0_pay88, k0_pay89, k0_pay90, k0_pay91, k0_pay92, k0_pay93, k0_pay94, k0_pay95, k0_pay96, k0_pay97, k0_pay98]
  simp only [H.h0, H.h1, H.h2, H.h3, dite_eq_ite, matE, T.hy, T.hq, H.hs, ← EReal.coe_mul, sumE, c256E, epsE, div256E, ← EReal.coe_add, rs256E, ← EReal.coe_sub, oneE, mul_one]
  have hr := rowE n 0 a.val (by omega)
  simp only [hr, c2E, minE, invE _ _ (show (0 : ℝ) < 2 by norm_num), ← EReal.coe_mul]
  simp only [dpn, dpo, dz_eq, win0, add_zero, Nat.cast_ofNat, add_assoc, Nat.reduceMul, zero_add]

theorem dpo_main0 (T : Tile P D n 0 y q) (H : Group M S 0 m0 m1 m2 m3 s) (a b) :
    k0_pay96 (F := Ideal) y (k0_pay88 m0 m1 m2 m3) (k0_pay90 q m0 m1 m2 m3) (k0_pay91 q m0 m1 m2 m3) s (ix2 a b)
      = ((dpo P D M S (512 * n + a) 0 b : ℝ) : EReal) := by
  pointwise [k0_pay88, k0_pay89, k0_pay90, k0_pay91, k0_pay92, k0_pay93, k0_pay94, k0_pay95, k0_pay96, k0_pay97, k0_pay98]
  simp only [H.h0, H.h1, H.h2, H.h3, dite_eq_ite, matE, T.hy, T.hq, H.hs, ← EReal.coe_mul, sumE, c256E, epsE, div256E, ← EReal.coe_add, rs256E, ← EReal.coe_sub, oneE, mul_one]
  simp only [dpo, dz_eq, add_assoc, Nat.reduceMul, zero_add]

theorem ds_word0 (T : Tile P D n 0 y q) (H : Group M S 0 m0 m1 m2 m3 s) (b) :
    k0_pay97 (F := Ideal) y (k0_pay91 q m0 m1 m2 m3) (ix2 0 b)
      = ((∑ a : Fin 512, dsT P D M 0 b (512 * n + a) : ℝ) : EReal) := by
  pointwise [k0_pay88, k0_pay89, k0_pay90, k0_pay91, k0_pay92, k0_pay93, k0_pay94, k0_pay95, k0_pay96, k0_pay97, k0_pay98]
  simp only [H.h0, H.h1, H.h2, H.h3, dite_eq_ite, matE, T.hy, T.hq, ← EReal.coe_mul, sumE, c256E, epsE, div256E, ← EReal.coe_add, rs256E, ← EReal.coe_sub, oneE, mul_one]
  rw [dsT_eq P D M _ _ (fun a => 512 * n + a)]

theorem dm_word0 (T : Tile P D n 0 y q) (H : Group M S 0 m0 m1 m2 m3 s) (i j) :
    k0_pay98 (F := Ideal) q (k0_pay93 y (k0_pay90 q m0 m1 m2 m3) (k0_pay91 q m0 m1 m2 m3) s) (ix2 i j)
      = ((∑ a : Fin 512, dmT P D M S 0 i j (512 * n + a) : ℝ) : EReal) := by
  pointwise [k0_pay88, k0_pay89, k0_pay90, k0_pay91, k0_pay92, k0_pay93, k0_pay94, k0_pay95, k0_pay96, k0_pay97, k0_pay98]
  simp only [H.h0, H.h1, H.h2, H.h3, dite_eq_ite, matE, T.hy, T.hq, H.hs, ← EReal.coe_mul, sumE, c256E, epsE, div256E, ← EReal.coe_add, rs256E, ← EReal.coe_sub, oneE, mul_one]
  simp only [dmT, dz_eq, add_assoc, Nat.reduceMul, zero_add]

theorem dpn_next0 (hn : n < 16) (H : Group M S 0 m0 m1 m2 m3 s) (hN : Next P D n 0 v y' p) (a b) :
    k0_pay151 (F := Ideal) (k0_pay149 v y' p (k0_pay146 m0) (k0_pay147 m1) (k0_pay148 m2) m3 s) (k0_pay150 (BitVec.ofNat 32 n)) (FloatOps.ofBits .f32 1073741824#32) (ix2 a b)
      = ((dpn P D M S (512 * n + 512 + a) 0 b : ℝ) : EReal) := by
  rcases hN with ⟨rfl, hy, hq⟩ | ⟨rfl, h0⟩
  · pointwise [k0_pay146, k0_pay147, k0_pay148, k0_pay149, k0_pay150, k0_pay151]
    simp only [H.h0, H.h1, H.h2, H.h3, dite_eq_ite, matE, hy, hq, H.hs, ← EReal.coe_mul, sumE, c256E, epsE, div256E, ← EReal.coe_add, rs256E, ← EReal.coe_sub, oneE, mul_one]
    have hr := rowE n 512 a.val (by omega)
    simp only [hr, c2E, minE, invE _ _ (show (0 : ℝ) < 2 by norm_num), ← EReal.coe_mul]
    simp only [dpn, dpo, dz_eq, win0, Nat.cast_ofNat, add_assoc, Nat.reduceMul, zero_add]
  · rw [dpn_zero h0 _ _ _ (show 512 * n + 512 ≤ 512 * n + 512 + a.val by omega)]
    pointwise [k0_pay146, k0_pay147, k0_pay148, k0_pay149, k0_pay150, k0_pay151]
    simp only [mul_zero, zero_mul, Finset.sum_const_zero, EReal.coe_zero]

theorem dpn_main1 (hn : n < 16) (T : Tile P D n 1 y q) (H : Group M S 1 m0 m1 m2 m3 s) (a b) :
    k0_pay108 (F := Ideal) (BitVec.ofNat 32 n) (k0_pay99 m0 m1 m2 m3) (k0_pay101 q m0 m1 m2 m3) (k0_pay102 q m0 m1 m2 m3) (k0_pay104 y s) (k0_pay105 y q m0 m1 m2 m3 s) (ix2 a b)
      = ((dpn P D M S (512 * n + a) 1 b : ℝ) : EReal) := by
  pointwise [k0_pay99, k0_pay100, k0_pay101, k0_pay102, k0_pay103, k0_pay104, k0_pay105, k0_pay106, k0_pay107, k0_pay108, k0_pay109, k0_pay110, k0_pay111]
  simp only [H.h0, H.h1, H.h2, H.h3, dite_eq_ite, matE, T.hy, T.hq, H.hs, ← EReal.coe_mul, sumE, c256E, epsE, div256E, ← EReal.coe_add, rs256E, ← EReal.coe_sub, oneE, mul_one]
  have hr := rowE n 0 a.val (by omega)
  simp only [hr, c4E, minE, invE _ _ (show (0 : ℝ) < 4 by norm_num), ← EReal.coe_mul]
  simp only [dpn, dpo, dz_eq, win1, add_zero, Nat.cast_ofNat, add_assoc, Nat.reduceMul, zero_add]

theorem dpo_main1 (T : Tile P D n 1 y q) (H : Group M S 1 m0 m1 m2 m3 s) (a b) :
    k0_pay109 (F := Ideal) (k0_pay99 m0 m1 m2 m3) (k0_pay101 q m0 m1 m2 m3) (k0_pay102 q m0 m1 m2 m3) (k0_pay104 y s) (k0_pay105 y q m0 m1 m2 m3 s) (ix2 a b)
      = ((dpo P D M S (512 * n + a) 1 b : ℝ) : EReal) := by
  pointwise [k0_pay99, k0_pay100, k0_pay101, k0_pay102, k0_pay103, k0_pay104, k0_pay105, k0_pay106, k0_pay107, k0_pay108, k0_pay109, k0_pay110, k0_pay111]
  simp only [H.h0, H.h1, H.h2, H.h3, dite_eq_ite, matE, T.hy, T.hq, H.hs, ← EReal.coe_mul, sumE, c256E, epsE, div256E, ← EReal.coe_add, rs256E, ← EReal.coe_sub, oneE, mul_one]
  simp only [dpo, dz_eq, add_assoc, Nat.reduceMul, zero_add]

theorem ds_word1 (T : Tile P D n 1 y q) (H : Group M S 1 m0 m1 m2 m3 s) (b) :
    k0_pay110 (F := Ideal) (k0_pay102 q m0 m1 m2 m3) (k0_pay103 y) (ix2 0 b)
      = ((∑ a : Fin 512, dsT P D M 1 b (512 * n + a) : ℝ) : EReal) := by
  pointwise [k0_pay99, k0_pay100, k0_pay101, k0_pay102, k0_pay103, k0_pay104, k0_pay105, k0_pay106, k0_pay107, k0_pay108, k0_pay109, k0_pay110, k0_pay111]
  simp only [H.h0, H.h1, H.h2, H.h3, dite_eq_ite, matE, T.hy, T.hq, ← EReal.coe_mul, sumE, c256E, epsE, div256E, ← EReal.coe_add, rs256E, ← EReal.coe_sub, oneE, mul_one]
  rw [dsT_eq P D M _ _ (fun a => 512 * n + a)]
  simp only [add_assoc, Nat.reduceMul, zero_add]

theorem dm_word1 (T : Tile P D n 1 y q) (H : Group M S 1 m0 m1 m2 m3 s) (i j) :
    k0_pay111 (F := Ideal) q (k0_pay101 q m0 m1 m2 m3) (k0_pay102 q m0 m1 m2 m3) (k0_pay104 y s) (k0_pay105 y q m0 m1 m2 m3 s) (ix2 i j)
      = ((∑ a : Fin 512, dmT P D M S 1 i j (512 * n + a) : ℝ) : EReal) := by
  pointwise [k0_pay99, k0_pay100, k0_pay101, k0_pay102, k0_pay103, k0_pay104, k0_pay105, k0_pay106, k0_pay107, k0_pay108, k0_pay109, k0_pay110, k0_pay111]
  simp only [H.h0, H.h1, H.h2, H.h3, dite_eq_ite, matE, T.hy, T.hq, H.hs, ← EReal.coe_mul, sumE, c256E, epsE, div256E, ← EReal.coe_add, rs256E, ← EReal.coe_sub, oneE, mul_one]
  simp only [dmT, dz_eq, add_assoc, Nat.reduceMul, zero_add]

theorem dpn_next1 (hn : n < 16) (H : Group M S 1 m0 m1 m2 m3 s) (hN : Next P D n 1 v y' p) (a b) :
    k0_pay158 (F := Ideal) (BitVec.ofNat 32 n) v (k0_pay152 m0 m1 m2 m3) (k0_pay154 p m0 m1 m2 m3) (k0_pay155 p m0 m1 m2 m3) (k0_pay156 y') (k0_pay157 s) (ix2 a b)
      = ((dpn P D M S (512 * n + 512 + a) 1 b : ℝ) : EReal) := by
  rcases hN with ⟨rfl, hy, hq⟩ | ⟨rfl, h0⟩
  · pointwise [k0_pay152, k0_pay153, k0_pay154, k0_pay155, k0_pay156, k0_pay157, k0_pay158]
    simp only [H.h0, H.h1, H.h2, H.h3, dite_eq_ite, matE, hy, hq, H.hs, ← EReal.coe_mul, sumE, c256E, epsE, div256E, ← EReal.coe_add, rs256E, ← EReal.coe_sub, oneE, mul_one]
    have hr := rowE n 512 a.val (by omega)
    simp only [hr, c4E, minE, invE _ _ (show (0 : ℝ) < 4 by norm_num), ← EReal.coe_mul]
    simp only [dpn, dpo, dz_eq, win1, Nat.cast_ofNat, add_assoc, Nat.reduceMul, zero_add]
  · rw [dpn_zero h0 _ _ _ (show 512 * n + 512 ≤ 512 * n + 512 + a.val by omega)]
    pointwise [k0_pay152, k0_pay153, k0_pay154, k0_pay155, k0_pay156, k0_pay157, k0_pay158]
    simp only [mul_zero, zero_mul, Finset.sum_const_zero, EReal.coe_zero]

theorem dpn_main2 (hn : n < 16) (T : Tile P D n 2 y q) (H : Group M S 2 m0 m1 m2 m3 s) (a b) :
    k0_pay120 (F := Ideal) (k0_pay119 y q (k0_pay112 m0) m1 m2 m3 s) (Scalar.muli (BitVec.ofNat 32 n) 512#32) 0#32 (ix2 a b)
      = ((dpn P D M S (512 * n + a) 2 b : ℝ) : EReal) := by
  pointwise [k0_pay112, k0_pay113, k0_pay114, k0_pay115, k0_pay116, k0_pay117, k0_pay118, k0_pay119, k0_pay120, k0_pay121, k0_pay122, k0_pay123]
  simp only [H.h0, H.h1, H.h2, H.h3, dite_eq_ite, matE, T.hy, T.hq, H.hs, ← EReal.coe_mul, sumE, c256E, epsE, div256E, ← EReal.coe_add, rs256E, ← EReal.coe_sub, oneE, mul_one]
  have hr := rowE n 0 a.val (by omega)
  simp only [hr, c8E, minE, invE _ _ (show (0 : ℝ) < 8 by norm_num), ← EReal.coe_mul]
  simp only [dpn, dpo, dz_eq, win2, add_zero, Nat.cast_ofNat, add_assoc, Nat.reduceMul, zero_add]

theorem dpo_main2 (T : Tile P D n 2 y q) (H : Group M S 2 m0 m1 m2 m3 s) (a b) :
    k0_pay121 (F := Ideal) (k0_pay119 y q (k0_pay112 m0) m1 m2 m3 s) (ix2 a b)
      = ((dpo P D M S (512 * n + a) 2 b : ℝ) : EReal) := by
  pointwise [k0_pay112, k0_pay113, k0_pay114, k0_pay115, k0_pay116, k0_pay117, k0_pay118, k0_pay119, k0_pay120, k0_pay121, k0_pay122, k0_pay123]
  simp only [H.h0, H.h1, H.h2, H.h3, dite_eq_ite, matE, T.hy, T.hq, H.hs, ← EReal.coe_mul, sumE, c256E, epsE, div256E, ← EReal.coe_add, rs256E, ← EReal.coe_sub, oneE, mul_one]
  simp only [dpo, dz_eq, add_assoc, Nat.reduceMul, zero_add]

theorem ds_word2 (T : Tile P D n 2 y q) (H : Group M S 2 m0 m1 m2 m3 s) (b) :
    k0_pay122 (F := Ideal) (k0_pay116 q (k0_pay112 m0) m1 m2 m3) (k0_pay117 y) (ix2 0 b)
      = ((∑ a : Fin 512, dsT P D M 2 b (512 * n + a) : ℝ) : EReal) := by
  pointwise [k0_pay112, k0_pay113, k0_pay114, k0_pay115, k0_pay116, k0_pay117, k0_pay118, k0_pay119, k0_pay120, k0_pay121, k0_pay122, k0_pay123]
  simp only [H.h0, H.h1, H.h2, H.h3, dite_eq_ite, matE, T.hy, T.hq, ← EReal.coe_mul, sumE, c256E, epsE, div256E, ← EReal.coe_add, rs256E, ← EReal.coe_sub, oneE, mul_one]
  rw [dsT_eq P D M _ _ (fun a => 512 * n + a)]
  simp only [add_assoc, Nat.reduceMul, zero_add]

theorem dm_word2 (T : Tile P D n 2 y q) (H : Group M S 2 m0 m1 m2 m3 s) (i j) :
    k0_pay123 (F := Ideal) q (k0_pay118 y q (k0_pay112 m0) m1 m2 m3 s) (ix2 i j)
      = ((∑ a : Fin 512, dmT P D M S 2 i j (512 * n + a) : ℝ) : EReal) := by
  pointwise [k0_pay112, k0_pay113, k0_pay114, k0_pay115, k0_pay116, k0_pay117, k0_pay118, k0_pay119, k0_pay120, k0_pay121, k0_pay122, k0_pay123]
  simp only [H.h0, H.h1, H.h2, H.h3, dite_eq_ite, matE, T.hy, T.hq, H.hs, ← EReal.coe_mul, sumE, c256E, epsE, div256E, ← EReal.coe_add, rs256E, ← EReal.coe_sub, oneE, mul_one]
  simp only [dmT, dz_eq, add_assoc, Nat.reduceMul, zero_add]

theorem dpn_next2 (hn : n < 16) (H : Group M S 2 m0 m1 m2 m3 s) (hN : Next P D n 2 v y' p) (a b) :
    k0_pay163 (F := Ideal) (k0_pay161 v y' p (k0_pay159 m0) (k0_pay160 m1) m2 m3 s) (k0_pay162 (BitVec.ofNat 32 n)) (ix2 a b)
      = ((dpn P D M S (512 * n + 512 + a) 2 b : ℝ) : EReal) := by
  rcases hN with ⟨rfl, hy, hq⟩ | ⟨rfl, h0⟩
  · pointwise [k0_pay159, k0_pay160, k0_pay161, k0_pay162, k0_pay163]
    simp only [H.h0, H.h1, H.h2, H.h3, dite_eq_ite, matE, hy, hq, H.hs, ← EReal.coe_mul, sumE, c256E, epsE, div256E, ← EReal.coe_add, rs256E, ← EReal.coe_sub, oneE, mul_one]
    have hr := rowE n 512 a.val (by omega)
    simp only [hr, c8E, minE, invE _ _ (show (0 : ℝ) < 8 by norm_num), ← EReal.coe_mul]
    simp only [dpn, dpo, dz_eq, win2, Nat.cast_ofNat, add_assoc, Nat.reduceMul, zero_add]
  · rw [dpn_zero h0 _ _ _ (show 512 * n + 512 ≤ 512 * n + 512 + a.val by omega)]
    pointwise [k0_pay159, k0_pay160, k0_pay161, k0_pay162, k0_pay163]
    simp only [mul_zero, zero_mul, Finset.sum_const_zero, EReal.coe_zero]

theorem dpn_main3 (hn : n < 16) (T : Tile P D n 3 y q) (H : Group M S 3 m0 m1 m2 m3 s) (a b) :
    k0_pay136 (F := Ideal) (k0_pay134 y q (k0_pay124 m0) (k0_pay125 m1) (k0_pay126 m2) (k0_pay127 m3) s) (k0_pay135 (BitVec.ofNat 32 n)) (ix2 a b)
      = ((dpn P D M S (512 * n + a) 3 b : ℝ) : EReal) := by
  pointwise [k0_pay124, k0_pay125, k0_pay126, k0_pay127, k0_pay128, k0_pay129, k0_pay130, k0_pay131, k0_pay132, k0_pay133, k0_pay134, k0_pay135, k0_pay136, k0_pay137, k0_pay138, k0_pay139]
  simp only [H.h0, H.h1, H.h2, H.h3, dite_eq_ite, matE, T.hy, T.hq, H.hs, ← EReal.coe_mul, sumE, c256E, epsE, div256E, ← EReal.coe_add, rs256E, ← EReal.coe_sub, oneE, mul_one]
  have hr := rowE n 0 a.val (by omega)
  simp only [hr, c16E, minE, invE _ _ (show (0 : ℝ) < 16 by norm_num), ← EReal.coe_mul]
  simp only [dpn, dpo, dz_eq, win3, add_zero, Nat.cast_ofNat, add_assoc, Nat.reduceMul, zero_add]

theorem dpo_main3 (T : Tile P D n 3 y q) (H : Group M S 3 m0 m1 m2 m3 s) (a b) :
    k0_pay137 (F := Ideal) (k0_pay134 y q (k0_pay124 m0) (k0_pay125 m1) (k0_pay126 m2) (k0_pay127 m3) s) (ix2 a b)
      = ((dpo P D M S (512 * n + a) 3 b : ℝ) : EReal) := by
  pointwise [k0_pay124, k0_pay125, k0_pay126, k0_pay127, k0_pay128, k0_pay129, k0_pay130, k0_pay131, k0_pay132, k0_pay133, k0_pay134, k0_pay135, k0_pay136, k0_pay137, k0_pay138, k0_pay139]
  simp only [H.h0, H.h1, H.h2, H.h3, dite_eq_ite, matE, T.hy, T.hq, H.hs, ← EReal.coe_mul, sumE, c256E, epsE, div256E, ← EReal.coe_add, rs256E, ← EReal.coe_sub, oneE, mul_one]
  simp only [dpo, dz_eq, add_assoc, Nat.reduceMul, zero_add]

theorem ds_word3 (T : Tile P D n 3 y q) (H : Group M S 3 m0 m1 m2 m3 s) (b) :
    k0_pay138 (F := Ideal) (k0_pay131 q (k0_pay124 m0) (k0_pay125 m1) (k0_pay126 m2) (k0_pay127 m3)) (k0_pay132 y) (ix2 0 b)
      = ((∑ a : Fin 512, dsT P D M 3 b (512 * n + a) : ℝ) : EReal) := by
  pointwise [k0_pay124, k0_pay125, k0_pay126, k0_pay127, k0_pay128, k0_pay129, k0_pay130, k0_pay131, k0_pay132, k0_pay133, k0_pay134, k0_pay135, k0_pay136, k0_pay137, k0_pay138, k0_pay139]
  simp only [H.h0, H.h1, H.h2, H.h3, dite_eq_ite, matE, T.hy, T.hq, ← EReal.coe_mul, sumE, c256E, epsE, div256E, ← EReal.coe_add, rs256E, ← EReal.coe_sub, oneE, mul_one]
  rw [dsT_eq P D M _ _ (fun a => 512 * n + a)]
  simp only [add_assoc, Nat.reduceMul, zero_add]

theorem dm_word3 (T : Tile P D n 3 y q) (H : Group M S 3 m0 m1 m2 m3 s) (i j) :
    k0_pay139 (F := Ideal) q (k0_pay133 y q (k0_pay124 m0) (k0_pay125 m1) (k0_pay126 m2) (k0_pay127 m3) s) (ix2 i j)
      = ((∑ a : Fin 512, dmT P D M S 3 i j (512 * n + a) : ℝ) : EReal) := by
  pointwise [k0_pay124, k0_pay125, k0_pay126, k0_pay127, k0_pay128, k0_pay129, k0_pay130, k0_pay131, k0_pay132, k0_pay133, k0_pay134, k0_pay135, k0_pay136, k0_pay137, k0_pay138, k0_pay139]
  simp only [H.h0, H.h1, H.h2, H.h3, dite_eq_ite, matE, T.hy, T.hq, H.hs, ← EReal.coe_mul, sumE, c256E, epsE, div256E, ← EReal.coe_add, rs256E, ← EReal.coe_sub, oneE, mul_one]
  simp only [dmT, dz_eq, add_assoc, Nat.reduceMul, zero_add]

theorem dpn_next3 (hn : n < 16) (H : Group M S 3 m0 m1 m2 m3 s) (hN : Next P D n 3 v y' p) (a b) :
    k0_pay169 (F := Ideal) (BitVec.ofNat 32 n) v (k0_pay164 m0 m1 m2 m3) (k0_pay166 p m0 m1 m2 m3) (k0_pay167 p m0 m1 m2 m3) (k0_pay168 y') s (ix2 a b)
      = ((dpn P D M S (512 * n + 512 + a) 3 b : ℝ) : EReal) := by
  rcases hN with ⟨rfl, hy, hq⟩ | ⟨rfl, h0⟩
  · pointwise [k0_pay164, k0_pay165, k0_pay166, k0_pay167, k0_pay168, k0_pay169]
    simp only [H.h0, H.h1, H.h2, H.h3, dite_eq_ite, matE, hy, hq, H.hs, ← EReal.coe_mul, sumE, c256E, epsE, div256E, ← EReal.coe_add, rs256E, ← EReal.coe_sub, oneE, mul_one]
    have hr := rowE n 512 a.val (by omega)
    simp only [hr, c16E, minE, invE _ _ (show (0 : ℝ) < 16 by norm_num), ← EReal.coe_mul]
    simp only [dpn, dpo, dz_eq, win3, Nat.cast_ofNat, add_assoc, Nat.reduceMul, zero_add]
  · rw [dpn_zero h0 _ _ _ (show 512 * n + 512 ≤ 512 * n + 512 + a.val by omega)]
    pointwise [k0_pay164, k0_pay165, k0_pay166, k0_pay167, k0_pay168, k0_pay169]
    simp only [mul_zero, zero_mul, Finset.sum_const_zero, EReal.coe_zero]
end Cert.Mixers
-- ==== Proof.Mixers.Store.lean ====
module
public import proofs.«01_k».proof.Proof.Mixers.Pool
@[expose] public section
set_option maxRecDepth 16384
/-! What one tile stores, from the blocks it reads. -/
noncomputable section
namespace Cert.Mixers
open Idealize.ShloMosaic Idealize.ShloMosaic.TcCoe
open Cert.KernelIdeal Cert.KernelIdeal.Gen

/-- The blocks one tile reads: its own rows, sixteen rows before them, sixteen rows from `q` on, and the weights. -/
structure Blocks (P D W : ℕ → ℕ → ℝ) (M : ℕ → ℕ → ℕ → ℝ) (S : ℕ → ℝ) (i : grid0.Coords) (q : ℕ)
  (v40 v41 v14 v15 v628 v629 : Vec Ideal S512x1024 .f32) (v6 v7 v26 v329 v330 v20 v21 v1015 v1016 : Vec Ideal S16x1024 .f32) (w0 w1 w2 : Vec Ideal S1x1024 .f32)
  (m00 m01 m02 m03 m10 m11 m12 m13 m20 m21 m22 m23 m30 m31 m32 m33 : Vec Ideal S1x1x64x256 .f32) (s0 s1 s2 s3 : Vec Ideal S1x256 .f32) : Prop where
  hb : ∀ a b, v40 (ix2 a b) = ((P (512 * (i 0).val + a) b : ℝ) : EReal)
  hy : ∀ a b, v41 (ix2 a b) = ((D (512 * (i 0).val + a) b : ℝ) : EReal)
  h14 : ∀ a b, v14 (ix2 a b) = ((P (512 * (i 0).val + a) (1024 + b) : ℝ) : EReal)
  h15 : ∀ a b, v15 (ix2 a b) = ((P (512 * (i 0).val + a) (2048 + b) : ℝ) : EReal)
  h628 : ∀ a b, v628 (ix2 a b) = ((P (512 * (i 0).val + a) (3072 + b) : ℝ) : EReal)
  h629 : ∀ a b, v629 (ix2 a b) = ((D (512 * (i 0).val + a) (1024 + b) : ℝ) : EReal)
  h6 : ∀ a b, v6 (ix2 a b) = ((P (512 * (i 0).val - 16 + a) (1024 + b) : ℝ) : EReal)
  h7 : ∀ a b, v7 (ix2 a b) = ((P (512 * (i 0).val - 16 + a) (2048 + b) : ℝ) : EReal)
  h26 : ∀ a b, v26 (ix2 a b) = ((P (512 * (i 0).val - 16 + a) (3072 + b) : ℝ) : EReal)
  h329 : ∀ a b, v329 (ix2 a b) = ((P (q + a) b : ℝ) : EReal)
  h330 : ∀ a b, v330 (ix2 a b) = ((D (q + a) b : ℝ) : EReal)
  h20 : ∀ a b, v20 (ix2 a b) = ((P (q + a) (1024 + b) : ℝ) : EReal)
  h21 : ∀ a b, v21 (ix2 a b) = ((P (q + a) (2048 + b) : ℝ) : EReal)
  h1015 : ∀ a b, v1015 (ix2 a b) = ((P (q + a) (3072 + b) : ℝ) : EReal)
  h1016 : ∀ a b, v1016 (ix2 a b) = ((D (q + a) (1024 + b) : ℝ) : EReal)
  h0 : ∀ a b, w0 (ix2 a b) = ((W (0 + a) (0 + b) : ℝ) : EReal)
  h1 : ∀ a b, w1 (ix2 a b) = ((W (1 + a) (0 + b) : ℝ) : EReal)
  h2 : ∀ a b, w2 (ix2 a b) = ((W (2 + a) (0 + b) : ℝ) : EReal)
  g0 : Group M S 0 m00 m01 m02 m03 s0
  g1 : Group M S 1 m10 m11 m12 m13 s1
  g2 : Group M S 2 m20 m21 m22 m23 s2
  g3 : Group M S 3 m30 m31 m32 m33 s3
  hq : (i 0).val < 15 → q = 512 * (i 0).val + 512
  hz : ¬(i 0).val < 15 → ∀ t c, 512 * (i 0).val + 512 ≤ t → P t c = 0 ∧ D t c = 0

variable {P D W : ℕ → ℕ → ℝ} {M : ℕ → ℕ → ℕ → ℝ} {S : ℕ → ℝ} {i : grid0.Coords} {q : ℕ}
  {v40 v41 v14 v15 v628 v629 : Vec Ideal S512x1024 .f32} {v6 v7 v26 v329 v330 v20 v21 v1015 v1016 : Vec Ideal S16x1024 .f32} {w0 w1 w2 : Vec Ideal S1x1024 .f32}
  {m00 m01 m02 m03 m10 m11 m12 m13 m20 m21 m22 m23 m30 m31 m32 m33 : Vec Ideal S1x1x64x256 .f32} {s0 s1 s2 s3 : Vec Ideal S1x256 .f32}
  (B : Blocks P D W M S i q v40 v41 v14 v15 v628 v629 v6 v7 v26 v329 v330 v20 v21 v1015 v1016 w0 w1 w2 m00 m01 m02 m03 m10 m11 m12 m13 m20 m21 m22 m23 m30 m31 m32 m33 s0 s1 s2 s3)

theorem lt16 (i : grid0.Coords) : (i 0).val < 16 := (i 0).isLt

section
variable {sg : RefSig} {κ : Kind} {sp : Space} {u0 u1 : View sg κ sp S544x1024 .f32} {u2 u3 : View sg κ sp S528x1024 .f32} {u4 : View sg κ sp S512x1024 .f32}
  {L0 L1 : List (View.Piece (Elt Ideal) S544x1024 .f32)} {L2 L3 : List (View.Piece (Elt Ideal) S528x1024 .f32)} {L4 : List (View.Piece (Elt Ideal) S512x1024 .f32)}

theorem load_v {T : ℕ} (h1 : ∀ y, View.canon L1 y = vB P T q (y 0).val (y 1).val) {o0 o1 k l : ℕ} (h : o0 + k ≤ 528) (inb) (a : Fin k) (b : Fin l) :
    View.readCov u1 L1 (Rect.unit (s := S544x1024) ![o0, o1] ![k, l] inb).toLoadRect (ix2 a b) = ((vS P (T + (o0 + a)) (o1 + b) : ℝ) : EReal) :=
  (load2 (n := 544) (m := 1024) u1 L1 _ h1 inb a b).trans (vB_lt P _ _ _ _ (by omega))
theorem load_v_next {T : ℕ} (h1 : ∀ y, View.canon L1 y = vB P T (T + 512) (y 0).val (y 1).val) {o0 o1 k l : ℕ} (inb) (a : Fin k) (b : Fin l) :
    View.readCov u1 L1 (Rect.unit (s := S544x1024) ![o0, o1] ![k, l] inb).toLoadRect (ix2 a b) = ((vS P (T + (o0 + a)) (o1 + b) : ℝ) : EReal) :=
  (load2 (n := 544) (m := 1024) u1 L1 _ h1 inb a b).trans (vB_next P _ _ _)
theorem load_cu {T : ℕ} (h0 : ∀ y, View.canon L0 y = cuB P T q (y 0).val (y 1).val) {o0 o1 k l : ℕ} (h : o0 + k ≤ 528) (inb) (a : Fin k) (b : Fin l) :
    View.readCov u0 L0 (Rect.unit (s := S544x1024) ![o0, o1] ![k, l] inb).toLoadRect (ix2 a b) = ((cuS P (T + (o0 + a)) (o1 + b) : ℝ) : EReal) :=
  (load2 (n := 544) (m := 1024) u0 L0 _ h0 inb a b).trans (cuB_lt P _ _ _ _ (by omega))
theorem load_cu_next {T : ℕ} (h0 : ∀ y, View.canon L0 y = cuB P T (T + 512) (y 0).val (y 1).val) {o0 o1 k l : ℕ} (inb) (a : Fin k) (b : Fin l) :
    View.readCov u0 L0 (Rect.unit (s := S544x1024) ![o0, o1] ![k, l] inb).toLoadRect (ix2 a b) = ((cuS P (T + (o0 + a)) (o1 + b) : ℝ) : EReal) :=
  (load2 (n := 544) (m := 1024) u0 L0 _ h0 inb a b).trans (cuB_next P _ _ _)

include B in
theorem pooled_words (h1 : ∀ y, View.canon L1 y = vB P (512 * (i 0).val) q (y 0).val (y 1).val) :
    Rows4 (r := 512) (pooled P) (512 * (i 0).val)
      (k0_pay81 (F := Ideal) (BitVec.ofNat 32 (i 0).val) v628 (View.readCov u1 L1 (Rect.unit (s := S544x1024) ![16, 0] S512x256.size inb_S544x1024_S512x256_16_0).toLoadRect) (View.readCov u1 L1 (Rect.unit (s := S544x1024) ![15, 0] S512x256.size inb_S544x1024_S512x256_15_0).toLoadRect))
      (k0_pay84 (F := Ideal) v628 (k0_pay82 (View.readCov u1 L1 (Rect.unit (s := S544x1024) ![16, 256] S512x256.size inb_S544x1024_S512x256_16_256).toLoadRect) (View.readCov u1 L1 (Rect.unit (s := S544x1024) ![15, 256] S512x256.size inb_S544x1024_S512x256_15_256).toLoadRect) (View.readCov u1 L1 (Rect.unit (s := S544x1024) ![14, 256] S512x256.size inb_S544x1024_S512x256_14_256).toLoadRect) (View.readCov u1 L1 (Rect.unit (s := S544x1024) ![13, 256] S512x256.size inb_S544x1024_S512x256_13_256).toLoadRect)) (k0_pay83 (BitVec.ofNat 32 (i 0).val)) (FloatOps.ofBits .f32 1065353216#32))
      (k0_pay85 (F := Ideal) v628 (Scalar.muli (BitVec.ofNat 32 (i 0).val) 512#32) (View.readCov u1 L1 (Rect.unit (s := S544x1024) ![16, 512] S512x256.size inb_S544x1024_S512x256_16_512).toLoadRect) (View.readCov u1 L1 (Rect.unit (s := S544x1024) ![15, 512] S512x256.size inb_S544x1024_S512x256_15_512).toLoadRect) (View.readCov u1 L1 (Rect.unit (s := S544x1024) ![14, 512] S512x256.size inb_S544x1024_S512x256_14_512).toLoadRect) (View.readCov u1 L1 (Rect.unit (s := S544x1024) ![13, 512] S512x256.size inb_S544x1024_S512x256_13_512).toLoadRect) (View.readCov u1 L1 (Rect.unit (s := S544x1024) ![12, 512] S512x256.size inb_S544x1024_S512x256_12_512).toLoadRect) (View.readCov u1 L1 (Rect.unit (s := S544x1024) ![11, 512] S512x256.size inb_S544x1024_S512x256_11_512).toLoadRect) (View.readCov u1 L1 (Rect.unit (s := S544x1024) ![10, 512] S512x256.size inb_S544x1024_S512x256_10_512).toLoadRect) (View.readCov u1 L1 (Rect.unit (s := S544x1024) ![9, 512] S512x256.size inb_S544x1024_S512x256_9_512).toLoadRect))
      (k0_pay87 (F := Ideal) v628 (Scalar.muli (BitVec.ofNat 32 (i 0).val) 512#32) (k0_pay86 (View.readCov u1 L1 (Rect.unit (s := S544x1024) ![16, 768] S512x256.size inb_S544x1024_S512x256_16_768).toLoadRect) (View.readCov u1 L1 (Rect.unit (s := S544x1024) ![15, 768] S512x256.size inb_S544x1024_S512x256_15_768).toLoadRect) (View.readCov u1 L1 (Rect.unit (s := S544x1024) ![14, 768] S512x256.size inb_S544x1024_S512x256_14_768).toLoadRect) (View.readCov u1 L1 (Rect.unit (s := S544x1024) ![13, 768] S512x256.size inb_S544x1024_S512x256_13_768).toLoadRect) (View.readCov u1 L1 (Rect.unit (s := S544x1024) ![12, 768] S512x256.size inb_S544x1024_S512x256_12_768).toLoadRect) (View.readCov u1 L1 (Rect.unit (s := S544x1024) ![11, 768] S512x256.size inb_S544x1024_S512x256_11_768).toLoadRect) (View.readCov u1 L1 (Rect.unit (s := S544x1024) ![10, 768] S512x256.size inb_S544x1024_S512x256_10_768).toLoadRect) (View.readCov u1 L1 (Rect.unit (s := S544x1024) ![9, 768] S512x256.size inb_S544x1024_S512x256_9_768).toLoadRect) (View.readCov u1 L1 (Rect.unit (s := S544x1024) ![8, 768] S512x256.size inb_S544x1024_S512x256_8_768).toLoadRect) (View.readCov u1 L1 (Rect.unit (s := S544x1024) ![7, 768] S512x256.size inb_S544x1024_S512x256_7_768).toLoadRect) (View.readCov u1 L1 (Rect.unit (s := S544x1024) ![6, 768] S512x256.size inb_S544x1024_S512x256_6_768).toLoadRect) (View.readCov u1 L1 (Rect.unit (s := S544x1024) ![5, 768] S512x256.size inb_S544x1024_S512x256_5_768).toLoadRect) (View.readCov u1 L1 (Rect.unit (s := S544x1024) ![4, 768] S512x256.size inb_S544x1024_S512x256_4_768).toLoadRect) (View.readCov u1 L1 (Rect.unit (s := S544x1024) ![3, 768] S512x256.size inb_S544x1024_S512x256_3_768).toLoadRect) (View.readCov u1 L1 (Rect.unit (s := S544x1024) ![2, 768] S512x256.size inb_S544x1024_S512x256_2_768).toLoadRect) (View.readCov u1 L1 (Rect.unit (s := S544x1024) ![1, 768] S512x256.size inb_S544x1024_S512x256_1_768).toLoadRect)) 0#32) := by
  have hn := lt16 i
  exact ⟨fun a b => pooled0 P hn B.h628 (by repeat' first | exact trivial | refine ⟨fun a b => load_v h1 (by decide) _ a b, ?_⟩) a b,
    fun a b => pooled1 P hn B.h628 (by repeat' first | exact trivial | refine ⟨fun a b => load_v h1 (by decide) _ a b, ?_⟩) a b,
    fun a b => pooled2 P hn B.h628 (by repeat' first | exact trivial | refine ⟨fun a b => load_v h1 (by decide) _ a b, ?_⟩) a b,
    fun a b => pooled3 P hn B.h628 (by repeat' first | exact trivial | refine ⟨fun a b => load_v h1 (by decide) _ a b, ?_⟩) a b⟩

include B in
theorem pooled_next (hl : (i 0).val < 15) (h1 : ∀ y, View.canon L1 y = vB P (512 * (i 0).val) q (y 0).val (y 1).val) :
    Rows4 (r := 16) (pooled P) (512 * (i 0).val + 512)
      (k0_pay140 (F := Ideal) (BitVec.ofNat 32 (i 0).val) v1015 (View.readCov u1 L1 (Rect.unit (s := S544x1024) ![528, 0] S16x256.size inb_S544x1024_S16x256_528_0).toLoadRect) (View.readCov u1 L1 (Rect.unit (s := S544x1024) ![527, 0] S16x256.size inb_S544x1024_S16x256_527_0).toLoadRect))
      (k0_pay141 (F := Ideal) v1015 (Scalar.muli (BitVec.ofNat 32 (i 0).val) 512#32) (View.readCov u1 L1 (Rect.unit (s := S544x1024) ![528, 256] S16x256.size inb_S544x1024_S16x256_528_256).toLoadRect) (View.readCov u1 L1 (Rect.unit (s := S544x1024) ![527, 256] S16x256.size inb_S544x1024_S16x256_527_256).toLoadRect) (View.readCov u1 L1 (Rect.unit (s := S544x1024) ![526, 256] S16x256.size inb_S544x1024_S16x256_526_256).toLoadRect) (View.readCov u1 L1 (Rect.unit (s := S544x1024) ![525, 256] S16x256.size inb_S544x1024_S16x256_525_256).toLoadRect))
      (k0_pay143 (F := Ideal) v1015 (Scalar.muli (BitVec.ofNat 32 (i 0).val) 512#32) (k0_pay142 (View.readCov u1 L1 (Rect.unit (s := S544x1024) ![528, 512] S16x256.size inb_S544x1024_S16x256_528_512).toLoadRect) (View.readCov u1 L1 (Rect.unit (s := S544x1024) ![527, 512] S16x256.size inb_S544x1024_S16x256_527_512).toLoadRect) (View.readCov u1 L1 (Rect.unit (s := S544x1024) ![526, 512] S16x256.size inb_S544x1024_S16x256_526_512).toLoadRect) (View.readCov u1 L1 (Rect.unit (s := S544x1024) ![525, 512] S16x256.size inb_S544x1024_S16x256_525_512).toLoadRect) (View.readCov u1 L1 (Rect.unit (s := S544x1024) ![524, 512] S16x256.size inb_S544x1024_S16x256_524_512).toLoadRect) (View.readCov u1 L1 (Rect.unit (s := S544x1024) ![523, 512] S16x256.size inb_S544x1024_S16x256_523_512).toLoadRect) (View.readCov u1 L1 (Rect.unit (s := S544x1024) ![522, 512] S16x256.size inb_S544x1024_S16x256_522_512).toLoadRect)) (View.readCov u1 L1 (Rect.unit (s := S544x1024) ![521, 512] S16x256.size inb_S544x1024_S16x256_521_512).toLoadRect))
      (k0_pay145 (F := Ideal) v1015 (Scalar.muli (BitVec.ofNat 32 (i 0).val) 512#32) (k0_pay144 (View.readCov u1 L1 (Rect.unit (s := S544x1024) ![528, 768] S16x256.size inb_S544x1024_S16x256_528_768).toLoadRect) (View.readCov u1 L1 (Rect.unit (s := S544x1024) ![527, 768] S16x256.size inb_S544x1024_S16x256_527_768).toLoadRect) (View.readCov u1 L1 (Rect.unit (s := S544x1024) ![526, 768] S16x256.size inb_S544x1024_S16x256_526_768).toLoadRect) (View.readCov u1 L1 (Rect.unit (s := S544x1024) ![525, 768] S16x256.size inb_S544x1024_S16x256_525_768).toLoadRect) (View.readCov u1 L1 (Rect.unit (s := S544x1024) ![524, 768] S16x256.size inb_S544x1024_S16x256_524_768).toLoadRect) (View.readCov u1 L1 (Rect.unit (s := S544x1024) ![523, 768] S16x256.size inb_S544x1024_S16x256_523_768).toLoadRect) (View.readCov u1 L1 (Rect.unit (s := S544x1024) ![522, 768] S16x256.size inb_S544x1024_S16x256_522_768).toLoadRect) (View.readCov u1 L1 (Rect.unit (s := S544x1024) ![521, 768] S16x256.size inb_S544x1024_S16x256_521_768).toLoadRect) (View.readCov u1 L1 (Rect.unit (s := S544x1024) ![520, 768] S16x256.size inb_S544x1024_S16x256_520_768).toLoadRect) (View.readCov u1 L1 (Rect.unit (s := S544x1024) ![519, 768] S16x256.size inb_S544x1024_S16x256_519_768).toLoadRect)) (View.readCov u1 L1 (Rect.unit (s := S544x1024) ![518, 768] S16x256.size inb_S544x1024_S16x256_518_768).toLoadRect) (View.readCov u1 L1 (Rect.unit (s := S544x1024) ![517, 768] S16x256.size inb_S544x1024_S16x256_517_768).toLoadRect) (View.readCov u1 L1 (Rect.unit (s := S544x1024) ![516, 768] S16x256.size inb_S544x1024_S16x256_516_768).toLoadRect) (View.readCov u1 L1 (Rect.unit (s := S544x1024) ![515, 768] S16x256.size inb_S544x1024_S16x256_515_768).toLoadRect) (View.readCov u1 L1 (Rect.unit (s := S544x1024) ![514, 768] S16x256.size inb_S544x1024_S16x256_514_768).toLoadRect) (View.readCov u1 L1 (Rect.unit (s := S544x1024) ![513, 768] S16x256.size inb_S544x1024_S16x256_513_768).toLoadRect)) := by
  have hn := lt16 i
  have hx := B.h1015
  rw [B.hq hl] at h1 hx
  exact ⟨fun a b => pooled0_next P hn hx (by repeat' first | exact trivial | refine ⟨fun a b => load_v_next h1 _ a b, ?_⟩) a b,
    fun a b => pooled1_next P hn hx (by repeat' first | exact trivial | refine ⟨fun a b => load_v_next h1 _ a b, ?_⟩) a b,
    fun a b => pooled2_next P hn hx (by repeat' first | exact trivial | refine ⟨fun a b => load_v_next h1 _ a b, ?_⟩) a b,
    fun a b => pooled3_next P hn hx (by repeat' first | exact trivial | refine ⟨fun a b => load_v_next h1 _ a b, ?_⟩) a b⟩

variable {q0 q1 q2 q3 : Vec Ideal S512x256 .f32} {p0 p1 p2 p3 : Vec Ideal S16x256 .f32}

include B in
theorem dpn_canon (hp : Rows4 (r := 512) (pooled P) (512 * (i 0).val) q0 q1 q2 q3)
    (hn : (i 0).val < 15 → Rows4 (r := 16) (pooled P) (512 * (i 0).val + 512) p0 p1 p2 p3) (y : S528x1024.Idx) :
    View.canon ([⟨Rect.unit ![512, 768] S16x256.size inb_S528x1024_S16x256_512_768, k0_pay169 (F := Ideal) (BitVec.ofNat 32 (i 0).val) (k0_pay3 i) (k0_pay164 m30 m31 m32 m33) (k0_pay166 p3 m30 m31 m32 m33) (k0_pay167 p3 m30 m31 m32 m33) (k0_pay168 v1016) s3⟩,
        ⟨Rect.unit ![512, 512] S16x256.size inb_S528x1024_S16x256_512_512, k0_pay163 (F := Ideal) (k0_pay161 (k0_pay3 i) v1016 p2 (k0_pay159 m20) (k0_pay160 m21) m22 m23 s2) (k0_pay162 (BitVec.ofNat 32 (i 0).val))⟩,
        ⟨Rect.unit ![512, 256] S16x256.size inb_S528x1024_S16x256_512_256, k0_pay158 (F := Ideal) (BitVec.ofNat 32 (i 0).val) (k0_pay3 i) (k0_pay152 m10 m11 m12 m13) (k0_pay154 p1 m10 m11 m12 m13) (k0_pay155 p1 m10 m11 m12 m13) (k0_pay156 v1016) (k0_pay157 s1)⟩,
        ⟨Rect.unit ![512, 0] S16x256.size inb_S528x1024_S16x256_512_0, k0_pay151 (F := Ideal) (k0_pay149 (k0_pay3 i) v1016 p0 (k0_pay146 m00) (k0_pay147 m01) (k0_pay148 m02) m03 s0) (k0_pay150 (BitVec.ofNat 32 (i 0).val)) (FloatOps.ofBits .f32 1073741824#32)⟩,
        ⟨Rect.unit ![0, 768] S512x256.size inb_S528x1024_S512x256_0_768, k0_pay136 (F := Ideal) (k0_pay134 v629 q3 (k0_pay124 m30) (k0_pay125 m31) (k0_pay126 m32) (k0_pay127 m33) s3) (k0_pay135 (BitVec.ofNat 32 (i 0).val))⟩,
        ⟨Rect.unit ![0, 512] S512x256.size inb_S528x1024_S512x256_0_512, k0_pay120 (F := Ideal) (k0_pay119 v629 q2 (k0_pay112 m20) m21 m22 m23 s2) (Scalar.muli (BitVec.ofNat 32 (i 0).val) 512#32) 0#32⟩,
        ⟨Rect.unit ![0, 256] S512x256.size inb_S528x1024_S512x256_0_256, k0_pay108 (F := Ideal) (BitVec.ofNat 32 (i 0).val) (k0_pay99 m10 m11 m12 m13) (k0_pay101 q1 m10 m11 m12 m13) (k0_pay102 q1 m10 m11 m12 m13) (k0_pay104 v629 s1) (k0_pay105 v629 q1 m10 m11 m12 m13 s1)⟩,
        ⟨Rect.unit ![0, 0] S512x256.size inb_S528x1024_S512x256_0_0, k0_pay95 (F := Ideal) (BitVec.ofNat 32 (i 0).val) v629 (k0_pay88 m00 m01 m02 m03) (k0_pay90 q0 m00 m01 m02 m03) (k0_pay91 q0 m00 m01 m02 m03) s0⟩] : List (View.Piece (Elt Ideal) S528x1024 .f32)) y
      = rowsE (dpnC P D M S) (512 * (i 0).val) (y 0).val (y 1).val := by
  have h16 := lt16 i
  have v5 : (k0_pay3 (F := Ideal) i = 1 ∧ (i 0).val < 15 ∧ ∀ a b, v1016 (ix2 a b) = ((D (512 * (i 0).val + 512 + a) (1024 + b) : ℝ) : EReal))
      ∨ (k0_pay3 (F := Ideal) i = 0 ∧ ∀ t c, 512 * (i 0).val + 512 ≤ t → D t c = 0) := by
    rw [keepNext rfl]
    by_cases h : (i 0).val < 15
    · exact .inl ⟨if_pos h, h, fun a b => (B.h1016 a b).trans (by rw [B.hq h])⟩
    · exact .inr ⟨if_neg h, fun t c ht => (B.hz h t c ht).2⟩
  refine canon2 (n := 528) (m := 1024) (e := .f32) (g := rowsE (dpnC P D M S) (512 * (i 0).val)) ?_
    (fun y => View.cover_of_tiledBy _ ![16, 256] (by sl_kernel_rfl) y) y
  refine ⟨?_, ?_, ?_, ?_, ?_, ?_, ?_, ?_, trivial⟩
  · refine piece2 (by decide) _ (rowsE (dpnC P D M S) _) fun a b => ?_
    refine (dpn_next3 h16 B.g3 (v5.imp (fun h => ⟨h.1, h.2.2, (hn h.2.1).2.2.2⟩) id) a b).trans ?_
    rw [rowsE, ← add_assoc]; exact congrArg _ (dpnC_off P D M S _ 3 b b.isLt).symm
  · refine piece2 (by decide) _ (rowsE (dpnC P D M S) _) fun a b => ?_
    refine (dpn_next2 h16 B.g2 (v5.imp (fun h => ⟨h.1, h.2.2, (hn h.2.1).2.2.1⟩) id) a b).trans ?_
    rw [rowsE, ← add_assoc]; exact congrArg _ (dpnC_off P D M S _ 2 b b.isLt).symm
  · refine piece2 (by decide) _ (rowsE (dpnC P D M S) _) fun a b => ?_
    refine (dpn_next1 h16 B.g1 (v5.imp (fun h => ⟨h.1, h.2.2, (hn h.2.1).2.1⟩) id) a b).trans ?_
    rw [rowsE, ← add_assoc]; exact congrArg _ (dpnC_off P D M S _ 1 b b.isLt).symm
  · refine piece2 (by decide) _ (rowsE (dpnC P D M S) _) fun a b => ?_
    refine (dpn_next0 h16 B.g0 (v5.imp (fun h => ⟨h.1, h.2.2, (hn h.2.1).1⟩) id) a b).trans ?_
    rw [rowsE, ← add_assoc]; exact congrArg _ (dpnC_off P D M S _ 0 b b.isLt).symm
  · refine piece2 (by decide) _ (rowsE (dpnC P D M S) _) fun a b => ?_
    refine (dpn_main3 h16 ⟨B.h629, hp.2.2.2⟩ B.g3 a b).trans ?_
    rw [rowsE, zero_add]; exact congrArg _ (dpnC_off P D M S _ 3 b b.isLt).symm
  · refine piece2 (by decide) _ (rowsE (dpnC P D M S) _) fun a b => ?_
    refine (dpn_main2 h16 ⟨B.h629, hp.2.2.1⟩ B.g2 a b).trans ?_
    rw [rowsE, zero_add]; exact congrArg _ (dpnC_off P D M S _ 2 b b.isLt).symm
  · refine piece2 (by decide) _ (rowsE (dpnC P D M S) _) fun a b => ?_
    refine (dpn_main1 h16 ⟨B.h629, hp.2.1⟩ B.g1 a b).trans ?_
    rw [rowsE, zero_add]; exact congrArg _ (dpnC_off P D M S _ 1 b b.isLt).symm
  · refine piece2 (by decide) _ (rowsE (dpnC P D M S) _) fun a b => ?_
    refine (dpn_main0 h16 ⟨B.h629, hp.1⟩ B.g0 a b).trans ?_
    rw [rowsE, zero_add]; exact congrArg _ (dpnC_off P D M S _ 0 b b.isLt).symm

include B in
theorem dpo_canon (hp : Rows4 (r := 512) (pooled P) (512 * (i 0).val) q0 q1 q2 q3) (y : S512x1024.Idx) :
    View.canon ([⟨Rect.unit ![0, 768] S512x256.size inb_S512x1024_S512x256_0_768, k0_pay137 (F := Ideal) (k0_pay134 v629 q3 (k0_pay124 m30) (k0_pay125 m31) (k0_pay126 m32) (k0_pay127 m33) s3)⟩,
        ⟨Rect.unit ![0, 512] S512x256.size inb_S512x1024_S512x256_0_512, k0_pay121 (F := Ideal) (k0_pay119 v629 q2 (k0_pay112 m20) m21 m22 m23 s2)⟩,
        ⟨Rect.unit ![0, 256] S512x256.size inb_S512x1024_S512x256_0_256, k0_pay109 (F := Ideal) (k0_pay99 m10 m11 m12 m13) (k0_pay101 q1 m10 m11 m12 m13) (k0_pay102 q1 m10 m11 m12 m13) (k0_pay104 v629 s1) (k0_pay105 v629 q1 m10 m11 m12 m13 s1)⟩,
        ⟨Rect.unit ![0, 0] S512x256.size inb_S512x1024_S512x256_0_0, k0_pay96 (F := Ideal) v629 (k0_pay88 m00 m01 m02 m03) (k0_pay90 q0 m00 m01 m02 m03) (k0_pay91 q0 m00 m01 m02 m03) s0⟩] : List (View.Piece (Elt Ideal) S512x1024 .f32)) y
      = rowsE (dpoC P D M S) (512 * (i 0).val) (y 0).val (y 1).val := by
  refine canon2 (n := 512) (m := 1024) (e := .f32) (g := rowsE (dpoC P D M S) (512 * (i 0).val)) ?_
    (fun y => View.cover_of_tiledBy _ ![512, 256] (by sl_kernel_rfl) y) y
  refine ⟨?_, ?_, ?_, ?_, trivial⟩
  · refine piece2 (by decide) _ (rowsE (dpoC P D M S) _) fun a b => ?_
    refine (dpo_main3 ⟨B.h629, hp.2.2.2⟩ B.g3 a b).trans ?_
    rw [rowsE, zero_add]; exact congrArg _ (dpoC_off P D M S _ 3 b b.isLt).symm
  · refine piece2 (by decide) _ (rowsE (dpoC P D M S) _) fun a b => ?_
    refine (dpo_main2 ⟨B.h629, hp.2.2.1⟩ B.g2 a b).trans ?_
    rw [rowsE, zero_add]; exact congrArg _ (dpoC_off P D M S _ 2 b b.isLt).symm
  · refine piece2 (by decide) _ (rowsE (dpoC P D M S) _) fun a b => ?_
    refine (dpo_main1 ⟨B.h629, hp.2.1⟩ B.g1 a b).trans ?_
    rw [rowsE, zero_add]; exact congrArg _ (dpoC_off P D M S _ 1 b b.isLt).symm
  · refine piece2 (by decide) _ (rowsE (dpoC P D M S) _) fun a b => ?_
    refine (dpo_main0 ⟨B.h629, hp.1⟩ B.g0 a b).trans ?_
    rw [rowsE, zero_add]; exact congrArg _ (dpoC_off P D M S _ 0 b b.isLt).symm

omit B in
theorem load_dpn {T : ℕ} (h3 : ∀ y, View.canon L3 y = rowsE (dpnC P D M S) T (y 0).val (y 1).val) (g : ℕ) {o0 o1 k : ℕ} (e : o1 = 256 * g) (inb) (a : Fin k) (b : Fin 256) :
    View.readCov u3 L3 (Rect.unit (s := S528x1024) ![o0, o1] ![k, 256] inb).toLoadRect (ix2 a b) = ((dpn P D M S (T + a + o0) g b : ℝ) : EReal) := by
  rw [load2 (n := 528) (m := 1024) u3 L3 _ h3 inb a b, rowsE, e, dpnC_off _ _ _ _ _ _ _ b.isLt, show T + (o0 + a.val) = T + a + o0 by omega]
omit B in
theorem load_dpo {T : ℕ} (h4 : ∀ y, View.canon L4 y = rowsE (dpoC P D M S) T (y 0).val (y 1).val) (g : ℕ) {o1 k : ℕ} (e : o1 = 256 * g) (inb) (a : Fin k) (b : Fin 256) :
    View.readCov u4 L4 (Rect.unit (s := S512x1024) ![0, o1] ![k, 256] inb).toLoadRect (ix2 a b) = ((dpo P D M S (T + a) g b : ℝ) : EReal) := by
  rw [load2 (n := 512) (m := 1024) u4 L4 _ h4 inb a b, rowsE, e, dpoC_off _ _ _ _ _ _ _ b.isLt, zero_add]

omit B in
theorem dv_words {T : ℕ} (h3 : ∀ y, View.canon L3 y = rowsE (dpnC P D M S) T (y 0).val (y 1).val)
    (h4 : ∀ y, View.canon L4 y = rowsE (dpoC P D M S) T (y 0).val (y 1).val) :
    Rows4 (r := 512) (dv P D M S) T
      (k0_pay170 (F := Ideal) (View.readCov u3 L3 (Rect.unit (s := S528x1024) ![0, 0] S512x256.size inb_S528x1024_S512x256_0_0).toLoadRect) (View.readCov u3 L3 (Rect.unit (s := S528x1024) ![1, 0] S512x256.size inb_S528x1024_S512x256_1_0).toLoadRect) (View.readCov u4 L4 (Rect.unit (s := S512x1024) ![0, 0] S512x256.size inb_S512x1024_S512x256_0_0).toLoadRect))
      (k0_pay171 (F := Ideal) (View.readCov u3 L3 (Rect.unit (s := S528x1024) ![0, 256] S512x256.size inb_S528x1024_S512x256_0_256).toLoadRect) (View.readCov u3 L3 (Rect.unit (s := S528x1024) ![1, 256] S512x256.size inb_S528x1024_S512x256_1_256).toLoadRect) (View.readCov u3 L3 (Rect.unit (s := S528x1024) ![2, 256] S512x256.size inb_S528x1024_S512x256_2_256).toLoadRect) (View.readCov u3 L3 (Rect.unit (s := S528x1024) ![3, 256] S512x256.size inb_S528x1024_S512x256_3_256).toLoadRect) (View.readCov u4 L4 (Rect.unit (s := S512x1024) ![0, 256] S512x256.size inb_S512x1024_S512x256_0_256).toLoadRect))
      (k0_pay173 (F := Ideal) (k0_pay172 (View.readCov u3 L3 (Rect.unit (s := S528x1024) ![0, 512] S512x256.size inb_S528x1024_S512x256_0_512).toLoadRect) (View.readCov u3 L3 (Rect.unit (s := S528x1024) ![1, 512] S512x256.size inb_S528x1024_S512x256_1_512).toLoadRect) (View.readCov u3 L3 (Rect.unit (s := S528x1024) ![2, 512] S512x256.size inb_S528x1024_S512x256_2_512).toLoadRect) (View.readCov u3 L3 (Rect.unit (s := S528x1024) ![3, 512] S512x256.size inb_S528x1024_S512x256_3_512).toLoadRect) (View.readCov u3 L3 (Rect.unit (s := S528x1024) ![4, 512] S512x256.size inb_S528x1024_S512x256_4_512).toLoadRect) (View.readCov u3 L3 (Rect.unit (s := S528x1024) ![5, 512] S512x256.size inb_S528x1024_S512x256_5_512).toLoadRect) (View.readCov u3 L3 (Rect.unit (s := S528x1024) ![6, 512] S512x256.size inb_S528x1024_S512x256_6_512).toLoadRect) (View.readCov u3 L3 (Rect.unit (s := S528x1024) ![7, 512] S512x256.size inb_S528x1024_S512x256_7_512).toLoadRect)) (View.readCov u4 L4 (Rect.unit (s := S512x1024) ![0, 512] S512x256.size inb_S512x1024_S512x256_0_512).toLoadRect))
      (k0_pay175 (F := Ideal) (k0_pay174 (View.readCov u3 L3 (Rect.unit (s := S528x1024) ![0, 768] S512x256.size inb_S528x1024_S512x256_0_768).toLoadRect) (View.readCov u3 L3 (Rect.unit (s := S528x1024) ![1, 768] S512x256.size inb_S528x1024_S512x256_1_768).toLoadRect) (View.readCov u3 L3 (Rect.unit (s := S528x1024) ![2, 768] S512x256.size inb_S528x1024_S512x256_2_768).toLoadRect) (View.readCov u3 L3 (Rect.unit (s := S528x1024) ![3, 768] S512x256.size inb_S528x1024_S512x256_3_768).toLoadRect) (View.readCov u3 L3 (Rect.unit (s := S528x1024) ![4, 768] S512x256.size inb_S528x1024_S512x256_4_768).toLoadRect) (View.readCov u3 L3 (Rect.unit (s := S528x1024) ![5, 768] S512x256.size inb_S528x1024_S512x256_5_768).toLoadRect) (View.readCov u3 L3 (Rect.unit (s := S528x1024) ![6, 768] S512x256.size inb_S528x1024_S512x256_6_768).toLoadRect) (View.readCov u3 L3 (Rect.unit (s := S528x1024) ![7, 768] S512x256.size inb_S528x1024_S512x256_7_768).toLoadRect) (View.readCov u3 L3 (Rect.unit (s := S528x1024) ![8, 768] S512x256.size inb_S528x1024_S512x256_8_768).toLoadRect) (View.readCov u3 L3 (Rect.unit (s := S528x1024) ![9, 768] S512x256.size inb_S528x1024_S512x256_9_768).toLoadRect) (View.readCov u3 L3 (Rect.unit (s := S528x1024) ![10, 768] S512x256.size inb_S528x1024_S512x256_10_768).toLoadRect) (View.readCov u3 L3 (Rect.unit (s := S528x1024) ![11, 768] S512x256.size inb_S528x1024_S512x256_11_768).toLoadRect) (View.readCov u3 L3 (Rect.unit (s := S528x1024) ![12, 768] S512x256.size inb_S528x1024_S512x256_12_768).toLoadRect)) (View.readCov u3 L3 (Rect.unit (s := S528x1024) ![13, 768] S512x256.size inb_S528x1024_S512x256_13_768).toLoadRect) (View.readCov u3 L3 (Rect.unit (s := S528x1024) ![14, 768] S512x256.size inb_S528x1024_S512x256_14_768).toLoadRect) (View.readCov u3 L3 (Rect.unit (s := S528x1024) ![15, 768] S512x256.size inb_S528x1024_S512x256_15_768).toLoadRect) (View.readCov u4 L4 (Rect.unit (s := S512x1024) ![0, 768] S512x256.size inb_S512x1024_S512x256_0_768).toLoadRect)) := by
  refine ⟨fun a b => ?_, fun a b => ?_, fun a b => ?_, fun a b => ?_⟩
  · pointwise [k0_pay170]
    simp only [S512x256, Shape.size, load_dpn h3 0 (show 0 = 256 * 0 by rfl), load_dpo h4 0 (show 0 = 256 * 0 by rfl), ← EReal.coe_add, ← EReal.coe_sub]
    rw [dv, win0]
    simp only [Finset.sum_range_succ, Finset.sum_range_zero, zero_add, add_zero]
  · pointwise [k0_pay171]
    simp only [S512x256, Shape.size, load_dpn h3 1 (show 256 = 256 * 1 by rfl), load_dpo h4 1 (show 256 = 256 * 1 by rfl), ← EReal.coe_add, ← EReal.coe_sub]
    rw [dv, win1]
    simp only [Finset.sum_range_succ, Finset.sum_range_zero, zero_add, add_zero]
  · pointwise [k0_pay172, k0_pay173]
    simp only [S512x256, Shape.size, load_dpn h3 2 (show 512 = 256 * 2 by rfl), load_dpo h4 2 (show 512 = 256 * 2 by rfl), ← EReal.coe_add, ← EReal.coe_sub]
    rw [dv, win2]
    simp only [Finset.sum_range_succ, Finset.sum_range_zero, zero_add, add_zero]
  · pointwise [k0_pay174, k0_pay175]
    simp only [S512x256, Shape.size, load_dpn h3 3 (show 768 = 256 * 3 by rfl), load_dpo h4 3 (show 768 = 256 * 3 by rfl), ← EReal.coe_add, ← EReal.coe_sub]
    rw [dv, win3]
    simp only [Finset.sum_range_succ, Finset.sum_range_zero, zero_add, add_zero]
end
end Cert.Mixers
-- ==== Proof.Mixers.Sums.lean ====
module
public import proofs.«01_k».proof.Proof.Mixers.Store
@[expose] public section
set_option maxRecDepth 16384
/-! The sums over one tile: the gradients of the scale, of the pooling matrices and of the convolution weights. -/
noncomputable section
namespace Cert.Mixers
open Idealize.ShloMosaic Idealize.ShloMosaic.TcCoe
open Cert.KernelIdeal Cert.KernelIdeal.Gen

variable {P D W : ℕ → ℕ → ℝ} {M : ℕ → ℕ → ℕ → ℝ} {S : ℕ → ℝ} {i : grid0.Coords} {q : ℕ}
  {v40 v41 v14 v15 v628 v629 : Vec Ideal S512x1024 .f32} {v6 v7 v26 v329 v330 v20 v21 v1015 v1016 : Vec Ideal S16x1024 .f32} {w0 w1 w2 : Vec Ideal S1x1024 .f32}
  {m00 m01 m02 m03 m10 m11 m12 m13 m20 m21 m22 m23 m30 m31 m32 m33 : Vec Ideal S1x1x64x256 .f32} {s0 s1 s2 s3 : Vec Ideal S1x256 .f32}
  (B : Blocks P D W M S i q v40 v41 v14 v15 v628 v629 v6 v7 v26 v329 v330 v20 v21 v1015 v1016 w0 w1 w2 m00 m01 m02 m03 m10 m11 m12 m13 m20 m21 m22 m23 m30 m31 m32 m33 s0 s1 s2 s3)
  {q0 q1 q2 q3 : Vec Ideal S512x256 .f32}

/-- Tile `n`'s part of the scale's gradient, of the pooling matrices', and of the convolution weights'. -/
def dsR (P D : ℕ → ℕ → ℝ) (M : ℕ → ℕ → ℕ → ℝ) (n c : ℕ) : ℝ :=
  ∑ a : Fin 512, dsT P D M (c / 256) ⟨c % 256, Nat.mod_lt _ (by norm_num)⟩ (512 * n + a)
def dmR (P D : ℕ → ℕ → ℝ) (M : ℕ → ℕ → ℕ → ℝ) (S : ℕ → ℝ) (n g i : ℕ) (j : Fin 256) : ℝ := ∑ a : Fin 512, dmT P D M S g i j (512 * n + a)
def dwR (P D W : ℕ → ℕ → ℝ) (n k c : ℕ) : ℝ := ∑ a : Fin 512, dwT P D W k (512 * n + a) c

theorem dsR_off (n g b : ℕ) (h : b < 256) : dsR P D M n (256 * g + b) = ∑ a : Fin 512, dsT P D M g ⟨b, h⟩ (512 * n + a) := by
  rw [dsR, show (256 * g + b) / 256 = g by omega]
  simp only [show (256 * g + b) % 256 = b by omega]

variable {r0 r1 r2 r3 : Vec Ideal S1x256 .f32}
theorem ds_row {n : ℕ} (h0 : ∀ b, r0 (ix2 0 b) = ((∑ a : Fin 512, dsT P D M 0 b (512 * n + a) : ℝ) : EReal))
    (h1 : ∀ b, r1 (ix2 0 b) = ((∑ a : Fin 512, dsT P D M 1 b (512 * n + a) : ℝ) : EReal))
    (h2 : ∀ b, r2 (ix2 0 b) = ((∑ a : Fin 512, dsT P D M 2 b (512 * n + a) : ℝ) : EReal))
    (h3 : ∀ b, r3 (ix2 0 b) = ((∑ a : Fin 512, dsT P D M 3 b (512 * n + a) : ℝ) : EReal)) (a b) :
    k0_pay176 (F := Ideal) r0 r1 r2 r3 (ix2 a b) = ((dsR P D M n b : ℝ) : EReal) := by
  obtain ⟨b, hb⟩ := b
  have ha : a = 0 := Subsingleton.elim _ _
  subst ha
  pointwise [k0_pay176]
  simp only [h0, h1, h2, h3, ← dsR_off, mul_zero, zero_add]
  split_ifs with h h' h''
  · rfl
  all_goals (congr 2; omega)

include B in
theorem ds_words (hp : Rows4 (r := 512) (pooled P) (512 * (i 0).val) q0 q1 q2 q3) (a b) :
    k0_pay176 (F := Ideal)
      ((k0_pay97 v629 (k0_pay91 q0 m00 m01 m02 m03)))
      ((k0_pay110 (k0_pay102 q1 m10 m11 m12 m13) (k0_pay103 v629)))
      ((k0_pay122 (k0_pay116 q2 (k0_pay112 m20) m21 m22 m23) (k0_pay117 v629)))
      ((k0_pay138 (k0_pay131 q3 (k0_pay124 m30) (k0_pay125 m31) (k0_pay126 m32) (k0_pay127 m33)) (k0_pay132 v629))) (ix2 a b) = ((dsR P D M (i 0).val b : ℝ) : EReal) :=
  ds_row (ds_word0 ⟨B.h629, hp.1⟩ B.g0)
    (ds_word1 ⟨B.h629, hp.2.1⟩ B.g1)
    (ds_word2 ⟨B.h629, hp.2.2.1⟩ B.g2)
    (ds_word3 ⟨B.h629, hp.2.2.2⟩ B.g3) a b

/-- The four groups' parts of the pooling matrices' gradient. -/
def Mats (P D : ℕ → ℕ → ℝ) (M : ℕ → ℕ → ℕ → ℝ) (S : ℕ → ℝ) (n : ℕ) (g0 g1 g2 g3 : Vec Ideal S256x256 .f32) : Prop :=
  (∀ a b, g0 (ix2 a b) = ((dmR P D M S n 0 a b : ℝ) : EReal)) ∧ (∀ a b, g1 (ix2 a b) = ((dmR P D M S n 1 a b : ℝ) : EReal)) ∧ (∀ a b, g2 (ix2 a b) = ((dmR P D M S n 2 a b : ℝ) : EReal)) ∧ (∀ a b, g3 (ix2 a b) = ((dmR P D M S n 3 a b : ℝ) : EReal))

include B in
theorem dm_words (hp : Rows4 (r := 512) (pooled P) (512 * (i 0).val) q0 q1 q2 q3) : Mats P D M S (i 0).val
      (k0_pay98 (F := Ideal) q0 (k0_pay93 v629 (k0_pay90 q0 m00 m01 m02 m03) (k0_pay91 q0 m00 m01 m02 m03) s0))
      (k0_pay111 (F := Ideal) q1 (k0_pay101 q1 m10 m11 m12 m13) (k0_pay102 q1 m10 m11 m12 m13) (k0_pay104 v629 s1) (k0_pay105 v629 q1 m10 m11 m12 m13 s1))
      (k0_pay123 (F := Ideal) q2 (k0_pay118 v629 q2 (k0_pay112 m20) m21 m22 m23 s2))
      (k0_pay139 (F := Ideal) q3 (k0_pay133 v629 q3 (k0_pay124 m30) (k0_pay125 m31) (k0_pay126 m32) (k0_pay127 m33) s3)) :=
  ⟨dm_word0 ⟨B.h629, hp.1⟩ B.g0,
    dm_word1 ⟨B.h629, hp.2.1⟩ B.g1,
    dm_word2 ⟨B.h629, hp.2.2.1⟩ B.g2,
    dm_word3 ⟨B.h629, hp.2.2.2⟩ B.g3⟩

theorem in0 {n m d e o0 o1 : ℕ} (inb : ∀ a : Fin 4, (![o0, o1, 0, 0] : Fin 4 → ℕ) a + (![1, 1, d, e] : Fin 4 → ℕ) a ≤ (![n, m, d, e] : Fin 4 → ℕ) a) : o0 < n :=
  inb 0
theorem in1 {n m d e o0 o1 : ℕ} (inb : ∀ a : Fin 4, (![o0, o1, 0, 0] : Fin 4 → ℕ) a + (![1, 1, d, e] : Fin 4 → ℕ) a ≤ (![n, m, d, e] : Fin 4 → ℕ) a) : o1 < m :=
  inb 1

theorem piece4 {n m d e o0 o1 : ℕ} (inb) (p : (⟨4, ![1, 1, d, e]⟩ : Shape).Idx → EReal) (g : (⟨4, ![n, m, d, e]⟩ : Shape).Idx → EReal)
    (h : ∀ a b, p (ix4 0 0 a b) = g (ix4 ⟨o0, in0 inb⟩ ⟨o1, in1 inb⟩ a b)) :
    ∀ x : (Rect.unit (s := ⟨4, ![n, m, d, e]⟩) ![o0, o1, 0, 0] ![1, 1, d, e] inb).shape.Idx,
      p x = g ((Rect.unit (s := ⟨4, ![n, m, d, e]⟩) ![o0, o1, 0, 0] ![1, 1, d, e] inb).emb x) := by
  intro x
  have hx : x = ix4 (0 : Fin 1) (0 : Fin 1) (x 2) (x 3) := by
    refine (eq_ix4 x).trans ?_
    rw [show x 0 = (0 : Fin 1) from @Subsingleton.elim (Fin 1) _ _ _, show x 1 = (0 : Fin 1) from @Subsingleton.elim (Fin 1) _ _ _]
    rfl
  refine (congrArg p hx).trans ((h _ _).trans (congrArg g ?_))
  funext t
  apply Fin.ext
  rw [ValueKit.rect_emb_unit_val]
  have z0 : (x 0).val = 0 := congrArg Fin.val (show x 0 = (0 : Fin 1) from @Subsingleton.elim (Fin 1) _ _ _)
  have z1 : (x 1).val = 0 := congrArg Fin.val (show x 1 = (0 : Fin 1) from @Subsingleton.elim (Fin 1) _ _ _)
  fin_cases t
  · show o0 = o0 + (x 0).val
    omega
  · show o1 = o1 + (x 1).val
    omega
  · exact (Nat.zero_add _).symm
  · exact (Nat.zero_add _).symm

variable {sg : RefSig} {κ : Kind} {sp : Space}
theorem loadIn4 {n m d e o0 o1 : ℕ} {w : Memref sg κ sp ⟨4, ![n, m, d, e]⟩ .f32} (hw : w.IsWhole) (x : Vec Ideal ⟨4, ![n, m, d, e]⟩ .f32)
    (inb) (a : Fin d) (b : Fin e) :
    View.readAt (Elt Ideal) w.view (Rect.unit (s := ⟨4, ![n, m, d, e]⟩) ![o0, o1, 0, 0] ![1, 1, d, e] inb).toLoadRect (hw.unread x) (ix4 0 0 a b)
      = x (ix4 ⟨o0, in0 inb⟩ ⟨o1, in1 inb⟩ a b) := by
  rw [hw.readAt_unread]
  refine congrArg x ?_
  funext t
  apply Fin.ext
  refine (Rect.idx_unit_val _ _ _ _ _).trans ?_
  fin_cases t
  · rfl
  · rfl
  · exact Nat.zero_add _
  · exact Nat.zero_add _

variable {g0 g1 g2 g3 : Vec Ideal S256x256 .f32}

theorem dm_piecesA {n : ℕ} (h : Mats P D M S n g0 g1 g2 g3) :
    View.PiecesOf (fun y : S4x4x64x256.Idx => ((dmR P D M S n (y 1).val (64 * (y 0).val + (y 2).val) (y 3) : ℝ) : EReal))
      ([⟨Rect.unit ![3, 3, 0, 0] S1x1x64x256.size inb_S4x4x64x256_S1x1x64x256_3_3_0_0, k0_pay224 (F := Ideal) g3⟩,
        ⟨Rect.unit ![2, 3, 0, 0] S1x1x64x256.size inb_S4x4x64x256_S1x1x64x256_2_3_0_0, k0_pay221 (F := Ideal) g3⟩,
        ⟨Rect.unit ![1, 3, 0, 0] S1x1x64x256.size inb_S4x4x64x256_S1x1x64x256_1_3_0_0, k0_pay218 (F := Ideal) g3⟩,
        ⟨Rect.unit ![0, 3, 0, 0] S1x1x64x256.size inb_S4x4x64x256_S1x1x64x256_0_3_0_0, k0_pay215 (F := Ideal) (k0_pay214 g3)⟩,
        ⟨Rect.unit ![3, 2, 0, 0] S1x1x64x256.size inb_S4x4x64x256_S1x1x64x256_3_2_0_0, k0_pay212 (F := Ideal) g2⟩,
        ⟨Rect.unit ![2, 2, 0, 0] S1x1x64x256.size inb_S4x4x64x256_S1x1x64x256_2_2_0_0, k0_pay209 (F := Ideal) g2⟩,
        ⟨Rect.unit ![1, 2, 0, 0] S1x1x64x256.size inb_S4x4x64x256_S1x1x64x256_1_2_0_0, k0_pay206 (F := Ideal) g2⟩,
        ⟨Rect.unit ![0, 2, 0, 0] S1x1x64x256.size inb_S4x4x64x256_S1x1x64x256_0_2_0_0, k0_pay203 (F := Ideal) g2⟩,
        ⟨Rect.unit ![3, 1, 0, 0] S1x1x64x256.size inb_S4x4x64x256_S1x1x64x256_3_1_0_0, k0_pay200 (F := Ideal) g1⟩,
        ⟨Rect.unit ![2, 1, 0, 0] S1x1x64x256.size inb_S4x4x64x256_S1x1x64x256_2_1_0_0, k0_pay197 (F := Ideal) g1⟩,
        ⟨Rect.unit ![1, 1, 0, 0] S1x1x64x256.size inb_S4x4x64x256_S1x1x64x256_1_1_0_0, k0_pay194 (F := Ideal) (k0_pay193 g1)⟩,
        ⟨Rect.unit ![0, 1, 0, 0] S1x1x64x256.size inb_S4x4x64x256_S1x1x64x256_0_1_0_0, k0_pay191 (F := Ideal) g1⟩,
        ⟨Rect.unit ![3, 0, 0, 0] S1x1x64x256.size inb_S4x4x64x256_S1x1x64x256_3_0_0_0, k0_pay188 (F := Ideal) g0⟩,
        ⟨Rect.unit ![2, 0, 0, 0] S1x1x64x256.size inb_S4x4x64x256_S1x1x64x256_2_0_0_0, k0_pay185 (F := Ideal) g0⟩,
        ⟨Rect.unit ![1, 0, 0, 0] S1x1x64x256.size inb_S4x4x64x256_S1x1x64x256_1_0_0_0, k0_pay182 (F := Ideal) g0⟩,
        ⟨Rect.unit ![0, 0, 0, 0] S1x1x64x256.size inb_S4x4x64x256_S1x1x64x256_0_0_0_0, k0_pay179 (F := Ideal) g0⟩] : List (View.Piece (Elt Ideal) S4x4x64x256 .f32)) := by
  obtain ⟨h0, h1, h2, h3⟩ := h
  refine ⟨?_, ?_, ?_, ?_, ?_, ?_, ?_, ?_, ?_, ?_, ?_, ?_, ?_, ?_, ?_, ?_, trivial⟩
  iterate 16
    refine piece4 (by decide) _ (fun y : S4x4x64x256.Idx => ((dmR P D M S n (y 1).val (64 * (y 0).val + (y 2).val) (y 3) : ℝ) : EReal)) fun a b => ?_
    pointwise [k0_pay1, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224]
    simp only [h0, h1, h2, h3]
    try rfl

theorem dm_piecesB {n : ℕ} (h : Mats P D M S n g0 g1 g2 g3) {z : Memref sg κ sp S4x4x64x256 .f32} (hz : z.IsWhole) (xo : Vec Ideal S4x4x64x256 .f32) :
    View.PiecesOf (fun y : S4x4x64x256.Idx => xo y + ((dmR P D M S n (y 1).val (64 * (y 0).val + (y 2).val) (y 3) : ℝ) : EReal))
      ([⟨Rect.unit ![3, 3, 0, 0] S1x1x64x256.size inb_S4x4x64x256_S1x1x64x256_3_3_0_0, k0_pay1 (F := Ideal) (k0_pay223 g3) (View.readAt (Elt Ideal) z.view (Rect.unit (s := S4x4x64x256) ![3, 3, 0, 0] S1x1x64x256.size inb_S4x4x64x256_S1x1x64x256_3_3_0_0).toLoadRect (hz.unread xo))⟩,
        ⟨Rect.unit ![2, 3, 0, 0] S1x1x64x256.size inb_S4x4x64x256_S1x1x64x256_2_3_0_0, k0_pay222 (F := Ideal) g3 (View.readAt (Elt Ideal) z.view (Rect.unit (s := S4x4x64x256) ![2, 3, 0, 0] S1x1x64x256.size inb_S4x4x64x256_S1x1x64x256_2_3_0_0).toLoadRect (hz.unread xo))⟩,
        ⟨Rect.unit ![1, 3, 0, 0] S1x1x64x256.size inb_S4x4x64x256_S1x1x64x256_1_3_0_0, k0_pay219 (F := Ideal) g3 (View.readAt (Elt Ideal) z.view (Rect.unit (s := S4x4x64x256) ![1, 3, 0, 0] S1x1x64x256.size inb_S4x4x64x256_S1x1x64x256_1_3_0_0).toLoadRect (hz.unread xo))⟩,
        ⟨Rect.unit ![0, 3, 0, 0] S1x1x64x256.size inb_S4x4x64x256_S1x1x64x256_0_3_0_0, k0_pay216 (F := Ideal) (k0_pay214 g3) (View.readAt (Elt Ideal) z.view (Rect.unit (s := S4x4x64x256) ![0, 3, 0, 0] S1x1x64x256.size inb_S4x4x64x256_S1x1x64x256_0_3_0_0).toLoadRect (hz.unread xo))⟩,
        ⟨Rect.unit ![3, 2, 0, 0] S1x1x64x256.size inb_S4x4x64x256_S1x1x64x256_3_2_0_0, k0_pay213 (F := Ideal) g2 (View.readAt (Elt Ideal) z.view (Rect.unit (s := S4x4x64x256) ![3, 2, 0, 0] S1x1x64x256.size inb_S4x4x64x256_S1x1x64x256_3_2_0_0).toLoadRect (hz.unread xo))⟩,
        ⟨Rect.unit ![2, 2, 0, 0] S1x1x64x256.size inb_S4x4x64x256_S1x1x64x256_2_2_0_0, k0_pay210 (F := Ideal) g2 (View.readAt (Elt Ideal) z.view (Rect.unit (s := S4x4x64x256) ![2, 2, 0, 0] S1x1x64x256.size inb_S4x4x64x256_S1x1x64x256_2_2_0_0).toLoadRect (hz.unread xo))⟩,
        ⟨Rect.unit ![1, 2, 0, 0] S1x1x64x256.size inb_S4x4x64x256_S1x1x64x256_1_2_0_0, k0_pay207 (F := Ideal) g2 (View.readAt (Elt Ideal) z.view (Rect.unit (s := S4x4x64x256) ![1, 2, 0, 0] S1x1x64x256.size inb_S4x4x64x256_S1x1x64x256_1_2_0_0).toLoadRect (hz.unread xo))⟩,
        ⟨Rect.unit ![0, 2, 0, 0] S1x1x64x256.size inb_S4x4x64x256_S1x1x64x256_0_2_0_0, k0_pay204 (F := Ideal) (k0_pay202 g2) (View.readAt (Elt Ideal) z.view (Rect.unit (s := S4x4x64x256) ![0, 2, 0, 0] S1x1x64x256.size inb_S4x4x64x256_S1x1x64x256_0_2_0_0).toLoadRect (hz.unread xo))⟩,
        ⟨Rect.unit ![3, 1, 0, 0] S1x1x64x256.size inb_S4x4x64x256_S1x1x64x256_3_1_0_0, k0_pay201 (F := Ideal) g1 (View.readAt (Elt Ideal) z.view (Rect.unit (s := S4x4x64x256) ![3, 1, 0, 0] S1x1x64x256.size inb_S4x4x64x256_S1x1x64x256_3_1_0_0).toLoadRect (hz.unread xo))⟩,
        ⟨Rect.unit ![2, 1, 0, 0] S1x1x64x256.size inb_S4x4x64x256_S1x1x64x256_2_1_0_0, k0_pay198 (F := Ideal) g1 (View.readAt (Elt Ideal) z.view (Rect.unit (s := S4x4x64x256) ![2, 1, 0, 0] S1x1x64x256.size inb_S4x4x64x256_S1x1x64x256_2_1_0_0).toLoadRect (hz.unread xo))⟩,
        ⟨Rect.unit ![1, 1, 0, 0] S1x1x64x256.size inb_S4x4x64x256_S1x1x64x256_1_1_0_0, k0_pay195 (F := Ideal) (k0_pay193 g1) (View.readAt (Elt Ideal) z.view (Rect.unit (s := S4x4x64x256) ![1, 1, 0, 0] S1x1x64x256.size inb_S4x4x64x256_S1x1x64x256_1_1_0_0).toLoadRect (hz.unread xo))⟩,
        ⟨Rect.unit ![0, 1, 0, 0] S1x1x64x256.size inb_S4x4x64x256_S1x1x64x256_0_1_0_0, k0_pay192 (F := Ideal) g1 (View.readAt (Elt Ideal) z.view (Rect.unit (s := S4x4x64x256) ![0, 1, 0, 0] S1x1x64x256.size inb_S4x4x64x256_S1x1x64x256_0_1_0_0).toLoadRect (hz.unread xo))⟩,
        ⟨Rect.unit ![3, 0, 0, 0] S1x1x64x256.size inb_S4x4x64x256_S1x1x64x256_3_0_0_0, k0_pay189 (F := Ideal) g0 (View.readAt (Elt Ideal) z.view (Rect.unit (s := S4x4x64x256) ![3, 0, 0, 0] S1x1x64x256.size inb_S4x4x64x256_S1x1x64x256_3_0_0_0).toLoadRect (hz.unread xo))⟩,
        ⟨Rect.unit ![2, 0, 0, 0] S1x1x64x256.size inb_S4x4x64x256_S1x1x64x256_2_0_0_0, k0_pay186 (F := Ideal) g0 (View.readAt (Elt Ideal) z.view (Rect.unit (s := S4x4x64x256) ![2, 0, 0, 0] S1x1x64x256.size inb_S4x4x64x256_S1x1x64x256_2_0_0_0).toLoadRect (hz.unread xo))⟩,
        ⟨Rect.unit ![1, 0, 0, 0] S1x1x64x256.size inb_S4x4x64x256_S1x1x64x256_1_0_0_0, k0_pay183 (F := Ideal) (k0_pay181 g0) (View.readAt (Elt Ideal) z.view (Rect.unit (s := S4x4x64x256) ![1, 0, 0, 0] S1x1x64x256.size inb_S4x4x64x256_S1x1x64x256_1_0_0_0).toLoadRect (hz.unread xo))⟩,
        ⟨Rect.unit ![0, 0, 0, 0] S1x1x64x256.size inb_S4x4x64x256_S1x1x64x256_0_0_0_0, k0_pay180 (F := Ideal) g0 (View.readAt (Elt Ideal) z.view (Rect.unit (s := S4x4x64x256) ![0, 0, 0, 0] S1x1x64x256.size inb_S4x4x64x256_S1x1x64x256_0_0_0_0).toLoadRect (hz.unread xo))⟩] : List (View.Piece (Elt Ideal) S4x4x64x256 .f32)) := by
  obtain ⟨h0, h1, h2, h3⟩ := h
  refine ⟨?_, ?_, ?_, ?_, ?_, ?_, ?_, ?_, ?_, ?_, ?_, ?_, ?_, ?_, ?_, ?_, trivial⟩
  iterate 16
    refine piece4 (by decide) _ (fun y : S4x4x64x256.Idx => xo y + ((dmR P D M S n (y 1).val (64 * (y 0).val + (y 2).val) (y 3) : ℝ) : EReal)) fun a b => ?_
    pointwise [k0_pay1, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224]
    simp only [h0, h1, h2, h3, loadIn4 hz xo]
    try rfl
end Cert.Mixers
-- ==== Proof.Mixers.Rows.lean ====
module
public import proofs.«01_k».proof.Proof.Mixers.Sums
@[expose] public section
set_option maxRecDepth 16384
/-! The buffers of one tile, and the loads of them. -/
noncomputable section
namespace Cert.Mixers
open Idealize.ShloMosaic Idealize.ShloMosaic.TcCoe
open Cert.KernelIdeal Cert.KernelIdeal.Gen

variable {P D W : ℕ → ℕ → ℝ} {M : ℕ → ℕ → ℕ → ℝ} {S : ℕ → ℝ} {i : grid0.Coords} {q : ℕ}
  {v40 v41 v14 v15 v628 v629 : Vec Ideal S512x1024 .f32} {v6 v7 v26 v329 v330 v20 v21 v1015 v1016 : Vec Ideal S16x1024 .f32} {w0 w1 w2 : Vec Ideal S1x1024 .f32}
  {m00 m01 m02 m03 m10 m11 m12 m13 m20 m21 m22 m23 m30 m31 m32 m33 : Vec Ideal S1x1x64x256 .f32} {s0 s1 s2 s3 : Vec Ideal S1x256 .f32}
  (B : Blocks P D W M S i q v40 v41 v14 v15 v628 v629 v6 v7 v26 v329 v330 v20 v21 v1015 v1016 w0 w1 w2 m00 m01 m02 m03 m10 m11 m12 m13 m20 m21 m22 m23 m30 m31 m32 m33 s0 s1 s2 s3)
variable {sg : RefSig} {κ : Kind} {sp : Space} {u0 : View sg κ sp S544x1024 .f32} {u2 : View sg κ sp S528x1024 .f32}
  {L0 : List (View.Piece (Elt Ideal) S544x1024 .f32)} {L2 : List (View.Piece (Elt Ideal) S528x1024 .f32)}

include B in
theorem cu_of (y : S544x1024.Idx) :
    View.canon ([⟨Rect.unit ![528, 0] S16x1024.size inb_S544x1024_S16x1024_528_0, k0_pay6 (F := Ideal) v20 v21⟩,
      ⟨Rect.unit ![16, 0] S512x1024.size inb_S544x1024_S512x1024_16_0, k0_pay5 (F := Ideal) v14 v15⟩,
      ⟨Rect.unit ![0, 0] S16x1024.size inb_S544x1024_S16x1024_0_0, k0_pay4 (F := Ideal) i v6 v7⟩] : List (View.Piece (Elt Ideal) S544x1024 .f32)) y
      = cuB P (512 * (i 0).val) q (y 0).val (y 1).val :=
  cu_canon P (i := i) rfl B.h6 B.h7 B.h14 B.h15 B.h20 B.h21 y
include B in
theorem v_of (y : S544x1024.Idx) :
    View.canon ([⟨Rect.unit ![528, 0] S16x1024.size inb_S544x1024_S16x1024_528_0, k0_pay9 (F := Ideal) v1015⟩,
      ⟨Rect.unit ![16, 0] S512x1024.size inb_S544x1024_S512x1024_16_0, k0_pay8 (F := Ideal) v628⟩,
      ⟨Rect.unit ![0, 0] S16x1024.size inb_S544x1024_S16x1024_0_0, k0_pay7 (F := Ideal) i v26⟩] : List (View.Piece (Elt Ideal) S544x1024 .f32)) y
      = vB P (512 * (i 0).val) q (y 0).val (y 1).val :=
  v_canon P (i := i) rfl B.h26 B.h628 B.h1015 y

include B in
theorem conv_of (h0 : ∀ y, View.canon L0 y = cuB P (512 * (i 0).val) q (y 0).val (y 1).val) (a b) :
    k0_pay10 (F := Ideal) w0 (View.readCov u0 L0 (Rect.unit (s := S544x1024) ![14, 0] S512x1024.size inb_S544x1024_S512x1024_14_0).toLoadRect) w1 (View.readCov u0 L0 (Rect.unit (s := S544x1024) ![15, 0] S512x1024.size inb_S544x1024_S512x1024_15_0).toLoadRect) w2
      (View.readCov u0 L0 (Rect.unit (s := S544x1024) ![16, 0] S512x1024.size inb_S544x1024_S512x1024_16_0).toLoadRect) (ix2 a b) = ((conv P W (512 * (i 0).val + a) b : ℝ) : EReal) :=
  conv_word P W B.h0 B.h1 B.h2 (fun a b => load_cu h0 (by decide) _ a b) (fun a b => load_cu h0 (by decide) _ a b)
    (fun a b => load_cu h0 (by decide) _ a b) a b

include B in
theorem ca_of (h0 : ∀ y, View.canon L0 y = cuB P (512 * (i 0).val) q (y 0).val (y 1).val) (a b) :
    k0_pay11 (F := Ideal) v40 w0 (View.readCov u0 L0 (Rect.unit (s := S544x1024) ![14, 0] S512x1024.size inb_S544x1024_S512x1024_14_0).toLoadRect) w1 (View.readCov u0 L0 (Rect.unit (s := S544x1024) ![15, 0] S512x1024.size inb_S544x1024_S512x1024_15_0).toLoadRect) w2
      (View.readCov u0 L0 (Rect.unit (s := S544x1024) ![16, 0] S512x1024.size inb_S544x1024_S512x1024_16_0).toLoadRect) (ix2 a b) = ((ca P W (512 * (i 0).val + a) b : ℝ) : EReal) :=
  ca_word P W B.hb (fun a b => conv_of B h0 a b) a b

include B in
theorem next_of (h0 : ∀ y, View.canon L0 y = cuB P (512 * (i 0).val) q (y 0).val (y 1).val) :
    (k0_pay3 (F := Ideal) i = 1 ∧ (∀ a b, v329 (ix2 a b) = ((P (512 * (i 0).val + 512 + a) b : ℝ) : EReal))
        ∧ (∀ a b, v330 (ix2 a b) = ((D (512 * (i 0).val + 512 + a) b : ℝ) : EReal))
        ∧ (∀ a b, k0_pay50 (F := Ideal) v329 w0 (View.readCov u0 L0 (Rect.unit (s := S544x1024) ![526, 0] S16x1024.size inb_S544x1024_S16x1024_526_0).toLoadRect) w1 (View.readCov u0 L0 (Rect.unit (s := S544x1024) ![527, 0] S16x1024.size inb_S544x1024_S16x1024_527_0).toLoadRect) w2
          (View.readCov u0 L0 (Rect.unit (s := S544x1024) ![528, 0] S16x1024.size inb_S544x1024_S16x1024_528_0).toLoadRect) (ix2 a b) = ((ca P W (512 * (i 0).val + 512 + a) b : ℝ) : EReal)))
      ∨ (k0_pay3 (F := Ideal) i = 0 ∧ ∀ t c, 512 * (i 0).val + 512 ≤ t → P t c = 0) := by
  rw [keepNext rfl]
  by_cases h : (i 0).val < 15
  · have hp := B.h329
    have hd := B.h330
    rw [B.hq h] at h0 hp hd
    exact .inl ⟨if_pos h, hp, hd, fun a b => ca_next P W hp B.h0 B.h1 B.h2 (fun a b => load_cu_next h0 _ a b)
      (fun a b => load_cu_next h0 _ a b) (fun a b => load_cu_next h0 _ a b) a b⟩
  · exact .inr ⟨if_neg h, fun t c ht => (B.hz h t c ht).1⟩

omit B in
theorem dconv3 {T : ℕ} (h2 : ∀ y, View.canon L2 y = rowsE (dconv P D W) T (y 0).val (y 1).val) :
    (∀ a b, (View.readCov u2 L2 (Rect.unit (s := S528x1024) ![0, 0] S512x1024.size inb_S528x1024_S512x1024_0_0).toLoadRect) (ix2 a b) = ((dconv P D W (T + (0 + a)) (0 + b) : ℝ) : EReal))
      ∧ (∀ a b, (View.readCov u2 L2 (Rect.unit (s := S528x1024) ![1, 0] S512x1024.size inb_S528x1024_S512x1024_1_0).toLoadRect) (ix2 a b) = ((dconv P D W (T + (1 + a)) (0 + b) : ℝ) : EReal))
      ∧ (∀ a b, (View.readCov u2 L2 (Rect.unit (s := S528x1024) ![2, 0] S512x1024.size inb_S528x1024_S512x1024_2_0).toLoadRect) (ix2 a b) = ((dconv P D W (T + (2 + a)) (0 + b) : ℝ) : EReal)) :=
  ⟨fun a b => load2 (n := 528) (m := 1024) u2 L2 _ h2 _ a b, fun a b => load2 (n := 528) (m := 1024) u2 L2 _ h2 _ a b,
    fun a b => load2 (n := 528) (m := 1024) u2 L2 _ h2 _ a b⟩

omit B in
/-- What a buffer holds after stores that cover it. -/
theorem out2 {n m : ℕ} {e : EltTy} {v : View sg κ sp ⟨2, ![n, m]⟩ e} {f} {L : List (View.Piece (Elt Ideal) ⟨2, ![n, m]⟩ e)} {g : ℕ → ℕ → Elt Ideal e}
    (hL : View.PiecesOf (fun y : (⟨2, ![n, m]⟩ : Shape).Idx => g (y 0).val (y 1).val) L)
    (hc : ∀ y, ∃ p ∈ L, y ∈ p.1.set) (y : (⟨2, ![n, m]⟩ : Shape).Idx) :
    v.read (Elt Ideal) (v.writes (Elt Ideal) f L) y = g (y 0).val (y 1).val :=
  View.read_writes_apply_of_pieces v f (fun y : (⟨2, ![n, m]⟩ : Shape).Idx => g (y 0).val (y 1).val) L (fun p hp => hL.mem p hp) y (hc y)
omit B in
theorem out4 {s : Shape} {v : View sg κ sp s .f32} {f} {L : List (View.Piece (Elt Ideal) s .f32)} {g : s.Idx → EReal}
    (hL : View.PiecesOf (Val := Elt Ideal) (e := .f32) g L) (hc : ∀ y, ∃ p ∈ L, y ∈ p.1.set) (y : s.Idx) :
    v.read (Elt Ideal) (v.writes (Elt Ideal) f L) y = g y :=
  View.read_writes_apply_of_pieces v f g L (fun p hp => hL.mem p hp) y (hc y)
end Cert.Mixers
-- ==== Proof.Mixers.Outs.lean ====
module
public import proofs.«01_k».proof.Proof.Mixers.Rows
public import proofs.«01_k».proof.Proof.Gen.KernelIdeal.Value
@[expose] public section
set_option maxRecDepth 16384
/-! What one grid point of the mixers' backward call leaves in its output blocks. -/
noncomputable section
namespace Cert.Mixers
open Idealize.ShloMosaic Idealize.ShloMosaic.TcCoe
open Cert.KernelIdeal Cert.KernelIdeal.Gen

/-- The windows' blocks at one grid point. -/
structure Ins (P D W : ℕ → ℕ → ℝ) (M : ℕ → ℕ → ℕ → ℝ) (S : ℕ → ℝ) (i : grid0.Coords) (q : ℕ)
  (x0 x1 x2 x3 x4 x5 : Vec Ideal S512x1024 .f32) (x6 x7 x8 x9 x10 x11 x12 x13 x14 : Vec Ideal S16x1024 .f32) (x15 : Vec Ideal S3x1024 .f32)
  (x16 : Vec Ideal S4x4x64x256 .f32) (x17 : Vec Ideal S1x1024 .f32) : Prop where
  i0 : ∀ a b, x0 (ix2 a b) = ((P (512 * (i 0).val + a) b : ℝ) : EReal)
  i1 : ∀ a b, x1 (ix2 a b) = ((P (512 * (i 0).val + a) (1024 + b) : ℝ) : EReal)
  i2 : ∀ a b, x2 (ix2 a b) = ((P (512 * (i 0).val + a) (2048 + b) : ℝ) : EReal)
  i3 : ∀ a b, x3 (ix2 a b) = ((P (512 * (i 0).val + a) (3072 + b) : ℝ) : EReal)
  i4 : ∀ a b, x4 (ix2 a b) = ((D (512 * (i 0).val + a) b : ℝ) : EReal)
  i5 : ∀ a b, x5 (ix2 a b) = ((D (512 * (i 0).val + a) (1024 + b) : ℝ) : EReal)
  i6 : ∀ a b, x6 (ix2 a b) = ((P (512 * (i 0).val - 16 + a) (1024 + b) : ℝ) : EReal)
  i7 : ∀ a b, x7 (ix2 a b) = ((P (512 * (i 0).val - 16 + a) (2048 + b) : ℝ) : EReal)
  i8 : ∀ a b, x8 (ix2 a b) = ((P (512 * (i 0).val - 16 + a) (3072 + b) : ℝ) : EReal)
  i9 : ∀ a b, x9 (ix2 a b) = ((P (q + a) b : ℝ) : EReal)
  i10 : ∀ a b, x10 (ix2 a b) = ((P (q + a) (1024 + b) : ℝ) : EReal)
  i11 : ∀ a b, x11 (ix2 a b) = ((P (q + a) (2048 + b) : ℝ) : EReal)
  i12 : ∀ a b, x12 (ix2 a b) = ((P (q + a) (3072 + b) : ℝ) : EReal)
  i13 : ∀ a b, x13 (ix2 a b) = ((D (q + a) b : ℝ) : EReal)
  i14 : ∀ a b, x14 (ix2 a b) = ((D (q + a) (1024 + b) : ℝ) : EReal)
  i15 : ∀ a b, x15 (ix2 a b) = ((W a b : ℝ) : EReal)
  i16 : ∀ c g a b, x16 (ix4 c g a b) = ((M g (64 * c + a) b : ℝ) : EReal)
  i17 : ∀ a b, x17 (ix2 a b) = ((S b : ℝ) : EReal)
  hq : (i 0).val < 15 → q = 512 * (i 0).val + 512
  hz : ¬(i 0).val < 15 → ∀ t c, 512 * (i 0).val + 512 ≤ t → P t c = 0 ∧ D t c = 0

variable {P D W : ℕ → ℕ → ℝ} {M : ℕ → ℕ → ℕ → ℝ} {S : ℕ → ℝ} {i : grid0.Coords} {q : ℕ}
  {x0 x1 x2 x3 x4 x5 : Vec Ideal S512x1024 .f32} {x6 x7 x8 x9 x10 x11 x12 x13 x14 : Vec Ideal S16x1024 .f32} {x15 : Vec Ideal S3x1024 .f32}
  {x16 : Vec Ideal S4x4x64x256 .f32} {x17 : Vec Ideal S1x1024 .f32}

theorem loadAll {n m : ℕ} {w : Memref sig .tc .vmem ⟨2, ![n, m]⟩ .f32} (hw : w.IsWhole) (x : Vec Ideal ⟨2, ![n, m]⟩ .f32) (inb) :
    View.readAt (Elt Ideal) w.view (Rect.unit (s := ⟨2, ![n, m]⟩) ![0, 0] ![n, m] inb).toLoadRect (hw.unread x) = x := by
  funext y
  rw [hw.readAt_unread]
  refine congrArg x ?_
  funext t
  apply Fin.ext
  refine (Rect.idx_unit_val _ _ _ _ _).trans ?_
  fin_cases t <;> exact Nat.zero_add _

theorem pieceAll {n m : ℕ} (inb) (p : (⟨2, ![n, m]⟩ : Shape).Idx → EReal) (g : (⟨2, ![n, m]⟩ : Shape).Idx → EReal)
    (h : ∀ a b, p (ix2 a b) = g (ix2 a b)) :
    ∀ x : (Rect.unit (s := ⟨2, ![n, m]⟩) ![0, 0] ![n, m] inb).shape.Idx, p x = g ((Rect.unit (s := ⟨2, ![n, m]⟩) ![0, 0] ![n, m] inb).emb x) := by
  intro x
  refine (congrArg p (show x = ix2 (x 0) (x 1) from eq_ix2 x)).trans ((h _ _).trans (congrArg g ?_))
  funext t
  apply Fin.ext
  rw [ValueKit.rect_emb_unit_val]
  fin_cases t <;> exact (Nat.zero_add _).symm

/-- What the program reads of its windows' blocks. -/
abbrev rd2 {n m : ℕ} {w : Memref sig .tc .vmem ⟨2, ![n, m]⟩ .f32} (hw : w.IsWhole) (x : Vec Ideal ⟨2, ![n, m]⟩ .f32) (o0 o1 k l : ℕ) (inb) :=
  View.readAt (Elt Ideal) w.view (Rect.unit (s := ⟨2, ![n, m]⟩) ![o0, o1] ![k, l] inb).toLoadRect (hw.unread x)
abbrev rd4 {w : Memref sig .tc .vmem S4x4x64x256 .f32} (hw : w.IsWhole) (x : Vec Ideal S4x4x64x256 .f32) (o0 o1 : ℕ) (inb) :=
  View.readAt (Elt Ideal) w.view (Rect.unit (s := S4x4x64x256) ![o0, o1, 0, 0] S1x1x64x256.size inb).toLoadRect (hw.unread x)

variable (m : (ℓ : Loc nD τ sig) → Buf (Elt Ideal) ℓ) (c : Dev nD) (t : Fin cfg0.N)

/-- What a grid point is given, of its windows' blocks. -/
abbrev InsAt (P D W : ℕ → ℕ → ℝ) (M : ℕ → ℕ → ℕ → ℝ) (S : ℕ → ℝ) (q : ℕ) : Prop :=
  Ins P D W M S (grid0.coords t) q (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) (iblk (F := Ideal) m c 14 t) (iblk (F := Ideal) m c 15 t) (iblk (F := Ideal) m c 16 t) (iblk (F := Ideal) m c 17 t)

theorem blocks_of (I : InsAt m c t P D W M S q) : Blocks P D W M S (grid0.coords t) q
    (rd2 (hs0_0 t) (iblk (F := Ideal) m c 0 t) 0 0 512 1024 (by decide)) (rd2 (hs0_4 t) (iblk (F := Ideal) m c 4 t) 0 0 512 1024 (by decide)) (rd2 (hs0_1 t) (iblk (F := Ideal) m c 1 t) 0 0 512 1024 (by decide)) (rd2 (hs0_2 t) (iblk (F := Ideal) m c 2 t) 0 0 512 1024 (by decide))
    (rd2 (hs0_3 t) (iblk (F := Ideal) m c 3 t) 0 0 512 1024 (by decide)) (rd2 (hs0_5 t) (iblk (F := Ideal) m c 5 t) 0 0 512 1024 (by decide)) (rd2 (hs0_6 t) (iblk (F := Ideal) m c 6 t) 0 0 16 1024 (by decide)) (rd2 (hs0_7 t) (iblk (F := Ideal) m c 7 t) 0 0 16 1024 (by decide))
    (rd2 (hs0_8 t) (iblk (F := Ideal) m c 8 t) 0 0 16 1024 (by decide)) (rd2 (hs0_9 t) (iblk (F := Ideal) m c 9 t) 0 0 16 1024 (by decide)) (rd2 (hs0_13 t) (iblk (F := Ideal) m c 13 t) 0 0 16 1024 (by decide)) (rd2 (hs0_10 t) (iblk (F := Ideal) m c 10 t) 0 0 16 1024 (by decide))
    (rd2 (hs0_11 t) (iblk (F := Ideal) m c 11 t) 0 0 16 1024 (by decide)) (rd2 (hs0_12 t) (iblk (F := Ideal) m c 12 t) 0 0 16 1024 (by decide)) (rd2 (hs0_14 t) (iblk (F := Ideal) m c 14 t) 0 0 16 1024 (by decide)) (rd2 (hs0_15 t) (iblk (F := Ideal) m c 15 t) 0 0 1 1024 (by decide))
    (rd2 (hs0_15 t) (iblk (F := Ideal) m c 15 t) 1 0 1 1024 (by decide)) (rd2 (hs0_15 t) (iblk (F := Ideal) m c 15 t) 2 0 1 1024 (by decide)) (rd4 (hs0_16 t) (iblk (F := Ideal) m c 16 t) 0 0 (by decide)) (rd4 (hs0_16 t) (iblk (F := Ideal) m c 16 t) 1 0 (by decide))
    (rd4 (hs0_16 t) (iblk (F := Ideal) m c 16 t) 2 0 (by decide)) (rd4 (hs0_16 t) (iblk (F := Ideal) m c 16 t) 3 0 (by decide)) (rd4 (hs0_16 t) (iblk (F := Ideal) m c 16 t) 0 1 (by decide)) (rd4 (hs0_16 t) (iblk (F := Ideal) m c 16 t) 1 1 (by decide))
    (rd4 (hs0_16 t) (iblk (F := Ideal) m c 16 t) 2 1 (by decide)) (rd4 (hs0_16 t) (iblk (F := Ideal) m c 16 t) 3 1 (by decide)) (rd4 (hs0_16 t) (iblk (F := Ideal) m c 16 t) 0 2 (by decide)) (rd4 (hs0_16 t) (iblk (F := Ideal) m c 16 t) 1 2 (by decide))
    (rd4 (hs0_16 t) (iblk (F := Ideal) m c 16 t) 2 2 (by decide)) (rd4 (hs0_16 t) (iblk (F := Ideal) m c 16 t) 3 2 (by decide)) (rd4 (hs0_16 t) (iblk (F := Ideal) m c 16 t) 0 3 (by decide)) (rd4 (hs0_16 t) (iblk (F := Ideal) m c 16 t) 1 3 (by decide))
    (rd4 (hs0_16 t) (iblk (F := Ideal) m c 16 t) 2 3 (by decide)) (rd4 (hs0_16 t) (iblk (F := Ideal) m c 16 t) 3 3 (by decide)) (rd2 (hs0_17 t) (iblk (F := Ideal) m c 17 t) 0 0 1 256 (by decide)) (rd2 (hs0_17 t) (iblk (F := Ideal) m c 17 t) 0 256 1 256 (by decide))
    (rd2 (hs0_17 t) (iblk (F := Ideal) m c 17 t) 0 512 1 256 (by decide)) (rd2 (hs0_17 t) (iblk (F := Ideal) m c 17 t) 0 768 1 256 (by decide)) := by
  constructor
  · exact fun a b => (congrFun (loadAll (n := 512) (m := 1024) _ _ _) _).trans (I.i0 a b)
  · exact fun a b => (congrFun (loadAll (n := 512) (m := 1024) _ _ _) _).trans (I.i4 a b)
  · exact fun a b => (congrFun (loadAll (n := 512) (m := 1024) _ _ _) _).trans (I.i1 a b)
  · exact fun a b => (congrFun (loadAll (n := 512) (m := 1024) _ _ _) _).trans (I.i2 a b)
  · exact fun a b => (congrFun (loadAll (n := 512) (m := 1024) _ _ _) _).trans (I.i3 a b)
  · exact fun a b => (congrFun (loadAll (n := 512) (m := 1024) _ _ _) _).trans (I.i5 a b)
  · exact fun a b => (congrFun (loadAll (n := 16) (m := 1024) _ _ _) _).trans (I.i6 a b)
  · exact fun a b => (congrFun (loadAll (n := 16) (m := 1024) _ _ _) _).trans (I.i7 a b)
  · exact fun a b => (congrFun (loadAll (n := 16) (m := 1024) _ _ _) _).trans (I.i8 a b)
  · exact fun a b => (congrFun (loadAll (n := 16) (m := 1024) _ _ _) _).trans (I.i9 a b)
  · exact fun a b => (congrFun (loadAll (n := 16) (m := 1024) _ _ _) _).trans (I.i13 a b)
  · exact fun a b => (congrFun (loadAll (n := 16) (m := 1024) _ _ _) _).trans (I.i10 a b)
  · exact fun a b => (congrFun (loadAll (n := 16) (m := 1024) _ _ _) _).trans (I.i11 a b)
  · exact fun a b => (congrFun (loadAll (n := 16) (m := 1024) _ _ _) _).trans (I.i12 a b)
  · exact fun a b => (congrFun (loadAll (n := 16) (m := 1024) _ _ _) _).trans (I.i14 a b)
  iterate 3 exact fun a b => loadIn2 (n := 3) (m := 1024) (hs0_15 t) (iblk (F := Ideal) m c 15 t) (fun a b => ((W a b : ℝ) : EReal)) I.i15 _ a b
  iterate 4 exact
    ⟨fun a b => (loadIn4 (n := 4) (m := 4) (d := 64) (e := 256) (hs0_16 t) (iblk (F := Ideal) m c 16 t) _ a b).trans (I.i16 _ _ a b),
      fun a b => (loadIn4 (n := 4) (m := 4) (d := 64) (e := 256) (hs0_16 t) (iblk (F := Ideal) m c 16 t) _ a b).trans (I.i16 _ _ a b),
      fun a b => (loadIn4 (n := 4) (m := 4) (d := 64) (e := 256) (hs0_16 t) (iblk (F := Ideal) m c 16 t) _ a b).trans (I.i16 _ _ a b),
      fun a b => (loadIn4 (n := 4) (m := 4) (d := 64) (e := 256) (hs0_16 t) (iblk (F := Ideal) m c 16 t) _ a b).trans (I.i16 _ _ a b),
      fun a b => loadIn2 (n := 1) (m := 1024) (hs0_17 t) (iblk (F := Ideal) m c 17 t) (fun _ b => ((S b : ℝ) : EReal)) I.i17 _ a b⟩
  · exact I.hq
  · exact I.hz

variable {n : ℕ}

theorem dw_one {v586 v43 v47 v52 : Vec Ideal S512x1024 .f32} (h : ∀ k b, k0_pay79 (F := Ideal) v586 (k0_pay75 v586 v43) v47 v52 (ix2 k b) = ((dwR P D W n k b : ℝ) : EReal)) :
    View.PiecesOf (fun y : S3x1024.Idx => ((dwR P D W n (y 0).val (y 1).val : ℝ) : EReal))
      ([⟨Rect.unit ![0, 0] S3x1024.size inb_S3x1024_S3x1024_0_0, k0_pay79 (F := Ideal) v586 (k0_pay75 v586 v43) v47 v52⟩] : List (View.Piece (Elt Ideal) S3x1024 .f32)) :=
  ⟨piece2 (by decide) _ (fun k c => ((dwR P D W n k c : ℝ) : EReal)) fun a b => (h a b).trans (by rw [zero_add, zero_add]), trivial⟩

theorem dw_add {v586 v43 v47 v52 : Vec Ideal S512x1024 .f32} (h : ∀ k b, k0_pay79 (F := Ideal) v586 (k0_pay75 v586 v43) v47 v52 (ix2 k b) = ((dwR P D W n k b : ℝ) : EReal))
    {z : Memref sig .tc .vmem S3x1024 .f32} (hz : z.IsWhole) (xo : Vec Ideal S3x1024 .f32) :
    View.PiecesOf (fun y : S3x1024.Idx => xo y + ((dwR P D W n (y 0).val (y 1).val : ℝ) : EReal))
      ([⟨Rect.unit ![0, 0] S3x1024.size inb_S3x1024_S3x1024_0_0, k0_pay80 (F := Ideal) v586 (k0_pay75 v586 v43) v47 v52
        (View.readAt (Elt Ideal) z.view (Rect.unit (s := S3x1024) ![0, 0] S3x1024.size inb_S3x1024_S3x1024_0_0).toLoadRect (hz.unread xo))⟩] : List (View.Piece (Elt Ideal) S3x1024 .f32)) := by
  rw [loadAll (n := 3) (m := 1024) hz xo]
  refine ⟨pieceAll (n := 3) (m := 1024) (by decide) _ (fun y => xo y + ((dwR P D W n (y 0).val (y 1).val : ℝ) : EReal)) fun a b => ?_, trivial⟩
  pointwise [k0_pay80]
  rw [h]

theorem ds_one {r0 r1 r2 r3 : Vec Ideal S1x256 .f32} (h : ∀ a b, k0_pay176 (F := Ideal) r0 r1 r2 r3 (ix2 a b) = ((dsR P D M n b : ℝ) : EReal)) :
    View.PiecesOf (fun y : S1x1024.Idx => ((dsR P D M n (y 1).val : ℝ) : EReal))
      ([⟨Rect.unit ![0, 0] S1x1024.size inb_S1x1024_S1x1024_0_0, k0_pay176 (F := Ideal) r0 r1 r2 r3⟩] : List (View.Piece (Elt Ideal) S1x1024 .f32)) :=
  ⟨piece2 (by decide) _ (fun _ c => ((dsR P D M n c : ℝ) : EReal)) fun a b => (h a b).trans (by rw [zero_add]), trivial⟩

theorem ds_add {r0 r1 r2 r3 : Vec Ideal S1x256 .f32} (h : ∀ a b, k0_pay176 (F := Ideal) r0 r1 r2 r3 (ix2 a b) = ((dsR P D M n b : ℝ) : EReal))
    {z : Memref sig .tc .vmem S1x1024 .f32} (hz : z.IsWhole) (xo : Vec Ideal S1x1024 .f32) :
    View.PiecesOf (fun y : S1x1024.Idx => xo y + ((dsR P D M n (y 1).val : ℝ) : EReal))
      ([⟨Rect.unit ![0, 0] S1x1024.size inb_S1x1024_S1x1024_0_0, k0_pay177 (F := Ideal) r0 r1 r2 r3
        (View.readAt (Elt Ideal) z.view (Rect.unit (s := S1x1024) ![0, 0] S1x1024.size inb_S1x1024_S1x1024_0_0).toLoadRect (hz.unread xo))⟩] : List (View.Piece (Elt Ideal) S1x1024 .f32)) := by
  rw [loadAll (n := 1) (m := 1024) hz xo]
  refine ⟨pieceAll (n := 1) (m := 1024) (by decide) _ (fun y => xo y + ((dsR P D M n (y 1).val : ℝ) : EReal)) fun a b => ?_, trivial⟩
  pointwise [k0_pay177]
  rw [h]

set_option backward.isDefEq.respectTransparency.types false in
theorem rows_A (h : t.val % 16 = 0) (h1 : ¬1 ≤ t.val) (I : InsAt m c t P D W M S q) (y : S512x4096.Idx) :
    (outsAt0 (F := Ideal) m c t.val t.isLt).1 y = rowsE (dproj P D W M S) (512 * (grid0.coords t 0).val) (y 0).val (y 1).val := by
  rw [outsAt0_A m c t h h1 h h1 h h1 h h1 h h1 h h1 h h1 h h1 h h1 h h1 h h1 h h1 h h1 h h1 h h1 h h1 h h1 h h1]
  have B := blocks_of m c t I
  dsimp only
  unfold out0_A_18
  refine out2 (n := 512) (m := 4096) (e := .bf16) (g := rowsE (dproj P D W M S) (512 * (grid0.coords t 0).val)) ?_
    (fun y => View.cover_of_tiledBy _ ![512, 128] (by sl_kernel_rfl) y) y
  refine dproj_pieces P D W M S B.hb B.hy B.h14 B.h15 B.h0 B.h1 B.h2 ?_ ?_ ?_ ?_
  · exact dconv3 (fun y => dconv_canon P D W B.hb B.hy (ca_of B (cu_of B)) (next_of B (cu_of B)) y)
  · exact conv_of B (cu_of B)
  · exact ca_of B (cu_of B)
  · exact dv_words (fun y => dpn_canon B (pooled_words B (v_of B)) (fun h => pooled_next B h (v_of B)) y)
      (fun y => dpo_canon B (pooled_words B (v_of B)) y)

set_option backward.isDefEq.respectTransparency.types false in
theorem dw_A (h : t.val % 16 = 0) (h1 : ¬1 ≤ t.val) (I : InsAt m c t P D W M S q) (y : S3x1024.Idx) :
    (outsAt0 (F := Ideal) m c t.val t.isLt).2.1 y = ((dwR P D W (grid0.coords t 0).val (y 0).val (y 1).val : ℝ) : EReal) := by
  rw [outsAt0_A m c t h h1 h h1 h h1 h h1 h h1 h h1 h h1 h h1 h h1 h h1 h h1 h h1 h h1 h h1 h h1 h h1 h h1 h h1]
  have B := blocks_of m c t I
  dsimp only
  unfold out0_A_19
  refine out4 (s := S3x1024) (g := fun y => ((dwR P D W (grid0.coords t 0).val (y 0).val (y 1).val : ℝ) : EReal)) ?_ (fun y => View.cover_of_tiledL _ ![3, 1024] (by sl_kernel_rfl) y) y
  refine dw_one (dconvw_word P D W ?_ ?_ ?_ ?_)
  · exact (dconv3 (fun y => dconv_canon P D W B.hb B.hy (ca_of B (cu_of B)) (next_of B (cu_of B)) y)).1
  iterate 3 exact fun a b => load_cu (cu_of B) (by decide) _ a b

set_option backward.isDefEq.respectTransparency.types false in
theorem dm_A (h : t.val % 16 = 0) (h1 : ¬1 ≤ t.val) (I : InsAt m c t P D W M S q) (y : S4x4x64x256.Idx) :
    (outsAt0 (F := Ideal) m c t.val t.isLt).2.2.1 y = ((dmR P D M S (grid0.coords t 0).val (y 1).val (64 * (y 0).val + (y 2).val) (y 3) : ℝ) : EReal) := by
  rw [outsAt0_A m c t h h1 h h1 h h1 h h1 h h1 h h1 h h1 h h1 h h1 h h1 h h1 h h1 h h1 h h1 h h1 h h1 h h1 h h1]
  have B := blocks_of m c t I
  dsimp only
  unfold out0_A_20
  refine out4 (s := S4x4x64x256) (g := fun y => ((dmR P D M S (grid0.coords t 0).val (y 1).val (64 * (y 0).val + (y 2).val) (y 3) : ℝ) : EReal)) ?_ (fun y => View.cover_of_tiledL _ ![1, 1, 64, 256] (by sl_kernel_rfl) y) y
  exact dm_piecesA (dm_words B (pooled_words B (v_of B)))

set_option backward.isDefEq.respectTransparency.types false in
theorem ds_A (h : t.val % 16 = 0) (h1 : ¬1 ≤ t.val) (I : InsAt m c t P D W M S q) (y : S1x1024.Idx) :
    (outsAt0 (F := Ideal) m c t.val t.isLt).2.2.2 y = ((dsR P D M (grid0.coords t 0).val (y 1).val : ℝ) : EReal) := by
  rw [outsAt0_A m c t h h1 h h1 h h1 h h1 h h1 h h1 h h1 h h1 h h1 h h1 h h1 h h1 h h1 h h1 h h1 h h1 h h1 h h1]
  have B := blocks_of m c t I
  dsimp only
  unfold out0_A_21
  refine out4 (s := S1x1024) (g := fun y => ((dsR P D M (grid0.coords t 0).val (y 1).val : ℝ) : EReal)) ?_ (fun y => View.cover_of_tiledL _ ![1, 1024] (by sl_kernel_rfl) y) y
  exact ds_one (ds_words B (pooled_words B (v_of B)))

set_option backward.isDefEq.respectTransparency.types false in
theorem rows_B (h : ¬t.val % 16 = 0) (h1 : 1 ≤ t.val) (I : InsAt m c t P D W M S q) (y : S512x4096.Idx) :
    (outsAt0 (F := Ideal) m c t.val t.isLt).1 y = rowsE (dproj P D W M S) (512 * (grid0.coords t 0).val) (y 0).val (y 1).val := by
  rw [outsAt0_B m c t h h1 h h1 h h1 h h1 h h1 h h1 h h1 h h1 h h1 h h1 h h1 h h1 h h1 h h1 h h1 h h1 h h1 h h1]
  have B := blocks_of m c t I
  dsimp only
  unfold out0_B_18
  refine out2 (n := 512) (m := 4096) (e := .bf16) (g := rowsE (dproj P D W M S) (512 * (grid0.coords t 0).val)) ?_
    (fun y => View.cover_of_tiledBy _ ![512, 128] (by sl_kernel_rfl) y) y
  refine dproj_pieces P D W M S B.hb B.hy B.h14 B.h15 B.h0 B.h1 B.h2 ?_ ?_ ?_ ?_
  · exact dconv3 (fun y => dconv_canon P D W B.hb B.hy (ca_of B (cu_of B)) (next_of B (cu_of B)) y)
  · exact conv_of B (cu_of B)
  · exact ca_of B (cu_of B)
  · exact dv_words (fun y => dpn_canon B (pooled_words B (v_of B)) (fun h => pooled_next B h (v_of B)) y)
      (fun y => dpo_canon B (pooled_words B (v_of B)) y)

set_option backward.isDefEq.respectTransparency.types false in
theorem dw_B (h : ¬t.val % 16 = 0) (h1 : 1 ≤ t.val) (I : InsAt m c t P D W M S q) (y : S3x1024.Idx) :
    (outsAt0 (F := Ideal) m c t.val t.isLt).2.1 y = (outsAt0 (F := Ideal) m c (t.val - 1) (Nat.lt_of_le_of_lt (Nat.sub_le _ _) t.isLt)).2.1 y + ((dwR P D W (grid0.coords t 0).val (y 0).val (y 1).val : ℝ) : EReal) := by
  rw [outsAt0_B m c t h h1 h h1 h h1 h h1 h h1 h h1 h h1 h h1 h h1 h h1 h h1 h h1 h h1 h h1 h h1 h h1 h h1 h h1]
  have B := blocks_of m c t I
  dsimp only
  unfold out0_B_19
  refine out4 (s := S3x1024) (g := fun y => (outsAt0 (F := Ideal) m c (t.val - 1) (Nat.lt_of_le_of_lt (Nat.sub_le _ _) t.isLt)).2.1 y + ((dwR P D W (grid0.coords t 0).val (y 0).val (y 1).val : ℝ) : EReal)) ?_ (fun y => View.cover_of_tiledL _ ![3, 1024] (by sl_kernel_rfl) y) y
  refine dw_add (dconvw_word P D W ?_ ?_ ?_ ?_) (hs0_19 t) _
  · exact (dconv3 (fun y => dconv_canon P D W B.hb B.hy (ca_of B (cu_of B)) (next_of B (cu_of B)) y)).1
  iterate 3 exact fun a b => load_cu (cu_of B) (by decide) _ a b

set_option backward.isDefEq.respectTransparency.types false in
theorem dm_B (h : ¬t.val % 16 = 0) (h1 : 1 ≤ t.val) (I : InsAt m c t P D W M S q) (y : S4x4x64x256.Idx) :
    (outsAt0 (F := Ideal) m c t.val t.isLt).2.2.1 y = (outsAt0 (F := Ideal) m c (t.val - 1) (Nat.lt_of_le_of_lt (Nat.sub_le _ _) t.isLt)).2.2.1 y + ((dmR P D M S (grid0.coords t 0).val (y 1).val (64 * (y 0).val + (y 2).val) (y 3) : ℝ) : EReal) := by
  rw [outsAt0_B m c t h h1 h h1 h h1 h h1 h h1 h h1 h h1 h h1 h h1 h h1 h h1 h h1 h h1 h h1 h h1 h h1 h h1 h h1]
  have B := blocks_of m c t I
  dsimp only
  unfold out0_B_20
  refine out4 (s := S4x4x64x256) (g := fun y => (outsAt0 (F := Ideal) m c (t.val - 1) (Nat.lt_of_le_of_lt (Nat.sub_le _ _) t.isLt)).2.2.1 y + ((dmR P D M S (grid0.coords t 0).val (y 1).val (64 * (y 0).val + (y 2).val) (y 3) : ℝ) : EReal)) ?_ (fun y => View.cover_of_tiledL _ ![1, 1, 64, 256] (by sl_kernel_rfl) y) y
  exact dm_piecesB (dm_words B (pooled_words B (v_of B))) (hs0_20 t) _

set_option backward.isDefEq.respectTransparency.types false in
theorem ds_B (h : ¬t.val % 16 = 0) (h1 : 1 ≤ t.val) (I : InsAt m c t P D W M S q) (y : S1x1024.Idx) :
    (outsAt0 (F := Ideal) m c t.val t.isLt).2.2.2 y = (outsAt0 (F := Ideal) m c (t.val - 1) (Nat.lt_of_le_of_lt (Nat.sub_le _ _) t.isLt)).2.2.2 y + ((dsR P D M (grid0.coords t 0).val (y 1).val : ℝ) : EReal) := by
  rw [outsAt0_B m c t h h1 h h1 h h1 h h1 h h1 h h1 h h1 h h1 h h1 h h1 h h1 h h1 h h1 h h1 h h1 h h1 h h1 h h1]
  have B := blocks_of m c t I
  dsimp only
  unfold out0_B_21
  refine out4 (s := S1x1024) (g := fun y => (outsAt0 (F := Ideal) m c (t.val - 1) (Nat.lt_of_le_of_lt (Nat.sub_le _ _) t.isLt)).2.2.2 y + ((dsR P D M (grid0.coords t 0).val (y 1).val : ℝ) : EReal)) ?_ (fun y => View.cover_of_tiledL _ ![1, 1024] (by sl_kernel_rfl) y) y
  exact ds_add (ds_words B (pooled_words B (v_of B))) (hs0_21 t) _

end Cert.Mixers
-- ==== Proof.Mixers.Arrays.lean ====
module
public import proofs.«01_k».proof.Proof.Mixers.Outs
public import proofs.«01_k».proof.Proof.Gen.KernelIdeal.Value
public import Idealize.ShloMosaic.Lib.Pipeline.ValueKit
@[expose] public section
set_option maxRecDepth 16384
/-! The blocks of the arguments at each point, the sums over the points, and the four result arrays. -/
noncomputable section
namespace Cert.Mixers
open Idealize.ShloMosaic Idealize.ShloMosaic.TcCoe Idealize.SL.Sem
open Cert.KernelIdeal Cert.KernelIdeal.Gen

theorem lt_N (t : Fin cfg0.N) : t.val < 16 := lt_of_lt_of_eq t.isLt N_0
theorem coord : ∀ t : Fin cfg0.N, (grid0.coords t 0).val = t.val := by decide +kernel
/-- The first row of the sixteen after point `t`'s rows (the array's last sixteen at the last point). -/
def nx (t : Fin cfg0.N) : ℕ := if t.val < 15 then 512 * t.val + 512 else 8176
theorem nx_lt (t : Fin cfg0.N) : nx t + 16 ≤ 8192 := by unfold nx; split <;> omega

/-- The five arguments hold the real numbers `P`, `D`, `W`, `M` and `S`, which are zero past the last row. -/
structure Args (P D W : ℕ → ℕ → ℝ) (M : ℕ → ℕ → ℕ → ℝ) (S : ℕ → ℝ)
    (x0 : S8192x4096.Idx → EReal) (x1 : S8192x2048.Idx → EReal) (x2 : S3x1024.Idx → EReal) (x3 : S4x256x256.Idx → EReal) (x4 : S1x1024.Idx → EReal) : Prop where
  hP : ∀ (r : Fin 8192) (k : Fin 4096), x0 (ix2 r k) = ((P r k : ℝ) : EReal)
  hD : ∀ (r : Fin 8192) (k : Fin 2048), x1 (ix2 r k) = ((D r k : ℝ) : EReal)
  hW : ∀ (r : Fin 3) (k : Fin 1024), x2 (ix2 r k) = ((W r k : ℝ) : EReal)
  hM : ∀ (g : Fin 4) (r k : Fin 256), x3 (ix3 g r k) = ((M g r k : ℝ) : EReal)
  hS : ∀ (r : Fin 1) (k : Fin 1024), x4 (ix2 r k) = ((S k : ℝ) : EReal)
  zP : ∀ r k, 8192 ≤ r → P r k = 0
  zD : ∀ r k, 8192 ≤ r → D r k = 0

variable (m : (ℓ : Loc nD τ sig) → Buf (Elt Ideal) ℓ) (c : Dev nD)

theorem V_v1 : V m c main_v1 = transpose S4x4x64x256 [1, 0, 2, 3] (shapeCast S4x4x64x256 (m ((c : Thread nD τ).loc main_arg3)) shapeCasts_S4x256x256_S4x4x64x256) transposes_S4x4x64x256_S4x4x64x256_1_0_2_3 := by
  unfold V
  unfold hostOps0
  after_results
  rfl

theorem pool_tr (x : S4x256x256.Idx → EReal) (k g : Fin 4) (a : Fin 64) (b : Fin 256) :
    transpose S4x4x64x256 [1, 0, 2, 3] (shapeCast S4x4x64x256 x shapeCasts_S4x256x256_S4x4x64x256) transposes_S4x4x64x256_S4x4x64x256_1_0_2_3 (ix4 k g a b)
      = x (ix3 g ⟨64 * k.val + a.val, by omega⟩ b) := by
  refine (show _ = shapeCast S4x4x64x256 x shapeCasts_S4x256x256_S4x4x64x256 (ix4 g k a b) from ?_).trans ?_
  · pointwise
  · pointwise
    exact congrArg (fun r => x (ix3 g r b)) (Fin.ext (show k.val * 64 + a.val = 64 * k.val + a.val by omega))

variable {P D W : ℕ → ℕ → ℝ} {M : ℕ → ℕ → ℕ → ℝ} {S : ℕ → ℝ}

theorem off_0 : ∀ t : Fin cfg0.N, win0_0.index t 0 * win0_0.size 0 = 512 * t.val ∧ win0_0.index t 1 * win0_0.size 1 = 0 := by decide +kernel
theorem off_1 : ∀ t : Fin cfg0.N, win0_1.index t 0 * win0_1.size 0 = 512 * t.val ∧ win0_1.index t 1 * win0_1.size 1 = 1024 := by decide +kernel
theorem off_2 : ∀ t : Fin cfg0.N, win0_2.index t 0 * win0_2.size 0 = 512 * t.val ∧ win0_2.index t 1 * win0_2.size 1 = 2048 := by decide +kernel
theorem off_3 : ∀ t : Fin cfg0.N, win0_3.index t 0 * win0_3.size 0 = 512 * t.val ∧ win0_3.index t 1 * win0_3.size 1 = 3072 := by decide +kernel
theorem off_4 : ∀ t : Fin cfg0.N, win0_4.index t 0 * win0_4.size 0 = 512 * t.val ∧ win0_4.index t 1 * win0_4.size 1 = 0 := by decide +kernel
theorem off_5 : ∀ t : Fin cfg0.N, win0_5.index t 0 * win0_5.size 0 = 512 * t.val ∧ win0_5.index t 1 * win0_5.size 1 = 1024 := by decide +kernel
theorem off_6 : ∀ t : Fin cfg0.N, win0_6.index t 0 * win0_6.size 0 = 512 * t.val - 16 ∧ win0_6.index t 1 * win0_6.size 1 = 1024 := by decide +kernel
theorem off_7 : ∀ t : Fin cfg0.N, win0_7.index t 0 * win0_7.size 0 = 512 * t.val - 16 ∧ win0_7.index t 1 * win0_7.size 1 = 2048 := by decide +kernel
theorem off_8 : ∀ t : Fin cfg0.N, win0_8.index t 0 * win0_8.size 0 = 512 * t.val - 16 ∧ win0_8.index t 1 * win0_8.size 1 = 3072 := by decide +kernel
theorem off_9 : ∀ t : Fin cfg0.N, win0_9.index t 0 * win0_9.size 0 = nx t ∧ win0_9.index t 1 * win0_9.size 1 = 0 := by decide +kernel
theorem off_10 : ∀ t : Fin cfg0.N, win0_10.index t 0 * win0_10.size 0 = nx t ∧ win0_10.index t 1 * win0_10.size 1 = 1024 := by decide +kernel
theorem off_11 : ∀ t : Fin cfg0.N, win0_11.index t 0 * win0_11.size 0 = nx t ∧ win0_11.index t 1 * win0_11.size 1 = 2048 := by decide +kernel
theorem off_12 : ∀ t : Fin cfg0.N, win0_12.index t 0 * win0_12.size 0 = nx t ∧ win0_12.index t 1 * win0_12.size 1 = 3072 := by decide +kernel
theorem off_13 : ∀ t : Fin cfg0.N, win0_13.index t 0 * win0_13.size 0 = nx t ∧ win0_13.index t 1 * win0_13.size 1 = 0 := by decide +kernel
theorem off_14 : ∀ t : Fin cfg0.N, win0_14.index t 0 * win0_14.size 0 = nx t ∧ win0_14.index t 1 * win0_14.size 1 = 1024 := by decide +kernel
theorem last_19 : ∀ t : Fin cfg0.N, (cfg0.win 19).flush t = true → t.val + 1 = 16 := by decide +kernel
theorem last_20 : ∀ t : Fin cfg0.N, (cfg0.win 20).flush t = true → t.val + 1 = 16 := by decide +kernel
theorem last_21 : ∀ t : Fin cfg0.N, (cfg0.win 21).flush t = true → t.val + 1 = 16 := by decide +kernel
theorem off_18 : ∀ t : Fin cfg0.N, win0_18.index t 0 * win0_18.size 0 = 512 * t.val ∧ win0_18.index t 1 * win0_18.size 1 = 0 := by decide +kernel
theorem off_15 : ∀ t : Fin cfg0.N, ∀ x, win0_15.index t x * win0_15.size x = 0 := by decide +kernel
theorem off_16 : ∀ t : Fin cfg0.N, ∀ x, win0_16.index t x * win0_16.size x = 0 := by decide +kernel
theorem off_17 : ∀ t : Fin cfg0.N, ∀ x, win0_17.index t x * win0_17.size x = 0 := by decide +kernel
theorem off_19 : ∀ t : Fin cfg0.N, ∀ x, win0_19.index t x * win0_19.size x = 0 := by decide +kernel
theorem off_20 : ∀ t : Fin cfg0.N, ∀ x, win0_20.index t x * win0_20.size x = 0 := by decide +kernel
theorem off_21 : ∀ t : Fin cfg0.N, ∀ x, win0_21.index t x * win0_21.size x = 0 := by decide +kernel
/-- A matrix given by rows and columns, at an index whose row and column are known. -/
theorem at2 {n m : ℕ} {x : (⟨2, ![n, m]⟩ : Shape).Idx → EReal} {f : ℕ → ℕ → EReal} (h : ∀ a b, x (ix2 a b) = f a b) {j : (⟨2, ![n, m]⟩ : Shape).Idx} {r s : ℕ}
    (h0 : (j 0).val = r) (h1 : (j 1).val = s) : x j = f r s := by
  rw [← h0, ← h1]
  exact (congrArg x (eq_ix2 j)).trans (h _ _)
theorem plus0 {x a b : ℕ} (h : x = a + b) (e : a = 0) : x = b := by rw [h, e, Nat.zero_add]

theorem emb_15 (t : Fin cfg0.N) (y : S3x1024.Idx) : (win0_15.rect t).emb y = y := by
  funext x
  exact Fin.ext (plus0 (Pipeline.Window.rect_emb_val_off win0_15 t _ x) (off_15 t x))
theorem emb_16 (t : Fin cfg0.N) (y : S4x4x64x256.Idx) : (win0_16.rect t).emb y = y := by
  funext x
  exact Fin.ext (plus0 (Pipeline.Window.rect_emb_val_off win0_16 t _ x) (off_16 t x))
theorem emb_17 (t : Fin cfg0.N) (y : S1x1024.Idx) : (win0_17.rect t).emb y = y := by
  funext x
  exact Fin.ext (plus0 (Pipeline.Window.rect_emb_val_off win0_17 t _ x) (off_17 t x))
theorem emb_19 (t : Fin cfg0.N) (y : S3x1024.Idx) : (win0_19.rect t).emb y = y := by
  funext x
  exact Fin.ext (plus0 (Pipeline.Window.rect_emb_val_off win0_19 t _ x) (off_19 t x))
theorem emb_20 (t : Fin cfg0.N) (y : S4x4x64x256.Idx) : (win0_20.rect t).emb y = y := by
  funext x
  exact Fin.ext (plus0 (Pipeline.Window.rect_emb_val_off win0_20 t _ x) (off_20 t x))
theorem emb_21 (t : Fin cfg0.N) (y : S1x1024.Idx) : (win0_21.rect t).emb y = y := by
  funext x
  exact Fin.ext (plus0 (Pipeline.Window.rect_emb_val_off win0_21 t _ x) (off_21 t x))

section
variable (A : Args P D W M S (m ((c : Thread nD τ).loc main_arg0)) (m ((c : Thread nD τ).loc main_arg1)) (m ((c : Thread nD τ).loc main_arg2))
  (m ((c : Thread nD τ).loc main_arg3)) (m ((c : Thread nD τ).loc main_arg4)))
include A
theorem blk_15 (t : Fin cfg0.N) (a : Fin 3) (b : Fin 1024) : iblk (F := Ideal) m c 15 t (ix2 a b) = ((W a b : ℝ) : EReal) := by
  refine Eq.trans ?_ (A.hW a b)
  refine (show iblk (F := Ideal) m c 15 t (ix2 a b) = V m c main_arg2 ((win0_15.rect t).emb (ix2 a b)) from rfl).trans ?_
  rw [V_main_arg2, emb_15]
theorem blk_17 (t : Fin cfg0.N) (a : Fin 1) (b : Fin 1024) : iblk (F := Ideal) m c 17 t (ix2 a b) = ((S b : ℝ) : EReal) := by
  refine Eq.trans ?_ (A.hS a b)
  refine (show iblk (F := Ideal) m c 17 t (ix2 a b) = V m c main_arg4 ((win0_17.rect t).emb (ix2 a b)) from rfl).trans ?_
  rw [V_main_arg4, emb_17]
theorem blk_16 (t : Fin cfg0.N) (k g : Fin 4) (a : Fin 64) (b : Fin 256) : iblk (F := Ideal) m c 16 t (ix4 k g a b) = ((M g (64 * k + a) b : ℝ) : EReal) := by
  refine Eq.trans ?_ (A.hM g ⟨64 * k.val + a.val, by omega⟩ b)
  refine (show iblk (F := Ideal) m c 16 t (ix4 k g a b) = V m c main_v1 ((win0_16.rect t).emb (ix4 k g a b)) from rfl).trans ?_
  rw [V_v1, emb_16]
  exact pool_tr _ k g a b

theorem hP {t : S8192x4096.Idx} {r k : ℕ} (h0 : (t 0).val = r) (h1 : (t 1).val = k) : V (F := Ideal) m c main_arg0 t = ((P r k : ℝ) : EReal) :=
  (congrFun (V_main_arg0 m c) t).trans (at2 (f := fun r k => ((P r k : ℝ) : EReal)) A.hP h0 h1)
theorem hD {t : S8192x2048.Idx} {r k : ℕ} (h0 : (t 0).val = r) (h1 : (t 1).val = k) : V (F := Ideal) m c main_arg1 t = ((D r k : ℝ) : EReal) :=
  (congrFun (V_main_arg1 m c) t).trans (at2 (f := fun r k => ((D r k : ℝ) : EReal)) A.hD h0 h1)

open Pipeline.Window in
/-- What every point is given. -/
theorem ins (t : Fin cfg0.N) : Ins P D W M S (grid0.coords t) (nx t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) (iblk (F := Ideal) m c 14 t) (iblk (F := Ideal) m c 15 t) (iblk (F := Ideal) m c 16 t) (iblk (F := Ideal) m c 17 t) where
  i0 := by rw [coord]; exact fun a b => hP m c A ((rect_emb_val_off win0_0 t _ 0).trans (congrArg (· + a.val) (off_0 t).1)) (plus0 (rect_emb_val_off win0_0 t _ 1) (off_0 t).2)
  i1 := by rw [coord]; exact fun a b => hP m c A ((rect_emb_val_off win0_1 t _ 0).trans (congrArg (· + a.val) (off_1 t).1)) ((rect_emb_val_off win0_1 t _ 1).trans (congrArg (· + b.val) (off_1 t).2))
  i2 := by rw [coord]; exact fun a b => hP m c A ((rect_emb_val_off win0_2 t _ 0).trans (congrArg (· + a.val) (off_2 t).1)) ((rect_emb_val_off win0_2 t _ 1).trans (congrArg (· + b.val) (off_2 t).2))
  i3 := by rw [coord]; exact fun a b => hP m c A ((rect_emb_val_off win0_3 t _ 0).trans (congrArg (· + a.val) (off_3 t).1)) ((rect_emb_val_off win0_3 t _ 1).trans (congrArg (· + b.val) (off_3 t).2))
  i4 := by rw [coord]; exact fun a b => hD m c A ((rect_emb_val_off win0_4 t _ 0).trans (congrArg (· + a.val) (off_4 t).1)) (plus0 (rect_emb_val_off win0_4 t _ 1) (off_4 t).2)
  i5 := by rw [coord]; exact fun a b => hD m c A ((rect_emb_val_off win0_5 t _ 0).trans (congrArg (· + a.val) (off_5 t).1)) ((rect_emb_val_off win0_5 t _ 1).trans (congrArg (· + b.val) (off_5 t).2))
  i6 := by rw [coord]; exact fun a b => hP m c A ((rect_emb_val_off win0_6 t _ 0).trans (congrArg (· + a.val) (off_6 t).1)) ((rect_emb_val_off win0_6 t _ 1).trans (congrArg (· + b.val) (off_6 t).2))
  i7 := by rw [coord]; exact fun a b => hP m c A ((rect_emb_val_off win0_7 t _ 0).trans (congrArg (· + a.val) (off_7 t).1)) ((rect_emb_val_off win0_7 t _ 1).trans (congrArg (· + b.val) (off_7 t).2))
  i8 := by rw [coord]; exact fun a b => hP m c A ((rect_emb_val_off win0_8 t _ 0).trans (congrArg (· + a.val) (off_8 t).1)) ((rect_emb_val_off win0_8 t _ 1).trans (congrArg (· + b.val) (off_8 t).2))
  i9 := fun a b => hP m c A ((rect_emb_val_off win0_9 t _ 0).trans (congrArg (· + a.val) (off_9 t).1)) (plus0 (rect_emb_val_off win0_9 t _ 1) (off_9 t).2)
  i10 := fun a b => hP m c A ((rect_emb_val_off win0_10 t _ 0).trans (congrArg (· + a.val) (off_10 t).1)) ((rect_emb_val_off win0_10 t _ 1).trans (congrArg (· + b.val) (off_10 t).2))
  i11 := fun a b => hP m c A ((rect_emb_val_off win0_11 t _ 0).trans (congrArg (· + a.val) (off_11 t).1)) ((rect_emb_val_off win0_11 t _ 1).trans (congrArg (· + b.val) (off_11 t).2))
  i12 := fun a b => hP m c A ((rect_emb_val_off win0_12 t _ 0).trans (congrArg (· + a.val) (off_12 t).1)) ((rect_emb_val_off win0_12 t _ 1).trans (congrArg (· + b.val) (off_12 t).2))
  i13 := fun a b => hD m c A ((rect_emb_val_off win0_13 t _ 0).trans (congrArg (· + a.val) (off_13 t).1)) (plus0 (rect_emb_val_off win0_13 t _ 1) (off_13 t).2)
  i14 := fun a b => hD m c A ((rect_emb_val_off win0_14 t _ 0).trans (congrArg (· + a.val) (off_14 t).1)) ((rect_emb_val_off win0_14 t _ 1).trans (congrArg (· + b.val) (off_14 t).2))
  i15 := blk_15 m c A t
  i16 := blk_16 m c A t
  i17 := blk_17 m c A t
  hq := by
    rw [coord]
    intro h
    exact if_pos h
  hz := by
    rw [coord]
    intro h r k hr
    have := lt_N t
    exact ⟨A.zP r k (by omega), A.zD r k (by omega)⟩

set_option maxRecDepth 65536 in
theorem rows_all (t : Fin cfg0.N) (y : S512x4096.Idx) : (outsAt0 (F := Ideal) m c t.val t.isLt).1 y = ((dproj P D W M S (512 * t.val + (y 0).val) (y 1).val : ℝ) : EReal) := by
  have e := coord t
  by_cases h : t.val % 16 = 0
  · refine (rows_A m c t h (by have := lt_N t; omega) (ins m c A t) y).trans ?_
    rw [e]
    rfl
  · refine (rows_B m c t h (by omega) (ins m c A t) y).trans ?_
    rw [e]
    rfl

theorem fin_18 : (dats (F := Ideal) m 0 c).arrAt 18 cfg0.N = fun y : S8192x4096.Idx => ((dproj P D W M S (y 0).val (y 1).val : ℝ) : EReal) := by
  refine (dats (F := Ideal) m 0 c).arrAt_eq_of_covers 18 _ (by decide +kernel) fun t _ y => ?_
  refine (show (dats (F := Ideal) m 0 c).after 18 t y = _ from ?_)
  rw [after0_18]
  refine (rows_all m c A t y).trans ?_
  have e0 : ((win0_18.rect t).emb y 0).val = 512 * t.val + (y 0).val := (Pipeline.Window.rect_emb_val_off win0_18 t _ 0).trans (congrArg (· + (y 0).val) (off_18 t).1)
  have e1 : ((win0_18.rect t).emb y 1).val = (y 1).val := (Pipeline.Window.rect_emb_val_off win0_18 t _ 1).trans ((congrArg (· + (y 1).val) (off_18 t).2).trans (Nat.zero_add _))
  refine (show _ = ((dproj P D W M S ((win0_18.rect t).emb y 0).val ((win0_18.rect t).emb y 1).val : ℝ) : EReal) from ?_)
  rw [e0, e1]

theorem dw_sum : ∀ (n : ℕ) (h : n < cfg0.N) (y : S3x1024.Idx), (outsAt0 (F := Ideal) m c n h).2.1 y = ((∑ k ∈ Finset.range (n + 1), dwR P D W k (y 0).val (y 1).val : ℝ) : EReal)
  | 0, h, y => by
    refine (dw_A m c ⟨0, h⟩ rfl (show ¬1 ≤ 0 by omega) (ins m c A ⟨0, h⟩) y).trans ?_
    rw [coord, zero_add, Finset.sum_range_one]
  | n + 1, h, y => by
    have hn : n + 1 < 16 := lt_of_lt_of_eq h N_0
    refine (dw_B m c ⟨n + 1, h⟩ (show ¬(n + 1) % 16 = 0 by omega) (show 1 ≤ n + 1 by omega) (ins m c A ⟨n + 1, h⟩) y).trans ?_
    rw [coord, Finset.sum_range_succ, EReal.coe_add]
    exact congrArg (· + _) (dw_sum n (by omega) y)

theorem fin_19 : (dats (F := Ideal) m 0 c).arrAt 19 cfg0.N = fun y : S3x1024.Idx => ((∑ k ∈ Finset.range 16, dwR P D W k (y 0).val (y 1).val : ℝ) : EReal) := by
  refine (dats (F := Ideal) m 0 c).arrAt_eq_of_covers 19 _ (by decide +kernel) fun t hf y => ?_
  have e : t.val + 1 = 16 := last_19 t hf
  refine (show (dats (F := Ideal) m 0 c).after 19 t y = _ from ?_)
  rw [after0_19]
  refine (dw_sum m c A t.val t.isLt y).trans ?_
  rw [e]
  exact congrArg (fun y : S3x1024.Idx => ((∑ k ∈ Finset.range 16, dwR P D W k (y 0).val (y 1).val : ℝ) : EReal)) (emb_19 t y).symm

theorem dm_sum : ∀ (n : ℕ) (h : n < cfg0.N) (y : S4x4x64x256.Idx), (outsAt0 (F := Ideal) m c n h).2.2.1 y = ((∑ k ∈ Finset.range (n + 1), dmR P D M S k (y 1).val (64 * (y 0).val + (y 2).val) (y 3) : ℝ) : EReal)
  | 0, h, y => by
    refine (dm_A m c ⟨0, h⟩ rfl (show ¬1 ≤ 0 by omega) (ins m c A ⟨0, h⟩) y).trans ?_
    rw [coord, zero_add, Finset.sum_range_one]
  | n + 1, h, y => by
    have hn : n + 1 < 16 := lt_of_lt_of_eq h N_0
    refine (dm_B m c ⟨n + 1, h⟩ (show ¬(n + 1) % 16 = 0 by omega) (show 1 ≤ n + 1 by omega) (ins m c A ⟨n + 1, h⟩) y).trans ?_
    rw [coord, Finset.sum_range_succ, EReal.coe_add]
    exact congrArg (· + _) (dm_sum n (by omega) y)

theorem fin_20 : (dats (F := Ideal) m 0 c).arrAt 20 cfg0.N = fun y : S4x4x64x256.Idx => ((∑ k ∈ Finset.range 16, dmR P D M S k (y 1).val (64 * (y 0).val + (y 2).val) (y 3) : ℝ) : EReal) := by
  refine (dats (F := Ideal) m 0 c).arrAt_eq_of_covers 20 _ (by decide +kernel) fun t hf y => ?_
  have e : t.val + 1 = 16 := last_20 t hf
  refine (show (dats (F := Ideal) m 0 c).after 20 t y = _ from ?_)
  rw [after0_20]
  refine (dm_sum m c A t.val t.isLt y).trans ?_
  rw [e]
  exact congrArg (fun y : S4x4x64x256.Idx => ((∑ k ∈ Finset.range 16, dmR P D M S k (y 1).val (64 * (y 0).val + (y 2).val) (y 3) : ℝ) : EReal)) (emb_20 t y).symm

theorem ds_sum : ∀ (n : ℕ) (h : n < cfg0.N) (y : S1x1024.Idx), (outsAt0 (F := Ideal) m c n h).2.2.2 y = ((∑ k ∈ Finset.range (n + 1), dsR P D M k (y 1).val : ℝ) : EReal)
  | 0, h, y => by
    refine (ds_A m c ⟨0, h⟩ rfl (show ¬1 ≤ 0 by omega) (ins m c A ⟨0, h⟩) y).trans ?_
    rw [coord, zero_add, Finset.sum_range_one]
  | n + 1, h, y => by
    have hn : n + 1 < 16 := lt_of_lt_of_eq h N_0
    refine (ds_B m c ⟨n + 1, h⟩ (show ¬(n + 1) % 16 = 0 by omega) (show 1 ≤ n + 1 by omega) (ins m c A ⟨n + 1, h⟩) y).trans ?_
    rw [coord, Finset.sum_range_succ, EReal.coe_add]
    exact congrArg (· + _) (ds_sum n (by omega) y)

theorem fin_21 : (dats (F := Ideal) m 0 c).arrAt 21 cfg0.N = fun y : S1x1024.Idx => ((∑ k ∈ Finset.range 16, dsR P D M k (y 1).val : ℝ) : EReal) := by
  refine (dats (F := Ideal) m 0 c).arrAt_eq_of_covers 21 _ (by decide +kernel) fun t hf y => ?_
  have e : t.val + 1 = 16 := last_21 t hf
  refine (show (dats (F := Ideal) m 0 c).after 21 t y = _ from ?_)
  rw [after0_21]
  refine (ds_sum m c A t.val t.isLt y).trans ?_
  rw [e]
  exact congrArg (fun y : S1x1024.Idx => ((∑ k ∈ Finset.range 16, dsR P D M k (y 1).val : ℝ) : EReal)) (emb_21 t y).symm
end
end Cert.Mixers
-- ==== Proof.Mixers.Reference.lean ====
module
public import proofs.«01_k».proof.Proof.Mixers.Arrays
public import proofs.«01_k».proof.Proof.Gen.ReferenceIdeal.Read
@[expose] public section
set_option maxRecDepth 16384
/-! The reference's stages over the real numbers. -/
noncomputable section
namespace Cert.Mixers
open Idealize.ShloMosaic Idealize.ShloMosaic.TcCoe

theorem cmhE : Ideal.ofBits FTy.f32 3204448256#32 = ((-(1 / 2) : ℝ) : EReal) := by
  simp [Ideal.ofBits, Ideal.ieee, -EReal.coe_mul, -EReal.coe_neg]; norm_num

/-- The norm's gradient as differentiation writes it is the kernel's. -/
theorem nb_eq {N : ℕ} (hN : N ≠ 0) (x dy : Fin N → ℝ) (j : Fin N) :
    dy j * rs x + x j * ((∑ k, x k * dy k) * (-(1 / 2) * (rs x / ((∑ k, x k * x k) / N + eps))) / N)
      + ((∑ k, x k * dy k) * (-(1 / 2) * (rs x / ((∑ k, x k * x k) / N + eps))) / N) * x j = nb x dy j := by
  have hm := ms_pos x
  have hr : rs x / ((∑ k, x k * x k) / N + eps) = rs x * rs x * rs x := by
    have e : (∑ k, x k * x k) / N + eps = (rs x * rs x)⁻¹ := by
      unfold rs
      rw [← mul_inv, Real.mul_self_sqrt hm.le, inv_inv]
    rw [e, div_inv_eq_mul]
    ring
  have hs : ∑ k, dy k * (x k * rs x) = (∑ k, x k * dy k) * rs x := by
    rw [Finset.sum_mul]
    exact Finset.sum_congr rfl fun k _ => by ring
  rw [hr, nb, hs]
  ring

theorem sum_tiles {α : Type} [AddCommMonoid α] (f : ℕ → α) (n : ℕ) :
    ∑ k ∈ Finset.range n, ∑ a : Fin 512, f (512 * k + a) = ∑ t ∈ Finset.range (512 * n), f t := by
  induction n with
  | zero => rfl
  | succ n ih =>
    rw [Finset.sum_range_succ, ih, show 512 * (n + 1) = 512 * n + 512 by ring, Finset.sum_range_add, Fin.sum_univ_eq_sum_range (fun a => f (512 * n + a)) 512]

/-- Prefix sums apart by a window: the window's sum. -/
theorem prefix_sub (f : ℕ → ℝ) (t w : ℕ) :
    ∑ k ∈ Finset.range w, (if t + 16 - k < 16 then 0 else f (t + 16 - k - 16))
      = ∑ s ∈ Finset.range (t + 1), f s - (if t < w then 0 else ∑ s ∈ Finset.range (t - w + 1), f s) := by
  have h : ∑ k ∈ Finset.range w, (if t + 16 - k < 16 then 0 else f (t + 16 - k - 16))
      = ∑ s ∈ Finset.range (t + 1), f s - ∑ s ∈ Finset.range (t + 1 - w), f s := by
    induction w with
    | zero => simp
    | succ w ih =>
      rw [Finset.sum_range_succ, ih]
      by_cases hw : w ≤ t
      · have e : ∑ s ∈ Finset.range (t + 1 - w), f s = ∑ s ∈ Finset.range (t + 1 - (w + 1)), f s + f (t + 1 - (w + 1)) := by
          rw [← Finset.sum_range_succ, show t + 1 - w = (t + 1 - (w + 1)) + 1 by omega]
        rw [if_neg (by omega), e, show t + 16 - w - 16 = t + 1 - (w + 1) by omega]
        ring
      · rw [if_pos (by omega), show t + 1 - w = 0 by omega, show t + 1 - (w + 1) = 0 by omega, add_zero]
  rw [h]
  congr 1
  by_cases hw : t < w
  · rw [if_pos hw, show t + 1 - w = 0 by omega, Finset.sum_range_zero]
  · rw [if_neg hw, show t + 1 - w = t - w + 1 by omega]

/-- Suffix sums apart by a window: the window's sum. -/
theorem suffix_sub (d : ℕ → ℝ) (t w n : ℕ) (hd : ∀ s, n ≤ s → d s = 0) :
    ∑ a ∈ Finset.range n, (d (t + a) - d (t + a + w)) = ∑ k ∈ Finset.range w, d (t + k) := by
  have h1 := Finset.sum_range_add (fun a => d (t + a)) w n
  have h2 := Finset.sum_range_add (fun a => d (t + a)) n w
  rw [add_comm w n] at h1
  have h3 : ∑ x ∈ Finset.range w, d (t + (n + x)) = 0 := Finset.sum_eq_zero fun k _ => hd _ (by omega)
  rw [h3, add_zero] at h2
  rw [Finset.sum_sub_distrib, ← h2, h1]
  have e : ∀ a, t + a + w = t + (w + a) := fun a => by omega
  simp only [e, add_sub_cancel_right]

open Cert.ReferenceIdeal Cert.ReferenceIdeal.Gen Cert.ReferenceIdeal.Read

theorem foldl_sum {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

theorem windows_sum {s t u : Shape} (window strides lo hi : Fin s.rank → ℕ) (x : s.Idx → EReal) (init : u.Idx → EReal) (h : s.ReduceWindows window strides lo hi t)
    (hu : 0 < u.numel) (hi0 : init (Shape.Idx.first hu) = 0) (j : t.Idx) :
    Host.reduceWindowAdd (F := Ideal) (φ := .f32) window strides lo hi x init h hu j = ∑ y : (⟨s.rank, window⟩ : Shape).Idx,
      (if hin : ∀ a, lo a ≤ (j (a.cast h.1.symm)).val * strides a + (y a).val ∧ (j (a.cast h.1.symm)).val * strides a + (y a).val - lo a < s.size a
        then x (fun a => ⟨(j (a.cast h.1.symm)).val * strides a + (y a).val - lo a, (hin a).2⟩) else 0) := by
  show Ideal.hostReduceWindowAdd window strides lo hi h x (init (Shape.Idx.first hu)) j = _
  rw [hi0, ← Equiv.sum_comp (⟨s.rank, window⟩ : Shape).rowMajor.symm, ← List.sum_ofFn, List.ofFn_eq_map, ← zero_add (List.sum _), ← foldl_sum]
  unfold Ideal.hostReduceWindowAdd Host.reduceWindow
  dsimp only
  refine congrFun (congrFun (congrArg List.foldl ?_) _) _
  funext r n
  refine congrArg (r + ·) ?_
  congr

abbrev SW : Shape := ⟨3, ![8192, 1, 1]⟩
def eW : Fin 8192 ≃ SW.Idx where
  toFun a := ix3 a 0 0
  invFun y := y 0
  left_inv _ := rfl
  right_inv y := by
    refine Eq.trans ?_ (eq_ix3 y).symm
    rw [Subsingleton.elim (α := Fin 1) (y 1) 0, Subsingleton.elim (α := Fin 1) (y 2) 0]

def upAt (x : S8192x4x256.Idx → EReal) (g : Fin 4) (j : Fin 256) (t : Fin 8192) (y : SW.Idx) : EReal :=
  if hin : ∀ a, (![8191, 0, 0] : Fin 3 → ℕ) a ≤ ((ix3 t g j : S8192x4x256.Idx) a).val * (![1, 1, 1] : Fin 3 → ℕ) a + (y a).val
      ∧ ((ix3 t g j : S8192x4x256.Idx) a).val * (![1, 1, 1] : Fin 3 → ℕ) a + (y a).val - (![8191, 0, 0] : Fin 3 → ℕ) a < S8192x4x256.size a
    then x (fun a => ⟨_, (hin a).2⟩) else 0

theorem upAt_eq (x : S8192x4x256.Idx → EReal) (f : ℕ → ℝ) (g : Fin 4) (j : Fin 256) (h0 : ∀ s : Fin 8192, x (ix3 s g j) = ((f s : ℝ) : EReal))
    (t : Fin 8192) (y : SW.Idx) : upAt x g j t y = ((if 8191 ≤ t.val + (y 0).val then f (t.val + (y 0).val - 8191) else 0 : ℝ) : EReal) := by
  have y1 : (y 1).val = 0 := Nat.lt_one_iff.mp (y 1).isLt
  have y2 : (y 2).val = 0 := Nat.lt_one_iff.mp (y 2).isLt
  have y0 : (y 0).val < 8192 := (y 0).isLt
  unfold upAt
  by_cases h : 8191 ≤ t.val + (y 0).val
  · rw [if_pos h, dif_pos]
    · refine Eq.trans (congrArg x ?_) (h0 ⟨t.val + (y 0).val - 8191, by omega⟩)
      funext a
      apply Fin.ext
      match a with
      | ⟨0, _⟩ => exact (show t.val * 1 + (y 0).val - 8191 = t.val + (y 0).val - 8191 by omega)
      | ⟨1, _⟩ => exact (show g.val * 1 + (y 1).val - 0 = g.val by omega)
      | ⟨2, _⟩ => exact (show j.val * 1 + (y 2).val - 0 = j.val by omega)
    · intro a
      match a with
      | ⟨0, _⟩ => exact (show 8191 ≤ t.val * 1 + (y 0).val ∧ t.val * 1 + (y 0).val - 8191 < 8192 by omega)
      | ⟨1, _⟩ => exact (show 0 ≤ g.val * 1 + (y 1).val ∧ g.val * 1 + (y 1).val - 0 < 4 by omega)
      | ⟨2, _⟩ => exact (show 0 ≤ j.val * 1 + (y 2).val ∧ j.val * 1 + (y 2).val - 0 < 256 by omega)
  · rw [if_neg h, dif_neg]
    · rfl
    · intro hh
      have := (show 8191 ≤ t.val * 1 + (y 0).val ∧ t.val * 1 + (y 0).val - 8191 < 8192 from hh 0)
      exact h (by omega)

theorem up_sum (x : S8192x4x256.Idx → EReal) (f : ℕ → ℝ) (g : Fin 4) (j : Fin 256) (h0 : ∀ s : Fin 8192, x (ix3 s g j) = ((f s : ℝ) : EReal))
    (init : S_.Idx → EReal) (hi : init (Shape.Idx.first h_S_) = 0) (t : Fin 8192) :
    Host.reduceWindowAdd (F := Ideal) (φ := .f32) ![8192, 1, 1] ![1, 1, 1] ![8191, 0, 0] ![0, 0, 0] x init reduceWindows_S8192x4x256_S8192x4x256_w8192s1p8191_0_w1s1p0_0_w1s1p0_0 h_S_ (ix3 t g j)
      = ((∑ s ∈ Finset.range (t.val + 1), f s : ℝ) : EReal) := by
  refine (windows_sum _ _ _ _ x init _ h_S_ hi _).trans ?_
  refine (show _ = ∑ y : SW.Idx, upAt x g j t y from rfl).trans ?_
  rw [← Equiv.sum_comp eW]
  simp only [upAt_eq x f g j h0]
  rw [sumE]
  refine congrArg _ ?_
  show ∑ a : Fin 8192, (if 8191 ≤ t.val + a.val then f (t.val + a.val - 8191) else 0) = _
  rw [Fin.sum_univ_eq_sum_range (fun a => if 8191 ≤ t.val + a then f (t.val + a - 8191) else 0) 8192]
  rw [show Finset.range 8192 = Finset.range ((8191 - t.val) + (t.val + 1)) from congrArg _ (by omega), Finset.sum_range_add,
    Finset.sum_eq_zero (fun a ha => if_neg (by have := Finset.mem_range.mp ha; omega)), zero_add]
  exact Finset.sum_congr rfl fun s _ => by rw [if_pos (by omega), show t.val + (8191 - t.val + s) - 8191 = s by omega]

def downAt (x : S8192x4x256.Idx → EReal) (g : Fin 4) (j : Fin 256) (t : Fin 8192) (y : SW.Idx) : EReal :=
  if hin : ∀ a, (![0, 0, 0] : Fin 3 → ℕ) a ≤ ((ix3 t g j : S8192x4x256.Idx) a).val * (![1, 1, 1] : Fin 3 → ℕ) a + (y a).val
      ∧ ((ix3 t g j : S8192x4x256.Idx) a).val * (![1, 1, 1] : Fin 3 → ℕ) a + (y a).val - (![0, 0, 0] : Fin 3 → ℕ) a < S8192x4x256.size a
    then x (fun a => ⟨_, (hin a).2⟩) else 0

theorem downAt_eq (x : S8192x4x256.Idx → EReal) (f : ℕ → ℝ) (g : Fin 4) (j : Fin 256) (h0 : ∀ s : Fin 8192, x (ix3 s g j) = ((f s : ℝ) : EReal))
    (t : Fin 8192) (y : SW.Idx) : downAt x g j t y = ((if t.val + (y 0).val < 8192 then f (t.val + (y 0).val) else 0 : ℝ) : EReal) := by
  have y1 : (y 1).val = 0 := Nat.lt_one_iff.mp (y 1).isLt
  have y2 : (y 2).val = 0 := Nat.lt_one_iff.mp (y 2).isLt
  have y0 : (y 0).val < 8192 := (y 0).isLt
  unfold downAt
  by_cases h : t.val + (y 0).val < 8192
  · rw [if_pos h, dif_pos]
    · refine Eq.trans (congrArg x ?_) (h0 ⟨t.val + (y 0).val, by omega⟩)
      funext a
      apply Fin.ext
      match a with
      | ⟨0, _⟩ => exact (show t.val * 1 + (y 0).val - 0 = t.val + (y 0).val by omega)
      | ⟨1, _⟩ => exact (show g.val * 1 + (y 1).val - 0 = g.val by omega)
      | ⟨2, _⟩ => exact (show j.val * 1 + (y 2).val - 0 = j.val by omega)
    · intro a
      match a with
      | ⟨0, _⟩ => exact (show 0 ≤ t.val * 1 + (y 0).val ∧ t.val * 1 + (y 0).val - 0 < 8192 by omega)
      | ⟨1, _⟩ => exact (show 0 ≤ g.val * 1 + (y 1).val ∧ g.val * 1 + (y 1).val - 0 < 4 by omega)
      | ⟨2, _⟩ => exact (show 0 ≤ j.val * 1 + (y 2).val ∧ j.val * 1 + (y 2).val - 0 < 256 by omega)
  · rw [if_neg h, dif_neg]
    · rfl
    · intro hh
      have := (show 0 ≤ t.val * 1 + (y 0).val ∧ t.val * 1 + (y 0).val - 0 < 8192 from hh 0)
      exact h (by omega)

theorem down_sum (x : S8192x4x256.Idx → EReal) (f : ℕ → ℝ) (g : Fin 4) (j : Fin 256) (h0 : ∀ s : Fin 8192, x (ix3 s g j) = ((f s : ℝ) : EReal))
    (init : S_.Idx → EReal) (hi : init (Shape.Idx.first h_S_) = 0) (t : Fin 8192) :
    Host.reduceWindowAdd (F := Ideal) (φ := .f32) ![8192, 1, 1] ![1, 1, 1] ![0, 0, 0] ![8191, 0, 0] x init reduceWindows_S8192x4x256_S8192x4x256_w8192s1p0_8191_w1s1p0_0_w1s1p0_0 h_S_ (ix3 t g j)
      = ((∑ a ∈ Finset.range 8192, if t.val + a < 8192 then f (t.val + a) else 0 : ℝ) : EReal) := by
  refine (windows_sum _ _ _ _ x init _ h_S_ hi _).trans ?_
  refine (show _ = ∑ y : SW.Idx, downAt x g j t y from rfl).trans ?_
  rw [← Equiv.sum_comp eW]
  simp only [downAt_eq x f g j h0]
  rw [sumE]
  refine congrArg _ ?_
  show ∑ a : Fin 8192, (if t.val + a.val < 8192 then f (t.val + a.val) else 0) = _
  rw [Fin.sum_univ_eq_sum_range (fun a => if t.val + a < 8192 then f (t.val + a) else 0) 8192]

end Cert.Mixers
-- ==== Proof.Mixers.Stages.lean ====
module
public import proofs.«01_k».proof.Proof.Mixers.Reference
@[expose] public section
set_option maxRecDepth 16384
/-! The reference's stages, one by one, at real arguments. -/
noncomputable section
namespace Cert.Mixers
open Idealize.ShloMosaic Idealize.ShloMosaic.TcCoe
open Cert.ReferenceIdeal Cert.ReferenceIdeal.Gen Cert.ReferenceIdeal.Read

variable {P D W : ℕ → ℕ → ℝ} {M : ℕ → ℕ → ℕ → ℝ} {S : ℕ → ℝ}
  {x0 : S8192x4096.Idx → EReal} {x1 : S8192x2048.Idx → EReal} {x2 : S3x1024.Idx → EReal} {x3 : S4x256x256.Idx → EReal} {x4 : S1x1024.Idx → EReal}
  (A : Args P D W M S x0 x1 x2 x3 x4)
include A

theorem r6 (s : Fin 8194) (k : Fin 1024) : val_main_v6 (F := Ideal) x0 (ix2 s k) = ((cuS P (s.val + 14) k : ℝ) : EReal) := by
  pointwise [val_main_v6, val_main_v5, val_main_cst, val_main_v4, val_main_v1, val_main_v2]
  unfold cuS
  by_cases h : s.val < 2
  · have h' : s.val + 14 < 16 := by omega
    simp only [h, h', dite_true, if_true, EReal.coe_zero]
  · have h' : ¬ s.val + 14 < 16 := by omega
    simp only [h, h', dite_false, if_false]
    rw [show s.val + 14 - 16 = s.val - 2 by omega, EReal.coe_mul]
    exact congrArg₂ (fun a b : EReal => a * b) (A.hP _ _) (A.hP _ _)

theorem r21 (t : Fin 8192) (k : Fin 1024) : val_main_v21 (F := Ideal) x0 x2 (ix2 t k) = ((conv P W t k : ℝ) : EReal) := by
  pointwise [val_main_v21, val_main_v20, val_main_v16, val_main_v15, val_main_v11, val_main_v19, val_main_v17, val_main_v18, val_main_v14, val_main_v12, val_main_v13, val_main_v10, val_main_v8, val_main_v9]
  simp only [r6 A, A.hW, ← EReal.coe_mul, ← EReal.coe_add]
  rw [conv, show t.val + 15 = 1 + t.val + 14 by omega, show t.val + 16 = 2 + t.val + 14 by omega]
  rfl

theorem r22 (t : Fin 8192) (k : Fin 1024) : val_main_v22 (F := Ideal) x0 x2 (ix2 t k) = ((ca P W t k : ℝ) : EReal) := by
  pointwise [val_main_v22, val_main_v0]
  rw [r21 A, A.hP, ← EReal.coe_mul]
  rfl

/-- A head's entries of the gated convolution, and their cotangents. -/
abbrev xC (P W : ℕ → ℕ → ℝ) (t h : ℕ) : Fin 128 → ℝ := fun k => ca P W t (128 * h + k)
abbrev dC (D : ℕ → ℕ → ℝ) (t h : ℕ) : Fin 128 → ℝ := fun k => D t (128 * h + k)

theorem r23 (t : Fin 8192) (h : Fin 8) (k : Fin 128) : val_main_v23 (F := Ideal) x0 x2 (ix3 t h k) = ((xC P W t h k : ℝ) : EReal) := by
  pointwise [val_main_v23]
  rw [r22 A]
  show ((ca P W t.val (h.val * 128 + k.val) : ℝ) : EReal) = _
  rw [mul_comm h.val]

theorem r30 (t : Fin 8192) (h : Fin 8) (k : Fin 1) : val_main_v30 (F := Ideal) x0 x2 (ix3 t h k) = (((∑ k, xC P W t h k * xC P W t h k) / 128 + eps : ℝ) : EReal) := by
  pointwise [val_main_v30, val_main_v28, val_main_v29, val_main_cst_3, val_main_v26, val_main_v27, val_main_cst_2, val_main_v25, val_main_cst_1, val_main_v24]
  simp only [r23 A, ← EReal.coe_mul, sumE, c128E, epsE, div128E, ← EReal.coe_add]

theorem r31 (t : Fin 8192) (h : Fin 8) (k : Fin 1) : val_main_v31 (F := Ideal) x0 x2 (ix3 t h k) = ((rs (xC P W t h) : ℝ) : EReal) := by
  pointwise [val_main_v31]
  rw [r30 A, rs128E]

theorem r34 (t : Fin 8192) (h : Fin 8) (k : Fin 1) : val_main_v34 (F := Ideal) x0 x2 (ix3 t h k)
    = ((-(1 / 2) * (rs (xC P W t h) / ((∑ k, xC P W t h k * xC P W t h k) / (128 : ℕ) + eps)) : ℝ) : EReal) := by
  pointwise [val_main_v34, val_main_v33, val_main_cst_4, val_main_v32]
  have := (ms_pos (xC P W t h)).ne'
  rw [r31 A, r30 A, cmhE, divE _ _ (by exact_mod_cast this), ← EReal.coe_mul]
  norm_cast

theorem r234 (t : Fin 8192) (h : Fin 8) (k : Fin 128) : val_main_v234 (F := Ideal) x0 x1 x2 (ix3 t h k) = ((da P D W t h k : ℝ) : EReal) := by
  pointwise [val_main_v234, val_main_v233, val_main_v232, val_main_v231, val_main_v230, val_main_v229, val_main_cst_39, val_main_v228, val_main_v227, val_main_cst_38, val_main_v226, val_main_v225, val_main_v224, val_main_v223, val_main_v222, val_main_cst_37, val_main_v221, val_main_v220, val_main_v128]
  simp only [r23 A, r31 A, r34 A, A.hD, ← EReal.coe_mul, sumE, c128E, div128E, ← EReal.coe_add, Fin.sum_univ_one, mul_comm h.val]
  refine congrArg _ ?_
  exact nb_eq (N := 128) (by decide) (xC P W t h) (dC D t h) k

theorem r235 (t : Fin 8192) (k : Fin 1024) : val_main_v235 (F := Ideal) x0 x1 x2 (ix2 t k) = ((daC P D W t k : ℝ) : EReal) := by
  pointwise [val_main_v235]
  rw [r234 A]
  rfl

theorem r236 (t : Fin 8192) (k : Fin 1024) : val_main_v236 (F := Ideal) x0 x1 x2 (ix2 t k) = ((dconv P D W t k : ℝ) : EReal) := by
  pointwise [val_main_v236, val_main_v0]
  rw [r235 A, A.hP, ← EReal.coe_mul, mul_comm]
  rfl

theorem dconv_zero (t k : ℕ) (h : 8192 ≤ t) : dconv P D W t k = 0 := by
  rw [dconv, A.zP _ _ h, mul_zero]

theorem r264 (t : Fin 8192) (k : Fin 1024) : val_main_v264 (F := Ideal) x0 x1 x2 (ix2 t k) = ((dcu P D W t k : ℝ) : EReal) := by
  pointwise [val_main_v264, val_main_v260, val_main_v259, val_main_v251, val_main_v250, val_main_v243, val_main_cst_41, val_main_cst_44, val_main_cst_47, val_main_v239, val_main_v238, val_main_v17, val_main_v246, val_main_v245, val_main_v12, val_main_v255, val_main_v254, val_main_v8]
  have e1 : (if h : 1 ≤ 2 + t.val ∧ 2 + t.val - 1 < 8192 then x2 (ix2 1 k) * val_main_v236 (F := Ideal) x0 x1 x2 (ix2 ⟨2 + t.val - 1, h.2⟩ k) else 0)
      = ((W 1 k * dconv P D W (t + 1) k : ℝ) : EReal) := by
    split
    · rw [r236 A, A.hW, ← EReal.coe_mul, show t.val + 1 = 2 + t.val - 1 by omega]
      rfl
    · rw [dconv_zero A _ _ (by omega), mul_zero, EReal.coe_zero]
  have e2 : (if h : 2 + t.val < 8192 then x2 (ix2 0 k) * val_main_v236 (F := Ideal) x0 x1 x2 (ix2 ⟨2 + t.val, h⟩ k) else 0)
      = ((W 0 k * dconv P D W (t + 2) k : ℝ) : EReal) := by
    split
    · rw [r236 A, A.hW, ← EReal.coe_mul, show t.val + 2 = 2 + t.val by omega]
      rfl
    · rw [dconv_zero A _ _ (by omega), mul_zero, EReal.coe_zero]
  rw [e1, e2, r236 A, A.hW, ← EReal.coe_mul, ← EReal.coe_add, ← EReal.coe_add, dcu]
  refine congrArg _ ?_
  show W 2 k * dconv P D W t k + _ + _ = _
  ring

theorem r262 (s : Fin 3) (k : Fin 1024) : val_main_v262 (F := Ideal) x0 x1 x2 (ix2 s k) = ((∑ t ∈ Finset.range 8192, dwT P D W s t k : ℝ) : EReal) := by
  have e (f : Fin 8192 → EReal) (j : ℕ) (h : ∀ t, f t = ((dwT P D W j t k : ℝ) : EReal)) : ∑ t, f t = ((∑ t ∈ Finset.range 8192, dwT P D W j t k : ℝ) : EReal) := by
    rw [← Fin.sum_univ_eq_sum_range (fun t => dwT P D W j t k) 8192, ← sumE]
    exact Finset.sum_congr rfl fun t _ => h t
  pointwise [val_main_v262, val_main_v261, val_main_v253, val_main_v252, val_main_v244, val_main_cst_42, val_main_cst_45, val_main_cst_48, val_main_v242, val_main_v241, val_main_cst_40, val_main_v249, val_main_v248, val_main_cst_43, val_main_v258, val_main_v257, val_main_cst_46, val_main_v240, val_main_v247, val_main_v256, val_main_v18, val_main_v13, val_main_v9]
  simp only [r6 A, r236 A, ← EReal.coe_mul]
  obtain ⟨s, hs⟩ := s
  interval_cases s
  · simp only [hs, Fin.mk_zero, Fin.isValue]
    simp
    refine e _ 0 fun t => ?_
    rw [← EReal.coe_mul]
    rfl
  · simp
    refine e _ 1 fun t => ?_
    rw [← EReal.coe_mul, show 1 + t.val + 14 = t.val + 14 + 1 by omega]
    rfl
  · simp
    refine e _ 2 fun t => ?_
    rw [← EReal.coe_mul, show 2 + t.val + 14 = t.val + 14 + 2 by omega]
    rfl

theorem r38 (s : Fin 8192) (g : Fin 4) (j : Fin 256) : val_main_v38 (F := Ideal) x0 (ix3 s g j) = ((P s (3072 + 256 * g + j) : ℝ) : EReal) := by
  pointwise [val_main_v38, val_main_v3]
  rw [A.hP]
  show ((P s.val (3072 + (g.val * 256 + j.val)) : ℝ) : EReal) = _
  rw [mul_comm g.val, ← add_assoc]

theorem r39 (s : Fin 8192) (g : Fin 4) (j : Fin 256) : val_main_v39 (F := Ideal) x0 (ix3 s g j) = ((∑ i ∈ Finset.range (s + 1), P i (3072 + 256 * g + j) : ℝ) : EReal) := by
  unfold val_main_v39
  exact up_sum _ (fun i => P i (3072 + 256 * g + j)) g j (fun i => r38 A i g j) _ (by pointwise [val_main_call0_call0_v0, val_main_call0_call0_cst]) s

omit A in
theorem cntE (t : ℕ) (h : t < 8192) : (FloatOps.sitofp FTy.f32 (IntOp.addi 1#32 (BitVec.ofNat 32 t)) : Ideal FTy.f32) = (((t + 1 : ℕ) : ℝ) : EReal) := by
  have e : IntOp.addi 1#32 (BitVec.ofNat 32 t) = BitVec.ofNat 32 (t + 1) := by
    show 1#32 + BitVec.ofNat 32 t = _
    apply BitVec.eq_of_toNat_eq
    simp only [BitVec.toNat_add, BitVec.toNat_ofNat]
    omega
  rw [e]
  show (((BitVec.ofNat 32 (t + 1)).toInt : ℝ) : EReal) = _
  rw [WordArith.toInt_ofNat_small _ (by omega)]
  simp

/-- How many rows the window of width `w` that ends at row `t` has. -/
abbrev cnt (t w : ℕ) : ℝ := min ((t + 1 : ℕ) : ℝ) (w : ℝ)
omit A in
theorem cnt_ne (t : ℕ) {w : ℕ} (hw : 0 < w) : cnt t w ≠ 0 :=
  (lt_min (by exact_mod_cast Nat.succ_pos t) (by exact_mod_cast hw) : (0 : ℝ) < cnt t w).ne'

/-- A window's mean less the row itself, out of two running sums. -/
theorem pool_row (s : Fin 8192) (g : Fin 4) (j : Fin 256) (w : ℕ) (hw : win g = w) (n : EReal) (hn : n = ((cnt s w : ℝ) : EReal)) :
    Ideal.div (val_main_v39 (F := Ideal) x0 (ix3 s g j) - if h : s.val < w then 0 else val_main_v39 (F := Ideal) x0 (ix3 ⟨s.val - w, by omega⟩ g j)) n
      - val_main_v38 (F := Ideal) x0 (ix3 s g j) = ((pooled P s g j : ℝ) : EReal) := by
  have hp : 0 < w := hw ▸ (by unfold win; positivity)
  have hd : (if h : s.val < w then 0 else val_main_v39 (F := Ideal) x0 (ix3 ⟨s.val - w, by omega⟩ g j))
      = ((if s.val < w then 0 else ∑ i ∈ Finset.range (s.val - w + 1), P i (3072 + 256 * g + j) : ℝ) : EReal) := by
    split
    · rw [EReal.coe_zero]
    · rw [r39 A]
  rw [hd, hn, r39 A, r38 A, ← EReal.coe_sub, ← prefix_sub, divE _ _ (cnt_ne _ hp), ← EReal.coe_sub, pooled, hw, mul_one_div]
  simp only [vS, ← add_assoc]

omit A in
theorem r52 (s : Fin 8192) (k : Fin 1) : val_main_v52 (F := Ideal) (ix2 s k) = ((cnt s 2 : ℝ) : EReal) := by
  pointwise [val_main_v52, val_main_v51, val_main_v50, val_main_cst_7, val_main_v43, val_main_v42, val_main_v41, val_main_c, val_main_v40]
  rw [cntE _ s.isLt, c2E, minE]
  norm_num [cnt]
theorem r58 (s : Fin 8192) (k : Fin 256) : val_main_v58 (F := Ideal) x0 (ix2 s k) = ((pooled P s 0 k : ℝ) : EReal) := by
  pointwise [val_main_v58, val_main_v44, val_main_v45, val_main_v46, val_main_v47, val_main_v48, val_main_v49, val_main_v50, val_main_v51, val_main_v53, val_main_v54, val_main_v55, val_main_v56, val_main_v57, val_main_cst_5, val_main_cst_7]
  exact pool_row A s 0 k 2 rfl _ (r52 s 0)
omit A in
theorem r67 (s : Fin 8192) (k : Fin 1) : val_main_v67 (F := Ideal) (ix2 s k) = ((cnt s 4 : ℝ) : EReal) := by
  pointwise [val_main_v67, val_main_v66, val_main_v65, val_main_cst_10, val_main_v43, val_main_v42, val_main_v41, val_main_c, val_main_v40]
  rw [cntE _ s.isLt, c4E, minE]
  norm_num [cnt]
theorem r73 (s : Fin 8192) (k : Fin 256) : val_main_v73 (F := Ideal) x0 (ix2 s k) = ((pooled P s 1 k : ℝ) : EReal) := by
  pointwise [val_main_v73, val_main_v59, val_main_v60, val_main_v61, val_main_v62, val_main_v63, val_main_v64, val_main_v65, val_main_v66, val_main_v68, val_main_v69, val_main_v70, val_main_v71, val_main_v72, val_main_cst_8, val_main_cst_10]
  exact pool_row A s 1 k 4 rfl _ (r67 s 0)
omit A in
theorem r82 (s : Fin 8192) (k : Fin 1) : val_main_v82 (F := Ideal) (ix2 s k) = ((cnt s 8 : ℝ) : EReal) := by
  pointwise [val_main_v82, val_main_v81, val_main_v80, val_main_cst_13, val_main_v43, val_main_v42, val_main_v41, val_main_c, val_main_v40]
  rw [cntE _ s.isLt, c8E, minE]
  norm_num [cnt]
theorem r88 (s : Fin 8192) (k : Fin 256) : val_main_v88 (F := Ideal) x0 (ix2 s k) = ((pooled P s 2 k : ℝ) : EReal) := by
  pointwise [val_main_v88, val_main_v74, val_main_v75, val_main_v76, val_main_v77, val_main_v78, val_main_v79, val_main_v80, val_main_v81, val_main_v83, val_main_v84, val_main_v85, val_main_v86, val_main_v87, val_main_cst_11, val_main_cst_13]
  exact pool_row A s 2 k 8 rfl _ (r82 s 0)
omit A in
theorem r97 (s : Fin 8192) (k : Fin 1) : val_main_v97 (F := Ideal) (ix2 s k) = ((cnt s 16 : ℝ) : EReal) := by
  pointwise [val_main_v97, val_main_v96, val_main_v95, val_main_cst_16, val_main_v43, val_main_v42, val_main_v41, val_main_c, val_main_v40]
  rw [cntE _ s.isLt, c16E, minE]
  norm_num [cnt]
theorem r103 (s : Fin 8192) (k : Fin 256) : val_main_v103 (F := Ideal) x0 (ix2 s k) = ((pooled P s 3 k : ℝ) : EReal) := by
  pointwise [val_main_v103, val_main_v89, val_main_v90, val_main_v91, val_main_v92, val_main_v93, val_main_v94, val_main_v95, val_main_v96, val_main_v98, val_main_v99, val_main_v100, val_main_v101, val_main_v102, val_main_cst_14, val_main_cst_16]
  exact pool_row A s 3 k 16 rfl _ (r97 s 0)

theorem r108 (s : Fin 8192) (g : Fin 4) (k : Fin 256) : val_main_v108 (F := Ideal) x0 (ix3 s g k) = ((pooled P s g k : ℝ) : EReal) := by
  pointwise [val_main_v108, val_main_v104, val_main_v105, val_main_v106, val_main_v107]
  fin_cases g
  · exact r58 A s k
  · exact r73 A s k
  · exact r88 A s k
  · exact r103 A s k

theorem r110 (s : Fin 8192) (g : Fin 4) (k : Fin 256) : val_main_v110 (F := Ideal) x0 x3 (ix3 s g k) = ((zz P M s g k : ℝ) : EReal) := by
  pointwise [val_main_v110, val_main_v109]
  simp only [r108 A, A.hM, ← EReal.coe_mul, sumE, zz, mul_comm (pooled _ _ _ _)]

theorem r117 (s : Fin 8192) (g : Fin 4) (k : Fin 1) : val_main_v117 (F := Ideal) x0 x3 (ix3 s g k) = (((∑ k, zz P M s g k * zz P M s g k) / 256 + eps : ℝ) : EReal) := by
  pointwise [val_main_v111, val_main_v112, val_main_v113, val_main_v114, val_main_v115, val_main_v116, val_main_v117, val_main_cst_17, val_main_cst_18, val_main_cst_19]
  simp only [r110 A, ← EReal.coe_mul, sumE, c256E, epsE, div256E, ← EReal.coe_add]

theorem r118 (s : Fin 8192) (g : Fin 4) (k : Fin 1) : val_main_v118 (F := Ideal) x0 x3 (ix3 s g k) = ((rs (zz P M s g) : ℝ) : EReal) := by
  pointwise [val_main_v118]
  rw [r117 A, rs256E]

theorem r121 (s : Fin 8192) (g : Fin 4) (k : Fin 1) : val_main_v121 (F := Ideal) x0 x3 (ix3 s g k)
    = ((-(1 / 2) * (rs (zz P M s g) / ((∑ k, zz P M s g k * zz P M s g k) / (256 : ℕ) + eps)) : ℝ) : EReal) := by
  pointwise [val_main_v121, val_main_v120, val_main_v119, val_main_cst_20]
  have := (ms_pos (zz P M s g)).ne'
  rw [r118 A, r117 A, cmhE, divE _ _ (by exact_mod_cast this), ← EReal.coe_mul]
  norm_cast

theorem r123 (s : Fin 8192) (g : Fin 4) (k : Fin 256) : val_main_v123 (F := Ideal) x0 x3 (ix3 s g k) = ((zz P M s g k * rs (zz P M s g) : ℝ) : EReal) := by
  pointwise [val_main_v123, val_main_v122]
  rw [r110 A, r118 A, EReal.coe_mul]

theorem r135 (s : Fin 8192) (g : Fin 4) (k : Fin 256) : val_main_v135 (F := Ideal) x1 x4 (ix3 s g k) = ((D s (1024 + 256 * g + k) * S (256 * g + k) : ℝ) : EReal) := by
  pointwise [val_main_v135, val_main_v134, val_main_v133, val_main_v129]
  rw [A.hD, A.hS, ← EReal.coe_mul]
  show ((D s.val (1024 + (g.val * 256 + k.val)) * S (g.val * 256 + k.val) : ℝ) : EReal) = _
  rw [mul_comm g.val, add_assoc]

theorem r149 (s : Fin 8192) (g : Fin 4) (k : Fin 256) : val_main_v149 (F := Ideal) x0 x1 x3 x4 (ix3 s g k) = ((dz P D M S s g k : ℝ) : EReal) := by
  pointwise [val_main_v136, val_main_v137, val_main_v138, val_main_v139, val_main_v140, val_main_v141, val_main_v142, val_main_v143, val_main_v144, val_main_v145, val_main_v146, val_main_v147, val_main_v148, val_main_v149, val_main_cst_22, val_main_cst_23, val_main_cst_24]
  simp only [r110 A, r118 A, r121 A, r135 A, ← EReal.coe_mul, sumE, c256E, div256E, ← EReal.coe_add, Fin.sum_univ_one]
  refine congrArg _ ?_
  exact nb_eq (N := 256) (by decide) (zz P M s g) (fun k : Fin 256 => D s (1024 + 256 * g + k) * S (256 * g + k)) k

theorem r152 (s : Fin 8192) (g : Fin 4) (k : Fin 256) : val_main_v152 (F := Ideal) x0 x1 x3 x4 (ix3 s g k) = ((dpo P D M S s g k : ℝ) : EReal) := by
  pointwise [val_main_v150, val_main_v151, val_main_v152]
  simp only [r149 A, A.hM, ← EReal.coe_mul, sumE, dpo]

theorem dpo_zero (t g k : ℕ) (h : 8192 ≤ t) : dpo P D M S t g k = 0 := by
  refine Finset.sum_eq_zero fun j _ => ?_
  have : dz P D M S t g j = 0 := by
    unfold dz
    simp only [A.zD _ _ h, zero_mul, nb, mul_zero, Finset.sum_const_zero, zero_div, sub_zero]
  rw [this, zero_mul]

/-- One result of a group: the running sums' gradient at one row. -/
theorem pool_grad (s : Fin 8192) (g : Fin 4) (k : Fin 256) (w w' : ℕ) (hw : win g = w) (hs : w' + w = 8192) (c : S8192x1.Idx → EReal)
    (hc : ∀ (s : Fin 8192) (k : Fin 1), c (ix2 s k) = ((cnt s w : ℝ) : EReal)) :
    Ideal.div (val_main_v152 (F := Ideal) x0 x1 x3 x4 (ix3 s g k)) (c (ix2 s 0))
      + (if h : s.val < w' then -Ideal.div (val_main_v152 (F := Ideal) x0 x1 x3 x4 (ix3 ⟨w + s.val, by omega⟩ g k)) (c (ix2 ⟨w + s.val, by omega⟩ 0)) else 0)
      = ((dpn P D M S s g k - dpn P D M S (s + w) g k : ℝ) : EReal) := by
  have hp : 0 < w := hw ▸ (by unfold win; positivity)
  have hd : (if h : s.val < w' then -Ideal.div (val_main_v152 (F := Ideal) x0 x1 x3 x4 (ix3 ⟨w + s.val, by omega⟩ g k)) (c (ix2 ⟨w + s.val, by omega⟩ 0)) else 0)
      = ((-dpn P D M S (s + w) g k : ℝ) : EReal) := by
    split
    · rw [r152 A, hc, divE _ _ (cnt_ne _ hp), ← EReal.coe_neg, add_comm s.val w, dpn, hw, mul_one_div]
    · rw [dpn, dpo_zero A _ _ _ (by omega), zero_mul, neg_zero, EReal.coe_zero]
  rw [hd, r152 A, hc, divE _ _ (cnt_ne _ hp), ← EReal.coe_add, sub_eq_add_neg]
  congr 2
  rw [dpn, hw, mul_one_div]

theorem r213 (s : Fin 8192) (k : Fin 256) : val_main_v213 (F := Ideal) x0 x1 x3 x4 (ix2 s k) = ((dpn P D M S s 0 k - dpn P D M S (s + 2) 0 k : ℝ) : EReal) := by
  pointwise [val_main_v213, val_main_v207, val_main_v208, val_main_v209, val_main_v211, val_main_v212, val_main_v155, val_main_v156, val_main_cst_35]
  exact pool_grad A s 0 k 2 8190 rfl rfl _ r52
theorem r199 (s : Fin 8192) (k : Fin 256) : val_main_v199 (F := Ideal) x0 x1 x3 x4 (ix2 s k) = ((dpn P D M S s 1 k - dpn P D M S (s + 4) 1 k : ℝ) : EReal) := by
  pointwise [val_main_v199, val_main_v193, val_main_v194, val_main_v195, val_main_v197, val_main_v198, val_main_v157, val_main_v158, val_main_cst_32]
  exact pool_grad A s 1 k 4 8188 rfl rfl _ r67
theorem r185 (s : Fin 8192) (k : Fin 256) : val_main_v185 (F := Ideal) x0 x1 x3 x4 (ix2 s k) = ((dpn P D M S s 2 k - dpn P D M S (s + 8) 2 k : ℝ) : EReal) := by
  pointwise [val_main_v185, val_main_v179, val_main_v180, val_main_v181, val_main_v183, val_main_v184, val_main_v159, val_main_v160, val_main_cst_29]
  exact pool_grad A s 2 k 8 8184 rfl rfl _ r82
theorem r172 (s : Fin 8192) (k : Fin 256) : val_main_v172 (F := Ideal) x0 x1 x3 x4 (ix2 s k) = ((dpn P D M S s 3 k - dpn P D M S (s + 16) 3 k : ℝ) : EReal) := by
  pointwise [val_main_v172, val_main_v166, val_main_v167, val_main_v168, val_main_v170, val_main_v171, val_main_v161, val_main_v162, val_main_cst_26]
  exact pool_grad A s 3 k 16 8176 rfl rfl _ r97

theorem r216 (s : Fin 8192) (g : Fin 4) (k : Fin 256) : val_main_v216 (F := Ideal) x0 x1 x3 x4 (ix3 s g k) = ((dpn P D M S s g k - dpn P D M S (s + win g) g k : ℝ) : EReal) := by
  pointwise [val_main_v216, val_main_v215, val_main_v202, val_main_v201, val_main_v188, val_main_v187, val_main_v174, val_main_v173, val_main_v186, val_main_v200, val_main_v214, val_main_cst_27, val_main_cst_30, val_main_cst_33, val_main_cst_36]
  obtain ⟨g, hg⟩ := g
  interval_cases g
  · exact (by simp : _ = _).trans (r213 A s k)
  · exact (by simp : _ = _).trans (r199 A s k)
  · exact (by simp : _ = _).trans (r185 A s k)
  · exact (by simp : _ = _).trans (r172 A s k)
theorem r206 (s : Fin 8192) (g : Fin 4) (k : Fin 256) : val_main_v206 (F := Ideal) x0 x1 x3 x4 (ix3 s g k) = ((- dpo P D M S s g k : ℝ) : EReal) := by
  pointwise [val_main_v163, val_main_v164, val_main_v165, val_main_v175, val_main_v176, val_main_v177, val_main_v178, val_main_v189, val_main_v190, val_main_v191, val_main_v192, val_main_v203, val_main_v204, val_main_v205, val_main_v206, val_main_v162, val_main_v160, val_main_v158, val_main_v156, val_main_v161, val_main_v159, val_main_v157, val_main_v155, val_main_cst_25, val_main_cst_28, val_main_cst_31, val_main_cst_34]
  have e : ((-dpo P D M S s g k : ℝ) : EReal) = -((dpo P D M S s g k : ℝ) : EReal) := EReal.coe_neg _
  rw [e]
  obtain ⟨g, hg⟩ := g
  interval_cases g
  · exact (by simp : _ = _).trans (congrArg (fun a : EReal => -a) (r152 A s 0 k))
  · exact (by simp : _ = _).trans (congrArg (fun a : EReal => -a) (r152 A s 1 k))
  · exact (by simp : _ = _).trans (congrArg (fun a : EReal => -a) (r152 A s 2 k))
  · exact (by simp : _ = _).trans (congrArg (fun a : EReal => -a) (r152 A s 3 k))

theorem r217 (s : Fin 8192) (g : Fin 4) (k : Fin 256) : val_main_v217 (F := Ideal) x0 x1 x3 x4 (ix3 s g k) = ((∑ a ∈ Finset.range (win g), dpn P D M S (s + a) g k : ℝ) : EReal) := by
  unfold val_main_v217
  refine (down_sum _ (fun s => dpn P D M S s g k - dpn P D M S (s + win g) g k) g k (fun s => r216 A s g k) _ (by pointwise [val_main_call1_call0_v0, val_main_call1_call0_cst]) s).trans ?_
  have hz : ∀ t, 8192 ≤ t → dpn P D M S t g k = 0 := fun t h => by rw [dpn, dpo_zero A _ _ _ h, zero_mul]
  rw [← suffix_sub (fun s => dpn P D M S s g k) s (win g) 8192 hz]
  refine congrArg _ (Finset.sum_congr rfl fun a _ => ?_)
  by_cases h : s.val + a < 8192
  · rw [if_pos h]
  · rw [if_neg h, hz _ (by omega), hz _ (by omega), sub_zero]

theorem r219 (s : Fin 8192) (k : Fin 1024) : val_main_v219 (F := Ideal) x0 x1 x3 x4 (ix2 s k) = ((dv P D M S s (k / 256) (k % 256) : ℝ) : EReal) := by
  pointwise [val_main_v219, val_main_v218]
  rw [r206 A, r217 A, ← EReal.coe_add, dv, neg_add_eq_sub]

theorem r270 (s : Fin 8192) (k : Fin 4096) : val_main_v270 (F := Ideal) x0 x1 x2 x3 x4 (ix2 s k) = ((dproj P D W M S s k : ℝ) : EReal) := by
  pointwise [val_main_v270, val_main_v267, val_main_v237, val_main_v266, val_main_v265, val_main_v0, val_main_v1, val_main_v2]
  unfold dproj
  by_cases h1 : k.val < 1024
  · rw [if_pos h1]
    refine (dif_pos h1).trans ?_
    rw [r235 A, r21 A, EReal.coe_mul]
  · rw [if_neg h1]
    refine (dif_neg h1).trans ?_
    by_cases h2 : k.val < 2048
    · rw [if_pos h2]
      have h2' : k.val - 1024 < 1024 := by omega
      refine (dif_pos h2').trans ?_
      rw [r264 A, A.hP, ← EReal.coe_mul]
      show ((dcu P D W s.val (k.val - 1024) * P s.val (2048 + (k.val - 1024)) : ℝ) : EReal) = _
      rw [show 2048 + (k.val - 1024) = 1024 + k.val by omega]
    · rw [if_neg h2]
      have h2' : ¬ k.val - 1024 < 1024 := by omega
      refine (dif_neg h2').trans ?_
      have e : k.val - 1024 - 1024 = k.val - 2048 := by omega
      by_cases h3 : k.val < 3072
      · rw [if_pos h3]
        have h3' : k.val - 1024 - 1024 < 1024 := by omega
        refine (dif_pos h3').trans ?_
        rw [r264 A, A.hP, ← EReal.coe_mul]
        show ((P s.val (1024 + (k.val - 1024 - 1024)) * dcu P D W s.val (k.val - 1024 - 1024) : ℝ) : EReal) = _
        rw [e, show 1024 + (k.val - 2048) = k.val - 1024 by omega, mul_comm]
      · rw [if_neg h3]
        have h3' : ¬ k.val - 1024 - 1024 < 1024 := by omega
        refine (dif_neg h3').trans ?_
        rw [r219 A]
        show ((dv P D M S s.val ((k.val - 1024 - 1024 - 1024) / 256) ((k.val - 1024 - 1024 - 1024) % 256) : ℝ) : EReal) = _
        rw [show k.val - 1024 - 1024 - 1024 = k.val - 3072 by omega]

theorem r132 (s : Fin 1) (k : Fin 1024) : val_main_v132 (F := Ideal) x0 x1 x3 (ix2 s k) = ((∑ t ∈ Finset.range 8192, dsT P D M (k / 256) ⟨k % 256, Nat.mod_lt _ (by norm_num)⟩ t : ℝ) : EReal) := by
  pointwise [val_main_v129, val_main_v130, val_main_v131, val_main_v132, val_main_v124, val_main_cst_21]
  have hk : 1024 + k.val = 1024 + 256 * (k.val / 256) + k.val % 256 := by omega
  rw [← Fin.sum_univ_eq_sum_range (fun t => dsT P D M (k / 256) ⟨k % 256, Nat.mod_lt _ (by norm_num)⟩ t) 8192, ← sumE]
  refine Finset.sum_congr rfl fun t _ => ?_
  rw [r123 A, A.hD, ← EReal.coe_mul, mul_comm]
  show ((D t.val (1024 + k.val) * _ : ℝ) : EReal) = _
  rw [hk]
  rfl
theorem r269 (i g : Fin 4) (a : Fin 64) (b : Fin 256) : val_main_v269 (F := Ideal) x0 x1 x3 x4 (ix4 i g a b) = ((∑ t ∈ Finset.range 8192, dmT P D M S g (64 * i + a) b t : ℝ) : EReal) := by
  pointwise [val_main_v269, val_main_v268, val_main_v154, val_main_v153, val_main_v150]
  rw [← Fin.sum_univ_eq_sum_range (fun t => dmT P D M S g (64 * i + a) b t) 8192, ← sumE]
  refine Finset.sum_congr rfl fun t _ => ?_
  rw [r149 A, r108 A, ← EReal.coe_mul, mul_comm]
  show ((pooled P t.val g.val (i.val * 64 + a.val) * _ : ℝ) : EReal) = _
  rw [mul_comm i.val]
  rfl
end Cert.Mixers
-- ==== Proof.Mixers.Claim.lean ====
module
public import proofs.«01_k».proof.Defs
public import proofs.«01_k».proof.Proof.Mixers.Stages
public import proofs.«01_k».proof.Proof.Finite
public import proofs.«01_k».proof.Proof.Gen.Pre_mix_finite

@[expose] public section
set_option maxRecDepth 16384
noncomputable section

/-! # The mixers' gradient: the kernel and `jax.vjp` of the plain forward end with the same four arrays -/

namespace Cert.MixersClaim
open Idealize.ShloMosaic Idealize.ShloMosaic.TcCoe Idealize.SL.Sem
open Cert.Finite Cert.Mixers

instance : Subsingleton Cert.Pre_mix_finite.S_.Idx := ⟨fun a b => funext fun x => x.elim0⟩

open Cert.Pre_mix_finite in
/-- What the precondition says: every argument holds real numbers. -/
theorem pre_real (x0 : S8192x4096.Idx → EReal) (x1 : S8192x2048.Idx → EReal) (x2 : S3x1024.Idx → EReal) (x3 : S4x256x256.Idx → EReal) (x4 : S1x1024.Idx → EReal)
    (h : @Cert.Pre_mix_finite.fn Cert.Pre_mix_finite.Gen.facts Ideal _ x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  letI := Cert.Pre_mix_finite.Gen.facts
  obtain ⟨h, h4⟩ := andi_split h
  obtain ⟨h, h3⟩ := andi_split h
  obtain ⟨h, h2⟩ := andi_split h
  obtain ⟨h0, h1⟩ := andi_split h
  exact ⟨isReal_of_all _ _ _ _ _ (Shape.Idx.first Facts.h_S_) (fun _ => rfl) (congrFun h0 _),
    isReal_of_all _ _ _ _ _ (Shape.Idx.first Facts.h_S_) (fun _ => rfl) (congrFun h1 _),
    isReal_of_all _ _ _ _ _ (Shape.Idx.first Facts.h_S_) (fun _ => rfl) (congrFun h2 _),
    isReal_of_all _ _ _ _ _ (Shape.Idx.first Facts.h_S_) (fun _ => rfl) (congrFun h3 _),
    isReal_of_all _ _ _ _ _ (Shape.Idx.first Facts.h_S_) (fun _ => rfl) (congrFun h4 _)⟩

theorem toReal_real {x : EReal} (h : IsReal x) : x = ((x.toReal : ℝ) : EReal) := by
  obtain ⟨a, rfl⟩ := h
  rw [EReal.toReal_coe]

open Cert.KernelIdeal in
/-- Real arguments, as functions of row and column that are zero outside the arrays. -/
theorem args_exist (x0 : S8192x4096.Idx → EReal) (x1 : S8192x2048.Idx → EReal) (x2 : S3x1024.Idx → EReal) (x3 : S4x256x256.Idx → EReal) (x4 : S1x1024.Idx → EReal)
    (h0 : ∀ i, IsReal (x0 i)) (h1 : ∀ i, IsReal (x1 i)) (h2 : ∀ i, IsReal (x2 i)) (h3 : ∀ i, IsReal (x3 i)) (h4 : ∀ i, IsReal (x4 i)) :
    ∃ P D W M S, Args P D W M S x0 x1 x2 x3 x4 := by
  refine ⟨fun r k => if h : r < 8192 ∧ k < 4096 then (x0 (ix2 ⟨r, h.1⟩ ⟨k, h.2⟩)).toReal else 0,
    fun r k => if h : r < 8192 ∧ k < 2048 then (x1 (ix2 ⟨r, h.1⟩ ⟨k, h.2⟩)).toReal else 0,
    fun r k => if h : r < 3 ∧ k < 1024 then (x2 (ix2 ⟨r, h.1⟩ ⟨k, h.2⟩)).toReal else 0,
    fun g r k => if h : g < 4 ∧ r < 256 ∧ k < 256 then (x3 (ix3 ⟨g, h.1⟩ ⟨r, h.2.1⟩ ⟨k, h.2.2⟩)).toReal else 0,
    fun k => if h : k < 1024 then (x4 (ix2 0 ⟨k, h⟩)).toReal else 0, ?_, ?_, ?_, ?_, ?_, ?_, ?_⟩
  · exact fun r k => (toReal_real (h0 _)).trans (congrArg _ (by rw [dif_pos (show r.val < 8192 ∧ k.val < 4096 from ⟨r.isLt, k.isLt⟩)]))
  · exact fun r k => (toReal_real (h1 _)).trans (congrArg _ (by rw [dif_pos (show r.val < 8192 ∧ k.val < 2048 from ⟨r.isLt, k.isLt⟩)]))
  · exact fun r k => (toReal_real (h2 _)).trans (congrArg _ (by rw [dif_pos (show r.val < 3 ∧ k.val < 1024 from ⟨r.isLt, k.isLt⟩)]))
  · exact fun g r k => (toReal_real (h3 _)).trans (congrArg _ (by rw [dif_pos (show g.val < 4 ∧ r.val < 256 ∧ k.val < 256 from ⟨g.isLt, r.isLt, k.isLt⟩)]))
  · intro r k
    obtain rfl : r = 0 := Subsingleton.elim _ _
    exact (toReal_real (h4 _)).trans (congrArg _ (by rw [dif_pos k.isLt]))
  · exact fun r k h => dif_neg fun h' => absurd h'.1 (by omega)
  · exact fun r k h => dif_neg fun h' => absurd h'.1 (by omega)

theorem tiles (f : ℕ → ℝ) : ∑ k ∈ Finset.range 16, ∑ a : Fin 512, f (512 * k + a) = ∑ t ∈ Finset.range 8192, f t := sum_tiles f 16

section Reference
open Cert.ReferenceIdeal Cert.ReferenceIdeal.Read
variable {P D W : ℕ → ℕ → ℝ} {M : ℕ → ℕ → ℕ → ℝ} {S : ℕ → ℝ}
  {x0 : S8192x4096.Idx → EReal} {x1 : S8192x2048.Idx → EReal} {x2 : S3x1024.Idx → EReal} {x3 : S4x256x256.Idx → EReal} {x4 : S1x1024.Idx → EReal}
  (A : Args P D W M S x0 x1 x2 x3 x4)
include A

theorem ref0 : val_main_v270 (F := Ideal) x0 x1 x2 x3 x4 = fun y : S8192x4096.Idx => ((dproj P D W M S (y 0).val (y 1).val : ℝ) : EReal) := by
  funext i
  obtain ⟨a, b, rfl⟩ : ∃ (a : Fin 8192) (b : Fin 4096), i = ix2 a b := ⟨i 0, i 1, eq_ix2 i⟩
  exact r270 A a b
theorem ref1 : val_main_v262 (F := Ideal) x0 x1 x2 = fun y : S3x1024.Idx => ((∑ k ∈ Finset.range 16, dwR P D W k (y 0).val (y 1).val : ℝ) : EReal) := by
  funext i
  obtain ⟨a, b, rfl⟩ : ∃ (a : Fin 3) (b : Fin 1024), i = ix2 a b := ⟨i 0, i 1, eq_ix2 i⟩
  exact (r262 A a b).trans (congrArg _ (tiles fun t => dwT P D W a t b).symm)
theorem ref2 : val_main_v269 (F := Ideal) x0 x1 x3 x4
    = fun y : S4x4x64x256.Idx => ((∑ k ∈ Finset.range 16, dmR P D M S k (y 1).val (64 * (y 0).val + (y 2).val) (y 3) : ℝ) : EReal) := by
  funext i
  obtain ⟨a, b, c, d, rfl⟩ : ∃ (a b : Fin 4) (c : Fin 64) (d : Fin 256), i = ix4 a b c d := ⟨i 0, i 1, i 2, i 3, eq_ix4 i⟩
  exact (r269 A a b c d).trans (congrArg _ (tiles fun t => dmT P D M S b (64 * a + c) d t).symm)
theorem ref3 : val_main_v132 (F := Ideal) x0 x1 x3 = fun y : S1x1024.Idx => ((∑ k ∈ Finset.range 16, dsR P D M k (y 1).val : ℝ) : EReal) := by
  funext i
  obtain ⟨a, b, rfl⟩ : ∃ (a : Fin 1) (b : Fin 1024), i = ix2 a b := ⟨i 0, i 1, eq_ix2 i⟩
  exact (r132 A a b).trans (congrArg _ (tiles fun t => dsT P D M (b / 256) ⟨b % 256, Nat.mod_lt _ (by norm_num)⟩ t).symm)
end Reference

theorem claim : Cert.algebraic_KernelIdeal_ReferenceIdeal_pre_mix_finite (hKernelIdeal := Cert.KernelIdeal.Gen.facts)
    (hReferenceIdeal := Cert.ReferenceIdeal.Gen.facts) (hPre_mix_finite := Cert.Pre_mix_finite.Gen.facts) := by
  intro m g m' g' hpre hargs
  have hA (c) := (fun r => args_exist _ _ _ _ _ r.1 r.2.1 r.2.2.1 r.2.2.2.1 r.2.2.2.2) (pre_real _ _ _ _ _ (hpre c))
  choose P D W M S A using hA
  refine ⟨fun c => fun y : Cert.KernelIdeal.S8192x4096.Idx => ((dproj (P c) (D c) (W c) (M c) (S c) (y 0).val (y 1).val : ℝ) : EReal),
    fun c => fun y : Cert.KernelIdeal.S3x1024.Idx => ((∑ k ∈ Finset.range 16, dwR (P c) (D c) (W c) k (y 0).val (y 1).val : ℝ) : EReal),
    fun c => fun y : Cert.KernelIdeal.S4x4x64x256.Idx => ((∑ k ∈ Finset.range 16, dmR (P c) (D c) (M c) (S c) k (y 1).val (64 * (y 0).val + (y 2).val) (y 3) : ℝ) : EReal),
    fun c => fun y : Cert.KernelIdeal.S1x1024.Idx => ((∑ k ∈ Finset.range 16, dsR (P c) (D c) (M c) k (y 1).val : ℝ) : EReal), ?_, ?_⟩
  · refine (θ_run Cert.KernelIdeal.defs _ _).mono (fun r h c => ?_) (Cert.KernelIdeal.Value.run_blocks m g)
    obtain ⟨h0, h1, h2, h3, hrest⟩ := h c
    exact ⟨h0.trans (fin_18 m c (A c)), h1.trans (fin_19 m c (A c)), h2.trans (fin_20 m c (A c)), h3.trans (fin_21 m c (A c)), hrest⟩
  · refine (θ_run Cert.ReferenceIdeal.defs _ _).mono (fun r h c => ?_) (Cert.ReferenceIdeal.Value.run (F := Ideal) m' g')
    obtain ⟨h0, h1, h2, h3, hrest⟩ := h c
    obtain ⟨a0, a1, a2, a3, a4⟩ := hargs c
    replace a0 : StableHlo.launchContents m' c (Proc.tc.devRef Cert.ReferenceIdeal.main_arg0) = _ := a0
    replace a1 : StableHlo.launchContents m' c (Proc.tc.devRef Cert.ReferenceIdeal.main_arg1) = _ := a1
    replace a2 : StableHlo.launchContents m' c (Proc.tc.devRef Cert.ReferenceIdeal.main_arg2) = _ := a2
    replace a3 : StableHlo.launchContents m' c (Proc.tc.devRef Cert.ReferenceIdeal.main_arg3) = _ := a3
    replace a4 : StableHlo.launchContents m' c (Proc.tc.devRef Cert.ReferenceIdeal.main_arg4) = _ := a4
    rw [Cert.ReferenceIdeal.Read.val_main_v270_eq, a0, a1, a2, a3, a4] at h0
    rw [Cert.ReferenceIdeal.Read.val_main_v262_eq, a0, a1, a2] at h1
    rw [Cert.ReferenceIdeal.Read.val_main_v269_eq, a0, a1, a3, a4] at h2
    rw [Cert.ReferenceIdeal.Read.val_main_v132_eq, a0, a1, a3] at h3
    exact ⟨h0.trans (ref0 (A c)), h1.trans (ref1 (A c)), h2.trans (ref2 (A c)), h3.trans (ref3 (A c)), hrest⟩

end Cert.MixersClaim
-- ==== Proof.Act.Blocks.lean ====
module

public import proofs.«01_k».proof.Proof.Gen.Kernel2Ideal.Frame
public import Idealize.ShloMosaic.Lib.Pipeline.Value
public import Idealize.ShloMosaic.Lib.Pointwise

@[expose] public section

set_option maxRecDepth 16384

noncomputable section

namespace Cert.Kernel2Ideal.Act

open Idealize.ShloMosaic Idealize.ShloMosaic.TcCoe Idealize.SL.Sem
open Idealize.ShloMosaic.Pipeline (Dat)
open Cert.Kernel2Ideal Cert.Kernel2Ideal.Gen

theorem hz : (![0, 0] : Fin 2 → Nat) = fun _ => 0 := funext fun a => by fin_cases a <;> rfl

/-- The product `x · w` at row `i` and column `j`. -/
def dotA (x : S8192x2048.Idx → EReal) (w : S2048x5632.Idx → EReal) (i : Fin 8192) (j : Fin 5632) : EReal :=
  ∑ k : Fin 2048, x (ix2 i k) * w (ix2 k j)

/-- The product `x · wᵀ` at row `i` and column `j`. -/
def dotB (x : S8192x2048.Idx → EReal) (w : S5632x2048.Idx → EReal) (i : Fin 8192) (j : Fin 5632) : EReal :=
  ∑ k : Fin 2048, x (ix2 i k) * w (ix2 j k)

variable (V : (c : Dev nD) → (b : Ref sig .tc) → Buf (Elt Ideal) ((c : Thread nD τ).loc b))

theorem idx0_0 : ∀ t : Fin cfg0.N, win0_0.index t 0 * win0_0.size 0 = 1024 * (t.val % 8) ∧ win0_0.index t 1 * win0_0.size 1 = 0 := by
  decide +kernel
theorem idx0_1 : ∀ t : Fin cfg0.N, win0_1.index t 0 * win0_1.size 0 = 0 ∧ win0_1.index t 1 * win0_1.size 1 = 512 * (t.val / 8) := by
  decide +kernel
theorem idx0_2 : ∀ t : Fin cfg0.N, win0_2.index t 0 * win0_2.size 0 = 0 ∧ win0_2.index t 1 * win0_2.size 1 = 512 * (t.val / 8) := by
  decide +kernel
theorem idx0_3 : ∀ t : Fin cfg0.N, win0_3.index t 0 * win0_3.size 0 = 1024 * (t.val % 8) ∧ win0_3.index t 1 * win0_3.size 1 = 512 * (t.val / 8) := by
  decide +kernel

theorem lt0 (t : Fin cfg0.N) : t.val < 88 := lt_of_lt_of_eq t.isLt N_0

/-- The row of the whole array at which row `a` of point `t`'s block sits, and the column likewise. -/
abbrev row0 (t : Fin cfg0.N) (a : Fin 1024) : Fin 8192 := ⟨1024 * (t.val % 8) + a.val, by omega⟩
abbrev col0 (t : Fin cfg0.N) (b : Fin 512) : Fin 5632 := ⟨512 * (t.val / 8) + b.val, by have := lt0 t; omega⟩

theorem blk0_0 (c : Dev nD) (t : Fin cfg0.N) (a : Fin 1024) (k : Fin 2048) :
    iblk0 V c 0 t (ix2 a k) = V c (Pipeline.arrRef spec0 0) (ix2 (row0 t a) k) := by
  show V c (Pipeline.arrRef spec0 0) _ = _
  congr 1
  funext b
  apply Fin.ext
  match b with
  | ⟨0, _⟩ => exact (Pipeline.Window.rect_emb_val_off win0_0 t _ 0).trans (congrArg (· + a.val) (idx0_0 t).1)
  | ⟨1, _⟩ => exact (Pipeline.Window.rect_emb_val_off win0_0 t _ 1).trans ((congrArg (· + k.val) (idx0_0 t).2).trans (Nat.zero_add _))

theorem blk0_1 (c : Dev nD) (t : Fin cfg0.N) (k : Fin 2048) (b : Fin 512) :
    iblk0 V c 1 t (ix2 k b) = V c (Pipeline.arrRef spec0 1) (ix2 k (col0 t b)) := by
  show V c (Pipeline.arrRef spec0 1) _ = _
  congr 1
  funext x
  apply Fin.ext
  match x with
  | ⟨0, _⟩ => exact (Pipeline.Window.rect_emb_val_off win0_1 t _ 0).trans ((congrArg (· + k.val) (idx0_1 t).1).trans (Nat.zero_add _))
  | ⟨1, _⟩ => exact (Pipeline.Window.rect_emb_val_off win0_1 t _ 1).trans (congrArg (· + b.val) (idx0_1 t).2)

theorem blk0_2 (c : Dev nD) (t : Fin cfg0.N) (k : Fin 2048) (b : Fin 512) :
    iblk0 V c 2 t (ix2 k b) = V c (Pipeline.arrRef spec0 2) (ix2 k (col0 t b)) := by
  show V c (Pipeline.arrRef spec0 2) _ = _
  congr 1
  funext x
  apply Fin.ext
  match x with
  | ⟨0, _⟩ => exact (Pipeline.Window.rect_emb_val_off win0_2 t _ 0).trans ((congrArg (· + k.val) (idx0_2 t).1).trans (Nat.zero_add _))
  | ⟨1, _⟩ => exact (Pipeline.Window.rect_emb_val_off win0_2 t _ 1).trans (congrArg (· + b.val) (idx0_2 t).2)

abbrev gA (c : Dev nD) := dotA (V c (Pipeline.arrRef spec0 0)) (V c (Pipeline.arrRef spec0 1))
abbrev uA (c : Dev nD) := dotA (V c (Pipeline.arrRef spec0 0)) (V c (Pipeline.arrRef spec0 2))

theorem pay1 (c : Dev nD) (t : Fin cfg0.N) (a : Fin 1024) (b : Fin 512) :
    k0_pay1 (iblk0 V c 0 t) (iblk0 V c 1 t) (ix2 a b) = gA V c (row0 t a) (col0 t b) := by
  pointwise [k0_pay1]
  exact Finset.sum_congr rfl fun k _ => by rw [blk0_0, blk0_1]

theorem pay2 (c : Dev nD) (t : Fin cfg0.N) (a : Fin 1024) (b : Fin 512) :
    k0_pay2 (iblk0 V c 0 t) (iblk0 V c 2 t) (ix2 a b) = uA V c (row0 t a) (col0 t b) := by
  pointwise [k0_pay2]
  exact Finset.sum_congr rfl fun k _ => by rw [blk0_0, blk0_2]

/-- The sigmoid of the gate product, the gate's share of the gradient, the activated gate and their product, entry by entry. -/
def sA (c : Dev nD) (i : Fin 8192) (j : Fin 5632) : EReal := Ideal.logistic (gA V c i j)
def G3 (c : Dev nD) : S8192x5632.Idx → EReal := fun i =>
  uA V c (i 0) (i 1) * (sA V c (i 0) (i 1) + gA V c (i 0) (i 1) * sA V c (i 0) (i 1) * (1 - sA V c (i 0) (i 1)))
def G4 (c : Dev nD) : S8192x5632.Idx → EReal := fun i => gA V c (i 0) (i 1) * sA V c (i 0) (i 1)
def G5 (c : Dev nD) : S8192x5632.Idx → EReal := fun i => gA V c (i 0) (i 1) * sA V c (i 0) (i 1) * uA V c (i 0) (i 1)

theorem emb0 (t : Fin cfg0.N) (a : Fin 1024) (b : Fin 512) : (win0_3.rect t).emb (ix2 a b) = ix2 (row0 t a) (col0 t b) := by
  funext x
  apply Fin.ext
  match x with
  | ⟨0, _⟩ => exact (Pipeline.Window.rect_emb_val_off win0_3 t _ 0).trans (congrArg (· + a.val) (idx0_3 t).1)
  | ⟨1, _⟩ => exact (Pipeline.Window.rect_emb_val_off win0_3 t _ 1).trans (congrArg (· + b.val) (idx0_3 t).2)

theorem flushed0_3 (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz]
  simp only [View.ld_unit_zero (S := S1024x2048) hz, View.ld_unit_zero (S := S2048x512) hz]
  funext y
  obtain ⟨a, b, rfl⟩ : ∃ (a : Fin 1024) (b : Fin 512), y = ix2 a b := ⟨y 0, y 1, eq_ix2 y⟩
  show k0_pay5 (F := Ideal) _ _ _ _ (ix2 a b) = G3 V c ((win0_3.rect t).emb (ix2 a b))
  rw [emb0]
  pointwise [k0_pay5, k0_pay4, k0_pay3]
  rw [pay1, pay2]
  rfl

theorem flushed0_4 (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz]
  simp only [View.ld_unit_zero (S := S1024x2048) hz, View.ld_unit_zero (S := S2048x512) hz]
  funext y
  obtain ⟨a, b, rfl⟩ : ∃ (a : Fin 1024) (b : Fin 512), y = ix2 a b := ⟨y 0, y 1, eq_ix2 y⟩
  show k0_pay6 (F := Ideal) _ _ (ix2 a b) = G4 V c ((win0_3.rect t).emb (ix2 a b))
  rw [emb0]
  pointwise [k0_pay6, k0_pay4, k0_pay3]
  rw [pay1]
  rfl

theorem flushed0_5 (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz]
  simp only [View.ld_unit_zero (S := S1024x2048) hz, View.ld_unit_zero (S := S2048x512) hz]
  funext y
  obtain ⟨a, b, rfl⟩ : ∃ (a : Fin 1024) (b : Fin 512), y = ix2 a b := ⟨y 0, y 1, eq_ix2 y⟩
  show k0_pay7 (F := Ideal) _ _ _ _ (ix2 a b) = G5 V c ((win0_3.rect t).emb (ix2 a b))
  rw [emb0]
  pointwise [k0_pay7, k0_pay4, k0_pay3]
  rw [pay1, pay2]
  rfl

/-- Every entry of a result of the gate call lies in some point's block. -/
theorem cover0 (i : S8192x5632.Idx) : ∃ (t : Fin cfg0.N) (x : S1024x512.Idx), (win0_3.rect t).emb x = i := by
  obtain ⟨r, s, rfl⟩ : ∃ (r : Fin 8192) (s : Fin 5632), i = ix2 r s := ⟨i 0, i 1, eq_ix2 i⟩
  have hr := r.isLt
  have hs := s.isLt
  have hN : cfg0.N = 88 := N_0
  have ht : s.val / 512 * 8 + r.val / 1024 < cfg0.N := by omega
  refine ⟨⟨_, ht⟩, ix2 (⟨r.val % 1024, by omega⟩ : Fin 1024) (⟨s.val % 512, by omega⟩ : Fin 512), ?_⟩
  rw [emb0]
  congr 1 <;> apply Fin.ext <;> dsimp only [row0, col0] <;> omega

theorem fin0_3 (c : Dev nD) : (dat0 V c).arrAt 3 cfg0.N = G3 V c :=
  (dat0 V c).arrAt_eq_of_cover 3 (G3 V c) (fun t _ => flushed0_3 V c t) fun i => by
    obtain ⟨t, x, rfl⟩ := cover0 i
    exact ⟨t, flush0_3 t, View.emb_mem_set (v := ((cfg0.win 3).blk t).view) x⟩
theorem fin0_4 (c : Dev nD) : (dat0 V c).arrAt 4 cfg0.N = G4 V c :=
  (dat0 V c).arrAt_eq_of_cover 4 (G4 V c) (fun t _ => flushed0_4 V c t) fun i => by
    obtain ⟨t, x, rfl⟩ := cover0 i
    exact ⟨t, flush0_4 t, View.emb_mem_set (v := ((cfg0.win 4).blk t).view) x⟩
theorem fin0_5 (c : Dev nD) : (dat0 V c).arrAt 5 cfg0.N = G5 V c :=
  (dat0 V c).arrAt_eq_of_cover 5 (G5 V c) (fun t _ => flushed0_5 V c t) fun i => by
    obtain ⟨t, x, rfl⟩ := cover0 i
    exact ⟨t, flush0_5 t, View.emb_mem_set (v := ((cfg0.win 5).blk t).view) x⟩

end Cert.Kernel2Ideal.Act
end
-- ==== Proof.Act.Product.lean ====
module
public import proofs.«01_k».proof.Proof.Act.Blocks
public import Idealize.ShloMosaic.Lib.Pipeline.ValueKit

@[expose] public section
set_option maxRecDepth 16384
noncomputable section

/-! # The second call of the pair: the cotangent's product against the two arrays the gate call left -/

namespace Cert.Kernel2Ideal.Act
open Idealize.ShloMosaic Idealize.ShloMosaic.TcCoe Idealize.SL.Sem
open Idealize.ShloMosaic.Pipeline (Dat)
open Cert.Kernel2Ideal Cert.Kernel2Ideal.Gen

variable (V : (c : Dev nD) → (b : Ref sig .tc) → Buf (Elt Ideal) ((c : Thread nD τ).loc b))

theorem idx1_0 : ∀ t : Fin cfg1.N, win1_0.index t 0 * win1_0.size 0 = 2048 * (t.val / 11) ∧ win1_0.index t 1 * win1_0.size 1 = 0 := by
  decide +kernel
theorem idx1_1 : ∀ t : Fin cfg1.N, win1_1.index t 0 * win1_1.size 0 = 512 * (t.val % 11) ∧ win1_1.index t 1 * win1_1.size 1 = 0 := by
  decide +kernel
theorem idx1_2 : ∀ t : Fin cfg1.N, win1_2.index t 0 * win1_2.size 0 = 2048 * (t.val / 11) ∧ win1_2.index t 1 * win1_2.size 1 = 512 * (t.val % 11) := by
  decide +kernel
theorem lt1 (t : Fin cfg1.N) : t.val < 44 := lt_of_lt_of_eq t.isLt N_1

/-- The row and the column of the whole arrays under an entry of point `t`'s block. -/
abbrev row1 (t : Fin cfg1.N) (a : Fin 2048) : Fin 8192 := ⟨2048 * (t.val / 11) + a.val, by have := lt1 t; omega⟩
abbrev col1 (t : Fin cfg1.N) (b : Fin 512) : Fin 5632 := ⟨512 * (t.val % 11) + b.val, by omega⟩

theorem emb1 (t : Fin cfg1.N) (a : Fin 2048) (b : Fin 512) : (win1_2.rect t).emb (ix2 a b) = ix2 (row1 t a) (col1 t b) := by
  funext x
  apply Fin.ext
  match x with
  | ⟨0, _⟩ => exact (Pipeline.Window.rect_emb_val_off win1_2 t _ 0).trans (congrArg (· + a.val) (idx1_2 t).1)
  | ⟨1, _⟩ => exact (Pipeline.Window.rect_emb_val_off win1_2 t _ 1).trans (congrArg (· + b.val) (idx1_2 t).2)

theorem blk1_0 (c : Dev nD) (t : Fin cfg1.N) (a : Fin 2048) (k : Fin 2048) :
    iblk1 V c 0 t (ix2 a k) = V c (Pipeline.arrRef spec1 0) (ix2 (row1 t a) k) := by
  show V c (Pipeline.arrRef spec1 0) _ = _
  congr 1; funext b; apply Fin.ext
  match b with
  | ⟨0, _⟩ => exact (Pipeline.Window.rect_emb_val_off win1_0 t _ 0).trans (congrArg (· + a.val) (idx1_0 t).1)
  | ⟨1, _⟩ => exact (Pipeline.Window.rect_emb_val_off win1_0 t _ 1).trans ((congrArg (· + k.val) (idx1_0 t).2).trans (Nat.zero_add _))
theorem blk1_1 (c : Dev nD) (t : Fin cfg1.N) (b : Fin 512) (k : Fin 2048) :
    iblk1 V c 1 t (ix2 b k) = V c (Pipeline.arrRef spec1 1) (ix2 (col1 t b) k) := by
  show V c (Pipeline.arrRef spec1 1) _ = _
  congr 1; funext x; apply Fin.ext
  match x with
  | ⟨0, _⟩ => exact (Pipeline.Window.rect_emb_val_off win1_1 t _ 0).trans (congrArg (· + b.val) (idx1_1 t).1)
  | ⟨1, _⟩ => exact (Pipeline.Window.rect_emb_val_off win1_1 t _ 1).trans ((congrArg (· + k.val) (idx1_1 t).2).trans (Nat.zero_add _))
theorem blk1_2 (c : Dev nD) (t : Fin cfg1.N) (a : Fin 2048) (b : Fin 512) :
    iblk1 V c 2 t (ix2 a b) = V c (Pipeline.arrRef spec1 2) (ix2 (row1 t a) (col1 t b)) := by
  show V c (Pipeline.arrRef spec1 2) _ = _
  congr 1
  exact emb1 t a b
theorem blk1_3 (c : Dev nD) (t : Fin cfg1.N) (a : Fin 2048) (b : Fin 512) :
    iblk1 V c 3 t (ix2 a b) = V c (Pipeline.arrRef spec1 3) (ix2 (row1 t a) (col1 t b)) := by
  show V c (Pipeline.arrRef spec1 3) _ = _
  congr 1
  exact emb1 t a b

/-- The cotangent's product with the down matrix, an entry of it. -/
abbrev dA (c : Dev nD) := dotB (V c (Pipeline.arrRef spec1 0)) (V c (Pipeline.arrRef spec1 1))

def H4 (c : Dev nD) : S8192x5632.Idx → EReal := fun i => dA V c (i 0) (i 1) * V c (Pipeline.arrRef spec1 2) (ix2 (i 0) (i 1))
def H5 (c : Dev nD) : S8192x5632.Idx → EReal := fun i => dA V c (i 0) (i 1) * V c (Pipeline.arrRef spec1 3) (ix2 (i 0) (i 1))

theorem fin1_4 (c : Dev nD) : (dat1 V c).arrAt 4 cfg1.N = H4 V c := by
  refine (dat1 V c).arrAt_eq_of_covers 4 (H4 V c) (by decide +kernel) fun t _ y => ?_
  obtain ⟨a, b, rfl⟩ : ∃ (a : Fin 2048) (b : Fin 512), y = ix2 a b := ⟨y 0, y 1, eq_ix2 y⟩
  show (dat1 V c).after 4 t (ix2 a b) = H4 V c ((win1_2.rect t).emb (ix2 a b))
  rw [emb1, after1_4]
  unfold out1_4
  rw [View.canon_unit_zero hz]
  simp only [View.ld_unit_zero (S := S2048x2048) hz, View.ld_unit_zero (S := S512x2048) hz, View.ld_unit_zero (S := S2048x512) hz]
  pointwise [k1_pay2, k1_pay1]
  rw [blk1_2]
  refine congrArg (· * _) (Finset.sum_congr rfl fun k _ => ?_)
  rw [blk1_0, blk1_1]
  rfl

theorem fin1_5 (c : Dev nD) : (dat1 V c).arrAt 5 cfg1.N = H5 V c := by
  refine (dat1 V c).arrAt_eq_of_covers 5 (H5 V c) (by decide +kernel) fun t _ y => ?_
  obtain ⟨a, b, rfl⟩ : ∃ (a : Fin 2048) (b : Fin 512), y = ix2 a b := ⟨y 0, y 1, eq_ix2 y⟩
  show (dat1 V c).after 5 t (ix2 a b) = H5 V c ((win1_2.rect t).emb (ix2 a b))
  rw [emb1, after1_5]
  unfold out1_5
  rw [View.canon_unit_zero hz]
  simp only [View.ld_unit_zero (S := S2048x2048) hz, View.ld_unit_zero (S := S512x2048) hz, View.ld_unit_zero (S := S2048x512) hz]
  pointwise [k1_pay3, k1_pay1]
  rw [blk1_3]
  refine congrArg (· * _) (Finset.sum_congr rfl fun k _ => ?_)
  rw [blk1_0, blk1_1]
  rfl

end Cert.Kernel2Ideal.Act
-- ==== Proof.Act.Run.lean ====
module
public import proofs.«01_k».proof.Proof.Act.Product

@[expose] public section
set_option maxRecDepth 16384
noncomputable section

/-! # The two calls run: every buffer ends at the contents after the second call, and what the three results then hold -/

namespace Cert.Kernel2Ideal.Act
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel2Ideal Cert.Kernel2Ideal.Gen

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of every core ends at its contents after the second call. -/
theorem run : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Run

variable (m : (ℓ : Loc nD τ sig) → Buf (Elt Ideal) ℓ) (ρ : Dev nD → PrngReg)

/-- The programs' five arguments, as arrays of extended reals. -/
abbrev hf (c : Dev nD) : S8192x2048.Idx → EReal := m ((c : Thread nD τ).loc main_arg0)
abbrev wg (c : Dev nD) : S2048x5632.Idx → EReal := m ((c : Thread nD τ).loc main_arg1)
abbrev wu (c : Dev nD) : S2048x5632.Idx → EReal := m ((c : Thread nD τ).loc main_arg2)
abbrev wd (c : Dev nD) : S5632x2048.Idx → EReal := m ((c : Thread nD τ).loc main_arg3)
abbrev dff (c : Dev nD) : S8192x2048.Idx → EReal := m ((c : Thread nD τ).loc main_arg4)

theorem V1_hf (c : Dev nD) : V1 m ρ c main_v0 = hf m c := rfl
theorem V1_dff (c : Dev nD) : V1 m ρ c main_v1 = dff m c := rfl
theorem V1_wg (c : Dev nD) : V1 m ρ c main_v2 = wg m c := rfl
theorem V1_wu (c : Dev nD) : V1 m ρ c main_v3 = wu m c := rfl
theorem V1_wd (c : Dev nD) : V1 m ρ c main_v4 = wd m c := rfl
theorem V2_dff (c : Dev nD) : V2 m ρ c main_v1 = dff m c := (W2_of m ρ c main_v1 (by decide)).trans (V1_dff m ρ c)
theorem V2_wd (c : Dev nD) : V2 m ρ c main_v4 = wd m c := (W2_of m ρ c main_v4 (by decide)).trans (V1_wd m ρ c)
theorem V2_g (c : Dev nD) : V2 m ρ c main_v5_0 = G3 (V1 m ρ) c := (W2_arr m ρ c 3).trans (fin0_3 _ c)
theorem V2_s (c : Dev nD) : V2 m ρ c main_v5_1 = G4 (V1 m ρ) c := (W2_arr m ρ c 4).trans (fin0_4 _ c)

/-- The gate product, the up product, the sigmoid of the gate, the cotangent's product, entry by entry. -/
abbrev gate (c : Dev nD) := dotA (hf m c) (wg m c)
abbrev up (c : Dev nD) := dotA (hf m c) (wu m c)
abbrev sig' (c : Dev nD) (i : Fin 8192) (j : Fin 5632) : EReal := Ideal.logistic (gate m c i j)
abbrev dact (c : Dev nD) := dotB (dff m c) (wd m c)

/-- What the three results hold: the gate's gradient, the up branch's gradient, the activation. -/
def out0 (c : Dev nD) : S8192x5632.Idx → EReal := fun i =>
  dact m c (i 0) (i 1) * (up m c (i 0) (i 1) * (sig' m c (i 0) (i 1) + gate m c (i 0) (i 1) * sig' m c (i 0) (i 1) * (1 - sig' m c (i 0) (i 1))))
def out1 (c : Dev nD) : S8192x5632.Idx → EReal := fun i => dact m c (i 0) (i 1) * (gate m c (i 0) (i 1) * sig' m c (i 0) (i 1))
def out2 (c : Dev nD) : S8192x5632.Idx → EReal := fun i => gate m c (i 0) (i 1) * sig' m c (i 0) (i 1) * up m c (i 0) (i 1)

theorem W3_out0 (c : Dev nD) : W3 m ρ c (Proc.devRef .tc main_v6_0) = out0 m c := by
  refine (W3_arr m ρ c 4).trans ((fin1_4 _ c).trans (funext fun i => ?_))
  show dotB (V2 m ρ c main_v1) (V2 m ρ c main_v4) (i 0) (i 1) * V2 m ρ c main_v5_0 (ix2 (i 0) (i 1)) = _
  rw [V2_dff, V2_wd, V2_g]
  rfl
theorem W3_out1 (c : Dev nD) : W3 m ρ c (Proc.devRef .tc main_v6_1) = out1 m c := by
  refine (W3_arr m ρ c 5).trans ((fin1_5 _ c).trans (funext fun i => ?_))
  show dotB (V2 m ρ c main_v1) (V2 m ρ c main_v4) (i 0) (i 1) * V2 m ρ c main_v5_1 (ix2 (i 0) (i 1)) = _
  rw [V2_dff, V2_wd, V2_s]
  rfl
theorem W3_out2 (c : Dev nD) : W3 m ρ c (Proc.devRef .tc main_v5_2) = out2 m c :=
  (W3_of m ρ c main_v5_2 (by decide)).trans ((W2_arr m ρ c 5).trans (fin0_5 _ c))

end Cert.Kernel2Ideal.Act
-- ==== Proof.Act.Claim.lean ====
module
public import proofs.«01_k».proof.Defs
public import proofs.«01_k».proof.Proof.Act.Run
public import proofs.«01_k».proof.Proof.Finite
public import proofs.«01_k».proof.Proof.Gen.Reference2Ideal.Run
public import proofs.«01_k».proof.Proof.Gen.Reference2Ideal.Read
public import proofs.«01_k».proof.Proof.Gen.Pre_act_finite

@[expose] public section
set_option maxRecDepth 16384
noncomputable section

/-! # The SwiGLU gradient: the two calls and `jax.vjp` of the plain forward end with the same three arrays -/

namespace Cert.ActClaim
open Idealize.ShloMosaic Idealize.ShloMosaic.TcCoe Idealize.SL.Sem
open Cert.Finite Cert.Kernel2Ideal.Act

section Reference
open Cert.Reference2Ideal Cert.Reference2Ideal.Gen Cert.Reference2Ideal.Read

variable (x0 : S8192x2048.Idx → EReal) (x1 x2 : S2048x5632.Idx → EReal) (x3 : S5632x2048.Idx → EReal) (x4 : S8192x2048.Idx → EReal)

theorem ref_gate (w : S2048x5632.Idx → EReal) (i : Fin 8192) (j : Fin 5632) : val_main_v0 (F := Ideal) x0 w (ix2 i j) = dotA x0 w i j := by
  pointwise [val_main_v0]
  rfl
theorem ref_up (w : S2048x5632.Idx → EReal) (i : Fin 8192) (j : Fin 5632) : val_main_v1 (F := Ideal) x0 w (ix2 i j) = dotA x0 w i j := by
  pointwise [val_main_v1]
  rfl
theorem ref_dact (i : Fin 8192) (j : Fin 5632) : val_main_v5 (F := Ideal) x3 x4 (ix2 i j) = dotB x4 x3 i j := by
  pointwise [val_main_v5]
  rfl
theorem ref_sig (i : Fin 8192) (j : Fin 5632) : val_main_v2_2 (F := Ideal) x0 x1 (ix2 i j) = Ideal.logistic (dotA x0 x1 i j) := by
  pointwise [val_main_v2_2, val_main_call0_v4, val_main_call0_cst_0, val_main_call0_v3, val_main_call0_v2, val_main_call0_cst, val_main_call0_v1, val_main_call0_v0]
  rw [ref_gate]
  rfl
theorem ref_sig' (i : Fin 8192) (j : Fin 5632) : val_main_call2_v5 (F := Ideal) x0 x1 (ix2 i j) = Ideal.logistic (dotA x0 x1 i j) :=
  (show val_main_call2_v5 (F := Ideal) x0 x1 (ix2 i j) = val_main_v2_2 (F := Ideal) x0 x1 (ix2 i j) from rfl).trans (ref_sig x0 x1 i j)

theorem ref9 (i : Fin 8192) (j : Fin 5632) : val_main_v9 (F := Ideal) x0 x1 x2 x3 x4 (ix2 i j)
    = dotB x4 x3 i j * dotA x0 x2 i j * Ideal.logistic (dotA x0 x1 i j)
      + dotA x0 x1 i j * (dotB x4 x3 i j * dotA x0 x2 i j) * (Ideal.logistic (dotA x0 x1 i j) * (1 - Ideal.logistic (dotA x0 x1 i j))) := by
  pointwise [val_main_v9, val_main_v8, val_main_call1_v1, val_main_call1_v2, val_main_call1_v0, val_main_v7, val_main_v2_1, val_main_call0_v7, val_main_call0_v6, val_main_call0_cst_1]
  rw [ref_gate, ref_up, ref_dact, ref_sig]
theorem ref10 (i : Fin 8192) (j : Fin 5632) : val_main_v10 (F := Ideal) x0 x1 x3 x4 (ix2 i j)
    = dotA x0 x1 i j * Ideal.logistic (dotA x0 x1 i j) * dotB x4 x3 i j := by
  pointwise [val_main_v10, val_main_v6, val_main_v2_0]
  rw [ref_gate, ref_dact, ref_sig]
theorem ref13 (i : Fin 8192) (j : Fin 5632) : val_main_v13 (F := Ideal) x0 x1 x2 (ix2 i j)
    = dotA x0 x1 i j * Ideal.logistic (dotA x0 x1 i j) * dotA x0 x2 i j := by
  pointwise [val_main_v13, val_main_v12, val_main_v11]
  rw [ref_gate, ref_up, ref_sig']

end Reference

/-- The gate's gradient in the kernel's grouping and in the reference's: `dact·up` is a real number, and the sigmoid is one. -/
theorem swap (d u g : EReal) (hd : IsReal d) (hu : IsReal u) :
    d * (u * (Ideal.logistic g + g * Ideal.logistic g * (1 - Ideal.logistic g)))
      = d * u * Ideal.logistic g + g * (d * u) * (Ideal.logistic g * (1 - Ideal.logistic g)) := by
  rw [← mul_assoc, (hd.mul hu).mul_add (.logistic g)]
  congr 1
  rw [mul_assoc g, ← mul_assoc (d * u), mul_comm (d * u) g]

instance : Subsingleton Cert.Pre_act_finite.S_.Idx := ⟨fun a b => funext fun x => x.elim0⟩

open Cert.Pre_act_finite in
/-- What the precondition says: the inputs, the up and the down matrix and the cotangent hold real numbers. -/
theorem pre_real (x0 : S8192x2048.Idx → EReal) (x1 x2 : S2048x5632.Idx → EReal) (x3 : S5632x2048.Idx → EReal) (x4 : S8192x2048.Idx → EReal)
    (h : @Cert.Pre_act_finite.fn Cert.Pre_act_finite.Gen.facts Ideal _ x0 x1 x2 x3 x4 = fun _ => 1#1) :
    (∀ i, IsReal (x0 i)) ∧ (∀ i, IsReal (x2 i)) ∧ (∀ i, IsReal (x3 i)) ∧ (∀ i, IsReal (x4 i)) := by
  letI := Cert.Pre_act_finite.Gen.facts
  obtain ⟨h, h4⟩ := andi_split h
  obtain ⟨h, h3⟩ := andi_split h
  obtain ⟨h0, h2⟩ := andi_split h
  exact ⟨isReal_of_all _ _ _ _ _ (Shape.Idx.first Facts.h_S_) (fun _ => rfl) (congrFun h0 _),
    isReal_of_all _ _ _ _ _ (Shape.Idx.first Facts.h_S_) (fun _ => rfl) (congrFun h2 _),
    isReal_of_all _ _ _ _ _ (Shape.Idx.first Facts.h_S_) (fun _ => rfl) (congrFun h3 _),
    isReal_of_all _ _ _ _ _ (Shape.Idx.first Facts.h_S_) (fun _ => rfl) (congrFun h4 _)⟩

open Cert.Kernel2Ideal in
theorem dot_real {x : S8192x2048.Idx → EReal} {w : S2048x5632.Idx → EReal} (hx : ∀ i, IsReal (x i)) (hw : ∀ i, IsReal (w i)) (i : Fin 8192)
    (j : Fin 5632) : IsReal (dotA x w i j) := .sum _ _ fun _ => (hx _).mul (hw _)
open Cert.Kernel2Ideal in
theorem dotB_real {x : S8192x2048.Idx → EReal} {w : S5632x2048.Idx → EReal} (hx : ∀ i, IsReal (x i)) (hw : ∀ i, IsReal (w i)) (i : Fin 8192)
    (j : Fin 5632) : IsReal (dotB x w i j) := .sum _ _ fun _ => (hx _).mul (hw _)

section Equal
open Cert.Kernel2Ideal
variable (m : (ℓ : Loc nD τ sig) → Buf (Elt Ideal) ℓ) (c : Dev nD)

theorem eq0 (r0 : ∀ i, IsReal (hf m c i)) (r2 : ∀ i, IsReal (wu m c i)) (r3 : ∀ i, IsReal (wd m c i)) (r4 : ∀ i, IsReal (dff m c i)) :
    Cert.Reference2Ideal.Read.val_main_v9 (F := Ideal) (hf m c) (wg m c) (wu m c) (wd m c) (dff m c) = out0 m c := by
  funext i
  obtain ⟨a, b, rfl⟩ : ∃ (a : Fin 8192) (b : Fin 5632), i = ix2 a b := ⟨i 0, i 1, eq_ix2 i⟩
  refine (ref9 _ _ _ _ _ a b).trans ?_
  show _ = dact m c a b * (up m c a b * (sig' m c a b + gate m c a b * sig' m c a b * (1 - sig' m c a b)))
  exact (swap _ _ _ (dotB_real r4 r3 a b) (dot_real r0 r2 a b)).symm

theorem eq1 : Cert.Reference2Ideal.Read.val_main_v10 (F := Ideal) (hf m c) (wg m c) (wd m c) (dff m c) = out1 m c := by
  funext i
  obtain ⟨a, b, rfl⟩ : ∃ (a : Fin 8192) (b : Fin 5632), i = ix2 a b := ⟨i 0, i 1, eq_ix2 i⟩
  refine (ref10 _ _ _ _ a b).trans ?_
  show _ = dact m c a b * (gate m c a b * sig' m c a b)
  rw [mul_comm]

theorem eq2 : Cert.Reference2Ideal.Read.val_main_v13 (F := Ideal) (hf m c) (wg m c) (wu m c) = out2 m c := by
  funext i
  obtain ⟨a, b, rfl⟩ : ∃ (a : Fin 8192) (b : Fin 5632), i = ix2 a b := ⟨i 0, i 1, eq_ix2 i⟩
  exact ref13 _ _ _ a b

end Equal

theorem claim : Cert.algebraic_Kernel2Ideal_Reference2Ideal_pre_act_finite (hKernel2Ideal := Cert.Kernel2Ideal.Gen.facts)
    (hReference2Ideal := Cert.Reference2Ideal.Gen.facts) (hPre_act_finite := Cert.Pre_act_finite.Gen.facts) := by
  intro m g m' g' hpre hargs
  refine ⟨out0 m, out1 m, out2 m, ?_, ?_⟩
  · refine (θ_run Cert.Kernel2Ideal.defs _ _).mono (fun r h c => ?_) (run (F := Ideal) m g)
    open Cert.Kernel2Ideal Cert.Kernel2Ideal.Gen in
    exact ⟨(h c _ (mem_uc main_v6_0 (by decide))).trans (W3_out0 m g c), (h c _ (mem_uc main_v6_1 (by decide))).trans (W3_out1 m g c),
      (h c _ (mem_uc main_v5_2 (by decide))).trans (W3_out2 m g c),
      (h c _ (mem_uc main_arg0 (by decide))).trans (W3_main_arg0 m g c), (h c _ (mem_uc main_arg1 (by decide))).trans (W3_main_arg1 m g c),
      (h c _ (mem_uc main_arg2 (by decide))).trans (W3_main_arg2 m g c), (h c _ (mem_uc main_arg3 (by decide))).trans (W3_main_arg3 m g c),
      (h c _ (mem_uc main_arg4 (by decide))).trans (W3_main_arg4 m g c)⟩
  · refine (θ_run Cert.Reference2Ideal.defs _ _).mono (fun r h c => ?_) (Cert.Reference2Ideal.Value.run (F := Ideal) m' g')
    obtain ⟨h9, h10, h13, hrest⟩ := h c
    obtain ⟨a0, a1, a2, a3, a4⟩ := hargs c
    obtain ⟨r0, r2, r3, r4⟩ := pre_real _ _ _ _ _ (hpre c)
    rw [Cert.Reference2Ideal.Read.val_main_v9_eq, a0, a1, a2, a3, a4] at h9
    rw [Cert.Reference2Ideal.Read.val_main_v10_eq, a0, a1, a3, a4] at h10
    rw [Cert.Reference2Ideal.Read.val_main_v13_eq, a0, a1, a2] at h13
    refine ⟨h9.trans ?_, h10.trans ?_, h13.trans ?_, hrest⟩
    · exact eq0 m c r0 r2 r3 r4
    · exact eq1 m c
    · exact eq2 m c

end Cert.ActClaim
-- ==== Proof.Norm.lean ====
module

public import Idealize.ShloMosaic.PureOps.Ideal.Laws
public import Idealize.ShloMosaic.Lib.Pointwise
public import Idealize.ShloMosaic.Lib.IdealHost

@[expose] public section

/-! The gradient of a norm over rows of 2048 numbers, on the extended reals: the two groupings agree whatever the numbers are. -/

noncomputable section

namespace Cert.Norm

open Idealize.ShloMosaic

/-- The norms' epsilon, as the constant's bits have it. -/
def eps : ℝ := 8796093 / 8796093022208

theorem eps_pos : 0 < eps := by unfold eps; norm_num

theorem epsE : Ideal.ofBits FTy.f32 897988541#32 = ((eps : ℝ) : EReal) := by
  simp [Ideal.ofBits, Ideal.ieee, eps, -EReal.coe_mul]; norm_num
theorem widthE : Ideal.ofBits FTy.f32 1157627904#32 = ((2048 : ℝ) : EReal) := by
  simp [Ideal.ofBits, Ideal.ieee, -EReal.coe_mul]; norm_num
theorem minusHalfE : Ideal.ofBits FTy.f32 3204448256#32 = ((-(1 / 2) : ℝ) : EReal) := by
  simp [Ideal.ofBits, Ideal.ieee, -EReal.coe_mul]; norm_num
theorem zeroE : Ideal.ofBits FTy.f32 0#32 = 0 := by
  simp [Ideal.ofBits, Ideal.ieee]

/-- The mean of 2048 numbers. -/
def mean (f : Fin 2048 → EReal) : EReal := Ideal.div (∑ k, f k) (Ideal.ofBits FTy.f32 1157627904#32)

theorem mean_eq (f : Fin 2048 → EReal) : mean f = (∑ k, f k) * ((1 / 2048 : ℝ) : EReal) := by
  unfold mean
  rw [widthE, Ideal.div_coe (by norm_num)]

/-- The mean of squares with epsilon, and its reciprocal root. -/
def ms (x : Fin 2048 → EReal) : EReal := mean (fun k => x k * x k) + Ideal.ofBits FTy.f32 897988541#32
def rstd (x : Fin 2048 → EReal) : EReal := Ideal.rsqrt (ms x)

theorem sq_nonneg (x : EReal) : 0 ≤ x * x := by
  induction x with
  | bot => simp
  | top => simp
  | coe r => rw [← EReal.coe_mul]; exact_mod_cast mul_self_nonneg r

theorem rstd_cases (x : Fin 2048 → EReal) :
    (∃ m r : ℝ, 0 < m ∧ 0 < r ∧ r * r * m = 1 ∧ ms x = (m : EReal) ∧ rstd x = (r : EReal)) ∨ (ms x = ⊤ ∧ rstd x = 0) := by
  have h0 : 0 ≤ ∑ k, x k * x k := Finset.sum_nonneg fun k _ => sq_nonneg _
  unfold rstd ms
  rw [mean_eq, epsE]
  generalize (∑ k, x k * x k) = s at h0
  induction s with
  | bot => exact absurd h0 (by simp)
  | top =>
    refine .inr ?_
    rw [EReal.top_mul_coe_of_pos (by norm_num), EReal.top_add_coe]
    exact ⟨rfl, rfl⟩
  | coe s =>
    have hs : 0 ≤ s := by exact_mod_cast h0
    have hm : 0 < s * (1 / 2048) + eps := add_pos_of_nonneg_of_pos (by positivity) eps_pos
    refine .inl ⟨s * (1 / 2048) + eps, (Real.sqrt (s * (1 / 2048) + eps))⁻¹, hm, inv_pos.mpr (Real.sqrt_pos.mpr hm), ?_, ?_, ?_⟩
    · rw [← mul_inv, Real.mul_self_sqrt hm.le, inv_mul_cancel₀ hm.ne']
    · rw [← EReal.coe_mul, ← EReal.coe_add]
    · rw [← EReal.coe_mul, ← EReal.coe_add, Ideal.rsqrt_coe, if_neg (not_lt.mpr hm.le), if_neg hm.ne']

theorem mul_sum_coe {ι : Type} (r : ℝ) (hr : 0 ≤ r) (s : Finset ι) (f : ι → EReal) : ∑ k ∈ s, (r : EReal) * f k = (r : EReal) * ∑ k ∈ s, f k := by
  classical
  induction s using Finset.induction_on with
  | empty => simp
  | insert a s ha ih =>
    rw [Finset.sum_insert ha, Finset.sum_insert ha, ih, EReal.left_distrib_of_nonneg_of_ne_top (by exact_mod_cast hr) (EReal.coe_ne_top r)]

/-- A norm's gradient as the kernel groups it, at the row `x` with the scaled cotangent `dn`. -/
def grad (x dn : Fin 2048 → EReal) (j : Fin 2048) : EReal :=
  rstd x * (dn j - x j * rstd x * mean fun k => dn k * (x k * rstd x))

/-- The mean square's part of the gradient as the chain rule has it. -/
def chain (x dn : Fin 2048 → EReal) : EReal :=
  Ideal.div ((∑ k, x k * dn k) * (Ideal.ofBits FTy.f32 3204448256#32 * Ideal.div (rstd x) (ms x))) (Ideal.ofBits FTy.f32 1157627904#32)

theorem grad_eq (x dn : Fin 2048 → EReal) (j : Fin 2048) : dn j * rstd x + (x j * chain x dn + chain x dn * x j) = grad x dn j := by
  unfold grad chain
  rw [mean_eq, widthE, minusHalfE, Ideal.div_coe (by norm_num)]
  rcases rstd_cases x with ⟨m, r, hm, hr, hrm, em, er⟩ | ⟨em, er⟩
  · rw [em, er, Ideal.div_coe hm.ne']
    have e1 : ∑ k, dn k * (x k * (r : EReal)) = (r : EReal) * ∑ k, x k * dn k := by
      rw [← mul_sum_coe r hr.le]
      exact Finset.sum_congr rfl fun k _ => by rw [mul_comm (x k) (r : EReal), mul_left_comm, mul_comm (dn k)]
    rw [e1]
    generalize (∑ k, x k * dn k) = M
    rw [sub_eq_add_neg, EReal.left_distrib_of_nonneg_of_ne_top (by exact_mod_cast hr.le) (EReal.coe_ne_top r), mul_comm (dn j)]
    congr 1
    have e2 : M * (((-(1 / 2) : ℝ) : EReal) * ((r : EReal) * ((1 / m : ℝ) : EReal))) * ((1 / 2048 : ℝ) : EReal) = M * ((-(r / m / 4096) : ℝ) : EReal) := by
      rw [← EReal.coe_mul, ← EReal.coe_mul, mul_assoc, ← EReal.coe_mul]
      congr 2; field_simp; norm_num
    rw [e2, mul_comm (M * _) (x j)]
    have e3 : ∀ z : EReal, z + z = z * ((2 : ℝ) : EReal) := fun z => by
      rw [show ((2 : ℝ) : EReal) = 1 + 1 by rw [← EReal.coe_one, ← EReal.coe_add]; norm_num]
      rw [EReal.left_distrib_of_nonneg zero_le_one zero_le_one, mul_one]
    have e4 : (r : EReal) * -(x j * (r : EReal) * ((r : EReal) * M * ((1 / 2048 : ℝ) : EReal))) = x j * (M * ((-(r * r * r / 2048) : ℝ) : EReal)) := by
      rw [EReal.coe_neg, mul_neg, mul_neg, mul_neg, show (r * r * r / 2048 : ℝ) = r * (r * (r * (1 / 2048))) by ring, EReal.coe_mul, EReal.coe_mul, EReal.coe_mul]
      congr 1
      ac_rfl
    rw [e3, e4, mul_assoc (x j), mul_assoc M, ← EReal.coe_mul]
    congr 3
    have : r * r = 1 / m := by field_simp; linarith
    rw [this]; ring
  · rw [em, er]
    simp [Ideal.div]

end Cert.Norm
-- ==== Proof.Dh.Value.lean ====
module

public import proofs.«01_k».proof.Proof.Dh.Launch
public import proofs.«01_k».proof.Proof.Norm
public import Idealize.ShloMosaic.Lib.Pipeline.ValueKit
public import Idealize.ShloMosaic.Lib.Pipeline.ValueKit.Tiles

@[expose] public section

set_option maxRecDepth 16384

noncomputable section

/-! What the call leaves, read on the extended reals. -/

namespace Cert.Dh

open Cert.Kernel3Ideal Cert.Kernel3Ideal.Gen
open Idealize.ShloMosaic Idealize.ShloMosaic.TcCoe
open Idealize.SL.Sem

variable (m : (ℓ : Loc nD τ sig) → Buf (Elt Ideal) ℓ) (c : Dev nD)

abbrev aX : S8192x2048.Idx → EReal := m ((c : Thread nD τ).loc main_arg0)
abbrev aG : S1x2048.Idx → EReal := m ((c : Thread nD τ).loc main_arg1)
abbrev aW : S2048x4096.Idx → EReal := m ((c : Thread nD τ).loc main_arg2)
abbrev aP : S8192x4096.Idx → EReal := m ((c : Thread nD τ).loc main_arg3)
abbrev aD : S8192x2048.Idx → EReal := m ((c : Thread nD τ).loc main_arg4)

/-! ## The windows' blocks -/

theorem V_v3 : V m c main_v3 = aP m c := by
  unfold V
  unfold hostOps0
  after_results
  rfl
theorem V_v2 (k : Fin 4) (j : Fin 2048) (e : Fin 1024) : V m c main_v2 (ix3 k j e) = aW m c (ix2 j ⟨1024 * k.val + e.val, by omega⟩) := by
  have h : V m c main_v2 = transpose S4x2048x1024 [1, 0, 2] (shapeCast S2048x4x1024 (aW m c) shapeCasts_S2048x4096_S2048x4x1024) transposes_S2048x4x1024_S4x2048x1024_1_0_2 := by
    unfold V
    unfold hostOps0
    after_results
    rfl
  rw [h]
  generalize aW m c = x
  refine (show _ = shapeCast S2048x4x1024 x shapeCasts_S2048x4096_S2048x4x1024 (ix3 j k e) from ?_).trans ?_
  · pointwise
  · pointwise
    exact congrArg (fun r => x (ix2 j r)) (Fin.ext (show k.val * 1024 + e.val = 1024 * k.val + e.val by omega))

theorem off_0 : ∀ t : Fin cfg0.N, win0_0.index t 0 * win0_0.size 0 = 1024 * (t.val / 4) ∧ win0_0.index t 1 * win0_0.size 1 = 1024 * (t.val % 4) := by decide +kernel
theorem off_1 : ∀ t : Fin cfg0.N, win0_1.index t 0 * win0_1.size 0 = t.val % 4 ∧ win0_1.index t 1 * win0_1.size 1 = 0 ∧ win0_1.index t 2 * win0_1.size 2 = 0 := by decide +kernel

/-- The rows of the whole arrays under point `t`'s blocks, and the projection's columns. -/
abbrev row (n : ℕ) (hn : n < cfg0.N) (a : Fin 1024) : Fin 8192 := ⟨1024 * (n / 4) + a.val, by have := lt_N ⟨n, hn⟩; dsimp only at this; omega⟩
abbrev col (t : Fin cfg0.N) (e : Fin 1024) : Fin 4096 := ⟨1024 * (t.val % 4) + e.val, by omega⟩

theorem blk_0 (t : Fin cfg0.N) (a e : Fin 1024) : dproj m c t (ix2 a e) = aP m c (ix2 (row t.val t.isLt a) (col t e)) := by
  show V m c main_v3 _ = _
  rw [V_v3]
  congr 1; funext b; apply Fin.ext
  match b with
  | ⟨0, _⟩ => exact (Pipeline.Window.rect_emb_val_off win0_0 t _ 0).trans (congrArg (· + a.val) (off_0 t).1)
  | ⟨1, _⟩ => exact (Pipeline.Window.rect_emb_val_off win0_0 t _ 1).trans (congrArg (· + e.val) (off_0 t).2)

theorem blk_1 (t : Fin cfg0.N) (j : Fin 2048) (e : Fin 1024) : wT m c t (ix3 0 j e) = aW m c (ix2 j (col t e)) := by
  refine Eq.trans ?_ (V_v2 m c ⟨t.val % 4, Nat.mod_lt _ (by norm_num)⟩ j e)
  show V m c main_v2 _ = _
  congr 1; funext b; apply Fin.ext
  match b with
  | ⟨0, _⟩ => exact (Pipeline.Window.rect_emb_val_off win0_1 t _ 0).trans ((congrArg (· + 0) (off_1 t).1).trans (Nat.add_zero _))
  | ⟨1, _⟩ => exact (Pipeline.Window.rect_emb_val_off win0_1 t _ 1).trans ((congrArg (· + j.val) (off_1 t).2.1).trans (Nat.zero_add _))
  | ⟨2, _⟩ => exact (Pipeline.Window.rect_emb_val_off win0_1 t _ 2).trans ((congrArg (· + e.val) (off_1 t).2.2).trans (Nat.zero_add _))

theorem blk_2 (t : Fin cfg0.N) : gain m c t = aG m c := by
  funext y
  show V m c main_arg1 _ = _
  rw [V_main_arg1]
  congr 1; funext b; apply Fin.ext
  match b with
  | ⟨0, _⟩ => exact (Pipeline.Window.rect_emb_val_off win0_2 t _ 0).trans (Nat.zero_add _)
  | ⟨1, _⟩ => exact (Pipeline.Window.rect_emb_val_off win0_2 t _ 1).trans (Nat.zero_add _)

theorem blkOf_apply (n : ℕ) (hn : n < cfg0.N) (A : S8192x2048.Idx → EReal) (a : Fin 1024) (j : Fin 2048) :
    blkOf (F := Ideal) _ (t0_cond n hn) A (ix2 a j) = A (ix2 (row n hn a) j) := by
  have h : blkOf (F := Ideal) _ (t0_cond n hn) A (ix2 a j)
      = A ((Rect.unit (s := S8192x2048) (k0_off1 (grid0.coords (t0 n hn))) S1024x2048.size (k0_off1_inb _ (t0_cond n hn))).emb (ix2 a j)) := rfl
  rw [h]
  congr 1; funext b; apply Fin.ext
  refine (Rect.emb_apply _ _ _).trans ?_
  show k0_off1 (grid0.coords (t0 n hn)) b + 1 * _ = _
  refine (congrArg₂ (· + ·) (congrFun (off1_eq (t0 n hn)) b) (Nat.one_mul _)).trans ?_
  match b with
  | ⟨0, _⟩ => show 1024 * (4 * (n / 4) / 4) + a.val = 1024 * (n / 4) + a.val; omega
  | ⟨1, _⟩ => exact Nat.zero_add _

/-! ## The product -/

/-- The term of the product at a row and a column, zero past the last of the projection's columns. -/
def term (r : Fin 8192) (j : Fin 2048) (e : ℕ) : EReal := if h : e < 4096 then aP m c (ix2 r ⟨e, h⟩) * aW m c (ix2 j ⟨e, h⟩) else 0

/-- The norm's output's gradient. -/
def dh (r : Fin 8192) (j : Fin 2048) : EReal := ∑ e : Fin 4096, aP m c (ix2 r e) * aW m c (ix2 j e)

theorem dh_eq (r : Fin 8192) (j : Fin 2048) : dh m c r j = ∑ e ∈ Finset.range 4096, term m c r j e := by
  rw [← Fin.sum_univ_eq_sum_range]
  exact Finset.sum_congr rfl fun e _ => by unfold term; rw [dif_pos e.isLt]

theorem pay1_apply (t : Fin cfg0.N) (a : Fin 1024) (j : Fin 2048) :
    k0_pay1 (F := Ideal) (dproj m c t) (wT m c t) (ix2 a j) = ∑ e : Fin 1024, term m c (row t.val t.isLt a) j (1024 * (t.val % 4) + e.val) := by
  pointwise [k0_pay1]
  refine Finset.sum_congr rfl fun e _ => ?_
  unfold term
  rw [dif_pos (show 1024 * (t.val % 4) + e.val < 4096 by omega)]
  exact congrArg₂ (· * ·) (blk_0 m c t a e) (blk_1 m c t j e)

theorem pay2_apply (t : Fin cfg0.N) (A : S1024x2048.Idx → EReal) (a : Fin 1024) (j : Fin 2048) :
    k0_pay2 (F := Ideal) (dproj m c t) (wT m c t) A (ix2 a j) = A (ix2 a j) + k0_pay1 (F := Ideal) (dproj m c t) (wT m c t) (ix2 a j) := by
  pointwise [k0_pay1, k0_pay2]

theorem sum_blocks (w : ℕ) {α : Type} [AddCommMonoid α] (f : ℕ → α) (n : ℕ) :
    ∑ k ∈ Finset.range n, ∑ a : Fin w, f (w * k + a) = ∑ t ∈ Finset.range (w * n), f t := by
  induction n with
  | zero => rfl
  | succ n ih => rw [Finset.sum_range_succ, ih, Nat.mul_succ, Finset.sum_range_add, Fin.sum_univ_eq_sum_range (fun a => f (w * n + a)) w]

theorem accAt_eq (a : Fin 1024) (j : Fin 2048) : ∀ (n : ℕ) (hn : n < cfg0.N),
    accAt m c n hn (ix2 a j) = ∑ e ∈ Finset.range (1024 * (n % 4 + 1)), term m c (row n hn a) j e := by
  intro n
  induction n with
  | zero =>
    intro hn
    refine (pay1_apply m c ⟨0, hn⟩ a j).trans ?_
    exact ((Finset.sum_range_one _).symm).trans (sum_blocks 1024 (term m c _ j) 1)
  | succ n ih =>
    intro hn
    by_cases h : (n + 1) % 4 = 0
    · rw [accAt_first m c ⟨n + 1, hn⟩ h]
      refine (pay1_apply m c ⟨n + 1, hn⟩ a j).trans ?_
      simp only [h]
      exact ((Finset.sum_range_one (fun k => ∑ e : Fin 1024, term m c (row (n + 1) hn a) j (1024 * k + e.val))).symm).trans (sum_blocks 1024 (term m c _ j) 1)
    · rw [accAt_next m c ⟨n + 1, hn⟩ h]
      refine (pay2_apply m c ⟨n + 1, hn⟩ _ a j).trans ?_
      rw [pay1_apply]
      have e1 : (n + 1) % 4 = n % 4 + 1 := by omega
      have e2 : row n (Nat.lt_of_succ_lt hn) a = row (n + 1) hn a := Fin.ext (by show 1024 * (n / 4) + a.val = 1024 * ((n + 1) / 4) + a.val; omega)
      have e3 := ih (Nat.lt_of_succ_lt hn)
      rw [e2] at e3
      refine (congrArg (· + _) e3).trans ?_
      rw [← sum_blocks, ← sum_blocks]
      simp only [e1]
      rw [Finset.sum_range_succ _ (n % 4 + 1)]

theorem acc_last (n : ℕ) (hn : n < cfg0.N) (h : n % 4 = 3) (a : Fin 1024) (j : Fin 2048) : accAt m c n hn (ix2 a j) = dh m c (row n hn a) j := by
  rw [accAt_eq, h, dh_eq]

/-! ## The input's gradient -/

/-- The input's gradient. -/
def gx (r : Fin 8192) (j : Fin 2048) : EReal :=
  aD m c (ix2 r j) + Norm.grad (fun k => aX m c (ix2 r k)) (fun k => dh m c r k * aG m c (ix2 0 k)) j

theorem chunk_apply (A X D : S1024x2048.Idx → EReal) (g : S1x2048.Idx → EReal) (q : ℕ) (hq : q < 16) (a : Fin 64) (j : Fin 2048) (R : Fin 1024) (hR : R.val = 64 * q + a.val) :
    chunk (F := Ideal) A X D g q hq (ix2 a j) = D (ix2 R j) + Norm.grad (fun k => X (ix2 R k)) (fun k => A (ix2 R k) * g (ix2 0 k)) j := by
  obtain ⟨R, hR'⟩ := R
  dsimp only at hR
  subst hR
  pointwise [chunk, k0_pay5, k0_pay4, k0_pay3]
  rfl

theorem table_eq (n : ℕ) (hn : n < cfg0.N) (h : n % 4 = 3) (R : Fin 1024) (j : Fin 2048) :
    table (F := Ideal) (accAt m c n hn) (xblk m c n hn) (dblk m c n hn) (gain m c ⟨n, hn⟩) R j = gx m c (row n hn R) j := by
  unfold table
  refine (chunk_apply _ _ _ _ _ _ _ j R (by show R.val = 64 * (R.val / 64) + R.val % 64; omega)).trans ?_
  unfold gx xblk dblk
  rw [blk_2]
  simp only [acc_last m c n hn h, blkOf_apply]
  unfold xs dx1
  rw [V_main_arg0, V_main_arg4]

theorem gxAt_eq (r : Fin 8192) (j : Fin 2048) : ∀ (n : ℕ) (hn : n ≤ cfg0.N), r.val < 1024 * (n / 4) → gxAt m c n hn (ix2 r j) = gx m c r j := by
  intro n
  induction n with
  | zero => intro hn h; exact absurd h (by omega)
  | succ n ih =>
    intro hn h
    unfold gxAt
    by_cases h3 : n % 4 = 3
    · rw [if_pos h3]
      unfold Dma.putRows
      by_cases hr : 1024 * (n / 4) ≤ r.val ∧ r.val < 1024 * (n / 4) + 1024
      · refine (dif_pos hr).trans ?_
        refine (table_eq m c n hn h3 _ j).trans ?_
        congr 1; apply Fin.ext
        show 1024 * (n / 4) + (r.val - 1024 * (n / 4)) = r.val; omega
      · refine (dif_neg hr).trans (ih (Nat.le_of_succ_le hn) ?_)
        omega
    · rw [if_neg h3]
      exact ih (Nat.le_of_succ_le hn) (by omega)

theorem Gend_gx : Gend m c main_v4_0 = fun y => gx m c (y 0) (y 1) := by
  funext y
  unfold Gend
  rw [Function.update_self, eq_ix2 y]
  exact gxAt_eq m c (y 0) (y 1) cfg0.N le_rfl (by have := (y 0).isLt; rw [show cfg0.N = 32 from N_0]; exact this)

/-! ## The gain's gradient -/

/-- One row's part of the gain's gradient, zero past the last row. -/
def part (j : Fin 2048) (r : ℕ) : EReal :=
  if h : r < 8192 then dh m c ⟨r, h⟩ j * (aX m c (ix2 ⟨r, h⟩ j) * Norm.rstd fun k => aX m c (ix2 ⟨r, h⟩ k)) else 0

theorem piece (n : ℕ) (hn : n < cfg0.N) (h : n % 4 = 3) (q : ℕ) (hq : 64 * q + 64 ≤ 1024) (j : Fin 2048) :
    k0_pay6 (F := Ideal) (Dma.rowsAt (accAt m c n hn) (64 * q) hq) (k0_pay4 (Dma.rowsAt (xblk m c n hn) (64 * q) hq)) (ix2 0 j)
      = ∑ a : Fin 64, part m c j (1024 * (n / 4) + (64 * q + a.val)) := by
  pointwise [k0_pay6, k0_pay4, k0_pay3]
  refine Finset.sum_congr rfl fun a _ => ?_
  have hN := lt_N ⟨n, hn⟩
  dsimp only at hN
  unfold part
  rw [dif_pos (by omega)]
  refine congrArg₂ (· * ·) (acc_last m c n hn h ⟨64 * q + a.val, by omega⟩ j) ?_
  have hx : ∀ k : Fin 2048, xblk m c n hn (ix2 ⟨64 * q + a.val, by omega⟩ k) = aX m c (ix2 (row n hn ⟨64 * q + a.val, by omega⟩) k) := fun k => by
    unfold xblk xs
    rw [blkOf_apply, V_main_arg0]
  refine (show _ = xblk m c n hn (ix2 ⟨64 * q + a.val, by omega⟩ j) * Norm.rstd (fun k => xblk m c n hn (ix2 ⟨64 * q + a.val, by omega⟩ k)) from rfl).trans ?_
  simp only [hx]

theorem pay8_apply (A X : S64x2048.Idx → EReal) (p : S1x2048.Idx → EReal) (j : Fin 2048) :
    k0_pay8 (F := Ideal) A X p (ix2 0 j) = p (ix2 0 j) + k0_pay6 (F := Ideal) A X (ix2 0 j) := by
  pointwise [k0_pay8, k0_pay6]

theorem gains_eq (n : ℕ) (hn : n < cfg0.N) (h : n % 4 = 3) (j : Fin 2048) (st : S1x2048.Idx → EReal) (s : EReal)
    (hst : st (ix2 0 j) = s + ∑ a : Fin 64, part m c j (1024 * (n / 4) + (64 * 0 + a.val))) : ∀ (q : ℕ) (hq : q < 16),
    gains (F := Ideal) (accAt m c n hn) (xblk m c n hn) st q hq (ix2 0 j) = s + ∑ i ∈ Finset.range (64 * (q + 1)), part m c j (1024 * (n / 4) + i) := by
  intro q
  induction q with
  | zero =>
    intro hq
    refine hst.trans ?_
    rw [← sum_blocks 64 (fun i => part m c j (1024 * (n / 4) + i))]
    exact congrArg (s + ·) (Finset.sum_range_one (fun k => ∑ a : Fin 64, part m c j (1024 * (n / 4) + (64 * k + a.val)))).symm
  | succ q ih =>
    intro hq
    refine (pay8_apply _ _ _ j).trans ?_
    rw [ih (by omega), piece m c n hn h, ← sum_blocks 64 (fun i => part m c j (1024 * (n / 4) + i)) (q + 1), ← sum_blocks 64 (fun i => part m c j (1024 * (n / 4) + i)) (q + 1 + 1),
      Finset.sum_range_succ _ (q + 1), add_assoc]

theorem dgAt_eq (j : Fin 2048) : ∀ (n : ℕ) (hn : n < cfg0.N), 3 ≤ n → dgAt m c n hn (ix2 0 j) = ∑ r ∈ Finset.range (1024 * ((n + 1) / 4)), part m c j r := by
  intro n
  induction n with
  | zero => intro hn h; exact absurd h (by omega)
  | succ n ih =>
    intro hn h
    unfold dgAt
    by_cases h3 : (n + 1) % 4 = 3
    · rw [if_pos h3]
      have hst := gains_eq m c (n + 1) hn h3 j (start (grid0.coords ⟨n + 1, hn⟩) (accAt m c (n + 1) hn) (xblk m c (n + 1) hn) (dgAt m c n (Nat.lt_of_succ_lt hn)))
        (∑ r ∈ Finset.range (1024 * ((n + 1) / 4)), part m c j r) ?_ 15 (by decide)
      · refine hst.trans ?_
        rw [show 1024 * ((n + 1 + 1) / 4) = 1024 * ((n + 1) / 4) + 64 * (15 + 1) by omega, Finset.sum_range_add]
      · unfold start
        by_cases h4 : n + 1 < 4
        · rw [if_pos ((cond5_iff ⟨n + 1, hn⟩).mpr h4), show 1024 * ((n + 1) / 4) = 0 by omega, Finset.sum_range_zero, zero_add]
          refine (piece m c (n + 1) hn h3 0 (by omega) j).trans ?_
          rw [show 1024 * ((n + 1) / 4) = 0 by omega]
        · rw [if_neg (fun h => h4 ((cond5_iff ⟨n + 1, hn⟩).mp h)), pay8_apply, ih (Nat.lt_of_succ_lt hn) (by omega)]
          exact congrArg (_ + ·) (piece m c (n + 1) hn h3 0 (by omega) j)
    · rw [if_neg h3, ih (Nat.lt_of_succ_lt hn) (by omega)]
      congr 2; omega

/-- The gain's gradient. -/
def dg (j : Fin 2048) : EReal := ∑ r : Fin 8192, dh m c r j * (aX m c (ix2 r j) * Norm.rstd fun k => aX m c (ix2 r k))

theorem dgAt_last (j : Fin 2048) : dgAt m c 31 (by decide) (ix2 0 j) = dg m c j := by
  rw [dgAt_eq m c j 31 (by decide) (by decide), show 1024 * ((31 + 1) / 4) = 8192 from rfl, ← Fin.sum_univ_eq_sum_range]
  exact Finset.sum_congr rfl fun r _ => by unfold part; rw [dif_pos r.isLt]

theorem flush3 : ∀ t : Fin cfg0.N, (cfg0.win 3).flush t = true → t.val = 31 := by decide +kernel

theorem arr_dg : (dats m 0 c).arrAt 3 cfg0.N = fun y => dg m c (y 1) := by
  refine (dats m 0 c).arrAt_eq_of_covers 3 (fun y => dg m c (y 1)) (by decide +kernel) fun t hf y => ?_
  obtain ⟨a, j, rfl⟩ : ∃ (a : Fin 1) (j : Fin 2048), y = ix2 a j := ⟨y 0, y 1, eq_ix2 y⟩
  obtain rfl : a = 0 := Subsingleton.elim _ _
  obtain ⟨n, hn⟩ := t
  obtain rfl : n = 31 := flush3 _ hf
  show (dats m 0 c).after 3 ⟨31, hn⟩ (ix2 0 j) = dg m c ((win0_3.rect ⟨31, hn⟩).emb (ix2 0 j) 1)
  rw [after3]
  refine (dgAt_last m c j).trans (congrArg (dg m c) (Fin.ext ?_))
  exact ((Pipeline.Window.rect_emb_val_off win0_3 ⟨31, hn⟩ (ix2 0 j) 1).trans (Nat.zero_add _)).symm

end Cert.Dh
-- ==== Proof.Dh.Claim.lean ====
module

public import proofs.«01_k».proof.Defs
public import proofs.«01_k».proof.Proof.Dh.Frame
public import proofs.«01_k».proof.Proof.Dh.Value
public import proofs.«01_k».proof.Proof.Gen.Reference3Ideal.Run
public import proofs.«01_k».proof.Proof.Gen.Reference3Ideal.Read

@[expose] public section

set_option maxRecDepth 16384

noncomputable section

/-! # The gradient of the norm before the mixers: the call and `jax.vjp` of the plain forward end with the same two arrays -/

namespace Cert.DhClaim

open Idealize.ShloMosaic Idealize.ShloMosaic.TcCoe Idealize.SL.Sem

section Reference
open Cert.Reference3Ideal Cert.Reference3Ideal.Gen Cert.Reference3Ideal.Read

variable (x0 : S8192x2048.Idx → EReal) (x1 : S1x2048.Idx → EReal) (x2 : S2048x4096.Idx → EReal) (x3 : S8192x4096.Idx → EReal) (x4 : S8192x2048.Idx → EReal)

/-- A row of the input, and of the norm's output's gradient. -/
abbrev xr (r : Fin 8192) : Fin 2048 → EReal := fun k => x0 (ix2 r k)
abbrev dr (r : Fin 8192) : Fin 2048 → EReal := fun k => ∑ e : Fin 4096, x3 (ix2 r e) * x2 (ix2 k e)

theorem ref_ms (r : Fin 8192) : val_main_v6 (F := Ideal) x0 (ix2 r 0) = Norm.ms (xr x0 r) := by
  pointwise [val_main_v6, val_main_v5, val_main_cst_1, val_main_v4, val_main_v3, val_main_cst_0, val_main_v2, val_main_v1, val_main_cst, val_main_v0]
  rfl
theorem ref_rstd (r : Fin 8192) : val_main_v7 (F := Ideal) x0 (ix2 r 0) = Norm.rstd (xr x0 r) := by
  pointwise [val_main_v7]
  rw [ref_ms]; rfl
theorem ref_dh (r : Fin 8192) (j : Fin 2048) : val_main_v16 (F := Ideal) x2 x3 (ix2 r j) = dr x2 x3 r j := by
  pointwise [val_main_v16]
theorem ref_dg (j : Fin 2048) : val_main_v19 (F := Ideal) x0 x2 x3 (ix2 0 j) = ∑ r : Fin 8192, dr x2 x3 r j * (x0 (ix2 r j) * Norm.rstd (xr x0 r)) := by
  pointwise [val_main_v19, val_main_v18, val_main_cst_3, val_main_v17, val_main_v12, val_main_v11]
  exact Finset.sum_congr rfl fun r _ => by rw [ref_rstd, ref_dh, mul_comm]
theorem ref_chain (r : Fin 8192) (j : Fin 2048) : val_main_v32 (F := Ideal) x0 x1 x2 x3 (ix2 r j) = Norm.chain (xr x0 r) (fun k => dr x2 x3 r k * x1 (ix2 0 k)) := by
  pointwise [val_main_v32, val_main_v31, val_main_cst_6, val_main_v30, val_main_v29, val_main_cst_5, val_main_v28, val_main_v24, val_main_v23, val_main_cst_4, val_main_v22, val_main_v21, val_main_v20,
    val_main_v10, val_main_v9, val_main_cst_2, val_main_v8]
  refine (Fin.sum_univ_one _).trans ?_
  rw [ref_rstd, ref_ms]
  simp only [ref_dh]
  rfl
theorem ref_gx (r : Fin 8192) (j : Fin 2048) : val_main_v36 (F := Ideal) x0 x1 x2 x3 x4 (ix2 r j)
    = x4 (ix2 r j) + Norm.grad (xr x0 r) (fun k => dr x2 x3 r k * x1 (ix2 0 k)) j := by
  rw [← Norm.grad_eq, ← add_assoc, ← add_assoc]
  pointwise [val_main_v36, val_main_v35, val_main_v34, val_main_v33, val_main_v27, val_main_v26, val_main_v25, val_main_v21, val_main_v20]
  rw [ref_rstd, ref_dh, ref_chain]

end Reference

open Cert.Kernel3Ideal Cert.Kernel3Ideal.Gen Cert.Dh in
theorem claim : Cert.algebraic_Kernel3Ideal_Reference3Ideal (hKernel3Ideal := Cert.Kernel3Ideal.Gen.facts) (hReference3Ideal := Cert.Reference3Ideal.Gen.facts) := by
  intro m g m' g' _ hargs
  refine ⟨fun c => fun y => gx m c (y 0) (y 1), fun c => fun y => dg m c (y 1), ?_, ?_⟩
  · refine (θ_run Cert.Kernel3Ideal.defs _ _).mono (fun r h c => ?_) (run_main (F := Ideal) m g)
    exact ⟨(h.1.2 c main_v4_0 (by decide)).trans (Gend_gx m c), ((h.1.toR c).1 3).trans (arr_dg m c), kept m r h.1 c⟩
  · refine (θ_run Cert.Reference3Ideal.defs _ _).mono (fun r h c => ?_) (Cert.Reference3Ideal.Value.run (F := Ideal) m' g')
    obtain ⟨h0, h1, hrest⟩ := h c
    obtain ⟨a0, a1, a2, a3, a4⟩ := hargs c
    rw [Cert.Reference3Ideal.Read.val_main_v36_eq, a0, a1, a2, a3, a4] at h0
    rw [Cert.Reference3Ideal.Read.val_main_v19_eq, a0, a2, a3] at h1
    refine ⟨h0.trans ?_, h1.trans ?_, hrest⟩
    · funext y
      obtain ⟨r, j, rfl⟩ : ∃ (r : Fin 8192) (j : Fin 2048), y = ix2 r j := ⟨y 0, y 1, eq_ix2 y⟩
      exact ref_gx _ _ _ _ _ r j
    · funext y
      obtain ⟨a, j, rfl⟩ : ∃ (a : Fin 1) (j : Fin 2048), y = ix2 a j := ⟨y 0, y 1, eq_ix2 y⟩
      obtain rfl : a = 0 := Subsingleton.elim _ _
      exact ref_dg _ _ _ j

end Cert.DhClaim
-- ==== Proof.Loss.Value.lean ====
module

public import proofs.«01_k».proof.Proof.Loss.Launch
public import proofs.«01_k».proof.Proof.Norm
public import Idealize.ShloMosaic.Lib.Pipeline.ValueKit
public import Idealize.ShloMosaic.Lib.Pipeline.ValueKit.Tiles

@[expose] public section

set_option maxRecDepth 16384

noncomputable section

/-! What the call leaves, read on the extended reals. -/

namespace Cert.Loss

open Cert.Kernel4Ideal Cert.Kernel4Ideal.Gen
open Idealize.ShloMosaic Idealize.ShloMosaic.TcCoe
open Idealize.SL.Sem

variable (m : (ℓ : Loc nD τ sig) → Buf (Elt Ideal) ℓ) (c : Dev nD)

abbrev aA : S8192x5632.Idx → EReal := m ((c : Thread nD τ).loc main_arg0)
abbrev aW : S5632x2048.Idx → EReal := m ((c : Thread nD τ).loc main_arg1)
abbrev aX : S8192x2048.Idx → EReal := m ((c : Thread nD τ).loc main_arg2)
abbrev aT : S8192x2048.Idx → EReal := m ((c : Thread nD τ).loc main_arg3)
abbrev aG : S1x2048.Idx → EReal := m ((c : Thread nD τ).loc main_arg4)

/-! ## One row -/

section
variable (f x t g : Fin 2048 → EReal)

/-- The output's difference from the target, at a row of the product, of the residual, of the target, and the gain; -/
def err (k : Fin 2048) : EReal := x k + f k * Norm.rstd f * g k - t k
/-- the output's gradient; -/
def dy (k : Fin 2048) : EReal := Ideal.div (err f x t g k) (Ideal.ofBits .f32 1157627904#32)
/-- the row's mean square. -/
def msq : EReal := Norm.mean fun k => err f x t g k * err f x t g k

end

section
variable (A : Vec Ideal S64x2048 .f32) (g : Vec Ideal S1x2048 .f32) (X T : Vec Ideal S1x64x2048 .f32)

abbrev r64 (A : Vec Ideal S64x2048 .f32) (a : Fin 64) : Fin 2048 → EReal := fun k => A (ix2 a k)
abbrev r1 (X : Vec Ideal S1x64x2048 .f32) (a : Fin 64) : Fin 2048 → EReal := fun k => X (ix3 0 a k)
abbrev rg (g : Vec Ideal S1x2048 .f32) : Fin 2048 → EReal := fun k => g (ix2 0 k)

theorem outP_apply (a : Fin 64) (j : Fin 2048) : outP (F := Ideal) A g X T (ix2 a j) = dy (r64 A a) (r1 X a) (r1 T a) (rg g) j := by
  pointwise [outP, k0_pay7, k0_pay6, k0_pay5, k0_pay4, k0_pay3]
  rfl
theorem ffP_apply (a : Fin 64) (j : Fin 2048) : ffP (F := Ideal) A g X T (ix3 0 a j) = Norm.grad (r64 A a) (fun k => dy (r64 A a) (r1 X a) (r1 T a) (rg g) k * g (ix2 0 k)) j := by
  pointwise [ffP, k0_pay13, k0_pay9, k0_pay8, k0_pay7, k0_pay6, k0_pay5, k0_pay4, k0_pay3]
  rfl
theorem lossP_apply (u : Fin 8) (v : Fin 128) : lossP (F := Ideal) A g X T (ix2 u v) = Ideal.ofBits .f32 1056964608#32 * ∑ a : Fin 64, msq (r64 A a) (r1 X a) (r1 T a) (rg g) := by
  pointwise [lossP, k0_pay10, k0_pay6, k0_pay5, k0_pay4, k0_pay3]
  rfl
theorem gainP_apply (j : Fin 2048) : gainP (F := Ideal) A g X T (ix2 0 j) = ∑ a : Fin 64, dy (r64 A a) (r1 X a) (r1 T a) (rg g) j * (A (ix2 a j) * Norm.rstd (r64 A a)) := by
  pointwise [gainP, outP, k0_pay11, k0_pay7, k0_pay6, k0_pay5, k0_pay4, k0_pay3]
  rfl

end

/-! ## The windows' blocks -/

theorem V_v0 : V m c main_v0 = aA m c := by
  unfold V
  unfold hostOps0
  after_results
  rfl
theorem V_v1 : V m c main_v1 = aW m c := by
  unfold V
  unfold hostOps0
  after_results
  rfl

theorem off_0 : ∀ t : Fin cfg0.N, win0_0.index t 0 * win0_0.size 0 = 1024 * (t.val / 11) ∧ win0_0.index t 1 * win0_0.size 1 = 512 * (t.val % 11) := by decide +kernel
theorem off_1 : ∀ t : Fin cfg0.N, win0_1.index t 0 * win0_1.size 0 = 512 * (t.val % 11) ∧ win0_1.index t 1 * win0_1.size 1 = 0 := by decide +kernel

/-- The rows of the whole arrays under point `t`'s blocks, and the terms of the product. -/
abbrev row (n : ℕ) (hn : n < cfg0.N) (a : Fin 1024) : Fin 8192 := ⟨1024 * (n / 11) + a.val, by have := row_le n hn; omega⟩
abbrev col (t : Fin cfg0.N) (e : Fin 512) : Fin 5632 := ⟨512 * (t.val % 11) + e.val, by omega⟩

theorem blk_0 (t : Fin cfg0.N) (a : Fin 1024) (e : Fin 512) : act m c t (ix2 a e) = aA m c (ix2 (row t.val t.isLt a) (col t e)) := by
  show V m c main_v0 _ = _
  rw [V_v0]
  congr 1; funext b; apply Fin.ext
  match b with
  | ⟨0, _⟩ => exact (Pipeline.Window.rect_emb_val_off win0_0 t _ 0).trans (congrArg (· + a.val) (off_0 t).1)
  | ⟨1, _⟩ => exact (Pipeline.Window.rect_emb_val_off win0_0 t _ 1).trans (congrArg (· + e.val) (off_0 t).2)

theorem blk_1 (t : Fin cfg0.N) (e : Fin 512) (j : Fin 2048) : wd m c t (ix2 e j) = aW m c (ix2 (col t e) j) := by
  show V m c main_v1 _ = _
  rw [V_v1]
  congr 1; funext b; apply Fin.ext
  match b with
  | ⟨0, _⟩ => exact (Pipeline.Window.rect_emb_val_off win0_1 t _ 0).trans (congrArg (· + e.val) (off_1 t).1)
  | ⟨1, _⟩ => exact (Pipeline.Window.rect_emb_val_off win0_1 t _ 1).trans ((congrArg (· + j.val) (off_1 t).2).trans (Nat.zero_add _))

theorem blk_2 (t : Fin cfg0.N) : gain m c t = aG m c := by
  funext y
  show V m c main_arg4 _ = _
  rw [V_main_arg4]
  congr 1; funext b; apply Fin.ext
  match b with
  | ⟨0, _⟩ => exact (Pipeline.Window.rect_emb_val_off win0_2 t _ 0).trans (Nat.zero_add _)
  | ⟨1, _⟩ => exact (Pipeline.Window.rect_emb_val_off win0_2 t _ 1).trans (Nat.zero_add _)

/-! ## The product -/

/-- The term of the product at a row and a column, zero past the last. -/
def term (r : Fin 8192) (j : Fin 2048) (e : ℕ) : EReal := if h : e < 5632 then aA m c (ix2 r ⟨e, h⟩) * aW m c (ix2 ⟨e, h⟩ j) else 0

/-- The product. -/
def ff (r : Fin 8192) (j : Fin 2048) : EReal := ∑ e : Fin 5632, aA m c (ix2 r e) * aW m c (ix2 e j)

theorem ff_eq (r : Fin 8192) (j : Fin 2048) : ff m c r j = ∑ e ∈ Finset.range 5632, term m c r j e := by
  rw [← Fin.sum_univ_eq_sum_range]
  exact Finset.sum_congr rfl fun e _ => by unfold term; rw [dif_pos e.isLt]

theorem pay1_apply (t : Fin cfg0.N) (a : Fin 1024) (j : Fin 2048) :
    k0_pay1 (F := Ideal) (act m c t) (wd m c t) (ix2 a j) = ∑ e : Fin 512, term m c (row t.val t.isLt a) j (512 * (t.val % 11) + e.val) := by
  pointwise [k0_pay1]
  refine Finset.sum_congr rfl fun e _ => ?_
  unfold term
  rw [dif_pos (show 512 * (t.val % 11) + e.val < 5632 by omega)]
  exact congrArg₂ (· * ·) (blk_0 m c t a e) (blk_1 m c t e j)

theorem pay2_apply (t : Fin cfg0.N) (A : S1024x2048.Idx → EReal) (a : Fin 1024) (j : Fin 2048) :
    k0_pay2 (F := Ideal) (act m c t) (wd m c t) A (ix2 a j) = A (ix2 a j) + k0_pay1 (F := Ideal) (act m c t) (wd m c t) (ix2 a j) := by
  pointwise [k0_pay1, k0_pay2]

theorem sum_blocks (w : ℕ) {α : Type} [AddCommMonoid α] (f : ℕ → α) (n : ℕ) :
    ∑ k ∈ Finset.range n, ∑ a : Fin w, f (w * k + a) = ∑ t ∈ Finset.range (w * n), f t := by
  induction n with
  | zero => rfl
  | succ n ih => rw [Finset.sum_range_succ, ih, Nat.mul_succ, Finset.sum_range_add, Fin.sum_univ_eq_sum_range (fun a => f (w * n + a)) w]

theorem accAt_eq (a : Fin 1024) (j : Fin 2048) : ∀ (n : ℕ) (hn : n < cfg0.N),
    accAt m c n hn (ix2 a j) = ∑ e ∈ Finset.range (512 * (n % 11 + 1)), term m c (row n hn a) j e := by
  intro n
  induction n with
  | zero =>
    intro hn
    refine (pay1_apply m c ⟨0, hn⟩ a j).trans ?_
    exact ((Finset.sum_range_one _).symm).trans (sum_blocks 512 (term m c _ j) 1)
  | succ n ih =>
    intro hn
    by_cases h : (n + 1) % 11 = 0
    · rw [accAt_first m c ⟨n + 1, hn⟩ h]
      refine (pay1_apply m c ⟨n + 1, hn⟩ a j).trans ?_
      simp only [h]
      exact ((Finset.sum_range_one (fun k => ∑ e : Fin 512, term m c (row (n + 1) hn a) j (512 * k + e.val))).symm).trans (sum_blocks 512 (term m c _ j) 1)
    · rw [accAt_next m c ⟨n + 1, hn⟩ h]
      refine (pay2_apply m c ⟨n + 1, hn⟩ _ a j).trans ?_
      rw [pay1_apply]
      have e1 : (n + 1) % 11 = n % 11 + 1 := by omega
      have e2 : row n (Nat.lt_of_succ_lt hn) a = row (n + 1) hn a := Fin.ext (by show 1024 * (n / 11) + a.val = 1024 * ((n + 1) / 11) + a.val; omega)
      have e3 := ih (Nat.lt_of_succ_lt hn)
      rw [e2] at e3
      refine (congrArg (· + _) e3).trans ?_
      rw [← sum_blocks, ← sum_blocks]
      simp only [e1]
      rw [Finset.sum_range_succ _ (n % 11 + 1)]

/-! ## The rows of both gradients -/

/-- The rows of the whole arrays. -/
abbrev rowOf (X : S8192x2048.Idx → EReal) (r : Fin 8192) : Fin 2048 → EReal := fun k => X (ix2 r k)

/-- The output's gradient, the product's, and a row's mean square. -/
def dout (r : Fin 8192) (j : Fin 2048) : EReal := dy (ff m c r) (rowOf (aX m c) r) (rowOf (aT m c) r) (rg (aG m c)) j
def dff (r : Fin 8192) (j : Fin 2048) : EReal := Norm.grad (ff m c r) (fun k => dout m c r k * aG m c (ix2 0 k)) j
def lossRow (r : Fin 8192) : EReal := msq (ff m c r) (rowOf (aX m c) r) (rowOf (aT m c) r) (rg (aG m c))

abbrev at64 (n : ℕ) (hn : n < cfg0.N) (q : ℕ) (hq : q < 16) (a : Fin 64) : Fin 8192 := ⟨1024 * (n / 11) + (64 * q + a.val), by have := row_le n hn; omega⟩

section
variable (n : ℕ) (hn : n < cfg0.N) (h : n % 11 = 10) (q : ℕ) (hq : q < 16) (a : Fin 64)
include h

theorem acc_row : r64 (aq (accAt m c n hn) q hq) a = ff m c (at64 n hn q hq a) := by
  funext k
  refine (accAt_eq m c ⟨64 * q + a.val, by omega⟩ k n hn).trans ?_
  rw [h, ff_eq]

omit h in
theorem arr_row (Y : S8192x2048.Idx → EReal) : r1 (rq (F := Ideal) (1024 * (n / 11)) (row_le n hn) Y q hq) a = rowOf Y (at64 n hn q hq a) := by
  funext k
  refine congrArg (fun r => Y (ix2 r k)) (Fin.ext ?_)
  show 1024 * (n / 11) + 64 * q + a.val = 1024 * (n / 11) + (64 * q + a.val); omega

theorem out_at (j : Fin 2048) : outP (F := Ideal) (aq (accAt m c n hn) q hq) (gain m c ⟨n, hn⟩) (rq (1024 * (n / 11)) (row_le n hn) (xs m c) q hq) (rq (1024 * (n / 11)) (row_le n hn) (ts m c) q hq) (ix2 a j)
    = dout m c (at64 n hn q hq a) j := by
  rw [outP_apply, acc_row m c n hn h, arr_row, arr_row, blk_2]
  unfold xs ts dout
  rw [V_main_arg2, V_main_arg3]

theorem ff_at (j : Fin 2048) : ffP (F := Ideal) (aq (accAt m c n hn) q hq) (gain m c ⟨n, hn⟩) (rq (1024 * (n / 11)) (row_le n hn) (xs m c) q hq) (rq (1024 * (n / 11)) (row_le n hn) (ts m c) q hq) (ix3 0 a j)
    = dff m c (at64 n hn q hq a) j := by
  rw [ffP_apply, acc_row m c n hn h, arr_row, arr_row, blk_2]
  unfold xs ts dff dout
  rw [V_main_arg2, V_main_arg3]

end

/-- One row's part of the loss, and of the gain's gradient, zero past the last row. -/
def lossPart (r : ℕ) : EReal := if h : r < 8192 then Ideal.ofBits .f32 1056964608#32 * lossRow m c ⟨r, h⟩ else 0
def gainPart (j : Fin 2048) (r : ℕ) : EReal := if h : r < 8192 then dout m c ⟨r, h⟩ j * (ff m c ⟨r, h⟩ j * Norm.rstd (ff m c ⟨r, h⟩)) else 0

theorem halfE : Ideal.ofBits FTy.f32 1056964608#32 = ((1 / 2 : ℝ) : EReal) := by
  simp [Ideal.ofBits, Ideal.ieee, -EReal.coe_mul]; norm_num

theorem loss_at (n : ℕ) (hn : n < cfg0.N) (h : n % 11 = 10) (q : ℕ) (hq : q < 16) (u : Fin 8) (v : Fin 128) :
    lossP (F := Ideal) (aq (accAt m c n hn) q hq) (gain m c ⟨n, hn⟩) (rq (1024 * (n / 11)) (row_le n hn) (xs m c) q hq) (rq (1024 * (n / 11)) (row_le n hn) (ts m c) q hq) (ix2 u v)
      = ∑ a : Fin 64, lossPart m c (1024 * (n / 11) + (64 * q + a.val)) := by
  rw [lossP_apply, halfE, ← Norm.mul_sum_coe _ (by norm_num)]
  refine Finset.sum_congr rfl fun a _ => ?_
  have := row_le n hn
  unfold lossPart
  rw [dif_pos (by omega), halfE, acc_row m c n hn h, arr_row n hn, arr_row n hn, blk_2]
  unfold xs ts lossRow
  rw [V_main_arg2, V_main_arg3]

theorem gain_at (n : ℕ) (hn : n < cfg0.N) (h : n % 11 = 10) (q : ℕ) (hq : q < 16) (j : Fin 2048) :
    gainP (F := Ideal) (aq (accAt m c n hn) q hq) (gain m c ⟨n, hn⟩) (rq (1024 * (n / 11)) (row_le n hn) (xs m c) q hq) (rq (1024 * (n / 11)) (row_le n hn) (ts m c) q hq) (ix2 0 j)
      = ∑ a : Fin 64, gainPart m c j (1024 * (n / 11) + (64 * q + a.val)) := by
  rw [gainP_apply]
  refine Finset.sum_congr rfl fun a _ => ?_
  have := row_le n hn
  unfold gainPart
  rw [dif_pos (by omega), ← outP_apply, out_at m c n hn h, acc_row m c n hn h]
  exact congrArg (fun z => _ * (z * _)) (congrFun (acc_row m c n hn h q hq a) j)

/-! ## Both gradients -/

theorem dAt_eq (r : Fin 8192) (j : Fin 2048) : ∀ (n : ℕ) (hn : n ≤ cfg0.N), r.val < 1024 * (n / 11) → dAt m c n hn (ix2 r j) = dout m c r j ∧ eAt m c n hn (ix2 r j) = dff m c r j := by
  intro n
  induction n with
  | zero => intro hn h; exact absurd h (by omega)
  | succ n ih =>
    intro hn h
    unfold dAt eAt
    by_cases h3 : n % 11 = 10
    · rw [if_pos h3, if_pos h3]
      unfold Dma.putRows
      by_cases hr : 1024 * (n / 11) ≤ r.val ∧ r.val < 1024 * (n / 11) + 1024
      · have e : at64 n hn ((r.val - 1024 * (n / 11)) / 64) (by omega) ⟨(r.val - 1024 * (n / 11)) % 64, by omega⟩ = r := Fin.ext (by dsimp only; omega)
        constructor
        · exact (dif_pos hr).trans ((out_at m c n hn h3 _ _ _ j).trans (congrArg (dout m c · j) e))
        · exact (dif_pos hr).trans ((ff_at m c n hn h3 _ _ _ j).trans (congrArg (dff m c · j) e))
      · have ih' := ih (Nat.le_of_succ_le hn) (by omega)
        exact ⟨(dif_neg hr).trans ih'.1, (dif_neg hr).trans ih'.2⟩
    · rw [if_neg h3, if_neg h3]
      exact ih (Nat.le_of_succ_le hn) (by omega)

theorem Gend_dout : Gend m c main_v2_0 = fun y => dout m c (y 0) (y 1) := by
  rw [Gend_d]
  funext y
  rw [eq_ix2 y]
  exact (dAt_eq m c (y 0) (y 1) cfg0.N le_rfl (by have := (y 0).isLt; rw [show cfg0.N = 88 from N_0]; exact this)).1
theorem Gend_dff : Gend m c main_v2_1 = fun y => dff m c (y 0) (y 1) := by
  rw [Gend_e]
  funext y
  rw [eq_ix2 y]
  exact (dAt_eq m c (y 0) (y 1) cfg0.N le_rfl (by have := (y 0).isLt; rw [show cfg0.N = 88 from N_0]; exact this)).2

/-! ## The loss and the gain's gradient -/

/-- A sum that grows by 64 parts at each piece; -/
theorem pieces_eq (P : ℕ → EReal) (o : ℕ) (s : EReal) (f : (q : ℕ) → q < 16 → EReal) (h0 : f 0 (by decide) = s + ∑ a : Fin 64, P (o + (64 * 0 + a.val)))
    (hs : ∀ q (h : q + 1 < 16), f (q + 1) h = f q (Nat.lt_of_succ_lt h) + ∑ a : Fin 64, P (o + (64 * (q + 1) + a.val))) :
    ∀ q (hq : q < 16), f q hq = s + ∑ i ∈ Finset.range (64 * (q + 1)), P (o + i) := by
  intro q
  induction q with
  | zero =>
    intro hq
    refine h0.trans ?_
    rw [← sum_blocks 64 (fun i => P (o + i))]
    exact congrArg (s + ·) (Finset.sum_range_one (fun k => ∑ a : Fin 64, P (o + (64 * k + a.val)))).symm
  | succ q ih =>
    intro hq
    rw [hs, ih, ← sum_blocks 64 (fun i => P (o + i)) (q + 1), ← sum_blocks 64 (fun i => P (o + i)) (q + 1 + 1), Finset.sum_range_succ _ (q + 1), add_assoc]

/-- and by 1024 parts at each row block. -/
theorem blocks_eq (P : ℕ → EReal) (f : (n : ℕ) → n < cfg0.N → EReal) (h0 : ∀ n (h : n + 1 < cfg0.N), ¬ (n + 1) % 11 = 10 → f (n + 1) h = f n (Nat.lt_of_succ_lt h))
    (h1 : ∀ n (h : n + 1 < cfg0.N), (n + 1) % 11 = 10 → f (n + 1) h = (if n + 1 < 11 then 0 else f n (Nat.lt_of_succ_lt h)) + ∑ i ∈ Finset.range 1024, P (1024 * ((n + 1) / 11) + i)) :
    ∀ n (hn : n < cfg0.N), 10 ≤ n → f n hn = ∑ r ∈ Finset.range (1024 * ((n + 1) / 11)), P r := by
  intro n
  induction n with
  | zero => intro hn h; exact absurd h (by omega)
  | succ n ih =>
    intro hn h
    by_cases h3 : (n + 1) % 11 = 10
    · rw [h1 n hn h3, show 1024 * ((n + 1 + 1) / 11) = 1024 * ((n + 1) / 11) + 1024 by omega, Finset.sum_range_add]
      by_cases h4 : n + 1 < 11
      · rw [if_pos h4, show 1024 * ((n + 1) / 11) = 0 by omega, Finset.sum_range_zero]
      · rw [if_neg h4, ih _ (by omega)]
    · rw [h0 n hn h3, ih _ (by omega)]
      congr 2; omega

theorem lsAt_eq (u : Fin 8) (v : Fin 128) (n : ℕ) (hn : n < cfg0.N) (h : 10 ≤ n) : lsAt m c n hn (ix2 u v) = ∑ r ∈ Finset.range (1024 * ((n + 1) / 11)), lossPart m c r := by
  refine blocks_eq (lossPart m c) (fun n hn => lsAt m c n hn (ix2 u v)) (fun n hn h3 => ?_) (fun n hn h3 => ?_) n hn h
  · exact congrFun (if_neg h3) _
  · refine (congrFun (if_pos h3) _).trans ?_
    refine pieces_eq (lossPart m c) (1024 * ((n + 1) / 11)) _
      (fun q hq => lossA (F := Ideal) (accAt m c (n + 1) hn) (gain m c ⟨n + 1, hn⟩) (xs m c) (ts m c) (1024 * ((n + 1) / 11)) (row_le (n + 1) hn) _ q hq (ix2 u v)) ?_ (fun q hq => ?_) 15 (by decide)
    · refine (show _ = lossS (F := Ideal) (accAt m c (n + 1) hn) (gain m c ⟨n + 1, hn⟩) (xs m c) (ts m c) (1024 * ((n + 1) / 11)) (row_le (n + 1) hn) (grid0.coords ⟨n + 1, hn⟩)
        (lsAt m c n (Nat.lt_of_succ_lt hn)) (ix2 u v) from rfl).trans ?_
      unfold lossS
      by_cases h4 : n + 1 < 11
      · rw [if_pos ((cond5_iff ⟨n + 1, hn⟩).mpr h4), if_pos h4, zero_add]
        exact loss_at m c (n + 1) hn h3 0 (by decide) u v
      · rw [if_neg (fun hh => h4 ((cond5_iff ⟨n + 1, hn⟩).mp hh)), if_neg h4]
        exact congrArg (_ + ·) (loss_at m c (n + 1) hn h3 0 (by decide) u v)
    · exact congrArg (_ + ·) (loss_at m c (n + 1) hn h3 (q + 1) hq u v)

theorem dgAt_eq (j : Fin 2048) (n : ℕ) (hn : n < cfg0.N) (h : 10 ≤ n) : dgAt m c n hn (ix2 0 j) = ∑ r ∈ Finset.range (1024 * ((n + 1) / 11)), gainPart m c j r := by
  refine blocks_eq (gainPart m c j) (fun n hn => dgAt m c n hn (ix2 0 j)) (fun n hn h3 => ?_) (fun n hn h3 => ?_) n hn h
  · exact congrFun (if_neg h3) _
  · refine (congrFun (if_pos h3) _).trans ?_
    refine pieces_eq (gainPart m c j) (1024 * ((n + 1) / 11)) _
      (fun q hq => gainA (F := Ideal) (accAt m c (n + 1) hn) (gain m c ⟨n + 1, hn⟩) (xs m c) (ts m c) (1024 * ((n + 1) / 11)) (row_le (n + 1) hn) _ q hq (ix2 0 j)) ?_ (fun q hq => ?_) 15 (by decide)
    · refine (show _ = gainS (F := Ideal) (accAt m c (n + 1) hn) (gain m c ⟨n + 1, hn⟩) (xs m c) (ts m c) (1024 * ((n + 1) / 11)) (row_le (n + 1) hn) (grid0.coords ⟨n + 1, hn⟩)
        (dgAt m c n (Nat.lt_of_succ_lt hn)) (ix2 0 j) from rfl).trans ?_
      unfold gainS
      by_cases h4 : n + 1 < 11
      · rw [if_pos ((cond5_iff ⟨n + 1, hn⟩).mpr h4), if_pos h4, zero_add]
        exact gain_at m c (n + 1) hn h3 0 (by decide) j
      · rw [if_neg (fun hh => h4 ((cond5_iff ⟨n + 1, hn⟩).mp hh)), if_neg h4]
        exact congrArg (_ + ·) (gain_at m c (n + 1) hn h3 0 (by decide) j)
    · exact congrArg (_ + ·) (gain_at m c (n + 1) hn h3 (q + 1) hq j)

/-- The loss, and the gain's gradient. -/
def loss : EReal := Ideal.ofBits .f32 1056964608#32 * ∑ r : Fin 8192, lossRow m c r
def dg (j : Fin 2048) : EReal := ∑ r : Fin 8192, dout m c r j * (ff m c r j * Norm.rstd (ff m c r))

theorem lsAt_last (u : Fin 8) (v : Fin 128) : lsAt m c 87 (by decide) (ix2 u v) = loss m c := by
  rw [lsAt_eq m c u v 87 (by decide) (by decide), show 1024 * ((87 + 1) / 11) = 8192 from rfl, ← Fin.sum_univ_eq_sum_range]
  unfold loss
  rw [halfE, ← Norm.mul_sum_coe _ (by norm_num)]
  exact Finset.sum_congr rfl fun r _ => by unfold lossPart; rw [dif_pos r.isLt, halfE]
theorem dgAt_last (j : Fin 2048) : dgAt m c 87 (by decide) (ix2 0 j) = dg m c j := by
  rw [dgAt_eq m c j 87 (by decide) (by decide), show 1024 * ((87 + 1) / 11) = 8192 from rfl, ← Fin.sum_univ_eq_sum_range]
  exact Finset.sum_congr rfl fun r _ => by unfold gainPart; rw [dif_pos r.isLt]

theorem flush3 : ∀ t : Fin cfg0.N, (cfg0.win 3).flush t = true → t.val = 87 := by decide +kernel
theorem flush4 : ∀ t : Fin cfg0.N, (cfg0.win 4).flush t = true → t.val = 87 := by decide +kernel

theorem arr_loss : (dats m 0 c).arrAt 3 cfg0.N = fun _ => loss m c := by
  refine (dats m 0 c).arrAt_eq_of_covers 3 (fun _ => loss m c) (by decide +kernel) fun t hf y => ?_
  obtain ⟨u, v, rfl⟩ : ∃ (u : Fin 8) (v : Fin 128), y = ix2 u v := ⟨y 0, y 1, eq_ix2 y⟩
  obtain ⟨n, hn⟩ := t
  obtain rfl : n = 87 := flush3 _ hf
  show (dats m 0 c).after 3 ⟨87, hn⟩ (ix2 u v) = loss m c
  rw [after3]
  exact lsAt_last m c u v

theorem arr_dg : (dats m 0 c).arrAt 4 cfg0.N = fun y => dg m c (y 1) := by
  refine (dats m 0 c).arrAt_eq_of_covers 4 (fun y => dg m c (y 1)) (by decide +kernel) fun t hf y => ?_
  obtain ⟨a, j, rfl⟩ : ∃ (a : Fin 1) (j : Fin 2048), y = ix2 a j := ⟨y 0, y 1, eq_ix2 y⟩
  obtain rfl : a = 0 := Subsingleton.elim _ _
  obtain ⟨n, hn⟩ := t
  obtain rfl : n = 87 := flush4 _ hf
  show (dats m 0 c).after 4 ⟨87, hn⟩ (ix2 0 j) = dg m c ((win0_4.rect ⟨87, hn⟩).emb (ix2 0 j) 1)
  rw [after4]
  refine (dgAt_last m c j).trans (congrArg (dg m c) (Fin.ext ?_))
  exact ((Pipeline.Window.rect_emb_val_off win0_4 ⟨87, hn⟩ (ix2 0 j) 1).trans (Nat.zero_add _)).symm

end Cert.Loss
-- ==== Proof.Loss.Claim.lean ====
module

public import proofs.«01_k».proof.Defs
public import proofs.«01_k».proof.Proof.Loss.Frame
public import proofs.«01_k».proof.Proof.Loss.Value
public import proofs.«01_k».proof.Proof.Gen.Reference4Ideal.Run
public import proofs.«01_k».proof.Proof.Gen.Reference4Ideal.Read

@[expose] public section

set_option maxRecDepth 16384

noncomputable section

/-! # The loss with its gradients: the call and `jax.vjp` of the plain loss end with the same four arrays -/

namespace Cert.LossClaim

open Idealize.ShloMosaic Idealize.ShloMosaic.TcCoe Idealize.SL.Sem

theorem twoE : Ideal.ofBits FTy.f32 1073741824#32 = ((2 : ℝ) : EReal) := by
  simp [Ideal.ofBits, Ideal.ieee, -EReal.coe_mul]; norm_num

/-- The chain rule's factors of the output's gradient are one division. -/
theorem factors (e : EReal) : Ideal.div (Ideal.ofBits FTy.f32 1056964608#32) (Ideal.ofBits FTy.f32 1157627904#32) * (Ideal.ofBits FTy.f32 1073741824#32 * e)
    = Ideal.div e (Ideal.ofBits FTy.f32 1157627904#32) := by
  rw [Cert.Loss.halfE, twoE, Norm.widthE, Ideal.div_coe (by norm_num), Ideal.div_coe (by norm_num), ← mul_assoc, ← EReal.coe_mul, ← EReal.coe_mul, mul_comm e]
  congr 2; norm_num

section Reference
open Cert.Reference4Ideal Cert.Reference4Ideal.Gen Cert.Reference4Ideal.Read

variable (x0 : S8192x5632.Idx → EReal) (x1 : S5632x2048.Idx → EReal) (x2 x3 : S8192x2048.Idx → EReal) (x4 : S1x2048.Idx → EReal)

/-- Rows of the product, of the residual and of the target, and the gain. -/
abbrev fr (r : Fin 8192) : Fin 2048 → EReal := fun k => ∑ e : Fin 5632, x0 (ix2 r e) * x1 (ix2 e k)
abbrev xr (x : S8192x2048.Idx → EReal) (r : Fin 8192) : Fin 2048 → EReal := fun k => x (ix2 r k)
abbrev gr : Fin 2048 → EReal := fun k => x4 (ix2 0 k)
abbrev dr (r : Fin 8192) (j : Fin 2048) : EReal := Cert.Loss.dy (fr x0 x1 r) (xr x2 r) (xr x3 r) (gr x4) j

theorem ref_ff (r : Fin 8192) (j : Fin 2048) : val_main_v0 (F := Ideal) x0 x1 (ix2 r j) = fr x0 x1 r j := by
  pointwise [val_main_v0]
theorem ref_ms (r : Fin 8192) : val_main_v7 (F := Ideal) x0 x1 (ix2 r 0) = Norm.ms (fr x0 x1 r) := by
  pointwise [val_main_v7, val_main_v6, val_main_cst_1, val_main_v5, val_main_v4, val_main_cst_0, val_main_v3, val_main_v2, val_main_cst, val_main_v1]
  simp only [ref_ff]
  rfl
theorem ref_rstd (r : Fin 8192) : val_main_v8 (F := Ideal) x0 x1 (ix2 r 0) = Norm.rstd (fr x0 x1 r) := by
  pointwise [val_main_v8]
  rw [ref_ms]; rfl
theorem ref_n (r : Fin 8192) (j : Fin 2048) : val_main_v13 (F := Ideal) x0 x1 (ix2 r j) = fr x0 x1 r j * Norm.rstd (fr x0 x1 r) := by
  pointwise [val_main_v13, val_main_v12]
  rw [ref_ff, ref_rstd]
theorem ref_err (r : Fin 8192) (j : Fin 2048) : val_main_v17 (F := Ideal) x0 x1 x2 x3 x4 (ix2 r j) = Cert.Loss.err (fr x0 x1 r) (xr x2 r) (xr x3 r) (gr x4) j := by
  pointwise [val_main_v17, val_main_v16, val_main_v15, val_main_v14]
  rw [ref_n]; rfl
theorem ref_dout (r : Fin 8192) (j : Fin 2048) : val_main_v31 (F := Ideal) x0 x1 x2 x3 x4 (ix2 r j) = dr x0 x1 x2 x3 x4 r j := by
  pointwise [val_main_v31, val_main_v30, val_main_v29, val_main_v28, val_main_cst_10, val_main_v27, val_main_v26, val_main_cst_9, val_main_cst_8, val_main_v20, val_main_v19, val_main_cst_3]
  rw [ref_err]
  exact factors _
theorem ref_dn (r : Fin 8192) (j : Fin 2048) : val_main_v36 (F := Ideal) x0 x1 x2 x3 x4 (ix2 r j) = dr x0 x1 x2 x3 x4 r j * x4 (ix2 0 j) := by
  pointwise [val_main_v36, val_main_v35]
  rw [ref_dout]
theorem ref_chain (r : Fin 8192) (j : Fin 2048) : val_main_v46 (F := Ideal) x0 x1 x2 x3 x4 (ix2 r j) = Norm.chain (fr x0 x1 r) (fun k => dr x0 x1 x2 x3 x4 r k * x4 (ix2 0 k)) := by
  pointwise [val_main_v46, val_main_v45, val_main_cst_14, val_main_v44, val_main_v43, val_main_cst_13, val_main_v42, val_main_v39, val_main_v38, val_main_cst_12, val_main_v37,
    val_main_v11, val_main_v10, val_main_cst_2, val_main_v9]
  refine (Fin.sum_univ_one _).trans ?_
  rw [ref_rstd, ref_ms]
  simp only [ref_ff, ref_dn]
  rfl
theorem ref_dff (r : Fin 8192) (j : Fin 2048) : val_main_v51 (F := Ideal) x0 x1 x2 x3 x4 (ix2 r j) = Norm.grad (fr x0 x1 r) (fun k => dr x0 x1 x2 x3 x4 r k * x4 (ix2 0 k)) j := by
  rw [← Norm.grad_eq, ← add_assoc]
  pointwise [val_main_v51, val_main_v50, val_main_v49, val_main_v48, val_main_v47, val_main_v41, val_main_v40]
  rw [ref_rstd, ref_ff, ref_chain, ref_dn]
theorem ref_dg (j : Fin 2048) : val_main_v34 (F := Ideal) x0 x1 x2 x3 x4 (ix2 0 j) = ∑ r : Fin 8192, dr x0 x1 x2 x3 x4 r j * (fr x0 x1 r j * Norm.rstd (fr x0 x1 r)) := by
  pointwise [val_main_v34, val_main_v33, val_main_cst_11, val_main_v32]
  exact Finset.sum_congr rfl fun r _ => by rw [ref_n, ref_dout, mul_comm]
theorem ref_loss (u : Fin 8) (v : Fin 128) : val_main_v52 (F := Ideal) x0 x1 x2 x3 x4 (ix2 u v)
    = Ideal.ofBits .f32 1056964608#32 * ∑ r : Fin 8192, Cert.Loss.msq (fr x0 x1 r) (xr x2 r) (xr x3 r) (gr x4) := by
  pointwise [val_main_v52, val_main_v25, val_main_cst_7, val_main_v24, val_main_cst_6, val_main_v23, val_main_v22, val_main_cst_5, val_main_v21, val_main_cst_4, val_main_v18]
  simp only [ref_err]
  rfl

end Reference

open Cert.Kernel4Ideal Cert.Kernel4Ideal.Gen Cert.Loss in
theorem claim : Cert.algebraic_Kernel4Ideal_Reference4Ideal (hKernel4Ideal := Cert.Kernel4Ideal.Gen.facts) (hReference4Ideal := Cert.Reference4Ideal.Gen.facts) := by
  intro m g m' g' _ hargs
  refine ⟨fun c => fun y => dout m c (y 0) (y 1), fun c => fun y => dff m c (y 0) (y 1), fun c => fun _ => loss m c, fun c => fun y => dg m c (y 1), ?_, ?_⟩
  · refine (θ_run Cert.Kernel4Ideal.defs _ _).mono (fun r h c => ?_) (run_main (F := Ideal) m g)
    exact ⟨(h.1.2 c main_v2_0 (by decide)).trans (Gend_dout m c), (h.1.2 c main_v2_1 (by decide)).trans (Gend_dff m c),
      ((h.1.toR c).1 3).trans (arr_loss m c), ((h.1.toR c).1 4).trans (arr_dg m c), kept m r h.1 c⟩
  · refine (θ_run Cert.Reference4Ideal.defs _ _).mono (fun r h c => ?_) (Cert.Reference4Ideal.Value.run (F := Ideal) m' g')
    obtain ⟨h0, h1, h2, h3, hrest⟩ := h c
    obtain ⟨a0, a1, a2, a3, a4⟩ := hargs c
    rw [Cert.Reference4Ideal.Read.val_main_v31_eq, a0, a1, a2, a3, a4] at h0
    rw [Cert.Reference4Ideal.Read.val_main_v51_eq, a0, a1, a2, a3, a4] at h1
    rw [Cert.Reference4Ideal.Read.val_main_v52_eq, a0, a1, a2, a3, a4] at h2
    rw [Cert.Reference4Ideal.Read.val_main_v34_eq, a0, a1, a2, a3, a4] at h3
    refine ⟨h0.trans ?_, h1.trans ?_, h2.trans ?_, h3.trans ?_, hrest⟩
    · funext y
      obtain ⟨r, j, rfl⟩ : ∃ (r : Fin 8192) (j : Fin 2048), y = ix2 r j := ⟨y 0, y 1, eq_ix2 y⟩
      exact ref_dout _ _ _ _ _ r j
    · funext y
      obtain ⟨r, j, rfl⟩ : ∃ (r : Fin 8192) (j : Fin 2048), y = ix2 r j := ⟨y 0, y 1, eq_ix2 y⟩
      exact ref_dff _ _ _ _ _ r j
    · funext y
      obtain ⟨u, v, rfl⟩ : ∃ (u : Fin 8) (v : Fin 128), y = ix2 u v := ⟨y 0, y 1, eq_ix2 y⟩
      exact ref_loss _ _ _ _ _ u v
    · funext y
      obtain ⟨a, j, rfl⟩ : ∃ (a : Fin 1) (j : Fin 2048), y = ix2 a j := ⟨y 0, y 1, eq_ix2 y⟩
      obtain rfl : a = 0 := Subsingleton.elim _ _
      exact ref_dg _ _ _ _ _ j

end Cert.LossClaim
-- ==== Proof.Sums.lean ====
module

public import Mathlib.Algebra.BigOperators.Fin

@[expose] public section

/-! Sums put together from the sums of their pieces. -/

namespace Cert.Sums

theorem sum_blocks (w : ℕ) {α : Type} [AddCommMonoid α] (f : ℕ → α) (n : ℕ) :
    ∑ k ∈ Finset.range n, ∑ a : Fin w, f (w * k + a) = ∑ t ∈ Finset.range (w * n), f t := by
  induction n with
  | zero => rfl
  | succ n ih => rw [Finset.sum_range_succ, ih, Nat.mul_succ, Finset.sum_range_add, Fin.sum_univ_eq_sum_range (fun a => f (w * n + a)) w]

/-- A sum that grows by 64 parts at each piece. -/
theorem pieces_eq {α : Type} [AddCommMonoid α] (P : ℕ → α) (o : ℕ) (s : α) (f : (q : ℕ) → q < 16 → α) (h0 : f 0 (by decide) = s + ∑ a : Fin 64, P (o + (64 * 0 + a.val)))
    (hs : ∀ q (h : q + 1 < 16), f (q + 1) h = f q (Nat.lt_of_succ_lt h) + ∑ a : Fin 64, P (o + (64 * (q + 1) + a.val))) :
    ∀ q (hq : q < 16), f q hq = s + ∑ i ∈ Finset.range (64 * (q + 1)), P (o + i) := by
  intro q
  induction q with
  | zero =>
    intro hq
    refine h0.trans ?_
    rw [← sum_blocks 64 (fun i => P (o + i))]
    exact congrArg (s + ·) (Finset.sum_range_one (fun k => ∑ a : Fin 64, P (o + (64 * k + a.val)))).symm
  | succ q ih =>
    intro hq
    rw [hs, ih, ← sum_blocks 64 (fun i => P (o + i)) (q + 1), ← sum_blocks 64 (fun i => P (o + i)) (q + 1 + 1), Finset.sum_range_succ _ (q + 1), add_assoc]

end Cert.Sums
-- ==== Proof.Dhf.Value.lean ====
module

public import proofs.«01_k».proof.Proof.Dhf.Run
public import proofs.«01_k».proof.Proof.Norm
public import proofs.«01_k».proof.Proof.Sums
public import Idealize.ShloMosaic.Lib.Pipeline.ValueKit
public import Idealize.ShloMosaic.Lib.Pipeline.ValueKit.Tiles

@[expose] public section

set_option maxRecDepth 16384

noncomputable section

/-! What the two calls leave, read on the extended reals. -/

namespace Cert.Dhf

open Cert.Kernel5Ideal Cert.Kernel5Ideal.Gen
open Idealize.ShloMosaic Idealize.ShloMosaic.TcCoe
open Idealize.SL.Sem

variable (m : (ℓ : Loc nD τ sig) → Buf (Elt Ideal) ℓ) (c : Dev nD)

abbrev aM : S8192x2048.Idx → EReal := m ((c : Thread nD τ).loc main_arg0)
abbrev aO : S2048x2048.Idx → EReal := m ((c : Thread nD τ).loc main_arg1)
abbrev aX : S8192x2048.Idx → EReal := m ((c : Thread nD τ).loc main_arg2)
abbrev aG2 : S1x2048.Idx → EReal := m ((c : Thread nD τ).loc main_arg3)
abbrev aG3 : S1x2048.Idx → EReal := m ((c : Thread nD τ).loc main_arg4)
abbrev aWg : S2048x5632.Idx → EReal := m ((c : Thread nD τ).loc main_arg5)
abbrev aWu : S2048x5632.Idx → EReal := m ((c : Thread nD τ).loc main_arg6)
abbrev aDg : S8192x5632.Idx → EReal := m ((c : Thread nD τ).loc main_arg7)
abbrev aDu : S8192x5632.Idx → EReal := m ((c : Thread nD τ).loc main_arg8)
abbrev aD : S8192x2048.Idx → EReal := m ((c : Thread nD τ).loc main_arg9)

/-! ## One row -/

section
variable (f x g h : Fin 2048 → EReal)

/-- The residual sum at a row of the product, of the step's input, and the gain; its norm. -/
def sumRow (k : Fin 2048) : EReal := x k + f k * Norm.rstd f * g k
def normRow (k : Fin 2048) : EReal := f k * Norm.rstd f * g k
/-- The residual's gradient at a row `f` of the gradient behind the second norm, of what that norm took, `x`, and of the cotangent, `h`. -/
def dxRow (j : Fin 2048) : EReal := h j + Norm.grad x (fun k => f k * g k) j

end

abbrev r64 (A : Vec Ideal S64x2048 .f32) (a : Fin 64) : Fin 2048 → EReal := fun k => A (ix2 a k)
abbrev r1 (X : Vec Ideal S1x64x2048 .f32) (a : Fin 64) : Fin 2048 → EReal := fun k => X (ix3 0 a k)
abbrev rg (g : Vec Ideal S1x2048 .f32) : Fin 2048 → EReal := fun k => g (ix2 0 k)

section
variable (A X : Vec Ideal S64x2048 .f32) (g h : Vec Ideal S1x2048 .f32) (Y D M : Vec Ideal S1x64x2048 .f32)

theorem xQ_apply (a : Fin 64) (j : Fin 2048) : xQ (F := Ideal) A X g (ix2 a j) = sumRow (r64 A a) (r64 X a) (rg g) j := by
  pointwise [xQ, k0_pay15]
  rfl
theorem hQ_apply (a : Fin 64) (j : Fin 2048) : hQ (F := Ideal) A X g h (ix2 a j) = normRow (sumRow (r64 A a) (r64 X a) (rg g)) (rg h) j := by
  pointwise [hQ, k0_pay16, k0_pay15]
  rfl
theorem n3P_apply (a : Fin 64) (j : Fin 2048) : n3P (F := Ideal) Y (ix2 a j) = r1 Y a j * Norm.rstd (r1 Y a) := by
  pointwise [n3P, k1_pay6, k1_pay5, k1_pay4, k1_pay3]
  rfl
theorem dxP_apply (a : Fin 64) (j : Fin 2048) : dxP (F := Ideal) A g Y D (ix2 a j) = dxRow (r64 A a) (r1 Y a) (rg g) (r1 D a) j := by
  pointwise [dxP, k1_pay7, k1_pay6, k1_pay5, k1_pay4, k1_pay3]
  rfl
theorem dmP_apply (a : Fin 64) (j : Fin 2048) : dmP (F := Ideal) A g h Y D M (ix3 0 a j) = Norm.grad (r1 M a) (fun k => dxRow (r64 A a) (r1 Y a) (rg g) (r1 D a) k * rg h k) j := by
  pointwise [dmP, k1_pay16, k1_pay12, k1_pay11, k1_pay10, k1_pay9, k1_pay8, k1_pay7, k1_pay6, k1_pay5, k1_pay4, k1_pay3]
  rfl
theorem s3P_apply (j : Fin 2048) : s3P (F := Ideal) A Y (ix2 0 j) = ∑ a : Fin 64, r64 A a j * (r1 Y a j * Norm.rstd (r1 Y a)) := by
  pointwise [s3P, n3P, k1_pay13, k1_pay6, k1_pay5, k1_pay4, k1_pay3]
  rfl
theorem s2P_apply (j : Fin 2048) : s2P (F := Ideal) A g Y D M (ix2 0 j) = ∑ a : Fin 64, dxRow (r64 A a) (r1 Y a) (rg g) (r1 D a) j * (r1 M a j * Norm.rstd (r1 M a)) := by
  pointwise [s2P, dxP, k1_pay14, k1_pay10, k1_pay9, k1_pay8, k1_pay7, k1_pay6, k1_pay5, k1_pay4, k1_pay3]
  rfl

end

/-- The rows of the whole arrays. -/
abbrev rowOf (X : S8192x2048.Idx → EReal) (r : Fin 8192) : Fin 2048 → EReal := fun k => X (ix2 r k)
/-- An array by its rows. -/
abbrev ofRows (T : Fin 8192 → Fin 2048 → EReal) : S8192x2048.Idx → EReal := fun y => T (y 0) (y 1)

abbrev ofCols (T : Fin 2048 → EReal) : S1x2048.Idx → EReal := fun y => T (y 1)

/-! ## The step's arrays -/

def mo (r : Fin 8192) (j : Fin 2048) : EReal := ∑ k : Fin 2048, aM m c (ix2 r k) * aO m c (ix2 k j)
def x1 (r : Fin 8192) : Fin 2048 → EReal := sumRow (mo m c r) (rowOf (aX m c) r) (rg (aG2 m c))
def hf (r : Fin 8192) : Fin 2048 → EReal := normRow (x1 m c r) (rg (aG3 m c))
def dhf (r : Fin 8192) (j : Fin 2048) : EReal := ∑ e : Fin 5632, (aDg m c (ix2 r e) * aWg m c (ix2 j e) + aDu m c (ix2 r e) * aWu m c (ix2 j e))
def dx (r : Fin 8192) : Fin 2048 → EReal := dxRow (dhf m c r) (x1 m c r) (rg (aG3 m c)) (rowOf (aD m c) r)
def dm (r : Fin 8192) : Fin 2048 → EReal := Norm.grad (mo m c r) fun k => dx m c r k * rg (aG2 m c) k
def part3 (j : Fin 2048) (r : Fin 8192) : EReal := dhf m c r j * (x1 m c r j * Norm.rstd (x1 m c r))
def part2 (j : Fin 2048) (r : Fin 8192) : EReal := dx m c r j * (mo m c r j * Norm.rstd (mo m c r))

/-! ## The first call's blocks -/

theorem B1_v0 : B1 m c main_v0 = aM m c := by
  show StableHlo.after hostOps0 (W0 m c) (Proc.devRef .tc main_v0) = _
  unfold hostOps0
  after_results
  rfl
theorem B1_v1 : B1 m c main_v1 = aO m c := by
  show StableHlo.after hostOps0 (W0 m c) (Proc.devRef .tc main_v1) = _
  unfold hostOps0
  after_results
  rfl
theorem B1_arg (a : Ref sig .tc) (h : a ∉ hostOps0_W) : B1 m c a = m ((c : Thread nD τ).loc a) := W1_of m c a h

theorem lt_N0 (t : Fin cfg0.N) : t.val < 16 := lt_of_lt_of_eq t.isLt (show cfg0.N = 16 from N_0)
theorem off_a : ∀ t : Fin cfg0.N, (win0_0.index t 0 * win0_0.size 0 = 512 * t.val ∧ win0_0.index t 1 * win0_0.size 1 = 0) ∧ (win0_2.index t 0 * win0_2.size 0 = 512 * t.val ∧ win0_2.index t 1 * win0_2.size 1 = 0)
    ∧ (win0_5.index t 0 * win0_5.size 0 = 512 * t.val ∧ win0_5.index t 1 * win0_5.size 1 = 0) ∧ (win0_6.index t 0 * win0_6.size 0 = 512 * t.val ∧ win0_6.index t 1 * win0_6.size 1 = 0)
    ∧ (win0_7.index t 0 * win0_7.size 0 = 512 * t.val ∧ win0_7.index t 1 * win0_7.size 1 = 0) := by decide +kernel

abbrev rw0 (t : Fin cfg0.N) (a : Fin 512) : Fin 8192 := ⟨512 * t.val + a.val, by have := lt_N0 t; omega⟩

theorem mix_blk (t : Fin cfg0.N) (a : Fin 512) (k : Fin 2048) : mixB (B1 m) c t (ix2 a k) = aM m c (ix2 (rw0 t a) k) := by
  show B1 m c main_v0 _ = _
  rw [B1_v0]
  congr 1; funext b; apply Fin.ext
  match b with
  | ⟨0, _⟩ => exact (Pipeline.Window.rect_emb_val_off win0_0 t _ 0).trans (congrArg (· + a.val) (off_a t).1.1)
  | ⟨1, _⟩ => exact (Pipeline.Window.rect_emb_val_off win0_0 t _ 1).trans ((congrArg (· + k.val) (off_a t).1.2).trans (Nat.zero_add _))
theorem xs_blk (t : Fin cfg0.N) (a : Fin 512) (k : Fin 2048) : xsB (B1 m) c t (ix2 a k) = aX m c (ix2 (rw0 t a) k) := by
  show B1 m c main_arg2 _ = _
  rw [B1_arg m c main_arg2 (by decide)]
  congr 1; funext b; apply Fin.ext
  match b with
  | ⟨0, _⟩ => exact (Pipeline.Window.rect_emb_val_off win0_2 t _ 0).trans (congrArg (· + a.val) (off_a t).2.1.1)
  | ⟨1, _⟩ => exact (Pipeline.Window.rect_emb_val_off win0_2 t _ 1).trans ((congrArg (· + k.val) (off_a t).2.1.2).trans (Nat.zero_add _))
theorem wo_blk (t : Fin cfg0.N) : woB (B1 m) c t = aO m c := by
  funext y
  show B1 m c main_v1 _ = _
  rw [B1_v1]
  congr 1; funext b; apply Fin.ext
  match b with
  | ⟨0, _⟩ => exact (Pipeline.Window.rect_emb_val_off win0_1 t _ 0).trans (Nat.zero_add _)
  | ⟨1, _⟩ => exact (Pipeline.Window.rect_emb_val_off win0_1 t _ 1).trans (Nat.zero_add _)
theorem g2_blk (t : Fin cfg0.N) : g2B (B1 m) c t = aG2 m c := by
  funext y
  show B1 m c main_arg3 _ = _
  rw [B1_arg m c main_arg3 (by decide)]
  congr 1; funext b; apply Fin.ext
  match b with
  | ⟨0, _⟩ => exact (Pipeline.Window.rect_emb_val_off win0_3 t _ 0).trans (Nat.zero_add _)
  | ⟨1, _⟩ => exact (Pipeline.Window.rect_emb_val_off win0_3 t _ 1).trans (Nat.zero_add _)
theorem g3_blk (t : Fin cfg0.N) : g3B (B1 m) c t = aG3 m c := by
  funext y
  show B1 m c main_arg4 _ = _
  rw [B1_arg m c main_arg4 (by decide)]
  congr 1; funext b; apply Fin.ext
  match b with
  | ⟨0, _⟩ => exact (Pipeline.Window.rect_emb_val_off win0_4 t _ 0).trans (Nat.zero_add _)
  | ⟨1, _⟩ => exact (Pipeline.Window.rect_emb_val_off win0_4 t _ 1).trans (Nat.zero_add _)

theorem prod0 (t : Fin cfg0.N) (a : Fin 512) (j : Fin 2048) : k0_pay2 (F := Ideal) (mixB (B1 m) c t) (woB (B1 m) c t) (ix2 a j) = mo m c (rw0 t a) j := by
  pointwise [k0_pay2]
  refine Finset.sum_congr rfl fun k _ => ?_
  exact congrArg₂ (· * ·) (mix_blk m c t a k) (congrFun (wo_blk m c t) _)

theorem at512 (a : Fin 512) : 64 * (a.val / 64) + a.val % 64 = a.val := by omega

theorem prod_row (t : Fin cfg0.N) (a : Fin 512) (hq : a.val / 64 < 8) (ha : a.val % 64 < 64) :
    r64 (rows64 (k0_pay2 (F := Ideal) (mixB (B1 m) c t) (woB (B1 m) c t)) (a.val / 64) hq) ⟨a.val % 64, ha⟩ = mo m c (rw0 t a) := by
  funext k
  refine (show _ = k0_pay2 (F := Ideal) (mixB (B1 m) c t) (woB (B1 m) c t) (ix2 a k) from ?_).trans (prod0 m c t a k)
  exact congrArg (fun z => k0_pay2 (F := Ideal) (mixB (B1 m) c t) (woB (B1 m) c t) (ix2 z k)) (Fin.ext (at512 a))
theorem xs_row (t : Fin cfg0.N) (a : Fin 512) (hq : a.val / 64 < 8) (ha : a.val % 64 < 64) : r64 (rows64 (xsB (B1 m) c t) (a.val / 64) hq) ⟨a.val % 64, ha⟩ = rowOf (aX m c) (rw0 t a) := by
  funext k
  refine (show _ = xsB (B1 m) c t (ix2 a k) from ?_).trans (xs_blk m c t a k)
  exact congrArg (fun z => xsB (B1 m) c t (ix2 z k)) (Fin.ext (at512 a))

theorem xT_at (t : Fin cfg0.N) (a : Fin 512) (j : Fin 2048) : xT (F := Ideal) (mixB (B1 m) c t) (woB (B1 m) c t) (xsB (B1 m) c t) (g2B (B1 m) c t) a j = x1 m c (rw0 t a) j := by
  unfold xT
  rw [xQ_apply, prod_row, xs_row, g2_blk]
  rfl
theorem hT_at (t : Fin cfg0.N) (a : Fin 512) (j : Fin 2048) : hT (F := Ideal) (mixB (B1 m) c t) (woB (B1 m) c t) (xsB (B1 m) c t) (g2B (B1 m) c t) (g3B (B1 m) c t) a j = hf m c (rw0 t a) j := by
  unfold hT
  rw [hQ_apply, prod_row, xs_row, g2_blk, g3_blk]
  rfl

/-! ## What the first call leaves -/

theorem rows_eq (T : Fin 8192 → Fin 2048 → EReal) (t : Fin cfg0.N) (a : Fin 512) (j : Fin 2048) (y : S8192x2048.Idx) (h0 : (y 0).val = 512 * t.val + a.val) (h1 : (y 1).val = 0 + j.val) : T (rw0 t a) j = ofRows T y :=
  congrArg₂ T (Fin.ext h0.symm) (Fin.ext (by rw [h1, Nat.zero_add]))

theorem arr_mo : (dat0 (B1 m) c).arrAt 5 cfg0.N = ofRows (mo m c) := by
  refine (dat0 (B1 m) c).arrAt_eq_of_covers 5 (ofRows (mo m c)) (by decide +kernel) fun t _ y => ?_
  obtain ⟨a, j, rfl⟩ : ∃ (a : Fin 512) (j : Fin 2048), y = ix2 a j := ⟨y 0, y 1, eq_ix2 y⟩
  show (dat0 (B1 m) c).after 5 t (ix2 a j) = ofRows (mo m c) ((win0_5.rect t).emb (ix2 a j))
  rw [after0_5]
  exact (prod0 m c t a j).trans (rows_eq _ t a j _ ((Pipeline.Window.rect_emb_val_off win0_5 t _ 0).trans (congrArg (· + a.val) (off_a t).2.2.1.1))
    ((Pipeline.Window.rect_emb_val_off win0_5 t _ 1).trans (congrArg (· + j.val) (off_a t).2.2.1.2)))
theorem arr_x1 : (dat0 (B1 m) c).arrAt 6 cfg0.N = ofRows (x1 m c) := by
  refine (dat0 (B1 m) c).arrAt_eq_of_covers 6 (ofRows (x1 m c)) (by decide +kernel) fun t _ y => ?_
  obtain ⟨a, j, rfl⟩ : ∃ (a : Fin 512) (j : Fin 2048), y = ix2 a j := ⟨y 0, y 1, eq_ix2 y⟩
  show (dat0 (B1 m) c).after 6 t (ix2 a j) = ofRows (x1 m c) ((win0_6.rect t).emb (ix2 a j))
  rw [after0_6]
  exact (xT_at m c t a j).trans (rows_eq _ t a j _ ((Pipeline.Window.rect_emb_val_off win0_6 t _ 0).trans (congrArg (· + a.val) (off_a t).2.2.2.1.1))
    ((Pipeline.Window.rect_emb_val_off win0_6 t _ 1).trans (congrArg (· + j.val) (off_a t).2.2.2.1.2)))
theorem arr_hf : (dat0 (B1 m) c).arrAt 7 cfg0.N = ofRows (hf m c) := by
  refine (dat0 (B1 m) c).arrAt_eq_of_covers 7 (ofRows (hf m c)) (by decide +kernel) fun t _ y => ?_
  obtain ⟨a, j, rfl⟩ : ∃ (a : Fin 512) (j : Fin 2048), y = ix2 a j := ⟨y 0, y 1, eq_ix2 y⟩
  show (dat0 (B1 m) c).after 7 t (ix2 a j) = ofRows (hf m c) ((win0_7.rect t).emb (ix2 a j))
  rw [after0_7]
  exact (hT_at m c t a j).trans (rows_eq _ t a j _ ((Pipeline.Window.rect_emb_val_off win0_7 t _ 0).trans (congrArg (· + a.val) (off_a t).2.2.2.2.1))
    ((Pipeline.Window.rect_emb_val_off win0_7 t _ 1).trans (congrArg (· + j.val) (off_a t).2.2.2.2.2)))

theorem B2_mo : B2 m c main_v6_0 = ofRows (mo m c) := (W2_arr m c 5).trans (arr_mo m c)
theorem B2_x1 : B2 m c main_v6_1 = ofRows (x1 m c) := (W2_arr m c 6).trans (arr_x1 m c)
theorem B2_hf : B2 m c main_v6_2 = ofRows (hf m c) := (W2_arr m c 7).trans (arr_hf m c)

/-! ## The second call's blocks -/

theorem B2_arg (a : Ref sig .tc) (h : a ∈ argRefs) : B2 m c a = m ((c : Thread nD τ).loc a) := W2_args m c a h
theorem B2_v2 : B2 m c main_v2 = aWg m c := by
  refine (W2_of m c main_v2 (by decide)).trans ?_
  show StableHlo.after hostOps0 (W0 m c) (Proc.devRef .tc main_v2) = _
  unfold hostOps0
  after_results
  rfl
theorem B2_v3 : B2 m c main_v3 = aWu m c := by
  refine (W2_of m c main_v3 (by decide)).trans ?_
  show StableHlo.after hostOps0 (W0 m c) (Proc.devRef .tc main_v3) = _
  unfold hostOps0
  after_results
  rfl
theorem B2_v4 : B2 m c main_v4 = aDg m c := by
  refine (W2_of m c main_v4 (by decide)).trans ?_
  show StableHlo.after hostOps0 (W0 m c) (Proc.devRef .tc main_v4) = _
  unfold hostOps0
  after_results
  rfl
theorem B2_v5 : B2 m c main_v5 = aDu m c := by
  refine (W2_of m c main_v5 (by decide)).trans ?_
  show StableHlo.after hostOps0 (W0 m c) (Proc.devRef .tc main_v5) = _
  unfold hostOps0
  after_results
  rfl

theorem off_b : ∀ t : Fin cfg1.N, (win1_0.index t 0 * win1_0.size 0 = 1024 * (t.val / 11) ∧ win1_0.index t 1 * win1_0.size 1 = 512 * (t.val % 11)) ∧ (win1_1.index t 0 * win1_1.size 0 = 0 ∧ win1_1.index t 1 * win1_1.size 1 = 512 * (t.val % 11))
    ∧ (win1_2.index t 0 * win1_2.size 0 = 1024 * (t.val / 11) ∧ win1_2.index t 1 * win1_2.size 1 = 512 * (t.val % 11)) ∧ (win1_3.index t 0 * win1_3.size 0 = 0 ∧ win1_3.index t 1 * win1_3.size 1 = 512 * (t.val % 11)) := by decide +kernel

abbrev rw1 (n : ℕ) (hn : n < cfg1.N) (a : Fin 1024) : Fin 8192 := ⟨1024 * (n / 11) + a.val, by have := row_le n hn; omega⟩
abbrev col1 (t : Fin cfg1.N) (e : Fin 512) : Fin 5632 := ⟨512 * (t.val % 11) + e.val, by omega⟩

theorem dg_blk (t : Fin cfg1.N) (a : Fin 1024) (e : Fin 512) : dgB (B2 m) c t (ix2 a e) = aDg m c (ix2 (rw1 t.val t.isLt a) (col1 t e)) := by
  show B2 m c main_v4 _ = _
  rw [B2_v4]
  congr 1; funext b; apply Fin.ext
  match b with
  | ⟨0, _⟩ => exact (Pipeline.Window.rect_emb_val_off win1_0 t _ 0).trans (congrArg (· + a.val) (off_b t).1.1)
  | ⟨1, _⟩ => exact (Pipeline.Window.rect_emb_val_off win1_0 t _ 1).trans (congrArg (· + e.val) (off_b t).1.2)
theorem wg_blk (t : Fin cfg1.N) (j : Fin 2048) (e : Fin 512) : wgB (B2 m) c t (ix2 j e) = aWg m c (ix2 j (col1 t e)) := by
  show B2 m c main_v2 _ = _
  rw [B2_v2]
  congr 1; funext b; apply Fin.ext
  match b with
  | ⟨0, _⟩ => exact (Pipeline.Window.rect_emb_val_off win1_1 t _ 0).trans ((congrArg (· + j.val) (off_b t).2.1.1).trans (Nat.zero_add _))
  | ⟨1, _⟩ => exact (Pipeline.Window.rect_emb_val_off win1_1 t _ 1).trans (congrArg (· + e.val) (off_b t).2.1.2)
theorem du_blk (t : Fin cfg1.N) (a : Fin 1024) (e : Fin 512) : duB (B2 m) c t (ix2 a e) = aDu m c (ix2 (rw1 t.val t.isLt a) (col1 t e)) := by
  show B2 m c main_v5 _ = _
  rw [B2_v5]
  congr 1; funext b; apply Fin.ext
  match b with
  | ⟨0, _⟩ => exact (Pipeline.Window.rect_emb_val_off win1_2 t _ 0).trans (congrArg (· + a.val) (off_b t).2.2.1.1)
  | ⟨1, _⟩ => exact (Pipeline.Window.rect_emb_val_off win1_2 t _ 1).trans (congrArg (· + e.val) (off_b t).2.2.1.2)
theorem wu_blk (t : Fin cfg1.N) (j : Fin 2048) (e : Fin 512) : wuB (B2 m) c t (ix2 j e) = aWu m c (ix2 j (col1 t e)) := by
  show B2 m c main_v3 _ = _
  rw [B2_v3]
  congr 1; funext b; apply Fin.ext
  match b with
  | ⟨0, _⟩ => exact (Pipeline.Window.rect_emb_val_off win1_3 t _ 0).trans ((congrArg (· + j.val) (off_b t).2.2.2.1).trans (Nat.zero_add _))
  | ⟨1, _⟩ => exact (Pipeline.Window.rect_emb_val_off win1_3 t _ 1).trans (congrArg (· + e.val) (off_b t).2.2.2.2)
theorem gain3_blk (t : Fin cfg1.N) : gain3 (B2 m) c t = aG3 m c := by
  funext y
  show B2 m c main_arg4 _ = _
  rw [B2_arg m c main_arg4 (by decide)]
  congr 1; funext b; apply Fin.ext
  match b with
  | ⟨0, _⟩ => exact (Pipeline.Window.rect_emb_val_off win1_4 t _ 0).trans (Nat.zero_add _)
  | ⟨1, _⟩ => exact (Pipeline.Window.rect_emb_val_off win1_4 t _ 1).trans (Nat.zero_add _)
theorem gain2_blk (t : Fin cfg1.N) : gain2 (B2 m) c t = aG2 m c := by
  funext y
  show B2 m c main_arg3 _ = _
  rw [B2_arg m c main_arg3 (by decide)]
  congr 1; funext b; apply Fin.ext
  match b with
  | ⟨0, _⟩ => exact (Pipeline.Window.rect_emb_val_off win1_5 t _ 0).trans (Nat.zero_add _)
  | ⟨1, _⟩ => exact (Pipeline.Window.rect_emb_val_off win1_5 t _ 1).trans (Nat.zero_add _)

/-! ## The gradient behind the second norm -/

/-- Its terms at a row and a column, zero past the last. -/
def term (r : Fin 8192) (j : Fin 2048) (e : ℕ) : EReal := if h : e < 5632 then aDg m c (ix2 r ⟨e, h⟩) * aWg m c (ix2 j ⟨e, h⟩) + aDu m c (ix2 r ⟨e, h⟩) * aWu m c (ix2 j ⟨e, h⟩) else 0

theorem dhf_eq (r : Fin 8192) (j : Fin 2048) : dhf m c r j = ∑ e ∈ Finset.range 5632, term m c r j e := by
  rw [← Fin.sum_univ_eq_sum_range]
  exact Finset.sum_congr rfl fun e _ => by unfold term; rw [dif_pos e.isLt]

theorem pay1_apply (t : Fin cfg1.N) (a : Fin 1024) (j : Fin 2048) :
    k1_pay1 (F := Ideal) (dgB (B2 m) c t) (wgB (B2 m) c t) (duB (B2 m) c t) (wuB (B2 m) c t) (ix2 a j) = ∑ e : Fin 512, term m c (rw1 t.val t.isLt a) j (512 * (t.val % 11) + e.val) := by
  pointwise [k1_pay1]
  rw [← Finset.sum_add_distrib]
  refine Finset.sum_congr rfl fun e _ => ?_
  unfold term
  rw [dif_pos (show 512 * (t.val % 11) + e.val < 5632 by omega)]
  exact congrArg₂ (· + ·) (congrArg₂ (· * ·) (dg_blk m c t a e) (wg_blk m c t j e)) (congrArg₂ (· * ·) (du_blk m c t a e) (wu_blk m c t j e))

theorem pay2_apply (t : Fin cfg1.N) (A : S1024x2048.Idx → EReal) (a : Fin 1024) (j : Fin 2048) :
    k1_pay2 (F := Ideal) (dgB (B2 m) c t) (wgB (B2 m) c t) (duB (B2 m) c t) (wuB (B2 m) c t) A (ix2 a j)
      = A (ix2 a j) + k1_pay1 (F := Ideal) (dgB (B2 m) c t) (wgB (B2 m) c t) (duB (B2 m) c t) (wuB (B2 m) c t) (ix2 a j) := by
  pointwise [k1_pay1, k1_pay2]

theorem accAt_eq (a : Fin 1024) (j : Fin 2048) : ∀ (n : ℕ) (hn : n < cfg1.N),
    accAt (B2 m) c n hn (ix2 a j) = ∑ e ∈ Finset.range (512 * (n % 11 + 1)), term m c (rw1 n hn a) j e := by
  intro n
  induction n with
  | zero =>
    intro hn
    refine (pay1_apply m c ⟨0, hn⟩ a j).trans ?_
    exact ((Finset.sum_range_one _).symm).trans (Sums.sum_blocks 512 (term m c _ j) 1)
  | succ n ih =>
    intro hn
    by_cases h : (n + 1) % 11 = 0
    · rw [accAt_first (B2 m) c ⟨n + 1, hn⟩ h]
      refine (pay1_apply m c ⟨n + 1, hn⟩ a j).trans ?_
      simp only [h]
      exact ((Finset.sum_range_one (fun k => ∑ e : Fin 512, term m c (rw1 (n + 1) hn a) j (512 * k + e.val))).symm).trans (Sums.sum_blocks 512 (term m c _ j) 1)
    · rw [accAt_next (B2 m) c ⟨n + 1, hn⟩ h]
      refine (pay2_apply m c ⟨n + 1, hn⟩ _ a j).trans ?_
      rw [pay1_apply]
      have e1 : (n + 1) % 11 = n % 11 + 1 := by omega
      have e2 : rw1 n (Nat.lt_of_succ_lt hn) a = rw1 (n + 1) hn a := Fin.ext (by show 1024 * (n / 11) + a.val = 1024 * ((n + 1) / 11) + a.val; omega)
      have e3 := ih (Nat.lt_of_succ_lt hn)
      rw [e2] at e3
      refine (congrArg (· + _) e3).trans ?_
      rw [← Sums.sum_blocks, ← Sums.sum_blocks]
      simp only [e1]
      rw [Finset.sum_range_succ _ (n % 11 + 1)]

/-! ## The pieces of a row block -/

abbrev at64 (n : ℕ) (hn : n < cfg1.N) (q : ℕ) (hq : q < 16) (a : Fin 64) : Fin 8192 := ⟨1024 * (n / 11) + (64 * q + a.val), by have := row_le n hn; omega⟩

theorem xB_row (r : Fin 8192) : rowOf (xB (B2 m) c) r = x1 m c r := by rw [show xB (B2 m) c = _ from B2_x1 m c]; rfl
theorem mB_row (r : Fin 8192) : rowOf (mB (B2 m) c) r = mo m c r := by rw [show mB (B2 m) c = _ from B2_mo m c]; rfl
theorem oB_row (r : Fin 8192) : rowOf (oB (B2 m) c) r = rowOf (aD m c) r := by rw [show oB (B2 m) c = _ from B2_arg m c main_arg9 (by decide)]

section
variable (n : ℕ) (hn : n < cfg1.N) (h : n % 11 = 10) (q : ℕ) (hq : q < 16) (a : Fin 64)

theorem arr_row (Y : S8192x2048.Idx → EReal) : r1 (rq (F := Ideal) (1024 * (n / 11)) (row_le n hn) Y q hq) a = rowOf Y (at64 n hn q hq a) := by
  funext k
  refine congrArg (fun r => Y (ix2 r k)) (Fin.ext ?_)
  show 1024 * (n / 11) + 64 * q + a.val = 1024 * (n / 11) + (64 * q + a.val); omega

include h
theorem acc_row : r64 (aq (accAt (B2 m) c n hn) q hq) a = dhf m c (at64 n hn q hq a) := by
  funext k
  refine (accAt_eq m c ⟨64 * q + a.val, by omega⟩ k n hn).trans ?_
  rw [h, dhf_eq]

theorem dx_at (j : Fin 2048) : dxP (F := Ideal) (aq (accAt (B2 m) c n hn) q hq) (gain3 (B2 m) c ⟨n, hn⟩) (rq (1024 * (n / 11)) (row_le n hn) (xB (B2 m) c) q hq) (rq (1024 * (n / 11)) (row_le n hn) (oB (B2 m) c) q hq) (ix2 a j)
    = dx m c (at64 n hn q hq a) j := by
  rw [dxP_apply, acc_row m c n hn h, arr_row n hn, arr_row n hn, gain3_blk, xB_row, oB_row]
  rfl

theorem dm_at (j : Fin 2048) : dmP (F := Ideal) (aq (accAt (B2 m) c n hn) q hq) (gain3 (B2 m) c ⟨n, hn⟩) (gain2 (B2 m) c ⟨n, hn⟩) (rq (1024 * (n / 11)) (row_le n hn) (xB (B2 m) c) q hq)
      (rq (1024 * (n / 11)) (row_le n hn) (oB (B2 m) c) q hq) (rq (1024 * (n / 11)) (row_le n hn) (mB (B2 m) c) q hq) (ix3 0 a j)
    = dm m c (at64 n hn q hq a) j := by
  rw [dmP_apply, acc_row m c n hn h, arr_row n hn, arr_row n hn, arr_row n hn, gain3_blk, gain2_blk, xB_row, oB_row, mB_row]
  rfl

end

/-- One row's part of a gain's gradient, zero past the last row. -/
def upTo (P : Fin 8192 → EReal) (r : ℕ) : EReal := if h : r < 8192 then P ⟨r, h⟩ else 0

theorem upTo_sum (P : Fin 8192 → EReal) : ∑ r ∈ Finset.range 8192, upTo P r = ∑ r : Fin 8192, P r := by
  rw [← Fin.sum_univ_eq_sum_range]
  exact Finset.sum_congr rfl fun r _ => by unfold upTo; rw [dif_pos r.isLt]

theorem s3_at (t : Fin cfg1.N) (h : t.val % 11 = 10) (q : ℕ) (hq : q < 16) (j : Fin 2048) :
    piece3 (B2 m) c t q hq (ix2 0 j) = ∑ a : Fin 64, upTo (part3 m c j) (1024 * (t.val / 11) + (64 * q + a.val)) := by
  obtain ⟨n, hn⟩ := t
  unfold piece3 s3Q
  rw [s3P_apply]
  refine Finset.sum_congr rfl fun a _ => ?_
  have := row_le n hn
  unfold upTo part3
  rw [dif_pos (by dsimp only; omega), acc_row m c n hn h, arr_row n hn, xB_row]

theorem s2_at (t : Fin cfg1.N) (h : t.val % 11 = 10) (q : ℕ) (hq : q < 16) (j : Fin 2048) :
    piece2 (B2 m) c t q hq (ix2 0 j) = ∑ a : Fin 64, upTo (part2 m c j) (1024 * (t.val / 11) + (64 * q + a.val)) := by
  obtain ⟨n, hn⟩ := t
  unfold piece2 s2Q
  rw [s2P_apply]
  refine Finset.sum_congr rfl fun a _ => ?_
  have := row_le n hn
  unfold upTo part2
  rw [dif_pos (by dsimp only; omega), acc_row m c n hn h, arr_row n hn, arr_row n hn, arr_row n hn, gain3_blk, xB_row, oB_row, mB_row]
  rfl

/-! ## The sums and the rows over all points -/

theorem sumAt_eq (P : Fin cfg1.N → (k : ℕ) → k < 16 → Vec Ideal S1x2048 .f32) (z : Vec Ideal S1x2048 .f32) (j : Fin 2048) (Q : ℕ → EReal)
    (hP : ∀ t : Fin cfg1.N, t.val % 11 = 10 → ∀ k hk, P t k hk (ix2 0 j) = ∑ a : Fin 64, Q (1024 * (t.val / 11) + (64 * k + a.val))) :
    ∀ (n : ℕ) (hn : n < cfg1.N), 10 ≤ n → sumAt P z n hn (ix2 0 j) = ∑ r ∈ Finset.range (1024 * ((n + 1) / 11)), Q r := by
  intro n
  induction n with
  | zero => intro hn h; exact absurd h (by omega)
  | succ n ih =>
    intro hn h
    by_cases h3 : (n + 1) % 11 = 10
    · refine (congrFun (if_pos h3) (ix2 0 j)).trans ?_
      rw [show 1024 * ((n + 1 + 1) / 11) = 1024 * ((n + 1) / 11) + 1024 by omega, Finset.sum_range_add]
      refine (Sums.pieces_eq Q (1024 * ((n + 1) / 11)) (if n + 1 < 11 then 0 else sumAt P z n (Nat.lt_of_succ_lt hn) (ix2 0 j))
        (fun q hq => gainA (P ⟨n + 1, hn⟩) (gainS (P ⟨n + 1, hn⟩) (grid1.coords ⟨n + 1, hn⟩) (sumAt P z n (Nat.lt_of_succ_lt hn))) q hq (ix2 0 j)) ?_ (fun q hq => ?_) 15 (by decide)).trans ?_
      · refine (show _ = gainS (P ⟨n + 1, hn⟩) (grid1.coords ⟨n + 1, hn⟩) (sumAt P z n (Nat.lt_of_succ_lt hn)) (ix2 0 j) from rfl).trans ?_
        unfold gainS
        by_cases h4 : n + 1 < 11
        · rw [if_pos ((first_iff ⟨n + 1, hn⟩).1.mpr h4), if_pos h4, zero_add]
          exact hP ⟨n + 1, hn⟩ h3 0 (by decide)
        · rw [if_neg (fun hh => h4 ((first_iff ⟨n + 1, hn⟩).1.mp hh)), if_neg h4]
          exact congrArg (_ + ·) (hP ⟨n + 1, hn⟩ h3 0 (by decide))
      · exact congrArg (_ + ·) (hP ⟨n + 1, hn⟩ h3 (q + 1) hq)
      · refine congrArg (· + _) ?_
        by_cases h4 : n + 1 < 11
        · rw [if_pos h4, show 1024 * ((n + 1) / 11) = 0 by omega, Finset.sum_range_zero]
        · rw [if_neg h4, ih _ (by omega)]
    · refine (congrFun (if_neg h3) (ix2 0 j)).trans ?_
      rw [ih _ (by omega)]
      congr 2; omega

theorem rowsTo_eq {e : EltTy} (T : Fin cfg1.N → Fin 1024 → Fin 2048 → Elt Ideal e) (Z : S8192x2048.Idx → Elt Ideal e) (G : Fin 8192 → Fin 2048 → Elt Ideal e)
    (hT : ∀ t : Fin cfg1.N, t.val % 11 = 10 → ∀ a j, T t a j = G (rw1 t.val t.isLt a) j) (r : Fin 8192) (j : Fin 2048) :
    ∀ (n : ℕ) (hn : n ≤ cfg1.N), r.val < 1024 * (n / 11) → rowsTo T Z n hn (ix2 r j) = G r j := by
  intro n
  induction n with
  | zero => intro hn h; exact absurd h (by omega)
  | succ n ih =>
    intro hn h
    by_cases h3 : n % 11 = 10
    · refine (congrFun (if_pos h3) (ix2 r j)).trans ?_
      unfold Dma.putRows
      by_cases hr : 1024 * (n / 11) ≤ r.val ∧ r.val < 1024 * (n / 11) + 1024
      · refine (dif_pos hr).trans ((hT ⟨n, hn⟩ h3 _ _).trans (congrArg (G · j) (Fin.ext ?_)))
        show 1024 * (n / 11) + (r.val - 1024 * (n / 11)) = r.val; omega
      · exact (dif_neg hr).trans (ih (Nat.le_of_succ_le hn) (by omega))
    · exact (congrFun (if_neg h3) (ix2 r j)).trans (ih (Nat.le_of_succ_le hn) (by omega))

theorem dxR_at (t : Fin cfg1.N) (h : t.val % 11 = 10) (a : Fin 1024) (j : Fin 2048) : dxR (B2 m) c t a j = dx m c (rw1 t.val t.isLt a) j := by
  obtain ⟨n, hn⟩ := t
  unfold dxR dxT
  refine (dx_at m c n hn h (a.val / 64) (by omega) ⟨a.val % 64, by omega⟩ j).trans (congrArg (dx m c · j) (Fin.ext ?_))
  show 1024 * (n / 11) + (64 * (a.val / 64) + a.val % 64) = 1024 * (n / 11) + a.val; omega
theorem dmR_at (t : Fin cfg1.N) (h : t.val % 11 = 10) (a : Fin 1024) (j : Fin 2048) : dmR (B2 m) c t a j = dm m c (rw1 t.val t.isLt a) j := by
  obtain ⟨n, hn⟩ := t
  unfold dmR dmT
  refine (dm_at m c n hn h (a.val / 64) (by omega) ⟨a.val % 64, by omega⟩ j).trans (congrArg (dm m c · j) (Fin.ext ?_))
  show 1024 * (n / 11) + (64 * (a.val / 64) + a.val % 64) = 1024 * (n / 11) + a.val; omega

theorem all_rows (r : Fin 8192) : r.val < 1024 * (cfg1.N / 11) := by rw [show cfg1.N = 88 from N_1]; exact r.isLt

/-! ## What the program leaves -/

theorem B3_dx : B3 m c main_v7_0 = ofRows (dx m c) := by
  rw [W3_d]
  funext y
  rw [eq_ix2 y]
  exact rowsTo_eq (dxR (B2 m) c) _ (dx m c) (dxR_at m c) (y 0) (y 1) cfg1.N le_rfl (all_rows _)
theorem B3_dm : B3 m c main_v7_1 = ofRows (dm m c) := by
  rw [W3_e]
  funext y
  rw [eq_ix2 y]
  exact rowsTo_eq (e := .bf16) (dmR (B2 m) c) _ (dm m c) (dmR_at m c) (y 0) (y 1) cfg1.N le_rfl (all_rows _)

theorem flush6 : ∀ t : Fin cfg1.N, (cfg1.win 6).flush t = true → t.val = 87 := by decide +kernel
theorem flush7 : ∀ t : Fin cfg1.N, (cfg1.win 7).flush t = true → t.val = 87 := by decide +kernel

theorem B3_s3 : B3 m c main_v7_2 = ofCols fun j => ∑ r : Fin 8192, part3 m c j r := by
  refine (W3_arr m c 6).trans ((dat1 (B2 m) c).arrAt_eq_of_covers 6 (ofCols fun j => ∑ r : Fin 8192, part3 m c j r) (by decide +kernel) fun t hf y => ?_)
  obtain ⟨a, j, rfl⟩ : ∃ (a : Fin 1) (j : Fin 2048), y = ix2 a j := ⟨y 0, y 1, eq_ix2 y⟩
  obtain rfl : a = 0 := Subsingleton.elim _ _
  obtain ⟨n, hn⟩ := t
  obtain rfl : n = 87 := flush6 _ hf
  show (dat1 (B2 m) c).after 6 ⟨87, hn⟩ (ix2 0 j) = ∑ r : Fin 8192, part3 m c ((win1_6.rect ⟨87, hn⟩).emb (ix2 0 j) 1) r
  rw [after1_6]
  refine (sumAt_eq (piece3 (B2 m) c) _ j _ (fun t h k hk => s3_at m c t h k hk j) 87 hn (by decide)).trans ((upTo_sum _).trans (congrArg (fun j => ∑ r : Fin 8192, part3 m c j r) (Fin.ext ?_)))
  exact ((Pipeline.Window.rect_emb_val_off win1_6 ⟨87, hn⟩ (ix2 0 j) 1).trans (Nat.zero_add _)).symm
theorem B3_s2 : B3 m c main_v7_3 = ofCols fun j => ∑ r : Fin 8192, part2 m c j r := by
  refine (W3_arr m c 7).trans ((dat1 (B2 m) c).arrAt_eq_of_covers 7 (ofCols fun j => ∑ r : Fin 8192, part2 m c j r) (by decide +kernel) fun t hf y => ?_)
  obtain ⟨a, j, rfl⟩ : ∃ (a : Fin 1) (j : Fin 2048), y = ix2 a j := ⟨y 0, y 1, eq_ix2 y⟩
  obtain rfl : a = 0 := Subsingleton.elim _ _
  obtain ⟨n, hn⟩ := t
  obtain rfl : n = 87 := flush7 _ hf
  show (dat1 (B2 m) c).after 7 ⟨87, hn⟩ (ix2 0 j) = ∑ r : Fin 8192, part2 m c ((win1_7.rect ⟨87, hn⟩).emb (ix2 0 j) 1) r
  rw [after1_7]
  refine (sumAt_eq (piece2 (B2 m) c) _ j _ (fun t h k hk => s2_at m c t h k hk j) 87 hn (by decide)).trans ((upTo_sum _).trans (congrArg (fun j => ∑ r : Fin 8192, part2 m c j r) (Fin.ext ?_)))
  exact ((Pipeline.Window.rect_emb_val_off win1_7 ⟨87, hn⟩ (ix2 0 j) 1).trans (Nat.zero_add _)).symm

theorem B3_mo : B3 m c main_v6_0 = ofRows (mo m c) := (W3_ne m c main_v6_0 (by decide) (by decide) (by decide)).trans (B2_mo m c)
theorem B3_x1 : B3 m c main_v6_1 = ofRows (x1 m c) := (W3_ne m c main_v6_1 (by decide) (by decide) (by decide)).trans (B2_x1 m c)
theorem B3_hf : B3 m c main_v6_2 = ofRows (hf m c) := (W3_ne m c main_v6_2 (by decide) (by decide) (by decide)).trans (B2_hf m c)

end Cert.Dhf
-- ==== Proof.Dhf.Claim.lean ====
module

public import proofs.«01_k».proof.Defs
public import proofs.«01_k».proof.Proof.Dhf.Frame
public import proofs.«01_k».proof.Proof.Dhf.Value
public import proofs.«01_k».proof.Proof.Gen.Reference5Ideal.Run
public import proofs.«01_k».proof.Proof.Gen.Reference5Ideal.Read

@[expose] public section

set_option maxRecDepth 16384

noncomputable section

/-! # The gradients behind the feed-forward: the two calls and `jax.vjp` of the forward lines end with the same seven arrays -/

namespace Cert.DhfClaim

open Idealize.ShloMosaic Idealize.ShloMosaic.TcCoe Idealize.SL.Sem

section Reference
open Cert.Reference5Ideal Cert.Reference5Ideal.Gen Cert.Reference5Ideal.Read

variable (x0 : S8192x2048.Idx → EReal) (x1 : S2048x2048.Idx → EReal) (x2 : S8192x2048.Idx → EReal) (x3 x4 : S1x2048.Idx → EReal) (x5 x6 : S2048x5632.Idx → EReal)
  (x7 x8 : S8192x5632.Idx → EReal) (x9 : S8192x2048.Idx → EReal)

/-- Rows of an array and of a gain; of the product, of the residual sum, of the gradient behind the second norm and of the residual's gradient. -/
abbrev row (x : S8192x2048.Idx → EReal) (r : Fin 8192) : Fin 2048 → EReal := fun k => x (ix2 r k)
abbrev gn (g : S1x2048.Idx → EReal) : Fin 2048 → EReal := fun k => g (ix2 0 k)
abbrev fr (r : Fin 8192) : Fin 2048 → EReal := fun j => ∑ k : Fin 2048, x0 (ix2 r k) * x1 (ix2 k j)
abbrev xr (r : Fin 8192) : Fin 2048 → EReal := Cert.Dhf.sumRow (fr x0 x1 r) (row x2 r) (gn x3)
abbrev ar (r : Fin 8192) : Fin 2048 → EReal := fun j => ∑ e : Fin 5632, (x7 (ix2 r e) * x5 (ix2 j e) + x8 (ix2 r e) * x6 (ix2 j e))
abbrev dr (r : Fin 8192) : Fin 2048 → EReal := Cert.Dhf.dxRow (ar x5 x6 x7 x8 r) (xr x0 x1 x2 x3 r) (gn x4) (row x9 r)

theorem ref_mo (r : Fin 8192) (j : Fin 2048) : val_main_v0 (F := Ideal) x0 x1 (ix2 r j) = fr x0 x1 r j := by
  pointwise [val_main_v0]
theorem ref_ms (r : Fin 8192) : val_main_v7 (F := Ideal) x0 x1 (ix2 r 0) = Norm.ms (fr x0 x1 r) := by
  pointwise [val_main_v7, val_main_v6, val_main_cst_1, val_main_v5, val_main_v4, val_main_cst_0, val_main_v3, val_main_v2, val_main_cst, val_main_v1]
  simp only [ref_mo]
  rfl
theorem ref_rstd (r : Fin 8192) : val_main_v8 (F := Ideal) x0 x1 (ix2 r 0) = Norm.rstd (fr x0 x1 r) := by
  pointwise [val_main_v8]
  rw [ref_ms]; rfl
theorem ref_n (r : Fin 8192) (j : Fin 2048) : val_main_v13 (F := Ideal) x0 x1 (ix2 r j) = fr x0 x1 r j * Norm.rstd (fr x0 x1 r) := by
  pointwise [val_main_v13, val_main_v12]
  rw [ref_mo, ref_rstd]
theorem ref_x1 (r : Fin 8192) (j : Fin 2048) : val_main_v16 (F := Ideal) x0 x1 x2 x3 (ix2 r j) = xr x0 x1 x2 x3 r j := by
  pointwise [val_main_v16, val_main_v15, val_main_v14]
  rw [ref_n]; rfl
theorem ref_ms' (r : Fin 8192) : val_main_v23 (F := Ideal) x0 x1 x2 x3 (ix2 r 0) = Norm.ms (xr x0 x1 x2 x3 r) := by
  pointwise [val_main_v23, val_main_v22, val_main_cst_5, val_main_v21, val_main_v20, val_main_cst_4, val_main_v19, val_main_v18, val_main_cst_3, val_main_v17]
  simp only [ref_x1]
  rfl
theorem ref_rstd' (r : Fin 8192) : val_main_v24 (F := Ideal) x0 x1 x2 x3 (ix2 r 0) = Norm.rstd (xr x0 x1 x2 x3 r) := by
  pointwise [val_main_v24]
  rw [ref_ms']; rfl
theorem ref_n' (r : Fin 8192) (j : Fin 2048) : val_main_v29 (F := Ideal) x0 x1 x2 x3 (ix2 r j) = xr x0 x1 x2 x3 r j * Norm.rstd (xr x0 x1 x2 x3 r) := by
  pointwise [val_main_v29, val_main_v28]
  rw [ref_x1, ref_rstd']

/-! ## The gradients -/

theorem ref_dhf (r : Fin 8192) (j : Fin 2048) : val_main_v36 (F := Ideal) x5 x6 x7 x8 (ix2 r j) = ar x5 x6 x7 x8 r j := by
  pointwise [val_main_v36, val_main_v35, val_main_v34]
  rw [add_comm, ← Finset.sum_add_distrib]
theorem ref_s3 (j : Fin 2048) : val_main_v39 (F := Ideal) x0 x1 x2 x3 x5 x6 x7 x8 (ix2 0 j)
    = ∑ r : Fin 8192, ar x5 x6 x7 x8 r j * (xr x0 x1 x2 x3 r j * Norm.rstd (xr x0 x1 x2 x3 r)) := by
  pointwise [val_main_v39, val_main_v38, val_main_cst_7, val_main_v37]
  exact Finset.sum_congr rfl fun r _ => by rw [ref_n', ref_dhf, mul_comm]
theorem ref_dn (r : Fin 8192) (j : Fin 2048) : val_main_v41 (F := Ideal) x4 x5 x6 x7 x8 (ix2 r j) = ar x5 x6 x7 x8 r j * x4 (ix2 0 j) := by
  pointwise [val_main_v41, val_main_v40]
  rw [ref_dhf]
theorem ref_chain (r : Fin 8192) (j : Fin 2048) : val_main_v52 (F := Ideal) x0 x1 x2 x3 x4 x5 x6 x7 x8 (ix2 r j) = Norm.chain (xr x0 x1 x2 x3 r) (fun k => ar x5 x6 x7 x8 r k * x4 (ix2 0 k)) := by
  pointwise [val_main_v52, val_main_v51, val_main_cst_10, val_main_v50, val_main_v49, val_main_cst_9, val_main_v48, val_main_v44, val_main_v43, val_main_cst_8, val_main_v42,
    val_main_v27, val_main_v26, val_main_cst_6, val_main_v25]
  refine (Fin.sum_univ_one _).trans ?_
  rw [ref_rstd', ref_ms']
  simp only [ref_x1, ref_dn]
  rfl
theorem ref_dx (r : Fin 8192) (j : Fin 2048) : val_main_v56 (F := Ideal) x0 x1 x2 x3 x4 x5 x6 x7 x8 x9 (ix2 r j) = dr x0 x1 x2 x3 x4 x5 x6 x7 x8 x9 r j := by
  unfold dr Cert.Dhf.dxRow
  rw [← Norm.grad_eq, ← add_assoc, ← add_assoc]
  pointwise [val_main_v56, val_main_v55, val_main_v54, val_main_v53, val_main_v47, val_main_v46, val_main_v45]
  rw [ref_rstd', ref_x1, ref_chain, ref_dn]
theorem ref_s2 (j : Fin 2048) : val_main_v60 (F := Ideal) x0 x1 x2 x3 x4 x5 x6 x7 x8 x9 (ix2 0 j)
    = ∑ r : Fin 8192, dr x0 x1 x2 x3 x4 x5 x6 x7 x8 x9 r j * (fr x0 x1 r j * Norm.rstd (fr x0 x1 r)) := by
  pointwise [val_main_v60, val_main_v59, val_main_cst_11, val_main_v58, val_main_v57]
  exact Finset.sum_congr rfl fun r _ => by rw [ref_n, ref_dx, mul_comm]
theorem ref_dn' (r : Fin 8192) (j : Fin 2048) : val_main_v62 (F := Ideal) x0 x1 x2 x3 x4 x5 x6 x7 x8 x9 (ix2 r j) = dr x0 x1 x2 x3 x4 x5 x6 x7 x8 x9 r j * x3 (ix2 0 j) := by
  pointwise [val_main_v62, val_main_v61, val_main_v57]
  rw [ref_dx]
theorem ref_chain' (r : Fin 8192) (j : Fin 2048) : val_main_v72 (F := Ideal) x0 x1 x2 x3 x4 x5 x6 x7 x8 x9 (ix2 r j)
    = Norm.chain (fr x0 x1 r) (fun k => dr x0 x1 x2 x3 x4 x5 x6 x7 x8 x9 r k * x3 (ix2 0 k)) := by
  pointwise [val_main_v72, val_main_v71, val_main_cst_14, val_main_v70, val_main_v69, val_main_cst_13, val_main_v68, val_main_v65, val_main_v64, val_main_cst_12, val_main_v63,
    val_main_v11, val_main_v10, val_main_cst_2, val_main_v9]
  refine (Fin.sum_univ_one _).trans ?_
  rw [ref_rstd, ref_ms]
  simp only [ref_mo, ref_dn']
  rfl
theorem ref_dmo (r : Fin 8192) (j : Fin 2048) : val_main_v90 (F := Ideal) x0 x1 x2 x3 x4 x5 x6 x7 x8 x9 (ix2 r j)
    = Norm.grad (fr x0 x1 r) (fun k => dr x0 x1 x2 x3 x4 x5 x6 x7 x8 x9 r k * x3 (ix2 0 k)) j := by
  rw [← Norm.grad_eq, ← add_assoc]
  pointwise [val_main_v90, val_main_v76, val_main_v75, val_main_v74, val_main_v73, val_main_v67, val_main_v66]
  rw [ref_rstd, ref_mo, ref_chain', ref_dn']

/-! ## The forward results -/

theorem ref_x1' (r : Fin 8192) (j : Fin 2048) : val_main_v89 (F := Ideal) x0 x1 x2 x3 (ix2 r j) = xr x0 x1 x2 x3 r j := by
  pointwise [val_main_v89, val_main_v88, val_main_v87, val_main_v86, val_main_v85, val_main_v84, val_main_v83, val_main_cst_17, val_main_v82, val_main_v81, val_main_cst_16, val_main_v80, val_main_v79, val_main_v78, val_main_cst_15, val_main_v77]
  simp only [ref_mo]
  rfl
theorem ref_hf (r : Fin 8192) (j : Fin 2048) : val_main_v103 (F := Ideal) x0 x1 x2 x3 x4 (ix2 r j) = Cert.Dhf.normRow (xr x0 x1 x2 x3 r) (gn x4) j := by
  pointwise [val_main_v103, val_main_v102, val_main_v101, val_main_v100, val_main_v99, val_main_v98, val_main_v97, val_main_cst_20, val_main_v96, val_main_v95, val_main_cst_19, val_main_v94, val_main_v93, val_main_v92, val_main_cst_18, val_main_v91]
  simp only [ref_x1']
  rfl

end Reference

open Cert.Kernel5Ideal Cert.Kernel5Ideal.Gen Cert.Dhf in
theorem claim : Cert.algebraic_Kernel5Ideal_Reference5Ideal (hKernel5Ideal := Cert.Kernel5Ideal.Gen.facts) (hReference5Ideal := Cert.Reference5Ideal.Gen.facts) := by
  intro m g m' g' _ hargs
  refine ⟨fun c => ofRows (dx m c), fun c => ofRows (dm m c), fun c => ofCols fun j => ∑ r : Fin 8192, part3 m c j r, fun c => ofCols fun j => ∑ r : Fin 8192, part2 m c j r,
    fun c => ofRows (mo m c), fun c => ofRows (x1 m c), fun c => ofRows (hf m c), ?_, ?_⟩
  · refine (θ_run Cert.Kernel5Ideal.defs _ _).mono (fun r h c => ?_) (run (F := Ideal) m g)
    have e : ∀ a : Ref sig .tc, ¬ (Proc.tc.devRef a).isScoped = true → r.2.mem ((c.tc : Thread nD τ).loc a) = B3 m c a := fun a ha => h.1 c _ (mem_uc a ha)
    exact ⟨(e main_v7_0 (by decide)).trans (B3_dx m c), (e main_v7_1 (by decide)).trans (B3_dm m c), (e main_v7_2 (by decide)).trans (B3_s3 m c), (e main_v7_3 (by decide)).trans (B3_s2 m c),
      (e main_v6_0 (by decide)).trans (B3_mo m c), (e main_v6_1 (by decide)).trans (B3_x1 m c), (e main_v6_2 (by decide)).trans (B3_hf m c), kept m r h.1 c⟩
  · refine (θ_run Cert.Reference5Ideal.defs _ _).mono (fun r h c => ?_) (Cert.Reference5Ideal.Value.run (F := Ideal) m' g')
    obtain ⟨h0, h1, h2, h3, h4, h5, h6, hrest⟩ := h c
    obtain ⟨a0, a1, a2, a3, a4, a5, a6, a7, a8, a9⟩ := hargs c
    rw [Cert.Reference5Ideal.Read.val_main_v56_eq, a0, a1, a2, a3, a4, a5, a6, a7, a8, a9] at h0
    rw [Cert.Reference5Ideal.Read.val_main_v90_eq, a0, a1, a2, a3, a4, a5, a6, a7, a8, a9] at h1
    rw [Cert.Reference5Ideal.Read.val_main_v39_eq, a0, a1, a2, a3, a5, a6, a7, a8] at h2
    rw [Cert.Reference5Ideal.Read.val_main_v60_eq, a0, a1, a2, a3, a4, a5, a6, a7, a8, a9] at h3
    rw [Cert.Reference5Ideal.Read.val_main_v0_eq, a0, a1] at h4
    rw [Cert.Reference5Ideal.Read.val_main_v89_eq, a0, a1, a2, a3] at h5
    rw [Cert.Reference5Ideal.Read.val_main_v103_eq, a0, a1, a2, a3, a4] at h6
    have rows : ∀ {A : S8192x2048.Idx → EReal} {T : Fin 8192 → Fin 2048 → EReal}, (∀ r j, A (ix2 r j) = T r j) → A = ofRows T := fun e => funext fun y => by rw [eq_ix2 y]; exact e _ _
    have cols : ∀ {A : S1x2048.Idx → EReal} {T : Fin 2048 → EReal}, (∀ j, A (ix2 0 j) = T j) → A = ofCols T := fun e => funext fun y => by
      obtain ⟨a, j, rfl⟩ : ∃ (a : Fin 1) (j : Fin 2048), y = ix2 a j := ⟨y 0, y 1, eq_ix2 y⟩
      obtain rfl : a = 0 := Subsingleton.elim _ _
      exact e j
    exact ⟨h0.trans (rows (ref_dx _ _ _ _ _ _ _ _ _ _)), h1.trans (rows (ref_dmo _ _ _ _ _ _ _ _ _ _)), h2.trans (cols (ref_s3 _ _ _ _ _ _ _ _)), h3.trans (cols (ref_s2 _ _ _ _ _ _ _ _ _ _)),
      h4.trans (rows (ref_mo _ _)), h5.trans (rows (ref_x1' _ _ _ _)), h6.trans (rows (ref_hf _ _ _ _ _)), hrest⟩

end Cert.DhfClaim
-- ==== Proof.MixersForward.Spec.lean ====
module
public import proofs.«01_k».proof.Proof.Mixers.Reals
@[expose] public section
/-! What the mixers leave, entry by entry. `P` is the projection, whose last quarter is the real `Q`; `W` the convolution's
    weights, `M` the pooling matrices, `S` the pooling scale. Rows before the first count as zero. -/
noncomputable section
namespace Cert.MixersForward
open Idealize.ShloMosaic
open Cert.Mixers (pooled win)

variable (P : ℕ → ℕ → EReal) (Q : ℕ → ℕ → ℝ) (W : ℕ → ℕ → EReal) (M : ℕ → ℕ → ℕ → EReal) (S : ℕ → EReal)

/-- The gate times the value, sixteen rows late. -/
def cu (s c : ℕ) : EReal := if s < 16 then 0 else P (s - 16) (1024 + c) * P (s - 16) (2048 + c)
/-- The gated convolution. -/
def conv (t c : ℕ) : EReal := P t c * (W 0 c * cu P (t + 14) c + W 1 c * cu P (t + 15) c + W 2 c * cu P (t + 16) c)
/-- The reciprocal root of the mean square, the width as a number. -/
def rstd {n : ℕ} (w : BitVec 32) (x : Fin n → EReal) : EReal :=
  Ideal.rsqrt (Ideal.div (∑ k, x k * x k) (Ideal.ofBits .f32 w) + Ideal.ofBits .f32 897988541#32)
/-- A column of the normalised convolution heads, 128 columns each. -/
def convHead (t c : ℕ) : EReal := conv P W t c * rstd 1124073472#32 fun k : Fin 128 => conv P W t (128 * (c / 128) + k)
/-- The pooled heads times their matrices. -/
def zz (t g j : ℕ) : EReal := ∑ i : Fin 256, ((pooled Q t g i : ℝ) : EReal) * M g i j
/-- A column of the normalised and scaled pooled heads, 256 columns each. -/
def poolHead (t c : ℕ) : EReal := zz Q M t (c / 256) (c % 256) * rstd 1132462080#32 (fun k : Fin 256 => zz Q M t (c / 256) k) * S c
def mixed (t c : ℕ) : EReal := if c < 1024 then convHead P W t c else poolHead Q M S t (c - 1024)

theorem convHead_off (t o : ℕ) (ho : o % 128 = 0) (b : Fin 128) :
    convHead P W t (o + b) = conv P W t (o + b) * rstd 1124073472#32 fun k : Fin 128 => conv P W t (o + k) := by
  rw [convHead, show 128 * ((o + b.val) / 128) = o by omega]
theorem poolHead_off (t g : ℕ) (b : Fin 256) :
    poolHead Q M S t (256 * g + b) = zz Q M t g b * rstd 1132462080#32 (fun k : Fin 256 => zz Q M t g k) * S (256 * g + b) := by
  rw [poolHead, show (256 * g + b.val) / 256 = g by omega, show (256 * g + b.val) % 256 = b by omega]

end Cert.MixersForward
-- ==== Proof.MixersForward.Tile.lean ====
module
public import proofs.«01_k».proof.Proof.MixersForward.Spec
public import proofs.«01_k».proof.Proof.Mixers.Rows
public import proofs.«01_k».proof.Proof.Gen.Kernel6Ideal.Frame
@[expose] public section
set_option maxRecDepth 16384
/-! The words one step of the mixers leaves, from the words it loads. -/
noncomputable section
namespace Cert.MixersForward
open Idealize.ShloMosaic Idealize.ShloMosaic.TcCoe
open Cert.Kernel6Ideal Cert.Kernel6Ideal.Gen
open Cert.Mixers (pooled win vS canon2 piece2)

variable {P : ℕ → ℕ → EReal} {Q : ℕ → ℕ → ℝ} {W : ℕ → ℕ → EReal} {M : ℕ → ℕ → ℕ → EReal} {S : ℕ → EReal} {n : ℕ}

/-- A head of 128 columns over its root mean square, as a step stores it. -/
def head (o : ℕ) (hs : S512x1024.Slices ![0, o] S512x128) (v : FVec Ideal S512x1024 .f32) : FVec Ideal S512x128 .bf16 :=
  let x : FVec Ideal S512x128 .f32 := extractStridedSlice S512x128 ![0, o] v hs
  let q : FVec Ideal S512 .f32 := multiReduction .add [1] S512 (mulf x x) 0x00000000#32 reduces_S512x128_S512 (.inl rfl) rfl
  let r : FVec Ideal S512x1 .f32 := rsqrt (addf (divf (shapeCast S512x1 q shapeCasts_S512_S512x1)
    (broadcast S512x1 (Scalar.ofBits (F := Ideal) .f32 0x43000000#32))) (broadcast S512x1 (Scalar.ofBits (F := Ideal) .f32 0x358637BD#32)))
  truncf .bf16 (mulf x (broadcastTo S512x128 r broadcasts_S512x1_S512x128)) bitsLt_bf16_f32

theorem head_word (o : ℕ) (ho : o % 128 = 0) (hs) {v : FVec Ideal S512x1024 .f32} (hv : ∀ a b, v (ix2 a b) = conv P W (512 * n + a) b) (a : Fin 512) (b : Fin 128) :
    head o hs v (ix2 a b) = convHead P W (512 * n + (0 + a)) (o + b) := by
  rw [convHead_off P W _ _ ho, zero_add]
  pointwise [head]
  simp only [hv]
  rfl

/-- The four parts of a pooling matrix, one over another. -/
theorem matE (g i j : ℕ) : (if i < 64 then M g (0 + i) j else if i - 64 < 64 then M g (64 + (i - 64)) j
      else if i - 64 - 64 < 64 then M g (128 + (i - 64 - 64)) j else M g (192 + (i - 64 - 64 - 64)) j) = M g i j := by
  split_ifs with a b c
  · rw [zero_add]
  · rw [show 64 + (i - 64) = i by omega]
  · rw [show 128 + (i - 64 - 64) = i by omega]
  · rw [show 192 + (i - 64 - 64 - 64) = i by omega]

theorem pool_word (g : ℕ) {q : FVec Ideal S512x256 .f32} {m0 m1 m2 m3 : Vec Ideal S1x1x64x256 .f32} {s : Vec Ideal S1x256 .f32}
    (hq : ∀ a b, q (ix2 a b) = ((pooled Q (512 * n + a) g b : ℝ) : EReal))
    (h0 : ∀ a b, m0 (ix4 0 0 a b) = M g (0 + a) b) (h1 : ∀ a b, m1 (ix4 0 0 a b) = M g (64 + a) b)
    (h2 : ∀ a b, m2 (ix4 0 0 a b) = M g (128 + a) b) (h3 : ∀ a b, m3 (ix4 0 0 a b) = M g (192 + a) b)
    (hs : ∀ b, s (ix2 0 b) = S (256 * g + b)) (a : Fin 512) (b : Fin 256) :
    k0_pay1 (F := Ideal) q m0 m1 m2 m3 s (ix2 a b) = poolHead Q M S (512 * n + (0 + a)) (256 * g + b) := by
  rw [poolHead_off, zero_add]
  pointwise [k0_pay1]
  simp only [h0, h1, h2, h3, dite_eq_ite, matE, hq, hs]
  rfl

theorem conv_word {v27 v29 v33 v38 : Vec Ideal S512x1024 .f32} {w0 w1 w2 : Vec Ideal S1x1024 .f32}
    (hb : ∀ a b, v27 (ix2 a b) = P (512 * n + a) b)
    (h0 : ∀ a b, w0 (ix2 a b) = W (0 + a) (0 + b)) (h1 : ∀ a b, w1 (ix2 a b) = W (1 + a) (0 + b)) (h2 : ∀ a b, w2 (ix2 a b) = W (2 + a) (0 + b))
    (h29 : ∀ a b, v29 (ix2 a b) = cu P (512 * n + (14 + a)) (0 + b)) (h33 : ∀ a b, v33 (ix2 a b) = cu P (512 * n + (15 + a)) (0 + b))
    (h38 : ∀ a b, v38 (ix2 a b) = cu P (512 * n + (16 + a)) (0 + b)) (a : Fin 512) (b : Fin 1024) :
    k0_pay7 (F := Ideal) v27 w0 v29 w1 v33 w2 v38 (ix2 a b) = conv P W (512 * n + a) b := by
  pointwise [k0_pay7]
  simp only [hb, h0, h1, h2, h29, h33, h38, zero_add, Fin.val_zero, add_zero, conv, show 512 * n + (14 + a.val) = 512 * n + a + 14 by omega,
    show 512 * n + (15 + a.val) = 512 * n + a + 15 by omega, show 512 * n + (16 + a.val) = 512 * n + a + 16 by omega]

theorem keepPrev {i : grid0.Coords} (hi : (i 0).val = n) : k0_pay2 (F := Ideal) i = if n = 0 then 0 else 1 := Cert.Mixers.keepPrev (i := i) hi

theorem cu_canon {i : grid0.Coords} (hi : (i 0).val = n) {v14 v15 : Vec Ideal S512x1024 .f32} {v6 v7 : Vec Ideal S16x1024 .f32}
    (h6 : ∀ a b, v6 (ix2 a b) = P (512 * n - 16 + a) (1024 + b)) (h7 : ∀ a b, v7 (ix2 a b) = P (512 * n - 16 + a) (2048 + b))
    (h14 : ∀ a b, v14 (ix2 a b) = P (512 * n + a) (1024 + b)) (h15 : ∀ a b, v15 (ix2 a b) = P (512 * n + a) (2048 + b)) (y : S528x1024.Idx) :
    View.canon ([⟨Rect.unit ![16, 0] S512x1024.size inb_S528x1024_S512x1024_16_0, k0_pay4 (F := Ideal) v14 v15⟩,
      ⟨Rect.unit ![0, 0] S16x1024.size inb_S528x1024_S16x1024_0_0, k0_pay3 (F := Ideal) i v6 v7⟩] : List (View.Piece (Elt Ideal) S528x1024 .f32)) y
      = cu P (512 * n + (y 0).val) (y 1).val := by
  refine canon2 (n := 528) (m := 1024) (e := .f32) (g := fun r => cu P (512 * n + r)) ?_
    (fun y => View.cover_of_tiledBy _ ![16, 1024] (by sl_kernel_rfl) y) y
  refine ⟨?_, ?_, trivial⟩
  · refine piece2 (by decide) _ (fun r => cu P (512 * n + r)) fun a b => ?_
    pointwise [k0_pay4]
    rw [h14, h15, cu, if_neg (by omega), show 512 * n + (16 + a.val) - 16 = 512 * n + a by omega]
  · refine piece2 (by decide) _ (fun r => cu P (512 * n + r)) fun a b => ?_
    pointwise [k0_pay3]
    rw [h6, h7, keepPrev hi, cu]
    by_cases h : n = 0
    · rw [if_pos h, if_pos (by omega), mul_zero]
    · rw [if_neg h, if_neg (by omega), mul_one, show 512 * n + a.val - 16 = 512 * n - 16 + a by omega]

theorem v_canon {i : grid0.Coords} (hi : (i 0).val = n) {v21 : Vec Ideal S512x1024 .f32} {v16 : Vec Ideal S16x1024 .f32}
    (h16 : ∀ a b, v16 (ix2 a b) = ((Q (512 * n - 16 + a) (3072 + b) : ℝ) : EReal))
    (h21 : ∀ a b, v21 (ix2 a b) = ((Q (512 * n + a) (3072 + b) : ℝ) : EReal)) (y : S528x1024.Idx) :
    View.canon ([⟨Rect.unit ![16, 0] S512x1024.size inb_S528x1024_S512x1024_16_0, k0_pay6 (F := Ideal) v21⟩,
      ⟨Rect.unit ![0, 0] S16x1024.size inb_S528x1024_S16x1024_0_0, k0_pay5 (F := Ideal) i v16⟩] : List (View.Piece (Elt Ideal) S528x1024 .f32)) y
      = ((vS Q (512 * n + (y 0).val) (y 1).val : ℝ) : EReal) := by
  refine canon2 (n := 528) (m := 1024) (e := .f32) (g := fun r c => ((vS Q (512 * n + r) c : ℝ) : EReal)) ?_
    (fun y => View.cover_of_tiledBy _ ![16, 1024] (by sl_kernel_rfl) y) y
  refine ⟨?_, ?_, trivial⟩
  · refine piece2 (by decide) _ (fun r c => ((vS Q (512 * n + r) c : ℝ) : EReal)) fun a b => ?_
    pointwise [k0_pay6]
    rw [h21, vS, if_neg (by omega), show 512 * n + (16 + a.val) - 16 = 512 * n + a by omega]
  · refine piece2 (by decide) _ (fun r c => ((vS Q (512 * n + r) c : ℝ) : EReal)) fun a b => ?_
    pointwise [k0_pay5]
    rw [h16, keepPrev hi, vS]
    by_cases h : n = 0
    · rw [if_pos h, if_pos (by omega), mul_zero]; rfl
    · rw [if_neg h, if_neg (by omega), mul_one, show 512 * n + a.val - 16 = 512 * n - 16 + a by omega]

end Cert.MixersForward
-- ==== Proof.MixersForward.Store.lean ====
module
public import proofs.«01_k».proof.Proof.MixersForward.Tile
@[expose] public section
set_option maxRecDepth 16384
/-! What one step of the mixers stores. -/
noncomputable section
namespace Cert.MixersForward
open Idealize.ShloMosaic Idealize.ShloMosaic.TcCoe
open Cert.Kernel6Ideal Cert.Kernel6Ideal.Gen
open Cert.Mixers (pooled win vS piece2 load2 loadIn2 loadIn4 out2)

theorem mixed_conv (P Q W M S) (t c : ℕ) (h : c < 1024) : convHead P W t c = mixed P Q W M S t c := (if_pos h).symm
theorem mixed_pool (P Q W M S) (t g : ℕ) (b : Fin 256) : poolHead Q M S t (256 * g + b) = mixed P Q W M S t (1024 + 256 * g + b) := by
  rw [mixed, if_neg (by omega), show 1024 + 256 * g + b.val - 1024 = 256 * g + b by omega]

/-- The blocks of the arguments at the step whose first row is `512 n`. -/
structure Ins (P : ℕ → ℕ → EReal) (Q : ℕ → ℕ → ℝ) (W : ℕ → ℕ → EReal) (M : ℕ → ℕ → ℕ → EReal) (S : ℕ → EReal) (n : ℕ)
    (x0 x1 x2 x3 : Vec Ideal S512x1024 .f32) (x4 x5 x6 : Vec Ideal S16x1024 .f32) (x7 : Vec Ideal S3x1024 .f32)
    (x8 : Vec Ideal S4x4x64x256 .f32) (x9 : Vec Ideal S1x1024 .f32) : Prop where
  i0 : ∀ a b, x0 (ix2 a b) = P (512 * n + a) b
  i1 : ∀ a b, x1 (ix2 a b) = P (512 * n + a) (1024 + b)
  i2 : ∀ a b, x2 (ix2 a b) = P (512 * n + a) (2048 + b)
  i3 : ∀ a b, x3 (ix2 a b) = ((Q (512 * n + a) (3072 + b) : ℝ) : EReal)
  i4 : ∀ a b, x4 (ix2 a b) = P (512 * n - 16 + a) (1024 + b)
  i5 : ∀ a b, x5 (ix2 a b) = P (512 * n - 16 + a) (2048 + b)
  i6 : ∀ a b, x6 (ix2 a b) = ((Q (512 * n - 16 + a) (3072 + b) : ℝ) : EReal)
  i7 : ∀ a b, x7 (ix2 a b) = W a b
  i8 : ∀ c g a b, x8 (ix4 c g a b) = M g (64 * c + a) b
  i9 : ∀ a b, x9 (ix2 a b) = S b

variable (m : (ℓ : Loc nD τ sig) → Buf (Elt Ideal) ℓ)
variable {P : ℕ → ℕ → EReal} {Q : ℕ → ℕ → ℝ} {W : ℕ → ℕ → EReal} {M : ℕ → ℕ → ℕ → EReal} {S : ℕ → EReal}

theorem zero_off {f : ℕ → ℕ → EReal} {x : EReal} {a b : ℕ} (h : x = f (0 + a) (0 + b)) : x = f a b := by rwa [zero_add, zero_add] at h

set_option backward.isDefEq.respectTransparency.types false in
theorem rows (c : Dev nD) (t : Fin cfg0.N) (hn : (grid0.coords t 0).val < 16)
    (I : Ins P Q W M S (grid0.coords t 0).val (iblk (F := Ideal) m c 0 t) (iblk (F := Ideal) m c 1 t) (iblk (F := Ideal) m c 2 t) (iblk (F := Ideal) m c 3 t)
      (iblk (F := Ideal) m c 4 t) (iblk (F := Ideal) m c 5 t) (iblk (F := Ideal) m c 6 t) (iblk (F := Ideal) m c 7 t) (iblk (F := Ideal) m c 8 t) (iblk (F := Ideal) m c 9 t))
    (y : S512x2048.Idx) :
    outsAt0 (F := Ideal) m c t y = mixed P Q W M S (512 * (grid0.coords t 0).val + (y 0).val) (y 1).val := by
  unfold outsAt0 out0_A_10
  refine out2 (n := 512) (m := 2048) (e := .bf16) (g := fun r k => mixed P Q W M S (512 * (grid0.coords t 0).val + r) k) ?_
    (fun y => View.cover_of_tiledBy _ ![512, 128] (by sl_kernel_rfl) y) y
  dsimp only [kernelRun0_A]
  have L {n m : ℕ} {w : Memref sig .tc .vmem ⟨2, ![n, m]⟩ .f32} (hw : w.IsWhole) (x : Vec Ideal ⟨2, ![n, m]⟩ .f32) (f : ℕ → ℕ → EReal) (h : ∀ a b, x (ix2 a b) = f a b)
      (inb) (a : Fin n) (b : Fin m) : View.readAt (Elt Ideal) w.view (Rect.unit (s := ⟨2, ![n, m]⟩) ![0, 0] ![n, m] inb).toLoadRect (hw.unread x) (ix2 a b) = f a b :=
    zero_off (loadIn2 hw x f h inb a b)
  have X := L (hs0_3 t) _ (fun a b => ((Q (512 * (grid0.coords t 0).val + a) (3072 + b) : ℝ) : EReal)) I.i3 (by decide)
  have vc := fun y => v_canon (i := grid0.coords t) rfl (L (hs0_6 t) _ (fun a b => ((Q (512 * (grid0.coords t 0).val - 16 + a) (3072 + b) : ℝ) : EReal)) I.i6 (by decide)) X y
  have V := fun o0 o1 inb (a : Fin 512) (b : Fin 256) => load2 (o0 := o0) (o1 := o1) scM0_1.view _ (fun r k => ((vS Q (512 * (grid0.coords t 0).val + r) k : ℝ) : EReal)) vc inb a b
  have cc := fun y => cu_canon (i := grid0.coords t) rfl (L (hs0_4 t) _ (fun a b => P (512 * (grid0.coords t 0).val - 16 + a) (1024 + b)) I.i4 (by decide))
    (L (hs0_5 t) _ (fun a b => P (512 * (grid0.coords t 0).val - 16 + a) (2048 + b)) I.i5 (by decide))
    (L (hs0_1 t) _ (fun a b => P (512 * (grid0.coords t 0).val + a) (1024 + b)) I.i1 (by decide)) (L (hs0_2 t) _ (fun a b => P (512 * (grid0.coords t 0).val + a) (2048 + b)) I.i2 (by decide)) y
  have U := fun o0 inb (a : Fin 512) (b : Fin 1024) => load2 (o0 := o0) (o1 := 0) scM0_0.view _ (fun r k => cu P (512 * (grid0.coords t 0).val + r) k) cc inb a b
  have T := fun o0 inb (a : Fin 1) (b : Fin 1024) => loadIn2 (o0 := o0) (o1 := 0) (hs0_7 t) _ (fun a b => W a b) I.i7 inb a b
  have C := conv_word (L (hs0_0 t) _ (fun a b => P (512 * (grid0.coords t 0).val + a) b) I.i0 (by decide)) (T 0 (by decide)) (T 1 (by decide)) (T 2 (by decide))
    (U 14 (by decide)) (U 15 (by decide)) (U 16 (by decide))
  have K := fun k g inb (a : Fin 64) (b : Fin 256) => (loadIn4 (o0 := k) (o1 := g) (hs0_8 t) (iblk (F := Ideal) m c 8 t) inb a b).trans (I.i8 _ _ a b)
  have Z := fun o inb (b : Fin 256) => loadIn2 (o0 := 0) (o1 := o) (hs0_9 t) _ (fun _ b => S b) I.i9 inb (0 : Fin 1) b
  have q0 := Cert.Mixers.pooled0 Q hn X ⟨V 16 0 (by decide), V 15 0 (by decide), trivial⟩
  have q1 := Cert.Mixers.pooled1 Q hn X ⟨V 16 256 (by decide), V 15 256 (by decide), V 14 256 (by decide), V 13 256 (by decide), trivial⟩
  have q2 := Cert.Mixers.pooled2 Q hn X ⟨V 16 512 (by decide), V 15 512 (by decide), V 14 512 (by decide), V 13 512 (by decide), V 12 512 (by decide), V 11 512 (by decide), V 10 512 (by decide), V 9 512 (by decide), trivial⟩
  have q3 := Cert.Mixers.pooled3 Q hn X ⟨V 16 768 (by decide), V 15 768 (by decide), V 14 768 (by decide), V 13 768 (by decide), V 12 768 (by decide), V 11 768 (by decide), V 10 768 (by decide), V 9 768 (by decide), V 8 768 (by decide), V 7 768 (by decide), V 6 768 (by decide), V 5 768 (by decide), V 4 768 (by decide), V 3 768 (by decide), V 2 768 (by decide), V 1 768 (by decide), trivial⟩
  let E : ℕ → ℕ → EReal := fun r k => mixed P Q W M S (512 * (grid0.coords t 0).val + r) k
  refine ⟨?_, ?_, ?_, ?_, ?_, ?_, ?_, ?_, ?_, ?_, ?_, ?_, trivial⟩
  · exact piece2 (by decide) _ E fun a b => (pool_word 3 q3 (K 0 3 (by decide)) (K 1 3 (by decide)) (K 2 3 (by decide)) (K 3 3 (by decide)) (Z 768 (by decide)) a b).trans (mixed_pool P Q W M S _ 3 b)
  · exact piece2 (by decide) _ E fun a b => (pool_word 2 q2 (K 0 2 (by decide)) (K 1 2 (by decide)) (K 2 2 (by decide)) (K 3 2 (by decide)) (Z 512 (by decide)) a b).trans (mixed_pool P Q W M S _ 2 b)
  · exact piece2 (by decide) _ E fun a b => (pool_word 1 q1 (K 0 1 (by decide)) (K 1 1 (by decide)) (K 2 1 (by decide)) (K 3 1 (by decide)) (Z 256 (by decide)) a b).trans (mixed_pool P Q W M S _ 1 b)
  · exact piece2 (by decide) _ E fun a b => (pool_word 0 q0 (K 0 0 (by decide)) (K 1 0 (by decide)) (K 2 0 (by decide)) (K 3 0 (by decide)) (Z 0 (by decide)) a b).trans (mixed_pool P Q W M S _ 0 b)
  · exact piece2 (by decide) _ E fun a b => (head_word 896 rfl slices_S512x1024_o0_896_S512x128 C a b).trans (mixed_conv P Q W M S _ _ (by omega))
  · exact piece2 (by decide) _ E fun a b => (head_word 768 rfl slices_S512x1024_o0_768_S512x128 C a b).trans (mixed_conv P Q W M S _ _ (by omega))
  · exact piece2 (by decide) _ E fun a b => (head_word 640 rfl slices_S512x1024_o0_640_S512x128 C a b).trans (mixed_conv P Q W M S _ _ (by omega))
  · exact piece2 (by decide) _ E fun a b => (head_word 512 rfl slices_S512x1024_o0_512_S512x128 C a b).trans (mixed_conv P Q W M S _ _ (by omega))
  · exact piece2 (by decide) _ E fun a b => (head_word 384 rfl slices_S512x1024_o0_384_S512x128 C a b).trans (mixed_conv P Q W M S _ _ (by omega))
  · exact piece2 (by decide) _ E fun a b => (head_word 256 rfl slices_S512x1024_o0_256_S512x128 C a b).trans (mixed_conv P Q W M S _ _ (by omega))
  · exact piece2 (by decide) _ E fun a b => (head_word 128 rfl slices_S512x1024_o0_128_S512x128 C a b).trans (mixed_conv P Q W M S _ _ (by omega))
  · exact piece2 (by decide) _ E fun a b => (head_word 0 rfl slices_S512x1024_o0_0_S512x128 C a b).trans (mixed_conv P Q W M S _ _ (by omega))

end Cert.MixersForward
-- ==== Proof.MixersForward.Arrays.lean ====
module
public import proofs.«01_k».proof.Proof.MixersForward.Store
public import proofs.«01_k».proof.Proof.Mixers.Arrays
public import proofs.«01_k».proof.Proof.Gen.Kernel6Ideal.Value
@[expose] public section
set_option maxRecDepth 16384
/-! The blocks of the arguments at each step, and the result array. -/
noncomputable section
namespace Cert.MixersForward
open Idealize.ShloMosaic Idealize.ShloMosaic.TcCoe Idealize.SL.Sem
open Cert.Kernel6Ideal Cert.Kernel6Ideal.Gen
open Cert.Mixers (at2 plus0)

theorem lt_N (t : Fin cfg0.N) : t.val < 16 := lt_of_lt_of_eq t.isLt N_0
theorem coord : ∀ t : Fin cfg0.N, (grid0.coords t 0).val = t.val := by decide +kernel

/-- The arguments as functions of row and column; the projection's last quarter holds the real numbers `Q`. -/
structure Args (P : ℕ → ℕ → EReal) (Q : ℕ → ℕ → ℝ) (W : ℕ → ℕ → EReal) (M : ℕ → ℕ → ℕ → EReal) (S : ℕ → EReal)
    (x0 : S8192x4096.Idx → EReal) (x1 : S3x1024.Idx → EReal) (x2 : S4x256x256.Idx → EReal) (x3 : S1x1024.Idx → EReal) : Prop where
  hP : ∀ (r : Fin 8192) (k : Fin 4096), x0 (ix2 r k) = P r k
  hQ : ∀ (r : Fin 8192) (k : Fin 1024), P r (3072 + k) = ((Q r (3072 + k) : ℝ) : EReal)
  hW : ∀ (r : Fin 3) (k : Fin 1024), x1 (ix2 r k) = W r k
  hM : ∀ (g : Fin 4) (r k : Fin 256), x2 (ix3 g r k) = M g r k
  hS : ∀ (r : Fin 1) (k : Fin 1024), x3 (ix2 r k) = S k

variable (m : (ℓ : Loc nD τ sig) → Buf (Elt Ideal) ℓ) (c : Dev nD)

theorem V_v1 : V m c main_v1 = transpose S4x4x64x256 [1, 0, 2, 3] (shapeCast S4x4x64x256 (m ((c : Thread nD τ).loc main_arg2)) shapeCasts_S4x256x256_S4x4x64x256) transposes_S4x4x64x256_S4x4x64x256_1_0_2_3 := by
  unfold V
  unfold hostOps0
  after_results
  rfl

variable {P : ℕ → ℕ → EReal} {Q : ℕ → ℕ → ℝ} {W : ℕ → ℕ → EReal} {M : ℕ → ℕ → ℕ → EReal} {S : ℕ → EReal}

theorem off_0 : ∀ t : Fin cfg0.N, win0_0.index t 0 * win0_0.size 0 = 512 * t.val ∧ win0_0.index t 1 * win0_0.size 1 = 0 := by decide +kernel
theorem off_1 : ∀ t : Fin cfg0.N, win0_1.index t 0 * win0_1.size 0 = 512 * t.val ∧ win0_1.index t 1 * win0_1.size 1 = 1024 := by decide +kernel
theorem off_2 : ∀ t : Fin cfg0.N, win0_2.index t 0 * win0_2.size 0 = 512 * t.val ∧ win0_2.index t 1 * win0_2.size 1 = 2048 := by decide +kernel
theorem off_3 : ∀ t : Fin cfg0.N, win0_3.index t 0 * win0_3.size 0 = 512 * t.val ∧ win0_3.index t 1 * win0_3.size 1 = 3072 := by decide +kernel
theorem off_4 : ∀ t : Fin cfg0.N, win0_4.index t 0 * win0_4.size 0 = 512 * t.val - 16 ∧ win0_4.index t 1 * win0_4.size 1 = 1024 := by decide +kernel
theorem off_5 : ∀ t : Fin cfg0.N, win0_5.index t 0 * win0_5.size 0 = 512 * t.val - 16 ∧ win0_5.index t 1 * win0_5.size 1 = 2048 := by decide +kernel
theorem off_6 : ∀ t : Fin cfg0.N, win0_6.index t 0 * win0_6.size 0 = 512 * t.val - 16 ∧ win0_6.index t 1 * win0_6.size 1 = 3072 := by decide +kernel
theorem off_7 : ∀ t : Fin cfg0.N, ∀ x, win0_7.index t x * win0_7.size x = 0 := by decide +kernel
theorem off_8 : ∀ t : Fin cfg0.N, ∀ x, win0_8.index t x * win0_8.size x = 0 := by decide +kernel
theorem off_9 : ∀ t : Fin cfg0.N, ∀ x, win0_9.index t x * win0_9.size x = 0 := by decide +kernel
theorem off_10 : ∀ t : Fin cfg0.N, win0_10.index t 0 * win0_10.size 0 = 512 * t.val ∧ win0_10.index t 1 * win0_10.size 1 = 0 := by decide +kernel

theorem emb_8 (t : Fin cfg0.N) (y : S4x4x64x256.Idx) : (win0_8.rect t).emb y = y := by
  funext x
  exact Fin.ext (plus0 (Pipeline.Window.rect_emb_val_off win0_8 t _ x) (off_8 t x))

variable (A : Args P Q W M S (m ((c : Thread nD τ).loc main_arg0)) (m ((c : Thread nD τ).loc main_arg1)) (m ((c : Thread nD τ).loc main_arg2)) (m ((c : Thread nD τ).loc main_arg3)))
include A

open Pipeline.Window in
/-- What every step is given. -/
theorem ins (t : Fin cfg0.N) : Ins P Q W M S (grid0.coords t 0).val (iblk (F := Ideal) m c 0 t) (iblk (F := Ideal) m c 1 t) (iblk (F := Ideal) m c 2 t) (iblk (F := Ideal) m c 3 t)
      (iblk (F := Ideal) m c 4 t) (iblk (F := Ideal) m c 5 t) (iblk (F := Ideal) m c 6 t) (iblk (F := Ideal) m c 7 t) (iblk (F := Ideal) m c 8 t) (iblk (F := Ideal) m c 9 t) := by
  rw [coord]
  have h0 : ∀ a b, V (F := Ideal) m c main_arg0 (ix2 a b) = P a b := by rw [V_main_arg0]; exact A.hP
  have h1 : ∀ a b, V (F := Ideal) m c main_arg1 (ix2 a b) = W a b := by rw [V_main_arg1]; exact A.hW
  have h3 : ∀ a b, V (F := Ideal) m c main_arg3 (ix2 a b) = S b := by rw [V_main_arg3]; exact A.hS
  have hq := lt_N t
  constructor
  · exact fun a b => at2 h0 ((rect_emb_val_off win0_0 t _ 0).trans (congrArg (· + a.val) (off_0 t).1)) (plus0 (rect_emb_val_off win0_0 t _ 1) (off_0 t).2)
  · exact fun a b => at2 h0 ((rect_emb_val_off win0_1 t _ 0).trans (congrArg (· + a.val) (off_1 t).1)) ((rect_emb_val_off win0_1 t _ 1).trans (congrArg (· + b.val) (off_1 t).2))
  · exact fun a b => at2 h0 ((rect_emb_val_off win0_2 t _ 0).trans (congrArg (· + a.val) (off_2 t).1)) ((rect_emb_val_off win0_2 t _ 1).trans (congrArg (· + b.val) (off_2 t).2))
  · exact fun a b => (at2 h0 ((rect_emb_val_off win0_3 t _ 0).trans (congrArg (· + a.val) (off_3 t).1)) ((rect_emb_val_off win0_3 t _ 1).trans (congrArg (· + b.val) (off_3 t).2))).trans
      (A.hQ ⟨512 * t.val + a.val, by omega⟩ b)
  · exact fun a b => at2 h0 ((rect_emb_val_off win0_4 t _ 0).trans (congrArg (· + a.val) (off_4 t).1)) ((rect_emb_val_off win0_4 t _ 1).trans (congrArg (· + b.val) (off_4 t).2))
  · exact fun a b => at2 h0 ((rect_emb_val_off win0_5 t _ 0).trans (congrArg (· + a.val) (off_5 t).1)) ((rect_emb_val_off win0_5 t _ 1).trans (congrArg (· + b.val) (off_5 t).2))
  · exact fun a b => (at2 h0 ((rect_emb_val_off win0_6 t _ 0).trans (congrArg (· + a.val) (off_6 t).1)) ((rect_emb_val_off win0_6 t _ 1).trans (congrArg (· + b.val) (off_6 t).2))).trans
      (A.hQ ⟨512 * t.val - 16 + a.val, by omega⟩ b)
  · exact fun a b => at2 h1 (plus0 (rect_emb_val_off win0_7 t _ 0) (off_7 t 0)) (plus0 (rect_emb_val_off win0_7 t _ 1) (off_7 t 1))
  · intro k g a b
    refine Eq.trans ?_ (A.hM g ⟨64 * k.val + a.val, by omega⟩ b)
    refine (show iblk (F := Ideal) m c 8 t (ix4 k g a b) = V m c main_v1 ((win0_8.rect t).emb (ix4 k g a b)) from rfl).trans ?_
    rw [V_v1, emb_8]
    exact Cert.Mixers.pool_tr _ k g a b
  · exact fun a b => at2 (f := fun _ b => S b) h3 (plus0 (rect_emb_val_off win0_9 t _ 0) (off_9 t 0)) (plus0 (rect_emb_val_off win0_9 t _ 1) (off_9 t 1))

theorem fin_10 : (dats (F := Ideal) m 0 c).arrAt 10 cfg0.N = fun y : S8192x2048.Idx => mixed P Q W M S (y 0).val (y 1).val := by
  refine (dats (F := Ideal) m 0 c).arrAt_eq_of_covers 10 _ (by decide +kernel) fun t _ y => ?_
  refine (show (dats (F := Ideal) m 0 c).after 10 t y = _ from ?_)
  rw [after0_10]
  refine (rows m c t (by rw [coord]; exact lt_N t) (ins m c A t) y).trans ?_
  rw [coord]
  have e0 : ((win0_10.rect t).emb y 0).val = 512 * t.val + (y 0).val := (Pipeline.Window.rect_emb_val_off win0_10 t _ 0).trans (congrArg (· + (y 0).val) (off_10 t).1)
  have e1 : ((win0_10.rect t).emb y 1).val = (y 1).val := plus0 (Pipeline.Window.rect_emb_val_off win0_10 t _ 1) (off_10 t).2
  refine (show _ = mixed P Q W M S ((win0_10.rect t).emb y 0).val ((win0_10.rect t).emb y 1).val from ?_)
  rw [e0, e1]

end Cert.MixersForward
-- ==== Proof.MixersForward.Reference.lean ====
module
public import proofs.«01_k».proof.Proof.MixersForward.Arrays
public import proofs.«01_k».proof.Proof.Mixers.Stages
public import proofs.«01_k».proof.Proof.Gen.Reference6Ideal.Read
@[expose] public section
set_option maxRecDepth 16384
/-! The reference's stages. -/
noncomputable section
namespace Cert.MixersForward
open Idealize.ShloMosaic Idealize.ShloMosaic.TcCoe
open Cert.Reference6Ideal Cert.Reference6Ideal.Gen Cert.Reference6Ideal.Read
open Cert.Mixers (pooled)

variable {P : ℕ → ℕ → EReal} {Q : ℕ → ℕ → ℝ} {W : ℕ → ℕ → EReal} {M : ℕ → ℕ → ℕ → EReal} {S : ℕ → EReal}
  {x0 : S8192x4096.Idx → EReal} {x1 : S3x1024.Idx → EReal} {x2 : S4x256x256.Idx → EReal} {x3 : S1x1024.Idx → EReal}

section
variable (A : Args P Q W M S x0 x1 x2 x3)
include A

theorem r6 (s : Fin 8194) (k : Fin 1024) : val_main_v6 (F := Ideal) x0 (ix2 s k) = cu P (s.val + 14) k := by
  pointwise [val_main_v6, val_main_v5, val_main_cst, val_main_v4, val_main_v1, val_main_v2]
  unfold cu
  by_cases h : s.val < 2
  · have h' : s.val + 14 < 16 := by omega
    simp only [h, h', dite_true, if_true]
  · have h' : ¬ s.val + 14 < 16 := by omega
    simp only [h, h', dite_false, if_false]
    rw [show s.val + 14 - 16 = s.val - 2 by omega]
    exact congrArg₂ (fun a b : EReal => a * b) (A.hP _ _) (A.hP _ _)

theorem r21 (t : Fin 8192) (k : Fin 1024) : val_main_v21 (F := Ideal) x0 x1 (ix2 t k) = conv P W t k := by
  pointwise [val_main_v21, val_main_v20, val_main_v15, val_main_v10, val_main_v14, val_main_v19, val_main_v9, val_main_v13, val_main_v18, val_main_v7, val_main_v8, val_main_v11, val_main_v12, val_main_v16, val_main_v17, val_main_v0]
  simp only [r6 A, A.hW, A.hP]
  rw [conv, show t.val + 15 = 1 + t.val + 14 by omega, show t.val + 16 = 2 + t.val + 14 by omega]
  rfl

theorem r22 (t : Fin 8192) (h : Fin 8) (k : Fin 128) : val_main_v22 (F := Ideal) x0 x1 (ix3 t h k) = conv P W t (128 * h + k) := by
  pointwise [val_main_v22]
  rw [r21 A]
  show conv P W t.val (h.val * 128 + k.val) = _
  rw [mul_comm h.val]

theorem r30 (t : Fin 8192) (h : Fin 8) (k : Fin 1) : val_main_v30 (F := Ideal) x0 x1 (ix3 t h k) = rstd 1124073472#32 fun k : Fin 128 => conv P W t (128 * h + k) := by
  pointwise [val_main_v30, val_main_v29, val_main_v27, val_main_v28, val_main_cst_2, val_main_v25, val_main_v26, val_main_cst_1, val_main_v24, val_main_cst_0, val_main_v23]
  simp only [r22 A]
  rfl

theorem r33 (t : Fin 8192) (k : Fin 1024) : val_main_v33 (F := Ideal) x0 x1 (ix2 t k) = convHead P W t k := by
  pointwise [val_main_v33, val_main_v32, val_main_v31]
  rw [r22 A, r30 A, convHead]
  show conv P W t.val (128 * (k.val / 128) + k.val % 128) * _ = _
  rw [Nat.div_add_mod]

/-- The same columns of real numbers: the pooled heads see no other of the projection. -/
theorem r100 (hz : ∀ r k, 8192 ≤ r → Q r k = 0) (s : Fin 8192) (g : Fin 4) (k : Fin 256) : val_main_v100 (F := Ideal) x0 (ix3 s g k) = ((pooled Q s g k : ℝ) : EReal) := by
  have e : val_main_v3 (F := Ideal) x0 = val_main_v3 (F := Ideal) fun y : S8192x4096.Idx => ((Q (y 0).val (y 1).val : ℝ) : EReal) := by
    funext y
    obtain ⟨a, b, rfl⟩ : ∃ (a : Fin 8192) (b : Fin 1024), y = ix2 a b := ⟨y 0, y 1, eq_ix2 y⟩
    pointwise [val_main_v3]
    exact (A.hP _ _).trans (A.hQ a b)
  have e' : val_main_v100 (F := Ideal) x0 = val_main_v100 (F := Ideal) fun y : S8192x4096.Idx => ((Q (y 0).val (y 1).val : ℝ) : EReal) := by
    unfold val_main_v100 val_main_v96 val_main_v97 val_main_v98 val_main_v99 val_main_v53 val_main_v67 val_main_v81 val_main_v95
      val_main_v50 val_main_v64 val_main_v78 val_main_v92 val_main_v52 val_main_v66 val_main_v80 val_main_v94 val_main_v51 val_main_v65 val_main_v79 val_main_v93
      val_main_v48 val_main_v62 val_main_v76 val_main_v90 val_main_v44 val_main_v58 val_main_v72 val_main_v86 val_main_v43 val_main_v57 val_main_v71 val_main_v85
      val_main_v41 val_main_v55 val_main_v69 val_main_v83 val_main_v40 val_main_v54 val_main_v68 val_main_v82 val_main_v35 val_main_v34
    rw [e]
  rw [e']
  exact Cert.Mixers.r108 (P := Q) (D := fun _ _ => 0) (W := fun _ _ => 0) (M := fun _ _ _ => 0) (S := fun _ => 0)
    (x1 := fun _ => ((0 : ℝ) : EReal)) (x2 := fun _ => ((0 : ℝ) : EReal)) (x3 := fun _ => ((0 : ℝ) : EReal)) (x4 := fun _ => ((0 : ℝ) : EReal))
    ⟨fun _ _ => rfl, fun _ _ => rfl, fun _ _ => rfl, fun _ _ _ => rfl, fun _ _ => rfl, hz, fun _ _ _ => rfl⟩ s g k

theorem r102 (hz : ∀ r k, 8192 ≤ r → Q r k = 0) (s : Fin 8192) (g : Fin 4) (k : Fin 256) : val_main_v102 (F := Ideal) x0 x2 (ix3 s g k) = zz Q M s g k := by
  pointwise [val_main_v102, val_main_v101]
  simp only [r100 A hz, A.hM, zz, mul_comm (((pooled _ _ _ _ : ℝ) : EReal))]

theorem r110 (hz : ∀ r k, 8192 ≤ r → Q r k = 0) (s : Fin 8192) (g : Fin 4) (k : Fin 1) : val_main_v110 (F := Ideal) x0 x2 (ix3 s g k) = rstd 1132462080#32 fun k : Fin 256 => zz Q M s g k := by
  pointwise [val_main_v110, val_main_v109, val_main_v107, val_main_v108, val_main_cst_13, val_main_v105, val_main_v106, val_main_cst_12, val_main_v104, val_main_cst_11, val_main_v103]
  simp only [r102 A hz]
  rfl

theorem r115 (hz : ∀ r k, 8192 ≤ r → Q r k = 0) (s : Fin 8192) (k : Fin 1024) : val_main_v115 (F := Ideal) x0 x2 x3 (ix2 s k) = poolHead Q M S s k := by
  pointwise [val_main_v115, val_main_v114, val_main_v113, val_main_v112, val_main_v111]
  rw [r102 A hz, r110 A hz, A.hS]
  rfl

theorem ref (hz : ∀ r k, 8192 ≤ r → Q r k = 0) : val_main_v117 (F := Ideal) x0 x1 x2 x3 = fun y : S8192x2048.Idx => mixed P Q W M S (y 0).val (y 1).val := by
  funext i
  obtain ⟨a, b, rfl⟩ : ∃ (a : Fin 8192) (b : Fin 2048), i = ix2 a b := ⟨i 0, i 1, eq_ix2 i⟩
  pointwise [val_main_v117, val_main_v116]
  show _ = mixed P Q W M S a b
  by_cases h : b.val < 1024
  · simp only [h, dite_true]
    exact (r33 A a ⟨b, h⟩).trans (mixed_conv P Q W M S a b h)
  · simp only [h, dite_false]
    exact (r115 A hz a ⟨b.val - 1024, by omega⟩).trans (by rw [mixed, if_neg h])
end

end Cert.MixersForward
-- ==== Proof.MixersForward.Claim.lean ====
module
public import proofs.«01_k».proof.Defs
public import proofs.«01_k».proof.Proof.MixersForward.Reference
public import proofs.«01_k».proof.Proof.Gen.Reference6Ideal.Run
public import proofs.«01_k».proof.Proof.Finite
public import proofs.«01_k».proof.Proof.Gen.Pre_mf_finite

@[expose] public section
set_option maxRecDepth 16384
noncomputable section

/-! # The mixers: the kernel and the plain lines end with the same array -/

namespace Cert.MixersForwardClaim
open Idealize.ShloMosaic Idealize.ShloMosaic.TcCoe Idealize.SL.Sem
open Cert.Finite Cert.MixersForward

instance : Subsingleton Cert.Pre_mf_finite.S_.Idx := ⟨fun a b => funext fun x => x.elim0⟩

open Cert.Pre_mf_finite in
/-- What the precondition says: the projection's last quarter holds real numbers. -/
theorem pre_real (x0 : S8192x4096.Idx → EReal) (x1 : S3x1024.Idx → EReal) (x2 : S4x256x256.Idx → EReal) (x3 : S1x1024.Idx → EReal)
    (h : @Cert.Pre_mf_finite.fn Cert.Pre_mf_finite.Gen.facts Ideal _ x0 x1 x2 x3 = fun _ => 1#1) (r : Fin 8192) (k : Fin 1024) :
    IsReal (x0 (ix2 r ⟨3072 + k.val, by omega⟩)) := by
  letI := Cert.Pre_mf_finite.Gen.facts
  have := isReal_of_all _ _ _ _ _ (Shape.Idx.first Facts.h_S_) (fun _ => rfl) (congrFun h _) (ix2 r k)
  refine (congrArg IsReal ?_).mp this
  pointwise

open Cert.Kernel6Ideal in
/-- The arguments as functions of row and column, zero outside the arrays. -/
theorem args_exist (x0 : S8192x4096.Idx → EReal) (x1 : S3x1024.Idx → EReal) (x2 : S4x256x256.Idx → EReal) (x3 : S1x1024.Idx → EReal)
    (h0 : ∀ (r : Fin 8192) (k : Fin 1024), IsReal (x0 (ix2 r ⟨3072 + k.val, by omega⟩))) :
    ∃ P Q W M S, Args P Q W M S x0 x1 x2 x3 ∧ ∀ r k, 8192 ≤ r → Q r k = 0 := by
  let P : ℕ → ℕ → EReal := fun r k => if h : r < 8192 ∧ k < 4096 then x0 (ix2 ⟨r, h.1⟩ ⟨k, h.2⟩) else 0
  have hP (r k) (h : r < 8192) (h' : k < 4096) : x0 (ix2 ⟨r, h⟩ ⟨k, h'⟩) = P r k := (show P r k = _ from dif_pos (show r < 8192 ∧ k < 4096 from ⟨h, h'⟩)).symm
  refine ⟨P, fun r k => (P r k).toReal,
    fun r k => if h : r < 3 ∧ k < 1024 then x1 (ix2 ⟨r, h.1⟩ ⟨k, h.2⟩) else 0,
    fun g r k => if h : g < 4 ∧ r < 256 ∧ k < 256 then x2 (ix3 ⟨g, h.1⟩ ⟨r, h.2.1⟩ ⟨k, h.2.2⟩) else 0,
    fun k => if h : k < 1024 then x3 (ix2 0 ⟨k, h⟩) else 0, ⟨?_, ?_, ?_, ?_, ?_⟩, ?_⟩
  · exact fun r k => hP r k r.isLt k.isLt
  · intro r k
    obtain ⟨a, ha⟩ := h0 r k
    have e := (hP r (3072 + k.val) r.isLt (by omega)).symm.trans ha
    rw [e, EReal.toReal_coe]
  · intro r k
    beta_reduce
    rw [dif_pos ⟨r.isLt, k.isLt⟩]
  · intro g r k
    beta_reduce
    rw [dif_pos ⟨g.isLt, r.isLt, k.isLt⟩]
  · intro r k
    obtain rfl : r = 0 := Subsingleton.elim _ _
    beta_reduce
    rw [dif_pos k.isLt]
  · intro r k h
    show (P r k).toReal = 0
    rw [show P r k = 0 from dif_neg fun h' => absurd h'.1 (by omega), EReal.toReal_zero]

theorem claim : Cert.algebraic_Kernel6Ideal_Reference6Ideal_pre_mf_finite (hKernel6Ideal := Cert.Kernel6Ideal.Gen.facts)
    (hReference6Ideal := Cert.Reference6Ideal.Gen.facts) (hPre_mf_finite := Cert.Pre_mf_finite.Gen.facts) := by
  intro m g m' g' hpre hargs
  have hA (c : Dev Cert.Kernel6Ideal.nD) : ∃ P Q W M S, Args P Q W M S (m (c.tc.loc Cert.Kernel6Ideal.main_arg0)) (m (c.tc.loc Cert.Kernel6Ideal.main_arg1))
      (m (c.tc.loc Cert.Kernel6Ideal.main_arg2)) (m (c.tc.loc Cert.Kernel6Ideal.main_arg3)) ∧ ∀ r k, 8192 ≤ r → Q r k = 0 :=
    args_exist _ _ _ _ (pre_real _ _ _ _ (hpre c))
  choose P Q W M S A using hA
  refine ⟨fun c => fun y : Cert.Kernel6Ideal.S8192x2048.Idx => mixed (P c) (Q c) (W c) (M c) (S c) (y 0).val (y 1).val, ?_, ?_⟩
  · refine (θ_run Cert.Kernel6Ideal.defs _ _).mono (fun r h c => ?_) (Cert.Kernel6Ideal.Value.run_blocks m g)
    obtain ⟨h0, hrest⟩ := h c
    exact ⟨h0.trans (fin_10 m c (A c).1), hrest⟩
  · refine (θ_run Cert.Reference6Ideal.defs _ _).mono (fun r h c => ?_) (Cert.Reference6Ideal.Value.run (F := Ideal) m' g')
    obtain ⟨h0, hrest⟩ := h c
    obtain ⟨a0, a1, a2, a3⟩ := hargs c
    rw [Cert.Reference6Ideal.Read.val_main_v117_eq, a0, a1, a2, a3] at h0
    exact ⟨h0.trans (ref (A c).1 (A c).2), hrest⟩

end Cert.MixersForwardClaim
-- ==== Proof.PreNorm.Claim.lean ====
module
public import proofs.«01_k».proof.Defs
public import proofs.«01_k».proof.Proof.Norm
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

/-! # The norm before the mixers: the call normalises the input 512 rows at a time, the reference all rows at once -/

namespace Cert.PreNormClaim

open Idealize.ShloMosaic Idealize.ShloMosaic.TcCoe Idealize.SL.Sem

/-- The normalised rows of an array, each entry with its gain. -/
def normed {n : Nat} (x : (⟨2, ![n, 2048]⟩ : Shape).Idx → EReal) (g : (⟨2, ![1, 2048]⟩ : Shape).Idx → EReal) (r : Fin n) (j : Fin 2048) : EReal :=
  x (ix2 r j) * Norm.rstd (fun k => x (ix2 r k)) * g (ix2 0 j)

section Kernel
open Cert.Kernel7Ideal Cert.Kernel7Ideal.Gen

variable (m : (ℓ : Loc nD τ sig) → Buf (Elt Ideal) ℓ)

theorem off_rows : ∀ t : Fin cfg0.N, win0_2.index t 0 * win0_2.size 0 = 512 * t.val ∧ win0_2.index t 1 * win0_2.size 1 = 0 := by
  decide +kernel
theorem off_gain : ∀ t : Fin cfg0.N, win0_1.index t 0 * win0_1.size 0 = 0 ∧ win0_1.index t 1 * win0_1.size 1 = 0 := by
  decide +kernel

abbrev row (t : Fin cfg0.N) (a : Fin 512) : Fin 8192 := ⟨512 * t.val + a.val, by have := lt_of_lt_of_eq t.isLt N_0; omega⟩

theorem emb (t : Fin cfg0.N) (a : Fin 512) (b : Fin 2048) : (win0_2.rect t).emb (ix2 a b) = ix2 (row t a) b := by
  funext x
  apply Fin.ext
  match x with
  | ⟨0, _⟩ => exact (Pipeline.Window.rect_emb_val_off win0_2 t _ 0).trans (congrArg (· + a.val) (off_rows t).1)
  | ⟨1, _⟩ => exact (Pipeline.Window.rect_emb_val_off win0_2 t _ 1).trans ((congrArg (· + b.val) (off_rows t).2).trans (Nat.zero_add _))

theorem rows_of (c : Dev nD) (t : Fin cfg0.N) (a : Fin 512) (k : Fin 2048) : iblk m c 0 t (ix2 a k) = V m c main_arg0 (ix2 (row t a) k) := by
  show V m c (Pipeline.arrRef spec0 0) _ = _
  exact congrArg _ (emb t a k)
theorem gain_of (c : Dev nD) (t : Fin cfg0.N) (k : Fin 2048) : iblk m c 1 t (ix2 0 k) = V m c main_arg1 (ix2 0 k) := by
  show V m c (Pipeline.arrRef spec0 1) _ = _
  refine congrArg _ (funext fun x => Fin.ext ?_)
  match x with
  | ⟨0, _⟩ => exact (Pipeline.Window.rect_emb_val_off win0_1 t _ 0).trans (off_gain t).1
  | ⟨1, _⟩ => exact (Pipeline.Window.rect_emb_val_off win0_1 t _ 1).trans ((congrArg (· + k.val) (off_gain t).2).trans (Nat.zero_add _))

theorem hz : (![0, 0] : Fin 2 → Nat) = fun _ => 0 := by
  funext d
  match d with | ⟨0, _⟩ => rfl | ⟨1, _⟩ => rfl

theorem piece (x : Vec Ideal S512x2048 .f32) (g : Vec Ideal S1x2048 .f32) (a : Fin 512) (b : Fin 2048) : k0_pay1 x g (ix2 a b) = normed x g a b := by
  pointwise [k0_pay1]
  rfl

theorem done (c : Dev nD) : (dats m 0 c).arrAt 2 cfg0.N = fun i : S8192x2048.Idx => normed (V m c main_arg0) (V m c main_arg1) (i 0) (i 1) := by
  refine (dats m 0 c).arrAt_eq_of_covers 2 _ (by decide +kernel) fun t _ y => ?_
  obtain ⟨a, b, rfl⟩ : ∃ (a : Fin 512) (b : Fin 2048), y = ix2 a b := ⟨y 0, y 1, eq_ix2 y⟩
  show (dats m 0 c).after 2 t (ix2 a b) = (fun i : S8192x2048.Idx => normed (V m c main_arg0) (V m c main_arg1) (i 0) (i 1)) ((win0_2.rect t).emb (ix2 a b))
  rw [emb, after0_2]
  unfold out0_2
  rw [View.canon_unit_zero hz]
  simp only [View.ld_unit_zero (S := S512x2048) hz, View.ld_unit_zero (S := S1x2048) hz]
  rw [piece]
  unfold normed
  simp only [rows_of, gain_of]
  rfl

end Kernel

section Reference
open Cert.Reference7Ideal Cert.Reference7Ideal.Gen Cert.Reference7Ideal.Read

theorem ref (x : S8192x2048.Idx → EReal) (g : S1x2048.Idx → EReal) (r : Fin 8192) (j : Fin 2048) : val_main_v12 (F := Ideal) x g (ix2 r j) = normed x g r j := by
  pointwise [val_main_v12, val_main_v11, val_main_v10, val_main_v9, val_main_v8, val_main_v7, val_main_v6, val_main_v5, val_main_cst_1, val_main_v4, val_main_v3, val_main_cst_0, val_main_v2,
    val_main_v1, val_main_cst, val_main_v0]
  rfl

end Reference

theorem claim : Cert.algebraic_Kernel7Ideal_Reference7Ideal (hKernel7Ideal := Cert.Kernel7Ideal.Gen.facts) (hReference7Ideal := Cert.Reference7Ideal.Gen.facts) := by
  intro m g m' g' _ hargs
  refine ⟨fun c => fun y => normed (Cert.Kernel7Ideal.Gen.V m c Cert.Kernel7Ideal.main_arg0) (Cert.Kernel7Ideal.Gen.V m c Cert.Kernel7Ideal.main_arg1) (y 0) (y 1), ?_, ?_⟩
  · refine (θ_run Cert.Kernel7Ideal.defs _ _).mono (fun r h c => ?_) (Cert.Kernel7Ideal.Value.run_blocks (F := Ideal) m g)
    exact ⟨(h c).1.trans (done m c), (h c).2⟩
  · refine (θ_run Cert.Reference7Ideal.defs _ _).mono (fun r h c => ?_) (Cert.Reference7Ideal.Value.run (F := Ideal) m' g')
    obtain ⟨h0, hrest⟩ := h c
    obtain ⟨a0, a1⟩ := hargs c
    rw [Cert.Reference7Ideal.Read.val_main_v12_eq, a0, a1] at h0
    refine ⟨h0.trans ?_, hrest⟩
    funext y
    obtain ⟨r, j, rfl⟩ : ∃ (r : Fin 8192) (j : Fin 2048), y = ix2 r j := ⟨y 0, y 1, eq_ix2 y⟩
    exact ref _ _ r j

end Cert.PreNormClaim
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Dh.Frame
public import proofs.«01_k».proof.Proof.Gen.Reference3Ideal.Run
public import proofs.«01_k».proof.Proof.Loss.Frame
public import proofs.«01_k».proof.Proof.Gen.Reference4Ideal.Run
public import proofs.«01_k».proof.Proof.Dhf.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Mixers.Claim
public import proofs.«01_k».proof.Proof.Act.Claim
public import proofs.«01_k».proof.Proof.Dh.Claim
public import proofs.«01_k».proof.Proof.Loss.Claim
public import proofs.«01_k».proof.Proof.Dhf.Claim
public import proofs.«01_k».proof.Proof.MixersForward.Claim
public import proofs.«01_k».proof.Proof.PreNorm.Claim
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Pre_mix_finite
public import proofs.«01_k».proof.Proof.Gen.Pre_act_finite
public import proofs.«01_k».proof.Proof.Gen.Pre_mf_finite

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_mix_finite.Gen.facts, Cert.Pre_act_finite.Gen.facts, Cert.Pre_mf_finite.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono (fun r h => ⟨fun c => (h c).2.2.2.2, sem_eq_zero_of_no_sems (by decide) r.2⟩) (Cert.ReferenceIdeal.Value.run m ρ),
    fun m ρ _ => (θ_run Cert.ReferenceIdeal.defs _ _).mono (fun r h => ⟨fun c => (h c).2.2.2.2, sem_eq_zero_of_no_sems (by decide) r.2⟩) (Cert.ReferenceIdeal.Value.run m ρ),
    fun m ρ _ => Cert.Kernel2.Gen.frame m ρ,
    fun m ρ _ => Cert.Kernel2Ideal.Gen.frame m ρ,
    fun m ρ _ => Cert.Kernel2Ideal.Gen.frame m ρ,
    fun m ρ _ => (θ_run Cert.Reference2Ideal.defs _ _).mono (fun r h => ⟨fun c => (h c).2.2.2, sem_eq_zero_of_no_sems (by decide) r.2⟩) (Cert.Reference2Ideal.Value.run m ρ),
    fun m ρ _ => (θ_run Cert.Reference2Ideal.defs _ _).mono (fun r h => ⟨fun c => (h c).2.2.2, sem_eq_zero_of_no_sems (by decide) r.2⟩) (Cert.Reference2Ideal.Value.run m ρ),
    fun m ρ _ => Cert.Dh.frame' m ρ,
    fun m ρ _ => Cert.Dh.frame m ρ,
    fun m ρ _ => (θ_run Cert.Reference3Ideal.defs _ _).mono (fun r h => ⟨fun c => (h c).2.2, sem_eq_zero_of_no_sems (by decide) r.2⟩) (Cert.Reference3Ideal.Value.run m ρ),
    fun m ρ _ => Cert.Loss.frame' m ρ,
    fun m ρ _ => Cert.Loss.frame m ρ,
    fun m ρ _ => (θ_run Cert.Reference4Ideal.defs _ _).mono (fun r h => ⟨fun c => (h c).2.2.2.2, sem_eq_zero_of_no_sems (by decide) r.2⟩) (Cert.Reference4Ideal.Value.run m ρ),
    fun m ρ _ => Cert.Dhf.frame' m ρ,
    fun m ρ _ => Cert.Dhf.frame m ρ,
    fun m ρ _ => (θ_run Cert.Reference5Ideal.defs _ _).mono (fun r h => ⟨fun c => (h c).2.2.2.2.2.2.2, sem_eq_zero_of_no_sems (by decide) r.2⟩) (Cert.Reference5Ideal.Value.run m ρ),
    fun m ρ _ => Cert.Kernel6.Gen.frame m ρ,
    fun m ρ _ => Cert.Kernel6Ideal.Gen.frame m ρ,
    fun m ρ _ => Cert.Kernel6Ideal.Gen.frame m ρ,
    fun m ρ _ => (θ_run Cert.Reference6Ideal.defs _ _).mono (fun r h => ⟨fun c => (h c).2, sem_eq_zero_of_no_sems (by decide) r.2⟩) (Cert.Reference6Ideal.Value.run m ρ),
    fun m ρ _ => (θ_run Cert.Reference6Ideal.defs _ _).mono (fun r h => ⟨fun c => (h c).2, sem_eq_zero_of_no_sems (by decide) r.2⟩) (Cert.Reference6Ideal.Value.run m ρ),
    fun m ρ _ => Cert.Kernel7.Gen.frame m ρ,
    fun m ρ _ => Cert.Kernel7Ideal.Gen.frame m ρ,
    fun m ρ _ => (θ_run Cert.Reference7Ideal.defs _ _).mono (fun r h => ⟨fun c => (h c).2, sem_eq_zero_of_no_sems (by decide) r.2⟩) (Cert.Reference7Ideal.Value.run m ρ),
    trivial,
    Cert.MixersClaim.claim,
    trivial,
    Cert.ActClaim.claim,
    trivial,
    Cert.DhClaim.claim,
    trivial,
    Cert.LossClaim.claim,
    trivial,
    Cert.DhfClaim.claim,
    trivial,
    Cert.MixersForwardClaim.claim,
    trivial,
    Cert.PreNormClaim.claim⟩

end Cert.Proof

end
